-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_Gw2 (m : (ℓ : Loc Cert.Gw2.nD Cert.Gw2.τ Cert.Gw2.sig) → Buf (Elt Bits) ℓ) : Prop :=
  True

def Pre_Gw2Ideal (m : (ℓ : Loc Cert.Gw2Ideal.nD Cert.Gw2Ideal.τ Cert.Gw2Ideal.sig) → Buf (Elt Ideal) ℓ) : Prop :=
  True

def Pre_RefGw2Ideal (m : (ℓ : Loc Cert.RefGw2Ideal.nD Cert.RefGw2Ideal.τ Cert.RefGw2Ideal.sig) → Buf (Elt Ideal) ℓ) : Prop :=
  True

def Pre_Df (m : (ℓ : Loc Cert.Df.nD Cert.Df.τ Cert.Df.sig) → Buf (Elt Bits) ℓ) : Prop :=
  True

def Pre_DfIdeal (m : (ℓ : Loc Cert.DfIdeal.nD Cert.DfIdeal.τ Cert.DfIdeal.sig) → Buf (Elt Ideal) ℓ) : Prop :=
  True

def Pre_RefDfIdeal (m : (ℓ : Loc Cert.RefDfIdeal.nD Cert.RefDfIdeal.τ Cert.RefDfIdeal.sig) → Buf (Elt Ideal) ℓ) : Prop :=
  True

def Pre_Gwin (m : (ℓ : Loc Cert.Gwin.nD Cert.Gwin.τ Cert.Gwin.sig) → Buf (Elt Bits) ℓ) : Prop :=
  True

def Pre_GwinIdeal (m : (ℓ : Loc Cert.GwinIdeal.nD Cert.GwinIdeal.τ Cert.GwinIdeal.sig) → Buf (Elt Ideal) ℓ) : Prop :=
  True

def Pre_RefGwinIdeal (m : (ℓ : Loc Cert.RefGwinIdeal.nD Cert.RefGwinIdeal.τ Cert.RefGwinIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_RefProjIdeal (m : (ℓ : Loc Cert.RefProjIdeal.nD Cert.RefProjIdeal.τ Cert.RefProjIdeal.sig) → Buf (Elt Ideal) ℓ) : Prop :=
  True

def Pre_Gw1 (m : (ℓ : Loc Cert.Gw1.nD Cert.Gw1.τ Cert.Gw1.sig) → Buf (Elt Bits) ℓ) : Prop :=
  True

def Pre_Gw1Ideal (m : (ℓ : Loc Cert.Gw1Ideal.nD Cert.Gw1Ideal.τ Cert.Gw1Ideal.sig) → Buf (Elt Ideal) ℓ) : Prop :=
  True

def Pre_RefGw1Ideal (m : (ℓ : Loc Cert.RefGw1Ideal.nD Cert.RefGw1Ideal.τ Cert.RefGw1Ideal.sig) → Buf (Elt Ideal) ℓ) : Prop :=
  True

def Pre_Dh1 (m : (ℓ : Loc Cert.Dh1.nD Cert.Dh1.τ Cert.Dh1.sig) → Buf (Elt Bits) ℓ) : Prop :=
  True

def Pre_Dh1Ideal (m : (ℓ : Loc Cert.Dh1Ideal.nD Cert.Dh1Ideal.τ Cert.Dh1Ideal.sig) → Buf (Elt Ideal) ℓ) : Prop :=
  True

def Pre_RefDh1Ideal (m : (ℓ : Loc Cert.RefDh1Ideal.nD Cert.RefDh1Ideal.τ Cert.RefDh1Ideal.sig) → Buf (Elt Ideal) ℓ) : Prop :=
  True

def Pre_Dycat (m : (ℓ : Loc Cert.Dycat.nD Cert.Dycat.τ Cert.Dycat.sig) → Buf (Elt Bits) ℓ) : Prop :=
  True

def Pre_DycatIdeal (m : (ℓ : Loc Cert.DycatIdeal.nD Cert.DycatIdeal.τ Cert.DycatIdeal.sig) → Buf (Elt Ideal) ℓ) : Prop :=
  True

def Pre_RefDycatIdeal (m : (ℓ : Loc Cert.RefDycatIdeal.nD Cert.RefDycatIdeal.τ Cert.RefDycatIdeal.sig) → Buf (Elt Ideal) ℓ) : Prop :=
  True

def Pre_Gwout (m : (ℓ : Loc Cert.Gwout.nD Cert.Gwout.τ Cert.Gwout.sig) → Buf (Elt Bits) ℓ) : Prop :=
  True

def Pre_GwoutIdeal (m : (ℓ : Loc Cert.GwoutIdeal.nD Cert.GwoutIdeal.τ Cert.GwoutIdeal.sig) → Buf (Elt Ideal) ℓ) : Prop :=
  True

def Pre_RefGwoutIdeal (m : (ℓ : Loc Cert.RefGwoutIdeal.nD Cert.RefGwoutIdeal.τ Cert.RefGwoutIdeal.sig) → Buf (Elt Ideal) ℓ) : Prop :=
  True

def Pre_Ff1 (m : (ℓ : Loc Cert.Ff1.nD Cert.Ff1.τ Cert.Ff1.sig) → Buf (Elt Bits) ℓ) : Prop :=
  True

def Pre_Ff1Ideal (m : (ℓ : Loc Cert.Ff1Ideal.nD Cert.Ff1Ideal.τ Cert.Ff1Ideal.sig) → Buf (Elt Ideal) ℓ) : Prop :=
  True

def Pre_RefFf1Ideal (m : (ℓ : Loc Cert.RefFf1Ideal.nD Cert.RefFf1Ideal.τ Cert.RefFf1Ideal.sig) → Buf (Elt Ideal) ℓ) : Prop :=
  True

def Pre_Ff2l (m : (ℓ : Loc Cert.Ff2l.nD Cert.Ff2l.τ Cert.Ff2l.sig) → Buf (Elt Bits) ℓ) : Prop :=
  True

def Pre_Ff2lIdeal (m : (ℓ : Loc Cert.Ff2lIdeal.nD Cert.Ff2lIdeal.τ Cert.Ff2lIdeal.sig) → Buf (Elt Ideal) ℓ) : Prop :=
  True

def Pre_RefFf2lIdeal (m : (ℓ : Loc Cert.RefFf2lIdeal.nD Cert.RefFf2lIdeal.τ Cert.RefFf2lIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_RefOutIdeal (m : (ℓ : Loc Cert.RefOutIdeal.nD Cert.RefOutIdeal.τ Cert.RefOutIdeal.sig) → Buf (Elt Ideal) ℓ) : Prop :=
  True

def Pre_Ff2 (m : (ℓ : Loc Cert.Ff2.nD Cert.Ff2.τ Cert.Ff2.sig) → Buf (Elt Bits) ℓ) : Prop :=
  True

def Pre_Ff2Ideal (m : (ℓ : Loc Cert.Ff2Ideal.nD Cert.Ff2Ideal.τ Cert.Ff2Ideal.sig) → Buf (Elt Ideal) ℓ) : Prop :=
  True

def Pre_RefFf2Ideal (m : (ℓ : Loc Cert.RefFf2Ideal.nD Cert.RefFf2Ideal.τ Cert.RefFf2Ideal.sig) → Buf (Elt Ideal) ℓ) : Prop :=
  True

def Pre_Dh2 (m : (ℓ : Loc Cert.Dh2.nD Cert.Dh2.τ Cert.Dh2.sig) → Buf (Elt Bits) ℓ) : Prop :=
  True

def Pre_Dh2Ideal (m : (ℓ : Loc Cert.Dh2Ideal.nD Cert.Dh2Ideal.τ Cert.Dh2Ideal.sig) → Buf (Elt Ideal) ℓ) : Prop :=
  True

def Pre_RefDh2Ideal (m : (ℓ : Loc Cert.RefDh2Ideal.nD Cert.RefDh2Ideal.τ Cert.RefDh2Ideal.sig) → Buf (Elt Ideal) ℓ) : Prop :=
  True

def Pre_Pdt (m : (ℓ : Loc Cert.Pdt.nD Cert.Pdt.τ Cert.Pdt.sig) → Buf (Elt Bits) ℓ) : Prop :=
  True

def Pre_PdtIdeal (m : (ℓ : Loc Cert.PdtIdeal.nD Cert.PdtIdeal.τ Cert.PdtIdeal.sig) → Buf (Elt Ideal) ℓ) : Prop :=
  True

def Pre_RefPdtIdeal (m : (ℓ : Loc Cert.RefPdtIdeal.nD Cert.RefPdtIdeal.τ Cert.RefPdtIdeal.sig) → Buf (Elt Ideal) ℓ) : Prop :=
  True

def Pre_Gwdt (m : (ℓ : Loc Cert.Gwdt.nD Cert.Gwdt.τ Cert.Gwdt.sig) → Buf (Elt Bits) ℓ) : Prop :=
  True

def Pre_GwdtIdeal (m : (ℓ : Loc Cert.GwdtIdeal.nD Cert.GwdtIdeal.τ Cert.GwdtIdeal.sig) → Buf (Elt Ideal) ℓ) : Prop :=
  True

def Pre_RefGwdtIdeal (m : (ℓ : Loc Cert.RefGwdtIdeal.nD Cert.RefGwdtIdeal.τ Cert.RefGwdtIdeal.sig) → Buf (Elt Ideal) ℓ) : Prop :=
  True

def Pre_Dh1dt (m : (ℓ : Loc Cert.Dh1dt.nD Cert.Dh1dt.τ Cert.Dh1dt.sig) → Buf (Elt Bits) ℓ) : Prop :=
  True

def Pre_Dh1dtIdeal (m : (ℓ : Loc Cert.Dh1dtIdeal.nD Cert.Dh1dtIdeal.τ Cert.Dh1dtIdeal.sig) → Buf (Elt Ideal) ℓ) : Prop :=
  True

def Pre_RefDh1dtIdeal (m : (ℓ : Loc Cert.RefDh1dtIdeal.nD Cert.RefDh1dtIdeal.τ Cert.RefDh1dtIdeal.sig) → Buf (Elt Ideal) ℓ) : Prop :=
  True

def Pre_AdamSmall (m : (ℓ : Loc Cert.AdamSmall.nD Cert.AdamSmall.τ Cert.AdamSmall.sig) → Buf (Elt Bits) ℓ) : Prop :=
  True

def Pre_AdamSmallIdeal (m : (ℓ : Loc Cert.AdamSmallIdeal.nD Cert.AdamSmallIdeal.τ Cert.AdamSmallIdeal.sig) → Buf (Elt Ideal) ℓ) : Prop :=
  True

def Pre_RefAdamSmallIdeal (m : (ℓ : Loc Cert.RefAdamSmallIdeal.nD Cert.RefAdamSmallIdeal.τ Cert.RefAdamSmallIdeal.sig) → Buf (Elt Ideal) ℓ) : Prop :=
  True

def Pre_AdamConv (m : (ℓ : Loc Cert.AdamConv.nD Cert.AdamConv.τ Cert.AdamConv.sig) → Buf (Elt Bits) ℓ) : Prop :=
  True

def Pre_AdamConvIdeal (m : (ℓ : Loc Cert.AdamConvIdeal.nD Cert.AdamConvIdeal.τ Cert.AdamConvIdeal.sig) → Buf (Elt Ideal) ℓ) : Prop :=
  True

def Pre_RefAdamConvIdeal (m : (ℓ : Loc Cert.RefAdamConvIdeal.nD Cert.RefAdamConvIdeal.τ Cert.RefAdamConvIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Gw2 [hGw2 : Cert.Gw2.Facts] : Prop :=
  ∀ (m : (ℓ : Loc Cert.Gw2.nD Cert.Gw2.τ Cert.Gw2.sig) → Buf (Elt Bits) ℓ) (g : Dev Cert.Gw2.nD → PrngReg), Pre_Gw2 m →
    θ_run (Cert.Gw2.defs (F := Bits)) (onTc (τ := Cert.Gw2.τ) (Cert.Gw2.main (F := Bits))) ⟨m, fun _ => 0, g⟩ (fun r => (∀ c : Dev Cert.Gw2.nD,
      r.2.mem ((c.tc : Thread Cert.Gw2.nD Cert.Gw2.τ).loc Cert.Gw2.main_arg0) = m ((c.tc : Thread Cert.Gw2.nD Cert.Gw2.τ).loc Cert.Gw2.main_arg0)
      ∧ r.2.mem ((c.tc : Thread Cert.Gw2.nD Cert.Gw2.τ).loc Cert.Gw2.main_arg1) = m ((c.tc : Thread Cert.Gw2.nD Cert.Gw2.τ).loc Cert.Gw2.main_arg1))
      ∧ r.2.sem = fun _ => 0)

def quiescent_Gw2Ideal [hGw2Ideal : Cert.Gw2Ideal.Facts] : Prop :=
  ∀ (m : (ℓ : Loc Cert.Gw2Ideal.nD Cert.Gw2Ideal.τ Cert.Gw2Ideal.sig) → Buf (Elt Ideal) ℓ) (g : Dev Cert.Gw2Ideal.nD → PrngReg), Pre_Gw2Ideal m →
    θ_run (Cert.Gw2Ideal.defs (F := Ideal)) (onTc (τ := Cert.Gw2Ideal.τ) (Cert.Gw2Ideal.main (F := Ideal))) ⟨m, fun _ => 0, g⟩ (fun r => (∀ c : Dev Cert.Gw2Ideal.nD,
      r.2.mem ((c.tc : Thread Cert.Gw2Ideal.nD Cert.Gw2Ideal.τ).loc Cert.Gw2Ideal.main_arg0) = m ((c.tc : Thread Cert.Gw2Ideal.nD Cert.Gw2Ideal.τ).loc Cert.Gw2Ideal.main_arg0)
      ∧ r.2.mem ((c.tc : Thread Cert.Gw2Ideal.nD Cert.Gw2Ideal.τ).loc Cert.Gw2Ideal.main_arg1) = m ((c.tc : Thread Cert.Gw2Ideal.nD Cert.Gw2Ideal.τ).loc Cert.Gw2Ideal.main_arg1))
      ∧ r.2.sem = fun _ => 0)

def quiescent_RefGw2Ideal [hRefGw2Ideal : Cert.RefGw2Ideal.Facts] : Prop :=
  ∀ (m : (ℓ : Loc Cert.RefGw2Ideal.nD Cert.RefGw2Ideal.τ Cert.RefGw2Ideal.sig) → Buf (Elt Ideal) ℓ) (g : Dev Cert.RefGw2Ideal.nD → PrngReg), Pre_RefGw2Ideal m →
    θ_run (Cert.RefGw2Ideal.defs (F := Ideal)) (onTc (τ := Cert.RefGw2Ideal.τ) (Cert.RefGw2Ideal.main (F := Ideal))) ⟨m, fun _ => 0, g⟩ (fun r => (∀ c : Dev Cert.RefGw2Ideal.nD,
      r.2.mem ((c.tc : Thread Cert.RefGw2Ideal.nD Cert.RefGw2Ideal.τ).loc Cert.RefGw2Ideal.main_arg0) = m ((c.tc : Thread Cert.RefGw2Ideal.nD Cert.RefGw2Ideal.τ).loc Cert.RefGw2Ideal.main_arg0)
      ∧ r.2.mem ((c.tc : Thread Cert.RefGw2Ideal.nD Cert.RefGw2Ideal.τ).loc Cert.RefGw2Ideal.main_arg1) = m ((c.tc : Thread Cert.RefGw2Ideal.nD Cert.RefGw2Ideal.τ).loc Cert.RefGw2Ideal.main_arg1))
      ∧ r.2.sem = fun _ => 0)

def quiescent_Df [hDf : Cert.Df.Facts] : Prop :=
  ∀ (m : (ℓ : Loc Cert.Df.nD Cert.Df.τ Cert.Df.sig) → Buf (Elt Bits) ℓ) (g : Dev Cert.Df.nD → PrngReg), Pre_Df m →
    θ_run (Cert.Df.defs (F := Bits)) (onTc (τ := Cert.Df.τ) (Cert.Df.main (F := Bits))) ⟨m, fun _ => 0, g⟩ (fun r => (∀ c : Dev Cert.Df.nD,
      r.2.mem ((c.tc : Thread Cert.Df.nD Cert.Df.τ).loc Cert.Df.main_arg0) = m ((c.tc : Thread Cert.Df.nD Cert.Df.τ).loc Cert.Df.main_arg0)
      ∧ r.2.mem ((c.tc : Thread Cert.Df.nD Cert.Df.τ).loc Cert.Df.main_arg1) = m ((c.tc : Thread Cert.Df.nD Cert.Df.τ).loc Cert.Df.main_arg1)
      ∧ r.2.mem ((c.tc : Thread Cert.Df.nD Cert.Df.τ).loc Cert.Df.main_arg2) = m ((c.tc : Thread Cert.Df.nD Cert.Df.τ).loc Cert.Df.main_arg2)
      ∧ r.2.mem ((c.tc : Thread Cert.Df.nD Cert.Df.τ).loc Cert.Df.main_arg3) = m ((c.tc : Thread Cert.Df.nD Cert.Df.τ).loc Cert.Df.main_arg3))
      ∧ r.2.sem = fun _ => 0)

def quiescent_DfIdeal [hDfIdeal : Cert.DfIdeal.Facts] : Prop :=
  ∀ (m : (ℓ : Loc Cert.DfIdeal.nD Cert.DfIdeal.τ Cert.DfIdeal.sig) → Buf (Elt Ideal) ℓ) (g : Dev Cert.DfIdeal.nD → PrngReg), Pre_DfIdeal m →
    θ_run (Cert.DfIdeal.defs (F := Ideal)) (onTc (τ := Cert.DfIdeal.τ) (Cert.DfIdeal.main (F := Ideal))) ⟨m, fun _ => 0, g⟩ (fun r => (∀ c : Dev Cert.DfIdeal.nD,
      r.2.mem ((c.tc : Thread Cert.DfIdeal.nD Cert.DfIdeal.τ).loc Cert.DfIdeal.main_arg0) = m ((c.tc : Thread Cert.DfIdeal.nD Cert.DfIdeal.τ).loc Cert.DfIdeal.main_arg0)
      ∧ r.2.mem ((c.tc : Thread Cert.DfIdeal.nD Cert.DfIdeal.τ).loc Cert.DfIdeal.main_arg1) = m ((c.tc : Thread Cert.DfIdeal.nD Cert.DfIdeal.τ).loc Cert.DfIdeal.main_arg1)
      ∧ r.2.mem ((c.tc : Thread Cert.DfIdeal.nD Cert.DfIdeal.τ).loc Cert.DfIdeal.main_arg2) = m ((c.tc : Thread Cert.DfIdeal.nD Cert.DfIdeal.τ).loc Cert.DfIdeal.main_arg2)
      ∧ r.2.mem ((c.tc : Thread Cert.DfIdeal.nD Cert.DfIdeal.τ).loc Cert.DfIdeal.main_arg3) = m ((c.tc : Thread Cert.DfIdeal.nD Cert.DfIdeal.τ).loc Cert.DfIdeal.main_arg3))
      ∧ r.2.sem = fun _ => 0)

def quiescent_RefDfIdeal [hRefDfIdeal : Cert.RefDfIdeal.Facts] : Prop :=
  ∀ (m : (ℓ : Loc Cert.RefDfIdeal.nD Cert.RefDfIdeal.τ Cert.RefDfIdeal.sig) → Buf (Elt Ideal) ℓ) (g : Dev Cert.RefDfIdeal.nD → PrngReg), Pre_RefDfIdeal m →
    θ_run (Cert.RefDfIdeal.defs (F := Ideal)) (onTc (τ := Cert.RefDfIdeal.τ) (Cert.RefDfIdeal.main (F := Ideal))) ⟨m, fun _ => 0, g⟩ (fun r => (∀ c : Dev Cert.RefDfIdeal.nD,
      r.2.mem ((c.tc : Thread Cert.RefDfIdeal.nD Cert.RefDfIdeal.τ).loc Cert.RefDfIdeal.main_arg0) = m ((c.tc : Thread Cert.RefDfIdeal.nD Cert.RefDfIdeal.τ).loc Cert.RefDfIdeal.main_arg0)
      ∧ r.2.mem ((c.tc : Thread Cert.RefDfIdeal.nD Cert.RefDfIdeal.τ).loc Cert.RefDfIdeal.main_arg1) = m ((c.tc : Thread Cert.RefDfIdeal.nD Cert.RefDfIdeal.τ).loc Cert.RefDfIdeal.main_arg1)
      ∧ r.2.mem ((c.tc : Thread Cert.RefDfIdeal.nD Cert.RefDfIdeal.τ).loc Cert.RefDfIdeal.main_arg2) = m ((c.tc : Thread Cert.RefDfIdeal.nD Cert.RefDfIdeal.τ).loc Cert.RefDfIdeal.main_arg2)
      ∧ r.2.mem ((c.tc : Thread Cert.RefDfIdeal.nD Cert.RefDfIdeal.τ).loc Cert.RefDfIdeal.main_arg3) = m ((c.tc : Thread Cert.RefDfIdeal.nD Cert.RefDfIdeal.τ).loc Cert.RefDfIdeal.main_arg3))
      ∧ r.2.sem = fun _ => 0)

def quiescent_Gwin [hGwin : Cert.Gwin.Facts] : Prop :=
  ∀ (m : (ℓ : Loc Cert.Gwin.nD Cert.Gwin.τ Cert.Gwin.sig) → Buf (Elt Bits) ℓ) (g : Dev Cert.Gwin.nD → PrngReg), Pre_Gwin m →
    θ_run (Cert.Gwin.defs (F := Bits)) (onTc (τ := Cert.Gwin.τ) (Cert.Gwin.main (F := Bits))) ⟨m, fun _ => 0, g⟩ (fun r => (∀ c : Dev Cert.Gwin.nD,
      r.2.mem ((c.tc : Thread Cert.Gwin.nD Cert.Gwin.τ).loc Cert.Gwin.main_arg0) = m ((c.tc : Thread Cert.Gwin.nD Cert.Gwin.τ).loc Cert.Gwin.main_arg0)
      ∧ r.2.mem ((c.tc : Thread Cert.Gwin.nD Cert.Gwin.τ).loc Cert.Gwin.main_arg1) = m ((c.tc : Thread Cert.Gwin.nD Cert.Gwin.τ).loc Cert.Gwin.main_arg1))
      ∧ r.2.sem = fun _ => 0)

def quiescent_GwinIdeal [hGwinIdeal : Cert.GwinIdeal.Facts] : Prop :=
  ∀ (m : (ℓ : Loc Cert.GwinIdeal.nD Cert.GwinIdeal.τ Cert.GwinIdeal.sig) → Buf (Elt Ideal) ℓ) (g : Dev Cert.GwinIdeal.nD → PrngReg), Pre_GwinIdeal m →
    θ_run (Cert.GwinIdeal.defs (F := Ideal)) (onTc (τ := Cert.GwinIdeal.τ) (Cert.GwinIdeal.main (F := Ideal))) ⟨m, fun _ => 0, g⟩ (fun r => (∀ c : Dev Cert.GwinIdeal.nD,
      r.2.mem ((c.tc : Thread Cert.GwinIdeal.nD Cert.GwinIdeal.τ).loc Cert.GwinIdeal.main_arg0) = m ((c.tc : Thread Cert.GwinIdeal.nD Cert.GwinIdeal.τ).loc Cert.GwinIdeal.main_arg0)
      ∧ r.2.mem ((c.tc : Thread Cert.GwinIdeal.nD Cert.GwinIdeal.τ).loc Cert.GwinIdeal.main_arg1) = m ((c.tc : Thread Cert.GwinIdeal.nD Cert.GwinIdeal.τ).loc Cert.GwinIdeal.main_arg1))
      ∧ r.2.sem = fun _ => 0)

def quiescent_RefGwinIdeal [hRefGwinIdeal : Cert.RefGwinIdeal.Facts] : Prop :=
  ∀ (m : (ℓ : Loc Cert.RefGwinIdeal.nD Cert.RefGwinIdeal.τ Cert.RefGwinIdeal.sig) → Buf (Elt Ideal) ℓ) (g : Dev Cert.RefGwinIdeal.nD → PrngReg), Pre_RefGwinIdeal m →
    θ_run (Cert.RefGwinIdeal.defs (F := Ideal)) (onTc (τ := Cert.RefGwinIdeal.τ) (Cert.RefGwinIdeal.main (F := Ideal))) ⟨m, fun _ => 0, g⟩ (fun r => (∀ c : Dev Cert.RefGwinIdeal.nD,
      r.2.mem ((c.tc : Thread Cert.RefGwinIdeal.nD Cert.RefGwinIdeal.τ).loc Cert.RefGwinIdeal.main_arg0) = m ((c.tc : Thread Cert.RefGwinIdeal.nD Cert.RefGwinIdeal.τ).loc Cert.RefGwinIdeal.main_arg0)
      ∧ r.2.mem ((c.tc : Thread Cert.RefGwinIdeal.nD Cert.RefGwinIdeal.τ).loc Cert.RefGwinIdeal.main_arg1) = m ((c.tc : Thread Cert.RefGwinIdeal.nD Cert.RefGwinIdeal.τ).loc Cert.RefGwinIdeal.main_arg1))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ r.2.sem = fun _ => 0)

def quiescent_RefProjIdeal [hRefProjIdeal : Cert.RefProjIdeal.Facts] : Prop :=
  ∀ (m : (ℓ : Loc Cert.RefProjIdeal.nD Cert.RefProjIdeal.τ Cert.RefProjIdeal.sig) → Buf (Elt Ideal) ℓ) (g : Dev Cert.RefProjIdeal.nD → PrngReg), Pre_RefProjIdeal m →
    θ_run (Cert.RefProjIdeal.defs (F := Ideal)) (onTc (τ := Cert.RefProjIdeal.τ) (Cert.RefProjIdeal.main (F := Ideal))) ⟨m, fun _ => 0, g⟩ (fun r => (∀ c : Dev Cert.RefProjIdeal.nD,
      r.2.mem ((c.tc : Thread Cert.RefProjIdeal.nD Cert.RefProjIdeal.τ).loc Cert.RefProjIdeal.main_arg0) = m ((c.tc : Thread Cert.RefProjIdeal.nD Cert.RefProjIdeal.τ).loc Cert.RefProjIdeal.main_arg0)
      ∧ r.2.mem ((c.tc : Thread Cert.RefProjIdeal.nD Cert.RefProjIdeal.τ).loc Cert.RefProjIdeal.main_arg1) = m ((c.tc : Thread Cert.RefProjIdeal.nD Cert.RefProjIdeal.τ).loc Cert.RefProjIdeal.main_arg1)
      ∧ r.2.mem ((c.tc : Thread Cert.RefProjIdeal.nD Cert.RefProjIdeal.τ).loc Cert.RefProjIdeal.main_arg2) = m ((c.tc : Thread Cert.RefProjIdeal.nD Cert.RefProjIdeal.τ).loc Cert.RefProjIdeal.main_arg2))
      ∧ r.2.sem = fun _ => 0)

def quiescent_Gw1 [hGw1 : Cert.Gw1.Facts] : Prop :=
  ∀ (m : (ℓ : Loc Cert.Gw1.nD Cert.Gw1.τ Cert.Gw1.sig) → Buf (Elt Bits) ℓ) (g : Dev Cert.Gw1.nD → PrngReg), Pre_Gw1 m →
    θ_run (Cert.Gw1.defs (F := Bits)) (onTc (τ := Cert.Gw1.τ) (Cert.Gw1.main (F := Bits))) ⟨m, fun _ => 0, g⟩ (fun r => (∀ c : Dev Cert.Gw1.nD,
      r.2.mem ((c.tc : Thread Cert.Gw1.nD Cert.Gw1.τ).loc Cert.Gw1.main_arg0) = m ((c.tc : Thread Cert.Gw1.nD Cert.Gw1.τ).loc Cert.Gw1.main_arg0)
      ∧ r.2.mem ((c.tc : Thread Cert.Gw1.nD Cert.Gw1.τ).loc Cert.Gw1.main_arg1) = m ((c.tc : Thread Cert.Gw1.nD Cert.Gw1.τ).loc Cert.Gw1.main_arg1))
      ∧ r.2.sem = fun _ => 0)

def quiescent_Gw1Ideal [hGw1Ideal : Cert.Gw1Ideal.Facts] : Prop :=
  ∀ (m : (ℓ : Loc Cert.Gw1Ideal.nD Cert.Gw1Ideal.τ Cert.Gw1Ideal.sig) → Buf (Elt Ideal) ℓ) (g : Dev Cert.Gw1Ideal.nD → PrngReg), Pre_Gw1Ideal m →
    θ_run (Cert.Gw1Ideal.defs (F := Ideal)) (onTc (τ := Cert.Gw1Ideal.τ) (Cert.Gw1Ideal.main (F := Ideal))) ⟨m, fun _ => 0, g⟩ (fun r => (∀ c : Dev Cert.Gw1Ideal.nD,
      r.2.mem ((c.tc : Thread Cert.Gw1Ideal.nD Cert.Gw1Ideal.τ).loc Cert.Gw1Ideal.main_arg0) = m ((c.tc : Thread Cert.Gw1Ideal.nD Cert.Gw1Ideal.τ).loc Cert.Gw1Ideal.main_arg0)
      ∧ r.2.mem ((c.tc : Thread Cert.Gw1Ideal.nD Cert.Gw1Ideal.τ).loc Cert.Gw1Ideal.main_arg1) = m ((c.tc : Thread Cert.Gw1Ideal.nD Cert.Gw1Ideal.τ).loc Cert.Gw1Ideal.main_arg1))
      ∧ r.2.sem = fun _ => 0)

def quiescent_RefGw1Ideal [hRefGw1Ideal : Cert.RefGw1Ideal.Facts] : Prop :=
  ∀ (m : (ℓ : Loc Cert.RefGw1Ideal.nD Cert.RefGw1Ideal.τ Cert.RefGw1Ideal.sig) → Buf (Elt Ideal) ℓ) (g : Dev Cert.RefGw1Ideal.nD → PrngReg), Pre_RefGw1Ideal m →
    θ_run (Cert.RefGw1Ideal.defs (F := Ideal)) (onTc (τ := Cert.RefGw1Ideal.τ) (Cert.RefGw1Ideal.main (F := Ideal))) ⟨m, fun _ => 0, g⟩ (fun r => (∀ c : Dev Cert.RefGw1Ideal.nD,
      r.2.mem ((c.tc : Thread Cert.RefGw1Ideal.nD Cert.RefGw1Ideal.τ).loc Cert.RefGw1Ideal.main_arg0) = m ((c.tc : Thread Cert.RefGw1Ideal.nD Cert.RefGw1Ideal.τ).loc Cert.RefGw1Ideal.main_arg0)
      ∧ r.2.mem ((c.tc : Thread Cert.RefGw1Ideal.nD Cert.RefGw1Ideal.τ).loc Cert.RefGw1Ideal.main_arg1) = m ((c.tc : Thread Cert.RefGw1Ideal.nD Cert.RefGw1Ideal.τ).loc Cert.RefGw1Ideal.main_arg1))
      ∧ r.2.sem = fun _ => 0)

def quiescent_Dh1 [hDh1 : Cert.Dh1.Facts] : Prop :=
  ∀ (m : (ℓ : Loc Cert.Dh1.nD Cert.Dh1.τ Cert.Dh1.sig) → Buf (Elt Bits) ℓ) (g : Dev Cert.Dh1.nD → PrngReg), Pre_Dh1 m →
    θ_run (Cert.Dh1.defs (F := Bits)) (onTc (τ := Cert.Dh1.τ) (Cert.Dh1.main (F := Bits))) ⟨m, fun _ => 0, g⟩ (fun r => (∀ c : Dev Cert.Dh1.nD,
      r.2.mem ((c.tc : Thread Cert.Dh1.nD Cert.Dh1.τ).loc Cert.Dh1.main_arg0) = m ((c.tc : Thread Cert.Dh1.nD Cert.Dh1.τ).loc Cert.Dh1.main_arg0)
      ∧ r.2.mem ((c.tc : Thread Cert.Dh1.nD Cert.Dh1.τ).loc Cert.Dh1.main_arg1) = m ((c.tc : Thread Cert.Dh1.nD Cert.Dh1.τ).loc Cert.Dh1.main_arg1))
      ∧ r.2.sem = fun _ => 0)

def quiescent_Dh1Ideal [hDh1Ideal : Cert.Dh1Ideal.Facts] : Prop :=
  ∀ (m : (ℓ : Loc Cert.Dh1Ideal.nD Cert.Dh1Ideal.τ Cert.Dh1Ideal.sig) → Buf (Elt Ideal) ℓ) (g : Dev Cert.Dh1Ideal.nD → PrngReg), Pre_Dh1Ideal m →
    θ_run (Cert.Dh1Ideal.defs (F := Ideal)) (onTc (τ := Cert.Dh1Ideal.τ) (Cert.Dh1Ideal.main (F := Ideal))) ⟨m, fun _ => 0, g⟩ (fun r => (∀ c : Dev Cert.Dh1Ideal.nD,
      r.2.mem ((c.tc : Thread Cert.Dh1Ideal.nD Cert.Dh1Ideal.τ).loc Cert.Dh1Ideal.main_arg0) = m ((c.tc : Thread Cert.Dh1Ideal.nD Cert.Dh1Ideal.τ).loc Cert.Dh1Ideal.main_arg0)
      ∧ r.2.mem ((c.tc : Thread Cert.Dh1Ideal.nD Cert.Dh1Ideal.τ).loc Cert.Dh1Ideal.main_arg1) = m ((c.tc : Thread Cert.Dh1Ideal.nD Cert.Dh1Ideal.τ).loc Cert.Dh1Ideal.main_arg1))
      ∧ r.2.sem = fun _ => 0)

def quiescent_RefDh1Ideal [hRefDh1Ideal : Cert.RefDh1Ideal.Facts] : Prop :=
  ∀ (m : (ℓ : Loc Cert.RefDh1Ideal.nD Cert.RefDh1Ideal.τ Cert.RefDh1Ideal.sig) → Buf (Elt Ideal) ℓ) (g : Dev Cert.RefDh1Ideal.nD → PrngReg), Pre_RefDh1Ideal m →
    θ_run (Cert.RefDh1Ideal.defs (F := Ideal)) (onTc (τ := Cert.RefDh1Ideal.τ) (Cert.RefDh1Ideal.main (F := Ideal))) ⟨m, fun _ => 0, g⟩ (fun r => (∀ c : Dev Cert.RefDh1Ideal.nD,
      r.2.mem ((c.tc : Thread Cert.RefDh1Ideal.nD Cert.RefDh1Ideal.τ).loc Cert.RefDh1Ideal.main_arg0) = m ((c.tc : Thread Cert.RefDh1Ideal.nD Cert.RefDh1Ideal.τ).loc Cert.RefDh1Ideal.main_arg0)
      ∧ r.2.mem ((c.tc : Thread Cert.RefDh1Ideal.nD Cert.RefDh1Ideal.τ).loc Cert.RefDh1Ideal.main_arg1) = m ((c.tc : Thread Cert.RefDh1Ideal.nD Cert.RefDh1Ideal.τ).loc Cert.RefDh1Ideal.main_arg1))
      ∧ r.2.sem = fun _ => 0)

def quiescent_Dycat [hDycat : Cert.Dycat.Facts] : Prop :=
  ∀ (m : (ℓ : Loc Cert.Dycat.nD Cert.Dycat.τ Cert.Dycat.sig) → Buf (Elt Bits) ℓ) (g : Dev Cert.Dycat.nD → PrngReg), Pre_Dycat m →
    θ_run (Cert.Dycat.defs (F := Bits)) (onTc (τ := Cert.Dycat.τ) (Cert.Dycat.main (F := Bits))) ⟨m, fun _ => 0, g⟩ (fun r => (∀ c : Dev Cert.Dycat.nD,
      r.2.mem ((c.tc : Thread Cert.Dycat.nD Cert.Dycat.τ).loc Cert.Dycat.main_arg0) = m ((c.tc : Thread Cert.Dycat.nD Cert.Dycat.τ).loc Cert.Dycat.main_arg0)
      ∧ r.2.mem ((c.tc : Thread Cert.Dycat.nD Cert.Dycat.τ).loc Cert.Dycat.main_arg1) = m ((c.tc : Thread Cert.Dycat.nD Cert.Dycat.τ).loc Cert.Dycat.main_arg1)
      ∧ r.2.mem ((c.tc : Thread Cert.Dycat.nD Cert.Dycat.τ).loc Cert.Dycat.main_arg2) = m ((c.tc : Thread Cert.Dycat.nD Cert.Dycat.τ).loc Cert.Dycat.main_arg2))
      ∧ r.2.sem = fun _ => 0)

def quiescent_DycatIdeal [hDycatIdeal : Cert.DycatIdeal.Facts] : Prop :=
  ∀ (m : (ℓ : Loc Cert.DycatIdeal.nD Cert.DycatIdeal.τ Cert.DycatIdeal.sig) → Buf (Elt Ideal) ℓ) (g : Dev Cert.DycatIdeal.nD → PrngReg), Pre_DycatIdeal m →
    θ_run (Cert.DycatIdeal.defs (F := Ideal)) (onTc (τ := Cert.DycatIdeal.τ) (Cert.DycatIdeal.main (F := Ideal))) ⟨m, fun _ => 0, g⟩ (fun r => (∀ c : Dev Cert.DycatIdeal.nD,
      r.2.mem ((c.tc : Thread Cert.DycatIdeal.nD Cert.DycatIdeal.τ).loc Cert.DycatIdeal.main_arg0) = m ((c.tc : Thread Cert.DycatIdeal.nD Cert.DycatIdeal.τ).loc Cert.DycatIdeal.main_arg0)
      ∧ r.2.mem ((c.tc : Thread Cert.DycatIdeal.nD Cert.DycatIdeal.τ).loc Cert.DycatIdeal.main_arg1) = m ((c.tc : Thread Cert.DycatIdeal.nD Cert.DycatIdeal.τ).loc Cert.DycatIdeal.main_arg1)
      ∧ r.2.mem ((c.tc : Thread Cert.DycatIdeal.nD Cert.DycatIdeal.τ).loc Cert.DycatIdeal.main_arg2) = m ((c.tc : Thread Cert.DycatIdeal.nD Cert.DycatIdeal.τ).loc Cert.DycatIdeal.main_arg2))
      ∧ r.2.sem = fun _ => 0)

def quiescent_RefDycatIdeal [hRefDycatIdeal : Cert.RefDycatIdeal.Facts] : Prop :=
  ∀ (m : (ℓ : Loc Cert.RefDycatIdeal.nD Cert.RefDycatIdeal.τ Cert.RefDycatIdeal.sig) → Buf (Elt Ideal) ℓ) (g : Dev Cert.RefDycatIdeal.nD → PrngReg), Pre_RefDycatIdeal m →
    θ_run (Cert.RefDycatIdeal.defs (F := Ideal)) (onTc (τ := Cert.RefDycatIdeal.τ) (Cert.RefDycatIdeal.main (F := Ideal))) ⟨m, fun _ => 0, g⟩ (fun r => (∀ c : Dev Cert.RefDycatIdeal.nD,
      r.2.mem ((c.tc : Thread Cert.RefDycatIdeal.nD Cert.RefDycatIdeal.τ).loc Cert.RefDycatIdeal.main_arg0) = m ((c.tc : Thread Cert.RefDycatIdeal.nD Cert.RefDycatIdeal.τ).loc Cert.RefDycatIdeal.main_arg0)
      ∧ r.2.mem ((c.tc : Thread Cert.RefDycatIdeal.nD Cert.RefDycatIdeal.τ).loc Cert.RefDycatIdeal.main_arg1) = m ((c.tc : Thread Cert.RefDycatIdeal.nD Cert.RefDycatIdeal.τ).loc Cert.RefDycatIdeal.main_arg1)
      ∧ r.2.mem ((c.tc : Thread Cert.RefDycatIdeal.nD Cert.RefDycatIdeal.τ).loc Cert.RefDycatIdeal.main_arg2) = m ((c.tc : Thread Cert.RefDycatIdeal.nD Cert.RefDycatIdeal.τ).loc Cert.RefDycatIdeal.main_arg2))
      ∧ r.2.sem = fun _ => 0)

def quiescent_Gwout [hGwout : Cert.Gwout.Facts] : Prop :=
  ∀ (m : (ℓ : Loc Cert.Gwout.nD Cert.Gwout.τ Cert.Gwout.sig) → Buf (Elt Bits) ℓ) (g : Dev Cert.Gwout.nD → PrngReg), Pre_Gwout m →
    θ_run (Cert.Gwout.defs (F := Bits)) (onTc (τ := Cert.Gwout.τ) (Cert.Gwout.main (F := Bits))) ⟨m, fun _ => 0, g⟩ (fun r => (∀ c : Dev Cert.Gwout.nD,
      r.2.mem ((c.tc : Thread Cert.Gwout.nD Cert.Gwout.τ).loc Cert.Gwout.main_arg0) = m ((c.tc : Thread Cert.Gwout.nD Cert.Gwout.τ).loc Cert.Gwout.main_arg0)
      ∧ r.2.mem ((c.tc : Thread Cert.Gwout.nD Cert.Gwout.τ).loc Cert.Gwout.main_arg1) = m ((c.tc : Thread Cert.Gwout.nD Cert.Gwout.τ).loc Cert.Gwout.main_arg1))
      ∧ r.2.sem = fun _ => 0)

def quiescent_GwoutIdeal [hGwoutIdeal : Cert.GwoutIdeal.Facts] : Prop :=
  ∀ (m : (ℓ : Loc Cert.GwoutIdeal.nD Cert.GwoutIdeal.τ Cert.GwoutIdeal.sig) → Buf (Elt Ideal) ℓ) (g : Dev Cert.GwoutIdeal.nD → PrngReg), Pre_GwoutIdeal m →
    θ_run (Cert.GwoutIdeal.defs (F := Ideal)) (onTc (τ := Cert.GwoutIdeal.τ) (Cert.GwoutIdeal.main (F := Ideal))) ⟨m, fun _ => 0, g⟩ (fun r => (∀ c : Dev Cert.GwoutIdeal.nD,
      r.2.mem ((c.tc : Thread Cert.GwoutIdeal.nD Cert.GwoutIdeal.τ).loc Cert.GwoutIdeal.main_arg0) = m ((c.tc : Thread Cert.GwoutIdeal.nD Cert.GwoutIdeal.τ).loc Cert.GwoutIdeal.main_arg0)
      ∧ r.2.mem ((c.tc : Thread Cert.GwoutIdeal.nD Cert.GwoutIdeal.τ).loc Cert.GwoutIdeal.main_arg1) = m ((c.tc : Thread Cert.GwoutIdeal.nD Cert.GwoutIdeal.τ).loc Cert.GwoutIdeal.main_arg1))
      ∧ r.2.sem = fun _ => 0)

def quiescent_RefGwoutIdeal [hRefGwoutIdeal : Cert.RefGwoutIdeal.Facts] : Prop :=
  ∀ (m : (ℓ : Loc Cert.RefGwoutIdeal.nD Cert.RefGwoutIdeal.τ Cert.RefGwoutIdeal.sig) → Buf (Elt Ideal) ℓ) (g : Dev Cert.RefGwoutIdeal.nD → PrngReg), Pre_RefGwoutIdeal m →
    θ_run (Cert.RefGwoutIdeal.defs (F := Ideal)) (onTc (τ := Cert.RefGwoutIdeal.τ) (Cert.RefGwoutIdeal.main (F := Ideal))) ⟨m, fun _ => 0, g⟩ (fun r => (∀ c : Dev Cert.RefGwoutIdeal.nD,
      r.2.mem ((c.tc : Thread Cert.RefGwoutIdeal.nD Cert.RefGwoutIdeal.τ).loc Cert.RefGwoutIdeal.main_arg0) = m ((c.tc : Thread Cert.RefGwoutIdeal.nD Cert.RefGwoutIdeal.τ).loc Cert.RefGwoutIdeal.main_arg0)
      ∧ r.2.mem ((c.tc : Thread Cert.RefGwoutIdeal.nD Cert.RefGwoutIdeal.τ).loc Cert.RefGwoutIdeal.main_arg1) = m ((c.tc : Thread Cert.RefGwoutIdeal.nD Cert.RefGwoutIdeal.τ).loc Cert.RefGwoutIdeal.main_arg1))
      ∧ r.2.sem = fun _ => 0)

def quiescent_Ff1 [hFf1 : Cert.Ff1.Facts] : Prop :=
  ∀ (m : (ℓ : Loc Cert.Ff1.nD Cert.Ff1.τ Cert.Ff1.sig) → Buf (Elt Bits) ℓ) (g : Dev Cert.Ff1.nD → PrngReg), Pre_Ff1 m →
    θ_run (Cert.Ff1.defs (F := Bits)) (onTc (τ := Cert.Ff1.τ) (Cert.Ff1.main (F := Bits))) ⟨m, fun _ => 0, g⟩ (fun r => (∀ c : Dev Cert.Ff1.nD,
      r.2.mem ((c.tc : Thread Cert.Ff1.nD Cert.Ff1.τ).loc Cert.Ff1.main_arg0) = m ((c.tc : Thread Cert.Ff1.nD Cert.Ff1.τ).loc Cert.Ff1.main_arg0)
      ∧ r.2.mem ((c.tc : Thread Cert.Ff1.nD Cert.Ff1.τ).loc Cert.Ff1.main_arg1) = m ((c.tc : Thread Cert.Ff1.nD Cert.Ff1.τ).loc Cert.Ff1.main_arg1))
      ∧ r.2.sem = fun _ => 0)

def quiescent_Ff1Ideal [hFf1Ideal : Cert.Ff1Ideal.Facts] : Prop :=
  ∀ (m : (ℓ : Loc Cert.Ff1Ideal.nD Cert.Ff1Ideal.τ Cert.Ff1Ideal.sig) → Buf (Elt Ideal) ℓ) (g : Dev Cert.Ff1Ideal.nD → PrngReg), Pre_Ff1Ideal m →
    θ_run (Cert.Ff1Ideal.defs (F := Ideal)) (onTc (τ := Cert.Ff1Ideal.τ) (Cert.Ff1Ideal.main (F := Ideal))) ⟨m, fun _ => 0, g⟩ (fun r => (∀ c : Dev Cert.Ff1Ideal.nD,
      r.2.mem ((c.tc : Thread Cert.Ff1Ideal.nD Cert.Ff1Ideal.τ).loc Cert.Ff1Ideal.main_arg0) = m ((c.tc : Thread Cert.Ff1Ideal.nD Cert.Ff1Ideal.τ).loc Cert.Ff1Ideal.main_arg0)
      ∧ r.2.mem ((c.tc : Thread Cert.Ff1Ideal.nD Cert.Ff1Ideal.τ).loc Cert.Ff1Ideal.main_arg1) = m ((c.tc : Thread Cert.Ff1Ideal.nD Cert.Ff1Ideal.τ).loc Cert.Ff1Ideal.main_arg1))
      ∧ r.2.sem = fun _ => 0)

def quiescent_RefFf1Ideal [hRefFf1Ideal : Cert.RefFf1Ideal.Facts] : Prop :=
  ∀ (m : (ℓ : Loc Cert.RefFf1Ideal.nD Cert.RefFf1Ideal.τ Cert.RefFf1Ideal.sig) → Buf (Elt Ideal) ℓ) (g : Dev Cert.RefFf1Ideal.nD → PrngReg), Pre_RefFf1Ideal m →
    θ_run (Cert.RefFf1Ideal.defs (F := Ideal)) (onTc (τ := Cert.RefFf1Ideal.τ) (Cert.RefFf1Ideal.main (F := Ideal))) ⟨m, fun _ => 0, g⟩ (fun r => (∀ c : Dev Cert.RefFf1Ideal.nD,
      r.2.mem ((c.tc : Thread Cert.RefFf1Ideal.nD Cert.RefFf1Ideal.τ).loc Cert.RefFf1Ideal.main_arg0) = m ((c.tc : Thread Cert.RefFf1Ideal.nD Cert.RefFf1Ideal.τ).loc Cert.RefFf1Ideal.main_arg0)
      ∧ r.2.mem ((c.tc : Thread Cert.RefFf1Ideal.nD Cert.RefFf1Ideal.τ).loc Cert.RefFf1Ideal.main_arg1) = m ((c.tc : Thread Cert.RefFf1Ideal.nD Cert.RefFf1Ideal.τ).loc Cert.RefFf1Ideal.main_arg1))
      ∧ r.2.sem = fun _ => 0)

def quiescent_Ff2l [hFf2l : Cert.Ff2l.Facts] : Prop :=
  ∀ (m : (ℓ : Loc Cert.Ff2l.nD Cert.Ff2l.τ Cert.Ff2l.sig) → Buf (Elt Bits) ℓ) (g : Dev Cert.Ff2l.nD → PrngReg), Pre_Ff2l m →
    θ_run (Cert.Ff2l.defs (F := Bits)) (onTc (τ := Cert.Ff2l.τ) (Cert.Ff2l.main (F := Bits))) ⟨m, fun _ => 0, g⟩ (fun r => (∀ c : Dev Cert.Ff2l.nD,
      r.2.mem ((c.tc : Thread Cert.Ff2l.nD Cert.Ff2l.τ).loc Cert.Ff2l.main_arg0) = m ((c.tc : Thread Cert.Ff2l.nD Cert.Ff2l.τ).loc Cert.Ff2l.main_arg0)
      ∧ r.2.mem ((c.tc : Thread Cert.Ff2l.nD Cert.Ff2l.τ).loc Cert.Ff2l.main_arg1) = m ((c.tc : Thread Cert.Ff2l.nD Cert.Ff2l.τ).loc Cert.Ff2l.main_arg1)
      ∧ r.2.mem ((c.tc : Thread Cert.Ff2l.nD Cert.Ff2l.τ).loc Cert.Ff2l.main_arg2) = m ((c.tc : Thread Cert.Ff2l.nD Cert.Ff2l.τ).loc Cert.Ff2l.main_arg2))
      ∧ r.2.sem = fun _ => 0)

def quiescent_Ff2lIdeal [hFf2lIdeal : Cert.Ff2lIdeal.Facts] : Prop :=
  ∀ (m : (ℓ : Loc Cert.Ff2lIdeal.nD Cert.Ff2lIdeal.τ Cert.Ff2lIdeal.sig) → Buf (Elt Ideal) ℓ) (g : Dev Cert.Ff2lIdeal.nD → PrngReg), Pre_Ff2lIdeal m →
    θ_run (Cert.Ff2lIdeal.defs (F := Ideal)) (onTc (τ := Cert.Ff2lIdeal.τ) (Cert.Ff2lIdeal.main (F := Ideal))) ⟨m, fun _ => 0, g⟩ (fun r => (∀ c : Dev Cert.Ff2lIdeal.nD,
      r.2.mem ((c.tc : Thread Cert.Ff2lIdeal.nD Cert.Ff2lIdeal.τ).loc Cert.Ff2lIdeal.main_arg0) = m ((c.tc : Thread Cert.Ff2lIdeal.nD Cert.Ff2lIdeal.τ).loc Cert.Ff2lIdeal.main_arg0)
      ∧ r.2.mem ((c.tc : Thread Cert.Ff2lIdeal.nD Cert.Ff2lIdeal.τ).loc Cert.Ff2lIdeal.main_arg1) = m ((c.tc : Thread Cert.Ff2lIdeal.nD Cert.Ff2lIdeal.τ).loc Cert.Ff2lIdeal.main_arg1)
      ∧ r.2.mem ((c.tc : Thread Cert.Ff2lIdeal.nD Cert.Ff2lIdeal.τ).loc Cert.Ff2lIdeal.main_arg2) = m ((c.tc : Thread Cert.Ff2lIdeal.nD Cert.Ff2lIdeal.τ).loc Cert.Ff2lIdeal.main_arg2))
      ∧ r.2.sem = fun _ => 0)

def quiescent_RefFf2lIdeal [hRefFf2lIdeal : Cert.RefFf2lIdeal.Facts] : Prop :=
  ∀ (m : (ℓ : Loc Cert.RefFf2lIdeal.nD Cert.RefFf2lIdeal.τ Cert.RefFf2lIdeal.sig) → Buf (Elt Ideal) ℓ) (g : Dev Cert.RefFf2lIdeal.nD → PrngReg), Pre_RefFf2lIdeal m →
    θ_run (Cert.RefFf2lIdeal.defs (F := Ideal)) (onTc (τ := Cert.RefFf2lIdeal.τ) (Cert.RefFf2lIdeal.main (F := Ideal))) ⟨m, fun _ => 0, g⟩ (fun r => (∀ c : Dev Cert.RefFf2lIdeal.nD,
      r.2.mem ((c.tc : Thread Cert.RefFf2lIdeal.nD Cert.RefFf2lIdeal.τ).loc Cert.RefFf2lIdeal.main_arg0) = m ((c.tc : Thread Cert.RefFf2lIdeal.nD Cert.RefFf2lIdeal.τ).loc Cert.RefFf2lIdeal.main_arg0)
      ∧ r.2.mem ((c.tc : Thread Cert.RefFf2lIdeal.nD Cert.RefFf2lIdeal.τ).loc Cert.RefFf2lIdeal.main_arg1) = m ((c.tc : Thread Cert.RefFf2lIdeal.nD Cert.RefFf2lIdeal.τ).loc Cert.RefFf2lIdeal.main_arg1)
      ∧ r.2.mem ((c.tc : Thread Cert.RefFf2lIdeal.nD Cert.RefFf2lIdeal.τ).loc Cert.RefFf2lIdeal.main_arg2) = m ((c.tc : Thread Cert.RefFf2lIdeal.nD Cert.RefFf2lIdeal.τ).loc Cert.RefFf2lIdeal.main_arg2))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3))
      ∧ r.2.sem = fun _ => 0)

def quiescent_RefOutIdeal [hRefOutIdeal : Cert.RefOutIdeal.Facts] : Prop :=
  ∀ (m : (ℓ : Loc Cert.RefOutIdeal.nD Cert.RefOutIdeal.τ Cert.RefOutIdeal.sig) → Buf (Elt Ideal) ℓ) (g : Dev Cert.RefOutIdeal.nD → PrngReg), Pre_RefOutIdeal m →
    θ_run (Cert.RefOutIdeal.defs (F := Ideal)) (onTc (τ := Cert.RefOutIdeal.τ) (Cert.RefOutIdeal.main (F := Ideal))) ⟨m, fun _ => 0, g⟩ (fun r => (∀ c : Dev Cert.RefOutIdeal.nD,
      r.2.mem ((c.tc : Thread Cert.RefOutIdeal.nD Cert.RefOutIdeal.τ).loc Cert.RefOutIdeal.main_arg0) = m ((c.tc : Thread Cert.RefOutIdeal.nD Cert.RefOutIdeal.τ).loc Cert.RefOutIdeal.main_arg0)
      ∧ r.2.mem ((c.tc : Thread Cert.RefOutIdeal.nD Cert.RefOutIdeal.τ).loc Cert.RefOutIdeal.main_arg1) = m ((c.tc : Thread Cert.RefOutIdeal.nD Cert.RefOutIdeal.τ).loc Cert.RefOutIdeal.main_arg1)
      ∧ r.2.mem ((c.tc : Thread Cert.RefOutIdeal.nD Cert.RefOutIdeal.τ).loc Cert.RefOutIdeal.main_arg2) = m ((c.tc : Thread Cert.RefOutIdeal.nD Cert.RefOutIdeal.τ).loc Cert.RefOutIdeal.main_arg2)
      ∧ r.2.mem ((c.tc : Thread Cert.RefOutIdeal.nD Cert.RefOutIdeal.τ).loc Cert.RefOutIdeal.main_arg3) = m ((c.tc : Thread Cert.RefOutIdeal.nD Cert.RefOutIdeal.τ).loc Cert.RefOutIdeal.main_arg3))
      ∧ r.2.sem = fun _ => 0)

def quiescent_Ff2 [hFf2 : Cert.Ff2.Facts] : Prop :=
  ∀ (m : (ℓ : Loc Cert.Ff2.nD Cert.Ff2.τ Cert.Ff2.sig) → Buf (Elt Bits) ℓ) (g : Dev Cert.Ff2.nD → PrngReg), Pre_Ff2 m →
    θ_run (Cert.Ff2.defs (F := Bits)) (onTc (τ := Cert.Ff2.τ) (Cert.Ff2.main (F := Bits))) ⟨m, fun _ => 0, g⟩ (fun r => (∀ c : Dev Cert.Ff2.nD,
      r.2.mem ((c.tc : Thread Cert.Ff2.nD Cert.Ff2.τ).loc Cert.Ff2.main_arg0) = m ((c.tc : Thread Cert.Ff2.nD Cert.Ff2.τ).loc Cert.Ff2.main_arg0)
      ∧ r.2.mem ((c.tc : Thread Cert.Ff2.nD Cert.Ff2.τ).loc Cert.Ff2.main_arg1) = m ((c.tc : Thread Cert.Ff2.nD Cert.Ff2.τ).loc Cert.Ff2.main_arg1)
      ∧ r.2.mem ((c.tc : Thread Cert.Ff2.nD Cert.Ff2.τ).loc Cert.Ff2.main_arg2) = m ((c.tc : Thread Cert.Ff2.nD Cert.Ff2.τ).loc Cert.Ff2.main_arg2)
      ∧ r.2.mem ((c.tc : Thread Cert.Ff2.nD Cert.Ff2.τ).loc Cert.Ff2.main_arg3) = m ((c.tc : Thread Cert.Ff2.nD Cert.Ff2.τ).loc Cert.Ff2.main_arg3))
      ∧ r.2.sem = fun _ => 0)

def quiescent_Ff2Ideal [hFf2Ideal : Cert.Ff2Ideal.Facts] : Prop :=
  ∀ (m : (ℓ : Loc Cert.Ff2Ideal.nD Cert.Ff2Ideal.τ Cert.Ff2Ideal.sig) → Buf (Elt Ideal) ℓ) (g : Dev Cert.Ff2Ideal.nD → PrngReg), Pre_Ff2Ideal m →
    θ_run (Cert.Ff2Ideal.defs (F := Ideal)) (onTc (τ := Cert.Ff2Ideal.τ) (Cert.Ff2Ideal.main (F := Ideal))) ⟨m, fun _ => 0, g⟩ (fun r => (∀ c : Dev Cert.Ff2Ideal.nD,
      r.2.mem ((c.tc : Thread Cert.Ff2Ideal.nD Cert.Ff2Ideal.τ).loc Cert.Ff2Ideal.main_arg0) = m ((c.tc : Thread Cert.Ff2Ideal.nD Cert.Ff2Ideal.τ).loc Cert.Ff2Ideal.main_arg0)
      ∧ r.2.mem ((c.tc : Thread Cert.Ff2Ideal.nD Cert.Ff2Ideal.τ).loc Cert.Ff2Ideal.main_arg1) = m ((c.tc : Thread Cert.Ff2Ideal.nD Cert.Ff2Ideal.τ).loc Cert.Ff2Ideal.main_arg1)
      ∧ r.2.mem ((c.tc : Thread Cert.Ff2Ideal.nD Cert.Ff2Ideal.τ).loc Cert.Ff2Ideal.main_arg2) = m ((c.tc : Thread Cert.Ff2Ideal.nD Cert.Ff2Ideal.τ).loc Cert.Ff2Ideal.main_arg2)
      ∧ r.2.mem ((c.tc : Thread Cert.Ff2Ideal.nD Cert.Ff2Ideal.τ).loc Cert.Ff2Ideal.main_arg3) = m ((c.tc : Thread Cert.Ff2Ideal.nD Cert.Ff2Ideal.τ).loc Cert.Ff2Ideal.main_arg3))
      ∧ r.2.sem = fun _ => 0)

def quiescent_RefFf2Ideal [hRefFf2Ideal : Cert.RefFf2Ideal.Facts] : Prop :=
  ∀ (m : (ℓ : Loc Cert.RefFf2Ideal.nD Cert.RefFf2Ideal.τ Cert.RefFf2Ideal.sig) → Buf (Elt Ideal) ℓ) (g : Dev Cert.RefFf2Ideal.nD → PrngReg), Pre_RefFf2Ideal m →
    θ_run (Cert.RefFf2Ideal.defs (F := Ideal)) (onTc (τ := Cert.RefFf2Ideal.τ) (Cert.RefFf2Ideal.main (F := Ideal))) ⟨m, fun _ => 0, g⟩ (fun r => (∀ c : Dev Cert.RefFf2Ideal.nD,
      r.2.mem ((c.tc : Thread Cert.RefFf2Ideal.nD Cert.RefFf2Ideal.τ).loc Cert.RefFf2Ideal.main_arg0) = m ((c.tc : Thread Cert.RefFf2Ideal.nD Cert.RefFf2Ideal.τ).loc Cert.RefFf2Ideal.main_arg0)
      ∧ r.2.mem ((c.tc : Thread Cert.RefFf2Ideal.nD Cert.RefFf2Ideal.τ).loc Cert.RefFf2Ideal.main_arg1) = m ((c.tc : Thread Cert.RefFf2Ideal.nD Cert.RefFf2Ideal.τ).loc Cert.RefFf2Ideal.main_arg1)
      ∧ r.2.mem ((c.tc : Thread Cert.RefFf2Ideal.nD Cert.RefFf2Ideal.τ).loc Cert.RefFf2Ideal.main_arg2) = m ((c.tc : Thread Cert.RefFf2Ideal.nD Cert.RefFf2Ideal.τ).loc Cert.RefFf2Ideal.main_arg2)
      ∧ r.2.mem ((c.tc : Thread Cert.RefFf2Ideal.nD Cert.RefFf2Ideal.τ).loc Cert.RefFf2Ideal.main_arg3) = m ((c.tc : Thread Cert.RefFf2Ideal.nD Cert.RefFf2Ideal.τ).loc Cert.RefFf2Ideal.main_arg3))
      ∧ r.2.sem = fun _ => 0)

def quiescent_Dh2 [hDh2 : Cert.Dh2.Facts] : Prop :=
  ∀ (m : (ℓ : Loc Cert.Dh2.nD Cert.Dh2.τ Cert.Dh2.sig) → Buf (Elt Bits) ℓ) (g : Dev Cert.Dh2.nD → PrngReg), Pre_Dh2 m →
    θ_run (Cert.Dh2.defs (F := Bits)) (onTc (τ := Cert.Dh2.τ) (Cert.Dh2.main (F := Bits))) ⟨m, fun _ => 0, g⟩ (fun r => (∀ c : Dev Cert.Dh2.nD,
      r.2.mem ((c.tc : Thread Cert.Dh2.nD Cert.Dh2.τ).loc Cert.Dh2.main_arg0) = m ((c.tc : Thread Cert.Dh2.nD Cert.Dh2.τ).loc Cert.Dh2.main_arg0)
      ∧ r.2.mem ((c.tc : Thread Cert.Dh2.nD Cert.Dh2.τ).loc Cert.Dh2.main_arg1) = m ((c.tc : Thread Cert.Dh2.nD Cert.Dh2.τ).loc Cert.Dh2.main_arg1)
      ∧ r.2.mem ((c.tc : Thread Cert.Dh2.nD Cert.Dh2.τ).loc Cert.Dh2.main_arg2) = m ((c.tc : Thread Cert.Dh2.nD Cert.Dh2.τ).loc Cert.Dh2.main_arg2)
      ∧ r.2.mem ((c.tc : Thread Cert.Dh2.nD Cert.Dh2.τ).loc Cert.Dh2.main_arg3) = m ((c.tc : Thread Cert.Dh2.nD Cert.Dh2.τ).loc Cert.Dh2.main_arg3)
      ∧ r.2.mem ((c.tc : Thread Cert.Dh2.nD Cert.Dh2.τ).loc Cert.Dh2.main_arg4) = m ((c.tc : Thread Cert.Dh2.nD Cert.Dh2.τ).loc Cert.Dh2.main_arg4)
      ∧ r.2.mem ((c.tc : Thread Cert.Dh2.nD Cert.Dh2.τ).loc Cert.Dh2.main_arg5) = m ((c.tc : Thread Cert.Dh2.nD Cert.Dh2.τ).loc Cert.Dh2.main_arg5))
      ∧ r.2.sem = fun _ => 0)

def quiescent_Dh2Ideal [hDh2Ideal : Cert.Dh2Ideal.Facts] : Prop :=
  ∀ (m : (ℓ : Loc Cert.Dh2Ideal.nD Cert.Dh2Ideal.τ Cert.Dh2Ideal.sig) → Buf (Elt Ideal) ℓ) (g : Dev Cert.Dh2Ideal.nD → PrngReg), Pre_Dh2Ideal m →
    θ_run (Cert.Dh2Ideal.defs (F := Ideal)) (onTc (τ := Cert.Dh2Ideal.τ) (Cert.Dh2Ideal.main (F := Ideal))) ⟨m, fun _ => 0, g⟩ (fun r => (∀ c : Dev Cert.Dh2Ideal.nD,
      r.2.mem ((c.tc : Thread Cert.Dh2Ideal.nD Cert.Dh2Ideal.τ).loc Cert.Dh2Ideal.main_arg0) = m ((c.tc : Thread Cert.Dh2Ideal.nD Cert.Dh2Ideal.τ).loc Cert.Dh2Ideal.main_arg0)
      ∧ r.2.mem ((c.tc : Thread Cert.Dh2Ideal.nD Cert.Dh2Ideal.τ).loc Cert.Dh2Ideal.main_arg1) = m ((c.tc : Thread Cert.Dh2Ideal.nD Cert.Dh2Ideal.τ).loc Cert.Dh2Ideal.main_arg1)
      ∧ r.2.mem ((c.tc : Thread Cert.Dh2Ideal.nD Cert.Dh2Ideal.τ).loc Cert.Dh2Ideal.main_arg2) = m ((c.tc : Thread Cert.Dh2Ideal.nD Cert.Dh2Ideal.τ).loc Cert.Dh2Ideal.main_arg2)
      ∧ r.2.mem ((c.tc : Thread Cert.Dh2Ideal.nD Cert.Dh2Ideal.τ).loc Cert.Dh2Ideal.main_arg3) = m ((c.tc : Thread Cert.Dh2Ideal.nD Cert.Dh2Ideal.τ).loc Cert.Dh2Ideal.main_arg3)
      ∧ r.2.mem ((c.tc : Thread Cert.Dh2Ideal.nD Cert.Dh2Ideal.τ).loc Cert.Dh2Ideal.main_arg4) = m ((c.tc : Thread Cert.Dh2Ideal.nD Cert.Dh2Ideal.τ).loc Cert.Dh2Ideal.main_arg4)
      ∧ r.2.mem ((c.tc : Thread Cert.Dh2Ideal.nD Cert.Dh2Ideal.τ).loc Cert.Dh2Ideal.main_arg5) = m ((c.tc : Thread Cert.Dh2Ideal.nD Cert.Dh2Ideal.τ).loc Cert.Dh2Ideal.main_arg5))
      ∧ r.2.sem = fun _ => 0)

def quiescent_RefDh2Ideal [hRefDh2Ideal : Cert.RefDh2Ideal.Facts] : Prop :=
  ∀ (m : (ℓ : Loc Cert.RefDh2Ideal.nD Cert.RefDh2Ideal.τ Cert.RefDh2Ideal.sig) → Buf (Elt Ideal) ℓ) (g : Dev Cert.RefDh2Ideal.nD → PrngReg), Pre_RefDh2Ideal m →
    θ_run (Cert.RefDh2Ideal.defs (F := Ideal)) (onTc (τ := Cert.RefDh2Ideal.τ) (Cert.RefDh2Ideal.main (F := Ideal))) ⟨m, fun _ => 0, g⟩ (fun r => (∀ c : Dev Cert.RefDh2Ideal.nD,
      r.2.mem ((c.tc : Thread Cert.RefDh2Ideal.nD Cert.RefDh2Ideal.τ).loc Cert.RefDh2Ideal.main_arg0) = m ((c.tc : Thread Cert.RefDh2Ideal.nD Cert.RefDh2Ideal.τ).loc Cert.RefDh2Ideal.main_arg0)
      ∧ r.2.mem ((c.tc : Thread Cert.RefDh2Ideal.nD Cert.RefDh2Ideal.τ).loc Cert.RefDh2Ideal.main_arg1) = m ((c.tc : Thread Cert.RefDh2Ideal.nD Cert.RefDh2Ideal.τ).loc Cert.RefDh2Ideal.main_arg1)
      ∧ r.2.mem ((c.tc : Thread Cert.RefDh2Ideal.nD Cert.RefDh2Ideal.τ).loc Cert.RefDh2Ideal.main_arg2) = m ((c.tc : Thread Cert.RefDh2Ideal.nD Cert.RefDh2Ideal.τ).loc Cert.RefDh2Ideal.main_arg2)
      ∧ r.2.mem ((c.tc : Thread Cert.RefDh2Ideal.nD Cert.RefDh2Ideal.τ).loc Cert.RefDh2Ideal.main_arg3) = m ((c.tc : Thread Cert.RefDh2Ideal.nD Cert.RefDh2Ideal.τ).loc Cert.RefDh2Ideal.main_arg3)
      ∧ r.2.mem ((c.tc : Thread Cert.RefDh2Ideal.nD Cert.RefDh2Ideal.τ).loc Cert.RefDh2Ideal.main_arg4) = m ((c.tc : Thread Cert.RefDh2Ideal.nD Cert.RefDh2Ideal.τ).loc Cert.RefDh2Ideal.main_arg4)
      ∧ r.2.mem ((c.tc : Thread Cert.RefDh2Ideal.nD Cert.RefDh2Ideal.τ).loc Cert.RefDh2Ideal.main_arg5) = m ((c.tc : Thread Cert.RefDh2Ideal.nD Cert.RefDh2Ideal.τ).loc Cert.RefDh2Ideal.main_arg5))
      ∧ r.2.sem = fun _ => 0)

def quiescent_Pdt [hPdt : Cert.Pdt.Facts] : Prop :=
  ∀ (m : (ℓ : Loc Cert.Pdt.nD Cert.Pdt.τ Cert.Pdt.sig) → Buf (Elt Bits) ℓ) (g : Dev Cert.Pdt.nD → PrngReg), Pre_Pdt m →
    θ_run (Cert.Pdt.defs (F := Bits)) (onTc (τ := Cert.Pdt.τ) (Cert.Pdt.main (F := Bits))) ⟨m, fun _ => 0, g⟩ (fun r => (∀ c : Dev Cert.Pdt.nD,
      r.2.mem ((c.tc : Thread Cert.Pdt.nD Cert.Pdt.τ).loc Cert.Pdt.main_arg0) = m ((c.tc : Thread Cert.Pdt.nD Cert.Pdt.τ).loc Cert.Pdt.main_arg0)
      ∧ r.2.mem ((c.tc : Thread Cert.Pdt.nD Cert.Pdt.τ).loc Cert.Pdt.main_arg1) = m ((c.tc : Thread Cert.Pdt.nD Cert.Pdt.τ).loc Cert.Pdt.main_arg1))
      ∧ r.2.sem = fun _ => 0)

def quiescent_PdtIdeal [hPdtIdeal : Cert.PdtIdeal.Facts] : Prop :=
  ∀ (m : (ℓ : Loc Cert.PdtIdeal.nD Cert.PdtIdeal.τ Cert.PdtIdeal.sig) → Buf (Elt Ideal) ℓ) (g : Dev Cert.PdtIdeal.nD → PrngReg), Pre_PdtIdeal m →
    θ_run (Cert.PdtIdeal.defs (F := Ideal)) (onTc (τ := Cert.PdtIdeal.τ) (Cert.PdtIdeal.main (F := Ideal))) ⟨m, fun _ => 0, g⟩ (fun r => (∀ c : Dev Cert.PdtIdeal.nD,
      r.2.mem ((c.tc : Thread Cert.PdtIdeal.nD Cert.PdtIdeal.τ).loc Cert.PdtIdeal.main_arg0) = m ((c.tc : Thread Cert.PdtIdeal.nD Cert.PdtIdeal.τ).loc Cert.PdtIdeal.main_arg0)
      ∧ r.2.mem ((c.tc : Thread Cert.PdtIdeal.nD Cert.PdtIdeal.τ).loc Cert.PdtIdeal.main_arg1) = m ((c.tc : Thread Cert.PdtIdeal.nD Cert.PdtIdeal.τ).loc Cert.PdtIdeal.main_arg1))
      ∧ r.2.sem = fun _ => 0)

def quiescent_RefPdtIdeal [hRefPdtIdeal : Cert.RefPdtIdeal.Facts] : Prop :=
  ∀ (m : (ℓ : Loc Cert.RefPdtIdeal.nD Cert.RefPdtIdeal.τ Cert.RefPdtIdeal.sig) → Buf (Elt Ideal) ℓ) (g : Dev Cert.RefPdtIdeal.nD → PrngReg), Pre_RefPdtIdeal m →
    θ_run (Cert.RefPdtIdeal.defs (F := Ideal)) (onTc (τ := Cert.RefPdtIdeal.τ) (Cert.RefPdtIdeal.main (F := Ideal))) ⟨m, fun _ => 0, g⟩ (fun r => (∀ c : Dev Cert.RefPdtIdeal.nD,
      r.2.mem ((c.tc : Thread Cert.RefPdtIdeal.nD Cert.RefPdtIdeal.τ).loc Cert.RefPdtIdeal.main_arg0) = m ((c.tc : Thread Cert.RefPdtIdeal.nD Cert.RefPdtIdeal.τ).loc Cert.RefPdtIdeal.main_arg0)
      ∧ r.2.mem ((c.tc : Thread Cert.RefPdtIdeal.nD Cert.RefPdtIdeal.τ).loc Cert.RefPdtIdeal.main_arg1) = m ((c.tc : Thread Cert.RefPdtIdeal.nD Cert.RefPdtIdeal.τ).loc Cert.RefPdtIdeal.main_arg1))
      ∧ r.2.sem = fun _ => 0)

def quiescent_Gwdt [hGwdt : Cert.Gwdt.Facts] : Prop :=
  ∀ (m : (ℓ : Loc Cert.Gwdt.nD Cert.Gwdt.τ Cert.Gwdt.sig) → Buf (Elt Bits) ℓ) (g : Dev Cert.Gwdt.nD → PrngReg), Pre_Gwdt m →
    θ_run (Cert.Gwdt.defs (F := Bits)) (onTc (τ := Cert.Gwdt.τ) (Cert.Gwdt.main (F := Bits))) ⟨m, fun _ => 0, g⟩ (fun r => (∀ c : Dev Cert.Gwdt.nD,
      r.2.mem ((c.tc : Thread Cert.Gwdt.nD Cert.Gwdt.τ).loc Cert.Gwdt.main_arg0) = m ((c.tc : Thread Cert.Gwdt.nD Cert.Gwdt.τ).loc Cert.Gwdt.main_arg0)
      ∧ r.2.mem ((c.tc : Thread Cert.Gwdt.nD Cert.Gwdt.τ).loc Cert.Gwdt.main_arg1) = m ((c.tc : Thread Cert.Gwdt.nD Cert.Gwdt.τ).loc Cert.Gwdt.main_arg1))
      ∧ r.2.sem = fun _ => 0)

def quiescent_GwdtIdeal [hGwdtIdeal : Cert.GwdtIdeal.Facts] : Prop :=
  ∀ (m : (ℓ : Loc Cert.GwdtIdeal.nD Cert.GwdtIdeal.τ Cert.GwdtIdeal.sig) → Buf (Elt Ideal) ℓ) (g : Dev Cert.GwdtIdeal.nD → PrngReg), Pre_GwdtIdeal m →
    θ_run (Cert.GwdtIdeal.defs (F := Ideal)) (onTc (τ := Cert.GwdtIdeal.τ) (Cert.GwdtIdeal.main (F := Ideal))) ⟨m, fun _ => 0, g⟩ (fun r => (∀ c : Dev Cert.GwdtIdeal.nD,
      r.2.mem ((c.tc : Thread Cert.GwdtIdeal.nD Cert.GwdtIdeal.τ).loc Cert.GwdtIdeal.main_arg0) = m ((c.tc : Thread Cert.GwdtIdeal.nD Cert.GwdtIdeal.τ).loc Cert.GwdtIdeal.main_arg0)
      ∧ r.2.mem ((c.tc : Thread Cert.GwdtIdeal.nD Cert.GwdtIdeal.τ).loc Cert.GwdtIdeal.main_arg1) = m ((c.tc : Thread Cert.GwdtIdeal.nD Cert.GwdtIdeal.τ).loc Cert.GwdtIdeal.main_arg1))
      ∧ r.2.sem = fun _ => 0)

def quiescent_RefGwdtIdeal [hRefGwdtIdeal : Cert.RefGwdtIdeal.Facts] : Prop :=
  ∀ (m : (ℓ : Loc Cert.RefGwdtIdeal.nD Cert.RefGwdtIdeal.τ Cert.RefGwdtIdeal.sig) → Buf (Elt Ideal) ℓ) (g : Dev Cert.RefGwdtIdeal.nD → PrngReg), Pre_RefGwdtIdeal m →
    θ_run (Cert.RefGwdtIdeal.defs (F := Ideal)) (onTc (τ := Cert.RefGwdtIdeal.τ) (Cert.RefGwdtIdeal.main (F := Ideal))) ⟨m, fun _ => 0, g⟩ (fun r => (∀ c : Dev Cert.RefGwdtIdeal.nD,
      r.2.mem ((c.tc : Thread Cert.RefGwdtIdeal.nD Cert.RefGwdtIdeal.τ).loc Cert.RefGwdtIdeal.main_arg0) = m ((c.tc : Thread Cert.RefGwdtIdeal.nD Cert.RefGwdtIdeal.τ).loc Cert.RefGwdtIdeal.main_arg0)
      ∧ r.2.mem ((c.tc : Thread Cert.RefGwdtIdeal.nD Cert.RefGwdtIdeal.τ).loc Cert.RefGwdtIdeal.main_arg1) = m ((c.tc : Thread Cert.RefGwdtIdeal.nD Cert.RefGwdtIdeal.τ).loc Cert.RefGwdtIdeal.main_arg1))
      ∧ r.2.sem = fun _ => 0)

def quiescent_Dh1dt [hDh1dt : Cert.Dh1dt.Facts] : Prop :=
  ∀ (m : (ℓ : Loc Cert.Dh1dt.nD Cert.Dh1dt.τ Cert.Dh1dt.sig) → Buf (Elt Bits) ℓ) (g : Dev Cert.Dh1dt.nD → PrngReg), Pre_Dh1dt m →
    θ_run (Cert.Dh1dt.defs (F := Bits)) (onTc (τ := Cert.Dh1dt.τ) (Cert.Dh1dt.main (F := Bits))) ⟨m, fun _ => 0, g⟩ (fun r => (∀ c : Dev Cert.Dh1dt.nD,
      r.2.mem ((c.tc : Thread Cert.Dh1dt.nD Cert.Dh1dt.τ).loc Cert.Dh1dt.main_arg0) = m ((c.tc : Thread Cert.Dh1dt.nD Cert.Dh1dt.τ).loc Cert.Dh1dt.main_arg0)
      ∧ r.2.mem ((c.tc : Thread Cert.Dh1dt.nD Cert.Dh1dt.τ).loc Cert.Dh1dt.main_arg1) = m ((c.tc : Thread Cert.Dh1dt.nD Cert.Dh1dt.τ).loc Cert.Dh1dt.main_arg1)
      ∧ r.2.mem ((c.tc : Thread Cert.Dh1dt.nD Cert.Dh1dt.τ).loc Cert.Dh1dt.main_arg2) = m ((c.tc : Thread Cert.Dh1dt.nD Cert.Dh1dt.τ).loc Cert.Dh1dt.main_arg2)
      ∧ r.2.mem ((c.tc : Thread Cert.Dh1dt.nD Cert.Dh1dt.τ).loc Cert.Dh1dt.main_arg3) = m ((c.tc : Thread Cert.Dh1dt.nD Cert.Dh1dt.τ).loc Cert.Dh1dt.main_arg3)
      ∧ r.2.mem ((c.tc : Thread Cert.Dh1dt.nD Cert.Dh1dt.τ).loc Cert.Dh1dt.main_arg4) = m ((c.tc : Thread Cert.Dh1dt.nD Cert.Dh1dt.τ).loc Cert.Dh1dt.main_arg4)
      ∧ r.2.mem ((c.tc : Thread Cert.Dh1dt.nD Cert.Dh1dt.τ).loc Cert.Dh1dt.main_arg5) = m ((c.tc : Thread Cert.Dh1dt.nD Cert.Dh1dt.τ).loc Cert.Dh1dt.main_arg5)
      ∧ r.2.mem ((c.tc : Thread Cert.Dh1dt.nD Cert.Dh1dt.τ).loc Cert.Dh1dt.main_arg6) = m ((c.tc : Thread Cert.Dh1dt.nD Cert.Dh1dt.τ).loc Cert.Dh1dt.main_arg6))
      ∧ r.2.sem = fun _ => 0)

def quiescent_Dh1dtIdeal [hDh1dtIdeal : Cert.Dh1dtIdeal.Facts] : Prop :=
  ∀ (m : (ℓ : Loc Cert.Dh1dtIdeal.nD Cert.Dh1dtIdeal.τ Cert.Dh1dtIdeal.sig) → Buf (Elt Ideal) ℓ) (g : Dev Cert.Dh1dtIdeal.nD → PrngReg), Pre_Dh1dtIdeal m →
    θ_run (Cert.Dh1dtIdeal.defs (F := Ideal)) (onTc (τ := Cert.Dh1dtIdeal.τ) (Cert.Dh1dtIdeal.main (F := Ideal))) ⟨m, fun _ => 0, g⟩ (fun r => (∀ c : Dev Cert.Dh1dtIdeal.nD,
      r.2.mem ((c.tc : Thread Cert.Dh1dtIdeal.nD Cert.Dh1dtIdeal.τ).loc Cert.Dh1dtIdeal.main_arg0) = m ((c.tc : Thread Cert.Dh1dtIdeal.nD Cert.Dh1dtIdeal.τ).loc Cert.Dh1dtIdeal.main_arg0)
      ∧ r.2.mem ((c.tc : Thread Cert.Dh1dtIdeal.nD Cert.Dh1dtIdeal.τ).loc Cert.Dh1dtIdeal.main_arg1) = m ((c.tc : Thread Cert.Dh1dtIdeal.nD Cert.Dh1dtIdeal.τ).loc Cert.Dh1dtIdeal.main_arg1)
      ∧ r.2.mem ((c.tc : Thread Cert.Dh1dtIdeal.nD Cert.Dh1dtIdeal.τ).loc Cert.Dh1dtIdeal.main_arg2) = m ((c.tc : Thread Cert.Dh1dtIdeal.nD Cert.Dh1dtIdeal.τ).loc Cert.Dh1dtIdeal.main_arg2)
      ∧ r.2.mem ((c.tc : Thread Cert.Dh1dtIdeal.nD Cert.Dh1dtIdeal.τ).loc Cert.Dh1dtIdeal.main_arg3) = m ((c.tc : Thread Cert.Dh1dtIdeal.nD Cert.Dh1dtIdeal.τ).loc Cert.Dh1dtIdeal.main_arg3)
      ∧ r.2.mem ((c.tc : Thread Cert.Dh1dtIdeal.nD Cert.Dh1dtIdeal.τ).loc Cert.Dh1dtIdeal.main_arg4) = m ((c.tc : Thread Cert.Dh1dtIdeal.nD Cert.Dh1dtIdeal.τ).loc Cert.Dh1dtIdeal.main_arg4)
      ∧ r.2.mem ((c.tc : Thread Cert.Dh1dtIdeal.nD Cert.Dh1dtIdeal.τ).loc Cert.Dh1dtIdeal.main_arg5) = m ((c.tc : Thread Cert.Dh1dtIdeal.nD Cert.Dh1dtIdeal.τ).loc Cert.Dh1dtIdeal.main_arg5)
      ∧ r.2.mem ((c.tc : Thread Cert.Dh1dtIdeal.nD Cert.Dh1dtIdeal.τ).loc Cert.Dh1dtIdeal.main_arg6) = m ((c.tc : Thread Cert.Dh1dtIdeal.nD Cert.Dh1dtIdeal.τ).loc Cert.Dh1dtIdeal.main_arg6))
      ∧ r.2.sem = fun _ => 0)

def quiescent_RefDh1dtIdeal [hRefDh1dtIdeal : Cert.RefDh1dtIdeal.Facts] : Prop :=
  ∀ (m : (ℓ : Loc Cert.RefDh1dtIdeal.nD Cert.RefDh1dtIdeal.τ Cert.RefDh1dtIdeal.sig) → Buf (Elt Ideal) ℓ) (g : Dev Cert.RefDh1dtIdeal.nD → PrngReg), Pre_RefDh1dtIdeal m →
    θ_run (Cert.RefDh1dtIdeal.defs (F := Ideal)) (onTc (τ := Cert.RefDh1dtIdeal.τ) (Cert.RefDh1dtIdeal.main (F := Ideal))) ⟨m, fun _ => 0, g⟩ (fun r => (∀ c : Dev Cert.RefDh1dtIdeal.nD,
      r.2.mem ((c.tc : Thread Cert.RefDh1dtIdeal.nD Cert.RefDh1dtIdeal.τ).loc Cert.RefDh1dtIdeal.main_arg0) = m ((c.tc : Thread Cert.RefDh1dtIdeal.nD Cert.RefDh1dtIdeal.τ).loc Cert.RefDh1dtIdeal.main_arg0)
      ∧ r.2.mem ((c.tc : Thread Cert.RefDh1dtIdeal.nD Cert.RefDh1dtIdeal.τ).loc Cert.RefDh1dtIdeal.main_arg1) = m ((c.tc : Thread Cert.RefDh1dtIdeal.nD Cert.RefDh1dtIdeal.τ).loc Cert.RefDh1dtIdeal.main_arg1)
      ∧ r.2.mem ((c.tc : Thread Cert.RefDh1dtIdeal.nD Cert.RefDh1dtIdeal.τ).loc Cert.RefDh1dtIdeal.main_arg2) = m ((c.tc : Thread Cert.RefDh1dtIdeal.nD Cert.RefDh1dtIdeal.τ).loc Cert.RefDh1dtIdeal.main_arg2)
      ∧ r.2.mem ((c.tc : Thread Cert.RefDh1dtIdeal.nD Cert.RefDh1dtIdeal.τ).loc Cert.RefDh1dtIdeal.main_arg3) = m ((c.tc : Thread Cert.RefDh1dtIdeal.nD Cert.RefDh1dtIdeal.τ).loc Cert.RefDh1dtIdeal.main_arg3)
      ∧ r.2.mem ((c.tc : Thread Cert.RefDh1dtIdeal.nD Cert.RefDh1dtIdeal.τ).loc Cert.RefDh1dtIdeal.main_arg4) = m ((c.tc : Thread Cert.RefDh1dtIdeal.nD Cert.RefDh1dtIdeal.τ).loc Cert.RefDh1dtIdeal.main_arg4)
      ∧ r.2.mem ((c.tc : Thread Cert.RefDh1dtIdeal.nD Cert.RefDh1dtIdeal.τ).loc Cert.RefDh1dtIdeal.main_arg5) = m ((c.tc : Thread Cert.RefDh1dtIdeal.nD Cert.RefDh1dtIdeal.τ).loc Cert.RefDh1dtIdeal.main_arg5)
      ∧ r.2.mem ((c.tc : Thread Cert.RefDh1dtIdeal.nD Cert.RefDh1dtIdeal.τ).loc Cert.RefDh1dtIdeal.main_arg6) = m ((c.tc : Thread Cert.RefDh1dtIdeal.nD Cert.RefDh1dtIdeal.τ).loc Cert.RefDh1dtIdeal.main_arg6))
      ∧ r.2.sem = fun _ => 0)

def quiescent_AdamSmall [hAdamSmall : Cert.AdamSmall.Facts] : Prop :=
  ∀ (m : (ℓ : Loc Cert.AdamSmall.nD Cert.AdamSmall.τ Cert.AdamSmall.sig) → Buf (Elt Bits) ℓ) (g : Dev Cert.AdamSmall.nD → PrngReg), Pre_AdamSmall m →
    θ_run (Cert.AdamSmall.defs (F := Bits)) (onTc (τ := Cert.AdamSmall.τ) (Cert.AdamSmall.main (F := Bits))) ⟨m, fun _ => 0, g⟩ (fun r => (∀ c : Dev Cert.AdamSmall.nD,
      r.2.mem ((c.tc : Thread Cert.AdamSmall.nD Cert.AdamSmall.τ).loc Cert.AdamSmall.main_arg0) = m ((c.tc : Thread Cert.AdamSmall.nD Cert.AdamSmall.τ).loc Cert.AdamSmall.main_arg0)
      ∧ r.2.mem ((c.tc : Thread Cert.AdamSmall.nD Cert.AdamSmall.τ).loc Cert.AdamSmall.main_arg1) = m ((c.tc : Thread Cert.AdamSmall.nD Cert.AdamSmall.τ).loc Cert.AdamSmall.main_arg1)
      ∧ r.2.mem ((c.tc : Thread Cert.AdamSmall.nD Cert.AdamSmall.τ).loc Cert.AdamSmall.main_arg2) = m ((c.tc : Thread Cert.AdamSmall.nD Cert.AdamSmall.τ).loc Cert.AdamSmall.main_arg2)
      ∧ r.2.mem ((c.tc : Thread Cert.AdamSmall.nD Cert.AdamSmall.τ).loc Cert.AdamSmall.main_arg3) = m ((c.tc : Thread Cert.AdamSmall.nD Cert.AdamSmall.τ).loc Cert.AdamSmall.main_arg3)
      ∧ r.2.mem ((c.tc : Thread Cert.AdamSmall.nD Cert.AdamSmall.τ).loc Cert.AdamSmall.main_arg4) = m ((c.tc : Thread Cert.AdamSmall.nD Cert.AdamSmall.τ).loc Cert.AdamSmall.main_arg4)
      ∧ r.2.mem ((c.tc : Thread Cert.AdamSmall.nD Cert.AdamSmall.τ).loc Cert.AdamSmall.main_arg5) = m ((c.tc : Thread Cert.AdamSmall.nD Cert.AdamSmall.τ).loc Cert.AdamSmall.main_arg5)
      ∧ r.2.mem ((c.tc : Thread Cert.AdamSmall.nD Cert.AdamSmall.τ).loc Cert.AdamSmall.main_arg6) = m ((c.tc : Thread Cert.AdamSmall.nD Cert.AdamSmall.τ).loc Cert.AdamSmall.main_arg6)
      ∧ r.2.mem ((c.tc : Thread Cert.AdamSmall.nD Cert.AdamSmall.τ).loc Cert.AdamSmall.main_arg7) = m ((c.tc : Thread Cert.AdamSmall.nD Cert.AdamSmall.τ).loc Cert.AdamSmall.main_arg7)
      ∧ r.2.mem ((c.tc : Thread Cert.AdamSmall.nD Cert.AdamSmall.τ).loc Cert.AdamSmall.main_arg8) = m ((c.tc : Thread Cert.AdamSmall.nD Cert.AdamSmall.τ).loc Cert.AdamSmall.main_arg8)
      ∧ r.2.mem ((c.tc : Thread Cert.AdamSmall.nD Cert.AdamSmall.τ).loc Cert.AdamSmall.main_arg9) = m ((c.tc : Thread Cert.AdamSmall.nD Cert.AdamSmall.τ).loc Cert.AdamSmall.main_arg9)
      ∧ r.2.mem ((c.tc : Thread Cert.AdamSmall.nD Cert.AdamSmall.τ).loc Cert.AdamSmall.main_arg10) = m ((c.tc : Thread Cert.AdamSmall.nD Cert.AdamSmall.τ).loc Cert.AdamSmall.main_arg10)
      ∧ r.2.mem ((c.tc : Thread Cert.AdamSmall.nD Cert.AdamSmall.τ).loc Cert.AdamSmall.main_arg11) = m ((c.tc : Thread Cert.AdamSmall.nD Cert.AdamSmall.τ).loc Cert.AdamSmall.main_arg11)
      ∧ r.2.mem ((c.tc : Thread Cert.AdamSmall.nD Cert.AdamSmall.τ).loc Cert.AdamSmall.main_arg12) = m ((c.tc : Thread Cert.AdamSmall.nD Cert.AdamSmall.τ).loc Cert.AdamSmall.main_arg12)
      ∧ r.2.mem ((c.tc : Thread Cert.AdamSmall.nD Cert.AdamSmall.τ).loc Cert.AdamSmall.main_arg13) = m ((c.tc : Thread Cert.AdamSmall.nD Cert.AdamSmall.τ).loc Cert.AdamSmall.main_arg13)
      ∧ r.2.mem ((c.tc : Thread Cert.AdamSmall.nD Cert.AdamSmall.τ).loc Cert.AdamSmall.main_arg14) = m ((c.tc : Thread Cert.AdamSmall.nD Cert.AdamSmall.τ).loc Cert.AdamSmall.main_arg14)
      ∧ r.2.mem ((c.tc : Thread Cert.AdamSmall.nD Cert.AdamSmall.τ).loc Cert.AdamSmall.main_arg15) = m ((c.tc : Thread Cert.AdamSmall.nD Cert.AdamSmall.τ).loc Cert.AdamSmall.main_arg15)
      ∧ r.2.mem ((c.tc : Thread Cert.AdamSmall.nD Cert.AdamSmall.τ).loc Cert.AdamSmall.main_arg16) = m ((c.tc : Thread Cert.AdamSmall.nD Cert.AdamSmall.τ).loc Cert.AdamSmall.main_arg16)
      ∧ r.2.mem ((c.tc : Thread Cert.AdamSmall.nD Cert.AdamSmall.τ).loc Cert.AdamSmall.main_arg17) = m ((c.tc : Thread Cert.AdamSmall.nD Cert.AdamSmall.τ).loc Cert.AdamSmall.main_arg17)
      ∧ r.2.mem ((c.tc : Thread Cert.AdamSmall.nD Cert.AdamSmall.τ).loc Cert.AdamSmall.main_arg18) = m ((c.tc : Thread Cert.AdamSmall.nD Cert.AdamSmall.τ).loc Cert.AdamSmall.main_arg18)
      ∧ r.2.mem ((c.tc : Thread Cert.AdamSmall.nD Cert.AdamSmall.τ).loc Cert.AdamSmall.main_arg19) = m ((c.tc : Thread Cert.AdamSmall.nD Cert.AdamSmall.τ).loc Cert.AdamSmall.main_arg19)
      ∧ r.2.mem ((c.tc : Thread Cert.AdamSmall.nD Cert.AdamSmall.τ).loc Cert.AdamSmall.main_arg20) = m ((c.tc : Thread Cert.AdamSmall.nD Cert.AdamSmall.τ).loc Cert.AdamSmall.main_arg20)
      ∧ r.2.mem ((c.tc : Thread Cert.AdamSmall.nD Cert.AdamSmall.τ).loc Cert.AdamSmall.main_arg21) = m ((c.tc : Thread Cert.AdamSmall.nD Cert.AdamSmall.τ).loc Cert.AdamSmall.main_arg21)
      ∧ r.2.mem ((c.tc : Thread Cert.AdamSmall.nD Cert.AdamSmall.τ).loc Cert.AdamSmall.main_arg22) = m ((c.tc : Thread Cert.AdamSmall.nD Cert.AdamSmall.τ).loc Cert.AdamSmall.main_arg22)
      ∧ r.2.mem ((c.tc : Thread Cert.AdamSmall.nD Cert.AdamSmall.τ).loc Cert.AdamSmall.main_arg23) = m ((c.tc : Thread Cert.AdamSmall.nD Cert.AdamSmall.τ).loc Cert.AdamSmall.main_arg23)
      ∧ r.2.mem ((c.tc : Thread Cert.AdamSmall.nD Cert.AdamSmall.τ).loc Cert.AdamSmall.main_arg24) = m ((c.tc : Thread Cert.AdamSmall.nD Cert.AdamSmall.τ).loc Cert.AdamSmall.main_arg24)
      ∧ r.2.mem ((c.tc : Thread Cert.AdamSmall.nD Cert.AdamSmall.τ).loc Cert.AdamSmall.main_arg25) = m ((c.tc : Thread Cert.AdamSmall.nD Cert.AdamSmall.τ).loc Cert.AdamSmall.main_arg25)
      ∧ r.2.mem ((c.tc : Thread Cert.AdamSmall.nD Cert.AdamSmall.τ).loc Cert.AdamSmall.main_arg26) = m ((c.tc : Thread Cert.AdamSmall.nD Cert.AdamSmall.τ).loc Cert.AdamSmall.main_arg26)
      ∧ r.2.mem ((c.tc : Thread Cert.AdamSmall.nD Cert.AdamSmall.τ).loc Cert.AdamSmall.main_arg27) = m ((c.tc : Thread Cert.AdamSmall.nD Cert.AdamSmall.τ).loc Cert.AdamSmall.main_arg27)
      ∧ r.2.mem ((c.tc : Thread Cert.AdamSmall.nD Cert.AdamSmall.τ).loc Cert.AdamSmall.main_arg28) = m ((c.tc : Thread Cert.AdamSmall.nD Cert.AdamSmall.τ).loc Cert.AdamSmall.main_arg28)
      ∧ r.2.mem ((c.tc : Thread Cert.AdamSmall.nD Cert.AdamSmall.τ).loc Cert.AdamSmall.main_arg29) = m ((c.tc : Thread Cert.AdamSmall.nD Cert.AdamSmall.τ).loc Cert.AdamSmall.main_arg29)
      ∧ r.2.mem ((c.tc : Thread Cert.AdamSmall.nD Cert.AdamSmall.τ).loc Cert.AdamSmall.main_arg30) = m ((c.tc : Thread Cert.AdamSmall.nD Cert.AdamSmall.τ).loc Cert.AdamSmall.main_arg30)
      ∧ r.2.mem ((c.tc : Thread Cert.AdamSmall.nD Cert.AdamSmall.τ).loc Cert.AdamSmall.main_arg31) = m ((c.tc : Thread Cert.AdamSmall.nD Cert.AdamSmall.τ).loc Cert.AdamSmall.main_arg31)
      ∧ r.2.mem ((c.tc : Thread Cert.AdamSmall.nD Cert.AdamSmall.τ).loc Cert.AdamSmall.main_arg32) = m ((c.tc : Thread Cert.AdamSmall.nD Cert.AdamSmall.τ).loc Cert.AdamSmall.main_arg32)
      ∧ r.2.mem ((c.tc : Thread Cert.AdamSmall.nD Cert.AdamSmall.τ).loc Cert.AdamSmall.main_arg33) = m ((c.tc : Thread Cert.AdamSmall.nD Cert.AdamSmall.τ).loc Cert.AdamSmall.main_arg33)
      ∧ r.2.mem ((c.tc : Thread Cert.AdamSmall.nD Cert.AdamSmall.τ).loc Cert.AdamSmall.main_arg34) = m ((c.tc : Thread Cert.AdamSmall.nD Cert.AdamSmall.τ).loc Cert.AdamSmall.main_arg34)
      ∧ r.2.mem ((c.tc : Thread Cert.AdamSmall.nD Cert.AdamSmall.τ).loc Cert.AdamSmall.main_arg35) = m ((c.tc : Thread Cert.AdamSmall.nD Cert.AdamSmall.τ).loc Cert.AdamSmall.main_arg35)
      ∧ r.2.mem ((c.tc : Thread Cert.AdamSmall.nD Cert.AdamSmall.τ).loc Cert.AdamSmall.main_arg36) = m ((c.tc : Thread Cert.AdamSmall.nD Cert.AdamSmall.τ).loc Cert.AdamSmall.main_arg36)
      ∧ r.2.mem ((c.tc : Thread Cert.AdamSmall.nD Cert.AdamSmall.τ).loc Cert.AdamSmall.main_arg37) = m ((c.tc : Thread Cert.AdamSmall.nD Cert.AdamSmall.τ).loc Cert.AdamSmall.main_arg37)
      ∧ r.2.mem ((c.tc : Thread Cert.AdamSmall.nD Cert.AdamSmall.τ).loc Cert.AdamSmall.main_arg38) = m ((c.tc : Thread Cert.AdamSmall.nD Cert.AdamSmall.τ).loc Cert.AdamSmall.main_arg38)
      ∧ r.2.mem ((c.tc : Thread Cert.AdamSmall.nD Cert.AdamSmall.τ).loc Cert.AdamSmall.main_arg39) = m ((c.tc : Thread Cert.AdamSmall.nD Cert.AdamSmall.τ).loc Cert.AdamSmall.main_arg39)
      ∧ r.2.mem ((c.tc : Thread Cert.AdamSmall.nD Cert.AdamSmall.τ).loc Cert.AdamSmall.main_arg40) = m ((c.tc : Thread Cert.AdamSmall.nD Cert.AdamSmall.τ).loc Cert.AdamSmall.main_arg40)
      ∧ r.2.mem ((c.tc : Thread Cert.AdamSmall.nD Cert.AdamSmall.τ).loc Cert.AdamSmall.main_arg41) = m ((c.tc : Thread Cert.AdamSmall.nD Cert.AdamSmall.τ).loc Cert.AdamSmall.main_arg41)
      ∧ r.2.mem ((c.tc : Thread Cert.AdamSmall.nD Cert.AdamSmall.τ).loc Cert.AdamSmall.main_arg42) = m ((c.tc : Thread Cert.AdamSmall.nD Cert.AdamSmall.τ).loc Cert.AdamSmall.main_arg42)
      ∧ r.2.mem ((c.tc : Thread Cert.AdamSmall.nD Cert.AdamSmall.τ).loc Cert.AdamSmall.main_arg43) = m ((c.tc : Thread Cert.AdamSmall.nD Cert.AdamSmall.τ).loc Cert.AdamSmall.main_arg43)
      ∧ r.2.mem ((c.tc : Thread Cert.AdamSmall.nD Cert.AdamSmall.τ).loc Cert.AdamSmall.main_arg44) = m ((c.tc : Thread Cert.AdamSmall.nD Cert.AdamSmall.τ).loc Cert.AdamSmall.main_arg44)
      ∧ r.2.mem ((c.tc : Thread Cert.AdamSmall.nD Cert.AdamSmall.τ).loc Cert.AdamSmall.main_arg45) = m ((c.tc : Thread Cert.AdamSmall.nD Cert.AdamSmall.τ).loc Cert.AdamSmall.main_arg45)
      ∧ r.2.mem ((c.tc : Thread Cert.AdamSmall.nD Cert.AdamSmall.τ).loc Cert.AdamSmall.main_arg46) = m ((c.tc : Thread Cert.AdamSmall.nD Cert.AdamSmall.τ).loc Cert.AdamSmall.main_arg46)
      ∧ r.2.mem ((c.tc : Thread Cert.AdamSmall.nD Cert.AdamSmall.τ).loc Cert.AdamSmall.main_arg47) = m ((c.tc : Thread Cert.AdamSmall.nD Cert.AdamSmall.τ).loc Cert.AdamSmall.main_arg47)
      ∧ r.2.mem ((c.tc : Thread Cert.AdamSmall.nD Cert.AdamSmall.τ).loc Cert.AdamSmall.main_arg48) = m ((c.tc : Thread Cert.AdamSmall.nD Cert.AdamSmall.τ).loc Cert.AdamSmall.main_arg48)
      ∧ r.2.mem ((c.tc : Thread Cert.AdamSmall.nD Cert.AdamSmall.τ).loc Cert.AdamSmall.main_arg49) = m ((c.tc : Thread Cert.AdamSmall.nD Cert.AdamSmall.τ).loc Cert.AdamSmall.main_arg49)
      ∧ r.2.mem ((c.tc : Thread Cert.AdamSmall.nD Cert.AdamSmall.τ).loc Cert.AdamSmall.main_arg50) = m ((c.tc : Thread Cert.AdamSmall.nD Cert.AdamSmall.τ).loc Cert.AdamSmall.main_arg50)
      ∧ r.2.mem ((c.tc : Thread Cert.AdamSmall.nD Cert.AdamSmall.τ).loc Cert.AdamSmall.main_arg51) = m ((c.tc : Thread Cert.AdamSmall.nD Cert.AdamSmall.τ).loc Cert.AdamSmall.main_arg51)
      ∧ r.2.mem ((c.tc : Thread Cert.AdamSmall.nD Cert.AdamSmall.τ).loc Cert.AdamSmall.main_arg52) = m ((c.tc : Thread Cert.AdamSmall.nD Cert.AdamSmall.τ).loc Cert.AdamSmall.main_arg52)
      ∧ r.2.mem ((c.tc : Thread Cert.AdamSmall.nD Cert.AdamSmall.τ).loc Cert.AdamSmall.main_arg53) = m ((c.tc : Thread Cert.AdamSmall.nD Cert.AdamSmall.τ).loc Cert.AdamSmall.main_arg53)
      ∧ r.2.mem ((c.tc : Thread Cert.AdamSmall.nD Cert.AdamSmall.τ).loc Cert.AdamSmall.main_arg54) = m ((c.tc : Thread Cert.AdamSmall.nD Cert.AdamSmall.τ).loc Cert.AdamSmall.main_arg54)
      ∧ r.2.mem ((c.tc : Thread Cert.AdamSmall.nD Cert.AdamSmall.τ).loc Cert.AdamSmall.main_arg55) = m ((c.tc : Thread Cert.AdamSmall.nD Cert.AdamSmall.τ).loc Cert.AdamSmall.main_arg55))
      ∧ r.2.sem = fun _ => 0)

def quiescent_AdamSmallIdeal [hAdamSmallIdeal : Cert.AdamSmallIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg), Pre_AdamSmallIdeal m →
    θ_run (Cert.AdamSmallIdeal.defs (F := Ideal)) (onTc (τ := Cert.AdamSmallIdeal.τ) (Cert.AdamSmallIdeal.main (F := Ideal))) ⟨m, fun _ => 0, g⟩ (fun r => (∀ c : Dev Cert.AdamSmallIdeal.nD,
      r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
      ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
      ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
      ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3)
      ∧ r.2.mem ((c.tc : Thread Cert.AdamSmallIdeal.nD Cert.AdamSmallIdeal.τ).loc Cert.AdamSmallIdeal.main_arg4) = m ((c.tc : Thread Cert.AdamSmallIdeal.nD Cert.AdamSmallIdeal.τ).loc Cert.AdamSmallIdeal.main_arg4)
      ∧ r.2.mem ((c.tc : Thread Cert.AdamSmallIdeal.nD Cert.AdamSmallIdeal.τ).loc Cert.AdamSmallIdeal.main_arg5) = m ((c.tc : Thread Cert.AdamSmallIdeal.nD Cert.AdamSmallIdeal.τ).loc Cert.AdamSmallIdeal.main_arg5)
      ∧ r.2.mem ((c.tc : Thread Cert.AdamSmallIdeal.nD Cert.AdamSmallIdeal.τ).loc Cert.AdamSmallIdeal.main_arg6) = m ((c.tc : Thread Cert.AdamSmallIdeal.nD Cert.AdamSmallIdeal.τ).loc Cert.AdamSmallIdeal.main_arg6)
      ∧ r.2.mem ((c.tc : Thread Cert.AdamSmallIdeal.nD Cert.AdamSmallIdeal.τ).loc Cert.AdamSmallIdeal.main_arg7) = m ((c.tc : Thread Cert.AdamSmallIdeal.nD Cert.AdamSmallIdeal.τ).loc Cert.AdamSmallIdeal.main_arg7)
      ∧ r.2.mem ((c.tc : Thread Cert.AdamSmallIdeal.nD Cert.AdamSmallIdeal.τ).loc Cert.AdamSmallIdeal.main_arg8) = m ((c.tc : Thread Cert.AdamSmallIdeal.nD Cert.AdamSmallIdeal.τ).loc Cert.AdamSmallIdeal.main_arg8)
      ∧ r.2.mem ((c.tc : Thread Cert.AdamSmallIdeal.nD Cert.AdamSmallIdeal.τ).loc Cert.AdamSmallIdeal.main_arg9) = m ((c.tc : Thread Cert.AdamSmallIdeal.nD Cert.AdamSmallIdeal.τ).loc Cert.AdamSmallIdeal.main_arg9)
      ∧ r.2.mem ((c.tc : Thread Cert.AdamSmallIdeal.nD Cert.AdamSmallIdeal.τ).loc Cert.AdamSmallIdeal.main_arg10) = m ((c.tc : Thread Cert.AdamSmallIdeal.nD Cert.AdamSmallIdeal.τ).loc Cert.AdamSmallIdeal.main_arg10)
      ∧ r.2.mem ((c.tc : Thread Cert.AdamSmallIdeal.nD Cert.AdamSmallIdeal.τ).loc Cert.AdamSmallIdeal.main_arg11) = m ((c.tc : Thread Cert.AdamSmallIdeal.nD Cert.AdamSmallIdeal.τ).loc Cert.AdamSmallIdeal.main_arg11)
      ∧ r.2.mem ((c.tc : Thread Cert.AdamSmallIdeal.nD Cert.AdamSmallIdeal.τ).loc Cert.AdamSmallIdeal.main_arg12) = m ((c.tc : Thread Cert.AdamSmallIdeal.nD Cert.AdamSmallIdeal.τ).loc Cert.AdamSmallIdeal.main_arg12)
      ∧ r.2.mem ((c.tc : Thread Cert.AdamSmallIdeal.nD Cert.AdamSmallIdeal.τ).loc Cert.AdamSmallIdeal.main_arg13) = m ((c.tc : Thread Cert.AdamSmallIdeal.nD Cert.AdamSmallIdeal.τ).loc Cert.AdamSmallIdeal.main_arg13)
      ∧ r.2.mem ((c.tc : Thread Cert.AdamSmallIdeal.nD Cert.AdamSmallIdeal.τ).loc Cert.AdamSmallIdeal.main_arg14) = m ((c.tc : Thread Cert.AdamSmallIdeal.nD Cert.AdamSmallIdeal.τ).loc Cert.AdamSmallIdeal.main_arg14)
      ∧ r.2.mem ((c.tc : Thread Cert.AdamSmallIdeal.nD Cert.AdamSmallIdeal.τ).loc Cert.AdamSmallIdeal.main_arg15) = m ((c.tc : Thread Cert.AdamSmallIdeal.nD Cert.AdamSmallIdeal.τ).loc Cert.AdamSmallIdeal.main_arg15)
      ∧ r.2.mem ((c.tc : Thread Cert.AdamSmallIdeal.nD Cert.AdamSmallIdeal.τ).loc Cert.AdamSmallIdeal.main_arg16) = m ((c.tc : Thread Cert.AdamSmallIdeal.nD Cert.AdamSmallIdeal.τ).loc Cert.AdamSmallIdeal.main_arg16)
      ∧ r.2.mem ((c.tc : Thread Cert.AdamSmallIdeal.nD Cert.AdamSmallIdeal.τ).loc Cert.AdamSmallIdeal.main_arg17) = m ((c.tc : Thread Cert.AdamSmallIdeal.nD Cert.AdamSmallIdeal.τ).loc Cert.AdamSmallIdeal.main_arg17)
      ∧ r.2.mem ((c.tc : Thread Cert.AdamSmallIdeal.nD Cert.AdamSmallIdeal.τ).loc Cert.AdamSmallIdeal.main_arg18) = m ((c.tc : Thread Cert.AdamSmallIdeal.nD Cert.AdamSmallIdeal.τ).loc Cert.AdamSmallIdeal.main_arg18)
      ∧ r.2.mem ((c.tc : Thread Cert.AdamSmallIdeal.nD Cert.AdamSmallIdeal.τ).loc Cert.AdamSmallIdeal.main_arg19) = m ((c.tc : Thread Cert.AdamSmallIdeal.nD Cert.AdamSmallIdeal.τ).loc Cert.AdamSmallIdeal.main_arg19)
      ∧ r.2.mem ((c.tc : Thread Cert.AdamSmallIdeal.nD Cert.AdamSmallIdeal.τ).loc Cert.AdamSmallIdeal.main_arg20) = m ((c.tc : Thread Cert.AdamSmallIdeal.nD Cert.AdamSmallIdeal.τ).loc Cert.AdamSmallIdeal.main_arg20)
      ∧ r.2.mem ((c.tc : Thread Cert.AdamSmallIdeal.nD Cert.AdamSmallIdeal.τ).loc Cert.AdamSmallIdeal.main_arg21) = m ((c.tc : Thread Cert.AdamSmallIdeal.nD Cert.AdamSmallIdeal.τ).loc Cert.AdamSmallIdeal.main_arg21)
      ∧ r.2.mem ((c.tc : Thread Cert.AdamSmallIdeal.nD Cert.AdamSmallIdeal.τ).loc Cert.AdamSmallIdeal.main_arg22) = m ((c.tc : Thread Cert.AdamSmallIdeal.nD Cert.AdamSmallIdeal.τ).loc Cert.AdamSmallIdeal.main_arg22)
      ∧ r.2.mem ((c.tc : Thread Cert.AdamSmallIdeal.nD Cert.AdamSmallIdeal.τ).loc Cert.AdamSmallIdeal.main_arg23) = m ((c.tc : Thread Cert.AdamSmallIdeal.nD Cert.AdamSmallIdeal.τ).loc Cert.AdamSmallIdeal.main_arg23)
      ∧ r.2.mem ((c.tc : Thread Cert.AdamSmallIdeal.nD Cert.AdamSmallIdeal.τ).loc Cert.AdamSmallIdeal.main_arg24) = m ((c.tc : Thread Cert.AdamSmallIdeal.nD Cert.AdamSmallIdeal.τ).loc Cert.AdamSmallIdeal.main_arg24)
      ∧ r.2.mem ((c.tc : Thread Cert.AdamSmallIdeal.nD Cert.AdamSmallIdeal.τ).loc Cert.AdamSmallIdeal.main_arg25) = m ((c.tc : Thread Cert.AdamSmallIdeal.nD Cert.AdamSmallIdeal.τ).loc Cert.AdamSmallIdeal.main_arg25)
      ∧ r.2.mem ((c.tc : Thread Cert.AdamSmallIdeal.nD Cert.AdamSmallIdeal.τ).loc Cert.AdamSmallIdeal.main_arg26) = m ((c.tc : Thread Cert.AdamSmallIdeal.nD Cert.AdamSmallIdeal.τ).loc Cert.AdamSmallIdeal.main_arg26)
      ∧ r.2.mem ((c.tc : Thread Cert.AdamSmallIdeal.nD Cert.AdamSmallIdeal.τ).loc Cert.AdamSmallIdeal.main_arg27) = m ((c.tc : Thread Cert.AdamSmallIdeal.nD Cert.AdamSmallIdeal.τ).loc Cert.AdamSmallIdeal.main_arg27)
      ∧ r.2.mem ((c.tc : Thread Cert.AdamSmallIdeal.nD Cert.AdamSmallIdeal.τ).loc Cert.AdamSmallIdeal.main_arg28) = m ((c.tc : Thread Cert.AdamSmallIdeal.nD Cert.AdamSmallIdeal.τ).loc Cert.AdamSmallIdeal.main_arg28)
      ∧ r.2.mem ((c.tc : Thread Cert.AdamSmallIdeal.nD Cert.AdamSmallIdeal.τ).loc Cert.AdamSmallIdeal.main_arg29) = m ((c.tc : Thread Cert.AdamSmallIdeal.nD Cert.AdamSmallIdeal.τ).loc Cert.AdamSmallIdeal.main_arg29)
      ∧ r.2.mem ((c.tc : Thread Cert.AdamSmallIdeal.nD Cert.AdamSmallIdeal.τ).loc Cert.AdamSmallIdeal.main_arg30) = m ((c.tc : Thread Cert.AdamSmallIdeal.nD Cert.AdamSmallIdeal.τ).loc Cert.AdamSmallIdeal.main_arg30)
      ∧ r.2.mem ((c.tc : Thread Cert.AdamSmallIdeal.nD Cert.AdamSmallIdeal.τ).loc Cert.AdamSmallIdeal.main_arg31) = m ((c.tc : Thread Cert.AdamSmallIdeal.nD Cert.AdamSmallIdeal.τ).loc Cert.AdamSmallIdeal.main_arg31)
      ∧ r.2.mem ((c.tc : Thread Cert.AdamSmallIdeal.nD Cert.AdamSmallIdeal.τ).loc Cert.AdamSmallIdeal.main_arg32) = m ((c.tc : Thread Cert.AdamSmallIdeal.nD Cert.AdamSmallIdeal.τ).loc Cert.AdamSmallIdeal.main_arg32)
      ∧ r.2.mem ((c.tc : Thread Cert.AdamSmallIdeal.nD Cert.AdamSmallIdeal.τ).loc Cert.AdamSmallIdeal.main_arg33) = m ((c.tc : Thread Cert.AdamSmallIdeal.nD Cert.AdamSmallIdeal.τ).loc Cert.AdamSmallIdeal.main_arg33)
      ∧ r.2.mem ((c.tc : Thread Cert.AdamSmallIdeal.nD Cert.AdamSmallIdeal.τ).loc Cert.AdamSmallIdeal.main_arg34) = m ((c.tc : Thread Cert.AdamSmallIdeal.nD Cert.AdamSmallIdeal.τ).loc Cert.AdamSmallIdeal.main_arg34)
      ∧ r.2.mem ((c.tc : Thread Cert.AdamSmallIdeal.nD Cert.AdamSmallIdeal.τ).loc Cert.AdamSmallIdeal.main_arg35) = m ((c.tc : Thread Cert.AdamSmallIdeal.nD Cert.AdamSmallIdeal.τ).loc Cert.AdamSmallIdeal.main_arg35)
      ∧ r.2.mem ((c.tc : Thread Cert.AdamSmallIdeal.nD Cert.AdamSmallIdeal.τ).loc Cert.AdamSmallIdeal.main_arg36) = m ((c.tc : Thread Cert.AdamSmallIdeal.nD Cert.AdamSmallIdeal.τ).loc Cert.AdamSmallIdeal.main_arg36)
      ∧ r.2.mem ((c.tc : Thread Cert.AdamSmallIdeal.nD Cert.AdamSmallIdeal.τ).loc Cert.AdamSmallIdeal.main_arg37) = m ((c.tc : Thread Cert.AdamSmallIdeal.nD Cert.AdamSmallIdeal.τ).loc Cert.AdamSmallIdeal.main_arg37)
      ∧ r.2.mem ((c.tc : Thread Cert.AdamSmallIdeal.nD Cert.AdamSmallIdeal.τ).loc Cert.AdamSmallIdeal.main_arg38) = m ((c.tc : Thread Cert.AdamSmallIdeal.nD Cert.AdamSmallIdeal.τ).loc Cert.AdamSmallIdeal.main_arg38)
      ∧ r.2.mem ((c.tc : Thread Cert.AdamSmallIdeal.nD Cert.AdamSmallIdeal.τ).loc Cert.AdamSmallIdeal.main_arg39) = m ((c.tc : Thread Cert.AdamSmallIdeal.nD Cert.AdamSmallIdeal.τ).loc Cert.AdamSmallIdeal.main_arg39)
      ∧ r.2.mem ((c.tc : Thread Cert.AdamSmallIdeal.nD Cert.AdamSmallIdeal.τ).loc Cert.AdamSmallIdeal.main_arg40) = m ((c.tc : Thread Cert.AdamSmallIdeal.nD Cert.AdamSmallIdeal.τ).loc Cert.AdamSmallIdeal.main_arg40)
      ∧ r.2.mem ((c.tc : Thread Cert.AdamSmallIdeal.nD Cert.AdamSmallIdeal.τ).loc Cert.AdamSmallIdeal.main_arg41) = m ((c.tc : Thread Cert.AdamSmallIdeal.nD Cert.AdamSmallIdeal.τ).loc Cert.AdamSmallIdeal.main_arg41)
      ∧ r.2.mem ((c.tc : Thread Cert.AdamSmallIdeal.nD Cert.AdamSmallIdeal.τ).loc Cert.AdamSmallIdeal.main_arg42) = m ((c.tc : Thread Cert.AdamSmallIdeal.nD Cert.AdamSmallIdeal.τ).loc Cert.AdamSmallIdeal.main_arg42)
      ∧ r.2.mem ((c.tc : Thread Cert.AdamSmallIdeal.nD Cert.AdamSmallIdeal.τ).loc Cert.AdamSmallIdeal.main_arg43) = m ((c.tc : Thread Cert.AdamSmallIdeal.nD Cert.AdamSmallIdeal.τ).loc Cert.AdamSmallIdeal.main_arg43)
      ∧ r.2.mem ((c.tc : Thread Cert.AdamSmallIdeal.nD Cert.AdamSmallIdeal.τ).loc Cert.AdamSmallIdeal.main_arg44) = m ((c.tc : Thread Cert.AdamSmallIdeal.nD Cert.AdamSmallIdeal.τ).loc Cert.AdamSmallIdeal.main_arg44)
      ∧ r.2.mem ((c.tc : Thread Cert.AdamSmallIdeal.nD Cert.AdamSmallIdeal.τ).loc Cert.AdamSmallIdeal.main_arg45) = m ((c.tc : Thread Cert.AdamSmallIdeal.nD Cert.AdamSmallIdeal.τ).loc Cert.AdamSmallIdeal.main_arg45)
      ∧ r.2.mem ((c.tc : Thread Cert.AdamSmallIdeal.nD Cert.AdamSmallIdeal.τ).loc Cert.AdamSmallIdeal.main_arg46) = m ((c.tc : Thread Cert.AdamSmallIdeal.nD Cert.AdamSmallIdeal.τ).loc Cert.AdamSmallIdeal.main_arg46)
      ∧ r.2.mem ((c.tc : Thread Cert.AdamSmallIdeal.nD Cert.AdamSmallIdeal.τ).loc Cert.AdamSmallIdeal.main_arg47) = m ((c.tc : Thread Cert.AdamSmallIdeal.nD Cert.AdamSmallIdeal.τ).loc Cert.AdamSmallIdeal.main_arg47)
      ∧ r.2.mem ((c.tc : Thread Cert.AdamSmallIdeal.nD Cert.AdamSmallIdeal.τ).loc Cert.AdamSmallIdeal.main_arg48) = m ((c.tc : Thread Cert.AdamSmallIdeal.nD Cert.AdamSmallIdeal.τ).loc Cert.AdamSmallIdeal.main_arg48)
      ∧ r.2.mem ((c.tc : Thread Cert.AdamSmallIdeal.nD Cert.AdamSmallIdeal.τ).loc Cert.AdamSmallIdeal.main_arg49) = m ((c.tc : Thread Cert.AdamSmallIdeal.nD Cert.AdamSmallIdeal.τ).loc Cert.AdamSmallIdeal.main_arg49)
      ∧ r.2.mem ((c.tc : Thread Cert.AdamSmallIdeal.nD Cert.AdamSmallIdeal.τ).loc Cert.AdamSmallIdeal.main_arg50) = m ((c.tc : Thread Cert.AdamSmallIdeal.nD Cert.AdamSmallIdeal.τ).loc Cert.AdamSmallIdeal.main_arg50)
      ∧ r.2.mem ((c.tc : Thread Cert.AdamSmallIdeal.nD Cert.AdamSmallIdeal.τ).loc Cert.AdamSmallIdeal.main_arg51) = m ((c.tc : Thread Cert.AdamSmallIdeal.nD Cert.AdamSmallIdeal.τ).loc Cert.AdamSmallIdeal.main_arg51)
      ∧ r.2.mem ((c.tc : Thread Cert.AdamSmallIdeal.nD Cert.AdamSmallIdeal.τ).loc Cert.AdamSmallIdeal.main_arg52) = m ((c.tc : Thread Cert.AdamSmallIdeal.nD Cert.AdamSmallIdeal.τ).loc Cert.AdamSmallIdeal.main_arg52)
      ∧ r.2.mem ((c.tc : Thread Cert.AdamSmallIdeal.nD Cert.AdamSmallIdeal.τ).loc Cert.AdamSmallIdeal.main_arg53) = m ((c.tc : Thread Cert.AdamSmallIdeal.nD Cert.AdamSmallIdeal.τ).loc Cert.AdamSmallIdeal.main_arg53)
      ∧ r.2.mem ((c.tc : Thread Cert.AdamSmallIdeal.nD Cert.AdamSmallIdeal.τ).loc Cert.AdamSmallIdeal.main_arg54) = m ((c.tc : Thread Cert.AdamSmallIdeal.nD Cert.AdamSmallIdeal.τ).loc Cert.AdamSmallIdeal.main_arg54)
      ∧ r.2.mem ((c.tc : Thread Cert.AdamSmallIdeal.nD Cert.AdamSmallIdeal.τ).loc Cert.AdamSmallIdeal.main_arg55) = m ((c.tc : Thread Cert.AdamSmallIdeal.nD Cert.AdamSmallIdeal.τ).loc Cert.AdamSmallIdeal.main_arg55))
      ∧ r.2.sem = fun _ => 0)

def quiescent_RefAdamSmallIdeal [hRefAdamSmallIdeal : Cert.RefAdamSmallIdeal.Facts] : Prop :=
  ∀ (m : (ℓ : Loc Cert.RefAdamSmallIdeal.nD Cert.RefAdamSmallIdeal.τ Cert.RefAdamSmallIdeal.sig) → Buf (Elt Ideal) ℓ) (g : Dev Cert.RefAdamSmallIdeal.nD → PrngReg), Pre_RefAdamSmallIdeal m →
    θ_run (Cert.RefAdamSmallIdeal.defs (F := Ideal)) (onTc (τ := Cert.RefAdamSmallIdeal.τ) (Cert.RefAdamSmallIdeal.main (F := Ideal))) ⟨m, fun _ => 0, g⟩ (fun r => (∀ c : Dev Cert.RefAdamSmallIdeal.nD,
      r.2.mem ((c.tc : Thread Cert.RefAdamSmallIdeal.nD Cert.RefAdamSmallIdeal.τ).loc Cert.RefAdamSmallIdeal.main_arg0) = m ((c.tc : Thread Cert.RefAdamSmallIdeal.nD Cert.RefAdamSmallIdeal.τ).loc Cert.RefAdamSmallIdeal.main_arg0)
      ∧ r.2.mem ((c.tc : Thread Cert.RefAdamSmallIdeal.nD Cert.RefAdamSmallIdeal.τ).loc Cert.RefAdamSmallIdeal.main_arg1) = m ((c.tc : Thread Cert.RefAdamSmallIdeal.nD Cert.RefAdamSmallIdeal.τ).loc Cert.RefAdamSmallIdeal.main_arg1)
      ∧ r.2.mem ((c.tc : Thread Cert.RefAdamSmallIdeal.nD Cert.RefAdamSmallIdeal.τ).loc Cert.RefAdamSmallIdeal.main_arg2) = m ((c.tc : Thread Cert.RefAdamSmallIdeal.nD Cert.RefAdamSmallIdeal.τ).loc Cert.RefAdamSmallIdeal.main_arg2)
      ∧ r.2.mem ((c.tc : Thread Cert.RefAdamSmallIdeal.nD Cert.RefAdamSmallIdeal.τ).loc Cert.RefAdamSmallIdeal.main_arg3) = m ((c.tc : Thread Cert.RefAdamSmallIdeal.nD Cert.RefAdamSmallIdeal.τ).loc Cert.RefAdamSmallIdeal.main_arg3)
      ∧ r.2.mem ((c.tc : Thread Cert.RefAdamSmallIdeal.nD Cert.RefAdamSmallIdeal.τ).loc Cert.RefAdamSmallIdeal.main_arg4) = m ((c.tc : Thread Cert.RefAdamSmallIdeal.nD Cert.RefAdamSmallIdeal.τ).loc Cert.RefAdamSmallIdeal.main_arg4)
      ∧ r.2.mem ((c.tc : Thread Cert.RefAdamSmallIdeal.nD Cert.RefAdamSmallIdeal.τ).loc Cert.RefAdamSmallIdeal.main_arg5) = m ((c.tc : Thread Cert.RefAdamSmallIdeal.nD Cert.RefAdamSmallIdeal.τ).loc Cert.RefAdamSmallIdeal.main_arg5)
      ∧ r.2.mem ((c.tc : Thread Cert.RefAdamSmallIdeal.nD Cert.RefAdamSmallIdeal.τ).loc Cert.RefAdamSmallIdeal.main_arg6) = m ((c.tc : Thread Cert.RefAdamSmallIdeal.nD Cert.RefAdamSmallIdeal.τ).loc Cert.RefAdamSmallIdeal.main_arg6)
      ∧ r.2.mem ((c.tc : Thread Cert.RefAdamSmallIdeal.nD Cert.RefAdamSmallIdeal.τ).loc Cert.RefAdamSmallIdeal.main_arg7) = m ((c.tc : Thread Cert.RefAdamSmallIdeal.nD Cert.RefAdamSmallIdeal.τ).loc Cert.RefAdamSmallIdeal.main_arg7)
      ∧ r.2.mem ((c.tc : Thread Cert.RefAdamSmallIdeal.nD Cert.RefAdamSmallIdeal.τ).loc Cert.RefAdamSmallIdeal.main_arg8) = m ((c.tc : Thread Cert.RefAdamSmallIdeal.nD Cert.RefAdamSmallIdeal.τ).loc Cert.RefAdamSmallIdeal.main_arg8)
      ∧ r.2.mem ((c.tc : Thread Cert.RefAdamSmallIdeal.nD Cert.RefAdamSmallIdeal.τ).loc Cert.RefAdamSmallIdeal.main_arg9) = m ((c.tc : Thread Cert.RefAdamSmallIdeal.nD Cert.RefAdamSmallIdeal.τ).loc Cert.RefAdamSmallIdeal.main_arg9)
      ∧ r.2.mem ((c.tc : Thread Cert.RefAdamSmallIdeal.nD Cert.RefAdamSmallIdeal.τ).loc Cert.RefAdamSmallIdeal.main_arg10) = m ((c.tc : Thread Cert.RefAdamSmallIdeal.nD Cert.RefAdamSmallIdeal.τ).loc Cert.RefAdamSmallIdeal.main_arg10)
      ∧ r.2.mem ((c.tc : Thread Cert.RefAdamSmallIdeal.nD Cert.RefAdamSmallIdeal.τ).loc Cert.RefAdamSmallIdeal.main_arg11) = m ((c.tc : Thread Cert.RefAdamSmallIdeal.nD Cert.RefAdamSmallIdeal.τ).loc Cert.RefAdamSmallIdeal.main_arg11)
      ∧ r.2.mem ((c.tc : Thread Cert.RefAdamSmallIdeal.nD Cert.RefAdamSmallIdeal.τ).loc Cert.RefAdamSmallIdeal.main_arg12) = m ((c.tc : Thread Cert.RefAdamSmallIdeal.nD Cert.RefAdamSmallIdeal.τ).loc Cert.RefAdamSmallIdeal.main_arg12)
      ∧ r.2.mem ((c.tc : Thread Cert.RefAdamSmallIdeal.nD Cert.RefAdamSmallIdeal.τ).loc Cert.RefAdamSmallIdeal.main_arg13) = m ((c.tc : Thread Cert.RefAdamSmallIdeal.nD Cert.RefAdamSmallIdeal.τ).loc Cert.RefAdamSmallIdeal.main_arg13)
      ∧ r.2.mem ((c.tc : Thread Cert.RefAdamSmallIdeal.nD Cert.RefAdamSmallIdeal.τ).loc Cert.RefAdamSmallIdeal.main_arg14) = m ((c.tc : Thread Cert.RefAdamSmallIdeal.nD Cert.RefAdamSmallIdeal.τ).loc Cert.RefAdamSmallIdeal.main_arg14)
      ∧ r.2.mem ((c.tc : Thread Cert.RefAdamSmallIdeal.nD Cert.RefAdamSmallIdeal.τ).loc Cert.RefAdamSmallIdeal.main_arg15) = m ((c.tc : Thread Cert.RefAdamSmallIdeal.nD Cert.RefAdamSmallIdeal.τ).loc Cert.RefAdamSmallIdeal.main_arg15)
      ∧ r.2.mem ((c.tc : Thread Cert.RefAdamSmallIdeal.nD Cert.RefAdamSmallIdeal.τ).loc Cert.RefAdamSmallIdeal.main_arg16) = m ((c.tc : Thread Cert.RefAdamSmallIdeal.nD Cert.RefAdamSmallIdeal.τ).loc Cert.RefAdamSmallIdeal.main_arg16)
      ∧ r.2.mem ((c.tc : Thread Cert.RefAdamSmallIdeal.nD Cert.RefAdamSmallIdeal.τ).loc Cert.RefAdamSmallIdeal.main_arg17) = m ((c.tc : Thread Cert.RefAdamSmallIdeal.nD Cert.RefAdamSmallIdeal.τ).loc Cert.RefAdamSmallIdeal.main_arg17)
      ∧ r.2.mem ((c.tc : Thread Cert.RefAdamSmallIdeal.nD Cert.RefAdamSmallIdeal.τ).loc Cert.RefAdamSmallIdeal.main_arg18) = m ((c.tc : Thread Cert.RefAdamSmallIdeal.nD Cert.RefAdamSmallIdeal.τ).loc Cert.RefAdamSmallIdeal.main_arg18)
      ∧ r.2.mem ((c.tc : Thread Cert.RefAdamSmallIdeal.nD Cert.RefAdamSmallIdeal.τ).loc Cert.RefAdamSmallIdeal.main_arg19) = m ((c.tc : Thread Cert.RefAdamSmallIdeal.nD Cert.RefAdamSmallIdeal.τ).loc Cert.RefAdamSmallIdeal.main_arg19)
      ∧ r.2.mem ((c.tc : Thread Cert.RefAdamSmallIdeal.nD Cert.RefAdamSmallIdeal.τ).loc Cert.RefAdamSmallIdeal.main_arg20) = m ((c.tc : Thread Cert.RefAdamSmallIdeal.nD Cert.RefAdamSmallIdeal.τ).loc Cert.RefAdamSmallIdeal.main_arg20)
      ∧ r.2.mem ((c.tc : Thread Cert.RefAdamSmallIdeal.nD Cert.RefAdamSmallIdeal.τ).loc Cert.RefAdamSmallIdeal.main_arg21) = m ((c.tc : Thread Cert.RefAdamSmallIdeal.nD Cert.RefAdamSmallIdeal.τ).loc Cert.RefAdamSmallIdeal.main_arg21)
      ∧ r.2.mem ((c.tc : Thread Cert.RefAdamSmallIdeal.nD Cert.RefAdamSmallIdeal.τ).loc Cert.RefAdamSmallIdeal.main_arg22) = m ((c.tc : Thread Cert.RefAdamSmallIdeal.nD Cert.RefAdamSmallIdeal.τ).loc Cert.RefAdamSmallIdeal.main_arg22)
      ∧ r.2.mem ((c.tc : Thread Cert.RefAdamSmallIdeal.nD Cert.RefAdamSmallIdeal.τ).loc Cert.RefAdamSmallIdeal.main_arg23) = m ((c.tc : Thread Cert.RefAdamSmallIdeal.nD Cert.RefAdamSmallIdeal.τ).loc Cert.RefAdamSmallIdeal.main_arg23)
      ∧ r.2.mem ((c.tc : Thread Cert.RefAdamSmallIdeal.nD Cert.RefAdamSmallIdeal.τ).loc Cert.RefAdamSmallIdeal.main_arg24) = m ((c.tc : Thread Cert.RefAdamSmallIdeal.nD Cert.RefAdamSmallIdeal.τ).loc Cert.RefAdamSmallIdeal.main_arg24)
      ∧ r.2.mem ((c.tc : Thread Cert.RefAdamSmallIdeal.nD Cert.RefAdamSmallIdeal.τ).loc Cert.RefAdamSmallIdeal.main_arg25) = m ((c.tc : Thread Cert.RefAdamSmallIdeal.nD Cert.RefAdamSmallIdeal.τ).loc Cert.RefAdamSmallIdeal.main_arg25)
      ∧ r.2.mem ((c.tc : Thread Cert.RefAdamSmallIdeal.nD Cert.RefAdamSmallIdeal.τ).loc Cert.RefAdamSmallIdeal.main_arg26) = m ((c.tc : Thread Cert.RefAdamSmallIdeal.nD Cert.RefAdamSmallIdeal.τ).loc Cert.RefAdamSmallIdeal.main_arg26)
      ∧ r.2.mem ((c.tc : Thread Cert.RefAdamSmallIdeal.nD Cert.RefAdamSmallIdeal.τ).loc Cert.RefAdamSmallIdeal.main_arg27) = m ((c.tc : Thread Cert.RefAdamSmallIdeal.nD Cert.RefAdamSmallIdeal.τ).loc Cert.RefAdamSmallIdeal.main_arg27)
      ∧ r.2.mem ((c.tc : Thread Cert.RefAdamSmallIdeal.nD Cert.RefAdamSmallIdeal.τ).loc Cert.RefAdamSmallIdeal.main_arg28) = m ((c.tc : Thread Cert.RefAdamSmallIdeal.nD Cert.RefAdamSmallIdeal.τ).loc Cert.RefAdamSmallIdeal.main_arg28)
      ∧ r.2.mem ((c.tc : Thread Cert.RefAdamSmallIdeal.nD Cert.RefAdamSmallIdeal.τ).loc Cert.RefAdamSmallIdeal.main_arg29) = m ((c.tc : Thread Cert.RefAdamSmallIdeal.nD Cert.RefAdamSmallIdeal.τ).loc Cert.RefAdamSmallIdeal.main_arg29)
      ∧ r.2.mem ((c.tc : Thread Cert.RefAdamSmallIdeal.nD Cert.RefAdamSmallIdeal.τ).loc Cert.RefAdamSmallIdeal.main_arg30) = m ((c.tc : Thread Cert.RefAdamSmallIdeal.nD Cert.RefAdamSmallIdeal.τ).loc Cert.RefAdamSmallIdeal.main_arg30)
      ∧ r.2.mem ((c.tc : Thread Cert.RefAdamSmallIdeal.nD Cert.RefAdamSmallIdeal.τ).loc Cert.RefAdamSmallIdeal.main_arg31) = m ((c.tc : Thread Cert.RefAdamSmallIdeal.nD Cert.RefAdamSmallIdeal.τ).loc Cert.RefAdamSmallIdeal.main_arg31)
      ∧ r.2.mem ((c.tc : Thread Cert.RefAdamSmallIdeal.nD Cert.RefAdamSmallIdeal.τ).loc Cert.RefAdamSmallIdeal.main_arg32) = m ((c.tc : Thread Cert.RefAdamSmallIdeal.nD Cert.RefAdamSmallIdeal.τ).loc Cert.RefAdamSmallIdeal.main_arg32)
      ∧ r.2.mem ((c.tc : Thread Cert.RefAdamSmallIdeal.nD Cert.RefAdamSmallIdeal.τ).loc Cert.RefAdamSmallIdeal.main_arg33) = m ((c.tc : Thread Cert.RefAdamSmallIdeal.nD Cert.RefAdamSmallIdeal.τ).loc Cert.RefAdamSmallIdeal.main_arg33)
      ∧ r.2.mem ((c.tc : Thread Cert.RefAdamSmallIdeal.nD Cert.RefAdamSmallIdeal.τ).loc Cert.RefAdamSmallIdeal.main_arg34) = m ((c.tc : Thread Cert.RefAdamSmallIdeal.nD Cert.RefAdamSmallIdeal.τ).loc Cert.RefAdamSmallIdeal.main_arg34)
      ∧ r.2.mem ((c.tc : Thread Cert.RefAdamSmallIdeal.nD Cert.RefAdamSmallIdeal.τ).loc Cert.RefAdamSmallIdeal.main_arg35) = m ((c.tc : Thread Cert.RefAdamSmallIdeal.nD Cert.RefAdamSmallIdeal.τ).loc Cert.RefAdamSmallIdeal.main_arg35)
      ∧ r.2.mem ((c.tc : Thread Cert.RefAdamSmallIdeal.nD Cert.RefAdamSmallIdeal.τ).loc Cert.RefAdamSmallIdeal.main_arg36) = m ((c.tc : Thread Cert.RefAdamSmallIdeal.nD Cert.RefAdamSmallIdeal.τ).loc Cert.RefAdamSmallIdeal.main_arg36)
      ∧ r.2.mem ((c.tc : Thread Cert.RefAdamSmallIdeal.nD Cert.RefAdamSmallIdeal.τ).loc Cert.RefAdamSmallIdeal.main_arg37) = m ((c.tc : Thread Cert.RefAdamSmallIdeal.nD Cert.RefAdamSmallIdeal.τ).loc Cert.RefAdamSmallIdeal.main_arg37)
      ∧ r.2.mem ((c.tc : Thread Cert.RefAdamSmallIdeal.nD Cert.RefAdamSmallIdeal.τ).loc Cert.RefAdamSmallIdeal.main_arg38) = m ((c.tc : Thread Cert.RefAdamSmallIdeal.nD Cert.RefAdamSmallIdeal.τ).loc Cert.RefAdamSmallIdeal.main_arg38)
      ∧ r.2.mem ((c.tc : Thread Cert.RefAdamSmallIdeal.nD Cert.RefAdamSmallIdeal.τ).loc Cert.RefAdamSmallIdeal.main_arg39) = m ((c.tc : Thread Cert.RefAdamSmallIdeal.nD Cert.RefAdamSmallIdeal.τ).loc Cert.RefAdamSmallIdeal.main_arg39)
      ∧ r.2.mem ((c.tc : Thread Cert.RefAdamSmallIdeal.nD Cert.RefAdamSmallIdeal.τ).loc Cert.RefAdamSmallIdeal.main_arg40) = m ((c.tc : Thread Cert.RefAdamSmallIdeal.nD Cert.RefAdamSmallIdeal.τ).loc Cert.RefAdamSmallIdeal.main_arg40)
      ∧ r.2.mem ((c.tc : Thread Cert.RefAdamSmallIdeal.nD Cert.RefAdamSmallIdeal.τ).loc Cert.RefAdamSmallIdeal.main_arg41) = m ((c.tc : Thread Cert.RefAdamSmallIdeal.nD Cert.RefAdamSmallIdeal.τ).loc Cert.RefAdamSmallIdeal.main_arg41)
      ∧ r.2.mem ((c.tc : Thread Cert.RefAdamSmallIdeal.nD Cert.RefAdamSmallIdeal.τ).loc Cert.RefAdamSmallIdeal.main_arg42) = m ((c.tc : Thread Cert.RefAdamSmallIdeal.nD Cert.RefAdamSmallIdeal.τ).loc Cert.RefAdamSmallIdeal.main_arg42)
      ∧ r.2.mem ((c.tc : Thread Cert.RefAdamSmallIdeal.nD Cert.RefAdamSmallIdeal.τ).loc Cert.RefAdamSmallIdeal.main_arg43) = m ((c.tc : Thread Cert.RefAdamSmallIdeal.nD Cert.RefAdamSmallIdeal.τ).loc Cert.RefAdamSmallIdeal.main_arg43)
      ∧ r.2.mem ((c.tc : Thread Cert.RefAdamSmallIdeal.nD Cert.RefAdamSmallIdeal.τ).loc Cert.RefAdamSmallIdeal.main_arg44) = m ((c.tc : Thread Cert.RefAdamSmallIdeal.nD Cert.RefAdamSmallIdeal.τ).loc Cert.RefAdamSmallIdeal.main_arg44)
      ∧ r.2.mem ((c.tc : Thread Cert.RefAdamSmallIdeal.nD Cert.RefAdamSmallIdeal.τ).loc Cert.RefAdamSmallIdeal.main_arg45) = m ((c.tc : Thread Cert.RefAdamSmallIdeal.nD Cert.RefAdamSmallIdeal.τ).loc Cert.RefAdamSmallIdeal.main_arg45)
      ∧ r.2.mem ((c.tc : Thread Cert.RefAdamSmallIdeal.nD Cert.RefAdamSmallIdeal.τ).loc Cert.RefAdamSmallIdeal.main_arg46) = m ((c.tc : Thread Cert.RefAdamSmallIdeal.nD Cert.RefAdamSmallIdeal.τ).loc Cert.RefAdamSmallIdeal.main_arg46)
      ∧ r.2.mem ((c.tc : Thread Cert.RefAdamSmallIdeal.nD Cert.RefAdamSmallIdeal.τ).loc Cert.RefAdamSmallIdeal.main_arg47) = m ((c.tc : Thread Cert.RefAdamSmallIdeal.nD Cert.RefAdamSmallIdeal.τ).loc Cert.RefAdamSmallIdeal.main_arg47)
      ∧ r.2.mem ((c.tc : Thread Cert.RefAdamSmallIdeal.nD Cert.RefAdamSmallIdeal.τ).loc Cert.RefAdamSmallIdeal.main_arg48) = m ((c.tc : Thread Cert.RefAdamSmallIdeal.nD Cert.RefAdamSmallIdeal.τ).loc Cert.RefAdamSmallIdeal.main_arg48)
      ∧ r.2.mem ((c.tc : Thread Cert.RefAdamSmallIdeal.nD Cert.RefAdamSmallIdeal.τ).loc Cert.RefAdamSmallIdeal.main_arg49) = m ((c.tc : Thread Cert.RefAdamSmallIdeal.nD Cert.RefAdamSmallIdeal.τ).loc Cert.RefAdamSmallIdeal.main_arg49)
      ∧ r.2.mem ((c.tc : Thread Cert.RefAdamSmallIdeal.nD Cert.RefAdamSmallIdeal.τ).loc Cert.RefAdamSmallIdeal.main_arg50) = m ((c.tc : Thread Cert.RefAdamSmallIdeal.nD Cert.RefAdamSmallIdeal.τ).loc Cert.RefAdamSmallIdeal.main_arg50)
      ∧ r.2.mem ((c.tc : Thread Cert.RefAdamSmallIdeal.nD Cert.RefAdamSmallIdeal.τ).loc Cert.RefAdamSmallIdeal.main_arg51) = m ((c.tc : Thread Cert.RefAdamSmallIdeal.nD Cert.RefAdamSmallIdeal.τ).loc Cert.RefAdamSmallIdeal.main_arg51)
      ∧ r.2.mem ((c.tc : Thread Cert.RefAdamSmallIdeal.nD Cert.RefAdamSmallIdeal.τ).loc Cert.RefAdamSmallIdeal.main_arg52) = m ((c.tc : Thread Cert.RefAdamSmallIdeal.nD Cert.RefAdamSmallIdeal.τ).loc Cert.RefAdamSmallIdeal.main_arg52)
      ∧ r.2.mem ((c.tc : Thread Cert.RefAdamSmallIdeal.nD Cert.RefAdamSmallIdeal.τ).loc Cert.RefAdamSmallIdeal.main_arg53) = m ((c.tc : Thread Cert.RefAdamSmallIdeal.nD Cert.RefAdamSmallIdeal.τ).loc Cert.RefAdamSmallIdeal.main_arg53)
      ∧ r.2.mem ((c.tc : Thread Cert.RefAdamSmallIdeal.nD Cert.RefAdamSmallIdeal.τ).loc Cert.RefAdamSmallIdeal.main_arg54) = m ((c.tc : Thread Cert.RefAdamSmallIdeal.nD Cert.RefAdamSmallIdeal.τ).loc Cert.RefAdamSmallIdeal.main_arg54)
      ∧ r.2.mem ((c.tc : Thread Cert.RefAdamSmallIdeal.nD Cert.RefAdamSmallIdeal.τ).loc Cert.RefAdamSmallIdeal.main_arg55) = m ((c.tc : Thread Cert.RefAdamSmallIdeal.nD Cert.RefAdamSmallIdeal.τ).loc Cert.RefAdamSmallIdeal.main_arg55))
      ∧ r.2.sem = fun _ => 0)

def quiescent_AdamConv [hAdamConv : Cert.AdamConv.Facts] : Prop :=
  ∀ (m : (ℓ : Loc Cert.AdamConv.nD Cert.AdamConv.τ Cert.AdamConv.sig) → Buf (Elt Bits) ℓ) (g : Dev Cert.AdamConv.nD → PrngReg), Pre_AdamConv m →
    θ_run (Cert.AdamConv.defs (F := Bits)) (onTc (τ := Cert.AdamConv.τ) (Cert.AdamConv.main (F := Bits))) ⟨m, fun _ => 0, g⟩ (fun r => (∀ c : Dev Cert.AdamConv.nD,
      r.2.mem ((c.tc : Thread Cert.AdamConv.nD Cert.AdamConv.τ).loc Cert.AdamConv.main_arg0) = m ((c.tc : Thread Cert.AdamConv.nD Cert.AdamConv.τ).loc Cert.AdamConv.main_arg0)
      ∧ r.2.mem ((c.tc : Thread Cert.AdamConv.nD Cert.AdamConv.τ).loc Cert.AdamConv.main_arg1) = m ((c.tc : Thread Cert.AdamConv.nD Cert.AdamConv.τ).loc Cert.AdamConv.main_arg1)
      ∧ r.2.mem ((c.tc : Thread Cert.AdamConv.nD Cert.AdamConv.τ).loc Cert.AdamConv.main_arg2) = m ((c.tc : Thread Cert.AdamConv.nD Cert.AdamConv.τ).loc Cert.AdamConv.main_arg2)
      ∧ r.2.mem ((c.tc : Thread Cert.AdamConv.nD Cert.AdamConv.τ).loc Cert.AdamConv.main_arg3) = m ((c.tc : Thread Cert.AdamConv.nD Cert.AdamConv.τ).loc Cert.AdamConv.main_arg3)
      ∧ r.2.mem ((c.tc : Thread Cert.AdamConv.nD Cert.AdamConv.τ).loc Cert.AdamConv.main_arg4) = m ((c.tc : Thread Cert.AdamConv.nD Cert.AdamConv.τ).loc Cert.AdamConv.main_arg4)
      ∧ r.2.mem ((c.tc : Thread Cert.AdamConv.nD Cert.AdamConv.τ).loc Cert.AdamConv.main_arg5) = m ((c.tc : Thread Cert.AdamConv.nD Cert.AdamConv.τ).loc Cert.AdamConv.main_arg5)
      ∧ r.2.mem ((c.tc : Thread Cert.AdamConv.nD Cert.AdamConv.τ).loc Cert.AdamConv.main_arg6) = m ((c.tc : Thread Cert.AdamConv.nD Cert.AdamConv.τ).loc Cert.AdamConv.main_arg6)
      ∧ r.2.mem ((c.tc : Thread Cert.AdamConv.nD Cert.AdamConv.τ).loc Cert.AdamConv.main_arg7) = m ((c.tc : Thread Cert.AdamConv.nD Cert.AdamConv.τ).loc Cert.AdamConv.main_arg7)
      ∧ r.2.mem ((c.tc : Thread Cert.AdamConv.nD Cert.AdamConv.τ).loc Cert.AdamConv.main_arg8) = m ((c.tc : Thread Cert.AdamConv.nD Cert.AdamConv.τ).loc Cert.AdamConv.main_arg8)
      ∧ r.2.mem ((c.tc : Thread Cert.AdamConv.nD Cert.AdamConv.τ).loc Cert.AdamConv.main_arg9) = m ((c.tc : Thread Cert.AdamConv.nD Cert.AdamConv.τ).loc Cert.AdamConv.main_arg9)
      ∧ r.2.mem ((c.tc : Thread Cert.AdamConv.nD Cert.AdamConv.τ).loc Cert.AdamConv.main_arg10) = m ((c.tc : Thread Cert.AdamConv.nD Cert.AdamConv.τ).loc Cert.AdamConv.main_arg10)
      ∧ r.2.mem ((c.tc : Thread Cert.AdamConv.nD Cert.AdamConv.τ).loc Cert.AdamConv.main_arg11) = m ((c.tc : Thread Cert.AdamConv.nD Cert.AdamConv.τ).loc Cert.AdamConv.main_arg11))
      ∧ r.2.sem = fun _ => 0)

def quiescent_AdamConvIdeal [hAdamConvIdeal : Cert.AdamConvIdeal.Facts] : Prop :=
  ∀ (m : (ℓ : Loc Cert.AdamConvIdeal.nD Cert.AdamConvIdeal.τ Cert.AdamConvIdeal.sig) → Buf (Elt Ideal) ℓ) (g : Dev Cert.AdamConvIdeal.nD → PrngReg), Pre_AdamConvIdeal m →
    θ_run (Cert.AdamConvIdeal.defs (F := Ideal)) (onTc (τ := Cert.AdamConvIdeal.τ) (Cert.AdamConvIdeal.main (F := Ideal))) ⟨m, fun _ => 0, g⟩ (fun r => (∀ c : Dev Cert.AdamConvIdeal.nD,
      r.2.mem ((c.tc : Thread Cert.AdamConvIdeal.nD Cert.AdamConvIdeal.τ).loc Cert.AdamConvIdeal.main_arg0) = m ((c.tc : Thread Cert.AdamConvIdeal.nD Cert.AdamConvIdeal.τ).loc Cert.AdamConvIdeal.main_arg0)
      ∧ r.2.mem ((c.tc : Thread Cert.AdamConvIdeal.nD Cert.AdamConvIdeal.τ).loc Cert.AdamConvIdeal.main_arg1) = m ((c.tc : Thread Cert.AdamConvIdeal.nD Cert.AdamConvIdeal.τ).loc Cert.AdamConvIdeal.main_arg1)
      ∧ r.2.mem ((c.tc : Thread Cert.AdamConvIdeal.nD Cert.AdamConvIdeal.τ).loc Cert.AdamConvIdeal.main_arg2) = m ((c.tc : Thread Cert.AdamConvIdeal.nD Cert.AdamConvIdeal.τ).loc Cert.AdamConvIdeal.main_arg2)
      ∧ r.2.mem ((c.tc : Thread Cert.AdamConvIdeal.nD Cert.AdamConvIdeal.τ).loc Cert.AdamConvIdeal.main_arg3) = m ((c.tc : Thread Cert.AdamConvIdeal.nD Cert.AdamConvIdeal.τ).loc Cert.AdamConvIdeal.main_arg3)
      ∧ r.2.mem ((c.tc : Thread Cert.AdamConvIdeal.nD Cert.AdamConvIdeal.τ).loc Cert.AdamConvIdeal.main_arg4) = m ((c.tc : Thread Cert.AdamConvIdeal.nD Cert.AdamConvIdeal.τ).loc Cert.AdamConvIdeal.main_arg4)
      ∧ r.2.mem ((c.tc : Thread Cert.AdamConvIdeal.nD Cert.AdamConvIdeal.τ).loc Cert.AdamConvIdeal.main_arg5) = m ((c.tc : Thread Cert.AdamConvIdeal.nD Cert.AdamConvIdeal.τ).loc Cert.AdamConvIdeal.main_arg5)
      ∧ r.2.mem ((c.tc : Thread Cert.AdamConvIdeal.nD Cert.AdamConvIdeal.τ).loc Cert.AdamConvIdeal.main_arg6) = m ((c.tc : Thread Cert.AdamConvIdeal.nD Cert.AdamConvIdeal.τ).loc Cert.AdamConvIdeal.main_arg6)
      ∧ r.2.mem ((c.tc : Thread Cert.AdamConvIdeal.nD Cert.AdamConvIdeal.τ).loc Cert.AdamConvIdeal.main_arg7) = m ((c.tc : Thread Cert.AdamConvIdeal.nD Cert.AdamConvIdeal.τ).loc Cert.AdamConvIdeal.main_arg7)
      ∧ r.2.mem ((c.tc : Thread Cert.AdamConvIdeal.nD Cert.AdamConvIdeal.τ).loc Cert.AdamConvIdeal.main_arg8) = m ((c.tc : Thread Cert.AdamConvIdeal.nD Cert.AdamConvIdeal.τ).loc Cert.AdamConvIdeal.main_arg8)
      ∧ r.2.mem ((c.tc : Thread Cert.AdamConvIdeal.nD Cert.AdamConvIdeal.τ).loc Cert.AdamConvIdeal.main_arg9) = m ((c.tc : Thread Cert.AdamConvIdeal.nD Cert.AdamConvIdeal.τ).loc Cert.AdamConvIdeal.main_arg9)
      ∧ r.2.mem ((c.tc : Thread Cert.AdamConvIdeal.nD Cert.AdamConvIdeal.τ).loc Cert.AdamConvIdeal.main_arg10) = m ((c.tc : Thread Cert.AdamConvIdeal.nD Cert.AdamConvIdeal.τ).loc Cert.AdamConvIdeal.main_arg10)
      ∧ r.2.mem ((c.tc : Thread Cert.AdamConvIdeal.nD Cert.AdamConvIdeal.τ).loc Cert.AdamConvIdeal.main_arg11) = m ((c.tc : Thread Cert.AdamConvIdeal.nD Cert.AdamConvIdeal.τ).loc Cert.AdamConvIdeal.main_arg11))
      ∧ r.2.sem = fun _ => 0)

def quiescent_RefAdamConvIdeal [hRefAdamConvIdeal : Cert.RefAdamConvIdeal.Facts] : Prop :=
  ∀ (m : (ℓ : Loc Cert.RefAdamConvIdeal.nD Cert.RefAdamConvIdeal.τ Cert.RefAdamConvIdeal.sig) → Buf (Elt Ideal) ℓ) (g : Dev Cert.RefAdamConvIdeal.nD → PrngReg), Pre_RefAdamConvIdeal m →
    θ_run (Cert.RefAdamConvIdeal.defs (F := Ideal)) (onTc (τ := Cert.RefAdamConvIdeal.τ) (Cert.RefAdamConvIdeal.main (F := Ideal))) ⟨m, fun _ => 0, g⟩ (fun r => (∀ c : Dev Cert.RefAdamConvIdeal.nD,
      r.2.mem ((c.tc : Thread Cert.RefAdamConvIdeal.nD Cert.RefAdamConvIdeal.τ).loc Cert.RefAdamConvIdeal.main_arg0) = m ((c.tc : Thread Cert.RefAdamConvIdeal.nD Cert.RefAdamConvIdeal.τ).loc Cert.RefAdamConvIdeal.main_arg0)
      ∧ r.2.mem ((c.tc : Thread Cert.RefAdamConvIdeal.nD Cert.RefAdamConvIdeal.τ).loc Cert.RefAdamConvIdeal.main_arg1) = m ((c.tc : Thread Cert.RefAdamConvIdeal.nD Cert.RefAdamConvIdeal.τ).loc Cert.RefAdamConvIdeal.main_arg1)
      ∧ r.2.mem ((c.tc : Thread Cert.RefAdamConvIdeal.nD Cert.RefAdamConvIdeal.τ).loc Cert.RefAdamConvIdeal.main_arg2) = m ((c.tc : Thread Cert.RefAdamConvIdeal.nD Cert.RefAdamConvIdeal.τ).loc Cert.RefAdamConvIdeal.main_arg2)
      ∧ r.2.mem ((c.tc : Thread Cert.RefAdamConvIdeal.nD Cert.RefAdamConvIdeal.τ).loc Cert.RefAdamConvIdeal.main_arg3) = m ((c.tc : Thread Cert.RefAdamConvIdeal.nD Cert.RefAdamConvIdeal.τ).loc Cert.RefAdamConvIdeal.main_arg3)
      ∧ r.2.mem ((c.tc : Thread Cert.RefAdamConvIdeal.nD Cert.RefAdamConvIdeal.τ).loc Cert.RefAdamConvIdeal.main_arg4) = m ((c.tc : Thread Cert.RefAdamConvIdeal.nD Cert.RefAdamConvIdeal.τ).loc Cert.RefAdamConvIdeal.main_arg4)
      ∧ r.2.mem ((c.tc : Thread Cert.RefAdamConvIdeal.nD Cert.RefAdamConvIdeal.τ).loc Cert.RefAdamConvIdeal.main_arg5) = m ((c.tc : Thread Cert.RefAdamConvIdeal.nD Cert.RefAdamConvIdeal.τ).loc Cert.RefAdamConvIdeal.main_arg5)
      ∧ r.2.mem ((c.tc : Thread Cert.RefAdamConvIdeal.nD Cert.RefAdamConvIdeal.τ).loc Cert.RefAdamConvIdeal.main_arg6) = m ((c.tc : Thread Cert.RefAdamConvIdeal.nD Cert.RefAdamConvIdeal.τ).loc Cert.RefAdamConvIdeal.main_arg6)
      ∧ r.2.mem ((c.tc : Thread Cert.RefAdamConvIdeal.nD Cert.RefAdamConvIdeal.τ).loc Cert.RefAdamConvIdeal.main_arg7) = m ((c.tc : Thread Cert.RefAdamConvIdeal.nD Cert.RefAdamConvIdeal.τ).loc Cert.RefAdamConvIdeal.main_arg7)
      ∧ r.2.mem ((c.tc : Thread Cert.RefAdamConvIdeal.nD Cert.RefAdamConvIdeal.τ).loc Cert.RefAdamConvIdeal.main_arg8) = m ((c.tc : Thread Cert.RefAdamConvIdeal.nD Cert.RefAdamConvIdeal.τ).loc Cert.RefAdamConvIdeal.main_arg8)
      ∧ r.2.mem ((c.tc : Thread Cert.RefAdamConvIdeal.nD Cert.RefAdamConvIdeal.τ).loc Cert.RefAdamConvIdeal.main_arg9) = m ((c.tc : Thread Cert.RefAdamConvIdeal.nD Cert.RefAdamConvIdeal.τ).loc Cert.RefAdamConvIdeal.main_arg9)
      ∧ r.2.mem ((c.tc : Thread Cert.RefAdamConvIdeal.nD Cert.RefAdamConvIdeal.τ).loc Cert.RefAdamConvIdeal.main_arg10) = m ((c.tc : Thread Cert.RefAdamConvIdeal.nD Cert.RefAdamConvIdeal.τ).loc Cert.RefAdamConvIdeal.main_arg10)
      ∧ r.2.mem ((c.tc : Thread Cert.RefAdamConvIdeal.nD Cert.RefAdamConvIdeal.τ).loc Cert.RefAdamConvIdeal.main_arg11) = m ((c.tc : Thread Cert.RefAdamConvIdeal.nD Cert.RefAdamConvIdeal.τ).loc Cert.RefAdamConvIdeal.main_arg11))
      ∧ r.2.sem = fun _ => 0)

def preserves_Kernel_KernelIdeal : Prop :=
  True

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)) (v3 : (c : Dev Cert.KernelIdeal.nD) → Buf (Elt Ideal) ((c.tc : Thread Cert.KernelIdeal.nD Cert.KernelIdeal.τ).loc Cert.KernelIdeal.main_v2_3)) (v4 : (c : Dev Cert.KernelIdeal.nD) → Buf (Elt Ideal) ((c.tc : Thread Cert.KernelIdeal.nD Cert.KernelIdeal.τ).loc Cert.KernelIdeal.main_v2_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_v2_3) = v3 c
          ∧ r.2.mem ((c.tc : Thread Cert.KernelIdeal.nD Cert.KernelIdeal.τ).loc Cert.KernelIdeal.main_v2_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v148) = v0 c
          ∧ r.2.mem ((c.tc : Thread Cert.ReferenceIdeal.nD Cert.ReferenceIdeal.τ).loc Cert.ReferenceIdeal.main_v150) = v1 c
          ∧ r.2.mem ((c.tc : Thread Cert.ReferenceIdeal.nD Cert.ReferenceIdeal.τ).loc Cert.ReferenceIdeal.main_v152) = v2 c
          ∧ r.2.mem ((c.tc : Thread Cert.ReferenceIdeal.nD Cert.ReferenceIdeal.τ).loc Cert.ReferenceIdeal.main_v85) = v3 c
          ∧ r.2.mem ((c.tc : Thread Cert.ReferenceIdeal.nD Cert.ReferenceIdeal.τ).loc Cert.ReferenceIdeal.main_v153) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Gw2_Gw2Ideal : Prop :=
  True

def algebraic_Gw2Ideal_RefGw2Ideal [hGw2Ideal : Cert.Gw2Ideal.Facts] [hRefGw2Ideal : Cert.RefGw2Ideal.Facts] : Prop :=
  ∀ (m : (ℓ : Loc Cert.Gw2Ideal.nD Cert.Gw2Ideal.τ Cert.Gw2Ideal.sig) → Buf (Elt Ideal) ℓ) (g : Dev Cert.Gw2Ideal.nD → PrngReg)
    (m' : (ℓ : Loc Cert.RefGw2Ideal.nD Cert.RefGw2Ideal.τ Cert.RefGw2Ideal.sig) → Buf (Elt Ideal) ℓ) (g' : Dev Cert.RefGw2Ideal.nD → PrngReg), Pre_Gw2Ideal m →
    (∀ c : Dev Cert.Gw2Ideal.nD,
      m' ((c.tc : Thread Cert.RefGw2Ideal.nD Cert.RefGw2Ideal.τ).loc Cert.RefGw2Ideal.main_arg0) = m ((c.tc : Thread Cert.Gw2Ideal.nD Cert.Gw2Ideal.τ).loc Cert.Gw2Ideal.main_arg0)
      ∧ m' ((c.tc : Thread Cert.RefGw2Ideal.nD Cert.RefGw2Ideal.τ).loc Cert.RefGw2Ideal.main_arg1) = m ((c.tc : Thread Cert.Gw2Ideal.nD Cert.Gw2Ideal.τ).loc Cert.Gw2Ideal.main_arg1)) →
    ∃ (v0 : (c : Dev Cert.Gw2Ideal.nD) → Buf (Elt Ideal) ((c.tc : Thread Cert.Gw2Ideal.nD Cert.Gw2Ideal.τ).loc Cert.Gw2Ideal.main_v0)),
      θ_run (Cert.Gw2Ideal.defs (F := Ideal)) (onTc (τ := Cert.Gw2Ideal.τ) (Cert.Gw2Ideal.main (F := Ideal))) ⟨m, fun _ => 0, g⟩ (fun r => ∀ c : Dev Cert.Gw2Ideal.nD,
          r.2.mem ((c.tc : Thread Cert.Gw2Ideal.nD Cert.Gw2Ideal.τ).loc Cert.Gw2Ideal.main_v0) = v0 c
          ∧ r.2.mem ((c.tc : Thread Cert.Gw2Ideal.nD Cert.Gw2Ideal.τ).loc Cert.Gw2Ideal.main_arg0) = m ((c.tc : Thread Cert.Gw2Ideal.nD Cert.Gw2Ideal.τ).loc Cert.Gw2Ideal.main_arg0)
          ∧ r.2.mem ((c.tc : Thread Cert.Gw2Ideal.nD Cert.Gw2Ideal.τ).loc Cert.Gw2Ideal.main_arg1) = m ((c.tc : Thread Cert.Gw2Ideal.nD Cert.Gw2Ideal.τ).loc Cert.Gw2Ideal.main_arg1))
      ∧ θ_run (Cert.RefGw2Ideal.defs (F := Ideal)) (onTc (τ := Cert.RefGw2Ideal.τ) (Cert.RefGw2Ideal.main (F := Ideal))) ⟨m', fun _ => 0, g'⟩ (fun r => ∀ c : Dev Cert.RefGw2Ideal.nD,
          r.2.mem ((c.tc : Thread Cert.RefGw2Ideal.nD Cert.RefGw2Ideal.τ).loc Cert.RefGw2Ideal.main_v5) = v0 c
          ∧ r.2.mem ((c.tc : Thread Cert.RefGw2Ideal.nD Cert.RefGw2Ideal.τ).loc Cert.RefGw2Ideal.main_arg0) = m' ((c.tc : Thread Cert.RefGw2Ideal.nD Cert.RefGw2Ideal.τ).loc Cert.RefGw2Ideal.main_arg0)
          ∧ r.2.mem ((c.tc : Thread Cert.RefGw2Ideal.nD Cert.RefGw2Ideal.τ).loc Cert.RefGw2Ideal.main_arg1) = m' ((c.tc : Thread Cert.RefGw2Ideal.nD Cert.RefGw2Ideal.τ).loc Cert.RefGw2Ideal.main_arg1))

def preserves_Df_DfIdeal : Prop :=
  True

def algebraic_DfIdeal_RefDfIdeal [hDfIdeal : Cert.DfIdeal.Facts] [hRefDfIdeal : Cert.RefDfIdeal.Facts] : Prop :=
  ∀ (m : (ℓ : Loc Cert.DfIdeal.nD Cert.DfIdeal.τ Cert.DfIdeal.sig) → Buf (Elt Ideal) ℓ) (g : Dev Cert.DfIdeal.nD → PrngReg)
    (m' : (ℓ : Loc Cert.RefDfIdeal.nD Cert.RefDfIdeal.τ Cert.RefDfIdeal.sig) → Buf (Elt Ideal) ℓ) (g' : Dev Cert.RefDfIdeal.nD → PrngReg), Pre_DfIdeal m →
    (∀ c : Dev Cert.DfIdeal.nD,
      m' ((c.tc : Thread Cert.RefDfIdeal.nD Cert.RefDfIdeal.τ).loc Cert.RefDfIdeal.main_arg0) = m ((c.tc : Thread Cert.DfIdeal.nD Cert.DfIdeal.τ).loc Cert.DfIdeal.main_arg0)
      ∧ m' ((c.tc : Thread Cert.RefDfIdeal.nD Cert.RefDfIdeal.τ).loc Cert.RefDfIdeal.main_arg1) = m ((c.tc : Thread Cert.DfIdeal.nD Cert.DfIdeal.τ).loc Cert.DfIdeal.main_arg1)
      ∧ m' ((c.tc : Thread Cert.RefDfIdeal.nD Cert.RefDfIdeal.τ).loc Cert.RefDfIdeal.main_arg2) = m ((c.tc : Thread Cert.DfIdeal.nD Cert.DfIdeal.τ).loc Cert.DfIdeal.main_arg2)
      ∧ m' ((c.tc : Thread Cert.RefDfIdeal.nD Cert.RefDfIdeal.τ).loc Cert.RefDfIdeal.main_arg3) = m ((c.tc : Thread Cert.DfIdeal.nD Cert.DfIdeal.τ).loc Cert.DfIdeal.main_arg3)) →
    ∃ (v0 : (c : Dev Cert.DfIdeal.nD) → Buf (Elt Ideal) ((c.tc : Thread Cert.DfIdeal.nD Cert.DfIdeal.τ).loc Cert.DfIdeal.main_v0)),
      θ_run (Cert.DfIdeal.defs (F := Ideal)) (onTc (τ := Cert.DfIdeal.τ) (Cert.DfIdeal.main (F := Ideal))) ⟨m, fun _ => 0, g⟩ (fun r => ∀ c : Dev Cert.DfIdeal.nD,
          r.2.mem ((c.tc : Thread Cert.DfIdeal.nD Cert.DfIdeal.τ).loc Cert.DfIdeal.main_v0) = v0 c
          ∧ r.2.mem ((c.tc : Thread Cert.DfIdeal.nD Cert.DfIdeal.τ).loc Cert.DfIdeal.main_arg0) = m ((c.tc : Thread Cert.DfIdeal.nD Cert.DfIdeal.τ).loc Cert.DfIdeal.main_arg0)
          ∧ r.2.mem ((c.tc : Thread Cert.DfIdeal.nD Cert.DfIdeal.τ).loc Cert.DfIdeal.main_arg1) = m ((c.tc : Thread Cert.DfIdeal.nD Cert.DfIdeal.τ).loc Cert.DfIdeal.main_arg1)
          ∧ r.2.mem ((c.tc : Thread Cert.DfIdeal.nD Cert.DfIdeal.τ).loc Cert.DfIdeal.main_arg2) = m ((c.tc : Thread Cert.DfIdeal.nD Cert.DfIdeal.τ).loc Cert.DfIdeal.main_arg2)
          ∧ r.2.mem ((c.tc : Thread Cert.DfIdeal.nD Cert.DfIdeal.τ).loc Cert.DfIdeal.main_arg3) = m ((c.tc : Thread Cert.DfIdeal.nD Cert.DfIdeal.τ).loc Cert.DfIdeal.main_arg3))
      ∧ θ_run (Cert.RefDfIdeal.defs (F := Ideal)) (onTc (τ := Cert.RefDfIdeal.τ) (Cert.RefDfIdeal.main (F := Ideal))) ⟨m', fun _ => 0, g'⟩ (fun r => ∀ c : Dev Cert.RefDfIdeal.nD,
          r.2.mem ((c.tc : Thread Cert.RefDfIdeal.nD Cert.RefDfIdeal.τ).loc Cert.RefDfIdeal.main_v14) = v0 c
          ∧ r.2.mem ((c.tc : Thread Cert.RefDfIdeal.nD Cert.RefDfIdeal.τ).loc Cert.RefDfIdeal.main_arg0) = m' ((c.tc : Thread Cert.RefDfIdeal.nD Cert.RefDfIdeal.τ).loc Cert.RefDfIdeal.main_arg0)
          ∧ r.2.mem ((c.tc : Thread Cert.RefDfIdeal.nD Cert.RefDfIdeal.τ).loc Cert.RefDfIdeal.main_arg1) = m' ((c.tc : Thread Cert.RefDfIdeal.nD Cert.RefDfIdeal.τ).loc Cert.RefDfIdeal.main_arg1)
          ∧ r.2.mem ((c.tc : Thread Cert.RefDfIdeal.nD Cert.RefDfIdeal.τ).loc Cert.RefDfIdeal.main_arg2) = m' ((c.tc : Thread Cert.RefDfIdeal.nD Cert.RefDfIdeal.τ).loc Cert.RefDfIdeal.main_arg2)
          ∧ r.2.mem ((c.tc : Thread Cert.RefDfIdeal.nD Cert.RefDfIdeal.τ).loc Cert.RefDfIdeal.main_arg3) = m' ((c.tc : Thread Cert.RefDfIdeal.nD Cert.RefDfIdeal.τ).loc Cert.RefDfIdeal.main_arg3))

def preserves_Gwin_GwinIdeal : Prop :=
  True

def algebraic_GwinIdeal_RefGwinIdeal [hGwinIdeal : Cert.GwinIdeal.Facts] [hRefGwinIdeal : Cert.RefGwinIdeal.Facts] : Prop :=
  ∀ (m : (ℓ : Loc Cert.GwinIdeal.nD Cert.GwinIdeal.τ Cert.GwinIdeal.sig) → Buf (Elt Ideal) ℓ) (g : Dev Cert.GwinIdeal.nD → PrngReg)
    (m' : (ℓ : Loc Cert.RefGwinIdeal.nD Cert.RefGwinIdeal.τ Cert.RefGwinIdeal.sig) → Buf (Elt Ideal) ℓ) (g' : Dev Cert.RefGwinIdeal.nD → PrngReg), Pre_GwinIdeal m →
    (∀ c : Dev Cert.GwinIdeal.nD,
      m' ((c.tc : Thread Cert.RefGwinIdeal.nD Cert.RefGwinIdeal.τ).loc Cert.RefGwinIdeal.main_arg0) = m ((c.tc : Thread Cert.GwinIdeal.nD Cert.GwinIdeal.τ).loc Cert.GwinIdeal.main_arg0)
      ∧ m' ((c.tc : Thread Cert.RefGwinIdeal.nD Cert.RefGwinIdeal.τ).loc Cert.RefGwinIdeal.main_arg1) = m ((c.tc : Thread Cert.GwinIdeal.nD Cert.GwinIdeal.τ).loc Cert.GwinIdeal.main_arg1)) →
    ∃ (v0 : (c : Dev Cert.GwinIdeal.nD) → Buf (Elt Ideal) ((c.tc : Thread Cert.GwinIdeal.nD Cert.GwinIdeal.τ).loc Cert.GwinIdeal.main_v0)),
      θ_run (Cert.GwinIdeal.defs (F := Ideal)) (onTc (τ := Cert.GwinIdeal.τ) (Cert.GwinIdeal.main (F := Ideal))) ⟨m, fun _ => 0, g⟩ (fun r => ∀ c : Dev Cert.GwinIdeal.nD,
          r.2.mem ((c.tc : Thread Cert.GwinIdeal.nD Cert.GwinIdeal.τ).loc Cert.GwinIdeal.main_v0) = v0 c
          ∧ r.2.mem ((c.tc : Thread Cert.GwinIdeal.nD Cert.GwinIdeal.τ).loc Cert.GwinIdeal.main_arg0) = m ((c.tc : Thread Cert.GwinIdeal.nD Cert.GwinIdeal.τ).loc Cert.GwinIdeal.main_arg0)
          ∧ r.2.mem ((c.tc : Thread Cert.GwinIdeal.nD Cert.GwinIdeal.τ).loc Cert.GwinIdeal.main_arg1) = m ((c.tc : Thread Cert.GwinIdeal.nD Cert.GwinIdeal.τ).loc Cert.GwinIdeal.main_arg1))
      ∧ θ_run (Cert.RefGwinIdeal.defs (F := Ideal)) (onTc (τ := Cert.RefGwinIdeal.τ) (Cert.RefGwinIdeal.main (F := Ideal))) ⟨m', fun _ => 0, g'⟩ (fun r => ∀ c : Dev Cert.RefGwinIdeal.nD,
          r.2.mem ((c.tc : Thread Cert.RefGwinIdeal.nD Cert.RefGwinIdeal.τ).loc Cert.RefGwinIdeal.main_v7) = v0 c
          ∧ r.2.mem ((c.tc : Thread Cert.RefGwinIdeal.nD Cert.RefGwinIdeal.τ).loc Cert.RefGwinIdeal.main_arg0) = m' ((c.tc : Thread Cert.RefGwinIdeal.nD Cert.RefGwinIdeal.τ).loc Cert.RefGwinIdeal.main_arg0)
          ∧ r.2.mem ((c.tc : Thread Cert.RefGwinIdeal.nD Cert.RefGwinIdeal.τ).loc Cert.RefGwinIdeal.main_arg1) = m' ((c.tc : Thread Cert.RefGwinIdeal.nD Cert.RefGwinIdeal.τ).loc Cert.RefGwinIdeal.main_arg1))

def preserves_Proj_ProjIdeal : Prop :=
  True

def algebraic_ProjIdeal_RefProjIdeal [hProjIdeal : Cert.ProjIdeal.Facts] [hRefProjIdeal : Cert.RefProjIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.RefProjIdeal.nD Cert.RefProjIdeal.τ Cert.RefProjIdeal.sig) → Buf (Elt Ideal) ℓ) (g' : Dev Cert.RefProjIdeal.nD → PrngReg), Pre_ProjIdeal m →
    (∀ c : Dev Cert.ProjIdeal.nD,
      m' ((c.tc : Thread Cert.RefProjIdeal.nD Cert.RefProjIdeal.τ).loc Cert.RefProjIdeal.main_arg0) = m ((c.tc : Thread Cert.ProjIdeal.nD Cert.ProjIdeal.τ).loc Cert.ProjIdeal.main_arg0)
      ∧ m' ((c.tc : Thread Cert.RefProjIdeal.nD Cert.RefProjIdeal.τ).loc Cert.RefProjIdeal.main_arg1) = m ((c.tc : Thread Cert.ProjIdeal.nD Cert.ProjIdeal.τ).loc Cert.ProjIdeal.main_arg1)
      ∧ m' ((c.tc : Thread Cert.RefProjIdeal.nD Cert.RefProjIdeal.τ).loc Cert.RefProjIdeal.main_arg2) = m ((c.tc : Thread Cert.ProjIdeal.nD Cert.ProjIdeal.τ).loc Cert.ProjIdeal.main_arg2)) →
    ∃ (v0 : (c : Dev Cert.ProjIdeal.nD) → Buf (Elt Ideal) ((c.tc : Thread Cert.ProjIdeal.nD Cert.ProjIdeal.τ).loc Cert.ProjIdeal.main_v0)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v0) = v0 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ θ_run (Cert.RefProjIdeal.defs (F := Ideal)) (onTc (τ := Cert.RefProjIdeal.τ) (Cert.RefProjIdeal.main (F := Ideal))) ⟨m', fun _ => 0, g'⟩ (fun r => ∀ c : Dev Cert.RefProjIdeal.nD,
          r.2.mem ((c.tc : Thread Cert.RefProjIdeal.nD Cert.RefProjIdeal.τ).loc Cert.RefProjIdeal.main_v5) = v0 c
          ∧ r.2.mem ((c.tc : Thread Cert.RefProjIdeal.nD Cert.RefProjIdeal.τ).loc Cert.RefProjIdeal.main_arg0) = m' ((c.tc : Thread Cert.RefProjIdeal.nD Cert.RefProjIdeal.τ).loc Cert.RefProjIdeal.main_arg0)
          ∧ r.2.mem ((c.tc : Thread Cert.RefProjIdeal.nD Cert.RefProjIdeal.τ).loc Cert.RefProjIdeal.main_arg1) = m' ((c.tc : Thread Cert.RefProjIdeal.nD Cert.RefProjIdeal.τ).loc Cert.RefProjIdeal.main_arg1)
          ∧ r.2.mem ((c.tc : Thread Cert.RefProjIdeal.nD Cert.RefProjIdeal.τ).loc Cert.RefProjIdeal.main_arg2) = m' ((c.tc : Thread Cert.RefProjIdeal.nD Cert.RefProjIdeal.τ).loc Cert.RefProjIdeal.main_arg2))

def preserves_Gw1_Gw1Ideal : Prop :=
  True

def algebraic_Gw1Ideal_RefGw1Ideal [hGw1Ideal : Cert.Gw1Ideal.Facts] [hRefGw1Ideal : Cert.RefGw1Ideal.Facts] : Prop :=
  ∀ (m : (ℓ : Loc Cert.Gw1Ideal.nD Cert.Gw1Ideal.τ Cert.Gw1Ideal.sig) → Buf (Elt Ideal) ℓ) (g : Dev Cert.Gw1Ideal.nD → PrngReg)
    (m' : (ℓ : Loc Cert.RefGw1Ideal.nD Cert.RefGw1Ideal.τ Cert.RefGw1Ideal.sig) → Buf (Elt Ideal) ℓ) (g' : Dev Cert.RefGw1Ideal.nD → PrngReg), Pre_Gw1Ideal m →
    (∀ c : Dev Cert.Gw1Ideal.nD,
      m' ((c.tc : Thread Cert.RefGw1Ideal.nD Cert.RefGw1Ideal.τ).loc Cert.RefGw1Ideal.main_arg0) = m ((c.tc : Thread Cert.Gw1Ideal.nD Cert.Gw1Ideal.τ).loc Cert.Gw1Ideal.main_arg0)
      ∧ m' ((c.tc : Thread Cert.RefGw1Ideal.nD Cert.RefGw1Ideal.τ).loc Cert.RefGw1Ideal.main_arg1) = m ((c.tc : Thread Cert.Gw1Ideal.nD Cert.Gw1Ideal.τ).loc Cert.Gw1Ideal.main_arg1)) →
    ∃ (v0 : (c : Dev Cert.Gw1Ideal.nD) → Buf (Elt Ideal) ((c.tc : Thread Cert.Gw1Ideal.nD Cert.Gw1Ideal.τ).loc Cert.Gw1Ideal.main_v0)),
      θ_run (Cert.Gw1Ideal.defs (F := Ideal)) (onTc (τ := Cert.Gw1Ideal.τ) (Cert.Gw1Ideal.main (F := Ideal))) ⟨m, fun _ => 0, g⟩ (fun r => ∀ c : Dev Cert.Gw1Ideal.nD,
          r.2.mem ((c.tc : Thread Cert.Gw1Ideal.nD Cert.Gw1Ideal.τ).loc Cert.Gw1Ideal.main_v0) = v0 c
          ∧ r.2.mem ((c.tc : Thread Cert.Gw1Ideal.nD Cert.Gw1Ideal.τ).loc Cert.Gw1Ideal.main_arg0) = m ((c.tc : Thread Cert.Gw1Ideal.nD Cert.Gw1Ideal.τ).loc Cert.Gw1Ideal.main_arg0)
          ∧ r.2.mem ((c.tc : Thread Cert.Gw1Ideal.nD Cert.Gw1Ideal.τ).loc Cert.Gw1Ideal.main_arg1) = m ((c.tc : Thread Cert.Gw1Ideal.nD Cert.Gw1Ideal.τ).loc Cert.Gw1Ideal.main_arg1))
      ∧ θ_run (Cert.RefGw1Ideal.defs (F := Ideal)) (onTc (τ := Cert.RefGw1Ideal.τ) (Cert.RefGw1Ideal.main (F := Ideal))) ⟨m', fun _ => 0, g'⟩ (fun r => ∀ c : Dev Cert.RefGw1Ideal.nD,
          r.2.mem ((c.tc : Thread Cert.RefGw1Ideal.nD Cert.RefGw1Ideal.τ).loc Cert.RefGw1Ideal.main_v7) = v0 c
          ∧ r.2.mem ((c.tc : Thread Cert.RefGw1Ideal.nD Cert.RefGw1Ideal.τ).loc Cert.RefGw1Ideal.main_arg0) = m' ((c.tc : Thread Cert.RefGw1Ideal.nD Cert.RefGw1Ideal.τ).loc Cert.RefGw1Ideal.main_arg0)
          ∧ r.2.mem ((c.tc : Thread Cert.RefGw1Ideal.nD Cert.RefGw1Ideal.τ).loc Cert.RefGw1Ideal.main_arg1) = m' ((c.tc : Thread Cert.RefGw1Ideal.nD Cert.RefGw1Ideal.τ).loc Cert.RefGw1Ideal.main_arg1))

def preserves_Dh1_Dh1Ideal : Prop :=
  True

def algebraic_Dh1Ideal_RefDh1Ideal [hDh1Ideal : Cert.Dh1Ideal.Facts] [hRefDh1Ideal : Cert.RefDh1Ideal.Facts] : Prop :=
  ∀ (m : (ℓ : Loc Cert.Dh1Ideal.nD Cert.Dh1Ideal.τ Cert.Dh1Ideal.sig) → Buf (Elt Ideal) ℓ) (g : Dev Cert.Dh1Ideal.nD → PrngReg)
    (m' : (ℓ : Loc Cert.RefDh1Ideal.nD Cert.RefDh1Ideal.τ Cert.RefDh1Ideal.sig) → Buf (Elt Ideal) ℓ) (g' : Dev Cert.RefDh1Ideal.nD → PrngReg), Pre_Dh1Ideal m →
    (∀ c : Dev Cert.Dh1Ideal.nD,
      m' ((c.tc : Thread Cert.RefDh1Ideal.nD Cert.RefDh1Ideal.τ).loc Cert.RefDh1Ideal.main_arg0) = m ((c.tc : Thread Cert.Dh1Ideal.nD Cert.Dh1Ideal.τ).loc Cert.Dh1Ideal.main_arg0)
      ∧ m' ((c.tc : Thread Cert.RefDh1Ideal.nD Cert.RefDh1Ideal.τ).loc Cert.RefDh1Ideal.main_arg1) = m ((c.tc : Thread Cert.Dh1Ideal.nD Cert.Dh1Ideal.τ).loc Cert.Dh1Ideal.main_arg1)) →
    ∃ (v0 : (c : Dev Cert.Dh1Ideal.nD) → Buf (Elt Ideal) ((c.tc : Thread Cert.Dh1Ideal.nD Cert.Dh1Ideal.τ).loc Cert.Dh1Ideal.main_v0)),
      θ_run (Cert.Dh1Ideal.defs (F := Ideal)) (onTc (τ := Cert.Dh1Ideal.τ) (Cert.Dh1Ideal.main (F := Ideal))) ⟨m, fun _ => 0, g⟩ (fun r => ∀ c : Dev Cert.Dh1Ideal.nD,
          r.2.mem ((c.tc : Thread Cert.Dh1Ideal.nD Cert.Dh1Ideal.τ).loc Cert.Dh1Ideal.main_v0) = v0 c
          ∧ r.2.mem ((c.tc : Thread Cert.Dh1Ideal.nD Cert.Dh1Ideal.τ).loc Cert.Dh1Ideal.main_arg0) = m ((c.tc : Thread Cert.Dh1Ideal.nD Cert.Dh1Ideal.τ).loc Cert.Dh1Ideal.main_arg0)
          ∧ r.2.mem ((c.tc : Thread Cert.Dh1Ideal.nD Cert.Dh1Ideal.τ).loc Cert.Dh1Ideal.main_arg1) = m ((c.tc : Thread Cert.Dh1Ideal.nD Cert.Dh1Ideal.τ).loc Cert.Dh1Ideal.main_arg1))
      ∧ θ_run (Cert.RefDh1Ideal.defs (F := Ideal)) (onTc (τ := Cert.RefDh1Ideal.τ) (Cert.RefDh1Ideal.main (F := Ideal))) ⟨m', fun _ => 0, g'⟩ (fun r => ∀ c : Dev Cert.RefDh1Ideal.nD,
          r.2.mem ((c.tc : Thread Cert.RefDh1Ideal.nD Cert.RefDh1Ideal.τ).loc Cert.RefDh1Ideal.main_v6) = v0 c
          ∧ r.2.mem ((c.tc : Thread Cert.RefDh1Ideal.nD Cert.RefDh1Ideal.τ).loc Cert.RefDh1Ideal.main_arg0) = m' ((c.tc : Thread Cert.RefDh1Ideal.nD Cert.RefDh1Ideal.τ).loc Cert.RefDh1Ideal.main_arg0)
          ∧ r.2.mem ((c.tc : Thread Cert.RefDh1Ideal.nD Cert.RefDh1Ideal.τ).loc Cert.RefDh1Ideal.main_arg1) = m' ((c.tc : Thread Cert.RefDh1Ideal.nD Cert.RefDh1Ideal.τ).loc Cert.RefDh1Ideal.main_arg1))

def preserves_Dycat_DycatIdeal : Prop :=
  True

def algebraic_DycatIdeal_RefDycatIdeal [hDycatIdeal : Cert.DycatIdeal.Facts] [hRefDycatIdeal : Cert.RefDycatIdeal.Facts] : Prop :=
  ∀ (m : (ℓ : Loc Cert.DycatIdeal.nD Cert.DycatIdeal.τ Cert.DycatIdeal.sig) → Buf (Elt Ideal) ℓ) (g : Dev Cert.DycatIdeal.nD → PrngReg)
    (m' : (ℓ : Loc Cert.RefDycatIdeal.nD Cert.RefDycatIdeal.τ Cert.RefDycatIdeal.sig) → Buf (Elt Ideal) ℓ) (g' : Dev Cert.RefDycatIdeal.nD → PrngReg), Pre_DycatIdeal m →
    (∀ c : Dev Cert.DycatIdeal.nD,
      m' ((c.tc : Thread Cert.RefDycatIdeal.nD Cert.RefDycatIdeal.τ).loc Cert.RefDycatIdeal.main_arg0) = m ((c.tc : Thread Cert.DycatIdeal.nD Cert.DycatIdeal.τ).loc Cert.DycatIdeal.main_arg0)
      ∧ m' ((c.tc : Thread Cert.RefDycatIdeal.nD Cert.RefDycatIdeal.τ).loc Cert.RefDycatIdeal.main_arg1) = m ((c.tc : Thread Cert.DycatIdeal.nD Cert.DycatIdeal.τ).loc Cert.DycatIdeal.main_arg1)
      ∧ m' ((c.tc : Thread Cert.RefDycatIdeal.nD Cert.RefDycatIdeal.τ).loc Cert.RefDycatIdeal.main_arg2) = m ((c.tc : Thread Cert.DycatIdeal.nD Cert.DycatIdeal.τ).loc Cert.DycatIdeal.main_arg2)) →
    ∃ (v0 : (c : Dev Cert.DycatIdeal.nD) → Buf (Elt Ideal) ((c.tc : Thread Cert.DycatIdeal.nD Cert.DycatIdeal.τ).loc Cert.DycatIdeal.main_v0)),
      θ_run (Cert.DycatIdeal.defs (F := Ideal)) (onTc (τ := Cert.DycatIdeal.τ) (Cert.DycatIdeal.main (F := Ideal))) ⟨m, fun _ => 0, g⟩ (fun r => ∀ c : Dev Cert.DycatIdeal.nD,
          r.2.mem ((c.tc : Thread Cert.DycatIdeal.nD Cert.DycatIdeal.τ).loc Cert.DycatIdeal.main_v0) = v0 c
          ∧ r.2.mem ((c.tc : Thread Cert.DycatIdeal.nD Cert.DycatIdeal.τ).loc Cert.DycatIdeal.main_arg0) = m ((c.tc : Thread Cert.DycatIdeal.nD Cert.DycatIdeal.τ).loc Cert.DycatIdeal.main_arg0)
          ∧ r.2.mem ((c.tc : Thread Cert.DycatIdeal.nD Cert.DycatIdeal.τ).loc Cert.DycatIdeal.main_arg1) = m ((c.tc : Thread Cert.DycatIdeal.nD Cert.DycatIdeal.τ).loc Cert.DycatIdeal.main_arg1)
          ∧ r.2.mem ((c.tc : Thread Cert.DycatIdeal.nD Cert.DycatIdeal.τ).loc Cert.DycatIdeal.main_arg2) = m ((c.tc : Thread Cert.DycatIdeal.nD Cert.DycatIdeal.τ).loc Cert.DycatIdeal.main_arg2))
      ∧ θ_run (Cert.RefDycatIdeal.defs (F := Ideal)) (onTc (τ := Cert.RefDycatIdeal.τ) (Cert.RefDycatIdeal.main (F := Ideal))) ⟨m', fun _ => 0, g'⟩ (fun r => ∀ c : Dev Cert.RefDycatIdeal.nD,
          r.2.mem ((c.tc : Thread Cert.RefDycatIdeal.nD Cert.RefDycatIdeal.τ).loc Cert.RefDycatIdeal.main_v4) = v0 c
          ∧ r.2.mem ((c.tc : Thread Cert.RefDycatIdeal.nD Cert.RefDycatIdeal.τ).loc Cert.RefDycatIdeal.main_arg0) = m' ((c.tc : Thread Cert.RefDycatIdeal.nD Cert.RefDycatIdeal.τ).loc Cert.RefDycatIdeal.main_arg0)
          ∧ r.2.mem ((c.tc : Thread Cert.RefDycatIdeal.nD Cert.RefDycatIdeal.τ).loc Cert.RefDycatIdeal.main_arg1) = m' ((c.tc : Thread Cert.RefDycatIdeal.nD Cert.RefDycatIdeal.τ).loc Cert.RefDycatIdeal.main_arg1)
          ∧ r.2.mem ((c.tc : Thread Cert.RefDycatIdeal.nD Cert.RefDycatIdeal.τ).loc Cert.RefDycatIdeal.main_arg2) = m' ((c.tc : Thread Cert.RefDycatIdeal.nD Cert.RefDycatIdeal.τ).loc Cert.RefDycatIdeal.main_arg2))

def preserves_Gwout_GwoutIdeal : Prop :=
  True

def algebraic_GwoutIdeal_RefGwoutIdeal [hGwoutIdeal : Cert.GwoutIdeal.Facts] [hRefGwoutIdeal : Cert.RefGwoutIdeal.Facts] : Prop :=
  ∀ (m : (ℓ : Loc Cert.GwoutIdeal.nD Cert.GwoutIdeal.τ Cert.GwoutIdeal.sig) → Buf (Elt Ideal) ℓ) (g : Dev Cert.GwoutIdeal.nD → PrngReg)
    (m' : (ℓ : Loc Cert.RefGwoutIdeal.nD Cert.RefGwoutIdeal.τ Cert.RefGwoutIdeal.sig) → Buf (Elt Ideal) ℓ) (g' : Dev Cert.RefGwoutIdeal.nD → PrngReg), Pre_GwoutIdeal m →
    (∀ c : Dev Cert.GwoutIdeal.nD,
      m' ((c.tc : Thread Cert.RefGwoutIdeal.nD Cert.RefGwoutIdeal.τ).loc Cert.RefGwoutIdeal.main_arg0) = m ((c.tc : Thread Cert.GwoutIdeal.nD Cert.GwoutIdeal.τ).loc Cert.GwoutIdeal.main_arg0)
      ∧ m' ((c.tc : Thread Cert.RefGwoutIdeal.nD Cert.RefGwoutIdeal.τ).loc Cert.RefGwoutIdeal.main_arg1) = m ((c.tc : Thread Cert.GwoutIdeal.nD Cert.GwoutIdeal.τ).loc Cert.GwoutIdeal.main_arg1)) →
    ∃ (v0 : (c : Dev Cert.GwoutIdeal.nD) → Buf (Elt Ideal) ((c.tc : Thread Cert.GwoutIdeal.nD Cert.GwoutIdeal.τ).loc Cert.GwoutIdeal.main_v0)),
      θ_run (Cert.GwoutIdeal.defs (F := Ideal)) (onTc (τ := Cert.GwoutIdeal.τ) (Cert.GwoutIdeal.main (F := Ideal))) ⟨m, fun _ => 0, g⟩ (fun r => ∀ c : Dev Cert.GwoutIdeal.nD,
          r.2.mem ((c.tc : Thread Cert.GwoutIdeal.nD Cert.GwoutIdeal.τ).loc Cert.GwoutIdeal.main_v0) = v0 c
          ∧ r.2.mem ((c.tc : Thread Cert.GwoutIdeal.nD Cert.GwoutIdeal.τ).loc Cert.GwoutIdeal.main_arg0) = m ((c.tc : Thread Cert.GwoutIdeal.nD Cert.GwoutIdeal.τ).loc Cert.GwoutIdeal.main_arg0)
          ∧ r.2.mem ((c.tc : Thread Cert.GwoutIdeal.nD Cert.GwoutIdeal.τ).loc Cert.GwoutIdeal.main_arg1) = m ((c.tc : Thread Cert.GwoutIdeal.nD Cert.GwoutIdeal.τ).loc Cert.GwoutIdeal.main_arg1))
      ∧ θ_run (Cert.RefGwoutIdeal.defs (F := Ideal)) (onTc (τ := Cert.RefGwoutIdeal.τ) (Cert.RefGwoutIdeal.main (F := Ideal))) ⟨m', fun _ => 0, g'⟩ (fun r => ∀ c : Dev Cert.RefGwoutIdeal.nD,
          r.2.mem ((c.tc : Thread Cert.RefGwoutIdeal.nD Cert.RefGwoutIdeal.τ).loc Cert.RefGwoutIdeal.main_v5) = v0 c
          ∧ r.2.mem ((c.tc : Thread Cert.RefGwoutIdeal.nD Cert.RefGwoutIdeal.τ).loc Cert.RefGwoutIdeal.main_arg0) = m' ((c.tc : Thread Cert.RefGwoutIdeal.nD Cert.RefGwoutIdeal.τ).loc Cert.RefGwoutIdeal.main_arg0)
          ∧ r.2.mem ((c.tc : Thread Cert.RefGwoutIdeal.nD Cert.RefGwoutIdeal.τ).loc Cert.RefGwoutIdeal.main_arg1) = m' ((c.tc : Thread Cert.RefGwoutIdeal.nD Cert.RefGwoutIdeal.τ).loc Cert.RefGwoutIdeal.main_arg1))

def preserves_Ff1_Ff1Ideal : Prop :=
  True

def algebraic_Ff1Ideal_RefFf1Ideal [hFf1Ideal : Cert.Ff1Ideal.Facts] [hRefFf1Ideal : Cert.RefFf1Ideal.Facts] : Prop :=
  ∀ (m : (ℓ : Loc Cert.Ff1Ideal.nD Cert.Ff1Ideal.τ Cert.Ff1Ideal.sig) → Buf (Elt Ideal) ℓ) (g : Dev Cert.Ff1Ideal.nD → PrngReg)
    (m' : (ℓ : Loc Cert.RefFf1Ideal.nD Cert.RefFf1Ideal.τ Cert.RefFf1Ideal.sig) → Buf (Elt Ideal) ℓ) (g' : Dev Cert.RefFf1Ideal.nD → PrngReg), Pre_Ff1Ideal m →
    (∀ c : Dev Cert.Ff1Ideal.nD,
      m' ((c.tc : Thread Cert.RefFf1Ideal.nD Cert.RefFf1Ideal.τ).loc Cert.RefFf1Ideal.main_arg0) = m ((c.tc : Thread Cert.Ff1Ideal.nD Cert.Ff1Ideal.τ).loc Cert.Ff1Ideal.main_arg0)
      ∧ m' ((c.tc : Thread Cert.RefFf1Ideal.nD Cert.RefFf1Ideal.τ).loc Cert.RefFf1Ideal.main_arg1) = m ((c.tc : Thread Cert.Ff1Ideal.nD Cert.Ff1Ideal.τ).loc Cert.Ff1Ideal.main_arg1)) →
    ∃ (v0 : (c : Dev Cert.Ff1Ideal.nD) → Buf (Elt Ideal) ((c.tc : Thread Cert.Ff1Ideal.nD Cert.Ff1Ideal.τ).loc Cert.Ff1Ideal.main_v0_0)) (v1 : (c : Dev Cert.Ff1Ideal.nD) → Buf (Elt Ideal) ((c.tc : Thread Cert.Ff1Ideal.nD Cert.Ff1Ideal.τ).loc Cert.Ff1Ideal.main_v0_1)),
      θ_run (Cert.Ff1Ideal.defs (F := Ideal)) (onTc (τ := Cert.Ff1Ideal.τ) (Cert.Ff1Ideal.main (F := Ideal))) ⟨m, fun _ => 0, g⟩ (fun r => ∀ c : Dev Cert.Ff1Ideal.nD,
          r.2.mem ((c.tc : Thread Cert.Ff1Ideal.nD Cert.Ff1Ideal.τ).loc Cert.Ff1Ideal.main_v0_0) = v0 c
          ∧ r.2.mem ((c.tc : Thread Cert.Ff1Ideal.nD Cert.Ff1Ideal.τ).loc Cert.Ff1Ideal.main_v0_1) = v1 c
          ∧ r.2.mem ((c.tc : Thread Cert.Ff1Ideal.nD Cert.Ff1Ideal.τ).loc Cert.Ff1Ideal.main_arg0) = m ((c.tc : Thread Cert.Ff1Ideal.nD Cert.Ff1Ideal.τ).loc Cert.Ff1Ideal.main_arg0)
          ∧ r.2.mem ((c.tc : Thread Cert.Ff1Ideal.nD Cert.Ff1Ideal.τ).loc Cert.Ff1Ideal.main_arg1) = m ((c.tc : Thread Cert.Ff1Ideal.nD Cert.Ff1Ideal.τ).loc Cert.Ff1Ideal.main_arg1))
      ∧ θ_run (Cert.RefFf1Ideal.defs (F := Ideal)) (onTc (τ := Cert.RefFf1Ideal.τ) (Cert.RefFf1Ideal.main (F := Ideal))) ⟨m', fun _ => 0, g'⟩ (fun r => ∀ c : Dev Cert.RefFf1Ideal.nD,
          r.2.mem ((c.tc : Thread Cert.RefFf1Ideal.nD Cert.RefFf1Ideal.τ).loc Cert.RefFf1Ideal.main_v4) = v0 c
          ∧ r.2.mem ((c.tc : Thread Cert.RefFf1Ideal.nD Cert.RefFf1Ideal.τ).loc Cert.RefFf1Ideal.main_v7) = v1 c
          ∧ r.2.mem ((c.tc : Thread Cert.RefFf1Ideal.nD Cert.RefFf1Ideal.τ).loc Cert.RefFf1Ideal.main_arg0) = m' ((c.tc : Thread Cert.RefFf1Ideal.nD Cert.RefFf1Ideal.τ).loc Cert.RefFf1Ideal.main_arg0)
          ∧ r.2.mem ((c.tc : Thread Cert.RefFf1Ideal.nD Cert.RefFf1Ideal.τ).loc Cert.RefFf1Ideal.main_arg1) = m' ((c.tc : Thread Cert.RefFf1Ideal.nD Cert.RefFf1Ideal.τ).loc Cert.RefFf1Ideal.main_arg1))

def preserves_Ff2l_Ff2lIdeal : Prop :=
  True

def algebraic_Ff2lIdeal_RefFf2lIdeal [hFf2lIdeal : Cert.Ff2lIdeal.Facts] [hRefFf2lIdeal : Cert.RefFf2lIdeal.Facts] : Prop :=
  ∀ (m : (ℓ : Loc Cert.Ff2lIdeal.nD Cert.Ff2lIdeal.τ Cert.Ff2lIdeal.sig) → Buf (Elt Ideal) ℓ) (g : Dev Cert.Ff2lIdeal.nD → PrngReg)
    (m' : (ℓ : Loc Cert.RefFf2lIdeal.nD Cert.RefFf2lIdeal.τ Cert.RefFf2lIdeal.sig) → Buf (Elt Ideal) ℓ) (g' : Dev Cert.RefFf2lIdeal.nD → PrngReg), Pre_Ff2lIdeal m →
    (∀ c : Dev Cert.Ff2lIdeal.nD,
      m' ((c.tc : Thread Cert.RefFf2lIdeal.nD Cert.RefFf2lIdeal.τ).loc Cert.RefFf2lIdeal.main_arg0) = m ((c.tc : Thread Cert.Ff2lIdeal.nD Cert.Ff2lIdeal.τ).loc Cert.Ff2lIdeal.main_arg0)
      ∧ m' ((c.tc : Thread Cert.RefFf2lIdeal.nD Cert.RefFf2lIdeal.τ).loc Cert.RefFf2lIdeal.main_arg1) = m ((c.tc : Thread Cert.Ff2lIdeal.nD Cert.Ff2lIdeal.τ).loc Cert.Ff2lIdeal.main_arg1)
      ∧ m' ((c.tc : Thread Cert.RefFf2lIdeal.nD Cert.RefFf2lIdeal.τ).loc Cert.RefFf2lIdeal.main_arg2) = m ((c.tc : Thread Cert.Ff2lIdeal.nD Cert.Ff2lIdeal.τ).loc Cert.Ff2lIdeal.main_arg2)) →
    ∃ (v0 : (c : Dev Cert.Ff2lIdeal.nD) → Buf (Elt Ideal) ((c.tc : Thread Cert.Ff2lIdeal.nD Cert.Ff2lIdeal.τ).loc Cert.Ff2lIdeal.main_v0)),
      θ_run (Cert.Ff2lIdeal.defs (F := Ideal)) (onTc (τ := Cert.Ff2lIdeal.τ) (Cert.Ff2lIdeal.main (F := Ideal))) ⟨m, fun _ => 0, g⟩ (fun r => ∀ c : Dev Cert.Ff2lIdeal.nD,
          r.2.mem ((c.tc : Thread Cert.Ff2lIdeal.nD Cert.Ff2lIdeal.τ).loc Cert.Ff2lIdeal.main_v0) = v0 c
          ∧ r.2.mem ((c.tc : Thread Cert.Ff2lIdeal.nD Cert.Ff2lIdeal.τ).loc Cert.Ff2lIdeal.main_arg0) = m ((c.tc : Thread Cert.Ff2lIdeal.nD Cert.Ff2lIdeal.τ).loc Cert.Ff2lIdeal.main_arg0)
          ∧ r.2.mem ((c.tc : Thread Cert.Ff2lIdeal.nD Cert.Ff2lIdeal.τ).loc Cert.Ff2lIdeal.main_arg1) = m ((c.tc : Thread Cert.Ff2lIdeal.nD Cert.Ff2lIdeal.τ).loc Cert.Ff2lIdeal.main_arg1)
          ∧ r.2.mem ((c.tc : Thread Cert.Ff2lIdeal.nD Cert.Ff2lIdeal.τ).loc Cert.Ff2lIdeal.main_arg2) = m ((c.tc : Thread Cert.Ff2lIdeal.nD Cert.Ff2lIdeal.τ).loc Cert.Ff2lIdeal.main_arg2))
      ∧ θ_run (Cert.RefFf2lIdeal.defs (F := Ideal)) (onTc (τ := Cert.RefFf2lIdeal.τ) (Cert.RefFf2lIdeal.main (F := Ideal))) ⟨m', fun _ => 0, g'⟩ (fun r => ∀ c : Dev Cert.RefFf2lIdeal.nD,
          r.2.mem ((c.tc : Thread Cert.RefFf2lIdeal.nD Cert.RefFf2lIdeal.τ).loc Cert.RefFf2lIdeal.main_v3) = v0 c
          ∧ r.2.mem ((c.tc : Thread Cert.RefFf2lIdeal.nD Cert.RefFf2lIdeal.τ).loc Cert.RefFf2lIdeal.main_arg0) = m' ((c.tc : Thread Cert.RefFf2lIdeal.nD Cert.RefFf2lIdeal.τ).loc Cert.RefFf2lIdeal.main_arg0)
          ∧ r.2.mem ((c.tc : Thread Cert.RefFf2lIdeal.nD Cert.RefFf2lIdeal.τ).loc Cert.RefFf2lIdeal.main_arg1) = m' ((c.tc : Thread Cert.RefFf2lIdeal.nD Cert.RefFf2lIdeal.τ).loc Cert.RefFf2lIdeal.main_arg1)
          ∧ r.2.mem ((c.tc : Thread Cert.RefFf2lIdeal.nD Cert.RefFf2lIdeal.τ).loc Cert.RefFf2lIdeal.main_arg2) = m' ((c.tc : Thread Cert.RefFf2lIdeal.nD Cert.RefFf2lIdeal.τ).loc Cert.RefFf2lIdeal.main_arg2))

def preserves_Out_OutIdeal : Prop :=
  True

def algebraic_OutIdeal_RefOutIdeal [hOutIdeal : Cert.OutIdeal.Facts] [hRefOutIdeal : Cert.RefOutIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.RefOutIdeal.nD Cert.RefOutIdeal.τ Cert.RefOutIdeal.sig) → Buf (Elt Ideal) ℓ) (g' : Dev Cert.RefOutIdeal.nD → PrngReg), Pre_OutIdeal m →
    (∀ c : Dev Cert.OutIdeal.nD,
      m' ((c.tc : Thread Cert.RefOutIdeal.nD Cert.RefOutIdeal.τ).loc Cert.RefOutIdeal.main_arg0) = m ((c.tc : Thread Cert.OutIdeal.nD Cert.OutIdeal.τ).loc Cert.OutIdeal.main_arg0)
      ∧ m' ((c.tc : Thread Cert.RefOutIdeal.nD Cert.RefOutIdeal.τ).loc Cert.RefOutIdeal.main_arg1) = m ((c.tc : Thread Cert.OutIdeal.nD Cert.OutIdeal.τ).loc Cert.OutIdeal.main_arg1)
      ∧ m' ((c.tc : Thread Cert.RefOutIdeal.nD Cert.RefOutIdeal.τ).loc Cert.RefOutIdeal.main_arg2) = m ((c.tc : Thread Cert.OutIdeal.nD Cert.OutIdeal.τ).loc Cert.OutIdeal.main_arg2)
      ∧ m' ((c.tc : Thread Cert.RefOutIdeal.nD Cert.RefOutIdeal.τ).loc Cert.RefOutIdeal.main_arg3) = m ((c.tc : Thread Cert.OutIdeal.nD Cert.OutIdeal.τ).loc Cert.OutIdeal.main_arg3)) →
    ∃ (v0 : (c : Dev Cert.OutIdeal.nD) → Buf (Elt Ideal) ((c.tc : Thread Cert.OutIdeal.nD Cert.OutIdeal.τ).loc Cert.OutIdeal.main_v1_0)) (v1 : (c : Dev Cert.OutIdeal.nD) → Buf (Elt Ideal) ((c.tc : Thread Cert.OutIdeal.nD Cert.OutIdeal.τ).loc Cert.OutIdeal.main_v1_1)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v1_0) = v0 c
          ∧ r.2.mem ((c.tc : Thread Cert.OutIdeal.nD Cert.OutIdeal.τ).loc Cert.OutIdeal.main_v1_1) = v1 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3))
      ∧ θ_run (Cert.RefOutIdeal.defs (F := Ideal)) (onTc (τ := Cert.RefOutIdeal.τ) (Cert.RefOutIdeal.main (F := Ideal))) ⟨m', fun _ => 0, g'⟩ (fun r => ∀ c : Dev Cert.RefOutIdeal.nD,
          r.2.mem ((c.tc : Thread Cert.RefOutIdeal.nD Cert.RefOutIdeal.τ).loc Cert.RefOutIdeal.main_v3) = v0 c
          ∧ r.2.mem ((c.tc : Thread Cert.RefOutIdeal.nD Cert.RefOutIdeal.τ).loc Cert.RefOutIdeal.main_v17) = v1 c
          ∧ r.2.mem ((c.tc : Thread Cert.RefOutIdeal.nD Cert.RefOutIdeal.τ).loc Cert.RefOutIdeal.main_arg0) = m' ((c.tc : Thread Cert.RefOutIdeal.nD Cert.RefOutIdeal.τ).loc Cert.RefOutIdeal.main_arg0)
          ∧ r.2.mem ((c.tc : Thread Cert.RefOutIdeal.nD Cert.RefOutIdeal.τ).loc Cert.RefOutIdeal.main_arg1) = m' ((c.tc : Thread Cert.RefOutIdeal.nD Cert.RefOutIdeal.τ).loc Cert.RefOutIdeal.main_arg1)
          ∧ r.2.mem ((c.tc : Thread Cert.RefOutIdeal.nD Cert.RefOutIdeal.τ).loc Cert.RefOutIdeal.main_arg2) = m' ((c.tc : Thread Cert.RefOutIdeal.nD Cert.RefOutIdeal.τ).loc Cert.RefOutIdeal.main_arg2)
          ∧ r.2.mem ((c.tc : Thread Cert.RefOutIdeal.nD Cert.RefOutIdeal.τ).loc Cert.RefOutIdeal.main_arg3) = m' ((c.tc : Thread Cert.RefOutIdeal.nD Cert.RefOutIdeal.τ).loc Cert.RefOutIdeal.main_arg3))

def preserves_Ff2_Ff2Ideal : Prop :=
  True

def algebraic_Ff2Ideal_RefFf2Ideal [hFf2Ideal : Cert.Ff2Ideal.Facts] [hRefFf2Ideal : Cert.RefFf2Ideal.Facts] : Prop :=
  ∀ (m : (ℓ : Loc Cert.Ff2Ideal.nD Cert.Ff2Ideal.τ Cert.Ff2Ideal.sig) → Buf (Elt Ideal) ℓ) (g : Dev Cert.Ff2Ideal.nD → PrngReg)
    (m' : (ℓ : Loc Cert.RefFf2Ideal.nD Cert.RefFf2Ideal.τ Cert.RefFf2Ideal.sig) → Buf (Elt Ideal) ℓ) (g' : Dev Cert.RefFf2Ideal.nD → PrngReg), Pre_Ff2Ideal m →
    (∀ c : Dev Cert.Ff2Ideal.nD,
      m' ((c.tc : Thread Cert.RefFf2Ideal.nD Cert.RefFf2Ideal.τ).loc Cert.RefFf2Ideal.main_arg0) = m ((c.tc : Thread Cert.Ff2Ideal.nD Cert.Ff2Ideal.τ).loc Cert.Ff2Ideal.main_arg0)
      ∧ m' ((c.tc : Thread Cert.RefFf2Ideal.nD Cert.RefFf2Ideal.τ).loc Cert.RefFf2Ideal.main_arg1) = m ((c.tc : Thread Cert.Ff2Ideal.nD Cert.Ff2Ideal.τ).loc Cert.Ff2Ideal.main_arg1)
      ∧ m' ((c.tc : Thread Cert.RefFf2Ideal.nD Cert.RefFf2Ideal.τ).loc Cert.RefFf2Ideal.main_arg2) = m ((c.tc : Thread Cert.Ff2Ideal.nD Cert.Ff2Ideal.τ).loc Cert.Ff2Ideal.main_arg2)
      ∧ m' ((c.tc : Thread Cert.RefFf2Ideal.nD Cert.RefFf2Ideal.τ).loc Cert.RefFf2Ideal.main_arg3) = m ((c.tc : Thread Cert.Ff2Ideal.nD Cert.Ff2Ideal.τ).loc Cert.Ff2Ideal.main_arg3)) →
    ∃ (v0 : (c : Dev Cert.Ff2Ideal.nD) → Buf (Elt Ideal) ((c.tc : Thread Cert.Ff2Ideal.nD Cert.Ff2Ideal.τ).loc Cert.Ff2Ideal.main_v1_0)) (v1 : (c : Dev Cert.Ff2Ideal.nD) → Buf (Elt Ideal) ((c.tc : Thread Cert.Ff2Ideal.nD Cert.Ff2Ideal.τ).loc Cert.Ff2Ideal.main_v1_1)) (v2 : (c : Dev Cert.Ff2Ideal.nD) → Buf (Elt Ideal) ((c.tc : Thread Cert.Ff2Ideal.nD Cert.Ff2Ideal.τ).loc Cert.Ff2Ideal.main_v1_2)),
      θ_run (Cert.Ff2Ideal.defs (F := Ideal)) (onTc (τ := Cert.Ff2Ideal.τ) (Cert.Ff2Ideal.main (F := Ideal))) ⟨m, fun _ => 0, g⟩ (fun r => ∀ c : Dev Cert.Ff2Ideal.nD,
          r.2.mem ((c.tc : Thread Cert.Ff2Ideal.nD Cert.Ff2Ideal.τ).loc Cert.Ff2Ideal.main_v1_0) = v0 c
          ∧ r.2.mem ((c.tc : Thread Cert.Ff2Ideal.nD Cert.Ff2Ideal.τ).loc Cert.Ff2Ideal.main_v1_1) = v1 c
          ∧ r.2.mem ((c.tc : Thread Cert.Ff2Ideal.nD Cert.Ff2Ideal.τ).loc Cert.Ff2Ideal.main_v1_2) = v2 c
          ∧ r.2.mem ((c.tc : Thread Cert.Ff2Ideal.nD Cert.Ff2Ideal.τ).loc Cert.Ff2Ideal.main_arg0) = m ((c.tc : Thread Cert.Ff2Ideal.nD Cert.Ff2Ideal.τ).loc Cert.Ff2Ideal.main_arg0)
          ∧ r.2.mem ((c.tc : Thread Cert.Ff2Ideal.nD Cert.Ff2Ideal.τ).loc Cert.Ff2Ideal.main_arg1) = m ((c.tc : Thread Cert.Ff2Ideal.nD Cert.Ff2Ideal.τ).loc Cert.Ff2Ideal.main_arg1)
          ∧ r.2.mem ((c.tc : Thread Cert.Ff2Ideal.nD Cert.Ff2Ideal.τ).loc Cert.Ff2Ideal.main_arg2) = m ((c.tc : Thread Cert.Ff2Ideal.nD Cert.Ff2Ideal.τ).loc Cert.Ff2Ideal.main_arg2)
          ∧ r.2.mem ((c.tc : Thread Cert.Ff2Ideal.nD Cert.Ff2Ideal.τ).loc Cert.Ff2Ideal.main_arg3) = m ((c.tc : Thread Cert.Ff2Ideal.nD Cert.Ff2Ideal.τ).loc Cert.Ff2Ideal.main_arg3))
      ∧ θ_run (Cert.RefFf2Ideal.defs (F := Ideal)) (onTc (τ := Cert.RefFf2Ideal.τ) (Cert.RefFf2Ideal.main (F := Ideal))) ⟨m', fun _ => 0, g'⟩ (fun r => ∀ c : Dev Cert.RefFf2Ideal.nD,
          r.2.mem ((c.tc : Thread Cert.RefFf2Ideal.nD Cert.RefFf2Ideal.τ).loc Cert.RefFf2Ideal.main_v3) = v0 c
          ∧ r.2.mem ((c.tc : Thread Cert.RefFf2Ideal.nD Cert.RefFf2Ideal.τ).loc Cert.RefFf2Ideal.main_v17) = v1 c
          ∧ r.2.mem ((c.tc : Thread Cert.RefFf2Ideal.nD Cert.RefFf2Ideal.τ).loc Cert.RefFf2Ideal.main_v18) = v2 c
          ∧ r.2.mem ((c.tc : Thread Cert.RefFf2Ideal.nD Cert.RefFf2Ideal.τ).loc Cert.RefFf2Ideal.main_arg0) = m' ((c.tc : Thread Cert.RefFf2Ideal.nD Cert.RefFf2Ideal.τ).loc Cert.RefFf2Ideal.main_arg0)
          ∧ r.2.mem ((c.tc : Thread Cert.RefFf2Ideal.nD Cert.RefFf2Ideal.τ).loc Cert.RefFf2Ideal.main_arg1) = m' ((c.tc : Thread Cert.RefFf2Ideal.nD Cert.RefFf2Ideal.τ).loc Cert.RefFf2Ideal.main_arg1)
          ∧ r.2.mem ((c.tc : Thread Cert.RefFf2Ideal.nD Cert.RefFf2Ideal.τ).loc Cert.RefFf2Ideal.main_arg2) = m' ((c.tc : Thread Cert.RefFf2Ideal.nD Cert.RefFf2Ideal.τ).loc Cert.RefFf2Ideal.main_arg2)
          ∧ r.2.mem ((c.tc : Thread Cert.RefFf2Ideal.nD Cert.RefFf2Ideal.τ).loc Cert.RefFf2Ideal.main_arg3) = m' ((c.tc : Thread Cert.RefFf2Ideal.nD Cert.RefFf2Ideal.τ).loc Cert.RefFf2Ideal.main_arg3))

def preserves_Dh2_Dh2Ideal : Prop :=
  True

def algebraic_Dh2Ideal_RefDh2Ideal [hDh2Ideal : Cert.Dh2Ideal.Facts] [hRefDh2Ideal : Cert.RefDh2Ideal.Facts] : Prop :=
  ∀ (m : (ℓ : Loc Cert.Dh2Ideal.nD Cert.Dh2Ideal.τ Cert.Dh2Ideal.sig) → Buf (Elt Ideal) ℓ) (g : Dev Cert.Dh2Ideal.nD → PrngReg)
    (m' : (ℓ : Loc Cert.RefDh2Ideal.nD Cert.RefDh2Ideal.τ Cert.RefDh2Ideal.sig) → Buf (Elt Ideal) ℓ) (g' : Dev Cert.RefDh2Ideal.nD → PrngReg), Pre_Dh2Ideal m →
    (∀ c : Dev Cert.Dh2Ideal.nD,
      m' ((c.tc : Thread Cert.RefDh2Ideal.nD Cert.RefDh2Ideal.τ).loc Cert.RefDh2Ideal.main_arg0) = m ((c.tc : Thread Cert.Dh2Ideal.nD Cert.Dh2Ideal.τ).loc Cert.Dh2Ideal.main_arg0)
      ∧ m' ((c.tc : Thread Cert.RefDh2Ideal.nD Cert.RefDh2Ideal.τ).loc Cert.RefDh2Ideal.main_arg1) = m ((c.tc : Thread Cert.Dh2Ideal.nD Cert.Dh2Ideal.τ).loc Cert.Dh2Ideal.main_arg1)
      ∧ m' ((c.tc : Thread Cert.RefDh2Ideal.nD Cert.RefDh2Ideal.τ).loc Cert.RefDh2Ideal.main_arg2) = m ((c.tc : Thread Cert.Dh2Ideal.nD Cert.Dh2Ideal.τ).loc Cert.Dh2Ideal.main_arg2)
      ∧ m' ((c.tc : Thread Cert.RefDh2Ideal.nD Cert.RefDh2Ideal.τ).loc Cert.RefDh2Ideal.main_arg3) = m ((c.tc : Thread Cert.Dh2Ideal.nD Cert.Dh2Ideal.τ).loc Cert.Dh2Ideal.main_arg3)
      ∧ m' ((c.tc : Thread Cert.RefDh2Ideal.nD Cert.RefDh2Ideal.τ).loc Cert.RefDh2Ideal.main_arg4) = m ((c.tc : Thread Cert.Dh2Ideal.nD Cert.Dh2Ideal.τ).loc Cert.Dh2Ideal.main_arg4)
      ∧ m' ((c.tc : Thread Cert.RefDh2Ideal.nD Cert.RefDh2Ideal.τ).loc Cert.RefDh2Ideal.main_arg5) = m ((c.tc : Thread Cert.Dh2Ideal.nD Cert.Dh2Ideal.τ).loc Cert.Dh2Ideal.main_arg5)) →
    ∃ (v0 : (c : Dev Cert.Dh2Ideal.nD) → Buf (Elt Ideal) ((c.tc : Thread Cert.Dh2Ideal.nD Cert.Dh2Ideal.τ).loc Cert.Dh2Ideal.main_v1_0)) (v1 : (c : Dev Cert.Dh2Ideal.nD) → Buf (Elt Ideal) ((c.tc : Thread Cert.Dh2Ideal.nD Cert.Dh2Ideal.τ).loc Cert.Dh2Ideal.main_v1_1)),
      θ_run (Cert.Dh2Ideal.defs (F := Ideal)) (onTc (τ := Cert.Dh2Ideal.τ) (Cert.Dh2Ideal.main (F := Ideal))) ⟨m, fun _ => 0, g⟩ (fun r => ∀ c : Dev Cert.Dh2Ideal.nD,
          r.2.mem ((c.tc : Thread Cert.Dh2Ideal.nD Cert.Dh2Ideal.τ).loc Cert.Dh2Ideal.main_v1_0) = v0 c
          ∧ r.2.mem ((c.tc : Thread Cert.Dh2Ideal.nD Cert.Dh2Ideal.τ).loc Cert.Dh2Ideal.main_v1_1) = v1 c
          ∧ r.2.mem ((c.tc : Thread Cert.Dh2Ideal.nD Cert.Dh2Ideal.τ).loc Cert.Dh2Ideal.main_arg0) = m ((c.tc : Thread Cert.Dh2Ideal.nD Cert.Dh2Ideal.τ).loc Cert.Dh2Ideal.main_arg0)
          ∧ r.2.mem ((c.tc : Thread Cert.Dh2Ideal.nD Cert.Dh2Ideal.τ).loc Cert.Dh2Ideal.main_arg1) = m ((c.tc : Thread Cert.Dh2Ideal.nD Cert.Dh2Ideal.τ).loc Cert.Dh2Ideal.main_arg1)
          ∧ r.2.mem ((c.tc : Thread Cert.Dh2Ideal.nD Cert.Dh2Ideal.τ).loc Cert.Dh2Ideal.main_arg2) = m ((c.tc : Thread Cert.Dh2Ideal.nD Cert.Dh2Ideal.τ).loc Cert.Dh2Ideal.main_arg2)
          ∧ r.2.mem ((c.tc : Thread Cert.Dh2Ideal.nD Cert.Dh2Ideal.τ).loc Cert.Dh2Ideal.main_arg3) = m ((c.tc : Thread Cert.Dh2Ideal.nD Cert.Dh2Ideal.τ).loc Cert.Dh2Ideal.main_arg3)
          ∧ r.2.mem ((c.tc : Thread Cert.Dh2Ideal.nD Cert.Dh2Ideal.τ).loc Cert.Dh2Ideal.main_arg4) = m ((c.tc : Thread Cert.Dh2Ideal.nD Cert.Dh2Ideal.τ).loc Cert.Dh2Ideal.main_arg4)
          ∧ r.2.mem ((c.tc : Thread Cert.Dh2Ideal.nD Cert.Dh2Ideal.τ).loc Cert.Dh2Ideal.main_arg5) = m ((c.tc : Thread Cert.Dh2Ideal.nD Cert.Dh2Ideal.τ).loc Cert.Dh2Ideal.main_arg5))
      ∧ θ_run (Cert.RefDh2Ideal.defs (F := Ideal)) (onTc (τ := Cert.RefDh2Ideal.τ) (Cert.RefDh2Ideal.main (F := Ideal))) ⟨m', fun _ => 0, g'⟩ (fun r => ∀ c : Dev Cert.RefDh2Ideal.nD,
          r.2.mem ((c.tc : Thread Cert.RefDh2Ideal.nD Cert.RefDh2Ideal.τ).loc Cert.RefDh2Ideal.main_v41) = v0 c
          ∧ r.2.mem ((c.tc : Thread Cert.RefDh2Ideal.nD Cert.RefDh2Ideal.τ).loc Cert.RefDh2Ideal.main_v43) = v1 c
          ∧ r.2.mem ((c.tc : Thread Cert.RefDh2Ideal.nD Cert.RefDh2Ideal.τ).loc Cert.RefDh2Ideal.main_arg0) = m' ((c.tc : Thread Cert.RefDh2Ideal.nD Cert.RefDh2Ideal.τ).loc Cert.RefDh2Ideal.main_arg0)
          ∧ r.2.mem ((c.tc : Thread Cert.RefDh2Ideal.nD Cert.RefDh2Ideal.τ).loc Cert.RefDh2Ideal.main_arg1) = m' ((c.tc : Thread Cert.RefDh2Ideal.nD Cert.RefDh2Ideal.τ).loc Cert.RefDh2Ideal.main_arg1)
          ∧ r.2.mem ((c.tc : Thread Cert.RefDh2Ideal.nD Cert.RefDh2Ideal.τ).loc Cert.RefDh2Ideal.main_arg2) = m' ((c.tc : Thread Cert.RefDh2Ideal.nD Cert.RefDh2Ideal.τ).loc Cert.RefDh2Ideal.main_arg2)
          ∧ r.2.mem ((c.tc : Thread Cert.RefDh2Ideal.nD Cert.RefDh2Ideal.τ).loc Cert.RefDh2Ideal.main_arg3) = m' ((c.tc : Thread Cert.RefDh2Ideal.nD Cert.RefDh2Ideal.τ).loc Cert.RefDh2Ideal.main_arg3)
          ∧ r.2.mem ((c.tc : Thread Cert.RefDh2Ideal.nD Cert.RefDh2Ideal.τ).loc Cert.RefDh2Ideal.main_arg4) = m' ((c.tc : Thread Cert.RefDh2Ideal.nD Cert.RefDh2Ideal.τ).loc Cert.RefDh2Ideal.main_arg4)
          ∧ r.2.mem ((c.tc : Thread Cert.RefDh2Ideal.nD Cert.RefDh2Ideal.τ).loc Cert.RefDh2Ideal.main_arg5) = m' ((c.tc : Thread Cert.RefDh2Ideal.nD Cert.RefDh2Ideal.τ).loc Cert.RefDh2Ideal.main_arg5))

def preserves_Pdt_PdtIdeal : Prop :=
  True

def algebraic_PdtIdeal_RefPdtIdeal [hPdtIdeal : Cert.PdtIdeal.Facts] [hRefPdtIdeal : Cert.RefPdtIdeal.Facts] : Prop :=
  ∀ (m : (ℓ : Loc Cert.PdtIdeal.nD Cert.PdtIdeal.τ Cert.PdtIdeal.sig) → Buf (Elt Ideal) ℓ) (g : Dev Cert.PdtIdeal.nD → PrngReg)
    (m' : (ℓ : Loc Cert.RefPdtIdeal.nD Cert.RefPdtIdeal.τ Cert.RefPdtIdeal.sig) → Buf (Elt Ideal) ℓ) (g' : Dev Cert.RefPdtIdeal.nD → PrngReg), Pre_PdtIdeal m →
    (∀ c : Dev Cert.PdtIdeal.nD,
      m' ((c.tc : Thread Cert.RefPdtIdeal.nD Cert.RefPdtIdeal.τ).loc Cert.RefPdtIdeal.main_arg0) = m ((c.tc : Thread Cert.PdtIdeal.nD Cert.PdtIdeal.τ).loc Cert.PdtIdeal.main_arg0)
      ∧ m' ((c.tc : Thread Cert.RefPdtIdeal.nD Cert.RefPdtIdeal.τ).loc Cert.RefPdtIdeal.main_arg1) = m ((c.tc : Thread Cert.PdtIdeal.nD Cert.PdtIdeal.τ).loc Cert.PdtIdeal.main_arg1)) →
    ∃ (v0 : (c : Dev Cert.PdtIdeal.nD) → Buf (Elt Ideal) ((c.tc : Thread Cert.PdtIdeal.nD Cert.PdtIdeal.τ).loc Cert.PdtIdeal.main_v2)),
      θ_run (Cert.PdtIdeal.defs (F := Ideal)) (onTc (τ := Cert.PdtIdeal.τ) (Cert.PdtIdeal.main (F := Ideal))) ⟨m, fun _ => 0, g⟩ (fun r => ∀ c : Dev Cert.PdtIdeal.nD,
          r.2.mem ((c.tc : Thread Cert.PdtIdeal.nD Cert.PdtIdeal.τ).loc Cert.PdtIdeal.main_v2) = v0 c
          ∧ r.2.mem ((c.tc : Thread Cert.PdtIdeal.nD Cert.PdtIdeal.τ).loc Cert.PdtIdeal.main_arg0) = m ((c.tc : Thread Cert.PdtIdeal.nD Cert.PdtIdeal.τ).loc Cert.PdtIdeal.main_arg0)
          ∧ r.2.mem ((c.tc : Thread Cert.PdtIdeal.nD Cert.PdtIdeal.τ).loc Cert.PdtIdeal.main_arg1) = m ((c.tc : Thread Cert.PdtIdeal.nD Cert.PdtIdeal.τ).loc Cert.PdtIdeal.main_arg1))
      ∧ θ_run (Cert.RefPdtIdeal.defs (F := Ideal)) (onTc (τ := Cert.RefPdtIdeal.τ) (Cert.RefPdtIdeal.main (F := Ideal))) ⟨m', fun _ => 0, g'⟩ (fun r => ∀ c : Dev Cert.RefPdtIdeal.nD,
          r.2.mem ((c.tc : Thread Cert.RefPdtIdeal.nD Cert.RefPdtIdeal.τ).loc Cert.RefPdtIdeal.main_v5) = v0 c
          ∧ r.2.mem ((c.tc : Thread Cert.RefPdtIdeal.nD Cert.RefPdtIdeal.τ).loc Cert.RefPdtIdeal.main_arg0) = m' ((c.tc : Thread Cert.RefPdtIdeal.nD Cert.RefPdtIdeal.τ).loc Cert.RefPdtIdeal.main_arg0)
          ∧ r.2.mem ((c.tc : Thread Cert.RefPdtIdeal.nD Cert.RefPdtIdeal.τ).loc Cert.RefPdtIdeal.main_arg1) = m' ((c.tc : Thread Cert.RefPdtIdeal.nD Cert.RefPdtIdeal.τ).loc Cert.RefPdtIdeal.main_arg1))

def preserves_Gwdt_GwdtIdeal : Prop :=
  True

def algebraic_GwdtIdeal_RefGwdtIdeal [hGwdtIdeal : Cert.GwdtIdeal.Facts] [hRefGwdtIdeal : Cert.RefGwdtIdeal.Facts] : Prop :=
  ∀ (m : (ℓ : Loc Cert.GwdtIdeal.nD Cert.GwdtIdeal.τ Cert.GwdtIdeal.sig) → Buf (Elt Ideal) ℓ) (g : Dev Cert.GwdtIdeal.nD → PrngReg)
    (m' : (ℓ : Loc Cert.RefGwdtIdeal.nD Cert.RefGwdtIdeal.τ Cert.RefGwdtIdeal.sig) → Buf (Elt Ideal) ℓ) (g' : Dev Cert.RefGwdtIdeal.nD → PrngReg), Pre_GwdtIdeal m →
    (∀ c : Dev Cert.GwdtIdeal.nD,
      m' ((c.tc : Thread Cert.RefGwdtIdeal.nD Cert.RefGwdtIdeal.τ).loc Cert.RefGwdtIdeal.main_arg0) = m ((c.tc : Thread Cert.GwdtIdeal.nD Cert.GwdtIdeal.τ).loc Cert.GwdtIdeal.main_arg0)
      ∧ m' ((c.tc : Thread Cert.RefGwdtIdeal.nD Cert.RefGwdtIdeal.τ).loc Cert.RefGwdtIdeal.main_arg1) = m ((c.tc : Thread Cert.GwdtIdeal.nD Cert.GwdtIdeal.τ).loc Cert.GwdtIdeal.main_arg1)) →
    ∃ (v0 : (c : Dev Cert.GwdtIdeal.nD) → Buf (Elt Ideal) ((c.tc : Thread Cert.GwdtIdeal.nD Cert.GwdtIdeal.τ).loc Cert.GwdtIdeal.main_v0)),
      θ_run (Cert.GwdtIdeal.defs (F := Ideal)) (onTc (τ := Cert.GwdtIdeal.τ) (Cert.GwdtIdeal.main (F := Ideal))) ⟨m, fun _ => 0, g⟩ (fun r => ∀ c : Dev Cert.GwdtIdeal.nD,
          r.2.mem ((c.tc : Thread Cert.GwdtIdeal.nD Cert.GwdtIdeal.τ).loc Cert.GwdtIdeal.main_v0) = v0 c
          ∧ r.2.mem ((c.tc : Thread Cert.GwdtIdeal.nD Cert.GwdtIdeal.τ).loc Cert.GwdtIdeal.main_arg0) = m ((c.tc : Thread Cert.GwdtIdeal.nD Cert.GwdtIdeal.τ).loc Cert.GwdtIdeal.main_arg0)
          ∧ r.2.mem ((c.tc : Thread Cert.GwdtIdeal.nD Cert.GwdtIdeal.τ).loc Cert.GwdtIdeal.main_arg1) = m ((c.tc : Thread Cert.GwdtIdeal.nD Cert.GwdtIdeal.τ).loc Cert.GwdtIdeal.main_arg1))
      ∧ θ_run (Cert.RefGwdtIdeal.defs (F := Ideal)) (onTc (τ := Cert.RefGwdtIdeal.τ) (Cert.RefGwdtIdeal.main (F := Ideal))) ⟨m', fun _ => 0, g'⟩ (fun r => ∀ c : Dev Cert.RefGwdtIdeal.nD,
          r.2.mem ((c.tc : Thread Cert.RefGwdtIdeal.nD Cert.RefGwdtIdeal.τ).loc Cert.RefGwdtIdeal.main_v7) = v0 c
          ∧ r.2.mem ((c.tc : Thread Cert.RefGwdtIdeal.nD Cert.RefGwdtIdeal.τ).loc Cert.RefGwdtIdeal.main_arg0) = m' ((c.tc : Thread Cert.RefGwdtIdeal.nD Cert.RefGwdtIdeal.τ).loc Cert.RefGwdtIdeal.main_arg0)
          ∧ r.2.mem ((c.tc : Thread Cert.RefGwdtIdeal.nD Cert.RefGwdtIdeal.τ).loc Cert.RefGwdtIdeal.main_arg1) = m' ((c.tc : Thread Cert.RefGwdtIdeal.nD Cert.RefGwdtIdeal.τ).loc Cert.RefGwdtIdeal.main_arg1))

def preserves_Dh1dt_Dh1dtIdeal : Prop :=
  True

def algebraic_Dh1dtIdeal_RefDh1dtIdeal [hDh1dtIdeal : Cert.Dh1dtIdeal.Facts] [hRefDh1dtIdeal : Cert.RefDh1dtIdeal.Facts] : Prop :=
  ∀ (m : (ℓ : Loc Cert.Dh1dtIdeal.nD Cert.Dh1dtIdeal.τ Cert.Dh1dtIdeal.sig) → Buf (Elt Ideal) ℓ) (g : Dev Cert.Dh1dtIdeal.nD → PrngReg)
    (m' : (ℓ : Loc Cert.RefDh1dtIdeal.nD Cert.RefDh1dtIdeal.τ Cert.RefDh1dtIdeal.sig) → Buf (Elt Ideal) ℓ) (g' : Dev Cert.RefDh1dtIdeal.nD → PrngReg), Pre_Dh1dtIdeal m →
    (∀ c : Dev Cert.Dh1dtIdeal.nD,
      m' ((c.tc : Thread Cert.RefDh1dtIdeal.nD Cert.RefDh1dtIdeal.τ).loc Cert.RefDh1dtIdeal.main_arg0) = m ((c.tc : Thread Cert.Dh1dtIdeal.nD Cert.Dh1dtIdeal.τ).loc Cert.Dh1dtIdeal.main_arg0)
      ∧ m' ((c.tc : Thread Cert.RefDh1dtIdeal.nD Cert.RefDh1dtIdeal.τ).loc Cert.RefDh1dtIdeal.main_arg1) = m ((c.tc : Thread Cert.Dh1dtIdeal.nD Cert.Dh1dtIdeal.τ).loc Cert.Dh1dtIdeal.main_arg1)
      ∧ m' ((c.tc : Thread Cert.RefDh1dtIdeal.nD Cert.RefDh1dtIdeal.τ).loc Cert.RefDh1dtIdeal.main_arg2) = m ((c.tc : Thread Cert.Dh1dtIdeal.nD Cert.Dh1dtIdeal.τ).loc Cert.Dh1dtIdeal.main_arg2)
      ∧ m' ((c.tc : Thread Cert.RefDh1dtIdeal.nD Cert.RefDh1dtIdeal.τ).loc Cert.RefDh1dtIdeal.main_arg3) = m ((c.tc : Thread Cert.Dh1dtIdeal.nD Cert.Dh1dtIdeal.τ).loc Cert.Dh1dtIdeal.main_arg3)
      ∧ m' ((c.tc : Thread Cert.RefDh1dtIdeal.nD Cert.RefDh1dtIdeal.τ).loc Cert.RefDh1dtIdeal.main_arg4) = m ((c.tc : Thread Cert.Dh1dtIdeal.nD Cert.Dh1dtIdeal.τ).loc Cert.Dh1dtIdeal.main_arg4)
      ∧ m' ((c.tc : Thread Cert.RefDh1dtIdeal.nD Cert.RefDh1dtIdeal.τ).loc Cert.RefDh1dtIdeal.main_arg5) = m ((c.tc : Thread Cert.Dh1dtIdeal.nD Cert.Dh1dtIdeal.τ).loc Cert.Dh1dtIdeal.main_arg5)
      ∧ m' ((c.tc : Thread Cert.RefDh1dtIdeal.nD Cert.RefDh1dtIdeal.τ).loc Cert.RefDh1dtIdeal.main_arg6) = m ((c.tc : Thread Cert.Dh1dtIdeal.nD Cert.Dh1dtIdeal.τ).loc Cert.Dh1dtIdeal.main_arg6)) →
    ∃ (v0 : (c : Dev Cert.Dh1dtIdeal.nD) → Buf (Elt Ideal) ((c.tc : Thread Cert.Dh1dtIdeal.nD Cert.Dh1dtIdeal.τ).loc Cert.Dh1dtIdeal.main_v3_0)) (v1 : (c : Dev Cert.Dh1dtIdeal.nD) → Buf (Elt Ideal) ((c.tc : Thread Cert.Dh1dtIdeal.nD Cert.Dh1dtIdeal.τ).loc Cert.Dh1dtIdeal.main_v3_1)),
      θ_run (Cert.Dh1dtIdeal.defs (F := Ideal)) (onTc (τ := Cert.Dh1dtIdeal.τ) (Cert.Dh1dtIdeal.main (F := Ideal))) ⟨m, fun _ => 0, g⟩ (fun r => ∀ c : Dev Cert.Dh1dtIdeal.nD,
          r.2.mem ((c.tc : Thread Cert.Dh1dtIdeal.nD Cert.Dh1dtIdeal.τ).loc Cert.Dh1dtIdeal.main_v3_0) = v0 c
          ∧ r.2.mem ((c.tc : Thread Cert.Dh1dtIdeal.nD Cert.Dh1dtIdeal.τ).loc Cert.Dh1dtIdeal.main_v3_1) = v1 c
          ∧ r.2.mem ((c.tc : Thread Cert.Dh1dtIdeal.nD Cert.Dh1dtIdeal.τ).loc Cert.Dh1dtIdeal.main_arg0) = m ((c.tc : Thread Cert.Dh1dtIdeal.nD Cert.Dh1dtIdeal.τ).loc Cert.Dh1dtIdeal.main_arg0)
          ∧ r.2.mem ((c.tc : Thread Cert.Dh1dtIdeal.nD Cert.Dh1dtIdeal.τ).loc Cert.Dh1dtIdeal.main_arg1) = m ((c.tc : Thread Cert.Dh1dtIdeal.nD Cert.Dh1dtIdeal.τ).loc Cert.Dh1dtIdeal.main_arg1)
          ∧ r.2.mem ((c.tc : Thread Cert.Dh1dtIdeal.nD Cert.Dh1dtIdeal.τ).loc Cert.Dh1dtIdeal.main_arg2) = m ((c.tc : Thread Cert.Dh1dtIdeal.nD Cert.Dh1dtIdeal.τ).loc Cert.Dh1dtIdeal.main_arg2)
          ∧ r.2.mem ((c.tc : Thread Cert.Dh1dtIdeal.nD Cert.Dh1dtIdeal.τ).loc Cert.Dh1dtIdeal.main_arg3) = m ((c.tc : Thread Cert.Dh1dtIdeal.nD Cert.Dh1dtIdeal.τ).loc Cert.Dh1dtIdeal.main_arg3)
          ∧ r.2.mem ((c.tc : Thread Cert.Dh1dtIdeal.nD Cert.Dh1dtIdeal.τ).loc Cert.Dh1dtIdeal.main_arg4) = m ((c.tc : Thread Cert.Dh1dtIdeal.nD Cert.Dh1dtIdeal.τ).loc Cert.Dh1dtIdeal.main_arg4)
          ∧ r.2.mem ((c.tc : Thread Cert.Dh1dtIdeal.nD Cert.Dh1dtIdeal.τ).loc Cert.Dh1dtIdeal.main_arg5) = m ((c.tc : Thread Cert.Dh1dtIdeal.nD Cert.Dh1dtIdeal.τ).loc Cert.Dh1dtIdeal.main_arg5)
          ∧ r.2.mem ((c.tc : Thread Cert.Dh1dtIdeal.nD Cert.Dh1dtIdeal.τ).loc Cert.Dh1dtIdeal.main_arg6) = m ((c.tc : Thread Cert.Dh1dtIdeal.nD Cert.Dh1dtIdeal.τ).loc Cert.Dh1dtIdeal.main_arg6))
      ∧ θ_run (Cert.RefDh1dtIdeal.defs (F := Ideal)) (onTc (τ := Cert.RefDh1dtIdeal.τ) (Cert.RefDh1dtIdeal.main (F := Ideal))) ⟨m', fun _ => 0, g'⟩ (fun r => ∀ c : Dev Cert.RefDh1dtIdeal.nD,
          r.2.mem ((c.tc : Thread Cert.RefDh1dtIdeal.nD Cert.RefDh1dtIdeal.τ).loc Cert.RefDh1dtIdeal.main_v44) = v0 c
          ∧ r.2.mem ((c.tc : Thread Cert.RefDh1dtIdeal.nD Cert.RefDh1dtIdeal.τ).loc Cert.RefDh1dtIdeal.main_v46) = v1 c
          ∧ r.2.mem ((c.tc : Thread Cert.RefDh1dtIdeal.nD Cert.RefDh1dtIdeal.τ).loc Cert.RefDh1dtIdeal.main_arg0) = m' ((c.tc : Thread Cert.RefDh1dtIdeal.nD Cert.RefDh1dtIdeal.τ).loc Cert.RefDh1dtIdeal.main_arg0)
          ∧ r.2.mem ((c.tc : Thread Cert.RefDh1dtIdeal.nD Cert.RefDh1dtIdeal.τ).loc Cert.RefDh1dtIdeal.main_arg1) = m' ((c.tc : Thread Cert.RefDh1dtIdeal.nD Cert.RefDh1dtIdeal.τ).loc Cert.RefDh1dtIdeal.main_arg1)
          ∧ r.2.mem ((c.tc : Thread Cert.RefDh1dtIdeal.nD Cert.RefDh1dtIdeal.τ).loc Cert.RefDh1dtIdeal.main_arg2) = m' ((c.tc : Thread Cert.RefDh1dtIdeal.nD Cert.RefDh1dtIdeal.τ).loc Cert.RefDh1dtIdeal.main_arg2)
          ∧ r.2.mem ((c.tc : Thread Cert.RefDh1dtIdeal.nD Cert.RefDh1dtIdeal.τ).loc Cert.RefDh1dtIdeal.main_arg3) = m' ((c.tc : Thread Cert.RefDh1dtIdeal.nD Cert.RefDh1dtIdeal.τ).loc Cert.RefDh1dtIdeal.main_arg3)
          ∧ r.2.mem ((c.tc : Thread Cert.RefDh1dtIdeal.nD Cert.RefDh1dtIdeal.τ).loc Cert.RefDh1dtIdeal.main_arg4) = m' ((c.tc : Thread Cert.RefDh1dtIdeal.nD Cert.RefDh1dtIdeal.τ).loc Cert.RefDh1dtIdeal.main_arg4)
          ∧ r.2.mem ((c.tc : Thread Cert.RefDh1dtIdeal.nD Cert.RefDh1dtIdeal.τ).loc Cert.RefDh1dtIdeal.main_arg5) = m' ((c.tc : Thread Cert.RefDh1dtIdeal.nD Cert.RefDh1dtIdeal.τ).loc Cert.RefDh1dtIdeal.main_arg5)
          ∧ r.2.mem ((c.tc : Thread Cert.RefDh1dtIdeal.nD Cert.RefDh1dtIdeal.τ).loc Cert.RefDh1dtIdeal.main_arg6) = m' ((c.tc : Thread Cert.RefDh1dtIdeal.nD Cert.RefDh1dtIdeal.τ).loc Cert.RefDh1dtIdeal.main_arg6))

def preserves_AdamSmall_AdamSmallIdeal : Prop :=
  IdealRules.named_const.Statement Cert.AdamSmallIdeal.κ "c1" .f32 0x3FC48605#32 ((8388608 / 5463681 : ℝ) : EReal)
  ∧ IdealRules.named_const.Statement Cert.AdamSmallIdeal.κ "c2" .f32 0x42C8E6D3#32 ((268435456 / 2672307 : ℝ) : EReal)

def algebraic_AdamSmallIdeal_RefAdamSmallIdeal [hAdamSmallIdeal : Cert.AdamSmallIdeal.Facts] [hRefAdamSmallIdeal : Cert.RefAdamSmallIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg)
    (m' : (ℓ : Loc Cert.RefAdamSmallIdeal.nD Cert.RefAdamSmallIdeal.τ Cert.RefAdamSmallIdeal.sig) → Buf (Elt Ideal) ℓ) (g' : Dev Cert.RefAdamSmallIdeal.nD → PrngReg), Pre_AdamSmallIdeal m →
    (∀ c : Dev Cert.AdamSmallIdeal.nD,
      m' ((c.tc : Thread Cert.RefAdamSmallIdeal.nD Cert.RefAdamSmallIdeal.τ).loc Cert.RefAdamSmallIdeal.main_arg0) = m ((c.tc : Thread Cert.AdamSmallIdeal.nD Cert.AdamSmallIdeal.τ).loc Cert.AdamSmallIdeal.main_arg0)
      ∧ m' ((c.tc : Thread Cert.RefAdamSmallIdeal.nD Cert.RefAdamSmallIdeal.τ).loc Cert.RefAdamSmallIdeal.main_arg1) = m ((c.tc : Thread Cert.AdamSmallIdeal.nD Cert.AdamSmallIdeal.τ).loc Cert.AdamSmallIdeal.main_arg1)
      ∧ m' ((c.tc : Thread Cert.RefAdamSmallIdeal.nD Cert.RefAdamSmallIdeal.τ).loc Cert.RefAdamSmallIdeal.main_arg2) = m ((c.tc : Thread Cert.AdamSmallIdeal.nD Cert.AdamSmallIdeal.τ).loc Cert.AdamSmallIdeal.main_arg2)
      ∧ m' ((c.tc : Thread Cert.RefAdamSmallIdeal.nD Cert.RefAdamSmallIdeal.τ).loc Cert.RefAdamSmallIdeal.main_arg3) = m ((c.tc : Thread Cert.AdamSmallIdeal.nD Cert.AdamSmallIdeal.τ).loc Cert.AdamSmallIdeal.main_arg3)
      ∧ m' ((c.tc : Thread Cert.RefAdamSmallIdeal.nD Cert.RefAdamSmallIdeal.τ).loc Cert.RefAdamSmallIdeal.main_arg4) = m ((c.tc : Thread Cert.AdamSmallIdeal.nD Cert.AdamSmallIdeal.τ).loc Cert.AdamSmallIdeal.main_arg4)
      ∧ m' ((c.tc : Thread Cert.RefAdamSmallIdeal.nD Cert.RefAdamSmallIdeal.τ).loc Cert.RefAdamSmallIdeal.main_arg5) = m ((c.tc : Thread Cert.AdamSmallIdeal.nD Cert.AdamSmallIdeal.τ).loc Cert.AdamSmallIdeal.main_arg5)
      ∧ m' ((c.tc : Thread Cert.RefAdamSmallIdeal.nD Cert.RefAdamSmallIdeal.τ).loc Cert.RefAdamSmallIdeal.main_arg6) = m ((c.tc : Thread Cert.AdamSmallIdeal.nD Cert.AdamSmallIdeal.τ).loc Cert.AdamSmallIdeal.main_arg6)
      ∧ m' ((c.tc : Thread Cert.RefAdamSmallIdeal.nD Cert.RefAdamSmallIdeal.τ).loc Cert.RefAdamSmallIdeal.main_arg7) = m ((c.tc : Thread Cert.AdamSmallIdeal.nD Cert.AdamSmallIdeal.τ).loc Cert.AdamSmallIdeal.main_arg7)
      ∧ m' ((c.tc : Thread Cert.RefAdamSmallIdeal.nD Cert.RefAdamSmallIdeal.τ).loc Cert.RefAdamSmallIdeal.main_arg8) = m ((c.tc : Thread Cert.AdamSmallIdeal.nD Cert.AdamSmallIdeal.τ).loc Cert.AdamSmallIdeal.main_arg8)
      ∧ m' ((c.tc : Thread Cert.RefAdamSmallIdeal.nD Cert.RefAdamSmallIdeal.τ).loc Cert.RefAdamSmallIdeal.main_arg9) = m ((c.tc : Thread Cert.AdamSmallIdeal.nD Cert.AdamSmallIdeal.τ).loc Cert.AdamSmallIdeal.main_arg9)
      ∧ m' ((c.tc : Thread Cert.RefAdamSmallIdeal.nD Cert.RefAdamSmallIdeal.τ).loc Cert.RefAdamSmallIdeal.main_arg10) = m ((c.tc : Thread Cert.AdamSmallIdeal.nD Cert.AdamSmallIdeal.τ).loc Cert.AdamSmallIdeal.main_arg10)
      ∧ m' ((c.tc : Thread Cert.RefAdamSmallIdeal.nD Cert.RefAdamSmallIdeal.τ).loc Cert.RefAdamSmallIdeal.main_arg11) = m ((c.tc : Thread Cert.AdamSmallIdeal.nD Cert.AdamSmallIdeal.τ).loc Cert.AdamSmallIdeal.main_arg11)
      ∧ m' ((c.tc : Thread Cert.RefAdamSmallIdeal.nD Cert.RefAdamSmallIdeal.τ).loc Cert.RefAdamSmallIdeal.main_arg12) = m ((c.tc : Thread Cert.AdamSmallIdeal.nD Cert.AdamSmallIdeal.τ).loc Cert.AdamSmallIdeal.main_arg12)
      ∧ m' ((c.tc : Thread Cert.RefAdamSmallIdeal.nD Cert.RefAdamSmallIdeal.τ).loc Cert.RefAdamSmallIdeal.main_arg13) = m ((c.tc : Thread Cert.AdamSmallIdeal.nD Cert.AdamSmallIdeal.τ).loc Cert.AdamSmallIdeal.main_arg13)
      ∧ m' ((c.tc : Thread Cert.RefAdamSmallIdeal.nD Cert.RefAdamSmallIdeal.τ).loc Cert.RefAdamSmallIdeal.main_arg14) = m ((c.tc : Thread Cert.AdamSmallIdeal.nD Cert.AdamSmallIdeal.τ).loc Cert.AdamSmallIdeal.main_arg14)
      ∧ m' ((c.tc : Thread Cert.RefAdamSmallIdeal.nD Cert.RefAdamSmallIdeal.τ).loc Cert.RefAdamSmallIdeal.main_arg15) = m ((c.tc : Thread Cert.AdamSmallIdeal.nD Cert.AdamSmallIdeal.τ).loc Cert.AdamSmallIdeal.main_arg15)
      ∧ m' ((c.tc : Thread Cert.RefAdamSmallIdeal.nD Cert.RefAdamSmallIdeal.τ).loc Cert.RefAdamSmallIdeal.main_arg16) = m ((c.tc : Thread Cert.AdamSmallIdeal.nD Cert.AdamSmallIdeal.τ).loc Cert.AdamSmallIdeal.main_arg16)
      ∧ m' ((c.tc : Thread Cert.RefAdamSmallIdeal.nD Cert.RefAdamSmallIdeal.τ).loc Cert.RefAdamSmallIdeal.main_arg17) = m ((c.tc : Thread Cert.AdamSmallIdeal.nD Cert.AdamSmallIdeal.τ).loc Cert.AdamSmallIdeal.main_arg17)
      ∧ m' ((c.tc : Thread Cert.RefAdamSmallIdeal.nD Cert.RefAdamSmallIdeal.τ).loc Cert.RefAdamSmallIdeal.main_arg18) = m ((c.tc : Thread Cert.AdamSmallIdeal.nD Cert.AdamSmallIdeal.τ).loc Cert.AdamSmallIdeal.main_arg18)
      ∧ m' ((c.tc : Thread Cert.RefAdamSmallIdeal.nD Cert.RefAdamSmallIdeal.τ).loc Cert.RefAdamSmallIdeal.main_arg19) = m ((c.tc : Thread Cert.AdamSmallIdeal.nD Cert.AdamSmallIdeal.τ).loc Cert.AdamSmallIdeal.main_arg19)
      ∧ m' ((c.tc : Thread Cert.RefAdamSmallIdeal.nD Cert.RefAdamSmallIdeal.τ).loc Cert.RefAdamSmallIdeal.main_arg20) = m ((c.tc : Thread Cert.AdamSmallIdeal.nD Cert.AdamSmallIdeal.τ).loc Cert.AdamSmallIdeal.main_arg20)
      ∧ m' ((c.tc : Thread Cert.RefAdamSmallIdeal.nD Cert.RefAdamSmallIdeal.τ).loc Cert.RefAdamSmallIdeal.main_arg21) = m ((c.tc : Thread Cert.AdamSmallIdeal.nD Cert.AdamSmallIdeal.τ).loc Cert.AdamSmallIdeal.main_arg21)
      ∧ m' ((c.tc : Thread Cert.RefAdamSmallIdeal.nD Cert.RefAdamSmallIdeal.τ).loc Cert.RefAdamSmallIdeal.main_arg22) = m ((c.tc : Thread Cert.AdamSmallIdeal.nD Cert.AdamSmallIdeal.τ).loc Cert.AdamSmallIdeal.main_arg22)
      ∧ m' ((c.tc : Thread Cert.RefAdamSmallIdeal.nD Cert.RefAdamSmallIdeal.τ).loc Cert.RefAdamSmallIdeal.main_arg23) = m ((c.tc : Thread Cert.AdamSmallIdeal.nD Cert.AdamSmallIdeal.τ).loc Cert.AdamSmallIdeal.main_arg23)
      ∧ m' ((c.tc : Thread Cert.RefAdamSmallIdeal.nD Cert.RefAdamSmallIdeal.τ).loc Cert.RefAdamSmallIdeal.main_arg24) = m ((c.tc : Thread Cert.AdamSmallIdeal.nD Cert.AdamSmallIdeal.τ).loc Cert.AdamSmallIdeal.main_arg24)
      ∧ m' ((c.tc : Thread Cert.RefAdamSmallIdeal.nD Cert.RefAdamSmallIdeal.τ).loc Cert.RefAdamSmallIdeal.main_arg25) = m ((c.tc : Thread Cert.AdamSmallIdeal.nD Cert.AdamSmallIdeal.τ).loc Cert.AdamSmallIdeal.main_arg25)
      ∧ m' ((c.tc : Thread Cert.RefAdamSmallIdeal.nD Cert.RefAdamSmallIdeal.τ).loc Cert.RefAdamSmallIdeal.main_arg26) = m ((c.tc : Thread Cert.AdamSmallIdeal.nD Cert.AdamSmallIdeal.τ).loc Cert.AdamSmallIdeal.main_arg26)
      ∧ m' ((c.tc : Thread Cert.RefAdamSmallIdeal.nD Cert.RefAdamSmallIdeal.τ).loc Cert.RefAdamSmallIdeal.main_arg27) = m ((c.tc : Thread Cert.AdamSmallIdeal.nD Cert.AdamSmallIdeal.τ).loc Cert.AdamSmallIdeal.main_arg27)
      ∧ m' ((c.tc : Thread Cert.RefAdamSmallIdeal.nD Cert.RefAdamSmallIdeal.τ).loc Cert.RefAdamSmallIdeal.main_arg28) = m ((c.tc : Thread Cert.AdamSmallIdeal.nD Cert.AdamSmallIdeal.τ).loc Cert.AdamSmallIdeal.main_arg28)
      ∧ m' ((c.tc : Thread Cert.RefAdamSmallIdeal.nD Cert.RefAdamSmallIdeal.τ).loc Cert.RefAdamSmallIdeal.main_arg29) = m ((c.tc : Thread Cert.AdamSmallIdeal.nD Cert.AdamSmallIdeal.τ).loc Cert.AdamSmallIdeal.main_arg29)
      ∧ m' ((c.tc : Thread Cert.RefAdamSmallIdeal.nD Cert.RefAdamSmallIdeal.τ).loc Cert.RefAdamSmallIdeal.main_arg30) = m ((c.tc : Thread Cert.AdamSmallIdeal.nD Cert.AdamSmallIdeal.τ).loc Cert.AdamSmallIdeal.main_arg30)
      ∧ m' ((c.tc : Thread Cert.RefAdamSmallIdeal.nD Cert.RefAdamSmallIdeal.τ).loc Cert.RefAdamSmallIdeal.main_arg31) = m ((c.tc : Thread Cert.AdamSmallIdeal.nD Cert.AdamSmallIdeal.τ).loc Cert.AdamSmallIdeal.main_arg31)
      ∧ m' ((c.tc : Thread Cert.RefAdamSmallIdeal.nD Cert.RefAdamSmallIdeal.τ).loc Cert.RefAdamSmallIdeal.main_arg32) = m ((c.tc : Thread Cert.AdamSmallIdeal.nD Cert.AdamSmallIdeal.τ).loc Cert.AdamSmallIdeal.main_arg32)
      ∧ m' ((c.tc : Thread Cert.RefAdamSmallIdeal.nD Cert.RefAdamSmallIdeal.τ).loc Cert.RefAdamSmallIdeal.main_arg33) = m ((c.tc : Thread Cert.AdamSmallIdeal.nD Cert.AdamSmallIdeal.τ).loc Cert.AdamSmallIdeal.main_arg33)
      ∧ m' ((c.tc : Thread Cert.RefAdamSmallIdeal.nD Cert.RefAdamSmallIdeal.τ).loc Cert.RefAdamSmallIdeal.main_arg34) = m ((c.tc : Thread Cert.AdamSmallIdeal.nD Cert.AdamSmallIdeal.τ).loc Cert.AdamSmallIdeal.main_arg34)
      ∧ m' ((c.tc : Thread Cert.RefAdamSmallIdeal.nD Cert.RefAdamSmallIdeal.τ).loc Cert.RefAdamSmallIdeal.main_arg35) = m ((c.tc : Thread Cert.AdamSmallIdeal.nD Cert.AdamSmallIdeal.τ).loc Cert.AdamSmallIdeal.main_arg35)
      ∧ m' ((c.tc : Thread Cert.RefAdamSmallIdeal.nD Cert.RefAdamSmallIdeal.τ).loc Cert.RefAdamSmallIdeal.main_arg36) = m ((c.tc : Thread Cert.AdamSmallIdeal.nD Cert.AdamSmallIdeal.τ).loc Cert.AdamSmallIdeal.main_arg36)
      ∧ m' ((c.tc : Thread Cert.RefAdamSmallIdeal.nD Cert.RefAdamSmallIdeal.τ).loc Cert.RefAdamSmallIdeal.main_arg37) = m ((c.tc : Thread Cert.AdamSmallIdeal.nD Cert.AdamSmallIdeal.τ).loc Cert.AdamSmallIdeal.main_arg37)
      ∧ m' ((c.tc : Thread Cert.RefAdamSmallIdeal.nD Cert.RefAdamSmallIdeal.τ).loc Cert.RefAdamSmallIdeal.main_arg38) = m ((c.tc : Thread Cert.AdamSmallIdeal.nD Cert.AdamSmallIdeal.τ).loc Cert.AdamSmallIdeal.main_arg38)
      ∧ m' ((c.tc : Thread Cert.RefAdamSmallIdeal.nD Cert.RefAdamSmallIdeal.τ).loc Cert.RefAdamSmallIdeal.main_arg39) = m ((c.tc : Thread Cert.AdamSmallIdeal.nD Cert.AdamSmallIdeal.τ).loc Cert.AdamSmallIdeal.main_arg39)
      ∧ m' ((c.tc : Thread Cert.RefAdamSmallIdeal.nD Cert.RefAdamSmallIdeal.τ).loc Cert.RefAdamSmallIdeal.main_arg40) = m ((c.tc : Thread Cert.AdamSmallIdeal.nD Cert.AdamSmallIdeal.τ).loc Cert.AdamSmallIdeal.main_arg40)
      ∧ m' ((c.tc : Thread Cert.RefAdamSmallIdeal.nD Cert.RefAdamSmallIdeal.τ).loc Cert.RefAdamSmallIdeal.main_arg41) = m ((c.tc : Thread Cert.AdamSmallIdeal.nD Cert.AdamSmallIdeal.τ).loc Cert.AdamSmallIdeal.main_arg41)
      ∧ m' ((c.tc : Thread Cert.RefAdamSmallIdeal.nD Cert.RefAdamSmallIdeal.τ).loc Cert.RefAdamSmallIdeal.main_arg42) = m ((c.tc : Thread Cert.AdamSmallIdeal.nD Cert.AdamSmallIdeal.τ).loc Cert.AdamSmallIdeal.main_arg42)
      ∧ m' ((c.tc : Thread Cert.RefAdamSmallIdeal.nD Cert.RefAdamSmallIdeal.τ).loc Cert.RefAdamSmallIdeal.main_arg43) = m ((c.tc : Thread Cert.AdamSmallIdeal.nD Cert.AdamSmallIdeal.τ).loc Cert.AdamSmallIdeal.main_arg43)
      ∧ m' ((c.tc : Thread Cert.RefAdamSmallIdeal.nD Cert.RefAdamSmallIdeal.τ).loc Cert.RefAdamSmallIdeal.main_arg44) = m ((c.tc : Thread Cert.AdamSmallIdeal.nD Cert.AdamSmallIdeal.τ).loc Cert.AdamSmallIdeal.main_arg44)
      ∧ m' ((c.tc : Thread Cert.RefAdamSmallIdeal.nD Cert.RefAdamSmallIdeal.τ).loc Cert.RefAdamSmallIdeal.main_arg45) = m ((c.tc : Thread Cert.AdamSmallIdeal.nD Cert.AdamSmallIdeal.τ).loc Cert.AdamSmallIdeal.main_arg45)
      ∧ m' ((c.tc : Thread Cert.RefAdamSmallIdeal.nD Cert.RefAdamSmallIdeal.τ).loc Cert.RefAdamSmallIdeal.main_arg46) = m ((c.tc : Thread Cert.AdamSmallIdeal.nD Cert.AdamSmallIdeal.τ).loc Cert.AdamSmallIdeal.main_arg46)
      ∧ m' ((c.tc : Thread Cert.RefAdamSmallIdeal.nD Cert.RefAdamSmallIdeal.τ).loc Cert.RefAdamSmallIdeal.main_arg47) = m ((c.tc : Thread Cert.AdamSmallIdeal.nD Cert.AdamSmallIdeal.τ).loc Cert.AdamSmallIdeal.main_arg47)
      ∧ m' ((c.tc : Thread Cert.RefAdamSmallIdeal.nD Cert.RefAdamSmallIdeal.τ).loc Cert.RefAdamSmallIdeal.main_arg48) = m ((c.tc : Thread Cert.AdamSmallIdeal.nD Cert.AdamSmallIdeal.τ).loc Cert.AdamSmallIdeal.main_arg48)
      ∧ m' ((c.tc : Thread Cert.RefAdamSmallIdeal.nD Cert.RefAdamSmallIdeal.τ).loc Cert.RefAdamSmallIdeal.main_arg49) = m ((c.tc : Thread Cert.AdamSmallIdeal.nD Cert.AdamSmallIdeal.τ).loc Cert.AdamSmallIdeal.main_arg49)
      ∧ m' ((c.tc : Thread Cert.RefAdamSmallIdeal.nD Cert.RefAdamSmallIdeal.τ).loc Cert.RefAdamSmallIdeal.main_arg50) = m ((c.tc : Thread Cert.AdamSmallIdeal.nD Cert.AdamSmallIdeal.τ).loc Cert.AdamSmallIdeal.main_arg50)
      ∧ m' ((c.tc : Thread Cert.RefAdamSmallIdeal.nD Cert.RefAdamSmallIdeal.τ).loc Cert.RefAdamSmallIdeal.main_arg51) = m ((c.tc : Thread Cert.AdamSmallIdeal.nD Cert.AdamSmallIdeal.τ).loc Cert.AdamSmallIdeal.main_arg51)
      ∧ m' ((c.tc : Thread Cert.RefAdamSmallIdeal.nD Cert.RefAdamSmallIdeal.τ).loc Cert.RefAdamSmallIdeal.main_arg52) = m ((c.tc : Thread Cert.AdamSmallIdeal.nD Cert.AdamSmallIdeal.τ).loc Cert.AdamSmallIdeal.main_arg52)
      ∧ m' ((c.tc : Thread Cert.RefAdamSmallIdeal.nD Cert.RefAdamSmallIdeal.τ).loc Cert.RefAdamSmallIdeal.main_arg53) = m ((c.tc : Thread Cert.AdamSmallIdeal.nD Cert.AdamSmallIdeal.τ).loc Cert.AdamSmallIdeal.main_arg53)
      ∧ m' ((c.tc : Thread Cert.RefAdamSmallIdeal.nD Cert.RefAdamSmallIdeal.τ).loc Cert.RefAdamSmallIdeal.main_arg54) = m ((c.tc : Thread Cert.AdamSmallIdeal.nD Cert.AdamSmallIdeal.τ).loc Cert.AdamSmallIdeal.main_arg54)
      ∧ m' ((c.tc : Thread Cert.RefAdamSmallIdeal.nD Cert.RefAdamSmallIdeal.τ).loc Cert.RefAdamSmallIdeal.main_arg55) = m ((c.tc : Thread Cert.AdamSmallIdeal.nD Cert.AdamSmallIdeal.τ).loc Cert.AdamSmallIdeal.main_arg55)) →
    ∃ (v0 : (c : Dev Cert.AdamSmallIdeal.nD) → Buf (Elt Ideal) ((c.tc : Thread Cert.AdamSmallIdeal.nD Cert.AdamSmallIdeal.τ).loc Cert.AdamSmallIdeal.main_v33_0)) (v1 : (c : Dev Cert.AdamSmallIdeal.nD) → Buf (Elt Ideal) ((c.tc : Thread Cert.AdamSmallIdeal.nD Cert.AdamSmallIdeal.τ).loc Cert.AdamSmallIdeal.main_v33_1)) (v2 : (c : Dev Cert.AdamSmallIdeal.nD) → Buf (Elt Ideal) ((c.tc : Thread Cert.AdamSmallIdeal.nD Cert.AdamSmallIdeal.τ).loc Cert.AdamSmallIdeal.main_v33_2)) (v3 : (c : Dev Cert.AdamSmallIdeal.nD) → Buf (Elt Ideal) ((c.tc : Thread Cert.AdamSmallIdeal.nD Cert.AdamSmallIdeal.τ).loc Cert.AdamSmallIdeal.main_v33_3)),
      θ_run (Cert.AdamSmallIdeal.defs (F := Ideal)) (onTc (τ := Cert.AdamSmallIdeal.τ) (Cert.AdamSmallIdeal.main (F := Ideal))) ⟨m, fun _ => 0, g⟩ (fun r => ∀ c : Dev Cert.AdamSmallIdeal.nD,
          r.2.mem ((c.tc : Thread Cert.AdamSmallIdeal.nD Cert.AdamSmallIdeal.τ).loc Cert.AdamSmallIdeal.main_v33_0) = v0 c
          ∧ r.2.mem ((c.tc : Thread Cert.AdamSmallIdeal.nD Cert.AdamSmallIdeal.τ).loc Cert.AdamSmallIdeal.main_v33_1) = v1 c
          ∧ r.2.mem ((c.tc : Thread Cert.AdamSmallIdeal.nD Cert.AdamSmallIdeal.τ).loc Cert.AdamSmallIdeal.main_v33_2) = v2 c
          ∧ r.2.mem ((c.tc : Thread Cert.AdamSmallIdeal.nD Cert.AdamSmallIdeal.τ).loc Cert.AdamSmallIdeal.main_v33_3) = v3 c
          ∧ r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
          ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
          ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
          ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3)
          ∧ r.2.mem ((c.tc : Thread Cert.AdamSmallIdeal.nD Cert.AdamSmallIdeal.τ).loc Cert.AdamSmallIdeal.main_arg4) = m ((c.tc : Thread Cert.AdamSmallIdeal.nD Cert.AdamSmallIdeal.τ).loc Cert.AdamSmallIdeal.main_arg4)
          ∧ r.2.mem ((c.tc : Thread Cert.AdamSmallIdeal.nD Cert.AdamSmallIdeal.τ).loc Cert.AdamSmallIdeal.main_arg5) = m ((c.tc : Thread Cert.AdamSmallIdeal.nD Cert.AdamSmallIdeal.τ).loc Cert.AdamSmallIdeal.main_arg5)
          ∧ r.2.mem ((c.tc : Thread Cert.AdamSmallIdeal.nD Cert.AdamSmallIdeal.τ).loc Cert.AdamSmallIdeal.main_arg6) = m ((c.tc : Thread Cert.AdamSmallIdeal.nD Cert.AdamSmallIdeal.τ).loc Cert.AdamSmallIdeal.main_arg6)
          ∧ r.2.mem ((c.tc : Thread Cert.AdamSmallIdeal.nD Cert.AdamSmallIdeal.τ).loc Cert.AdamSmallIdeal.main_arg7) = m ((c.tc : Thread Cert.AdamSmallIdeal.nD Cert.AdamSmallIdeal.τ).loc Cert.AdamSmallIdeal.main_arg7)
          ∧ r.2.mem ((c.tc : Thread Cert.AdamSmallIdeal.nD Cert.AdamSmallIdeal.τ).loc Cert.AdamSmallIdeal.main_arg8) = m ((c.tc : Thread Cert.AdamSmallIdeal.nD Cert.AdamSmallIdeal.τ).loc Cert.AdamSmallIdeal.main_arg8)
          ∧ r.2.mem ((c.tc : Thread Cert.AdamSmallIdeal.nD Cert.AdamSmallIdeal.τ).loc Cert.AdamSmallIdeal.main_arg9) = m ((c.tc : Thread Cert.AdamSmallIdeal.nD Cert.AdamSmallIdeal.τ).loc Cert.AdamSmallIdeal.main_arg9)
          ∧ r.2.mem ((c.tc : Thread Cert.AdamSmallIdeal.nD Cert.AdamSmallIdeal.τ).loc Cert.AdamSmallIdeal.main_arg10) = m ((c.tc : Thread Cert.AdamSmallIdeal.nD Cert.AdamSmallIdeal.τ).loc Cert.AdamSmallIdeal.main_arg10)
          ∧ r.2.mem ((c.tc : Thread Cert.AdamSmallIdeal.nD Cert.AdamSmallIdeal.τ).loc Cert.AdamSmallIdeal.main_arg11) = m ((c.tc : Thread Cert.AdamSmallIdeal.nD Cert.AdamSmallIdeal.τ).loc Cert.AdamSmallIdeal.main_arg11)
          ∧ r.2.mem ((c.tc : Thread Cert.AdamSmallIdeal.nD Cert.AdamSmallIdeal.τ).loc Cert.AdamSmallIdeal.main_arg12) = m ((c.tc : Thread Cert.AdamSmallIdeal.nD Cert.AdamSmallIdeal.τ).loc Cert.AdamSmallIdeal.main_arg12)
          ∧ r.2.mem ((c.tc : Thread Cert.AdamSmallIdeal.nD Cert.AdamSmallIdeal.τ).loc Cert.AdamSmallIdeal.main_arg13) = m ((c.tc : Thread Cert.AdamSmallIdeal.nD Cert.AdamSmallIdeal.τ).loc Cert.AdamSmallIdeal.main_arg13)
          ∧ r.2.mem ((c.tc : Thread Cert.AdamSmallIdeal.nD Cert.AdamSmallIdeal.τ).loc Cert.AdamSmallIdeal.main_arg14) = m ((c.tc : Thread Cert.AdamSmallIdeal.nD Cert.AdamSmallIdeal.τ).loc Cert.AdamSmallIdeal.main_arg14)
          ∧ r.2.mem ((c.tc : Thread Cert.AdamSmallIdeal.nD Cert.AdamSmallIdeal.τ).loc Cert.AdamSmallIdeal.main_arg15) = m ((c.tc : Thread Cert.AdamSmallIdeal.nD Cert.AdamSmallIdeal.τ).loc Cert.AdamSmallIdeal.main_arg15)
          ∧ r.2.mem ((c.tc : Thread Cert.AdamSmallIdeal.nD Cert.AdamSmallIdeal.τ).loc Cert.AdamSmallIdeal.main_arg16) = m ((c.tc : Thread Cert.AdamSmallIdeal.nD Cert.AdamSmallIdeal.τ).loc Cert.AdamSmallIdeal.main_arg16)
          ∧ r.2.mem ((c.tc : Thread Cert.AdamSmallIdeal.nD Cert.AdamSmallIdeal.τ).loc Cert.AdamSmallIdeal.main_arg17) = m ((c.tc : Thread Cert.AdamSmallIdeal.nD Cert.AdamSmallIdeal.τ).loc Cert.AdamSmallIdeal.main_arg17)
          ∧ r.2.mem ((c.tc : Thread Cert.AdamSmallIdeal.nD Cert.AdamSmallIdeal.τ).loc Cert.AdamSmallIdeal.main_arg18) = m ((c.tc : Thread Cert.AdamSmallIdeal.nD Cert.AdamSmallIdeal.τ).loc Cert.AdamSmallIdeal.main_arg18)
          ∧ r.2.mem ((c.tc : Thread Cert.AdamSmallIdeal.nD Cert.AdamSmallIdeal.τ).loc Cert.AdamSmallIdeal.main_arg19) = m ((c.tc : Thread Cert.AdamSmallIdeal.nD Cert.AdamSmallIdeal.τ).loc Cert.AdamSmallIdeal.main_arg19)
          ∧ r.2.mem ((c.tc : Thread Cert.AdamSmallIdeal.nD Cert.AdamSmallIdeal.τ).loc Cert.AdamSmallIdeal.main_arg20) = m ((c.tc : Thread Cert.AdamSmallIdeal.nD Cert.AdamSmallIdeal.τ).loc Cert.AdamSmallIdeal.main_arg20)
          ∧ r.2.mem ((c.tc : Thread Cert.AdamSmallIdeal.nD Cert.AdamSmallIdeal.τ).loc Cert.AdamSmallIdeal.main_arg21) = m ((c.tc : Thread Cert.AdamSmallIdeal.nD Cert.AdamSmallIdeal.τ).loc Cert.AdamSmallIdeal.main_arg21)
          ∧ r.2.mem ((c.tc : Thread Cert.AdamSmallIdeal.nD Cert.AdamSmallIdeal.τ).loc Cert.AdamSmallIdeal.main_arg22) = m ((c.tc : Thread Cert.AdamSmallIdeal.nD Cert.AdamSmallIdeal.τ).loc Cert.AdamSmallIdeal.main_arg22)
          ∧ r.2.mem ((c.tc : Thread Cert.AdamSmallIdeal.nD Cert.AdamSmallIdeal.τ).loc Cert.AdamSmallIdeal.main_arg23) = m ((c.tc : Thread Cert.AdamSmallIdeal.nD Cert.AdamSmallIdeal.τ).loc Cert.AdamSmallIdeal.main_arg23)
          ∧ r.2.mem ((c.tc : Thread Cert.AdamSmallIdeal.nD Cert.AdamSmallIdeal.τ).loc Cert.AdamSmallIdeal.main_arg24) = m ((c.tc : Thread Cert.AdamSmallIdeal.nD Cert.AdamSmallIdeal.τ).loc Cert.AdamSmallIdeal.main_arg24)
          ∧ r.2.mem ((c.tc : Thread Cert.AdamSmallIdeal.nD Cert.AdamSmallIdeal.τ).loc Cert.AdamSmallIdeal.main_arg25) = m ((c.tc : Thread Cert.AdamSmallIdeal.nD Cert.AdamSmallIdeal.τ).loc Cert.AdamSmallIdeal.main_arg25)
          ∧ r.2.mem ((c.tc : Thread Cert.AdamSmallIdeal.nD Cert.AdamSmallIdeal.τ).loc Cert.AdamSmallIdeal.main_arg26) = m ((c.tc : Thread Cert.AdamSmallIdeal.nD Cert.AdamSmallIdeal.τ).loc Cert.AdamSmallIdeal.main_arg26)
          ∧ r.2.mem ((c.tc : Thread Cert.AdamSmallIdeal.nD Cert.AdamSmallIdeal.τ).loc Cert.AdamSmallIdeal.main_arg27) = m ((c.tc : Thread Cert.AdamSmallIdeal.nD Cert.AdamSmallIdeal.τ).loc Cert.AdamSmallIdeal.main_arg27)
          ∧ r.2.mem ((c.tc : Thread Cert.AdamSmallIdeal.nD Cert.AdamSmallIdeal.τ).loc Cert.AdamSmallIdeal.main_arg28) = m ((c.tc : Thread Cert.AdamSmallIdeal.nD Cert.AdamSmallIdeal.τ).loc Cert.AdamSmallIdeal.main_arg28)
          ∧ r.2.mem ((c.tc : Thread Cert.AdamSmallIdeal.nD Cert.AdamSmallIdeal.τ).loc Cert.AdamSmallIdeal.main_arg29) = m ((c.tc : Thread Cert.AdamSmallIdeal.nD Cert.AdamSmallIdeal.τ).loc Cert.AdamSmallIdeal.main_arg29)
          ∧ r.2.mem ((c.tc : Thread Cert.AdamSmallIdeal.nD Cert.AdamSmallIdeal.τ).loc Cert.AdamSmallIdeal.main_arg30) = m ((c.tc : Thread Cert.AdamSmallIdeal.nD Cert.AdamSmallIdeal.τ).loc Cert.AdamSmallIdeal.main_arg30)
          ∧ r.2.mem ((c.tc : Thread Cert.AdamSmallIdeal.nD Cert.AdamSmallIdeal.τ).loc Cert.AdamSmallIdeal.main_arg31) = m ((c.tc : Thread Cert.AdamSmallIdeal.nD Cert.AdamSmallIdeal.τ).loc Cert.AdamSmallIdeal.main_arg31)
          ∧ r.2.mem ((c.tc : Thread Cert.AdamSmallIdeal.nD Cert.AdamSmallIdeal.τ).loc Cert.AdamSmallIdeal.main_arg32) = m ((c.tc : Thread Cert.AdamSmallIdeal.nD Cert.AdamSmallIdeal.τ).loc Cert.AdamSmallIdeal.main_arg32)
          ∧ r.2.mem ((c.tc : Thread Cert.AdamSmallIdeal.nD Cert.AdamSmallIdeal.τ).loc Cert.AdamSmallIdeal.main_arg33) = m ((c.tc : Thread Cert.AdamSmallIdeal.nD Cert.AdamSmallIdeal.τ).loc Cert.AdamSmallIdeal.main_arg33)
          ∧ r.2.mem ((c.tc : Thread Cert.AdamSmallIdeal.nD Cert.AdamSmallIdeal.τ).loc Cert.AdamSmallIdeal.main_arg34) = m ((c.tc : Thread Cert.AdamSmallIdeal.nD Cert.AdamSmallIdeal.τ).loc Cert.AdamSmallIdeal.main_arg34)
          ∧ r.2.mem ((c.tc : Thread Cert.AdamSmallIdeal.nD Cert.AdamSmallIdeal.τ).loc Cert.AdamSmallIdeal.main_arg35) = m ((c.tc : Thread Cert.AdamSmallIdeal.nD Cert.AdamSmallIdeal.τ).loc Cert.AdamSmallIdeal.main_arg35)
          ∧ r.2.mem ((c.tc : Thread Cert.AdamSmallIdeal.nD Cert.AdamSmallIdeal.τ).loc Cert.AdamSmallIdeal.main_arg36) = m ((c.tc : Thread Cert.AdamSmallIdeal.nD Cert.AdamSmallIdeal.τ).loc Cert.AdamSmallIdeal.main_arg36)
          ∧ r.2.mem ((c.tc : Thread Cert.AdamSmallIdeal.nD Cert.AdamSmallIdeal.τ).loc Cert.AdamSmallIdeal.main_arg37) = m ((c.tc : Thread Cert.AdamSmallIdeal.nD Cert.AdamSmallIdeal.τ).loc Cert.AdamSmallIdeal.main_arg37)
          ∧ r.2.mem ((c.tc : Thread Cert.AdamSmallIdeal.nD Cert.AdamSmallIdeal.τ).loc Cert.AdamSmallIdeal.main_arg38) = m ((c.tc : Thread Cert.AdamSmallIdeal.nD Cert.AdamSmallIdeal.τ).loc Cert.AdamSmallIdeal.main_arg38)
          ∧ r.2.mem ((c.tc : Thread Cert.AdamSmallIdeal.nD Cert.AdamSmallIdeal.τ).loc Cert.AdamSmallIdeal.main_arg39) = m ((c.tc : Thread Cert.AdamSmallIdeal.nD Cert.AdamSmallIdeal.τ).loc Cert.AdamSmallIdeal.main_arg39)
          ∧ r.2.mem ((c.tc : Thread Cert.AdamSmallIdeal.nD Cert.AdamSmallIdeal.τ).loc Cert.AdamSmallIdeal.main_arg40) = m ((c.tc : Thread Cert.AdamSmallIdeal.nD Cert.AdamSmallIdeal.τ).loc Cert.AdamSmallIdeal.main_arg40)
          ∧ r.2.mem ((c.tc : Thread Cert.AdamSmallIdeal.nD Cert.AdamSmallIdeal.τ).loc Cert.AdamSmallIdeal.main_arg41) = m ((c.tc : Thread Cert.AdamSmallIdeal.nD Cert.AdamSmallIdeal.τ).loc Cert.AdamSmallIdeal.main_arg41)
          ∧ r.2.mem ((c.tc : Thread Cert.AdamSmallIdeal.nD Cert.AdamSmallIdeal.τ).loc Cert.AdamSmallIdeal.main_arg42) = m ((c.tc : Thread Cert.AdamSmallIdeal.nD Cert.AdamSmallIdeal.τ).loc Cert.AdamSmallIdeal.main_arg42)
          ∧ r.2.mem ((c.tc : Thread Cert.AdamSmallIdeal.nD Cert.AdamSmallIdeal.τ).loc Cert.AdamSmallIdeal.main_arg43) = m ((c.tc : Thread Cert.AdamSmallIdeal.nD Cert.AdamSmallIdeal.τ).loc Cert.AdamSmallIdeal.main_arg43)
          ∧ r.2.mem ((c.tc : Thread Cert.AdamSmallIdeal.nD Cert.AdamSmallIdeal.τ).loc Cert.AdamSmallIdeal.main_arg44) = m ((c.tc : Thread Cert.AdamSmallIdeal.nD Cert.AdamSmallIdeal.τ).loc Cert.AdamSmallIdeal.main_arg44)
          ∧ r.2.mem ((c.tc : Thread Cert.AdamSmallIdeal.nD Cert.AdamSmallIdeal.τ).loc Cert.AdamSmallIdeal.main_arg45) = m ((c.tc : Thread Cert.AdamSmallIdeal.nD Cert.AdamSmallIdeal.τ).loc Cert.AdamSmallIdeal.main_arg45)
          ∧ r.2.mem ((c.tc : Thread Cert.AdamSmallIdeal.nD Cert.AdamSmallIdeal.τ).loc Cert.AdamSmallIdeal.main_arg46) = m ((c.tc : Thread Cert.AdamSmallIdeal.nD Cert.AdamSmallIdeal.τ).loc Cert.AdamSmallIdeal.main_arg46)
          ∧ r.2.mem ((c.tc : Thread Cert.AdamSmallIdeal.nD Cert.AdamSmallIdeal.τ).loc Cert.AdamSmallIdeal.main_arg47) = m ((c.tc : Thread Cert.AdamSmallIdeal.nD Cert.AdamSmallIdeal.τ).loc Cert.AdamSmallIdeal.main_arg47)
          ∧ r.2.mem ((c.tc : Thread Cert.AdamSmallIdeal.nD Cert.AdamSmallIdeal.τ).loc Cert.AdamSmallIdeal.main_arg48) = m ((c.tc : Thread Cert.AdamSmallIdeal.nD Cert.AdamSmallIdeal.τ).loc Cert.AdamSmallIdeal.main_arg48)
          ∧ r.2.mem ((c.tc : Thread Cert.AdamSmallIdeal.nD Cert.AdamSmallIdeal.τ).loc Cert.AdamSmallIdeal.main_arg49) = m ((c.tc : Thread Cert.AdamSmallIdeal.nD Cert.AdamSmallIdeal.τ).loc Cert.AdamSmallIdeal.main_arg49)
          ∧ r.2.mem ((c.tc : Thread Cert.AdamSmallIdeal.nD Cert.AdamSmallIdeal.τ).loc Cert.AdamSmallIdeal.main_arg50) = m ((c.tc : Thread Cert.AdamSmallIdeal.nD Cert.AdamSmallIdeal.τ).loc Cert.AdamSmallIdeal.main_arg50)
          ∧ r.2.mem ((c.tc : Thread Cert.AdamSmallIdeal.nD Cert.AdamSmallIdeal.τ).loc Cert.AdamSmallIdeal.main_arg51) = m ((c.tc : Thread Cert.AdamSmallIdeal.nD Cert.AdamSmallIdeal.τ).loc Cert.AdamSmallIdeal.main_arg51)
          ∧ r.2.mem ((c.tc : Thread Cert.AdamSmallIdeal.nD Cert.AdamSmallIdeal.τ).loc Cert.AdamSmallIdeal.main_arg52) = m ((c.tc : Thread Cert.AdamSmallIdeal.nD Cert.AdamSmallIdeal.τ).loc Cert.AdamSmallIdeal.main_arg52)
          ∧ r.2.mem ((c.tc : Thread Cert.AdamSmallIdeal.nD Cert.AdamSmallIdeal.τ).loc Cert.AdamSmallIdeal.main_arg53) = m ((c.tc : Thread Cert.AdamSmallIdeal.nD Cert.AdamSmallIdeal.τ).loc Cert.AdamSmallIdeal.main_arg53)
          ∧ r.2.mem ((c.tc : Thread Cert.AdamSmallIdeal.nD Cert.AdamSmallIdeal.τ).loc Cert.AdamSmallIdeal.main_arg54) = m ((c.tc : Thread Cert.AdamSmallIdeal.nD Cert.AdamSmallIdeal.τ).loc Cert.AdamSmallIdeal.main_arg54)
          ∧ r.2.mem ((c.tc : Thread Cert.AdamSmallIdeal.nD Cert.AdamSmallIdeal.τ).loc Cert.AdamSmallIdeal.main_arg55) = m ((c.tc : Thread Cert.AdamSmallIdeal.nD Cert.AdamSmallIdeal.τ).loc Cert.AdamSmallIdeal.main_arg55))
      ∧ θ_run (Cert.RefAdamSmallIdeal.defs (F := Ideal)) (onTc (τ := Cert.RefAdamSmallIdeal.τ) (Cert.RefAdamSmallIdeal.main (F := Ideal))) ⟨m', fun _ => 0, g'⟩ (fun r => ∀ c : Dev Cert.RefAdamSmallIdeal.nD,
          r.2.mem ((c.tc : Thread Cert.RefAdamSmallIdeal.nD Cert.RefAdamSmallIdeal.τ).loc Cert.RefAdamSmallIdeal.main_v343) = v0 c
          ∧ r.2.mem ((c.tc : Thread Cert.RefAdamSmallIdeal.nD Cert.RefAdamSmallIdeal.τ).loc Cert.RefAdamSmallIdeal.main_v351) = v1 c
          ∧ r.2.mem ((c.tc : Thread Cert.RefAdamSmallIdeal.nD Cert.RefAdamSmallIdeal.τ).loc Cert.RefAdamSmallIdeal.main_v359) = v2 c
          ∧ r.2.mem ((c.tc : Thread Cert.RefAdamSmallIdeal.nD Cert.RefAdamSmallIdeal.τ).loc Cert.RefAdamSmallIdeal.main_v367) = v3 c
          ∧ r.2.mem ((c.tc : Thread Cert.RefAdamSmallIdeal.nD Cert.RefAdamSmallIdeal.τ).loc Cert.RefAdamSmallIdeal.main_arg0) = m' ((c.tc : Thread Cert.RefAdamSmallIdeal.nD Cert.RefAdamSmallIdeal.τ).loc Cert.RefAdamSmallIdeal.main_arg0)
          ∧ r.2.mem ((c.tc : Thread Cert.RefAdamSmallIdeal.nD Cert.RefAdamSmallIdeal.τ).loc Cert.RefAdamSmallIdeal.main_arg1) = m' ((c.tc : Thread Cert.RefAdamSmallIdeal.nD Cert.RefAdamSmallIdeal.τ).loc Cert.RefAdamSmallIdeal.main_arg1)
          ∧ r.2.mem ((c.tc : Thread Cert.RefAdamSmallIdeal.nD Cert.RefAdamSmallIdeal.τ).loc Cert.RefAdamSmallIdeal.main_arg2) = m' ((c.tc : Thread Cert.RefAdamSmallIdeal.nD Cert.RefAdamSmallIdeal.τ).loc Cert.RefAdamSmallIdeal.main_arg2)
          ∧ r.2.mem ((c.tc : Thread Cert.RefAdamSmallIdeal.nD Cert.RefAdamSmallIdeal.τ).loc Cert.RefAdamSmallIdeal.main_arg3) = m' ((c.tc : Thread Cert.RefAdamSmallIdeal.nD Cert.RefAdamSmallIdeal.τ).loc Cert.RefAdamSmallIdeal.main_arg3)
          ∧ r.2.mem ((c.tc : Thread Cert.RefAdamSmallIdeal.nD Cert.RefAdamSmallIdeal.τ).loc Cert.RefAdamSmallIdeal.main_arg4) = m' ((c.tc : Thread Cert.RefAdamSmallIdeal.nD Cert.RefAdamSmallIdeal.τ).loc Cert.RefAdamSmallIdeal.main_arg4)
          ∧ r.2.mem ((c.tc : Thread Cert.RefAdamSmallIdeal.nD Cert.RefAdamSmallIdeal.τ).loc Cert.RefAdamSmallIdeal.main_arg5) = m' ((c.tc : Thread Cert.RefAdamSmallIdeal.nD Cert.RefAdamSmallIdeal.τ).loc Cert.RefAdamSmallIdeal.main_arg5)
          ∧ r.2.mem ((c.tc : Thread Cert.RefAdamSmallIdeal.nD Cert.RefAdamSmallIdeal.τ).loc Cert.RefAdamSmallIdeal.main_arg6) = m' ((c.tc : Thread Cert.RefAdamSmallIdeal.nD Cert.RefAdamSmallIdeal.τ).loc Cert.RefAdamSmallIdeal.main_arg6)
          ∧ r.2.mem ((c.tc : Thread Cert.RefAdamSmallIdeal.nD Cert.RefAdamSmallIdeal.τ).loc Cert.RefAdamSmallIdeal.main_arg7) = m' ((c.tc : Thread Cert.RefAdamSmallIdeal.nD Cert.RefAdamSmallIdeal.τ).loc Cert.RefAdamSmallIdeal.main_arg7)
          ∧ r.2.mem ((c.tc : Thread Cert.RefAdamSmallIdeal.nD Cert.RefAdamSmallIdeal.τ).loc Cert.RefAdamSmallIdeal.main_arg8) = m' ((c.tc : Thread Cert.RefAdamSmallIdeal.nD Cert.RefAdamSmallIdeal.τ).loc Cert.RefAdamSmallIdeal.main_arg8)
          ∧ r.2.mem ((c.tc : Thread Cert.RefAdamSmallIdeal.nD Cert.RefAdamSmallIdeal.τ).loc Cert.RefAdamSmallIdeal.main_arg9) = m' ((c.tc : Thread Cert.RefAdamSmallIdeal.nD Cert.RefAdamSmallIdeal.τ).loc Cert.RefAdamSmallIdeal.main_arg9)
          ∧ r.2.mem ((c.tc : Thread Cert.RefAdamSmallIdeal.nD Cert.RefAdamSmallIdeal.τ).loc Cert.RefAdamSmallIdeal.main_arg10) = m' ((c.tc : Thread Cert.RefAdamSmallIdeal.nD Cert.RefAdamSmallIdeal.τ).loc Cert.RefAdamSmallIdeal.main_arg10)
          ∧ r.2.mem ((c.tc : Thread Cert.RefAdamSmallIdeal.nD Cert.RefAdamSmallIdeal.τ).loc Cert.RefAdamSmallIdeal.main_arg11) = m' ((c.tc : Thread Cert.RefAdamSmallIdeal.nD Cert.RefAdamSmallIdeal.τ).loc Cert.RefAdamSmallIdeal.main_arg11)
          ∧ r.2.mem ((c.tc : Thread Cert.RefAdamSmallIdeal.nD Cert.RefAdamSmallIdeal.τ).loc Cert.RefAdamSmallIdeal.main_arg12) = m' ((c.tc : Thread Cert.RefAdamSmallIdeal.nD Cert.RefAdamSmallIdeal.τ).loc Cert.RefAdamSmallIdeal.main_arg12)
          ∧ r.2.mem ((c.tc : Thread Cert.RefAdamSmallIdeal.nD Cert.RefAdamSmallIdeal.τ).loc Cert.RefAdamSmallIdeal.main_arg13) = m' ((c.tc : Thread Cert.RefAdamSmallIdeal.nD Cert.RefAdamSmallIdeal.τ).loc Cert.RefAdamSmallIdeal.main_arg13)
          ∧ r.2.mem ((c.tc : Thread Cert.RefAdamSmallIdeal.nD Cert.RefAdamSmallIdeal.τ).loc Cert.RefAdamSmallIdeal.main_arg14) = m' ((c.tc : Thread Cert.RefAdamSmallIdeal.nD Cert.RefAdamSmallIdeal.τ).loc Cert.RefAdamSmallIdeal.main_arg14)
          ∧ r.2.mem ((c.tc : Thread Cert.RefAdamSmallIdeal.nD Cert.RefAdamSmallIdeal.τ).loc Cert.RefAdamSmallIdeal.main_arg15) = m' ((c.tc : Thread Cert.RefAdamSmallIdeal.nD Cert.RefAdamSmallIdeal.τ).loc Cert.RefAdamSmallIdeal.main_arg15)
          ∧ r.2.mem ((c.tc : Thread Cert.RefAdamSmallIdeal.nD Cert.RefAdamSmallIdeal.τ).loc Cert.RefAdamSmallIdeal.main_arg16) = m' ((c.tc : Thread Cert.RefAdamSmallIdeal.nD Cert.RefAdamSmallIdeal.τ).loc Cert.RefAdamSmallIdeal.main_arg16)
          ∧ r.2.mem ((c.tc : Thread Cert.RefAdamSmallIdeal.nD Cert.RefAdamSmallIdeal.τ).loc Cert.RefAdamSmallIdeal.main_arg17) = m' ((c.tc : Thread Cert.RefAdamSmallIdeal.nD Cert.RefAdamSmallIdeal.τ).loc Cert.RefAdamSmallIdeal.main_arg17)
          ∧ r.2.mem ((c.tc : Thread Cert.RefAdamSmallIdeal.nD Cert.RefAdamSmallIdeal.τ).loc Cert.RefAdamSmallIdeal.main_arg18) = m' ((c.tc : Thread Cert.RefAdamSmallIdeal.nD Cert.RefAdamSmallIdeal.τ).loc Cert.RefAdamSmallIdeal.main_arg18)
          ∧ r.2.mem ((c.tc : Thread Cert.RefAdamSmallIdeal.nD Cert.RefAdamSmallIdeal.τ).loc Cert.RefAdamSmallIdeal.main_arg19) = m' ((c.tc : Thread Cert.RefAdamSmallIdeal.nD Cert.RefAdamSmallIdeal.τ).loc Cert.RefAdamSmallIdeal.main_arg19)
          ∧ r.2.mem ((c.tc : Thread Cert.RefAdamSmallIdeal.nD Cert.RefAdamSmallIdeal.τ).loc Cert.RefAdamSmallIdeal.main_arg20) = m' ((c.tc : Thread Cert.RefAdamSmallIdeal.nD Cert.RefAdamSmallIdeal.τ).loc Cert.RefAdamSmallIdeal.main_arg20)
          ∧ r.2.mem ((c.tc : Thread Cert.RefAdamSmallIdeal.nD Cert.RefAdamSmallIdeal.τ).loc Cert.RefAdamSmallIdeal.main_arg21) = m' ((c.tc : Thread Cert.RefAdamSmallIdeal.nD Cert.RefAdamSmallIdeal.τ).loc Cert.RefAdamSmallIdeal.main_arg21)
          ∧ r.2.mem ((c.tc : Thread Cert.RefAdamSmallIdeal.nD Cert.RefAdamSmallIdeal.τ).loc Cert.RefAdamSmallIdeal.main_arg22) = m' ((c.tc : Thread Cert.RefAdamSmallIdeal.nD Cert.RefAdamSmallIdeal.τ).loc Cert.RefAdamSmallIdeal.main_arg22)
          ∧ r.2.mem ((c.tc : Thread Cert.RefAdamSmallIdeal.nD Cert.RefAdamSmallIdeal.τ).loc Cert.RefAdamSmallIdeal.main_arg23) = m' ((c.tc : Thread Cert.RefAdamSmallIdeal.nD Cert.RefAdamSmallIdeal.τ).loc Cert.RefAdamSmallIdeal.main_arg23)
          ∧ r.2.mem ((c.tc : Thread Cert.RefAdamSmallIdeal.nD Cert.RefAdamSmallIdeal.τ).loc Cert.RefAdamSmallIdeal.main_arg24) = m' ((c.tc : Thread Cert.RefAdamSmallIdeal.nD Cert.RefAdamSmallIdeal.τ).loc Cert.RefAdamSmallIdeal.main_arg24)
          ∧ r.2.mem ((c.tc : Thread Cert.RefAdamSmallIdeal.nD Cert.RefAdamSmallIdeal.τ).loc Cert.RefAdamSmallIdeal.main_arg25) = m' ((c.tc : Thread Cert.RefAdamSmallIdeal.nD Cert.RefAdamSmallIdeal.τ).loc Cert.RefAdamSmallIdeal.main_arg25)
          ∧ r.2.mem ((c.tc : Thread Cert.RefAdamSmallIdeal.nD Cert.RefAdamSmallIdeal.τ).loc Cert.RefAdamSmallIdeal.main_arg26) = m' ((c.tc : Thread Cert.RefAdamSmallIdeal.nD Cert.RefAdamSmallIdeal.τ).loc Cert.RefAdamSmallIdeal.main_arg26)
          ∧ r.2.mem ((c.tc : Thread Cert.RefAdamSmallIdeal.nD Cert.RefAdamSmallIdeal.τ).loc Cert.RefAdamSmallIdeal.main_arg27) = m' ((c.tc : Thread Cert.RefAdamSmallIdeal.nD Cert.RefAdamSmallIdeal.τ).loc Cert.RefAdamSmallIdeal.main_arg27)
          ∧ r.2.mem ((c.tc : Thread Cert.RefAdamSmallIdeal.nD Cert.RefAdamSmallIdeal.τ).loc Cert.RefAdamSmallIdeal.main_arg28) = m' ((c.tc : Thread Cert.RefAdamSmallIdeal.nD Cert.RefAdamSmallIdeal.τ).loc Cert.RefAdamSmallIdeal.main_arg28)
          ∧ r.2.mem ((c.tc : Thread Cert.RefAdamSmallIdeal.nD Cert.RefAdamSmallIdeal.τ).loc Cert.RefAdamSmallIdeal.main_arg29) = m' ((c.tc : Thread Cert.RefAdamSmallIdeal.nD Cert.RefAdamSmallIdeal.τ).loc Cert.RefAdamSmallIdeal.main_arg29)
          ∧ r.2.mem ((c.tc : Thread Cert.RefAdamSmallIdeal.nD Cert.RefAdamSmallIdeal.τ).loc Cert.RefAdamSmallIdeal.main_arg30) = m' ((c.tc : Thread Cert.RefAdamSmallIdeal.nD Cert.RefAdamSmallIdeal.τ).loc Cert.RefAdamSmallIdeal.main_arg30)
          ∧ r.2.mem ((c.tc : Thread Cert.RefAdamSmallIdeal.nD Cert.RefAdamSmallIdeal.τ).loc Cert.RefAdamSmallIdeal.main_arg31) = m' ((c.tc : Thread Cert.RefAdamSmallIdeal.nD Cert.RefAdamSmallIdeal.τ).loc Cert.RefAdamSmallIdeal.main_arg31)
          ∧ r.2.mem ((c.tc : Thread Cert.RefAdamSmallIdeal.nD Cert.RefAdamSmallIdeal.τ).loc Cert.RefAdamSmallIdeal.main_arg32) = m' ((c.tc : Thread Cert.RefAdamSmallIdeal.nD Cert.RefAdamSmallIdeal.τ).loc Cert.RefAdamSmallIdeal.main_arg32)
          ∧ r.2.mem ((c.tc : Thread Cert.RefAdamSmallIdeal.nD Cert.RefAdamSmallIdeal.τ).loc Cert.RefAdamSmallIdeal.main_arg33) = m' ((c.tc : Thread Cert.RefAdamSmallIdeal.nD Cert.RefAdamSmallIdeal.τ).loc Cert.RefAdamSmallIdeal.main_arg33)
          ∧ r.2.mem ((c.tc : Thread Cert.RefAdamSmallIdeal.nD Cert.RefAdamSmallIdeal.τ).loc Cert.RefAdamSmallIdeal.main_arg34) = m' ((c.tc : Thread Cert.RefAdamSmallIdeal.nD Cert.RefAdamSmallIdeal.τ).loc Cert.RefAdamSmallIdeal.main_arg34)
          ∧ r.2.mem ((c.tc : Thread Cert.RefAdamSmallIdeal.nD Cert.RefAdamSmallIdeal.τ).loc Cert.RefAdamSmallIdeal.main_arg35) = m' ((c.tc : Thread Cert.RefAdamSmallIdeal.nD Cert.RefAdamSmallIdeal.τ).loc Cert.RefAdamSmallIdeal.main_arg35)
          ∧ r.2.mem ((c.tc : Thread Cert.RefAdamSmallIdeal.nD Cert.RefAdamSmallIdeal.τ).loc Cert.RefAdamSmallIdeal.main_arg36) = m' ((c.tc : Thread Cert.RefAdamSmallIdeal.nD Cert.RefAdamSmallIdeal.τ).loc Cert.RefAdamSmallIdeal.main_arg36)
          ∧ r.2.mem ((c.tc : Thread Cert.RefAdamSmallIdeal.nD Cert.RefAdamSmallIdeal.τ).loc Cert.RefAdamSmallIdeal.main_arg37) = m' ((c.tc : Thread Cert.RefAdamSmallIdeal.nD Cert.RefAdamSmallIdeal.τ).loc Cert.RefAdamSmallIdeal.main_arg37)
          ∧ r.2.mem ((c.tc : Thread Cert.RefAdamSmallIdeal.nD Cert.RefAdamSmallIdeal.τ).loc Cert.RefAdamSmallIdeal.main_arg38) = m' ((c.tc : Thread Cert.RefAdamSmallIdeal.nD Cert.RefAdamSmallIdeal.τ).loc Cert.RefAdamSmallIdeal.main_arg38)
          ∧ r.2.mem ((c.tc : Thread Cert.RefAdamSmallIdeal.nD Cert.RefAdamSmallIdeal.τ).loc Cert.RefAdamSmallIdeal.main_arg39) = m' ((c.tc : Thread Cert.RefAdamSmallIdeal.nD Cert.RefAdamSmallIdeal.τ).loc Cert.RefAdamSmallIdeal.main_arg39)
          ∧ r.2.mem ((c.tc : Thread Cert.RefAdamSmallIdeal.nD Cert.RefAdamSmallIdeal.τ).loc Cert.RefAdamSmallIdeal.main_arg40) = m' ((c.tc : Thread Cert.RefAdamSmallIdeal.nD Cert.RefAdamSmallIdeal.τ).loc Cert.RefAdamSmallIdeal.main_arg40)
          ∧ r.2.mem ((c.tc : Thread Cert.RefAdamSmallIdeal.nD Cert.RefAdamSmallIdeal.τ).loc Cert.RefAdamSmallIdeal.main_arg41) = m' ((c.tc : Thread Cert.RefAdamSmallIdeal.nD Cert.RefAdamSmallIdeal.τ).loc Cert.RefAdamSmallIdeal.main_arg41)
          ∧ r.2.mem ((c.tc : Thread Cert.RefAdamSmallIdeal.nD Cert.RefAdamSmallIdeal.τ).loc Cert.RefAdamSmallIdeal.main_arg42) = m' ((c.tc : Thread Cert.RefAdamSmallIdeal.nD Cert.RefAdamSmallIdeal.τ).loc Cert.RefAdamSmallIdeal.main_arg42)
          ∧ r.2.mem ((c.tc : Thread Cert.RefAdamSmallIdeal.nD Cert.RefAdamSmallIdeal.τ).loc Cert.RefAdamSmallIdeal.main_arg43) = m' ((c.tc : Thread Cert.RefAdamSmallIdeal.nD Cert.RefAdamSmallIdeal.τ).loc Cert.RefAdamSmallIdeal.main_arg43)
          ∧ r.2.mem ((c.tc : Thread Cert.RefAdamSmallIdeal.nD Cert.RefAdamSmallIdeal.τ).loc Cert.RefAdamSmallIdeal.main_arg44) = m' ((c.tc : Thread Cert.RefAdamSmallIdeal.nD Cert.RefAdamSmallIdeal.τ).loc Cert.RefAdamSmallIdeal.main_arg44)
          ∧ r.2.mem ((c.tc : Thread Cert.RefAdamSmallIdeal.nD Cert.RefAdamSmallIdeal.τ).loc Cert.RefAdamSmallIdeal.main_arg45) = m' ((c.tc : Thread Cert.RefAdamSmallIdeal.nD Cert.RefAdamSmallIdeal.τ).loc Cert.RefAdamSmallIdeal.main_arg45)
          ∧ r.2.mem ((c.tc : Thread Cert.RefAdamSmallIdeal.nD Cert.RefAdamSmallIdeal.τ).loc Cert.RefAdamSmallIdeal.main_arg46) = m' ((c.tc : Thread Cert.RefAdamSmallIdeal.nD Cert.RefAdamSmallIdeal.τ).loc Cert.RefAdamSmallIdeal.main_arg46)
          ∧ r.2.mem ((c.tc : Thread Cert.RefAdamSmallIdeal.nD Cert.RefAdamSmallIdeal.τ).loc Cert.RefAdamSmallIdeal.main_arg47) = m' ((c.tc : Thread Cert.RefAdamSmallIdeal.nD Cert.RefAdamSmallIdeal.τ).loc Cert.RefAdamSmallIdeal.main_arg47)
          ∧ r.2.mem ((c.tc : Thread Cert.RefAdamSmallIdeal.nD Cert.RefAdamSmallIdeal.τ).loc Cert.RefAdamSmallIdeal.main_arg48) = m' ((c.tc : Thread Cert.RefAdamSmallIdeal.nD Cert.RefAdamSmallIdeal.τ).loc Cert.RefAdamSmallIdeal.main_arg48)
          ∧ r.2.mem ((c.tc : Thread Cert.RefAdamSmallIdeal.nD Cert.RefAdamSmallIdeal.τ).loc Cert.RefAdamSmallIdeal.main_arg49) = m' ((c.tc : Thread Cert.RefAdamSmallIdeal.nD Cert.RefAdamSmallIdeal.τ).loc Cert.RefAdamSmallIdeal.main_arg49)
          ∧ r.2.mem ((c.tc : Thread Cert.RefAdamSmallIdeal.nD Cert.RefAdamSmallIdeal.τ).loc Cert.RefAdamSmallIdeal.main_arg50) = m' ((c.tc : Thread Cert.RefAdamSmallIdeal.nD Cert.RefAdamSmallIdeal.τ).loc Cert.RefAdamSmallIdeal.main_arg50)
          ∧ r.2.mem ((c.tc : Thread Cert.RefAdamSmallIdeal.nD Cert.RefAdamSmallIdeal.τ).loc Cert.RefAdamSmallIdeal.main_arg51) = m' ((c.tc : Thread Cert.RefAdamSmallIdeal.nD Cert.RefAdamSmallIdeal.τ).loc Cert.RefAdamSmallIdeal.main_arg51)
          ∧ r.2.mem ((c.tc : Thread Cert.RefAdamSmallIdeal.nD Cert.RefAdamSmallIdeal.τ).loc Cert.RefAdamSmallIdeal.main_arg52) = m' ((c.tc : Thread Cert.RefAdamSmallIdeal.nD Cert.RefAdamSmallIdeal.τ).loc Cert.RefAdamSmallIdeal.main_arg52)
          ∧ r.2.mem ((c.tc : Thread Cert.RefAdamSmallIdeal.nD Cert.RefAdamSmallIdeal.τ).loc Cert.RefAdamSmallIdeal.main_arg53) = m' ((c.tc : Thread Cert.RefAdamSmallIdeal.nD Cert.RefAdamSmallIdeal.τ).loc Cert.RefAdamSmallIdeal.main_arg53)
          ∧ r.2.mem ((c.tc : Thread Cert.RefAdamSmallIdeal.nD Cert.RefAdamSmallIdeal.τ).loc Cert.RefAdamSmallIdeal.main_arg54) = m' ((c.tc : Thread Cert.RefAdamSmallIdeal.nD Cert.RefAdamSmallIdeal.τ).loc Cert.RefAdamSmallIdeal.main_arg54)
          ∧ r.2.mem ((c.tc : Thread Cert.RefAdamSmallIdeal.nD Cert.RefAdamSmallIdeal.τ).loc Cert.RefAdamSmallIdeal.main_arg55) = m' ((c.tc : Thread Cert.RefAdamSmallIdeal.nD Cert.RefAdamSmallIdeal.τ).loc Cert.RefAdamSmallIdeal.main_arg55))

def preserves_AdamConv_AdamConvIdeal : Prop :=
  IdealRules.named_const.Statement Cert.AdamConvIdeal.κ "c1" .f32 0x3FC48605#32 ((8388608 / 5463681 : ℝ) : EReal)
  ∧ IdealRules.named_const.Statement Cert.AdamConvIdeal.κ "c2" .f32 0x42C8E6D3#32 ((268435456 / 2672307 : ℝ) : EReal)

def algebraic_AdamConvIdeal_RefAdamConvIdeal [hAdamConvIdeal : Cert.AdamConvIdeal.Facts] [hRefAdamConvIdeal : Cert.RefAdamConvIdeal.Facts] : Prop :=
  ∀ (m : (ℓ : Loc Cert.AdamConvIdeal.nD Cert.AdamConvIdeal.τ Cert.AdamConvIdeal.sig) → Buf (Elt Ideal) ℓ) (g : Dev Cert.AdamConvIdeal.nD → PrngReg)
    (m' : (ℓ : Loc Cert.RefAdamConvIdeal.nD Cert.RefAdamConvIdeal.τ Cert.RefAdamConvIdeal.sig) → Buf (Elt Ideal) ℓ) (g' : Dev Cert.RefAdamConvIdeal.nD → PrngReg), Pre_AdamConvIdeal m →
    (∀ c : Dev Cert.AdamConvIdeal.nD,
      m' ((c.tc : Thread Cert.RefAdamConvIdeal.nD Cert.RefAdamConvIdeal.τ).loc Cert.RefAdamConvIdeal.main_arg0) = m ((c.tc : Thread Cert.AdamConvIdeal.nD Cert.AdamConvIdeal.τ).loc Cert.AdamConvIdeal.main_arg0)
      ∧ m' ((c.tc : Thread Cert.RefAdamConvIdeal.nD Cert.RefAdamConvIdeal.τ).loc Cert.RefAdamConvIdeal.main_arg1) = m ((c.tc : Thread Cert.AdamConvIdeal.nD Cert.AdamConvIdeal.τ).loc Cert.AdamConvIdeal.main_arg1)
      ∧ m' ((c.tc : Thread Cert.RefAdamConvIdeal.nD Cert.RefAdamConvIdeal.τ).loc Cert.RefAdamConvIdeal.main_arg2) = m ((c.tc : Thread Cert.AdamConvIdeal.nD Cert.AdamConvIdeal.τ).loc Cert.AdamConvIdeal.main_arg2)
      ∧ m' ((c.tc : Thread Cert.RefAdamConvIdeal.nD Cert.RefAdamConvIdeal.τ).loc Cert.RefAdamConvIdeal.main_arg3) = m ((c.tc : Thread Cert.AdamConvIdeal.nD Cert.AdamConvIdeal.τ).loc Cert.AdamConvIdeal.main_arg3)
      ∧ m' ((c.tc : Thread Cert.RefAdamConvIdeal.nD Cert.RefAdamConvIdeal.τ).loc Cert.RefAdamConvIdeal.main_arg4) = m ((c.tc : Thread Cert.AdamConvIdeal.nD Cert.AdamConvIdeal.τ).loc Cert.AdamConvIdeal.main_arg4)
      ∧ m' ((c.tc : Thread Cert.RefAdamConvIdeal.nD Cert.RefAdamConvIdeal.τ).loc Cert.RefAdamConvIdeal.main_arg5) = m ((c.tc : Thread Cert.AdamConvIdeal.nD Cert.AdamConvIdeal.τ).loc Cert.AdamConvIdeal.main_arg5)
      ∧ m' ((c.tc : Thread Cert.RefAdamConvIdeal.nD Cert.RefAdamConvIdeal.τ).loc Cert.RefAdamConvIdeal.main_arg6) = m ((c.tc : Thread Cert.AdamConvIdeal.nD Cert.AdamConvIdeal.τ).loc Cert.AdamConvIdeal.main_arg6)
      ∧ m' ((c.tc : Thread Cert.RefAdamConvIdeal.nD Cert.RefAdamConvIdeal.τ).loc Cert.RefAdamConvIdeal.main_arg7) = m ((c.tc : Thread Cert.AdamConvIdeal.nD Cert.AdamConvIdeal.τ).loc Cert.AdamConvIdeal.main_arg7)
      ∧ m' ((c.tc : Thread Cert.RefAdamConvIdeal.nD Cert.RefAdamConvIdeal.τ).loc Cert.RefAdamConvIdeal.main_arg8) = m ((c.tc : Thread Cert.AdamConvIdeal.nD Cert.AdamConvIdeal.τ).loc Cert.AdamConvIdeal.main_arg8)
      ∧ m' ((c.tc : Thread Cert.RefAdamConvIdeal.nD Cert.RefAdamConvIdeal.τ).loc Cert.RefAdamConvIdeal.main_arg9) = m ((c.tc : Thread Cert.AdamConvIdeal.nD Cert.AdamConvIdeal.τ).loc Cert.AdamConvIdeal.main_arg9)
      ∧ m' ((c.tc : Thread Cert.RefAdamConvIdeal.nD Cert.RefAdamConvIdeal.τ).loc Cert.RefAdamConvIdeal.main_arg10) = m ((c.tc : Thread Cert.AdamConvIdeal.nD Cert.AdamConvIdeal.τ).loc Cert.AdamConvIdeal.main_arg10)
      ∧ m' ((c.tc : Thread Cert.RefAdamConvIdeal.nD Cert.RefAdamConvIdeal.τ).loc Cert.RefAdamConvIdeal.main_arg11) = m ((c.tc : Thread Cert.AdamConvIdeal.nD Cert.AdamConvIdeal.τ).loc Cert.AdamConvIdeal.main_arg11)) →
    ∃ (v0 : (c : Dev Cert.AdamConvIdeal.nD) → Buf (Elt Ideal) ((c.tc : Thread Cert.AdamConvIdeal.nD Cert.AdamConvIdeal.τ).loc Cert.AdamConvIdeal.main_v21_0)) (v1 : (c : Dev Cert.AdamConvIdeal.nD) → Buf (Elt Ideal) ((c.tc : Thread Cert.AdamConvIdeal.nD Cert.AdamConvIdeal.τ).loc Cert.AdamConvIdeal.main_v21_1)) (v2 : (c : Dev Cert.AdamConvIdeal.nD) → Buf (Elt Ideal) ((c.tc : Thread Cert.AdamConvIdeal.nD Cert.AdamConvIdeal.τ).loc Cert.AdamConvIdeal.main_v21_2)) (v3 : (c : Dev Cert.AdamConvIdeal.nD) → Buf (Elt Ideal) ((c.tc : Thread Cert.AdamConvIdeal.nD Cert.AdamConvIdeal.τ).loc Cert.AdamConvIdeal.main_v21_3)),
      θ_run (Cert.AdamConvIdeal.defs (F := Ideal)) (onTc (τ := Cert.AdamConvIdeal.τ) (Cert.AdamConvIdeal.main (F := Ideal))) ⟨m, fun _ => 0, g⟩ (fun r => ∀ c : Dev Cert.AdamConvIdeal.nD,
          r.2.mem ((c.tc : Thread Cert.AdamConvIdeal.nD Cert.AdamConvIdeal.τ).loc Cert.AdamConvIdeal.main_v21_0) = v0 c
          ∧ r.2.mem ((c.tc : Thread Cert.AdamConvIdeal.nD Cert.AdamConvIdeal.τ).loc Cert.AdamConvIdeal.main_v21_1) = v1 c
          ∧ r.2.mem ((c.tc : Thread Cert.AdamConvIdeal.nD Cert.AdamConvIdeal.τ).loc Cert.AdamConvIdeal.main_v21_2) = v2 c
          ∧ r.2.mem ((c.tc : Thread Cert.AdamConvIdeal.nD Cert.AdamConvIdeal.τ).loc Cert.AdamConvIdeal.main_v21_3) = v3 c
          ∧ r.2.mem ((c.tc : Thread Cert.AdamConvIdeal.nD Cert.AdamConvIdeal.τ).loc Cert.AdamConvIdeal.main_arg0) = m ((c.tc : Thread Cert.AdamConvIdeal.nD Cert.AdamConvIdeal.τ).loc Cert.AdamConvIdeal.main_arg0)
          ∧ r.2.mem ((c.tc : Thread Cert.AdamConvIdeal.nD Cert.AdamConvIdeal.τ).loc Cert.AdamConvIdeal.main_arg1) = m ((c.tc : Thread Cert.AdamConvIdeal.nD Cert.AdamConvIdeal.τ).loc Cert.AdamConvIdeal.main_arg1)
          ∧ r.2.mem ((c.tc : Thread Cert.AdamConvIdeal.nD Cert.AdamConvIdeal.τ).loc Cert.AdamConvIdeal.main_arg2) = m ((c.tc : Thread Cert.AdamConvIdeal.nD Cert.AdamConvIdeal.τ).loc Cert.AdamConvIdeal.main_arg2)
          ∧ r.2.mem ((c.tc : Thread Cert.AdamConvIdeal.nD Cert.AdamConvIdeal.τ).loc Cert.AdamConvIdeal.main_arg3) = m ((c.tc : Thread Cert.AdamConvIdeal.nD Cert.AdamConvIdeal.τ).loc Cert.AdamConvIdeal.main_arg3)
          ∧ r.2.mem ((c.tc : Thread Cert.AdamConvIdeal.nD Cert.AdamConvIdeal.τ).loc Cert.AdamConvIdeal.main_arg4) = m ((c.tc : Thread Cert.AdamConvIdeal.nD Cert.AdamConvIdeal.τ).loc Cert.AdamConvIdeal.main_arg4)
          ∧ r.2.mem ((c.tc : Thread Cert.AdamConvIdeal.nD Cert.AdamConvIdeal.τ).loc Cert.AdamConvIdeal.main_arg5) = m ((c.tc : Thread Cert.AdamConvIdeal.nD Cert.AdamConvIdeal.τ).loc Cert.AdamConvIdeal.main_arg5)
          ∧ r.2.mem ((c.tc : Thread Cert.AdamConvIdeal.nD Cert.AdamConvIdeal.τ).loc Cert.AdamConvIdeal.main_arg6) = m ((c.tc : Thread Cert.AdamConvIdeal.nD Cert.AdamConvIdeal.τ).loc Cert.AdamConvIdeal.main_arg6)
          ∧ r.2.mem ((c.tc : Thread Cert.AdamConvIdeal.nD Cert.AdamConvIdeal.τ).loc Cert.AdamConvIdeal.main_arg7) = m ((c.tc : Thread Cert.AdamConvIdeal.nD Cert.AdamConvIdeal.τ).loc Cert.AdamConvIdeal.main_arg7)
          ∧ r.2.mem ((c.tc : Thread Cert.AdamConvIdeal.nD Cert.AdamConvIdeal.τ).loc Cert.AdamConvIdeal.main_arg8) = m ((c.tc : Thread Cert.AdamConvIdeal.nD Cert.AdamConvIdeal.τ).loc Cert.AdamConvIdeal.main_arg8)
          ∧ r.2.mem ((c.tc : Thread Cert.AdamConvIdeal.nD Cert.AdamConvIdeal.τ).loc Cert.AdamConvIdeal.main_arg9) = m ((c.tc : Thread Cert.AdamConvIdeal.nD Cert.AdamConvIdeal.τ).loc Cert.AdamConvIdeal.main_arg9)
          ∧ r.2.mem ((c.tc : Thread Cert.AdamConvIdeal.nD Cert.AdamConvIdeal.τ).loc Cert.AdamConvIdeal.main_arg10) = m ((c.tc : Thread Cert.AdamConvIdeal.nD Cert.AdamConvIdeal.τ).loc Cert.AdamConvIdeal.main_arg10)
          ∧ r.2.mem ((c.tc : Thread Cert.AdamConvIdeal.nD Cert.AdamConvIdeal.τ).loc Cert.AdamConvIdeal.main_arg11) = m ((c.tc : Thread Cert.AdamConvIdeal.nD Cert.AdamConvIdeal.τ).loc Cert.AdamConvIdeal.main_arg11))
      ∧ θ_run (Cert.RefAdamConvIdeal.defs (F := Ideal)) (onTc (τ := Cert.RefAdamConvIdeal.τ) (Cert.RefAdamConvIdeal.main (F := Ideal))) ⟨m', fun _ => 0, g'⟩ (fun r => ∀ c : Dev Cert.RefAdamConvIdeal.nD,
          r.2.mem ((c.tc : Thread Cert.RefAdamConvIdeal.nD Cert.RefAdamConvIdeal.τ).loc Cert.RefAdamConvIdeal.main_v76) = v0 c
          ∧ r.2.mem ((c.tc : Thread Cert.RefAdamConvIdeal.nD Cert.RefAdamConvIdeal.τ).loc Cert.RefAdamConvIdeal.main_v81) = v1 c
          ∧ r.2.mem ((c.tc : Thread Cert.RefAdamConvIdeal.nD Cert.RefAdamConvIdeal.τ).loc Cert.RefAdamConvIdeal.main_v86) = v2 c
          ∧ r.2.mem ((c.tc : Thread Cert.RefAdamConvIdeal.nD Cert.RefAdamConvIdeal.τ).loc Cert.RefAdamConvIdeal.main_v91) = v3 c
          ∧ r.2.mem ((c.tc : Thread Cert.RefAdamConvIdeal.nD Cert.RefAdamConvIdeal.τ).loc Cert.RefAdamConvIdeal.main_arg0) = m' ((c.tc : Thread Cert.RefAdamConvIdeal.nD Cert.RefAdamConvIdeal.τ).loc Cert.RefAdamConvIdeal.main_arg0)
          ∧ r.2.mem ((c.tc : Thread Cert.RefAdamConvIdeal.nD Cert.RefAdamConvIdeal.τ).loc Cert.RefAdamConvIdeal.main_arg1) = m' ((c.tc : Thread Cert.RefAdamConvIdeal.nD Cert.RefAdamConvIdeal.τ).loc Cert.RefAdamConvIdeal.main_arg1)
          ∧ r.2.mem ((c.tc : Thread Cert.RefAdamConvIdeal.nD Cert.RefAdamConvIdeal.τ).loc Cert.RefAdamConvIdeal.main_arg2) = m' ((c.tc : Thread Cert.RefAdamConvIdeal.nD Cert.RefAdamConvIdeal.τ).loc Cert.RefAdamConvIdeal.main_arg2)
          ∧ r.2.mem ((c.tc : Thread Cert.RefAdamConvIdeal.nD Cert.RefAdamConvIdeal.τ).loc Cert.RefAdamConvIdeal.main_arg3) = m' ((c.tc : Thread Cert.RefAdamConvIdeal.nD Cert.RefAdamConvIdeal.τ).loc Cert.RefAdamConvIdeal.main_arg3)
          ∧ r.2.mem ((c.tc : Thread Cert.RefAdamConvIdeal.nD Cert.RefAdamConvIdeal.τ).loc Cert.RefAdamConvIdeal.main_arg4) = m' ((c.tc : Thread Cert.RefAdamConvIdeal.nD Cert.RefAdamConvIdeal.τ).loc Cert.RefAdamConvIdeal.main_arg4)
          ∧ r.2.mem ((c.tc : Thread Cert.RefAdamConvIdeal.nD Cert.RefAdamConvIdeal.τ).loc Cert.RefAdamConvIdeal.main_arg5) = m' ((c.tc : Thread Cert.RefAdamConvIdeal.nD Cert.RefAdamConvIdeal.τ).loc Cert.RefAdamConvIdeal.main_arg5)
          ∧ r.2.mem ((c.tc : Thread Cert.RefAdamConvIdeal.nD Cert.RefAdamConvIdeal.τ).loc Cert.RefAdamConvIdeal.main_arg6) = m' ((c.tc : Thread Cert.RefAdamConvIdeal.nD Cert.RefAdamConvIdeal.τ).loc Cert.RefAdamConvIdeal.main_arg6)
          ∧ r.2.mem ((c.tc : Thread Cert.RefAdamConvIdeal.nD Cert.RefAdamConvIdeal.τ).loc Cert.RefAdamConvIdeal.main_arg7) = m' ((c.tc : Thread Cert.RefAdamConvIdeal.nD Cert.RefAdamConvIdeal.τ).loc Cert.RefAdamConvIdeal.main_arg7)
          ∧ r.2.mem ((c.tc : Thread Cert.RefAdamConvIdeal.nD Cert.RefAdamConvIdeal.τ).loc Cert.RefAdamConvIdeal.main_arg8) = m' ((c.tc : Thread Cert.RefAdamConvIdeal.nD Cert.RefAdamConvIdeal.τ).loc Cert.RefAdamConvIdeal.main_arg8)
          ∧ r.2.mem ((c.tc : Thread Cert.RefAdamConvIdeal.nD Cert.RefAdamConvIdeal.τ).loc Cert.RefAdamConvIdeal.main_arg9) = m' ((c.tc : Thread Cert.RefAdamConvIdeal.nD Cert.RefAdamConvIdeal.τ).loc Cert.RefAdamConvIdeal.main_arg9)
          ∧ r.2.mem ((c.tc : Thread Cert.RefAdamConvIdeal.nD Cert.RefAdamConvIdeal.τ).loc Cert.RefAdamConvIdeal.main_arg10) = m' ((c.tc : Thread Cert.RefAdamConvIdeal.nD Cert.RefAdamConvIdeal.τ).loc Cert.RefAdamConvIdeal.main_arg10)
          ∧ r.2.mem ((c.tc : Thread Cert.RefAdamConvIdeal.nD Cert.RefAdamConvIdeal.τ).loc Cert.RefAdamConvIdeal.main_arg11) = m' ((c.tc : Thread Cert.RefAdamConvIdeal.nD Cert.RefAdamConvIdeal.τ).loc Cert.RefAdamConvIdeal.main_arg11))

def Claim : Prop :=
  ∃ (hKernel : Cert.Kernel.Facts) (hKernelIdeal : Cert.KernelIdeal.Facts) (hReferenceIdeal : Cert.ReferenceIdeal.Facts) (hGw2 : Cert.Gw2.Facts) (hGw2Ideal : Cert.Gw2Ideal.Facts) (hRefGw2Ideal : Cert.RefGw2Ideal.Facts) (hDf : Cert.Df.Facts) (hDfIdeal : Cert.DfIdeal.Facts) (hRefDfIdeal : Cert.RefDfIdeal.Facts) (hGwin : Cert.Gwin.Facts) (hGwinIdeal : Cert.GwinIdeal.Facts) (hRefGwinIdeal : Cert.RefGwinIdeal.Facts) (hProj : Cert.Proj.Facts) (hProjIdeal : Cert.ProjIdeal.Facts) (hRefProjIdeal : Cert.RefProjIdeal.Facts) (hGw1 : Cert.Gw1.Facts) (hGw1Ideal : Cert.Gw1Ideal.Facts) (hRefGw1Ideal : Cert.RefGw1Ideal.Facts) (hDh1 : Cert.Dh1.Facts) (hDh1Ideal : Cert.Dh1Ideal.Facts) (hRefDh1Ideal : Cert.RefDh1Ideal.Facts) (hDycat : Cert.Dycat.Facts) (hDycatIdeal : Cert.DycatIdeal.Facts) (hRefDycatIdeal : Cert.RefDycatIdeal.Facts) (hGwout : Cert.Gwout.Facts) (hGwoutIdeal : Cert.GwoutIdeal.Facts) (hRefGwoutIdeal : Cert.RefGwoutIdeal.Facts) (hFf1 : Cert.Ff1.Facts) (hFf1Ideal : Cert.Ff1Ideal.Facts) (hRefFf1Ideal : Cert.RefFf1Ideal.Facts) (hFf2l : Cert.Ff2l.Facts) (hFf2lIdeal : Cert.Ff2lIdeal.Facts) (hRefFf2lIdeal : Cert.RefFf2lIdeal.Facts) (hOut : Cert.Out.Facts) (hOutIdeal : Cert.OutIdeal.Facts) (hRefOutIdeal : Cert.RefOutIdeal.Facts) (hFf2 : Cert.Ff2.Facts) (hFf2Ideal : Cert.Ff2Ideal.Facts) (hRefFf2Ideal : Cert.RefFf2Ideal.Facts) (hDh2 : Cert.Dh2.Facts) (hDh2Ideal : Cert.Dh2Ideal.Facts) (hRefDh2Ideal : Cert.RefDh2Ideal.Facts) (hPdt : Cert.Pdt.Facts) (hPdtIdeal : Cert.PdtIdeal.Facts) (hRefPdtIdeal : Cert.RefPdtIdeal.Facts) (hGwdt : Cert.Gwdt.Facts) (hGwdtIdeal : Cert.GwdtIdeal.Facts) (hRefGwdtIdeal : Cert.RefGwdtIdeal.Facts) (hDh1dt : Cert.Dh1dt.Facts) (hDh1dtIdeal : Cert.Dh1dtIdeal.Facts) (hRefDh1dtIdeal : Cert.RefDh1dtIdeal.Facts) (hAdamSmall : Cert.AdamSmall.Facts) (hAdamSmallIdeal : Cert.AdamSmallIdeal.Facts) (hRefAdamSmallIdeal : Cert.RefAdamSmallIdeal.Facts) (hAdamConv : Cert.AdamConv.Facts) (hAdamConvIdeal : Cert.AdamConvIdeal.Facts) (hRefAdamConvIdeal : Cert.RefAdamConvIdeal.Facts) (hPre_finite_inputs : Cert.Pre_finite_inputs.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ quiescent_Gw2 (hGw2 := hGw2)
    ∧ quiescent_Gw2Ideal (hGw2Ideal := hGw2Ideal)
    ∧ quiescent_RefGw2Ideal (hRefGw2Ideal := hRefGw2Ideal)
    ∧ quiescent_Df (hDf := hDf)
    ∧ quiescent_DfIdeal (hDfIdeal := hDfIdeal)
    ∧ quiescent_RefDfIdeal (hRefDfIdeal := hRefDfIdeal)
    ∧ quiescent_Gwin (hGwin := hGwin)
    ∧ quiescent_GwinIdeal (hGwinIdeal := hGwinIdeal)
    ∧ quiescent_RefGwinIdeal (hRefGwinIdeal := hRefGwinIdeal)
    ∧ quiescent_Proj (hProj := hProj)
    ∧ quiescent_ProjIdeal (hProjIdeal := hProjIdeal)
    ∧ quiescent_RefProjIdeal (hRefProjIdeal := hRefProjIdeal)
    ∧ quiescent_Gw1 (hGw1 := hGw1)
    ∧ quiescent_Gw1Ideal (hGw1Ideal := hGw1Ideal)
    ∧ quiescent_RefGw1Ideal (hRefGw1Ideal := hRefGw1Ideal)
    ∧ quiescent_Dh1 (hDh1 := hDh1)
    ∧ quiescent_Dh1Ideal (hDh1Ideal := hDh1Ideal)
    ∧ quiescent_RefDh1Ideal (hRefDh1Ideal := hRefDh1Ideal)
    ∧ quiescent_Dycat (hDycat := hDycat)
    ∧ quiescent_DycatIdeal (hDycatIdeal := hDycatIdeal)
    ∧ quiescent_RefDycatIdeal (hRefDycatIdeal := hRefDycatIdeal)
    ∧ quiescent_Gwout (hGwout := hGwout)
    ∧ quiescent_GwoutIdeal (hGwoutIdeal := hGwoutIdeal)
    ∧ quiescent_RefGwoutIdeal (hRefGwoutIdeal := hRefGwoutIdeal)
    ∧ quiescent_Ff1 (hFf1 := hFf1)
    ∧ quiescent_Ff1Ideal (hFf1Ideal := hFf1Ideal)
    ∧ quiescent_RefFf1Ideal (hRefFf1Ideal := hRefFf1Ideal)
    ∧ quiescent_Ff2l (hFf2l := hFf2l)
    ∧ quiescent_Ff2lIdeal (hFf2lIdeal := hFf2lIdeal)
    ∧ quiescent_RefFf2lIdeal (hRefFf2lIdeal := hRefFf2lIdeal)
    ∧ quiescent_Out (hOut := hOut)
    ∧ quiescent_OutIdeal (hOutIdeal := hOutIdeal)
    ∧ quiescent_RefOutIdeal (hRefOutIdeal := hRefOutIdeal)
    ∧ quiescent_Ff2 (hFf2 := hFf2)
    ∧ quiescent_Ff2Ideal (hFf2Ideal := hFf2Ideal)
    ∧ quiescent_RefFf2Ideal (hRefFf2Ideal := hRefFf2Ideal)
    ∧ quiescent_Dh2 (hDh2 := hDh2)
    ∧ quiescent_Dh2Ideal (hDh2Ideal := hDh2Ideal)
    ∧ quiescent_RefDh2Ideal (hRefDh2Ideal := hRefDh2Ideal)
    ∧ quiescent_Pdt (hPdt := hPdt)
    ∧ quiescent_PdtIdeal (hPdtIdeal := hPdtIdeal)
    ∧ quiescent_RefPdtIdeal (hRefPdtIdeal := hRefPdtIdeal)
    ∧ quiescent_Gwdt (hGwdt := hGwdt)
    ∧ quiescent_GwdtIdeal (hGwdtIdeal := hGwdtIdeal)
    ∧ quiescent_RefGwdtIdeal (hRefGwdtIdeal := hRefGwdtIdeal)
    ∧ quiescent_Dh1dt (hDh1dt := hDh1dt)
    ∧ quiescent_Dh1dtIdeal (hDh1dtIdeal := hDh1dtIdeal)
    ∧ quiescent_RefDh1dtIdeal (hRefDh1dtIdeal := hRefDh1dtIdeal)
    ∧ quiescent_AdamSmall (hAdamSmall := hAdamSmall)
    ∧ quiescent_AdamSmallIdeal (hAdamSmallIdeal := hAdamSmallIdeal)
    ∧ quiescent_RefAdamSmallIdeal (hRefAdamSmallIdeal := hRefAdamSmallIdeal)
    ∧ quiescent_AdamConv (hAdamConv := hAdamConv)
    ∧ quiescent_AdamConvIdeal (hAdamConvIdeal := hAdamConvIdeal)
    ∧ quiescent_RefAdamConvIdeal (hRefAdamConvIdeal := hRefAdamConvIdeal)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
    ∧ preserves_Gw2_Gw2Ideal
    ∧ algebraic_Gw2Ideal_RefGw2Ideal (hGw2Ideal := hGw2Ideal) (hRefGw2Ideal := hRefGw2Ideal)
    ∧ preserves_Df_DfIdeal
    ∧ algebraic_DfIdeal_RefDfIdeal (hDfIdeal := hDfIdeal) (hRefDfIdeal := hRefDfIdeal)
    ∧ preserves_Gwin_GwinIdeal
    ∧ algebraic_GwinIdeal_RefGwinIdeal (hGwinIdeal := hGwinIdeal) (hRefGwinIdeal := hRefGwinIdeal)
    ∧ preserves_Proj_ProjIdeal
    ∧ algebraic_ProjIdeal_RefProjIdeal (hProjIdeal := hProjIdeal) (hRefProjIdeal := hRefProjIdeal)
    ∧ preserves_Gw1_Gw1Ideal
    ∧ algebraic_Gw1Ideal_RefGw1Ideal (hGw1Ideal := hGw1Ideal) (hRefGw1Ideal := hRefGw1Ideal)
    ∧ preserves_Dh1_Dh1Ideal
    ∧ algebraic_Dh1Ideal_RefDh1Ideal (hDh1Ideal := hDh1Ideal) (hRefDh1Ideal := hRefDh1Ideal)
    ∧ preserves_Dycat_DycatIdeal
    ∧ algebraic_DycatIdeal_RefDycatIdeal (hDycatIdeal := hDycatIdeal) (hRefDycatIdeal := hRefDycatIdeal)
    ∧ preserves_Gwout_GwoutIdeal
    ∧ algebraic_GwoutIdeal_RefGwoutIdeal (hGwoutIdeal := hGwoutIdeal) (hRefGwoutIdeal := hRefGwoutIdeal)
    ∧ preserves_Ff1_Ff1Ideal
    ∧ algebraic_Ff1Ideal_RefFf1Ideal (hFf1Ideal := hFf1Ideal) (hRefFf1Ideal := hRefFf1Ideal)
    ∧ preserves_Ff2l_Ff2lIdeal
    ∧ algebraic_Ff2lIdeal_RefFf2lIdeal (hFf2lIdeal := hFf2lIdeal) (hRefFf2lIdeal := hRefFf2lIdeal)
    ∧ preserves_Out_OutIdeal
    ∧ algebraic_OutIdeal_RefOutIdeal (hOutIdeal := hOutIdeal) (hRefOutIdeal := hRefOutIdeal)
    ∧ preserves_Ff2_Ff2Ideal
    ∧ algebraic_Ff2Ideal_RefFf2Ideal (hFf2Ideal := hFf2Ideal) (hRefFf2Ideal := hRefFf2Ideal)
    ∧ preserves_Dh2_Dh2Ideal
    ∧ algebraic_Dh2Ideal_RefDh2Ideal (hDh2Ideal := hDh2Ideal) (hRefDh2Ideal := hRefDh2Ideal)
    ∧ preserves_Pdt_PdtIdeal
    ∧ algebraic_PdtIdeal_RefPdtIdeal (hPdtIdeal := hPdtIdeal) (hRefPdtIdeal := hRefPdtIdeal)
    ∧ preserves_Gwdt_GwdtIdeal
    ∧ algebraic_GwdtIdeal_RefGwdtIdeal (hGwdtIdeal := hGwdtIdeal) (hRefGwdtIdeal := hRefGwdtIdeal)
    ∧ preserves_Dh1dt_Dh1dtIdeal
    ∧ algebraic_Dh1dtIdeal_RefDh1dtIdeal (hDh1dtIdeal := hDh1dtIdeal) (hRefDh1dtIdeal := hRefDh1dtIdeal)
    ∧ preserves_AdamSmall_AdamSmallIdeal
    ∧ algebraic_AdamSmallIdeal_RefAdamSmallIdeal (hAdamSmallIdeal := hAdamSmallIdeal) (hRefAdamSmallIdeal := hRefAdamSmallIdeal)
    ∧ preserves_AdamConv_AdamConvIdeal
    ∧ algebraic_AdamConvIdeal_RefAdamConvIdeal (hAdamConvIdeal := hAdamConvIdeal) (hRefAdamConvIdeal := hRefAdamConvIdeal)
-- ==== Pre_finite_inputs.lean ====
abbrev S4096x4608 : Shape := ⟨2, ![4096, 4608]⟩
abbrev S512 : Shape := ⟨1, ![512]⟩
abbrev S8x128x128 : Shape := ⟨3, ![8, 128, 128]⟩
abbrev S8x128 : Shape := ⟨2, ![8, 128]⟩
abbrev S4096x2048 : Shape := ⟨2, ![4096, 2048]⟩
abbrev S4096x512 : Shape := ⟨2, ![4096, 512]⟩
abbrev S_ : Shape := ⟨0, ![]⟩
abbrev S128x128 : Shape := ⟨2, ![128, 128]⟩
abbrev S256x512 : Shape := ⟨2, ![256, 512]⟩
abbrev S1x512 : Shape := ⟨2, ![1, 512]⟩
abbrev S8449x512 : Shape := ⟨2, ![8449, 512]⟩

class Facts : Prop where
  slices_S4096x4608_S4096x512_0_1024 : S4096x4608.Slices ![0, 1024] S4096x512
  bitsLt_bf16_f32 : FTy.bits .bf16 < FTy.bits .f32
  slices_S4096x2048_S4096x512_0_512 : S4096x2048.Slices ![0, 512] S4096x512
  bcast_S_S128x128 : S_.BroadcastsInDim S128x128 (![] : Fin 0 → Fin S128x128.rank)
  bcast_S_S8x128x128 : S_.BroadcastsInDim S8x128x128 (![] : Fin 0 → Fin S8x128x128.rank)
  bcast_S128x128_S8x128x128_1_2 : S128x128.BroadcastsInDim S8x128x128 (![1, 2] : Fin 2 → Fin S8x128x128.rank)
  shapeCasts_S8x128x128_S256x512 : S8x128x128.ShapeCasts S256x512
  shapeCasts_S512_S1x512 : S512.ShapeCasts S1x512
  concatenates_S4096x512_S4096x512_S256x512_S1x512_S8449x512_d0 : Shape.Concatenates [S4096x512, S4096x512, S256x512, S1x512] S8449x512 0
  bcast_S_S8449x512 : S_.BroadcastsInDim S8449x512 (![] : Fin 0 → Fin S8449x512.rank)

variable [Facts]

def fn_tril {F : FTy → Type} [FloatOps F] (arg0 : IVec S128x128 1) : IVec S128x128 1 :=
  let v0 : IVec S128x128 32 := iotaInDim S128x128 32 0
  let c : IVec S_ 32 := constantI S_ 32 0#32
  let v1 : IVec S128x128 32 := broadcastInDim S128x128 ![] bcast_S_S128x128 c
  let v2 : IVec S128x128 32 := addi v0 v1
  let v3 : IVec S128x128 32 := iotaInDim S128x128 32 1
  let v4 : IVec S128x128 1 := cmpi .sge v2 v3
  let c_0 : IVec S_ 1 := constantI S_ 1 0#1
  let v5 : IVec S128x128 1 := broadcastInDim S128x128 ![] bcast_S_S128x128 c_0
  let v6 : IVec S128x128 1 := select v4 arg0 v5
  v6

def fn_where {F : FTy → Type} [FloatOps F] (arg0 : IVec S128x128 1) (arg1 : FVec F S8x128x128 .f32) (arg2 : FVec F S8x128x128 .f32) : FVec F S8x128x128 .f32 :=
  let v0 : IVec S8x128x128 1 := broadcastInDim S8x128x128 ![1, 2] bcast_S128x128_S8x128x128_1_2 arg0
  let v1 : FVec F S8x128x128 .f32 := select v0 arg1 arg2
  v1

def fn {F : FTy → Type} [FloatOps F] (main_arg0 : FVec F S4096x4608 .bf16) (main_arg1 : FVec F S512 .f32) (main_arg2 : FVec F S512 .f32) (main_arg3 : FVec F S8x128x128 .f32) (main_arg4 : FVec F S8x128 .f32) (main_arg5 : FVec F S4096x2048 .bf16) (main_arg6 : FVec F S4096x4608 .bf16) : IVec S8449x512 1 :=
  let main_v0 : FVec F S4096x512 .bf16 := (extractStridedSlice S4096x512 ![0, 1024] · slices_S4096x4608_S4096x512_0_1024) main_arg0
  let main_v1 : FVec F S4096x512 .f32 := (extf .f32 · bitsLt_bf16_f32) main_v0
  let main_v2 : FVec F S4096x512 .bf16 := (extractStridedSlice S4096x512 ![0, 512] · slices_S4096x2048_S4096x512_0_512) main_arg5
  let main_v3 : FVec F S4096x512 .f32 := (extf .f32 · bitsLt_bf16_f32) main_v2
  let main_c : IVec S_ 1 := constantI S_ 1 1#1
  let main_v4 : IVec S128x128 1 := broadcastInDim S128x128 ![] bcast_S_S128x128 main_c
  let main_v5 : IVec S128x128 1 := fn_tril (F := F) main_v4
  let main_cst : FVec F S_ .f32 := constant S_ .f32 0x00000000#32
  let main_v6 : FVec F S8x128x128 .f32 := broadcastInDim S8x128x128 ![] bcast_S_S8x128x128 main_cst
  let main_v7 : FVec F S8x128x128 .f32 := fn_where (F := F) main_v5 main_arg3 main_v6
  let main_v8 : FVec F S256x512 .f32 := shapeCast S256x512 main_v7 shapeCasts_S8x128x128_S256x512
  let main_v9 : FVec F S1x512 .f32 := shapeCast S1x512 main_arg1 shapeCasts_S512_S1x512
  let main_v10 : FVec F S8449x512 .f32 := concatenate S8449x512 0 [⟨S4096x512, main_v1⟩, ⟨S4096x512, main_v3⟩, ⟨S256x512, main_v8⟩, ⟨S1x512, main_v9⟩] concatenates_S4096x512_S4096x512_S256x512_S1x512_S8449x512_d0
  let main_v11 : FVec F S8449x512 .f32 := Host.absf main_v10
  let main_cst_0 : FVec F S_ .f32 := constant S_ .f32 0x7F800000#32
  let main_v12 : FVec F S8449x512 .f32 := broadcastInDim S8449x512 ![] bcast_S_S8449x512 main_cst_0
  let main_v13 : IVec S8449x512 1 := cmpf .olt main_v11 main_v12
  main_v13
-- ==== Kernel.lean ====
abbrev S4096x4608 : Shape := ⟨2, ![4096, 4608]⟩
abbrev S512 : Shape := ⟨1, ![512]⟩
abbrev S8x128x128 : Shape := ⟨3, ![8, 128, 128]⟩
abbrev S8x128 : Shape := ⟨2, ![8, 128]⟩
abbrev S4096x2048 : Shape := ⟨2, ![4096, 2048]⟩
abbrev S1x512 : Shape := ⟨2, ![1, 512]⟩
abbrev S8x512 : Shape := ⟨2, ![8, 512]⟩
abbrev S128x8 : Shape := ⟨2, ![128, 8]⟩
abbrev S128x1024 : Shape := ⟨2, ![128, 1024]⟩
abbrev S128x512 : Shape := ⟨2, ![128, 512]⟩
abbrev S128x128 : Shape := ⟨2, ![128, 128]⟩
abbrev S1x128 : Shape := ⟨2, ![1, 128]⟩
abbrev S1x128x128 : Shape := ⟨3, ![1, 128, 128]⟩
abbrev S128 : Shape := ⟨1, ![128]⟩
abbrev S128x1 : Shape := ⟨2, ![128, 1]⟩

abbrev nBuf : Space → Nat
  | .hbm => 14
  | .vmem => 16
  | .smem => 0
  | _ => 0

abbrev bufTy : (tb : Table) → Fin (tcTables nBuf tb) → BufTy
  | .hbm, ⟨0, _⟩ => ⟨S4096x4608, .bf16⟩
  | .hbm, ⟨1, _⟩ => ⟨S512, .f32⟩
  | .hbm, ⟨2, _⟩ => ⟨S512, .f32⟩
  | .hbm, ⟨3, _⟩ => ⟨S8x128x128, .f32⟩
  | .hbm, ⟨4, _⟩ => ⟨S8x128, .f32⟩
  | .hbm, ⟨5, _⟩ => ⟨S4096x2048, .bf16⟩
  | .hbm, ⟨6, _⟩ => ⟨S4096x4608, .bf16⟩
  | .hbm, ⟨7, _⟩ => ⟨S1x512, .f32⟩
  | .hbm, ⟨8, _⟩ => ⟨S1x512, .f32⟩
  | .hbm, ⟨9, _⟩ => ⟨S4096x4608, .bf16⟩
  | .hbm, ⟨10, _⟩ => ⟨S8x512, .f32⟩
  | .hbm, ⟨11, _⟩ => ⟨S8x512, .f32⟩
  | .hbm, ⟨12, _⟩ => ⟨S8x128x128, .f32⟩
  | .hbm, ⟨13, _⟩ => ⟨S128x8, .f32⟩
  | .local _ .vmem, ⟨0, _⟩ => ⟨S128x1024, .bf16⟩
  | .local _ .vmem, ⟨1, _⟩ => ⟨S128x1024, .bf16⟩
  | .local _ .vmem, ⟨2, _⟩ => ⟨S1x512, .f32⟩
  | .local _ .vmem, ⟨3, _⟩ => ⟨S1x512, .f32⟩
  | .local _ .vmem, ⟨4, _⟩ => ⟨S8x128x128, .f32⟩
  | .local _ .vmem, ⟨5, _⟩ => ⟨S8x128, .f32⟩
  | .local _ .vmem, ⟨6, _⟩ => ⟨S128x512, .bf16⟩
  | .local _ .vmem, ⟨7, _⟩ => ⟨S128x512, .bf16⟩
  | .local _ .vmem, ⟨8, _⟩ => ⟨S128x1024, .bf16⟩
  | .local _ .vmem, ⟨9, _⟩ => ⟨S128x1024, .bf16⟩
  | .local _ .vmem, ⟨10, _⟩ => ⟨S8x512, .f32⟩
  | .local _ .vmem, ⟨11, _⟩ => ⟨S8x512, .f32⟩
  | .local _ .vmem, ⟨12, _⟩ => ⟨S8x128x128, .f32⟩
  | .local _ .vmem, ⟨13, _⟩ => ⟨S128x8, .f32⟩
  | .local _ .vmem, ⟨14, _⟩ => ⟨S128x512, .f32⟩
  | .local _ .vmem, ⟨15, _⟩ => ⟨S128x512, .f32⟩
  | _, _ => ⟨S4096x4608, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev main_v2_2 : Ref sig .tc := ⟨.hbm, 11, rfl⟩
abbrev main_v2_3 : Ref sig .tc := ⟨.hbm, 12, rfl⟩
abbrev main_v2_4 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem8_0 : DmaSem sig := 11
abbrev cc0_sem9_0 : DmaSem sig := 12
abbrev cc0_sem10_0 : DmaSem sig := 13

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c31_i32 : BitVec 32 := 31#32
  let v927 : BitVec 1 := Scalar.cmpi .eq arg0 c31_i32
  let v928 : BitVec 32 := Scalar.extui v927
  let c0_i32_400 : BitVec 32 := 0#32
  let v929 : BitVec 1 := Scalar.cmpi .ne v928 c0_i32_400
  v929

def cc0_transform_0 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_7 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S128x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S8x128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x8 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== ReferenceIdeal.lean ====
abbrev S4096x4608 : Shape := ⟨2, ![4096, 4608]⟩
abbrev S512 : Shape := ⟨1, ![512]⟩
abbrev S8x128x128 : Shape := ⟨3, ![8, 128, 128]⟩
abbrev S8x128 : Shape := ⟨2, ![8, 128]⟩
abbrev S4096x2048 : Shape := ⟨2, ![4096, 2048]⟩
abbrev S4096x512 : Shape := ⟨2, ![4096, 512]⟩
abbrev S2x2048x512 : Shape := ⟨3, ![2, 2048, 512]⟩
abbrev S_ : Shape := ⟨0, ![]⟩
abbrev S2x2048x8x64 : Shape := ⟨4, ![2, 2048, 8, 64]⟩
abbrev S2x2048x8 : Shape := ⟨3, ![2, 2048, 8]⟩
abbrev S2x2048x8x1 : Shape := ⟨4, ![2, 2048, 8, 1]⟩
abbrev S1x1x512 : Shape := ⟨3, ![1, 1, 512]⟩
abbrev S2x16x128x8x64 : Shape := ⟨5, ![2, 16, 128, 8, 64]⟩
abbrev S128x128 : Shape := ⟨2, ![128, 128]⟩
abbrev S8x2x16x64x128 : Shape := ⟨5, ![8, 2, 16, 64, 128]⟩
abbrev S128x8 : Shape := ⟨2, ![128, 8]⟩
abbrev S128x8x1 : Shape := ⟨3, ![128, 8, 1]⟩
abbrev S1x1x128x8x1 : Shape := ⟨5, ![1, 1, 128, 8, 1]⟩
abbrev S4096x1024 : Shape := ⟨2, ![4096, 1024]⟩
abbrev S4096x2560 : Shape := ⟨2, ![4096, 2560]⟩
abbrev S1x512 : Shape := ⟨2, ![1, 512]⟩
abbrev S8x512 : Shape := ⟨2, ![8, 512]⟩

abbrev nBuf : Space → Nat
  | .hbm => 209
  | .vmem => 0
  | .smem => 0
  | _ => 0

abbrev hbmTy0_0 (i : Nat) : BufTy := match i % 128 with
  | 0 => ⟨S4096x4608, .bf16⟩
  | 1 => ⟨S512, .f32⟩
  | 2 => ⟨S512, .f32⟩
  | 3 => ⟨S8x128x128, .f32⟩
  | 4 => ⟨S8x128, .f32⟩
  | 5 => ⟨S4096x2048, .bf16⟩
  | 6 => ⟨S4096x4608, .bf16⟩
  | 7 => ⟨S4096x512, .bf16⟩
  | 8 => ⟨S4096x512, .f32⟩
  | 9 => ⟨S2x2048x512, .f32⟩
  | 10 => ⟨S4096x512, .bf16⟩
  | 11 => ⟨S4096x512, .f32⟩
  | 12 => ⟨S2x2048x512, .f32⟩
  | 13 => ⟨S4096x512, .bf16⟩
  | 14 => ⟨S4096x512, .f32⟩
  | 15 => ⟨S2x2048x512, .f32⟩
  | 16 => ⟨S_, .f32⟩
  | 17 => ⟨S2x2048x512, .f32⟩
  | 18 => ⟨S2x2048x512, .f32⟩
  | 19 => ⟨S2x2048x512, .f32⟩
  | 20 => ⟨S_, .f32⟩
  | 21 => ⟨S2x2048x512, .f32⟩
  | 22 => ⟨S2x2048x512, .f32⟩
  | 23 => ⟨S2x2048x512, .f32⟩
  | 24 => ⟨S2x2048x512, .f32⟩
  | 25 => ⟨S2x2048x512, .f32⟩
  | 26 => ⟨S2x2048x512, .f32⟩
  | 27 => ⟨S2x2048x512, .f32⟩
  | 28 => ⟨S_, .f32⟩
  | 29 => ⟨S2x2048x512, .f32⟩
  | 30 => ⟨S2x2048x512, .f32⟩
  | 31 => ⟨S2x2048x512, .f32⟩
  | 32 => ⟨S_, .f32⟩
  | 33 => ⟨S2x2048x512, .f32⟩
  | 34 => ⟨S2x2048x512, .f32⟩
  | 35 => ⟨S2x2048x512, .f32⟩
  | 36 => ⟨S2x2048x512, .f32⟩
  | 37 => ⟨S2x2048x512, .f32⟩
  | 38 => ⟨S2x2048x512, .f32⟩
  | 39 => ⟨S2x2048x512, .f32⟩
  | 40 => ⟨S2x2048x8x64, .f32⟩
  | 41 => ⟨S_, .f32⟩
  | 42 => ⟨S2x2048x8, .f32⟩
  | 43 => ⟨S2x2048x8x1, .f32⟩
  | 44 => ⟨S_, .f32⟩
  | 45 => ⟨S2x2048x8x1, .f32⟩
  | 46 => ⟨S2x2048x8x1, .f32⟩
  | 47 => ⟨S2x2048x8x64, .f32⟩
  | 48 => ⟨S2x2048x8x64, .f32⟩
  | 49 => ⟨S2x2048x8x64, .f32⟩
  | 50 => ⟨S_, .f32⟩
  | 51 => ⟨S2x2048x8, .f32⟩
  | 52 => ⟨S2x2048x8x1, .f32⟩
  | 53 => ⟨S_, .f32⟩
  | 54 => ⟨S2x2048x8x1, .f32⟩
  | 55 => ⟨S2x2048x8x1, .f32⟩
  | 56 => ⟨S_, .f32⟩
  | 57 => ⟨S2x2048x8x1, .f32⟩
  | 58 => ⟨S2x2048x8x1, .f32⟩
  | 59 => ⟨S2x2048x8x1, .f32⟩
  | 60 => ⟨S2x2048x8x1, .f32⟩
  | 61 => ⟨S_, .f32⟩
  | 62 => ⟨S2x2048x8x1, .f32⟩
  | 63 => ⟨S2x2048x8x1, .f32⟩
  | 64 => ⟨S2x2048x8x64, .f32⟩
  | 65 => ⟨S2x2048x8x64, .f32⟩
  | 66 => ⟨S2x2048x512, .f32⟩
  | 67 => ⟨S1x1x512, .f32⟩
  | 68 => ⟨S2x2048x512, .f32⟩
  | 69 => ⟨S2x2048x512, .f32⟩
  | 70 => ⟨S1x1x512, .f32⟩
  | 71 => ⟨S2x2048x512, .f32⟩
  | 72 => ⟨S2x2048x512, .f32⟩
  | 73 => ⟨S2x16x128x8x64, .f32⟩
  | 74 => ⟨S_, .i1⟩
  | 75 => ⟨S128x128, .i1⟩
  | 76 => ⟨S128x128, .i32⟩
  | 77 => ⟨S_, .i32⟩
  | 78 => ⟨S128x128, .i32⟩
  | 79 => ⟨S128x128, .i32⟩
  | 80 => ⟨S128x128, .i32⟩
  | 81 => ⟨S128x128, .i1⟩
  | 82 => ⟨S_, .i1⟩
  | 83 => ⟨S128x128, .i1⟩
  | 84 => ⟨S128x128, .i1⟩
  | 85 => ⟨S_, .f32⟩
  | 86 => ⟨S8x128x128, .f32⟩
  | 87 => ⟨S8x128x128, .i1⟩
  | 88 => ⟨S8x128x128, .f32⟩
  | 89 => ⟨S_, .f32⟩
  | 90 => ⟨S8x128x128, .f32⟩
  | 91 => ⟨S8x2x16x64x128, .f32⟩
  | 92 => ⟨S2x16x128x8x64, .f32⟩
  | 93 => ⟨S128x8, .f32⟩
  | 94 => ⟨S128x8x1, .f32⟩
  | 95 => ⟨S1x1x128x8x1, .f32⟩
  | 96 => ⟨S2x16x128x8x64, .f32⟩
  | 97 => ⟨S2x16x128x8x64, .f32⟩
  | 98 => ⟨S2x16x128x8x64, .f32⟩
  | 99 => ⟨S2x16x128x8x64, .f32⟩
  | 100 => ⟨S2x2048x512, .f32⟩
  | 101 => ⟨S2x16x128x8x64, .f32⟩
  | 102 => ⟨S2x16x128x8x64, .f32⟩
  | 103 => ⟨S2x16x128x8x64, .f32⟩
  | 104 => ⟨S2x2048x512, .f32⟩
  | 105 => ⟨S_, .f32⟩
  | 106 => ⟨S128x8, .f32⟩
  | 107 => ⟨S1x1x128x8x1, .f32⟩
  | 108 => ⟨S_, .f32⟩
  | 109 => ⟨S128x8, .f32⟩
  | 110 => ⟨S128x8x1, .f32⟩
  | 111 => ⟨S_, .f32⟩
  | 112 => ⟨S128x8, .f32⟩
  | 113 => ⟨S8x128, .f32⟩
  | 114 => ⟨S8x2x16x64x128, .f32⟩
  | 115 => ⟨S8x128x128, .f32⟩
  | 116 => ⟨S8x2x16x64x128, .f32⟩
  | 117 => ⟨S2x16x128x8x64, .f32⟩
  | 118 => ⟨S_, .f32⟩
  | 119 => ⟨S8x128x128, .f32⟩
  | 120 => ⟨S8x128x128, .f32⟩
  | 121 => ⟨S2x2048x512, .f32⟩
  | 122 => ⟨S_, .f32⟩
  | 123 => ⟨S512, .f32⟩
  | 124 => ⟨S1x1x512, .f32⟩
  | 125 => ⟨S_, .f32⟩
  | 126 => ⟨S512, .f32⟩
  | 127 => ⟨S2x2048x512, .f32⟩
  | _ => ⟨S4096x4608, .bf16⟩

abbrev hbmTy0_1 (i : Nat) : BufTy := match i % 128 with
  | 0 => ⟨S_, .f32⟩
  | 1 => ⟨S512, .f32⟩
  | 2 => ⟨S1x1x512, .f32⟩
  | 3 => ⟨S2x2048x512, .f32⟩
  | 4 => ⟨S2x2048x512, .f32⟩
  | 5 => ⟨S_, .f32⟩
  | 6 => ⟨S512, .f32⟩
  | 7 => ⟨S2x2048x8x64, .f32⟩
  | 8 => ⟨S2x2048x8x64, .f32⟩
  | 9 => ⟨S_, .f32⟩
  | 10 => ⟨S2x2048x8, .f32⟩
  | 11 => ⟨S2x2048x8x1, .f32⟩
  | 12 => ⟨S2x2048x8x64, .f32⟩
  | 13 => ⟨S2x2048x8x64, .f32⟩
  | 14 => ⟨S2x2048x8x1, .f32⟩
  | 15 => ⟨S_, .f32⟩
  | 16 => ⟨S2x2048x8x1, .f32⟩
  | 17 => ⟨S2x2048x8x1, .f32⟩
  | 18 => ⟨S_, .f32⟩
  | 19 => ⟨S2x2048x8, .f32⟩
  | 20 => ⟨S2x2048x8x64, .f32⟩
  | 21 => ⟨S2x2048x8x64, .f32⟩
  | 22 => ⟨S2x2048x8x64, .f32⟩
  | 23 => ⟨S2x2048x8x64, .f32⟩
  | 24 => ⟨S2x2048x8x64, .f32⟩
  | 25 => ⟨S2x2048x8x64, .f32⟩
  | 26 => ⟨S_, .f32⟩
  | 27 => ⟨S2x2048x8, .f32⟩
  | 28 => ⟨S2x2048x8x1, .f32⟩
  | 29 => ⟨S_, .f32⟩
  | 30 => ⟨S2x2048x8x1, .f32⟩
  | 31 => ⟨S2x2048x8x1, .f32⟩
  | 32 => ⟨S_, .f32⟩
  | 33 => ⟨S2x2048x8, .f32⟩
  | 34 => ⟨S2x2048x8x64, .f32⟩
  | 35 => ⟨S2x2048x8x64, .f32⟩
  | 36 => ⟨S2x2048x512, .f32⟩
  | 37 => ⟨S2x2048x512, .f32⟩
  | 38 => ⟨S2x2048x512, .f32⟩
  | 39 => ⟨S_, .f32⟩
  | 40 => ⟨S2x2048x512, .f32⟩
  | 41 => ⟨S2x2048x512, .f32⟩
  | 42 => ⟨S2x2048x512, .f32⟩
  | 43 => ⟨S_, .f32⟩
  | 44 => ⟨S2x2048x512, .f32⟩
  | 45 => ⟨S2x2048x512, .f32⟩
  | 46 => ⟨S2x2048x512, .f32⟩
  | 47 => ⟨S_, .f32⟩
  | 48 => ⟨S2x2048x512, .f32⟩
  | 49 => ⟨S2x2048x512, .f32⟩
  | 50 => ⟨S2x2048x512, .f32⟩
  | 51 => ⟨S2x2048x512, .f32⟩
  | 52 => ⟨S2x2048x512, .f32⟩
  | 53 => ⟨S_, .f32⟩
  | 54 => ⟨S2x2048x512, .f32⟩
  | 55 => ⟨S2x2048x512, .f32⟩
  | 56 => ⟨S2x2048x512, .f32⟩
  | 57 => ⟨S_, .f32⟩
  | 58 => ⟨S2x2048x512, .f32⟩
  | 59 => ⟨S2x2048x512, .f32⟩
  | 60 => ⟨S2x2048x512, .f32⟩
  | 61 => ⟨S_, .f32⟩
  | 62 => ⟨S2x2048x512, .f32⟩
  | 63 => ⟨S2x2048x512, .f32⟩
  | 64 => ⟨S2x2048x512, .f32⟩
  | 65 => ⟨S4096x1024, .bf16⟩
  | 66 => ⟨S4096x512, .f32⟩
  | 67 => ⟨S4096x512, .bf16⟩
  | 68 => ⟨S4096x512, .f32⟩
  | 69 => ⟨S4096x512, .bf16⟩
  | 70 => ⟨S4096x2560, .bf16⟩
  | 71 => ⟨S4096x4608, .bf16⟩
  | 72 => ⟨S1x512, .f32⟩
  | 73 => ⟨S_, .i32⟩
  | 74 => ⟨S_, .f32⟩
  | 75 => ⟨S8x512, .f32⟩
  | 76 => ⟨S1x512, .f32⟩
  | 77 => ⟨S_, .i32⟩
  | 78 => ⟨S_, .f32⟩
  | 79 => ⟨S8x512, .f32⟩
  | 80 => ⟨S128x8, .f32⟩
  | _ => ⟨S4096x4608, .bf16⟩

abbrev hbmTy (i : Nat) : BufTy := match i / 128 with
  | 0 => hbmTy0_0 i
  | 1 => hbmTy0_1 i
  | _ => ⟨S4096x4608, .bf16⟩

abbrev bufTy : (tb : Table) → Fin (tcTables nBuf tb) → BufTy
  | .hbm, ⟨i, _⟩ => hbmTy i
  | _, _ => ⟨S4096x4608, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_0 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_1 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_2 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_3 : Ref sig .tc := ⟨.hbm, 41, rfl⟩
abbrev main_v30 : Ref sig .tc := ⟨.hbm, 42, rfl⟩
abbrev main_v31 : Ref sig .tc := ⟨.hbm, 43, rfl⟩
abbrev main_cst_4 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_5 : Ref sig .tc := ⟨.hbm, 50, rfl⟩
abbrev main_v37 : Ref sig .tc := ⟨.hbm, 51, rfl⟩
abbrev main_v38 : Ref sig .tc := ⟨.hbm, 52, rfl⟩
abbrev main_cst_6 : Ref sig .tc := ⟨.hbm, 53, rfl⟩
abbrev main_v39 : Ref sig .tc := ⟨.hbm, 54, rfl⟩
abbrev main_v40 : Ref sig .tc := ⟨.hbm, 55, rfl⟩
abbrev main_cst_7 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_cst_8 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_c : Ref sig .tc := ⟨.hbm, 74, rfl⟩
abbrev main_v57 : Ref sig .tc := ⟨.hbm, 75, rfl⟩
abbrev main_call0_v0 : Ref sig .tc := ⟨.hbm, 76, rfl⟩
abbrev main_call0_c : Ref sig .tc := ⟨.hbm, 77, rfl⟩
abbrev main_call0_v1 : Ref sig .tc := ⟨.hbm, 78, rfl⟩
abbrev main_call0_v2 : Ref sig .tc := ⟨.hbm, 79, rfl⟩
abbrev main_call0_v3 : Ref sig .tc := ⟨.hbm, 80, rfl⟩
abbrev main_call0_v4 : Ref sig .tc := ⟨.hbm, 81, rfl⟩
abbrev main_call0_c_0 : Ref sig .tc := ⟨.hbm, 82, rfl⟩
abbrev main_call0_v5 : Ref sig .tc := ⟨.hbm, 83, rfl⟩
abbrev main_v58 : Ref sig .tc := ⟨.hbm, 84, rfl⟩
abbrev main_cst_9 : Ref sig .tc := ⟨.hbm, 85, rfl⟩
abbrev main_v59 : Ref sig .tc := ⟨.hbm, 86, rfl⟩
abbrev main_v60_1 : Ref sig .tc := ⟨.hbm, 87, rfl⟩
abbrev main_v60_0 : Ref sig .tc := ⟨.hbm, 88, rfl⟩
abbrev main_call1_cst : Ref sig .tc := ⟨.hbm, 89, rfl⟩
abbrev main_v60_2 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_cst_10 : Ref sig .tc := ⟨.hbm, 105, rfl⟩
abbrev main_v75 : Ref sig .tc := ⟨.hbm, 106, rfl⟩
abbrev main_v76 : Ref sig .tc := ⟨.hbm, 107, rfl⟩
abbrev main_cst_11 : Ref sig .tc := ⟨.hbm, 108, rfl⟩
abbrev main_v77 : Ref sig .tc := ⟨.hbm, 109, rfl⟩
abbrev main_v78 : Ref sig .tc := ⟨.hbm, 110, rfl⟩
abbrev main_cst_12 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_call2_cst : Ref sig .tc := ⟨.hbm, 118, rfl⟩
abbrev main_call2_v0 : Ref sig .tc := ⟨.hbm, 119, rfl⟩
abbrev main_v85 : Ref sig .tc := ⟨.hbm, 120, rfl⟩
abbrev main_v86 : Ref sig .tc := ⟨.hbm, 121, rfl⟩
abbrev main_cst_13 : Ref sig .tc := ⟨.hbm, 122, rfl⟩
abbrev main_v87 : Ref sig .tc := ⟨.hbm, 123, rfl⟩
abbrev main_v88 : Ref sig .tc := ⟨.hbm, 124, rfl⟩
abbrev main_cst_14 : Ref sig .tc := ⟨.hbm, 125, rfl⟩
abbrev main_v89 : Ref sig .tc := ⟨.hbm, 126, rfl⟩
abbrev main_v90 : Ref sig .tc := ⟨.hbm, 127, rfl⟩
abbrev main_cst_15 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_cst_16 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_cst_17 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_cst_18 : Ref sig .tc := ⟨.hbm, 143, rfl⟩
abbrev main_v103 : Ref sig .tc := ⟨.hbm, 144, rfl⟩
abbrev main_v104 : Ref sig .tc := ⟨.hbm, 145, rfl⟩
abbrev main_cst_19 : Ref sig .tc := ⟨.hbm, 146, rfl⟩
abbrev main_v105 : Ref sig .tc := ⟨.hbm, 147, rfl⟩
abbrev main_v106 : Ref sig .tc := ⟨.hbm, 148, rfl⟩
abbrev main_v107 : Ref sig .tc := ⟨.hbm, 149, rfl⟩
abbrev main_v108 : Ref sig .tc := ⟨.hbm, 150, rfl⟩
abbrev main_v109 : Ref sig .tc := ⟨.hbm, 151, rfl⟩
abbrev main_v110 : Ref sig .tc := ⟨.hbm, 152, rfl⟩
abbrev main_v111 : Ref sig .tc := ⟨.hbm, 153, rfl⟩
abbrev main_cst_20 : Ref sig .tc := ⟨.hbm, 154, rfl⟩
abbrev main_v112 : Ref sig .tc := ⟨.hbm, 155, rfl⟩
abbrev main_v113 : Ref sig .tc := ⟨.hbm, 156, rfl⟩
abbrev main_cst_21 : Ref sig .tc := ⟨.hbm, 157, rfl⟩
abbrev main_v114 : Ref sig .tc := ⟨.hbm, 158, rfl⟩
abbrev main_v115 : Ref sig .tc := ⟨.hbm, 159, rfl⟩
abbrev main_cst_22 : Ref sig .tc := ⟨.hbm, 160, rfl⟩
abbrev main_v116 : Ref sig .tc := ⟨.hbm, 161, rfl⟩
abbrev main_v117 : Ref sig .tc := ⟨.hbm, 162, rfl⟩
abbrev main_v118 : Ref sig .tc := ⟨.hbm, 163, rfl⟩
abbrev main_v119 : Ref sig .tc := ⟨.hbm, 164, rfl⟩
abbrev main_v120 : Ref sig .tc := ⟨.hbm, 165, rfl⟩
abbrev main_v121 : Ref sig .tc := ⟨.hbm, 166, rfl⟩
abbrev main_cst_23 : Ref sig .tc := ⟨.hbm, 167, rfl⟩
abbrev main_v122 : Ref sig .tc := ⟨.hbm, 168, rfl⟩
abbrev main_v123 : Ref sig .tc := ⟨.hbm, 169, rfl⟩
abbrev main_v124 : Ref sig .tc := ⟨.hbm, 170, rfl⟩
abbrev main_cst_24 : Ref sig .tc := ⟨.hbm, 171, rfl⟩
abbrev main_v125 : Ref sig .tc := ⟨.hbm, 172, rfl⟩
abbrev main_v126 : Ref sig .tc := ⟨.hbm, 173, rfl⟩
abbrev main_v127 : Ref sig .tc := ⟨.hbm, 174, rfl⟩
abbrev main_cst_25 : Ref sig .tc := ⟨.hbm, 175, rfl⟩
abbrev main_v128 : Ref sig .tc := ⟨.hbm, 176, rfl⟩
abbrev main_v129 : Ref sig .tc := ⟨.hbm, 177, rfl⟩
abbrev main_v130 : Ref sig .tc := ⟨.hbm, 178, rfl⟩
abbrev main_v131 : Ref sig .tc := ⟨.hbm, 179, rfl⟩
abbrev main_v132 : Ref sig .tc := ⟨.hbm, 180, rfl⟩
abbrev main_cst_26 : Ref sig .tc := ⟨.hbm, 181, rfl⟩
abbrev main_v133 : Ref sig .tc := ⟨.hbm, 182, rfl⟩
abbrev main_v134 : Ref sig .tc := ⟨.hbm, 183, rfl⟩
abbrev main_v135 : Ref sig .tc := ⟨.hbm, 184, rfl⟩
abbrev main_cst_27 : Ref sig .tc := ⟨.hbm, 185, rfl⟩
abbrev main_v136 : Ref sig .tc := ⟨.hbm, 186, rfl⟩
abbrev main_v137 : Ref sig .tc := ⟨.hbm, 187, rfl⟩
abbrev main_v138 : Ref sig .tc := ⟨.hbm, 188, rfl⟩
abbrev main_cst_28 : Ref sig .tc := ⟨.hbm, 189, rfl⟩
abbrev main_v139 : Ref sig .tc := ⟨.hbm, 190, rfl⟩
abbrev main_v140 : Ref sig .tc := ⟨.hbm, 191, rfl⟩
abbrev main_v141 : Ref sig .tc := ⟨.hbm, 192, rfl⟩
abbrev main_v142 : Ref sig .tc := ⟨.hbm, 193, rfl⟩
abbrev main_v143 : Ref sig .tc := ⟨.hbm, 194, rfl⟩
abbrev main_v144 : Ref sig .tc := ⟨.hbm, 195, rfl⟩
abbrev main_v145 : Ref sig .tc := ⟨.hbm, 196, rfl⟩
abbrev main_v146 : Ref sig .tc := ⟨.hbm, 197, rfl⟩
abbrev main_v147 : Ref sig .tc := ⟨.hbm, 198, rfl⟩
abbrev main_v148 : Ref sig .tc := ⟨.hbm, 199, rfl⟩
abbrev main_v149 : Ref sig .tc := ⟨.hbm, 200, rfl⟩
abbrev main_c_29 : Ref sig .tc := ⟨.hbm, 201, rfl⟩
abbrev main_call3_v0 : Ref sig .tc := ⟨.hbm, 202, rfl⟩
abbrev main_v150 : Ref sig .tc := ⟨.hbm, 203, rfl⟩
abbrev main_v151 : Ref sig .tc := ⟨.hbm, 204, rfl⟩
abbrev main_c_30 : Ref sig .tc := ⟨.hbm, 205, rfl⟩
abbrev main_call4_v0 : Ref sig .tc := ⟨.hbm, 206, rfl⟩
abbrev main_v152 : Ref sig .tc := ⟨.hbm, 207, rfl⟩
abbrev main_v153 : Ref sig .tc := ⟨.hbm, 208, rfl⟩

abbrev nD : Nat := 1
abbrev τ : Topo := Topo.v7x

variable {F : FTy → Type} [FloatOps F]
-- ==== Gw2.lean ====
abbrev S4096x4096 : Shape := ⟨2, ![4096, 4096]⟩
abbrev S4096x1024 : Shape := ⟨2, ![4096, 1024]⟩
abbrev S4096x512 : Shape := ⟨2, ![4096, 512]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .f32⟩
  | .hbm, ⟨2, _⟩ => ⟨S4096x1024, .bf16⟩
  | .local _ .vmem, ⟨0, _⟩ => ⟨S4096x512, .bf16⟩
  | .local _ .vmem, ⟨1, _⟩ => ⟨S4096x512, .bf16⟩
  | .local _ .vmem, ⟨2, _⟩ => ⟨S4096x1024, .f32⟩
  | .local _ .vmem, ⟨3, _⟩ => ⟨S512x1024, .bf16⟩
  | .local _ .vmem, ⟨4, _⟩ => ⟨S512x1024, .bf16⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefGw2Ideal.lean ====
abbrev S4096x4096 : Shape := ⟨2, ![4096, 4096]⟩
abbrev S4096x1024 : Shape := ⟨2, ![4096, 1024]⟩
abbrev S_ : Shape := ⟨0, ![]⟩
abbrev S1024x4096 : Shape := ⟨2, ![1024, 4096]⟩

abbrev nBuf : Space → Nat
  | .hbm => 9
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .f32⟩
  | .hbm, ⟨2, _⟩ => ⟨S_, .f32⟩
  | .hbm, ⟨3, _⟩ => ⟨S4096x1024, .f32⟩
  | .hbm, ⟨4, _⟩ => ⟨S4096x4096, .f32⟩
  | .hbm, ⟨5, _⟩ => ⟨S4096x1024, .f32⟩
  | .hbm, ⟨6, _⟩ => ⟨S1024x4096, .f32⟩
  | .hbm, ⟨7, _⟩ => ⟨S4096x1024, .f32⟩
  | .hbm, ⟨8, _⟩ => ⟨S4096x1024, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Df.lean ====
abbrev S4096x1024 : Shape := ⟨2, ![4096, 1024]⟩
abbrev S4096x4096 : Shape := ⟨2, ![4096, 4096]⟩
abbrev S8x128 : Shape := ⟨2, ![8, 128]⟩
abbrev S2048x1024 : Shape := ⟨2, ![2048, 1024]⟩
abbrev S1024x1024 : Shape := ⟨2, ![1024, 1024]⟩

abbrev nBuf : Space → Nat
  | .hbm => 5
  | .vmem => 9
  | .smem => 0
  | _ => 0

abbrev bufTy : (tb : Table) → Fin (tcTables nBuf tb) → BufTy
  | .hbm, ⟨0, _⟩ => ⟨S4096x1024, .f32⟩
  | .hbm, ⟨1, _⟩ => ⟨S4096x1024, .bf16⟩
  | .hbm, ⟨2, _⟩ => ⟨S4096x4096, .bf16⟩
  | .hbm, ⟨3, _⟩ => ⟨S8x128, .f32⟩
  | .hbm, ⟨4, _⟩ => ⟨S4096x4096, .bf16⟩
  | .local _ .vmem, ⟨0, _⟩ => ⟨S2048x1024, .f32⟩
  | .local _ .vmem, ⟨1, _⟩ => ⟨S2048x1024, .f32⟩
  | .local _ .vmem, ⟨2, _⟩ => ⟨S1024x1024, .bf16⟩
  | .local _ .vmem, ⟨3, _⟩ => ⟨S1024x1024, .bf16⟩
  | .local _ .vmem, ⟨4, _⟩ => ⟨S2048x1024, .bf16⟩
  | .local _ .vmem, ⟨5, _⟩ => ⟨S2048x1024, .bf16⟩
  | .local _ .vmem, ⟨6, _⟩ => ⟨S8x128, .f32⟩
  | .local _ .vmem, ⟨7, _⟩ => ⟨S2048x1024, .bf16⟩
  | .local _ .vmem, ⟨8, _⟩ => ⟨S2048x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S2048x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== RefDfIdeal.lean ====
abbrev S4096x1024 : Shape := ⟨2, ![4096, 1024]⟩
abbrev S4096x4096 : Shape := ⟨2, ![4096, 4096]⟩
abbrev S8x128 : Shape := ⟨2, ![8, 128]⟩
abbrev S_ : Shape := ⟨0, ![]⟩

abbrev nBuf : Space → Nat
  | .hbm => 25
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .bf16⟩
  | .hbm, ⟨2, _⟩ => ⟨S4096x4096, .bf16⟩
  | .hbm, ⟨3, _⟩ => ⟨S8x128, .f32⟩
  | .hbm, ⟨4, _⟩ => ⟨S4096x1024, .f32⟩
  | .hbm, ⟨5, _⟩ => ⟨S4096x4096, .f32⟩
  | .hbm, ⟨6, _⟩ => ⟨S_, .f32⟩
  | .hbm, ⟨7, _⟩ => ⟨S4096x4096, .f32⟩
  | .hbm, ⟨8, _⟩ => ⟨S4096x4096, .f32⟩
  | .hbm, ⟨9, _⟩ => ⟨S_, .f32⟩
  | .hbm, ⟨10, _⟩ => ⟨S4096x4096, .f32⟩
  | .hbm, ⟨11, _⟩ => ⟨S4096x4096, .i1⟩
  | .hbm, ⟨12, _⟩ => ⟨S_, .f32⟩
  | .hbm, ⟨13, _⟩ => ⟨S4096x4096, .f32⟩
  | .hbm, ⟨14, _⟩ => ⟨S4096x4096, .f32⟩
  | .hbm, ⟨15, _⟩ => ⟨S_, .f32⟩
  | .hbm, ⟨16, _⟩ => ⟨S4096x4096, .f32⟩
  | .hbm, ⟨17, _⟩ => ⟨S4096x4096, .f32⟩
  | .hbm, ⟨18, _⟩ => ⟨S4096x1024, .f32⟩
  | .hbm, ⟨19, _⟩ => ⟨S4096x4096, .f32⟩
  | .hbm, ⟨20, _⟩ => ⟨S4096x4096, .f32⟩
  | .hbm, ⟨21, _⟩ => ⟨S_, .f32⟩
  | .hbm, ⟨22, _⟩ => ⟨S4096x4096, .f32⟩
  | .hbm, ⟨23, _⟩ => ⟨S4096x4096, .f32⟩
  | .hbm, ⟨24, _⟩ => ⟨S4096x4096, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_cst : Ref sig .tc := ⟨.hbm, 6, rfl⟩
abbrev main_call0_v0 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩

abbrev nD : Nat := 1
abbrev τ : Topo := Topo.v7x

variable {F : FTy → Type} [FloatOps F]
-- ==== Gwin.lean ====
abbrev S4096x4608 : Shape := ⟨2, ![4096, 4608]⟩
abbrev S4096x1024 : Shape := ⟨2, ![4096, 1024]⟩
abbrev S4608x1024 : Shape := ⟨2, ![4608, 1024]⟩
abbrev S4096x768 : Shape := ⟨2, ![4096, 768]⟩
abbrev S768x1024 : Shape := ⟨2, ![768, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x4608, .bf16⟩
  | .hbm, ⟨1, _⟩ => ⟨S4096x1024, .bf16⟩
  | .hbm, ⟨2, _⟩ => ⟨S4608x1024, .bf16⟩
  | .local _ .vmem, ⟨0, _⟩ => ⟨S4096x768, .bf16⟩
  | .local _ .vmem, ⟨1, _⟩ => ⟨S4096x768, .bf16⟩
  | .local _ .vmem, ⟨2, _⟩ => ⟨S4096x1024, .bf16⟩
  | .local _ .vmem, ⟨3, _⟩ => ⟨S768x1024, .bf16⟩
  | .local _ .vmem, ⟨4, _⟩ => ⟨S768x1024, .bf16⟩
  | _, _ => ⟨S4096x4608, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![6, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S768x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefGwinIdeal.lean ====
abbrev S4096x4608 : Shape := ⟨2, ![4096, 4608]⟩
abbrev S4096x1024 : Shape := ⟨2, ![4096, 1024]⟩
abbrev S_ : Shape := ⟨0, ![]⟩
abbrev S1024x4608 : Shape := ⟨2, ![1024, 4608]⟩
abbrev S4608x1024 : Shape := ⟨2, ![4608, 1024]⟩

abbrev nBuf : Space → Nat
  | .hbm => 11
  | .vmem => 0
  | .smem => 0
  | _ => 0

abbrev bufTy : (tb : Table) → Fin (tcTables nBuf tb) → BufTy
  | .hbm, ⟨0, _⟩ => ⟨S4096x4608, .bf16⟩
  | .hbm, ⟨1, _⟩ => ⟨S4096x1024, .bf16⟩
  | .hbm, ⟨2, _⟩ => ⟨S_, .f32⟩
  | .hbm, ⟨3, _⟩ => ⟨S1024x4608, .f32⟩
  | .hbm, ⟨4, _⟩ => ⟨S4096x1024, .f32⟩
  | .hbm, ⟨5, _⟩ => ⟨S4096x4608, .f32⟩
  | .hbm, ⟨6, _⟩ => ⟨S4096x4608, .f32⟩
  | .hbm, ⟨7, _⟩ => ⟨S4608x1024, .f32⟩
  | .hbm, ⟨8, _⟩ => ⟨S1024x4608, .f32⟩
  | .hbm, ⟨9, _⟩ => ⟨S4608x1024, .f32⟩
  | .hbm, ⟨10, _⟩ => ⟨S4608x1024, .bf16⟩
  | _, _ => ⟨S4096x4608, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Proj.lean ====
abbrev S4096x1024 : Shape := ⟨2, ![4096, 1024]⟩
abbrev S4624x1024 : Shape := ⟨2, ![4624, 1024]⟩
abbrev S8x128 : Shape := ⟨2, ![8, 128]⟩
abbrev S4096x4608 : Shape := ⟨2, ![4096, 4608]⟩
abbrev S2048x1024 : Shape := ⟨2, ![2048, 1024]⟩
abbrev S768x1024 : Shape := ⟨2, ![768, 1024]⟩
abbrev S2048x768 : Shape := ⟨2, ![2048, 768]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4624x1024, .bf16⟩
  | .hbm, ⟨2, _⟩ => ⟨S8x128, .f32⟩
  | .hbm, ⟨3, _⟩ => ⟨S4096x4608, .bf16⟩
  | .local _ .vmem, ⟨0, _⟩ => ⟨S2048x1024, .bf16⟩
  | .local _ .vmem, ⟨1, _⟩ => ⟨S2048x1024, .bf16⟩
  | .local _ .vmem, ⟨2, _⟩ => ⟨S768x1024, .bf16⟩
  | .local _ .vmem, ⟨3, _⟩ => ⟨S768x1024, .bf16⟩
  | .local _ .vmem, ⟨4, _⟩ => ⟨S8x128, .f32⟩
  | .local _ .vmem, ⟨5, _⟩ => ⟨S2048x768, .bf16⟩
  | .local _ .vmem, ⟨6, _⟩ => ⟨S2048x768, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![2, 6, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S768x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 2 → Memref sig .tc .vmem S2048x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== RefProjIdeal.lean ====
abbrev S4096x1024 : Shape := ⟨2, ![4096, 1024]⟩
abbrev S4624x1024 : Shape := ⟨2, ![4624, 1024]⟩
abbrev S8x128 : Shape := ⟨2, ![8, 128]⟩
abbrev S1024x4624 : Shape := ⟨2, ![1024, 4624]⟩
abbrev S4096x4624 : Shape := ⟨2, ![4096, 4624]⟩
abbrev S4096x4608 : Shape := ⟨2, ![4096, 4608]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4624x1024, .bf16⟩
  | .hbm, ⟨2, _⟩ => ⟨S8x128, .f32⟩
  | .hbm, ⟨3, _⟩ => ⟨S4096x1024, .f32⟩
  | .hbm, ⟨4, _⟩ => ⟨S4624x1024, .f32⟩
  | .hbm, ⟨5, _⟩ => ⟨S1024x4624, .f32⟩
  | .hbm, ⟨6, _⟩ => ⟨S4096x4624, .f32⟩
  | .hbm, ⟨7, _⟩ => ⟨S4096x4608, .f32⟩
  | .hbm, ⟨8, _⟩ => ⟨S4096x4608, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Gw1.lean ====
abbrev S4096x4096 : Shape := ⟨2, ![4096, 4096]⟩
abbrev S4096x1024 : Shape := ⟨2, ![4096, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S4096x1024, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S1024x1024, .bf16⟩
  | .local _ .vmem, ⟨4, _⟩ => ⟨S1024x1024, .bf16⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefGw1Ideal.lean ====
abbrev S4096x4096 : Shape := ⟨2, ![4096, 4096]⟩
abbrev S4096x1024 : Shape := ⟨2, ![4096, 1024]⟩
abbrev S_ : Shape := ⟨0, ![]⟩
abbrev S1024x4096 : Shape := ⟨2, ![1024, 4096]⟩

abbrev nBuf : Space → Nat
  | .hbm => 11
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S_, .f32⟩
  | .hbm, ⟨3, _⟩ => ⟨S1024x4096, .f32⟩
  | .hbm, ⟨4, _⟩ => ⟨S4096x1024, .f32⟩
  | .hbm, ⟨5, _⟩ => ⟨S4096x4096, .f32⟩
  | .hbm, ⟨6, _⟩ => ⟨S4096x4096, .f32⟩
  | .hbm, ⟨7, _⟩ => ⟨S4096x1024, .f32⟩
  | .hbm, ⟨8, _⟩ => ⟨S1024x4096, .f32⟩
  | .hbm, ⟨9, _⟩ => ⟨S4096x1024, .f32⟩
  | .hbm, ⟨10, _⟩ => ⟨S4096x1024, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Dh1.lean ====
abbrev S4096x4608 : Shape := ⟨2, ![4096, 4608]⟩
abbrev S4624x1024 : Shape := ⟨2, ![4624, 1024]⟩
abbrev S4096x1024 : Shape := ⟨2, ![4096, 1024]⟩
abbrev S1024x4608 : Shape := ⟨2, ![1024, 4608]⟩
abbrev S4608x1024 : Shape := ⟨2, ![4608, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x4608, .bf16⟩
  | .hbm, ⟨1, _⟩ => ⟨S4624x1024, .bf16⟩
  | .hbm, ⟨2, _⟩ => ⟨S4096x1024, .f32⟩
  | .local _ .vmem, ⟨0, _⟩ => ⟨S1024x4608, .bf16⟩
  | .local _ .vmem, ⟨1, _⟩ => ⟨S1024x4608, .bf16⟩
  | .local _ .vmem, ⟨2, _⟩ => ⟨S4608x1024, .bf16⟩
  | .local _ .vmem, ⟨3, _⟩ => ⟨S1024x1024, .f32⟩
  | .local _ .vmem, ⟨4, _⟩ => ⟨S1024x1024, .f32⟩
  | _, _ => ⟨S4096x4608, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4608 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4608x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefDh1Ideal.lean ====
abbrev S4096x4608 : Shape := ⟨2, ![4096, 4608]⟩
abbrev S4624x1024 : Shape := ⟨2, ![4624, 1024]⟩
abbrev S4608x1024 : Shape := ⟨2, ![4608, 1024]⟩
abbrev S1024x4608 : Shape := ⟨2, ![1024, 4608]⟩
abbrev S_ : Shape := ⟨0, ![]⟩
abbrev S4096x1024 : Shape := ⟨2, ![4096, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x4608, .bf16⟩
  | .hbm, ⟨1, _⟩ => ⟨S4624x1024, .bf16⟩
  | .hbm, ⟨2, _⟩ => ⟨S4624x1024, .f32⟩
  | .hbm, ⟨3, _⟩ => ⟨S4608x1024, .f32⟩
  | .hbm, ⟨4, _⟩ => ⟨S1024x4608, .f32⟩
  | .hbm, ⟨5, _⟩ => ⟨S_, .f32⟩
  | .hbm, ⟨6, _⟩ => ⟨S4096x1024, .f32⟩
  | .hbm, ⟨7, _⟩ => ⟨S4096x4608, .f32⟩
  | .hbm, ⟨8, _⟩ => ⟨S4096x4608, .f32⟩
  | .hbm, ⟨9, _⟩ => ⟨S4096x1024, .f32⟩
  | _, _ => ⟨S4096x4608, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Dycat.lean ====
abbrev S4096x1024 : Shape := ⟨2, ![4096, 1024]⟩
abbrev S2048x1024 : Shape := ⟨2, ![2048, 1024]⟩
abbrev S8x128 : Shape := ⟨2, ![8, 128]⟩
abbrev S4096x2048 : Shape := ⟨2, ![4096, 2048]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S2048x1024, .bf16⟩
  | .hbm, ⟨2, _⟩ => ⟨S8x128, .f32⟩
  | .hbm, ⟨3, _⟩ => ⟨S4096x2048, .bf16⟩
  | .local _ .vmem, ⟨0, _⟩ => ⟨S2048x1024, .f32⟩
  | .local _ .vmem, ⟨1, _⟩ => ⟨S2048x1024, .f32⟩
  | .local _ .vmem, ⟨2, _⟩ => ⟨S1024x1024, .bf16⟩
  | .local _ .vmem, ⟨3, _⟩ => ⟨S1024x1024, .bf16⟩
  | .local _ .vmem, ⟨4, _⟩ => ⟨S8x128, .f32⟩
  | .local _ .vmem, ⟨5, _⟩ => ⟨S2048x1024, .bf16⟩
  | .local _ .vmem, ⟨6, _⟩ => ⟨S2048x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== RefDycatIdeal.lean ====
abbrev S4096x1024 : Shape := ⟨2, ![4096, 1024]⟩
abbrev S2048x1024 : Shape := ⟨2, ![2048, 1024]⟩
abbrev S8x128 : Shape := ⟨2, ![8, 128]⟩
abbrev S_ : Shape := ⟨0, ![]⟩
abbrev S4096x2048 : Shape := ⟨2, ![4096, 2048]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S2048x1024, .bf16⟩
  | .hbm, ⟨2, _⟩ => ⟨S8x128, .f32⟩
  | .hbm, ⟨3, _⟩ => ⟨S2048x1024, .f32⟩
  | .hbm, ⟨4, _⟩ => ⟨S_, .f32⟩
  | .hbm, ⟨5, _⟩ => ⟨S4096x2048, .f32⟩
  | .hbm, ⟨6, _⟩ => ⟨S4096x1024, .f32⟩
  | .hbm, ⟨7, _⟩ => ⟨S4096x2048, .f32⟩
  | .hbm, ⟨8, _⟩ => ⟨S4096x2048, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Gwout.lean ====
abbrev S4096x2048 : Shape := ⟨2, ![4096, 2048]⟩
abbrev S4096x1024 : Shape := ⟨2, ![4096, 1024]⟩
abbrev S2048x1024 : Shape := ⟨2, ![2048, 1024]⟩
abbrev S4096x512 : Shape := ⟨2, ![4096, 512]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x2048, .bf16⟩
  | .hbm, ⟨1, _⟩ => ⟨S4096x1024, .f32⟩
  | .hbm, ⟨2, _⟩ => ⟨S2048x1024, .bf16⟩
  | .local _ .vmem, ⟨0, _⟩ => ⟨S4096x512, .bf16⟩
  | .local _ .vmem, ⟨1, _⟩ => ⟨S4096x512, .bf16⟩
  | .local _ .vmem, ⟨2, _⟩ => ⟨S4096x1024, .f32⟩
  | .local _ .vmem, ⟨3, _⟩ => ⟨S512x1024, .bf16⟩
  | .local _ .vmem, ⟨4, _⟩ => ⟨S512x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefGwoutIdeal.lean ====
abbrev S4096x2048 : Shape := ⟨2, ![4096, 2048]⟩
abbrev S4096x1024 : Shape := ⟨2, ![4096, 1024]⟩
abbrev S_ : Shape := ⟨0, ![]⟩
abbrev S2048x1024 : Shape := ⟨2, ![2048, 1024]⟩
abbrev S1024x2048 : Shape := ⟨2, ![1024, 2048]⟩

abbrev nBuf : Space → Nat
  | .hbm => 9
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x1024, .f32⟩
  | .hbm, ⟨2, _⟩ => ⟨S_, .f32⟩
  | .hbm, ⟨3, _⟩ => ⟨S2048x1024, .f32⟩
  | .hbm, ⟨4, _⟩ => ⟨S4096x2048, .f32⟩
  | .hbm, ⟨5, _⟩ => ⟨S4096x1024, .f32⟩
  | .hbm, ⟨6, _⟩ => ⟨S1024x2048, .f32⟩
  | .hbm, ⟨7, _⟩ => ⟨S2048x1024, .f32⟩
  | .hbm, ⟨8, _⟩ => ⟨S2048x1024, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Ff1.lean ====
abbrev S4096x1024 : Shape := ⟨2, ![4096, 1024]⟩
abbrev S4096x4096 : Shape := ⟨2, ![4096, 4096]⟩
abbrev S2048x1024 : Shape := ⟨2, ![2048, 1024]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x4096, .bf16⟩
  | .hbm, ⟨3, _⟩ => ⟨S4096x4096, .bf16⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S1024x1024, .bf16⟩
  | .local _ .vmem, ⟨4, _⟩ => ⟨S2048x1024, .bf16⟩
  | .local _ .vmem, ⟨5, _⟩ => ⟨S2048x1024, .bf16⟩
  | .local _ .vmem, ⟨6, _⟩ => ⟨S2048x1024, .bf16⟩
  | .local _ .vmem, ⟨7, _⟩ => ⟨S2048x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== RefFf1Ideal.lean ====
abbrev S4096x1024 : Shape := ⟨2, ![4096, 1024]⟩
abbrev S1024x4096 : Shape := ⟨2, ![1024, 4096]⟩
abbrev S4096x4096 : Shape := ⟨2, ![4096, 4096]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x1024, .f32⟩
  | .hbm, ⟨3, _⟩ => ⟨S4096x1024, .f32⟩
  | .hbm, ⟨4, _⟩ => ⟨S1024x4096, .f32⟩
  | .hbm, ⟨5, _⟩ => ⟨S4096x4096, .f32⟩
  | .hbm, ⟨6, _⟩ => ⟨S4096x4096, .bf16⟩
  | .hbm, ⟨7, _⟩ => ⟨S_, .f32⟩
  | .hbm, ⟨8, _⟩ => ⟨S4096x4096, .f32⟩
  | .hbm, ⟨9, _⟩ => ⟨S4096x4096, .f32⟩
  | .hbm, ⟨10, _⟩ => ⟨S4096x4096, .f32⟩
  | .hbm, ⟨11, _⟩ => ⟨S4096x4096, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_call0_cst : Ref sig .tc := ⟨.hbm, 7, rfl⟩
abbrev main_call0_v0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Ff2l.lean ====
abbrev S4096x4096 : Shape := ⟨2, ![4096, 4096]⟩
abbrev S4096x1024 : Shape := ⟨2, ![4096, 1024]⟩
abbrev S512x4096 : Shape := ⟨2, ![512, 4096]⟩
abbrev S512x1024 : Shape := ⟨2, ![512, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S4096x1024, .f32⟩
  | .hbm, ⟨3, _⟩ => ⟨S4096x1024, .f32⟩
  | .local _ .vmem, ⟨0, _⟩ => ⟨S512x4096, .bf16⟩
  | .local _ .vmem, ⟨1, _⟩ => ⟨S512x4096, .bf16⟩
  | .local _ .vmem, ⟨2, _⟩ => ⟨S4096x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== RefFf2lIdeal.lean ====
abbrev S4096x4096 : Shape := ⟨2, ![4096, 4096]⟩
abbrev S4096x1024 : Shape := ⟨2, ![4096, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S4096x1024, .f32⟩
  | .hbm, ⟨3, _⟩ => ⟨S4096x4096, .f32⟩
  | .hbm, ⟨4, _⟩ => ⟨S4096x1024, .f32⟩
  | .hbm, ⟨5, _⟩ => ⟨S4096x1024, .f32⟩
  | .hbm, ⟨6, _⟩ => ⟨S4096x1024, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Out.lean ====
abbrev S4096x2048 : Shape := ⟨2, ![4096, 2048]⟩
abbrev S2048x1024 : Shape := ⟨2, ![2048, 1024]⟩
abbrev S4096x1024 : Shape := ⟨2, ![4096, 1024]⟩
abbrev S1024 : Shape := ⟨1, ![1024]⟩
abbrev S1x1024 : Shape := ⟨2, ![1, 1024]⟩
abbrev S1024x2048 : Shape := ⟨2, ![1024, 2048]⟩
abbrev S1024x1024 : Shape := ⟨2, ![1024, 1024]⟩
abbrev S1024x1 : Shape := ⟨2, ![1024, 1]⟩

abbrev nBuf : Space → Nat
  | .hbm => 7
  | .vmem => 10
  | .smem => 0
  | _ => 0

abbrev bufTy : (tb : Table) → Fin (tcTables nBuf tb) → BufTy
  | .hbm, ⟨0, _⟩ => ⟨S4096x2048, .bf16⟩
  | .hbm, ⟨1, _⟩ => ⟨S2048x1024, .bf16⟩
  | .hbm, ⟨2, _⟩ => ⟨S4096x1024, .f32⟩
  | .hbm, ⟨3, _⟩ => ⟨S1024, .f32⟩
  | .hbm, ⟨4, _⟩ => ⟨S1x1024, .f32⟩
  | .hbm, ⟨5, _⟩ => ⟨S4096x1024, .f32⟩
  | .hbm, ⟨6, _⟩ => ⟨S4096x1024, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .bf16⟩
  | .local _ .vmem, ⟨9, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== RefOutIdeal.lean ====
abbrev S4096x2048 : Shape := ⟨2, ![4096, 2048]⟩
abbrev S2048x1024 : Shape := ⟨2, ![2048, 1024]⟩
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 25
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x1024, .bf16⟩
  | .hbm, ⟨2, _⟩ => ⟨S4096x1024, .f32⟩
  | .hbm, ⟨3, _⟩ => ⟨S1024, .f32⟩
  | .hbm, ⟨4, _⟩ => ⟨S4096x2048, .f32⟩
  | .hbm, ⟨5, _⟩ => ⟨S2048x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S1x1024, .f32⟩
  | .hbm, ⟨22, _⟩ => ⟨S4096x1024, .f32⟩
  | .hbm, ⟨23, _⟩ => ⟨S4096x1024, .f32⟩
  | .hbm, ⟨24, _⟩ => ⟨S4096x1024, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== Ff2.lean ====
abbrev S4096x4096 : Shape := ⟨2, ![4096, 4096]⟩
abbrev S4096x1024 : Shape := ⟨2, ![4096, 1024]⟩
abbrev S1024 : Shape := ⟨1, ![1024]⟩
abbrev S1x1024 : Shape := ⟨2, ![1, 1024]⟩
abbrev S8x128 : Shape := ⟨2, ![8, 128]⟩
abbrev S512x4096 : Shape := ⟨2, ![512, 4096]⟩
abbrev S512x1024 : Shape := ⟨2, ![512, 1024]⟩
abbrev S512 : Shape := ⟨1, ![512]⟩
abbrev S512x1 : Shape := ⟨2, ![512, 1]⟩

abbrev nBuf : Space → Nat
  | .hbm => 8
  | .vmem => 11
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S4096x1024, .f32⟩
  | .hbm, ⟨3, _⟩ => ⟨S1024, .f32⟩
  | .hbm, ⟨4, _⟩ => ⟨S1x1024, .f32⟩
  | .hbm, ⟨5, _⟩ => ⟨S4096x1024, .f32⟩
  | .hbm, ⟨6, _⟩ => ⟨S4096x1024, .bf16⟩
  | .hbm, ⟨7, _⟩ => ⟨S8x128, .f32⟩
  | .local _ .vmem, ⟨0, _⟩ => ⟨S512x4096, .bf16⟩
  | .local _ .vmem, ⟨1, _⟩ => ⟨S512x4096, .bf16⟩
  | .local _ .vmem, ⟨2, _⟩ => ⟨S4096x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | .local _ .vmem, ⟨10, _⟩ => ⟨S8x128, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 1 → Memref sig .tc .vmem S8x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]
-- ==== RefFf2Ideal.lean ====
abbrev S4096x4096 : Shape := ⟨2, ![4096, 4096]⟩
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S8x128 : Shape := ⟨2, ![8, 128]⟩

abbrev nBuf : Space → Nat
  | .hbm => 27
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S4096x1024, .f32⟩
  | .hbm, ⟨3, _⟩ => ⟨S1024, .f32⟩
  | .hbm, ⟨4, _⟩ => ⟨S4096x4096, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S1x1024, .f32⟩
  | .hbm, ⟨22, _⟩ => ⟨S4096x1024, .f32⟩
  | .hbm, ⟨23, _⟩ => ⟨S4096x1024, .f32⟩
  | .hbm, ⟨24, _⟩ => ⟨S4096x1024, .bf16⟩
  | .hbm, ⟨25, _⟩ => ⟨S_, .f32⟩
  | .hbm, ⟨26, _⟩ => ⟨S8x128, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩

abbrev nD : Nat := 1
abbrev τ : Topo := Topo.v7x

variable {F : FTy → Type} [FloatOps F]
-- ==== Dh2.lean ====
abbrev S4096x4096 : Shape := ⟨2, ![4096, 4096]⟩
abbrev S4096x1024 : Shape := ⟨2, ![4096, 1024]⟩
abbrev S1024 : Shape := ⟨1, ![1024]⟩
abbrev S8x128 : Shape := ⟨2, ![8, 128]⟩
abbrev S1x1024 : Shape := ⟨2, ![1, 1024]⟩
abbrev S8x1024 : Shape := ⟨2, ![8, 1024]⟩
abbrev S512x4096 : Shape := ⟨2, ![512, 4096]⟩
abbrev S512x1024 : Shape := ⟨2, ![512, 1024]⟩
abbrev S512 : Shape := ⟨1, ![512]⟩
abbrev S512x1 : Shape := ⟨2, ![512, 1]⟩

abbrev nBuf : Space → Nat
  | .hbm => 9
  | .vmem => 12
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S4096x1024, .f32⟩
  | .hbm, ⟨3, _⟩ => ⟨S4096x1024, .f32⟩
  | .hbm, ⟨4, _⟩ => ⟨S1024, .f32⟩
  | .hbm, ⟨5, _⟩ => ⟨S8x128, .f32⟩
  | .hbm, ⟨6, _⟩ => ⟨S1x1024, .f32⟩
  | .hbm, ⟨7, _⟩ => ⟨S4096x1024, .f32⟩
  | .hbm, ⟨8, _⟩ => ⟨S8x1024, .f32⟩
  | .local _ .vmem, ⟨0, _⟩ => ⟨S512x4096, .bf16⟩
  | .local _ .vmem, ⟨1, _⟩ => ⟨S512x4096, .bf16⟩
  | .local _ .vmem, ⟨2, _⟩ => ⟨S4096x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S8x128, .f32⟩
  | .local _ .vmem, ⟨9, _⟩ => ⟨S512x1024, .f32⟩
  | .local _ .vmem, ⟨10, _⟩ => ⟨S512x1024, .f32⟩
  | .local _ .vmem, ⟨11, _⟩ => ⟨S8x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true, false]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 1 → Memref sig .tc .vmem S8x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, true, false]
-- ==== RefDh2Ideal.lean ====
abbrev S4096x4096 : Shape := ⟨2, ![4096, 4096]⟩
abbrev S4096x1024 : Shape := ⟨2, ![4096, 1024]⟩
abbrev S1024 : Shape := ⟨1, ![1024]⟩
abbrev S8x128 : Shape := ⟨2, ![8, 128]⟩
abbrev S1024x4096 : Shape := ⟨2, ![1024, 4096]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S8x1024 : Shape := ⟨2, ![8, 1024]⟩

abbrev nBuf : Space → Nat
  | .hbm => 61
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S4096x1024, .f32⟩
  | .hbm, ⟨3, _⟩ => ⟨S4096x1024, .f32⟩
  | .hbm, ⟨4, _⟩ => ⟨S1024, .f32⟩
  | .hbm, ⟨5, _⟩ => ⟨S8x128, .f32⟩
  | .hbm, ⟨6, _⟩ => ⟨S4096x1024, .f32⟩
  | .hbm, ⟨7, _⟩ => ⟨S1024x4096, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x1024, .f32⟩
  | .hbm, ⟨24, _⟩ => ⟨S4096x1024, .f32⟩
  | .hbm, ⟨25, _⟩ => ⟨S1x1024, .f32⟩
  | .hbm, ⟨26, _⟩ => ⟨S4096x1024, .f32⟩
  | .hbm, ⟨27, _⟩ => ⟨S4096x1024, .f32⟩
  | .hbm, ⟨28, _⟩ => ⟨S4096x4096, .f32⟩
  | .hbm, ⟨29, _⟩ => ⟨S4096x4096, .f32⟩
  | .hbm, ⟨30, _⟩ => ⟨S4096x1024, .f32⟩
  | .hbm, ⟨31, _⟩ => ⟨S4096x1024, .f32⟩
  | .hbm, ⟨32, _⟩ => ⟨S_, .f32⟩
  | .hbm, ⟨33, _⟩ => ⟨S1024, .f32⟩
  | .hbm, ⟨34, _⟩ => ⟨S1x1024, .f32⟩
  | .hbm, ⟨35, _⟩ => ⟨S4096x1024, .f32⟩
  | .hbm, ⟨36, _⟩ => ⟨S4096x1024, .f32⟩
  | .hbm, ⟨37, _⟩ => ⟨S_, .f32⟩
  | .hbm, ⟨38, _⟩ => ⟨S1024, .f32⟩
  | .hbm, ⟨39, _⟩ => ⟨S4096x1024, .f32⟩
  | .hbm, ⟨40, _⟩ => ⟨S_, .f32⟩
  | .hbm, ⟨41, _⟩ => ⟨S4096, .f32⟩
  | .hbm, ⟨42, _⟩ => ⟨S4096x1, .f32⟩
  | .hbm, ⟨43, _⟩ => ⟨S4096x1024, .f32⟩
  | .hbm, ⟨44, _⟩ => ⟨S4096x1024, .f32⟩
  | .hbm, ⟨45, _⟩ => ⟨S4096x1, .f32⟩
  | .hbm, ⟨46, _⟩ => ⟨S_, .f32⟩
  | .hbm, ⟨47, _⟩ => ⟨S4096x1, .f32⟩
  | .hbm, ⟨48, _⟩ => ⟨S4096x1, .f32⟩
  | .hbm, ⟨49, _⟩ => ⟨S_, .f32⟩
  | .hbm, ⟨50, _⟩ => ⟨S4096, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S1x1024, .f32⟩
  | .hbm, ⟨58, _⟩ => ⟨S_, .i32⟩
  | .hbm, ⟨59, _⟩ => ⟨S_, .f32⟩
  | .hbm, ⟨60, _⟩ => ⟨S8x1024, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_3 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_4 : Ref sig .tc := ⟨.hbm, 37, rfl⟩
abbrev main_v26 : Ref sig .tc := ⟨.hbm, 38, rfl⟩
abbrev main_v27 : Ref sig .tc := ⟨.hbm, 39, rfl⟩
abbrev main_cst_5 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_6 : Ref sig .tc := ⟨.hbm, 46, rfl⟩
abbrev main_v33 : Ref sig .tc := ⟨.hbm, 47, rfl⟩
abbrev main_v34 : Ref sig .tc := ⟨.hbm, 48, rfl⟩
abbrev main_cst_7 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_c : Ref sig .tc := ⟨.hbm, 58, rfl⟩
abbrev main_call0_v0 : Ref sig .tc := ⟨.hbm, 59, rfl⟩
abbrev main_v43 : Ref sig .tc := ⟨.hbm, 60, rfl⟩

abbrev nD : Nat := 1
abbrev τ : Topo := Topo.v7x

variable {F : FTy → Type} [FloatOps F]
-- ==== Pdt.lean ====
abbrev S4096x1024 : Shape := ⟨2, ![4096, 1024]⟩
abbrev S4624x1024 : Shape := ⟨2, ![4624, 1024]⟩
abbrev S16x1024 : Shape := ⟨2, ![16, 1024]⟩
abbrev S_ : Shape := ⟨0, ![]⟩
abbrev S128x1024 : Shape := ⟨2, ![128, 1024]⟩
abbrev S4096x128 : Shape := ⟨2, ![4096, 128]⟩
abbrev S2048x1024 : Shape := ⟨2, ![2048, 1024]⟩
abbrev S2048x128 : Shape := ⟨2, ![2048, 128]⟩

abbrev nBuf : Space → Nat
  | .hbm => 7
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S4624x1024, .bf16⟩
  | .hbm, ⟨2, _⟩ => ⟨S16x1024, .bf16⟩
  | .hbm, ⟨3, _⟩ => ⟨S_, .i32⟩
  | .hbm, ⟨4, _⟩ => ⟨S_, .bf16⟩
  | .hbm, ⟨5, _⟩ => ⟨S128x1024, .bf16⟩
  | .hbm, ⟨6, _⟩ => ⟨S4096x128, .f32⟩
  | .local _ .vmem, ⟨0, _⟩ => ⟨S2048x1024, .bf16⟩
  | .local _ .vmem, ⟨1, _⟩ => ⟨S2048x1024, .bf16⟩
  | .local _ .vmem, ⟨2, _⟩ => ⟨S128x1024, .bf16⟩
  | .local _ .vmem, ⟨3, _⟩ => ⟨S2048x128, .f32⟩
  | .local _ .vmem, ⟨4, _⟩ => ⟨S2048x128, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S128x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefPdtIdeal.lean ====
abbrev S4096x1024 : Shape := ⟨2, ![4096, 1024]⟩
abbrev S4624x1024 : Shape := ⟨2, ![4624, 1024]⟩
abbrev S16x1024 : Shape := ⟨2, ![16, 1024]⟩
abbrev S1024x16 : Shape := ⟨2, ![1024, 16]⟩
abbrev S4096x16 : Shape := ⟨2, ![4096, 16]⟩
abbrev S_ : Shape := ⟨0, ![]⟩
abbrev S4096x128 : Shape := ⟨2, ![4096, 128]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4624x1024, .bf16⟩
  | .hbm, ⟨2, _⟩ => ⟨S4096x1024, .f32⟩
  | .hbm, ⟨3, _⟩ => ⟨S16x1024, .bf16⟩
  | .hbm, ⟨4, _⟩ => ⟨S16x1024, .f32⟩
  | .hbm, ⟨5, _⟩ => ⟨S1024x16, .f32⟩
  | .hbm, ⟨6, _⟩ => ⟨S4096x16, .f32⟩
  | .hbm, ⟨7, _⟩ => ⟨S_, .i32⟩
  | .hbm, ⟨8, _⟩ => ⟨S_, .f32⟩
  | .hbm, ⟨9, _⟩ => ⟨S4096x128, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_c : Ref sig .tc := ⟨.hbm, 7, rfl⟩
abbrev main_call0_v0 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Gwdt.lean ====
abbrev S4096x128 : Shape := ⟨2, ![4096, 128]⟩
abbrev S4096x1024 : Shape := ⟨2, ![4096, 1024]⟩
abbrev S128x1024 : Shape := ⟨2, ![128, 1024]⟩

abbrev nBuf : Space → Nat
  | .hbm => 3
  | .vmem => 3
  | .smem => 0
  | _ => 0

abbrev bufTy : (tb : Table) → Fin (tcTables nBuf tb) → BufTy
  | .hbm, ⟨0, _⟩ => ⟨S4096x128, .bf16⟩
  | .hbm, ⟨1, _⟩ => ⟨S4096x1024, .bf16⟩
  | .hbm, ⟨2, _⟩ => ⟨S128x1024, .bf16⟩
  | .local _ .vmem, ⟨0, _⟩ => ⟨S4096x128, .bf16⟩
  | .local _ .vmem, ⟨1, _⟩ => ⟨S4096x1024, .bf16⟩
  | .local _ .vmem, ⟨2, _⟩ => ⟨S128x1024, .bf16⟩
  | _, _ => ⟨S4096x128, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S4096x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S128x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== RefGwdtIdeal.lean ====
abbrev S4096x128 : Shape := ⟨2, ![4096, 128]⟩
abbrev S4096x1024 : Shape := ⟨2, ![4096, 1024]⟩
abbrev S_ : Shape := ⟨0, ![]⟩
abbrev S1024x128 : Shape := ⟨2, ![1024, 128]⟩
abbrev S128x1024 : Shape := ⟨2, ![128, 1024]⟩

abbrev nBuf : Space → Nat
  | .hbm => 11
  | .vmem => 0
  | .smem => 0
  | _ => 0

abbrev bufTy : (tb : Table) → Fin (tcTables nBuf tb) → BufTy
  | .hbm, ⟨0, _⟩ => ⟨S4096x128, .bf16⟩
  | .hbm, ⟨1, _⟩ => ⟨S4096x1024, .bf16⟩
  | .hbm, ⟨2, _⟩ => ⟨S_, .f32⟩
  | .hbm, ⟨3, _⟩ => ⟨S1024x128, .f32⟩
  | .hbm, ⟨4, _⟩ => ⟨S4096x1024, .f32⟩
  | .hbm, ⟨5, _⟩ => ⟨S4096x128, .f32⟩
  | .hbm, ⟨6, _⟩ => ⟨S4096x128, .f32⟩
  | .hbm, ⟨7, _⟩ => ⟨S128x1024, .f32⟩
  | .hbm, ⟨8, _⟩ => ⟨S1024x128, .f32⟩
  | .hbm, ⟨9, _⟩ => ⟨S128x1024, .f32⟩
  | .hbm, ⟨10, _⟩ => ⟨S128x1024, .bf16⟩
  | _, _ => ⟨S4096x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Dh1dt.lean ====
abbrev S4096x128 : Shape := ⟨2, ![4096, 128]⟩
abbrev S4624x1024 : Shape := ⟨2, ![4624, 1024]⟩
abbrev S4096x1024 : Shape := ⟨2, ![4096, 1024]⟩
abbrev S1024 : Shape := ⟨1, ![1024]⟩
abbrev S8x128 : Shape := ⟨2, ![8, 128]⟩
abbrev S16x1024 : Shape := ⟨2, ![16, 1024]⟩
abbrev S_ : Shape := ⟨0, ![]⟩
abbrev S128x1024 : Shape := ⟨2, ![128, 1024]⟩
abbrev S1x1024 : Shape := ⟨2, ![1, 1024]⟩
abbrev S8x1024 : Shape := ⟨2, ![8, 1024]⟩
abbrev S1024x128 : Shape := ⟨2, ![1024, 128]⟩
abbrev S1024x1024 : Shape := ⟨2, ![1024, 1024]⟩
abbrev S1024x1 : Shape := ⟨2, ![1024, 1]⟩

abbrev nBuf : Space → Nat
  | .hbm => 14
  | .vmem => 14
  | .smem => 0
  | _ => 0

abbrev bufTy : (tb : Table) → Fin (tcTables nBuf tb) → BufTy
  | .hbm, ⟨0, _⟩ => ⟨S4096x128, .bf16⟩
  | .hbm, ⟨1, _⟩ => ⟨S4624x1024, .bf16⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S1024, .f32⟩
  | .hbm, ⟨6, _⟩ => ⟨S8x128, .f32⟩
  | .hbm, ⟨7, _⟩ => ⟨S16x1024, .bf16⟩
  | .hbm, ⟨8, _⟩ => ⟨S_, .i32⟩
  | .hbm, ⟨9, _⟩ => ⟨S_, .bf16⟩
  | .hbm, ⟨10, _⟩ => ⟨S128x1024, .bf16⟩
  | .hbm, ⟨11, _⟩ => ⟨S1x1024, .f32⟩
  | .hbm, ⟨12, _⟩ => ⟨S4096x1024, .f32⟩
  | .hbm, ⟨13, _⟩ => ⟨S8x1024, .f32⟩
  | .local _ .vmem, ⟨0, _⟩ => ⟨S1024x128, .bf16⟩
  | .local _ .vmem, ⟨1, _⟩ => ⟨S1024x128, .bf16⟩
  | .local _ .vmem, ⟨2, _⟩ => ⟨S128x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S1x1024, .f32⟩
  | .local _ .vmem, ⟨10, _⟩ => ⟨S8x128, .f32⟩
  | .local _ .vmem, ⟨11, _⟩ => ⟨S1024x1024, .f32⟩
  | .local _ .vmem, ⟨12, _⟩ => ⟨S1024x1024, .f32⟩
  | .local _ .vmem, ⟨13, _⟩ => ⟨S8x1024, .f32⟩
  | _, _ => ⟨S4096x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_call0_v0 : Ref sig .tc := ⟨.hbm, 9, rfl⟩
abbrev main_v1 : Ref sig .tc := ⟨.hbm, 10, rfl⟩
abbrev main_v2 : Ref sig .tc := ⟨.hbm, 11, rfl⟩
abbrev main_v3_0 : Ref sig .tc := ⟨.hbm, 12, rfl⟩
abbrev main_v3_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S128x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, true, false]

abbrev stage0_6 : Fin 1 → Memref sig .tc .vmem S8x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 1 → Memref sig .tc .vmem S8x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, true, false]
-- ==== RefDh1dtIdeal.lean ====
abbrev S4096x128 : Shape := ⟨2, ![4096, 128]⟩
abbrev S4624x1024 : Shape := ⟨2, ![4624, 1024]⟩
abbrev S4096x1024 : Shape := ⟨2, ![4096, 1024]⟩
abbrev S1024 : Shape := ⟨1, ![1024]⟩
abbrev S8x128 : Shape := ⟨2, ![8, 128]⟩
abbrev S16x1024 : Shape := ⟨2, ![16, 1024]⟩
abbrev S1024x16 : Shape := ⟨2, ![1024, 16]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x16 : Shape := ⟨2, ![4096, 16]⟩
abbrev S8x1024 : Shape := ⟨2, ![8, 1024]⟩

abbrev nBuf : Space → Nat
  | .hbm => 65
  | .vmem => 0
  | .smem => 0
  | _ => 0

abbrev bufTy : (tb : Table) → Fin (tcTables nBuf tb) → BufTy
  | .hbm, ⟨0, _⟩ => ⟨S4096x128, .bf16⟩
  | .hbm, ⟨1, _⟩ => ⟨S4624x1024, .bf16⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S1024, .f32⟩
  | .hbm, ⟨6, _⟩ => ⟨S8x128, .f32⟩
  | .hbm, ⟨7, _⟩ => ⟨S16x1024, .bf16⟩
  | .hbm, ⟨8, _⟩ => ⟨S16x1024, .f32⟩
  | .hbm, ⟨9, _⟩ => ⟨S1024x16, .f32⟩
  | .hbm, ⟨10, _⟩ => ⟨S4096x1024, .f32⟩
  | .hbm, ⟨11, _⟩ => ⟨S_, .f32⟩
  | .hbm, ⟨12, _⟩ => ⟨S4096, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S4096x1, .f32⟩
  | .hbm, ⟨22, _⟩ => ⟨S_, .f32⟩
  | .hbm, ⟨23, _⟩ => ⟨S4096x1, .f32⟩
  | .hbm, ⟨24, _⟩ => ⟨S4096x1, .f32⟩
  | .hbm, ⟨25, _⟩ => ⟨S4096x1024, .f32⟩
  | .hbm, ⟨26, _⟩ => ⟨S4096x1024, .f32⟩
  | .hbm, ⟨27, _⟩ => ⟨S1x1024, .f32⟩
  | .hbm, ⟨28, _⟩ => ⟨S4096x1024, .f32⟩
  | .hbm, ⟨29, _⟩ => ⟨S4096x1024, .f32⟩
  | .hbm, ⟨30, _⟩ => ⟨S4096x16, .f32⟩
  | .hbm, ⟨31, _⟩ => ⟨S4096x16, .bf16⟩
  | .hbm, ⟨32, _⟩ => ⟨S4096x16, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S_, .f32⟩
  | .hbm, ⟨37, _⟩ => ⟨S1024, .f32⟩
  | .hbm, ⟨38, _⟩ => ⟨S1x1024, .f32⟩
  | .hbm, ⟨39, _⟩ => ⟨S4096x1024, .f32⟩
  | .hbm, ⟨40, _⟩ => ⟨S4096x1024, .f32⟩
  | .hbm, ⟨41, _⟩ => ⟨S_, .f32⟩
  | .hbm, ⟨42, _⟩ => ⟨S1024, .f32⟩
  | .hbm, ⟨43, _⟩ => ⟨S4096x1024, .f32⟩
  | .hbm, ⟨44, _⟩ => ⟨S_, .f32⟩
  | .hbm, ⟨45, _⟩ => ⟨S4096, .f32⟩
  | .hbm, ⟨46, _⟩ => ⟨S4096x1, .f32⟩
  | .hbm, ⟨47, _⟩ => ⟨S4096x1024, .f32⟩
  | .hbm, ⟨48, _⟩ => ⟨S4096x1024, .f32⟩
  | .hbm, ⟨49, _⟩ => ⟨S4096x1, .f32⟩
  | .hbm, ⟨50, _⟩ => ⟨S_, .f32⟩
  | .hbm, ⟨51, _⟩ => ⟨S4096x1, .f32⟩
  | .hbm, ⟨52, _⟩ => ⟨S4096x1, .f32⟩
  | .hbm, ⟨53, _⟩ => ⟨S_, .f32⟩
  | .hbm, ⟨54, _⟩ => ⟨S4096, .f32⟩
  | .hbm, ⟨55, _⟩ => ⟨S4096x1024, .f32⟩
  | .hbm, ⟨56, _⟩ => ⟨S4096x1024, .f32⟩
  | .hbm, ⟨57, _⟩ => ⟨S4096x1024, .f32⟩
  | .hbm, ⟨58, _⟩ => ⟨S4096x1024, .f32⟩
  | .hbm, ⟨59, _⟩ => ⟨S4096x1024, .f32⟩
  | .hbm, ⟨60, _⟩ => ⟨S4096x1024, .f32⟩
  | .hbm, ⟨61, _⟩ => ⟨S1x1024, .f32⟩
  | .hbm, ⟨62, _⟩ => ⟨S_, .i32⟩
  | .hbm, ⟨63, _⟩ => ⟨S_, .f32⟩
  | .hbm, ⟨64, _⟩ => ⟨S8x1024, .f32⟩
  | _, _ => ⟨S4096x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_3 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_4 : Ref sig .tc := ⟨.hbm, 41, rfl⟩
abbrev main_v29 : Ref sig .tc := ⟨.hbm, 42, rfl⟩
abbrev main_v30 : Ref sig .tc := ⟨.hbm, 43, rfl⟩
abbrev main_cst_5 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_6 : Ref sig .tc := ⟨.hbm, 50, rfl⟩
abbrev main_v36 : Ref sig .tc := ⟨.hbm, 51, rfl⟩
abbrev main_v37 : Ref sig .tc := ⟨.hbm, 52, rfl⟩
abbrev main_cst_7 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_c : Ref sig .tc := ⟨.hbm, 62, rfl⟩
abbrev main_call0_v0 : Ref sig .tc := ⟨.hbm, 63, rfl⟩
abbrev main_v46 : Ref sig .tc := ⟨.hbm, 64, rfl⟩

abbrev nD : Nat := 1
abbrev τ : Topo := Topo.v7x

variable {F : FTy → Type} [FloatOps F]
-- ==== AdamSmall.lean ====
abbrev S4x1024 : Shape := ⟨2, ![4, 1024]⟩
abbrev S4x512 : Shape := ⟨2, ![4, 512]⟩
abbrev S4x8x128x128 : Shape := ⟨4, ![4, 8, 128, 128]⟩
abbrev S4x8x128 : Shape := ⟨3, ![4, 8, 128]⟩
abbrev S4x1536 : Shape := ⟨2, ![4, 1536]⟩
abbrev S4x16 : Shape := ⟨2, ![4, 16]⟩
abbrev S4x131072 : Shape := ⟨2, ![4, 131072]⟩
abbrev S_ : Shape := ⟨0, ![]⟩
abbrev S4x128 : Shape := ⟨2, ![4, 128]⟩
abbrev S4x139648 : Shape := ⟨2, ![4, 139648]⟩
abbrev S4364x128 : Shape := ⟨2, ![4364, 128]⟩
abbrev S4608x128 : Shape := ⟨2, ![4608, 128]⟩
abbrev S1x4608x128 : Shape := ⟨3, ![1, 4608, 128]⟩
abbrev S1x256x128 : Shape := ⟨3, ![1, 256, 128]⟩
abbrev S256x128 : Shape := ⟨2, ![256, 128]⟩

abbrev nBuf : Space → Nat
  | .hbm => 125
  | .vmem => 16
  | .smem => 0
  | _ => 0

abbrev bufTy : (tb : Table) → Fin (tcTables nBuf tb) → BufTy
  | .hbm, ⟨0, _⟩ => ⟨S4x1024, .f32⟩
  | .hbm, ⟨1, _⟩ => ⟨S4x512, .f32⟩
  | .hbm, ⟨2, _⟩ => ⟨S4x512, .f32⟩
  | .hbm, ⟨3, _⟩ => ⟨S4x512, .f32⟩
  | .hbm, ⟨4, _⟩ => ⟨S4x512, .f32⟩
  | .hbm, ⟨5, _⟩ => ⟨S4x512, .f32⟩
  | .hbm, ⟨6, _⟩ => ⟨S4x8x128x128, .f32⟩
  | .hbm, ⟨7, _⟩ => ⟨S4x8x128, .f32⟩
  | .hbm, ⟨8, _⟩ => ⟨S4x1536, .f32⟩
  | .hbm, ⟨9, _⟩ => ⟨S4x16, .f32⟩
  | .hbm, ⟨10, _⟩ => ⟨S4x16, .f32⟩
  | .hbm, ⟨11, _⟩ => ⟨S4x16, .f32⟩
  | .hbm, ⟨12, _⟩ => ⟨S4x1024, .f32⟩
  | .hbm, ⟨13, _⟩ => ⟨S4x1024, .f32⟩
  | .hbm, ⟨14, _⟩ => ⟨S4x1024, .f32⟩
  | .hbm, ⟨15, _⟩ => ⟨S4x512, .f32⟩
  | .hbm, ⟨16, _⟩ => ⟨S4x512, .f32⟩
  | .hbm, ⟨17, _⟩ => ⟨S4x512, .f32⟩
  | .hbm, ⟨18, _⟩ => ⟨S4x512, .f32⟩
  | .hbm, ⟨19, _⟩ => ⟨S4x512, .f32⟩
  | .hbm, ⟨20, _⟩ => ⟨S4x8x128x128, .f32⟩
  | .hbm, ⟨21, _⟩ => ⟨S4x8x128, .f32⟩
  | .hbm, ⟨22, _⟩ => ⟨S4x1536, .f32⟩
  | .hbm, ⟨23, _⟩ => ⟨S4x16, .f32⟩
  | .hbm, ⟨24, _⟩ => ⟨S4x16, .f32⟩
  | .hbm, ⟨25, _⟩ => ⟨S4x16, .f32⟩
  | .hbm, ⟨26, _⟩ => ⟨S4x1024, .f32⟩
  | .hbm, ⟨27, _⟩ => ⟨S4x1024, .f32⟩
  | .hbm, ⟨28, _⟩ => ⟨S4x1024, .f32⟩
  | .hbm, ⟨29, _⟩ => ⟨S4x512, .f32⟩
  | .hbm, ⟨30, _⟩ => ⟨S4x512, .f32⟩
  | .hbm, ⟨31, _⟩ => ⟨S4x512, .f32⟩
  | .hbm, ⟨32, _⟩ => ⟨S4x512, .f32⟩
  | .hbm, ⟨33, _⟩ => ⟨S4x512, .f32⟩
  | .hbm, ⟨34, _⟩ => ⟨S4x8x128x128, .f32⟩
  | .hbm, ⟨35, _⟩ => ⟨S4x8x128, .f32⟩
  | .hbm, ⟨36, _⟩ => ⟨S4x1536, .f32⟩
  | .hbm, ⟨37, _⟩ => ⟨S4x16, .f32⟩
  | .hbm, ⟨38, _⟩ => ⟨S4x16, .f32⟩
  | .hbm, ⟨39, _⟩ => ⟨S4x16, .f32⟩
  | .hbm, ⟨40, _⟩ => ⟨S4x1024, .f32⟩
  | .hbm, ⟨41, _⟩ => ⟨S4x1024, .f32⟩
  | .hbm, ⟨42, _⟩ => ⟨S4x1024, .f32⟩
  | .hbm, ⟨43, _⟩ => ⟨S4x512, .f32⟩
  | .hbm, ⟨44, _⟩ => ⟨S4x512, .f32⟩
  | .hbm, ⟨45, _⟩ => ⟨S4x512, .f32⟩
  | .hbm, ⟨46, _⟩ => ⟨S4x512, .f32⟩
  | .hbm, ⟨47, _⟩ => ⟨S4x512, .f32⟩
  | .hbm, ⟨48, _⟩ => ⟨S4x8x128x128, .f32⟩
  | .hbm, ⟨49, _⟩ => ⟨S4x8x128, .f32⟩
  | .hbm, ⟨50, _⟩ => ⟨S4x1536, .f32⟩
  | .hbm, ⟨51, _⟩ => ⟨S4x16, .f32⟩
  | .hbm, ⟨52, _⟩ => ⟨S4x16, .f32⟩
  | .hbm, ⟨53, _⟩ => ⟨S4x16, .f32⟩
  | .hbm, ⟨54, _⟩ => ⟨S4x1024, .f32⟩
  | .hbm, ⟨55, _⟩ => ⟨S4x1024, .f32⟩
  | .hbm, ⟨56, _⟩ => ⟨S4x131072, .f32⟩
  | .hbm, ⟨57, _⟩ => ⟨S4x1024, .f32⟩
  | .hbm, ⟨58, _⟩ => ⟨S_, .i32⟩
  | .hbm, ⟨59, _⟩ => ⟨S_, .f32⟩
  | .hbm, ⟨60, _⟩ => ⟨S4x128, .f32⟩
  | .hbm, ⟨61, _⟩ => ⟨S_, .i32⟩
  | .hbm, ⟨62, _⟩ => ⟨S_, .f32⟩
  | .hbm, ⟨63, _⟩ => ⟨S4x128, .f32⟩
  | .hbm, ⟨64, _⟩ => ⟨S_, .i32⟩
  | .hbm, ⟨65, _⟩ => ⟨S_, .f32⟩
  | .hbm, ⟨66, _⟩ => ⟨S4x128, .f32⟩
  | .hbm, ⟨67, _⟩ => ⟨S4x139648, .f32⟩
  | .hbm, ⟨68, _⟩ => ⟨S4364x128, .f32⟩
  | .hbm, ⟨69, _⟩ => ⟨S_, .i32⟩
  | .hbm, ⟨70, _⟩ => ⟨S_, .f32⟩
  | .hbm, ⟨71, _⟩ => ⟨S4608x128, .f32⟩
  | .hbm, ⟨72, _⟩ => ⟨S4x131072, .f32⟩
  | .hbm, ⟨73, _⟩ => ⟨S4x1024, .f32⟩
  | .hbm, ⟨74, _⟩ => ⟨S_, .i32⟩
  | .hbm, ⟨75, _⟩ => ⟨S_, .f32⟩
  | .hbm, ⟨76, _⟩ => ⟨S4x128, .f32⟩
  | .hbm, ⟨77, _⟩ => ⟨S_, .i32⟩
  | .hbm, ⟨78, _⟩ => ⟨S_, .f32⟩
  | .hbm, ⟨79, _⟩ => ⟨S4x128, .f32⟩
  | .hbm, ⟨80, _⟩ => ⟨S_, .i32⟩
  | .hbm, ⟨81, _⟩ => ⟨S_, .f32⟩
  | .hbm, ⟨82, _⟩ => ⟨S4x128, .f32⟩
  | .hbm, ⟨83, _⟩ => ⟨S4x139648, .f32⟩
  | .hbm, ⟨84, _⟩ => ⟨S4364x128, .f32⟩
  | .hbm, ⟨85, _⟩ => ⟨S_, .i32⟩
  | .hbm, ⟨86, _⟩ => ⟨S_, .f32⟩
  | .hbm, ⟨87, _⟩ => ⟨S4608x128, .f32⟩
  | .hbm, ⟨88, _⟩ => ⟨S4x131072, .f32⟩
  | .hbm, ⟨89, _⟩ => ⟨S4x1024, .f32⟩
  | .hbm, ⟨90, _⟩ => ⟨S_, .i32⟩
  | .hbm, ⟨91, _⟩ => ⟨S_, .f32⟩
  | .hbm, ⟨92, _⟩ => ⟨S4x128, .f32⟩
  | .hbm, ⟨93, _⟩ => ⟨S_, .i32⟩
  | .hbm, ⟨94, _⟩ => ⟨S_, .f32⟩
  | .hbm, ⟨95, _⟩ => ⟨S4x128, .f32⟩
  | .hbm, ⟨96, _⟩ => ⟨S_, .i32⟩
  | .hbm, ⟨97, _⟩ => ⟨S_, .f32⟩
  | .hbm, ⟨98, _⟩ => ⟨S4x128, .f32⟩
  | .hbm, ⟨99, _⟩ => ⟨S4x139648, .f32⟩
  | .hbm, ⟨100, _⟩ => ⟨S4364x128, .f32⟩
  | .hbm, ⟨101, _⟩ => ⟨S_, .i32⟩
  | .hbm, ⟨102, _⟩ => ⟨S_, .f32⟩
  | .hbm, ⟨103, _⟩ => ⟨S4608x128, .f32⟩
  | .hbm, ⟨104, _⟩ => ⟨S4x131072, .f32⟩
  | .hbm, ⟨105, _⟩ => ⟨S4x1024, .f32⟩
  | .hbm, ⟨106, _⟩ => ⟨S_, .i32⟩
  | .hbm, ⟨107, _⟩ => ⟨S_, .f32⟩
  | .hbm, ⟨108, _⟩ => ⟨S4x128, .f32⟩
  | .hbm, ⟨109, _⟩ => ⟨S_, .i32⟩
  | .hbm, ⟨110, _⟩ => ⟨S_, .f32⟩
  | .hbm, ⟨111, _⟩ => ⟨S4x128, .f32⟩
  | .hbm, ⟨112, _⟩ => ⟨S_, .i32⟩
  | .hbm, ⟨113, _⟩ => ⟨S_, .f32⟩
  | .hbm, ⟨114, _⟩ => ⟨S4x128, .f32⟩
  | .hbm, ⟨115, _⟩ => ⟨S4x139648, .f32⟩
  | .hbm, ⟨116, _⟩ => ⟨S4364x128, .f32⟩
  | .hbm, ⟨117, _⟩ => ⟨S_, .i32⟩
  | .hbm, ⟨118, _⟩ => ⟨S_, .f32⟩
  | .hbm, ⟨119, _⟩ => ⟨S4608x128, .f32⟩
  | .hbm, ⟨120, _⟩ => ⟨S1x4608x128, .f32⟩
  | .hbm, ⟨121, _⟩ => ⟨S4608x128, .f32⟩
  | .hbm, ⟨122, _⟩ => ⟨S4608x128, .f32⟩
  | .hbm, ⟨123, _⟩ => ⟨S4608x128, .f32⟩
  | .hbm, ⟨124, _⟩ => ⟨S4608x128, .f32⟩
  | .local _ .vmem, ⟨0, _⟩ => ⟨S1x256x128, .f32⟩
  | .local _ .vmem, ⟨1, _⟩ => ⟨S1x256x128, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S256x128, .f32⟩
  | .local _ .vmem, ⟨14, _⟩ => ⟨S256x128, .f32⟩
  | .local _ .vmem, ⟨15, _⟩ => ⟨S256x128, .f32⟩
  | _, _ => ⟨S4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_arg39 : Ref sig .tc := ⟨.hbm, 39, rfl⟩
abbrev main_arg40 : Ref sig .tc := ⟨.hbm, 40, rfl⟩
abbrev main_arg41 : Ref sig .tc := ⟨.hbm, 41, rfl⟩
abbrev main_arg42 : Ref sig .tc := ⟨.hbm, 42, rfl⟩
abbrev main_arg43 : Ref sig .tc := ⟨.hbm, 43, rfl⟩
abbrev main_arg44 : Ref sig .tc := ⟨.hbm, 44, rfl⟩
abbrev main_arg45 : Ref sig .tc := ⟨.hbm, 45, rfl⟩
abbrev main_arg46 : Ref sig .tc := ⟨.hbm, 46, rfl⟩
abbrev main_arg47 : Ref sig .tc := ⟨.hbm, 47, rfl⟩
abbrev main_arg48 : Ref sig .tc := ⟨.hbm, 48, rfl⟩
abbrev main_arg49 : Ref sig .tc := ⟨.hbm, 49, rfl⟩
abbrev main_arg50 : Ref sig .tc := ⟨.hbm, 50, rfl⟩
abbrev main_arg51 : Ref sig .tc := ⟨.hbm, 51, rfl⟩
abbrev main_arg52 : Ref sig .tc := ⟨.hbm, 52, rfl⟩
abbrev main_arg53 : Ref sig .tc := ⟨.hbm, 53, rfl⟩
abbrev main_arg54 : Ref sig .tc := ⟨.hbm, 54, rfl⟩
abbrev main_arg55 : Ref sig .tc := ⟨.hbm, 55, rfl⟩
abbrev main_v0 : Ref sig .tc := ⟨.hbm, 56, rfl⟩
abbrev main_v1 : Ref sig .tc := ⟨.hbm, 57, rfl⟩
abbrev main_c : Ref sig .tc := ⟨.hbm, 58, rfl⟩
abbrev main_call0_v0 : Ref sig .tc := ⟨.hbm, 59, rfl⟩
abbrev main_v2 : Ref sig .tc := ⟨.hbm, 60, rfl⟩
abbrev main_c_0 : Ref sig .tc := ⟨.hbm, 61, rfl⟩
abbrev main_call1_v0 : Ref sig .tc := ⟨.hbm, 62, rfl⟩
abbrev main_v3 : Ref sig .tc := ⟨.hbm, 63, rfl⟩
abbrev main_c_1 : Ref sig .tc := ⟨.hbm, 64, rfl⟩
abbrev main_call2_v0 : Ref sig .tc := ⟨.hbm, 65, rfl⟩
abbrev main_v4 : Ref sig .tc := ⟨.hbm, 66, rfl⟩
abbrev main_v5 : Ref sig .tc := ⟨.hbm, 67, rfl⟩
abbrev main_v6 : Ref sig .tc := ⟨.hbm, 68, rfl⟩
abbrev main_c_2 : Ref sig .tc := ⟨.hbm, 69, rfl⟩
abbrev main_call3_v0 : Ref sig .tc := ⟨.hbm, 70, rfl⟩
abbrev main_v7 : Ref sig .tc := ⟨.hbm, 71, rfl⟩
abbrev main_v8 : Ref sig .tc := ⟨.hbm, 72, rfl⟩
abbrev main_v9 : Ref sig .tc := ⟨.hbm, 73, rfl⟩
abbrev main_c_3 : Ref sig .tc := ⟨.hbm, 74, rfl⟩
abbrev main_call4_v0 : Ref sig .tc := ⟨.hbm, 75, rfl⟩
abbrev main_v10 : Ref sig .tc := ⟨.hbm, 76, rfl⟩
abbrev main_c_4 : Ref sig .tc := ⟨.hbm, 77, rfl⟩
abbrev main_call5_v0 : Ref sig .tc := ⟨.hbm, 78, rfl⟩
abbrev main_v11 : Ref sig .tc := ⟨.hbm, 79, rfl⟩
abbrev main_c_5 : Ref sig .tc := ⟨.hbm, 80, rfl⟩
abbrev main_call6_v0 : Ref sig .tc := ⟨.hbm, 81, rfl⟩
abbrev main_v12 : Ref sig .tc := ⟨.hbm, 82, rfl⟩
abbrev main_v13 : Ref sig .tc := ⟨.hbm, 83, rfl⟩
abbrev main_v14 : Ref sig .tc := ⟨.hbm, 84, rfl⟩
abbrev main_c_6 : Ref sig .tc := ⟨.hbm, 85, rfl⟩
abbrev main_call7_v0 : Ref sig .tc := ⟨.hbm, 86, rfl⟩
abbrev main_v15 : Ref sig .tc := ⟨.hbm, 87, rfl⟩
abbrev main_v16 : Ref sig .tc := ⟨.hbm, 88, rfl⟩
abbrev main_v17 : Ref sig .tc := ⟨.hbm, 89, rfl⟩
abbrev main_c_7 : Ref sig .tc := ⟨.hbm, 90, rfl⟩
abbrev main_call8_v0 : Ref sig .tc := ⟨.hbm, 91, rfl⟩
abbrev main_v18 : Ref sig .tc := ⟨.hbm, 92, rfl⟩
abbrev main_c_8 : Ref sig .tc := ⟨.hbm, 93, rfl⟩
abbrev main_call9_v0 : Ref sig .tc := ⟨.hbm, 94, rfl⟩
abbrev main_v19 : Ref sig .tc := ⟨.hbm, 95, rfl⟩
abbrev main_c_9 : Ref sig .tc := ⟨.hbm, 96, rfl⟩
abbrev main_call10_v0 : Ref sig .tc := ⟨.hbm, 97, rfl⟩
abbrev main_v20 : Ref sig .tc := ⟨.hbm, 98, rfl⟩
abbrev main_v21 : Ref sig .tc := ⟨.hbm, 99, rfl⟩
abbrev main_v22 : Ref sig .tc := ⟨.hbm, 100, rfl⟩
abbrev main_c_10 : Ref sig .tc := ⟨.hbm, 101, rfl⟩
abbrev main_call11_v0 : Ref sig .tc := ⟨.hbm, 102, rfl⟩
abbrev main_v23 : Ref sig .tc := ⟨.hbm, 103, rfl⟩
abbrev main_v24 : Ref sig .tc := ⟨.hbm, 104, rfl⟩
abbrev main_v25 : Ref sig .tc := ⟨.hbm, 105, rfl⟩
abbrev main_c_11 : Ref sig .tc := ⟨.hbm, 106, rfl⟩
abbrev main_call12_v0 : Ref sig .tc := ⟨.hbm, 107, rfl⟩
abbrev main_v26 : Ref sig .tc := ⟨.hbm, 108, rfl⟩
abbrev main_c_12 : Ref sig .tc := ⟨.hbm, 109, rfl⟩
abbrev main_call13_v0 : Ref sig .tc := ⟨.hbm, 110, rfl⟩
abbrev main_v27 : Ref sig .tc := ⟨.hbm, 111, rfl⟩
abbrev main_c_13 : Ref sig .tc := ⟨.hbm, 112, rfl⟩
abbrev main_call14_v0 : Ref sig .tc := ⟨.hbm, 113, rfl⟩
abbrev main_v28 : Ref sig .tc := ⟨.hbm, 114, rfl⟩
abbrev main_v29 : Ref sig .tc := ⟨.hbm, 115, rfl⟩
abbrev main_v30 : Ref sig .tc := ⟨.hbm, 116, rfl⟩
abbrev main_c_14 : Ref sig .tc := ⟨.hbm, 117, rfl⟩
abbrev main_call15_v0 : Ref sig .tc := ⟨.hbm, 118, rfl⟩
abbrev main_v31 : Ref sig .tc := ⟨.hbm, 119, rfl⟩
abbrev main_v32 : Ref sig .tc := ⟨.hbm, 120, rfl⟩
abbrev main_v33_0 : Ref sig .tc := ⟨.hbm, 121, rfl⟩
abbrev main_v33_1 : Ref sig .tc := ⟨.hbm, 122, rfl⟩
abbrev main_v33_2 : Ref sig .tc := ⟨.hbm, 123, rfl⟩
abbrev main_v33_3 : Ref sig .tc := ⟨.hbm, 124, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![18, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1x256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AdamSmallIdeal.lean ====
variable {F : FTy → Type} [FloatOps F] [Named F]
def κ : String → Option EReal := fun
  | "c1" => some ((8388608 / 5463681 : ℝ) : EReal)
  | "c2" => some ((268435456 / 2672307 : ℝ) : EReal)
  | _ => none
-- ==== RefAdamSmallIdeal.lean ====
abbrev S4x1024 : Shape := ⟨2, ![4, 1024]⟩
abbrev S4x512 : Shape := ⟨2, ![4, 512]⟩
abbrev S4x8x128x128 : Shape := ⟨4, ![4, 8, 128, 128]⟩
abbrev S4x8x128 : Shape := ⟨3, ![4, 8, 128]⟩
abbrev S4x1536 : Shape := ⟨2, ![4, 1536]⟩
abbrev S4x16 : Shape := ⟨2, ![4, 16]⟩
abbrev S_ : Shape := ⟨0, ![]⟩
abbrev S4x131072 : Shape := ⟨2, ![4, 131072]⟩
abbrev S4x128 : Shape := ⟨2, ![4, 128]⟩
abbrev S4x139648 : Shape := ⟨2, ![4, 139648]⟩
abbrev S4364x128 : Shape := ⟨2, ![4364, 128]⟩
abbrev S4608x128 : Shape := ⟨2, ![4608, 128]⟩

abbrev nBuf : Space → Nat
  | .hbm => 582
  | .vmem => 0
  | .smem => 0
  | _ => 0

abbrev hbmTy0_0 (i : Nat) : BufTy := match i % 128 with
  | 0 => ⟨S4x1024, .f32⟩
  | 1 => ⟨S4x512, .f32⟩
  | 2 => ⟨S4x512, .f32⟩
  | 3 => ⟨S4x512, .f32⟩
  | 4 => ⟨S4x512, .f32⟩
  | 5 => ⟨S4x512, .f32⟩
  | 6 => ⟨S4x8x128x128, .f32⟩
  | 7 => ⟨S4x8x128, .f32⟩
  | 8 => ⟨S4x1536, .f32⟩
  | 9 => ⟨S4x16, .f32⟩
  | 10 => ⟨S4x16, .f32⟩
  | 11 => ⟨S4x16, .f32⟩
  | 12 => ⟨S4x1024, .f32⟩
  | 13 => ⟨S4x1024, .f32⟩
  | 14 => ⟨S4x1024, .f32⟩
  | 15 => ⟨S4x512, .f32⟩
  | 16 => ⟨S4x512, .f32⟩
  | 17 => ⟨S4x512, .f32⟩
  | 18 => ⟨S4x512, .f32⟩
  | 19 => ⟨S4x512, .f32⟩
  | 20 => ⟨S4x8x128x128, .f32⟩
  | 21 => ⟨S4x8x128, .f32⟩
  | 22 => ⟨S4x1536, .f32⟩
  | 23 => ⟨S4x16, .f32⟩
  | 24 => ⟨S4x16, .f32⟩
  | 25 => ⟨S4x16, .f32⟩
  | 26 => ⟨S4x1024, .f32⟩
  | 27 => ⟨S4x1024, .f32⟩
  | 28 => ⟨S4x1024, .f32⟩
  | 29 => ⟨S4x512, .f32⟩
  | 30 => ⟨S4x512, .f32⟩
  | 31 => ⟨S4x512, .f32⟩
  | 32 => ⟨S4x512, .f32⟩
  | 33 => ⟨S4x512, .f32⟩
  | 34 => ⟨S4x8x128x128, .f32⟩
  | 35 => ⟨S4x8x128, .f32⟩
  | 36 => ⟨S4x1536, .f32⟩
  | 37 => ⟨S4x16, .f32⟩
  | 38 => ⟨S4x16, .f32⟩
  | 39 => ⟨S4x16, .f32⟩
  | 40 => ⟨S4x1024, .f32⟩
  | 41 => ⟨S4x1024, .f32⟩
  | 42 => ⟨S4x1024, .f32⟩
  | 43 => ⟨S4x512, .f32⟩
  | 44 => ⟨S4x512, .f32⟩
  | 45 => ⟨S4x512, .f32⟩
  | 46 => ⟨S4x512, .f32⟩
  | 47 => ⟨S4x512, .f32⟩
  | 48 => ⟨S4x8x128x128, .f32⟩
  | 49 => ⟨S4x8x128, .f32⟩
  | 50 => ⟨S4x1536, .f32⟩
  | 51 => ⟨S4x16, .f32⟩
  | 52 => ⟨S4x16, .f32⟩
  | 53 => ⟨S4x16, .f32⟩
  | 54 => ⟨S4x1024, .f32⟩
  | 55 => ⟨S4x1024, .f32⟩
  | 56 => ⟨S_, .f32⟩
  | 57 => ⟨S4x1024, .f32⟩
  | 58 => ⟨S4x1024, .f32⟩
  | 59 => ⟨S_, .f32⟩
  | 60 => ⟨S4x1024, .f32⟩
  | 61 => ⟨S4x1024, .f32⟩
  | 62 => ⟨S4x1024, .f32⟩
  | 63 => ⟨S_, .f32⟩
  | 64 => ⟨S4x1024, .f32⟩
  | 65 => ⟨S4x1024, .f32⟩
  | 66 => ⟨S4x1024, .f32⟩
  | 67 => ⟨S_, .f32⟩
  | 68 => ⟨S4x1024, .f32⟩
  | 69 => ⟨S4x1024, .f32⟩
  | 70 => ⟨S4x1024, .f32⟩
  | 71 => ⟨S_, .f32⟩
  | 72 => ⟨S4x1024, .f32⟩
  | 73 => ⟨S4x1024, .f32⟩
  | 74 => ⟨S_, .f32⟩
  | 75 => ⟨S4x1024, .f32⟩
  | 76 => ⟨S4x1024, .f32⟩
  | 77 => ⟨S4x1024, .f32⟩
  | 78 => ⟨S_, .f32⟩
  | 79 => ⟨S4x1024, .f32⟩
  | 80 => ⟨S4x1024, .f32⟩
  | 81 => ⟨S4x1024, .f32⟩
  | 82 => ⟨S_, .f32⟩
  | 83 => ⟨S4x1024, .f32⟩
  | 84 => ⟨S4x1024, .f32⟩
  | 85 => ⟨S4x1024, .f32⟩
  | 86 => ⟨S_, .f32⟩
  | 87 => ⟨S4x1024, .f32⟩
  | 88 => ⟨S4x1024, .f32⟩
  | 89 => ⟨S_, .f32⟩
  | 90 => ⟨S4x512, .f32⟩
  | 91 => ⟨S4x512, .f32⟩
  | 92 => ⟨S_, .f32⟩
  | 93 => ⟨S4x512, .f32⟩
  | 94 => ⟨S4x512, .f32⟩
  | 95 => ⟨S4x512, .f32⟩
  | 96 => ⟨S_, .f32⟩
  | 97 => ⟨S4x512, .f32⟩
  | 98 => ⟨S4x512, .f32⟩
  | 99 => ⟨S4x512, .f32⟩
  | 100 => ⟨S_, .f32⟩
  | 101 => ⟨S4x512, .f32⟩
  | 102 => ⟨S4x512, .f32⟩
  | 103 => ⟨S4x512, .f32⟩
  | 104 => ⟨S_, .f32⟩
  | 105 => ⟨S4x512, .f32⟩
  | 106 => ⟨S4x512, .f32⟩
  | 107 => ⟨S_, .f32⟩
  | 108 => ⟨S4x512, .f32⟩
  | 109 => ⟨S4x512, .f32⟩
  | 110 => ⟨S4x512, .f32⟩
  | 111 => ⟨S_, .f32⟩
  | 112 => ⟨S4x512, .f32⟩
  | 113 => ⟨S4x512, .f32⟩
  | 114 => ⟨S4x512, .f32⟩
  | 115 => ⟨S_, .f32⟩
  | 116 => ⟨S4x512, .f32⟩
  | 117 => ⟨S4x512, .f32⟩
  | 118 => ⟨S4x512, .f32⟩
  | 119 => ⟨S_, .f32⟩
  | 120 => ⟨S4x512, .f32⟩
  | 121 => ⟨S4x512, .f32⟩
  | 122 => ⟨S_, .f32⟩
  | 123 => ⟨S4x512, .f32⟩
  | 124 => ⟨S4x512, .f32⟩
  | 125 => ⟨S_, .f32⟩
  | 126 => ⟨S4x512, .f32⟩
  | 127 => ⟨S4x512, .f32⟩
  | _ => ⟨S4x1024, .f32⟩

abbrev hbmTy0_1 (i : Nat) : BufTy := match i % 128 with
  | 0 => ⟨S4x512, .f32⟩
  | 1 => ⟨S_, .f32⟩
  | 2 => ⟨S4x512, .f32⟩
  | 3 => ⟨S4x512, .f32⟩
  | 4 => ⟨S4x512, .f32⟩
  | 5 => ⟨S_, .f32⟩
  | 6 => ⟨S4x512, .f32⟩
  | 7 => ⟨S4x512, .f32⟩
  | 8 => ⟨S4x512, .f32⟩
  | 9 => ⟨S_, .f32⟩
  | 10 => ⟨S4x512, .f32⟩
  | 11 => ⟨S4x512, .f32⟩
  | 12 => ⟨S_, .f32⟩
  | 13 => ⟨S4x512, .f32⟩
  | 14 => ⟨S4x512, .f32⟩
  | 15 => ⟨S4x512, .f32⟩
  | 16 => ⟨S_, .f32⟩
  | 17 => ⟨S4x512, .f32⟩
  | 18 => ⟨S4x512, .f32⟩
  | 19 => ⟨S4x512, .f32⟩
  | 20 => ⟨S_, .f32⟩
  | 21 => ⟨S4x512, .f32⟩
  | 22 => ⟨S4x512, .f32⟩
  | 23 => ⟨S4x512, .f32⟩
  | 24 => ⟨S_, .f32⟩
  | 25 => ⟨S4x512, .f32⟩
  | 26 => ⟨S4x512, .f32⟩
  | 27 => ⟨S_, .f32⟩
  | 28 => ⟨S4x512, .f32⟩
  | 29 => ⟨S4x512, .f32⟩
  | 30 => ⟨S_, .f32⟩
  | 31 => ⟨S4x512, .f32⟩
  | 32 => ⟨S4x512, .f32⟩
  | 33 => ⟨S4x512, .f32⟩
  | 34 => ⟨S_, .f32⟩
  | 35 => ⟨S4x512, .f32⟩
  | 36 => ⟨S4x512, .f32⟩
  | 37 => ⟨S4x512, .f32⟩
  | 38 => ⟨S_, .f32⟩
  | 39 => ⟨S4x512, .f32⟩
  | 40 => ⟨S4x512, .f32⟩
  | 41 => ⟨S4x512, .f32⟩
  | 42 => ⟨S_, .f32⟩
  | 43 => ⟨S4x512, .f32⟩
  | 44 => ⟨S4x512, .f32⟩
  | 45 => ⟨S_, .f32⟩
  | 46 => ⟨S4x512, .f32⟩
  | 47 => ⟨S4x512, .f32⟩
  | 48 => ⟨S4x512, .f32⟩
  | 49 => ⟨S_, .f32⟩
  | 50 => ⟨S4x512, .f32⟩
  | 51 => ⟨S4x512, .f32⟩
  | 52 => ⟨S4x512, .f32⟩
  | 53 => ⟨S_, .f32⟩
  | 54 => ⟨S4x512, .f32⟩
  | 55 => ⟨S4x512, .f32⟩
  | 56 => ⟨S4x512, .f32⟩
  | 57 => ⟨S_, .f32⟩
  | 58 => ⟨S4x512, .f32⟩
  | 59 => ⟨S4x512, .f32⟩
  | 60 => ⟨S_, .f32⟩
  | 61 => ⟨S4x512, .f32⟩
  | 62 => ⟨S4x512, .f32⟩
  | 63 => ⟨S_, .f32⟩
  | 64 => ⟨S4x512, .f32⟩
  | 65 => ⟨S4x512, .f32⟩
  | 66 => ⟨S4x512, .f32⟩
  | 67 => ⟨S_, .f32⟩
  | 68 => ⟨S4x512, .f32⟩
  | 69 => ⟨S4x512, .f32⟩
  | 70 => ⟨S4x512, .f32⟩
  | 71 => ⟨S_, .f32⟩
  | 72 => ⟨S4x512, .f32⟩
  | 73 => ⟨S4x512, .f32⟩
  | 74 => ⟨S4x512, .f32⟩
  | 75 => ⟨S_, .f32⟩
  | 76 => ⟨S4x512, .f32⟩
  | 77 => ⟨S4x512, .f32⟩
  | 78 => ⟨S_, .f32⟩
  | 79 => ⟨S4x512, .f32⟩
  | 80 => ⟨S4x512, .f32⟩
  | 81 => ⟨S4x512, .f32⟩
  | 82 => ⟨S_, .f32⟩
  | 83 => ⟨S4x512, .f32⟩
  | 84 => ⟨S4x512, .f32⟩
  | 85 => ⟨S4x512, .f32⟩
  | 86 => ⟨S_, .f32⟩
  | 87 => ⟨S4x512, .f32⟩
  | 88 => ⟨S4x512, .f32⟩
  | 89 => ⟨S4x512, .f32⟩
  | 90 => ⟨S_, .f32⟩
  | 91 => ⟨S4x512, .f32⟩
  | 92 => ⟨S4x512, .f32⟩
  | 93 => ⟨S_, .f32⟩
  | 94 => ⟨S4x512, .f32⟩
  | 95 => ⟨S4x512, .f32⟩
  | 96 => ⟨S_, .f32⟩
  | 97 => ⟨S4x512, .f32⟩
  | 98 => ⟨S4x512, .f32⟩
  | 99 => ⟨S4x512, .f32⟩
  | 100 => ⟨S_, .f32⟩
  | 101 => ⟨S4x512, .f32⟩
  | 102 => ⟨S4x512, .f32⟩
  | 103 => ⟨S4x512, .f32⟩
  | 104 => ⟨S_, .f32⟩
  | 105 => ⟨S4x512, .f32⟩
  | 106 => ⟨S4x512, .f32⟩
  | 107 => ⟨S4x512, .f32⟩
  | 108 => ⟨S_, .f32⟩
  | 109 => ⟨S4x512, .f32⟩
  | 110 => ⟨S4x512, .f32⟩
  | 111 => ⟨S_, .f32⟩
  | 112 => ⟨S4x512, .f32⟩
  | 113 => ⟨S4x512, .f32⟩
  | 114 => ⟨S4x512, .f32⟩
  | 115 => ⟨S_, .f32⟩
  | 116 => ⟨S4x512, .f32⟩
  | 117 => ⟨S4x512, .f32⟩
  | 118 => ⟨S4x512, .f32⟩
  | 119 => ⟨S_, .f32⟩
  | 120 => ⟨S4x512, .f32⟩
  | 121 => ⟨S4x512, .f32⟩
  | 122 => ⟨S4x512, .f32⟩
  | 123 => ⟨S_, .f32⟩
  | 124 => ⟨S4x512, .f32⟩
  | 125 => ⟨S4x512, .f32⟩
  | 126 => ⟨S_, .f32⟩
  | 127 => ⟨S4x8x128x128, .f32⟩
  | _ => ⟨S4x1024, .f32⟩

abbrev hbmTy0_2 (i : Nat) : BufTy := match i % 128 with
  | 0 => ⟨S4x8x128x128, .f32⟩
  | 1 => ⟨S_, .f32⟩
  | 2 => ⟨S4x8x128x128, .f32⟩
  | 3 => ⟨S4x8x128x128, .f32⟩
  | 4 => ⟨S4x8x128x128, .f32⟩
  | 5 => ⟨S_, .f32⟩
  | 6 => ⟨S4x8x128x128, .f32⟩
  | 7 => ⟨S4x8x128x128, .f32⟩
  | 8 => ⟨S4x8x128x128, .f32⟩
  | 9 => ⟨S_, .f32⟩
  | 10 => ⟨S4x8x128x128, .f32⟩
  | 11 => ⟨S4x8x128x128, .f32⟩
  | 12 => ⟨S4x8x128x128, .f32⟩
  | 13 => ⟨S_, .f32⟩
  | 14 => ⟨S4x8x128x128, .f32⟩
  | 15 => ⟨S4x8x128x128, .f32⟩
  | 16 => ⟨S_, .f32⟩
  | 17 => ⟨S4x8x128x128, .f32⟩
  | 18 => ⟨S4x8x128x128, .f32⟩
  | 19 => ⟨S4x8x128x128, .f32⟩
  | 20 => ⟨S_, .f32⟩
  | 21 => ⟨S4x8x128x128, .f32⟩
  | 22 => ⟨S4x8x128x128, .f32⟩
  | 23 => ⟨S4x8x128x128, .f32⟩
  | 24 => ⟨S_, .f32⟩
  | 25 => ⟨S4x8x128x128, .f32⟩
  | 26 => ⟨S4x8x128x128, .f32⟩
  | 27 => ⟨S4x8x128x128, .f32⟩
  | 28 => ⟨S_, .f32⟩
  | 29 => ⟨S4x8x128x128, .f32⟩
  | 30 => ⟨S4x8x128x128, .f32⟩
  | 31 => ⟨S_, .f32⟩
  | 32 => ⟨S4x8x128, .f32⟩
  | 33 => ⟨S4x8x128, .f32⟩
  | 34 => ⟨S_, .f32⟩
  | 35 => ⟨S4x8x128, .f32⟩
  | 36 => ⟨S4x8x128, .f32⟩
  | 37 => ⟨S4x8x128, .f32⟩
  | 38 => ⟨S_, .f32⟩
  | 39 => ⟨S4x8x128, .f32⟩
  | 40 => ⟨S4x8x128, .f32⟩
  | 41 => ⟨S4x8x128, .f32⟩
  | 42 => ⟨S_, .f32⟩
  | 43 => ⟨S4x8x128, .f32⟩
  | 44 => ⟨S4x8x128, .f32⟩
  | 45 => ⟨S4x8x128, .f32⟩
  | 46 => ⟨S_, .f32⟩
  | 47 => ⟨S4x8x128, .f32⟩
  | 48 => ⟨S4x8x128, .f32⟩
  | 49 => ⟨S_, .f32⟩
  | 50 => ⟨S4x8x128, .f32⟩
  | 51 => ⟨S4x8x128, .f32⟩
  | 52 => ⟨S4x8x128, .f32⟩
  | 53 => ⟨S_, .f32⟩
  | 54 => ⟨S4x8x128, .f32⟩
  | 55 => ⟨S4x8x128, .f32⟩
  | 56 => ⟨S4x8x128, .f32⟩
  | 57 => ⟨S_, .f32⟩
  | 58 => ⟨S4x8x128, .f32⟩
  | 59 => ⟨S4x8x128, .f32⟩
  | 60 => ⟨S4x8x128, .f32⟩
  | 61 => ⟨S_, .f32⟩
  | 62 => ⟨S4x8x128, .f32⟩
  | 63 => ⟨S4x8x128, .f32⟩
  | 64 => ⟨S_, .f32⟩
  | 65 => ⟨S4x1536, .f32⟩
  | 66 => ⟨S4x1536, .f32⟩
  | 67 => ⟨S_, .f32⟩
  | 68 => ⟨S4x1536, .f32⟩
  | 69 => ⟨S4x1536, .f32⟩
  | 70 => ⟨S4x1536, .f32⟩
  | 71 => ⟨S_, .f32⟩
  | 72 => ⟨S4x1536, .f32⟩
  | 73 => ⟨S4x1536, .f32⟩
  | 74 => ⟨S4x1536, .f32⟩
  | 75 => ⟨S_, .f32⟩
  | 76 => ⟨S4x1536, .f32⟩
  | 77 => ⟨S4x1536, .f32⟩
  | 78 => ⟨S4x1536, .f32⟩
  | 79 => ⟨S_, .f32⟩
  | 80 => ⟨S4x1536, .f32⟩
  | 81 => ⟨S4x1536, .f32⟩
  | 82 => ⟨S_, .f32⟩
  | 83 => ⟨S4x1536, .f32⟩
  | 84 => ⟨S4x1536, .f32⟩
  | 85 => ⟨S4x1536, .f32⟩
  | 86 => ⟨S_, .f32⟩
  | 87 => ⟨S4x1536, .f32⟩
  | 88 => ⟨S4x1536, .f32⟩
  | 89 => ⟨S4x1536, .f32⟩
  | 90 => ⟨S_, .f32⟩
  | 91 => ⟨S4x1536, .f32⟩
  | 92 => ⟨S4x1536, .f32⟩
  | 93 => ⟨S4x1536, .f32⟩
  | 94 => ⟨S_, .f32⟩
  | 95 => ⟨S4x1536, .f32⟩
  | 96 => ⟨S4x1536, .f32⟩
  | 97 => ⟨S_, .f32⟩
  | 98 => ⟨S4x16, .f32⟩
  | 99 => ⟨S4x16, .f32⟩
  | 100 => ⟨S_, .f32⟩
  | 101 => ⟨S4x16, .f32⟩
  | 102 => ⟨S4x16, .f32⟩
  | 103 => ⟨S4x16, .f32⟩
  | 104 => ⟨S_, .f32⟩
  | 105 => ⟨S4x16, .f32⟩
  | 106 => ⟨S4x16, .f32⟩
  | 107 => ⟨S4x16, .f32⟩
  | 108 => ⟨S_, .f32⟩
  | 109 => ⟨S4x16, .f32⟩
  | 110 => ⟨S4x16, .f32⟩
  | 111 => ⟨S4x16, .f32⟩
  | 112 => ⟨S_, .f32⟩
  | 113 => ⟨S4x16, .f32⟩
  | 114 => ⟨S4x16, .f32⟩
  | 115 => ⟨S_, .f32⟩
  | 116 => ⟨S4x16, .f32⟩
  | 117 => ⟨S4x16, .f32⟩
  | 118 => ⟨S4x16, .f32⟩
  | 119 => ⟨S_, .f32⟩
  | 120 => ⟨S4x16, .f32⟩
  | 121 => ⟨S4x16, .f32⟩
  | 122 => ⟨S4x16, .f32⟩
  | 123 => ⟨S_, .f32⟩
  | 124 => ⟨S4x16, .f32⟩
  | 125 => ⟨S4x16, .f32⟩
  | 126 => ⟨S4x16, .f32⟩
  | 127 => ⟨S_, .f32⟩
  | _ => ⟨S4x1024, .f32⟩

abbrev hbmTy0_3 (i : Nat) : BufTy := match i % 128 with
  | 0 => ⟨S4x16, .f32⟩
  | 1 => ⟨S4x16, .f32⟩
  | 2 => ⟨S_, .f32⟩
  | 3 => ⟨S4x16, .f32⟩
  | 4 => ⟨S4x16, .f32⟩
  | 5 => ⟨S_, .f32⟩
  | 6 => ⟨S4x16, .f32⟩
  | 7 => ⟨S4x16, .f32⟩
  | 8 => ⟨S4x16, .f32⟩
  | 9 => ⟨S_, .f32⟩
  | 10 => ⟨S4x16, .f32⟩
  | 11 => ⟨S4x16, .f32⟩
  | 12 => ⟨S4x16, .f32⟩
  | 13 => ⟨S_, .f32⟩
  | 14 => ⟨S4x16, .f32⟩
  | 15 => ⟨S4x16, .f32⟩
  | 16 => ⟨S4x16, .f32⟩
  | 17 => ⟨S_, .f32⟩
  | 18 => ⟨S4x16, .f32⟩
  | 19 => ⟨S4x16, .f32⟩
  | 20 => ⟨S_, .f32⟩
  | 21 => ⟨S4x16, .f32⟩
  | 22 => ⟨S4x16, .f32⟩
  | 23 => ⟨S4x16, .f32⟩
  | 24 => ⟨S_, .f32⟩
  | 25 => ⟨S4x16, .f32⟩
  | 26 => ⟨S4x16, .f32⟩
  | 27 => ⟨S4x16, .f32⟩
  | 28 => ⟨S_, .f32⟩
  | 29 => ⟨S4x16, .f32⟩
  | 30 => ⟨S4x16, .f32⟩
  | 31 => ⟨S4x16, .f32⟩
  | 32 => ⟨S_, .f32⟩
  | 33 => ⟨S4x16, .f32⟩
  | 34 => ⟨S4x16, .f32⟩
  | 35 => ⟨S_, .f32⟩
  | 36 => ⟨S4x16, .f32⟩
  | 37 => ⟨S4x16, .f32⟩
  | 38 => ⟨S_, .f32⟩
  | 39 => ⟨S4x16, .f32⟩
  | 40 => ⟨S4x16, .f32⟩
  | 41 => ⟨S4x16, .f32⟩
  | 42 => ⟨S_, .f32⟩
  | 43 => ⟨S4x16, .f32⟩
  | 44 => ⟨S4x16, .f32⟩
  | 45 => ⟨S4x16, .f32⟩
  | 46 => ⟨S_, .f32⟩
  | 47 => ⟨S4x16, .f32⟩
  | 48 => ⟨S4x16, .f32⟩
  | 49 => ⟨S4x16, .f32⟩
  | 50 => ⟨S_, .f32⟩
  | 51 => ⟨S4x16, .f32⟩
  | 52 => ⟨S4x16, .f32⟩
  | 53 => ⟨S_, .f32⟩
  | 54 => ⟨S4x16, .f32⟩
  | 55 => ⟨S4x16, .f32⟩
  | 56 => ⟨S4x16, .f32⟩
  | 57 => ⟨S_, .f32⟩
  | 58 => ⟨S4x16, .f32⟩
  | 59 => ⟨S4x16, .f32⟩
  | 60 => ⟨S4x16, .f32⟩
  | 61 => ⟨S_, .f32⟩
  | 62 => ⟨S4x16, .f32⟩
  | 63 => ⟨S4x16, .f32⟩
  | 64 => ⟨S4x16, .f32⟩
  | 65 => ⟨S_, .f32⟩
  | 66 => ⟨S4x16, .f32⟩
  | 67 => ⟨S4x16, .f32⟩
  | 68 => ⟨S_, .f32⟩
  | 69 => ⟨S4x1024, .f32⟩
  | 70 => ⟨S4x1024, .f32⟩
  | 71 => ⟨S_, .f32⟩
  | 72 => ⟨S4x1024, .f32⟩
  | 73 => ⟨S4x1024, .f32⟩
  | 74 => ⟨S4x1024, .f32⟩
  | 75 => ⟨S_, .f32⟩
  | 76 => ⟨S4x1024, .f32⟩
  | 77 => ⟨S4x1024, .f32⟩
  | 78 => ⟨S4x1024, .f32⟩
  | 79 => ⟨S_, .f32⟩
  | 80 => ⟨S4x1024, .f32⟩
  | 81 => ⟨S4x1024, .f32⟩
  | 82 => ⟨S4x1024, .f32⟩
  | 83 => ⟨S_, .f32⟩
  | 84 => ⟨S4x1024, .f32⟩
  | 85 => ⟨S4x1024, .f32⟩
  | 86 => ⟨S_, .f32⟩
  | 87 => ⟨S4x1024, .f32⟩
  | 88 => ⟨S4x1024, .f32⟩
  | 89 => ⟨S4x1024, .f32⟩
  | 90 => ⟨S_, .f32⟩
  | 91 => ⟨S4x1024, .f32⟩
  | 92 => ⟨S4x1024, .f32⟩
  | 93 => ⟨S4x1024, .f32⟩
  | 94 => ⟨S_, .f32⟩
  | 95 => ⟨S4x1024, .f32⟩
  | 96 => ⟨S4x1024, .f32⟩
  | 97 => ⟨S4x1024, .f32⟩
  | 98 => ⟨S_, .f32⟩
  | 99 => ⟨S4x1024, .f32⟩
  | 100 => ⟨S4x1024, .f32⟩
  | 101 => ⟨S_, .f32⟩
  | 102 => ⟨S4x1024, .f32⟩
  | 103 => ⟨S4x1024, .f32⟩
  | 104 => ⟨S_, .f32⟩
  | 105 => ⟨S4x1024, .f32⟩
  | 106 => ⟨S4x1024, .f32⟩
  | 107 => ⟨S4x1024, .f32⟩
  | 108 => ⟨S_, .f32⟩
  | 109 => ⟨S4x1024, .f32⟩
  | 110 => ⟨S4x1024, .f32⟩
  | 111 => ⟨S4x1024, .f32⟩
  | 112 => ⟨S_, .f32⟩
  | 113 => ⟨S4x1024, .f32⟩
  | 114 => ⟨S4x1024, .f32⟩
  | 115 => ⟨S4x1024, .f32⟩
  | 116 => ⟨S_, .f32⟩
  | 117 => ⟨S4x1024, .f32⟩
  | 118 => ⟨S4x1024, .f32⟩
  | 119 => ⟨S_, .f32⟩
  | 120 => ⟨S4x1024, .f32⟩
  | 121 => ⟨S4x1024, .f32⟩
  | 122 => ⟨S4x1024, .f32⟩
  | 123 => ⟨S_, .f32⟩
  | 124 => ⟨S4x1024, .f32⟩
  | 125 => ⟨S4x1024, .f32⟩
  | 126 => ⟨S4x1024, .f32⟩
  | 127 => ⟨S_, .f32⟩
  | _ => ⟨S4x1024, .f32⟩

abbrev hbmTy0_4 (i : Nat) : BufTy := match i % 128 with
  | 0 => ⟨S4x1024, .f32⟩
  | 1 => ⟨S4x1024, .f32⟩
  | 2 => ⟨S4x1024, .f32⟩
  | 3 => ⟨S_, .f32⟩
  | 4 => ⟨S4x1024, .f32⟩
  | 5 => ⟨S4x1024, .f32⟩
  | 6 => ⟨S4x131072, .f32⟩
  | 7 => ⟨S4x1024, .f32⟩
  | 8 => ⟨S_, .i32⟩
  | 9 => ⟨S_, .f32⟩
  | 10 => ⟨S4x128, .f32⟩
  | 11 => ⟨S_, .i32⟩
  | 12 => ⟨S_, .f32⟩
  | 13 => ⟨S4x128, .f32⟩
  | 14 => ⟨S_, .i32⟩
  | 15 => ⟨S_, .f32⟩
  | 16 => ⟨S4x128, .f32⟩
  | 17 => ⟨S4x139648, .f32⟩
  | 18 => ⟨S4364x128, .f32⟩
  | 19 => ⟨S_, .i32⟩
  | 20 => ⟨S_, .f32⟩
  | 21 => ⟨S4608x128, .f32⟩
  | 22 => ⟨S4x131072, .f32⟩
  | 23 => ⟨S4x1024, .f32⟩
  | 24 => ⟨S_, .i32⟩
  | 25 => ⟨S_, .f32⟩
  | 26 => ⟨S4x128, .f32⟩
  | 27 => ⟨S_, .i32⟩
  | 28 => ⟨S_, .f32⟩
  | 29 => ⟨S4x128, .f32⟩
  | 30 => ⟨S_, .i32⟩
  | 31 => ⟨S_, .f32⟩
  | 32 => ⟨S4x128, .f32⟩
  | 33 => ⟨S4x139648, .f32⟩
  | 34 => ⟨S4364x128, .f32⟩
  | 35 => ⟨S_, .i32⟩
  | 36 => ⟨S_, .f32⟩
  | 37 => ⟨S4608x128, .f32⟩
  | 38 => ⟨S4x131072, .f32⟩
  | 39 => ⟨S4x1024, .f32⟩
  | 40 => ⟨S_, .i32⟩
  | 41 => ⟨S_, .f32⟩
  | 42 => ⟨S4x128, .f32⟩
  | 43 => ⟨S_, .i32⟩
  | 44 => ⟨S_, .f32⟩
  | 45 => ⟨S4x128, .f32⟩
  | 46 => ⟨S_, .i32⟩
  | 47 => ⟨S_, .f32⟩
  | 48 => ⟨S4x128, .f32⟩
  | 49 => ⟨S4x139648, .f32⟩
  | 50 => ⟨S4364x128, .f32⟩
  | 51 => ⟨S_, .i32⟩
  | 52 => ⟨S_, .f32⟩
  | 53 => ⟨S4608x128, .f32⟩
  | 54 => ⟨S4x131072, .f32⟩
  | 55 => ⟨S4x1024, .f32⟩
  | 56 => ⟨S_, .i32⟩
  | 57 => ⟨S_, .f32⟩
  | 58 => ⟨S4x128, .f32⟩
  | 59 => ⟨S_, .i32⟩
  | 60 => ⟨S_, .f32⟩
  | 61 => ⟨S4x128, .f32⟩
  | 62 => ⟨S_, .i32⟩
  | 63 => ⟨S_, .f32⟩
  | 64 => ⟨S4x128, .f32⟩
  | 65 => ⟨S4x139648, .f32⟩
  | 66 => ⟨S4364x128, .f32⟩
  | 67 => ⟨S_, .i32⟩
  | 68 => ⟨S_, .f32⟩
  | 69 => ⟨S4608x128, .f32⟩
  | _ => ⟨S4x1024, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S4x1024, .f32⟩

abbrev bufTy : (tb : Table) → Fin (tcTables nBuf tb) → BufTy
  | .hbm, ⟨i, _⟩ => hbmTy i
  | _, _ => ⟨S4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_arg39 : Ref sig .tc := ⟨.hbm, 39, rfl⟩
abbrev main_arg40 : Ref sig .tc := ⟨.hbm, 40, rfl⟩
abbrev main_arg41 : Ref sig .tc := ⟨.hbm, 41, rfl⟩
abbrev main_arg42 : Ref sig .tc := ⟨.hbm, 42, rfl⟩
abbrev main_arg43 : Ref sig .tc := ⟨.hbm, 43, rfl⟩
abbrev main_arg44 : Ref sig .tc := ⟨.hbm, 44, rfl⟩
abbrev main_arg45 : Ref sig .tc := ⟨.hbm, 45, rfl⟩
abbrev main_arg46 : Ref sig .tc := ⟨.hbm, 46, rfl⟩
abbrev main_arg47 : Ref sig .tc := ⟨.hbm, 47, rfl⟩
abbrev main_arg48 : Ref sig .tc := ⟨.hbm, 48, rfl⟩
abbrev main_arg49 : Ref sig .tc := ⟨.hbm, 49, rfl⟩
abbrev main_arg50 : Ref sig .tc := ⟨.hbm, 50, rfl⟩
abbrev main_arg51 : Ref sig .tc := ⟨.hbm, 51, rfl⟩
abbrev main_arg52 : Ref sig .tc := ⟨.hbm, 52, rfl⟩
abbrev main_arg53 : Ref sig .tc := ⟨.hbm, 53, rfl⟩
abbrev main_arg54 : Ref sig .tc := ⟨.hbm, 54, rfl⟩
abbrev main_arg55 : Ref sig .tc := ⟨.hbm, 55, rfl⟩
abbrev main_cst : Ref sig .tc := ⟨.hbm, 56, rfl⟩
abbrev main_v0 : Ref sig .tc := ⟨.hbm, 57, rfl⟩
abbrev main_v1 : Ref sig .tc := ⟨.hbm, 58, rfl⟩
abbrev main_cst_0 : Ref sig .tc := ⟨.hbm, 59, rfl⟩
abbrev main_v2 : Ref sig .tc := ⟨.hbm, 60, rfl⟩
abbrev main_v3 : Ref sig .tc := ⟨.hbm, 61, rfl⟩
abbrev main_v4 : Ref sig .tc := ⟨.hbm, 62, rfl⟩
abbrev main_cst_1 : Ref sig .tc := ⟨.hbm, 63, rfl⟩
abbrev main_v5 : Ref sig .tc := ⟨.hbm, 64, rfl⟩
abbrev main_v6 : Ref sig .tc := ⟨.hbm, 65, rfl⟩
abbrev main_v7 : Ref sig .tc := ⟨.hbm, 66, rfl⟩
abbrev main_cst_2 : Ref sig .tc := ⟨.hbm, 67, rfl⟩
abbrev main_v8 : Ref sig .tc := ⟨.hbm, 68, rfl⟩
abbrev main_v9 : Ref sig .tc := ⟨.hbm, 69, rfl⟩
abbrev main_v10 : Ref sig .tc := ⟨.hbm, 70, rfl⟩
abbrev main_cst_3 : Ref sig .tc := ⟨.hbm, 71, rfl⟩
abbrev main_v11 : Ref sig .tc := ⟨.hbm, 72, rfl⟩
abbrev main_v12 : Ref sig .tc := ⟨.hbm, 73, rfl⟩
abbrev main_cst_4 : Ref sig .tc := ⟨.hbm, 74, rfl⟩
abbrev main_v13 : Ref sig .tc := ⟨.hbm, 75, rfl⟩
abbrev main_v14 : Ref sig .tc := ⟨.hbm, 76, rfl⟩
abbrev main_v15 : Ref sig .tc := ⟨.hbm, 77, rfl⟩
abbrev main_cst_5 : Ref sig .tc := ⟨.hbm, 78, rfl⟩
abbrev main_v16 : Ref sig .tc := ⟨.hbm, 79, rfl⟩
abbrev main_v17 : Ref sig .tc := ⟨.hbm, 80, rfl⟩
abbrev main_v18 : Ref sig .tc := ⟨.hbm, 81, rfl⟩
abbrev main_cst_6 : Ref sig .tc := ⟨.hbm, 82, rfl⟩
abbrev main_v19 : Ref sig .tc := ⟨.hbm, 83, rfl⟩
abbrev main_v20 : Ref sig .tc := ⟨.hbm, 84, rfl⟩
abbrev main_v21 : Ref sig .tc := ⟨.hbm, 85, rfl⟩
abbrev main_cst_7 : Ref sig .tc := ⟨.hbm, 86, rfl⟩
abbrev main_v22 : Ref sig .tc := ⟨.hbm, 87, rfl⟩
abbrev main_v23 : Ref sig .tc := ⟨.hbm, 88, rfl⟩
abbrev main_cst_8 : Ref sig .tc := ⟨.hbm, 89, rfl⟩
abbrev main_v24 : Ref sig .tc := ⟨.hbm, 90, rfl⟩
abbrev main_v25 : Ref sig .tc := ⟨.hbm, 91, rfl⟩
abbrev main_cst_9 : Ref sig .tc := ⟨.hbm, 92, rfl⟩
abbrev main_v26 : Ref sig .tc := ⟨.hbm, 93, rfl⟩
abbrev main_v27 : Ref sig .tc := ⟨.hbm, 94, rfl⟩
abbrev main_v28 : Ref sig .tc := ⟨.hbm, 95, rfl⟩
abbrev main_cst_10 : Ref sig .tc := ⟨.hbm, 96, rfl⟩
abbrev main_v29 : Ref sig .tc := ⟨.hbm, 97, rfl⟩
abbrev main_v30 : Ref sig .tc := ⟨.hbm, 98, rfl⟩
abbrev main_v31 : Ref sig .tc := ⟨.hbm, 99, rfl⟩
abbrev main_cst_11 : Ref sig .tc := ⟨.hbm, 100, rfl⟩
abbrev main_v32 : Ref sig .tc := ⟨.hbm, 101, rfl⟩
abbrev main_v33 : Ref sig .tc := ⟨.hbm, 102, rfl⟩
abbrev main_v34 : Ref sig .tc := ⟨.hbm, 103, rfl⟩
abbrev main_cst_12 : Ref sig .tc := ⟨.hbm, 104, rfl⟩
abbrev main_v35 : Ref sig .tc := ⟨.hbm, 105, rfl⟩
abbrev main_v36 : Ref sig .tc := ⟨.hbm, 106, rfl⟩
abbrev main_cst_13 : Ref sig .tc := ⟨.hbm, 107, rfl⟩
abbrev main_v37 : Ref sig .tc := ⟨.hbm, 108, rfl⟩
abbrev main_v38 : Ref sig .tc := ⟨.hbm, 109, rfl⟩
abbrev main_v39 : Ref sig .tc := ⟨.hbm, 110, rfl⟩
abbrev main_cst_14 : Ref sig .tc := ⟨.hbm, 111, rfl⟩
abbrev main_v40 : Ref sig .tc := ⟨.hbm, 112, rfl⟩
abbrev main_v41 : Ref sig .tc := ⟨.hbm, 113, rfl⟩
abbrev main_v42 : Ref sig .tc := ⟨.hbm, 114, rfl⟩
abbrev main_cst_15 : Ref sig .tc := ⟨.hbm, 115, rfl⟩
abbrev main_v43 : Ref sig .tc := ⟨.hbm, 116, rfl⟩
abbrev main_v44 : Ref sig .tc := ⟨.hbm, 117, rfl⟩
abbrev main_v45 : Ref sig .tc := ⟨.hbm, 118, rfl⟩
abbrev main_cst_16 : Ref sig .tc := ⟨.hbm, 119, rfl⟩
abbrev main_v46 : Ref sig .tc := ⟨.hbm, 120, rfl⟩
abbrev main_v47 : Ref sig .tc := ⟨.hbm, 121, rfl⟩
abbrev main_cst_17 : Ref sig .tc := ⟨.hbm, 122, rfl⟩
abbrev main_v48 : Ref sig .tc := ⟨.hbm, 123, rfl⟩
abbrev main_v49 : Ref sig .tc := ⟨.hbm, 124, rfl⟩
abbrev main_cst_18 : Ref sig .tc := ⟨.hbm, 125, rfl⟩
abbrev main_v50 : Ref sig .tc := ⟨.hbm, 126, rfl⟩
abbrev main_v51 : Ref sig .tc := ⟨.hbm, 127, rfl⟩
abbrev main_v52 : Ref sig .tc := ⟨.hbm, 128, rfl⟩
abbrev main_cst_19 : Ref sig .tc := ⟨.hbm, 129, rfl⟩
abbrev main_v53 : Ref sig .tc := ⟨.hbm, 130, rfl⟩
abbrev main_v54 : Ref sig .tc := ⟨.hbm, 131, rfl⟩
abbrev main_v55 : Ref sig .tc := ⟨.hbm, 132, rfl⟩
abbrev main_cst_20 : Ref sig .tc := ⟨.hbm, 133, rfl⟩
abbrev main_v56 : Ref sig .tc := ⟨.hbm, 134, rfl⟩
abbrev main_v57 : Ref sig .tc := ⟨.hbm, 135, rfl⟩
abbrev main_v58 : Ref sig .tc := ⟨.hbm, 136, rfl⟩
abbrev main_cst_21 : Ref sig .tc := ⟨.hbm, 137, rfl⟩
abbrev main_v59 : Ref sig .tc := ⟨.hbm, 138, rfl⟩
abbrev main_v60 : Ref sig .tc := ⟨.hbm, 139, rfl⟩
abbrev main_cst_22 : Ref sig .tc := ⟨.hbm, 140, rfl⟩
abbrev main_v61 : Ref sig .tc := ⟨.hbm, 141, rfl⟩
abbrev main_v62 : Ref sig .tc := ⟨.hbm, 142, rfl⟩
abbrev main_v63 : Ref sig .tc := ⟨.hbm, 143, rfl⟩
abbrev main_cst_23 : Ref sig .tc := ⟨.hbm, 144, rfl⟩
abbrev main_v64 : Ref sig .tc := ⟨.hbm, 145, rfl⟩
abbrev main_v65 : Ref sig .tc := ⟨.hbm, 146, rfl⟩
abbrev main_v66 : Ref sig .tc := ⟨.hbm, 147, rfl⟩
abbrev main_cst_24 : Ref sig .tc := ⟨.hbm, 148, rfl⟩
abbrev main_v67 : Ref sig .tc := ⟨.hbm, 149, rfl⟩
abbrev main_v68 : Ref sig .tc := ⟨.hbm, 150, rfl⟩
abbrev main_v69 : Ref sig .tc := ⟨.hbm, 151, rfl⟩
abbrev main_cst_25 : Ref sig .tc := ⟨.hbm, 152, rfl⟩
abbrev main_v70 : Ref sig .tc := ⟨.hbm, 153, rfl⟩
abbrev main_v71 : Ref sig .tc := ⟨.hbm, 154, rfl⟩
abbrev main_cst_26 : Ref sig .tc := ⟨.hbm, 155, rfl⟩
abbrev main_v72 : Ref sig .tc := ⟨.hbm, 156, rfl⟩
abbrev main_v73 : Ref sig .tc := ⟨.hbm, 157, rfl⟩
abbrev main_cst_27 : Ref sig .tc := ⟨.hbm, 158, rfl⟩
abbrev main_v74 : Ref sig .tc := ⟨.hbm, 159, rfl⟩
abbrev main_v75 : Ref sig .tc := ⟨.hbm, 160, rfl⟩
abbrev main_v76 : Ref sig .tc := ⟨.hbm, 161, rfl⟩
abbrev main_cst_28 : Ref sig .tc := ⟨.hbm, 162, rfl⟩
abbrev main_v77 : Ref sig .tc := ⟨.hbm, 163, rfl⟩
abbrev main_v78 : Ref sig .tc := ⟨.hbm, 164, rfl⟩
abbrev main_v79 : Ref sig .tc := ⟨.hbm, 165, rfl⟩
abbrev main_cst_29 : Ref sig .tc := ⟨.hbm, 166, rfl⟩
abbrev main_v80 : Ref sig .tc := ⟨.hbm, 167, rfl⟩
abbrev main_v81 : Ref sig .tc := ⟨.hbm, 168, rfl⟩
abbrev main_v82 : Ref sig .tc := ⟨.hbm, 169, rfl⟩
abbrev main_cst_30 : Ref sig .tc := ⟨.hbm, 170, rfl⟩
abbrev main_v83 : Ref sig .tc := ⟨.hbm, 171, rfl⟩
abbrev main_v84 : Ref sig .tc := ⟨.hbm, 172, rfl⟩
abbrev main_cst_31 : Ref sig .tc := ⟨.hbm, 173, rfl⟩
abbrev main_v85 : Ref sig .tc := ⟨.hbm, 174, rfl⟩
abbrev main_v86 : Ref sig .tc := ⟨.hbm, 175, rfl⟩
abbrev main_v87 : Ref sig .tc := ⟨.hbm, 176, rfl⟩
abbrev main_cst_32 : Ref sig .tc := ⟨.hbm, 177, rfl⟩
abbrev main_v88 : Ref sig .tc := ⟨.hbm, 178, rfl⟩
abbrev main_v89 : Ref sig .tc := ⟨.hbm, 179, rfl⟩
abbrev main_v90 : Ref sig .tc := ⟨.hbm, 180, rfl⟩
abbrev main_cst_33 : Ref sig .tc := ⟨.hbm, 181, rfl⟩
abbrev main_v91 : Ref sig .tc := ⟨.hbm, 182, rfl⟩
abbrev main_v92 : Ref sig .tc := ⟨.hbm, 183, rfl⟩
abbrev main_v93 : Ref sig .tc := ⟨.hbm, 184, rfl⟩
abbrev main_cst_34 : Ref sig .tc := ⟨.hbm, 185, rfl⟩
abbrev main_v94 : Ref sig .tc := ⟨.hbm, 186, rfl⟩
abbrev main_v95 : Ref sig .tc := ⟨.hbm, 187, rfl⟩
abbrev main_cst_35 : Ref sig .tc := ⟨.hbm, 188, rfl⟩
abbrev main_v96 : Ref sig .tc := ⟨.hbm, 189, rfl⟩
abbrev main_v97 : Ref sig .tc := ⟨.hbm, 190, rfl⟩
abbrev main_cst_36 : Ref sig .tc := ⟨.hbm, 191, rfl⟩
abbrev main_v98 : Ref sig .tc := ⟨.hbm, 192, rfl⟩
abbrev main_v99 : Ref sig .tc := ⟨.hbm, 193, rfl⟩
abbrev main_v100 : Ref sig .tc := ⟨.hbm, 194, rfl⟩
abbrev main_cst_37 : Ref sig .tc := ⟨.hbm, 195, rfl⟩
abbrev main_v101 : Ref sig .tc := ⟨.hbm, 196, rfl⟩
abbrev main_v102 : Ref sig .tc := ⟨.hbm, 197, rfl⟩
abbrev main_v103 : Ref sig .tc := ⟨.hbm, 198, rfl⟩
abbrev main_cst_38 : Ref sig .tc := ⟨.hbm, 199, rfl⟩
abbrev main_v104 : Ref sig .tc := ⟨.hbm, 200, rfl⟩
abbrev main_v105 : Ref sig .tc := ⟨.hbm, 201, rfl⟩
abbrev main_v106 : Ref sig .tc := ⟨.hbm, 202, rfl⟩
abbrev main_cst_39 : Ref sig .tc := ⟨.hbm, 203, rfl⟩
abbrev main_v107 : Ref sig .tc := ⟨.hbm, 204, rfl⟩
abbrev main_v108 : Ref sig .tc := ⟨.hbm, 205, rfl⟩
abbrev main_cst_40 : Ref sig .tc := ⟨.hbm, 206, rfl⟩
abbrev main_v109 : Ref sig .tc := ⟨.hbm, 207, rfl⟩
abbrev main_v110 : Ref sig .tc := ⟨.hbm, 208, rfl⟩
abbrev main_v111 : Ref sig .tc := ⟨.hbm, 209, rfl⟩
abbrev main_cst_41 : Ref sig .tc := ⟨.hbm, 210, rfl⟩
abbrev main_v112 : Ref sig .tc := ⟨.hbm, 211, rfl⟩
abbrev main_v113 : Ref sig .tc := ⟨.hbm, 212, rfl⟩
abbrev main_v114 : Ref sig .tc := ⟨.hbm, 213, rfl⟩
abbrev main_cst_42 : Ref sig .tc := ⟨.hbm, 214, rfl⟩
abbrev main_v115 : Ref sig .tc := ⟨.hbm, 215, rfl⟩
abbrev main_v116 : Ref sig .tc := ⟨.hbm, 216, rfl⟩
abbrev main_v117 : Ref sig .tc := ⟨.hbm, 217, rfl⟩
abbrev main_cst_43 : Ref sig .tc := ⟨.hbm, 218, rfl⟩
abbrev main_v118 : Ref sig .tc := ⟨.hbm, 219, rfl⟩
abbrev main_v119 : Ref sig .tc := ⟨.hbm, 220, rfl⟩
abbrev main_cst_44 : Ref sig .tc := ⟨.hbm, 221, rfl⟩
abbrev main_v120 : Ref sig .tc := ⟨.hbm, 222, rfl⟩
abbrev main_v121 : Ref sig .tc := ⟨.hbm, 223, rfl⟩
abbrev main_cst_45 : Ref sig .tc := ⟨.hbm, 224, rfl⟩
abbrev main_v122 : Ref sig .tc := ⟨.hbm, 225, rfl⟩
abbrev main_v123 : Ref sig .tc := ⟨.hbm, 226, rfl⟩
abbrev main_v124 : Ref sig .tc := ⟨.hbm, 227, rfl⟩
abbrev main_cst_46 : Ref sig .tc := ⟨.hbm, 228, rfl⟩
abbrev main_v125 : Ref sig .tc := ⟨.hbm, 229, rfl⟩
abbrev main_v126 : Ref sig .tc := ⟨.hbm, 230, rfl⟩
abbrev main_v127 : Ref sig .tc := ⟨.hbm, 231, rfl⟩
abbrev main_cst_47 : Ref sig .tc := ⟨.hbm, 232, rfl⟩
abbrev main_v128 : Ref sig .tc := ⟨.hbm, 233, rfl⟩
abbrev main_v129 : Ref sig .tc := ⟨.hbm, 234, rfl⟩
abbrev main_v130 : Ref sig .tc := ⟨.hbm, 235, rfl⟩
abbrev main_cst_48 : Ref sig .tc := ⟨.hbm, 236, rfl⟩
abbrev main_v131 : Ref sig .tc := ⟨.hbm, 237, rfl⟩
abbrev main_v132 : Ref sig .tc := ⟨.hbm, 238, rfl⟩
abbrev main_cst_49 : Ref sig .tc := ⟨.hbm, 239, rfl⟩
abbrev main_v133 : Ref sig .tc := ⟨.hbm, 240, rfl⟩
abbrev main_v134 : Ref sig .tc := ⟨.hbm, 241, rfl⟩
abbrev main_v135 : Ref sig .tc := ⟨.hbm, 242, rfl⟩
abbrev main_cst_50 : Ref sig .tc := ⟨.hbm, 243, rfl⟩
abbrev main_v136 : Ref sig .tc := ⟨.hbm, 244, rfl⟩
abbrev main_v137 : Ref sig .tc := ⟨.hbm, 245, rfl⟩
abbrev main_v138 : Ref sig .tc := ⟨.hbm, 246, rfl⟩
abbrev main_cst_51 : Ref sig .tc := ⟨.hbm, 247, rfl⟩
abbrev main_v139 : Ref sig .tc := ⟨.hbm, 248, rfl⟩
abbrev main_v140 : Ref sig .tc := ⟨.hbm, 249, rfl⟩
abbrev main_v141 : Ref sig .tc := ⟨.hbm, 250, rfl⟩
abbrev main_cst_52 : Ref sig .tc := ⟨.hbm, 251, rfl⟩
abbrev main_v142 : Ref sig .tc := ⟨.hbm, 252, rfl⟩
abbrev main_v143 : Ref sig .tc := ⟨.hbm, 253, rfl⟩
abbrev main_cst_53 : Ref sig .tc := ⟨.hbm, 254, rfl⟩
abbrev main_v144 : Ref sig .tc := ⟨.hbm, 255, rfl⟩
abbrev main_v145 : Ref sig .tc := ⟨.hbm, 256, rfl⟩
abbrev main_cst_54 : Ref sig .tc := ⟨.hbm, 257, rfl⟩
abbrev main_v146 : Ref sig .tc := ⟨.hbm, 258, rfl⟩
abbrev main_v147 : Ref sig .tc := ⟨.hbm, 259, rfl⟩
abbrev main_v148 : Ref sig .tc := ⟨.hbm, 260, rfl⟩
abbrev main_cst_55 : Ref sig .tc := ⟨.hbm, 261, rfl⟩
abbrev main_v149 : Ref sig .tc := ⟨.hbm, 262, rfl⟩
abbrev main_v150 : Ref sig .tc := ⟨.hbm, 263, rfl⟩
abbrev main_v151 : Ref sig .tc := ⟨.hbm, 264, rfl⟩
abbrev main_cst_56 : Ref sig .tc := ⟨.hbm, 265, rfl⟩
abbrev main_v152 : Ref sig .tc := ⟨.hbm, 266, rfl⟩
abbrev main_v153 : Ref sig .tc := ⟨.hbm, 267, rfl⟩
abbrev main_v154 : Ref sig .tc := ⟨.hbm, 268, rfl⟩
abbrev main_cst_57 : Ref sig .tc := ⟨.hbm, 269, rfl⟩
abbrev main_v155 : Ref sig .tc := ⟨.hbm, 270, rfl⟩
abbrev main_v156 : Ref sig .tc := ⟨.hbm, 271, rfl⟩
abbrev main_cst_58 : Ref sig .tc := ⟨.hbm, 272, rfl⟩
abbrev main_v157 : Ref sig .tc := ⟨.hbm, 273, rfl⟩
abbrev main_v158 : Ref sig .tc := ⟨.hbm, 274, rfl⟩
abbrev main_v159 : Ref sig .tc := ⟨.hbm, 275, rfl⟩
abbrev main_cst_59 : Ref sig .tc := ⟨.hbm, 276, rfl⟩
abbrev main_v160 : Ref sig .tc := ⟨.hbm, 277, rfl⟩
abbrev main_v161 : Ref sig .tc := ⟨.hbm, 278, rfl⟩
abbrev main_v162 : Ref sig .tc := ⟨.hbm, 279, rfl⟩
abbrev main_cst_60 : Ref sig .tc := ⟨.hbm, 280, rfl⟩
abbrev main_v163 : Ref sig .tc := ⟨.hbm, 281, rfl⟩
abbrev main_v164 : Ref sig .tc := ⟨.hbm, 282, rfl⟩
abbrev main_v165 : Ref sig .tc := ⟨.hbm, 283, rfl⟩
abbrev main_cst_61 : Ref sig .tc := ⟨.hbm, 284, rfl⟩
abbrev main_v166 : Ref sig .tc := ⟨.hbm, 285, rfl⟩
abbrev main_v167 : Ref sig .tc := ⟨.hbm, 286, rfl⟩
abbrev main_cst_62 : Ref sig .tc := ⟨.hbm, 287, rfl⟩
abbrev main_v168 : Ref sig .tc := ⟨.hbm, 288, rfl⟩
abbrev main_v169 : Ref sig .tc := ⟨.hbm, 289, rfl⟩
abbrev main_cst_63 : Ref sig .tc := ⟨.hbm, 290, rfl⟩
abbrev main_v170 : Ref sig .tc := ⟨.hbm, 291, rfl⟩
abbrev main_v171 : Ref sig .tc := ⟨.hbm, 292, rfl⟩
abbrev main_v172 : Ref sig .tc := ⟨.hbm, 293, rfl⟩
abbrev main_cst_64 : Ref sig .tc := ⟨.hbm, 294, rfl⟩
abbrev main_v173 : Ref sig .tc := ⟨.hbm, 295, rfl⟩
abbrev main_v174 : Ref sig .tc := ⟨.hbm, 296, rfl⟩
abbrev main_v175 : Ref sig .tc := ⟨.hbm, 297, rfl⟩
abbrev main_cst_65 : Ref sig .tc := ⟨.hbm, 298, rfl⟩
abbrev main_v176 : Ref sig .tc := ⟨.hbm, 299, rfl⟩
abbrev main_v177 : Ref sig .tc := ⟨.hbm, 300, rfl⟩
abbrev main_v178 : Ref sig .tc := ⟨.hbm, 301, rfl⟩
abbrev main_cst_66 : Ref sig .tc := ⟨.hbm, 302, rfl⟩
abbrev main_v179 : Ref sig .tc := ⟨.hbm, 303, rfl⟩
abbrev main_v180 : Ref sig .tc := ⟨.hbm, 304, rfl⟩
abbrev main_cst_67 : Ref sig .tc := ⟨.hbm, 305, rfl⟩
abbrev main_v181 : Ref sig .tc := ⟨.hbm, 306, rfl⟩
abbrev main_v182 : Ref sig .tc := ⟨.hbm, 307, rfl⟩
abbrev main_v183 : Ref sig .tc := ⟨.hbm, 308, rfl⟩
abbrev main_cst_68 : Ref sig .tc := ⟨.hbm, 309, rfl⟩
abbrev main_v184 : Ref sig .tc := ⟨.hbm, 310, rfl⟩
abbrev main_v185 : Ref sig .tc := ⟨.hbm, 311, rfl⟩
abbrev main_v186 : Ref sig .tc := ⟨.hbm, 312, rfl⟩
abbrev main_cst_69 : Ref sig .tc := ⟨.hbm, 313, rfl⟩
abbrev main_v187 : Ref sig .tc := ⟨.hbm, 314, rfl⟩
abbrev main_v188 : Ref sig .tc := ⟨.hbm, 315, rfl⟩
abbrev main_v189 : Ref sig .tc := ⟨.hbm, 316, rfl⟩
abbrev main_cst_70 : Ref sig .tc := ⟨.hbm, 317, rfl⟩
abbrev main_v190 : Ref sig .tc := ⟨.hbm, 318, rfl⟩
abbrev main_v191 : Ref sig .tc := ⟨.hbm, 319, rfl⟩
abbrev main_cst_71 : Ref sig .tc := ⟨.hbm, 320, rfl⟩
abbrev main_v192 : Ref sig .tc := ⟨.hbm, 321, rfl⟩
abbrev main_v193 : Ref sig .tc := ⟨.hbm, 322, rfl⟩
abbrev main_cst_72 : Ref sig .tc := ⟨.hbm, 323, rfl⟩
abbrev main_v194 : Ref sig .tc := ⟨.hbm, 324, rfl⟩
abbrev main_v195 : Ref sig .tc := ⟨.hbm, 325, rfl⟩
abbrev main_v196 : Ref sig .tc := ⟨.hbm, 326, rfl⟩
abbrev main_cst_73 : Ref sig .tc := ⟨.hbm, 327, rfl⟩
abbrev main_v197 : Ref sig .tc := ⟨.hbm, 328, rfl⟩
abbrev main_v198 : Ref sig .tc := ⟨.hbm, 329, rfl⟩
abbrev main_v199 : Ref sig .tc := ⟨.hbm, 330, rfl⟩
abbrev main_cst_74 : Ref sig .tc := ⟨.hbm, 331, rfl⟩
abbrev main_v200 : Ref sig .tc := ⟨.hbm, 332, rfl⟩
abbrev main_v201 : Ref sig .tc := ⟨.hbm, 333, rfl⟩
abbrev main_v202 : Ref sig .tc := ⟨.hbm, 334, rfl⟩
abbrev main_cst_75 : Ref sig .tc := ⟨.hbm, 335, rfl⟩
abbrev main_v203 : Ref sig .tc := ⟨.hbm, 336, rfl⟩
abbrev main_v204 : Ref sig .tc := ⟨.hbm, 337, rfl⟩
abbrev main_cst_76 : Ref sig .tc := ⟨.hbm, 338, rfl⟩
abbrev main_v205 : Ref sig .tc := ⟨.hbm, 339, rfl⟩
abbrev main_v206 : Ref sig .tc := ⟨.hbm, 340, rfl⟩
abbrev main_v207 : Ref sig .tc := ⟨.hbm, 341, rfl⟩
abbrev main_cst_77 : Ref sig .tc := ⟨.hbm, 342, rfl⟩
abbrev main_v208 : Ref sig .tc := ⟨.hbm, 343, rfl⟩
abbrev main_v209 : Ref sig .tc := ⟨.hbm, 344, rfl⟩
abbrev main_v210 : Ref sig .tc := ⟨.hbm, 345, rfl⟩
abbrev main_cst_78 : Ref sig .tc := ⟨.hbm, 346, rfl⟩
abbrev main_v211 : Ref sig .tc := ⟨.hbm, 347, rfl⟩
abbrev main_v212 : Ref sig .tc := ⟨.hbm, 348, rfl⟩
abbrev main_v213 : Ref sig .tc := ⟨.hbm, 349, rfl⟩
abbrev main_cst_79 : Ref sig .tc := ⟨.hbm, 350, rfl⟩
abbrev main_v214 : Ref sig .tc := ⟨.hbm, 351, rfl⟩
abbrev main_v215 : Ref sig .tc := ⟨.hbm, 352, rfl⟩
abbrev main_cst_80 : Ref sig .tc := ⟨.hbm, 353, rfl⟩
abbrev main_v216 : Ref sig .tc := ⟨.hbm, 354, rfl⟩
abbrev main_v217 : Ref sig .tc := ⟨.hbm, 355, rfl⟩
abbrev main_cst_81 : Ref sig .tc := ⟨.hbm, 356, rfl⟩
abbrev main_v218 : Ref sig .tc := ⟨.hbm, 357, rfl⟩
abbrev main_v219 : Ref sig .tc := ⟨.hbm, 358, rfl⟩
abbrev main_v220 : Ref sig .tc := ⟨.hbm, 359, rfl⟩
abbrev main_cst_82 : Ref sig .tc := ⟨.hbm, 360, rfl⟩
abbrev main_v221 : Ref sig .tc := ⟨.hbm, 361, rfl⟩
abbrev main_v222 : Ref sig .tc := ⟨.hbm, 362, rfl⟩
abbrev main_v223 : Ref sig .tc := ⟨.hbm, 363, rfl⟩
abbrev main_cst_83 : Ref sig .tc := ⟨.hbm, 364, rfl⟩
abbrev main_v224 : Ref sig .tc := ⟨.hbm, 365, rfl⟩
abbrev main_v225 : Ref sig .tc := ⟨.hbm, 366, rfl⟩
abbrev main_v226 : Ref sig .tc := ⟨.hbm, 367, rfl⟩
abbrev main_cst_84 : Ref sig .tc := ⟨.hbm, 368, rfl⟩
abbrev main_v227 : Ref sig .tc := ⟨.hbm, 369, rfl⟩
abbrev main_v228 : Ref sig .tc := ⟨.hbm, 370, rfl⟩
abbrev main_cst_85 : Ref sig .tc := ⟨.hbm, 371, rfl⟩
abbrev main_v229 : Ref sig .tc := ⟨.hbm, 372, rfl⟩
abbrev main_v230 : Ref sig .tc := ⟨.hbm, 373, rfl⟩
abbrev main_v231 : Ref sig .tc := ⟨.hbm, 374, rfl⟩
abbrev main_cst_86 : Ref sig .tc := ⟨.hbm, 375, rfl⟩
abbrev main_v232 : Ref sig .tc := ⟨.hbm, 376, rfl⟩
abbrev main_v233 : Ref sig .tc := ⟨.hbm, 377, rfl⟩
abbrev main_v234 : Ref sig .tc := ⟨.hbm, 378, rfl⟩
abbrev main_cst_87 : Ref sig .tc := ⟨.hbm, 379, rfl⟩
abbrev main_v235 : Ref sig .tc := ⟨.hbm, 380, rfl⟩
abbrev main_v236 : Ref sig .tc := ⟨.hbm, 381, rfl⟩
abbrev main_v237 : Ref sig .tc := ⟨.hbm, 382, rfl⟩
abbrev main_cst_88 : Ref sig .tc := ⟨.hbm, 383, rfl⟩
abbrev main_v238 : Ref sig .tc := ⟨.hbm, 384, rfl⟩
abbrev main_v239 : Ref sig .tc := ⟨.hbm, 385, rfl⟩
abbrev main_cst_89 : Ref sig .tc := ⟨.hbm, 386, rfl⟩
abbrev main_v240 : Ref sig .tc := ⟨.hbm, 387, rfl⟩
abbrev main_v241 : Ref sig .tc := ⟨.hbm, 388, rfl⟩
abbrev main_cst_90 : Ref sig .tc := ⟨.hbm, 389, rfl⟩
abbrev main_v242 : Ref sig .tc := ⟨.hbm, 390, rfl⟩
abbrev main_v243 : Ref sig .tc := ⟨.hbm, 391, rfl⟩
abbrev main_v244 : Ref sig .tc := ⟨.hbm, 392, rfl⟩
abbrev main_cst_91 : Ref sig .tc := ⟨.hbm, 393, rfl⟩
abbrev main_v245 : Ref sig .tc := ⟨.hbm, 394, rfl⟩
abbrev main_v246 : Ref sig .tc := ⟨.hbm, 395, rfl⟩
abbrev main_v247 : Ref sig .tc := ⟨.hbm, 396, rfl⟩
abbrev main_cst_92 : Ref sig .tc := ⟨.hbm, 397, rfl⟩
abbrev main_v248 : Ref sig .tc := ⟨.hbm, 398, rfl⟩
abbrev main_v249 : Ref sig .tc := ⟨.hbm, 399, rfl⟩
abbrev main_v250 : Ref sig .tc := ⟨.hbm, 400, rfl⟩
abbrev main_cst_93 : Ref sig .tc := ⟨.hbm, 401, rfl⟩
abbrev main_v251 : Ref sig .tc := ⟨.hbm, 402, rfl⟩
abbrev main_v252 : Ref sig .tc := ⟨.hbm, 403, rfl⟩
abbrev main_cst_94 : Ref sig .tc := ⟨.hbm, 404, rfl⟩
abbrev main_v253 : Ref sig .tc := ⟨.hbm, 405, rfl⟩
abbrev main_v254 : Ref sig .tc := ⟨.hbm, 406, rfl⟩
abbrev main_v255 : Ref sig .tc := ⟨.hbm, 407, rfl⟩
abbrev main_cst_95 : Ref sig .tc := ⟨.hbm, 408, rfl⟩
abbrev main_v256 : Ref sig .tc := ⟨.hbm, 409, rfl⟩
abbrev main_v257 : Ref sig .tc := ⟨.hbm, 410, rfl⟩
abbrev main_v258 : Ref sig .tc := ⟨.hbm, 411, rfl⟩
abbrev main_cst_96 : Ref sig .tc := ⟨.hbm, 412, rfl⟩
abbrev main_v259 : Ref sig .tc := ⟨.hbm, 413, rfl⟩
abbrev main_v260 : Ref sig .tc := ⟨.hbm, 414, rfl⟩
abbrev main_v261 : Ref sig .tc := ⟨.hbm, 415, rfl⟩
abbrev main_cst_97 : Ref sig .tc := ⟨.hbm, 416, rfl⟩
abbrev main_v262 : Ref sig .tc := ⟨.hbm, 417, rfl⟩
abbrev main_v263 : Ref sig .tc := ⟨.hbm, 418, rfl⟩
abbrev main_cst_98 : Ref sig .tc := ⟨.hbm, 419, rfl⟩
abbrev main_v264 : Ref sig .tc := ⟨.hbm, 420, rfl⟩
abbrev main_v265 : Ref sig .tc := ⟨.hbm, 421, rfl⟩
abbrev main_cst_99 : Ref sig .tc := ⟨.hbm, 422, rfl⟩
abbrev main_v266 : Ref sig .tc := ⟨.hbm, 423, rfl⟩
abbrev main_v267 : Ref sig .tc := ⟨.hbm, 424, rfl⟩
abbrev main_v268 : Ref sig .tc := ⟨.hbm, 425, rfl⟩
abbrev main_cst_100 : Ref sig .tc := ⟨.hbm, 426, rfl⟩
abbrev main_v269 : Ref sig .tc := ⟨.hbm, 427, rfl⟩
abbrev main_v270 : Ref sig .tc := ⟨.hbm, 428, rfl⟩
abbrev main_v271 : Ref sig .tc := ⟨.hbm, 429, rfl⟩
abbrev main_cst_101 : Ref sig .tc := ⟨.hbm, 430, rfl⟩
abbrev main_v272 : Ref sig .tc := ⟨.hbm, 431, rfl⟩
abbrev main_v273 : Ref sig .tc := ⟨.hbm, 432, rfl⟩
abbrev main_v274 : Ref sig .tc := ⟨.hbm, 433, rfl⟩
abbrev main_cst_102 : Ref sig .tc := ⟨.hbm, 434, rfl⟩
abbrev main_v275 : Ref sig .tc := ⟨.hbm, 435, rfl⟩
abbrev main_v276 : Ref sig .tc := ⟨.hbm, 436, rfl⟩
abbrev main_cst_103 : Ref sig .tc := ⟨.hbm, 437, rfl⟩
abbrev main_v277 : Ref sig .tc := ⟨.hbm, 438, rfl⟩
abbrev main_v278 : Ref sig .tc := ⟨.hbm, 439, rfl⟩
abbrev main_v279 : Ref sig .tc := ⟨.hbm, 440, rfl⟩
abbrev main_cst_104 : Ref sig .tc := ⟨.hbm, 441, rfl⟩
abbrev main_v280 : Ref sig .tc := ⟨.hbm, 442, rfl⟩
abbrev main_v281 : Ref sig .tc := ⟨.hbm, 443, rfl⟩
abbrev main_v282 : Ref sig .tc := ⟨.hbm, 444, rfl⟩
abbrev main_cst_105 : Ref sig .tc := ⟨.hbm, 445, rfl⟩
abbrev main_v283 : Ref sig .tc := ⟨.hbm, 446, rfl⟩
abbrev main_v284 : Ref sig .tc := ⟨.hbm, 447, rfl⟩
abbrev main_v285 : Ref sig .tc := ⟨.hbm, 448, rfl⟩
abbrev main_cst_106 : Ref sig .tc := ⟨.hbm, 449, rfl⟩
abbrev main_v286 : Ref sig .tc := ⟨.hbm, 450, rfl⟩
abbrev main_v287 : Ref sig .tc := ⟨.hbm, 451, rfl⟩
abbrev main_cst_107 : Ref sig .tc := ⟨.hbm, 452, rfl⟩
abbrev main_v288 : Ref sig .tc := ⟨.hbm, 453, rfl⟩
abbrev main_v289 : Ref sig .tc := ⟨.hbm, 454, rfl⟩
abbrev main_cst_108 : Ref sig .tc := ⟨.hbm, 455, rfl⟩
abbrev main_v290 : Ref sig .tc := ⟨.hbm, 456, rfl⟩
abbrev main_v291 : Ref sig .tc := ⟨.hbm, 457, rfl⟩
abbrev main_v292 : Ref sig .tc := ⟨.hbm, 458, rfl⟩
abbrev main_cst_109 : Ref sig .tc := ⟨.hbm, 459, rfl⟩
abbrev main_v293 : Ref sig .tc := ⟨.hbm, 460, rfl⟩
abbrev main_v294 : Ref sig .tc := ⟨.hbm, 461, rfl⟩
abbrev main_v295 : Ref sig .tc := ⟨.hbm, 462, rfl⟩
abbrev main_cst_110 : Ref sig .tc := ⟨.hbm, 463, rfl⟩
abbrev main_v296 : Ref sig .tc := ⟨.hbm, 464, rfl⟩
abbrev main_v297 : Ref sig .tc := ⟨.hbm, 465, rfl⟩
abbrev main_v298 : Ref sig .tc := ⟨.hbm, 466, rfl⟩
abbrev main_cst_111 : Ref sig .tc := ⟨.hbm, 467, rfl⟩
abbrev main_v299 : Ref sig .tc := ⟨.hbm, 468, rfl⟩
abbrev main_v300 : Ref sig .tc := ⟨.hbm, 469, rfl⟩
abbrev main_cst_112 : Ref sig .tc := ⟨.hbm, 470, rfl⟩
abbrev main_v301 : Ref sig .tc := ⟨.hbm, 471, rfl⟩
abbrev main_v302 : Ref sig .tc := ⟨.hbm, 472, rfl⟩
abbrev main_v303 : Ref sig .tc := ⟨.hbm, 473, rfl⟩
abbrev main_cst_113 : Ref sig .tc := ⟨.hbm, 474, rfl⟩
abbrev main_v304 : Ref sig .tc := ⟨.hbm, 475, rfl⟩
abbrev main_v305 : Ref sig .tc := ⟨.hbm, 476, rfl⟩
abbrev main_v306 : Ref sig .tc := ⟨.hbm, 477, rfl⟩
abbrev main_cst_114 : Ref sig .tc := ⟨.hbm, 478, rfl⟩
abbrev main_v307 : Ref sig .tc := ⟨.hbm, 479, rfl⟩
abbrev main_v308 : Ref sig .tc := ⟨.hbm, 480, rfl⟩
abbrev main_v309 : Ref sig .tc := ⟨.hbm, 481, rfl⟩
abbrev main_cst_115 : Ref sig .tc := ⟨.hbm, 482, rfl⟩
abbrev main_v310 : Ref sig .tc := ⟨.hbm, 483, rfl⟩
abbrev main_v311 : Ref sig .tc := ⟨.hbm, 484, rfl⟩
abbrev main_cst_116 : Ref sig .tc := ⟨.hbm, 485, rfl⟩
abbrev main_v312 : Ref sig .tc := ⟨.hbm, 486, rfl⟩
abbrev main_v313 : Ref sig .tc := ⟨.hbm, 487, rfl⟩
abbrev main_cst_117 : Ref sig .tc := ⟨.hbm, 488, rfl⟩
abbrev main_v314 : Ref sig .tc := ⟨.hbm, 489, rfl⟩
abbrev main_v315 : Ref sig .tc := ⟨.hbm, 490, rfl⟩
abbrev main_v316 : Ref sig .tc := ⟨.hbm, 491, rfl⟩
abbrev main_cst_118 : Ref sig .tc := ⟨.hbm, 492, rfl⟩
abbrev main_v317 : Ref sig .tc := ⟨.hbm, 493, rfl⟩
abbrev main_v318 : Ref sig .tc := ⟨.hbm, 494, rfl⟩
abbrev main_v319 : Ref sig .tc := ⟨.hbm, 495, rfl⟩
abbrev main_cst_119 : Ref sig .tc := ⟨.hbm, 496, rfl⟩
abbrev main_v320 : Ref sig .tc := ⟨.hbm, 497, rfl⟩
abbrev main_v321 : Ref sig .tc := ⟨.hbm, 498, rfl⟩
abbrev main_v322 : Ref sig .tc := ⟨.hbm, 499, rfl⟩
abbrev main_cst_120 : Ref sig .tc := ⟨.hbm, 500, rfl⟩
abbrev main_v323 : Ref sig .tc := ⟨.hbm, 501, rfl⟩
abbrev main_v324 : Ref sig .tc := ⟨.hbm, 502, rfl⟩
abbrev main_cst_121 : Ref sig .tc := ⟨.hbm, 503, rfl⟩
abbrev main_v325 : Ref sig .tc := ⟨.hbm, 504, rfl⟩
abbrev main_v326 : Ref sig .tc := ⟨.hbm, 505, rfl⟩
abbrev main_v327 : Ref sig .tc := ⟨.hbm, 506, rfl⟩
abbrev main_cst_122 : Ref sig .tc := ⟨.hbm, 507, rfl⟩
abbrev main_v328 : Ref sig .tc := ⟨.hbm, 508, rfl⟩
abbrev main_v329 : Ref sig .tc := ⟨.hbm, 509, rfl⟩
abbrev main_v330 : Ref sig .tc := ⟨.hbm, 510, rfl⟩
abbrev main_cst_123 : Ref sig .tc := ⟨.hbm, 511, rfl⟩
abbrev main_v331 : Ref sig .tc := ⟨.hbm, 512, rfl⟩
abbrev main_v332 : Ref sig .tc := ⟨.hbm, 513, rfl⟩
abbrev main_v333 : Ref sig .tc := ⟨.hbm, 514, rfl⟩
abbrev main_cst_124 : Ref sig .tc := ⟨.hbm, 515, rfl⟩
abbrev main_v334 : Ref sig .tc := ⟨.hbm, 516, rfl⟩
abbrev main_v335 : Ref sig .tc := ⟨.hbm, 517, rfl⟩
abbrev main_v336 : Ref sig .tc := ⟨.hbm, 518, rfl⟩
abbrev main_v337 : Ref sig .tc := ⟨.hbm, 519, rfl⟩
abbrev main_c : Ref sig .tc := ⟨.hbm, 520, rfl⟩
abbrev main_call0_v0 : Ref sig .tc := ⟨.hbm, 521, rfl⟩
abbrev main_v338 : Ref sig .tc := ⟨.hbm, 522, rfl⟩
abbrev main_c_125 : Ref sig .tc := ⟨.hbm, 523, rfl⟩
abbrev main_call1_v0 : Ref sig .tc := ⟨.hbm, 524, rfl⟩
abbrev main_v339 : Ref sig .tc := ⟨.hbm, 525, rfl⟩
abbrev main_c_126 : Ref sig .tc := ⟨.hbm, 526, rfl⟩
abbrev main_call2_v0 : Ref sig .tc := ⟨.hbm, 527, rfl⟩
abbrev main_v340 : Ref sig .tc := ⟨.hbm, 528, rfl⟩
abbrev main_v341 : Ref sig .tc := ⟨.hbm, 529, rfl⟩
abbrev main_v342 : Ref sig .tc := ⟨.hbm, 530, rfl⟩
abbrev main_c_127 : Ref sig .tc := ⟨.hbm, 531, rfl⟩
abbrev main_call3_v0 : Ref sig .tc := ⟨.hbm, 532, rfl⟩
abbrev main_v343 : Ref sig .tc := ⟨.hbm, 533, rfl⟩
abbrev main_v344 : Ref sig .tc := ⟨.hbm, 534, rfl⟩
abbrev main_v345 : Ref sig .tc := ⟨.hbm, 535, rfl⟩
abbrev main_c_128 : Ref sig .tc := ⟨.hbm, 536, rfl⟩
abbrev main_call4_v0 : Ref sig .tc := ⟨.hbm, 537, rfl⟩
abbrev main_v346 : Ref sig .tc := ⟨.hbm, 538, rfl⟩
abbrev main_c_129 : Ref sig .tc := ⟨.hbm, 539, rfl⟩
abbrev main_call5_v0 : Ref sig .tc := ⟨.hbm, 540, rfl⟩
abbrev main_v347 : Ref sig .tc := ⟨.hbm, 541, rfl⟩
abbrev main_c_130 : Ref sig .tc := ⟨.hbm, 542, rfl⟩
abbrev main_call6_v0 : Ref sig .tc := ⟨.hbm, 543, rfl⟩
abbrev main_v348 : Ref sig .tc := ⟨.hbm, 544, rfl⟩
abbrev main_v349 : Ref sig .tc := ⟨.hbm, 545, rfl⟩
abbrev main_v350 : Ref sig .tc := ⟨.hbm, 546, rfl⟩
abbrev main_c_131 : Ref sig .tc := ⟨.hbm, 547, rfl⟩
abbrev main_call7_v0 : Ref sig .tc := ⟨.hbm, 548, rfl⟩
abbrev main_v351 : Ref sig .tc := ⟨.hbm, 549, rfl⟩
abbrev main_v352 : Ref sig .tc := ⟨.hbm, 550, rfl⟩
abbrev main_v353 : Ref sig .tc := ⟨.hbm, 551, rfl⟩
abbrev main_c_132 : Ref sig .tc := ⟨.hbm, 552, rfl⟩
abbrev main_call8_v0 : Ref sig .tc := ⟨.hbm, 553, rfl⟩
abbrev main_v354 : Ref sig .tc := ⟨.hbm, 554, rfl⟩
abbrev main_c_133 : Ref sig .tc := ⟨.hbm, 555, rfl⟩
abbrev main_call9_v0 : Ref sig .tc := ⟨.hbm, 556, rfl⟩
abbrev main_v355 : Ref sig .tc := ⟨.hbm, 557, rfl⟩
abbrev main_c_134 : Ref sig .tc := ⟨.hbm, 558, rfl⟩
abbrev main_call10_v0 : Ref sig .tc := ⟨.hbm, 559, rfl⟩
abbrev main_v356 : Ref sig .tc := ⟨.hbm, 560, rfl⟩
abbrev main_v357 : Ref sig .tc := ⟨.hbm, 561, rfl⟩
abbrev main_v358 : Ref sig .tc := ⟨.hbm, 562, rfl⟩
abbrev main_c_135 : Ref sig .tc := ⟨.hbm, 563, rfl⟩
abbrev main_call11_v0 : Ref sig .tc := ⟨.hbm, 564, rfl⟩
abbrev main_v359 : Ref sig .tc := ⟨.hbm, 565, rfl⟩
abbrev main_v360 : Ref sig .tc := ⟨.hbm, 566, rfl⟩
abbrev main_v361 : Ref sig .tc := ⟨.hbm, 567, rfl⟩
abbrev main_c_136 : Ref sig .tc := ⟨.hbm, 568, rfl⟩
abbrev main_call12_v0 : Ref sig .tc := ⟨.hbm, 569, rfl⟩
abbrev main_v362 : Ref sig .tc := ⟨.hbm, 570, rfl⟩
abbrev main_c_137 : Ref sig .tc := ⟨.hbm, 571, rfl⟩
abbrev main_call13_v0 : Ref sig .tc := ⟨.hbm, 572, rfl⟩
abbrev main_v363 : Ref sig .tc := ⟨.hbm, 573, rfl⟩
abbrev main_c_138 : Ref sig .tc := ⟨.hbm, 574, rfl⟩
abbrev main_call14_v0 : Ref sig .tc := ⟨.hbm, 575, rfl⟩
abbrev main_v364 : Ref sig .tc := ⟨.hbm, 576, rfl⟩
abbrev main_v365 : Ref sig .tc := ⟨.hbm, 577, rfl⟩
abbrev main_v366 : Ref sig .tc := ⟨.hbm, 578, rfl⟩
abbrev main_c_139 : Ref sig .tc := ⟨.hbm, 579, rfl⟩
abbrev main_call15_v0 : Ref sig .tc := ⟨.hbm, 580, rfl⟩
abbrev main_v367 : Ref sig .tc := ⟨.hbm, 581, rfl⟩

abbrev nD : Nat := 1
abbrev τ : Topo := Topo.v7x

variable {F : FTy → Type} [FloatOps F]
-- ==== AdamConv.lean ====
abbrev S4x31x64 : Shape := ⟨3, ![4, 31, 64]⟩
abbrev S4x4x192 : Shape := ⟨3, ![4, 4, 192]⟩
abbrev S1024 : Shape := ⟨1, ![1024]⟩
abbrev S7936 : Shape := ⟨1, ![7936]⟩
abbrev S3072 : Shape := ⟨1, ![3072]⟩
abbrev S12032 : Shape := ⟨1, ![12032]⟩
abbrev S94x128 : Shape := ⟨2, ![94, 128]⟩
abbrev S_ : Shape := ⟨0, ![]⟩
abbrev S256x128 : Shape := ⟨2, ![256, 128]⟩
abbrev S1x256x128 : Shape := ⟨3, ![1, 256, 128]⟩

abbrev nBuf : Space → Nat
  | .hbm => 45
  | .vmem => 8
  | .smem => 0
  | _ => 0

abbrev bufTy : (tb : Table) → Fin (tcTables nBuf tb) → BufTy
  | .hbm, ⟨0, _⟩ => ⟨S4x31x64, .f32⟩
  | .hbm, ⟨1, _⟩ => ⟨S4x4x192, .f32⟩
  | .hbm, ⟨2, _⟩ => ⟨S1024, .f32⟩
  | .hbm, ⟨3, _⟩ => ⟨S4x31x64, .f32⟩
  | .hbm, ⟨4, _⟩ => ⟨S4x4x192, .f32⟩
  | .hbm, ⟨5, _⟩ => ⟨S1024, .f32⟩
  | .hbm, ⟨6, _⟩ => ⟨S4x31x64, .f32⟩
  | .hbm, ⟨7, _⟩ => ⟨S4x4x192, .f32⟩
  | .hbm, ⟨8, _⟩ => ⟨S1024, .f32⟩
  | .hbm, ⟨9, _⟩ => ⟨S4x31x64, .f32⟩
  | .hbm, ⟨10, _⟩ => ⟨S4x4x192, .f32⟩
  | .hbm, ⟨11, _⟩ => ⟨S1024, .f32⟩
  | .hbm, ⟨12, _⟩ => ⟨S7936, .f32⟩
  | .hbm, ⟨13, _⟩ => ⟨S3072, .f32⟩
  | .hbm, ⟨14, _⟩ => ⟨S12032, .f32⟩
  | .hbm, ⟨15, _⟩ => ⟨S94x128, .f32⟩
  | .hbm, ⟨16, _⟩ => ⟨S_, .i32⟩
  | .hbm, ⟨17, _⟩ => ⟨S_, .f32⟩
  | .hbm, ⟨18, _⟩ => ⟨S256x128, .f32⟩
  | .hbm, ⟨19, _⟩ => ⟨S7936, .f32⟩
  | .hbm, ⟨20, _⟩ => ⟨S3072, .f32⟩
  | .hbm, ⟨21, _⟩ => ⟨S12032, .f32⟩
  | .hbm, ⟨22, _⟩ => ⟨S94x128, .f32⟩
  | .hbm, ⟨23, _⟩ => ⟨S_, .i32⟩
  | .hbm, ⟨24, _⟩ => ⟨S_, .f32⟩
  | .hbm, ⟨25, _⟩ => ⟨S256x128, .f32⟩
  | .hbm, ⟨26, _⟩ => ⟨S7936, .f32⟩
  | .hbm, ⟨27, _⟩ => ⟨S3072, .f32⟩
  | .hbm, ⟨28, _⟩ => ⟨S12032, .f32⟩
  | .hbm, ⟨29, _⟩ => ⟨S94x128, .f32⟩
  | .hbm, ⟨30, _⟩ => ⟨S_, .i32⟩
  | .hbm, ⟨31, _⟩ => ⟨S_, .f32⟩
  | .hbm, ⟨32, _⟩ => ⟨S256x128, .f32⟩
  | .hbm, ⟨33, _⟩ => ⟨S7936, .f32⟩
  | .hbm, ⟨34, _⟩ => ⟨S3072, .f32⟩
  | .hbm, ⟨35, _⟩ => ⟨S12032, .f32⟩
  | .hbm, ⟨36, _⟩ => ⟨S94x128, .f32⟩
  | .hbm, ⟨37, _⟩ => ⟨S_, .i32⟩
  | .hbm, ⟨38, _⟩ => ⟨S_, .f32⟩
  | .hbm, ⟨39, _⟩ => ⟨S256x128, .f32⟩
  | .hbm, ⟨40, _⟩ => ⟨S1x256x128, .f32⟩
  | .hbm, ⟨41, _⟩ => ⟨S256x128, .f32⟩
  | .hbm, ⟨42, _⟩ => ⟨S256x128, .f32⟩
  | .hbm, ⟨43, _⟩ => ⟨S256x128, .f32⟩
  | .hbm, ⟨44, _⟩ => ⟨S256x128, .f32⟩
  | .local _ .vmem, ⟨0, _⟩ => ⟨S1x256x128, .f32⟩
  | .local _ .vmem, ⟨1, _⟩ => ⟨S256x128, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | _, _ => ⟨S4x31x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_call0_v0 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_c_0 : Ref sig .tc := ⟨.hbm, 23, rfl⟩
abbrev main_call1_v0 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_c_1 : Ref sig .tc := ⟨.hbm, 30, rfl⟩
abbrev main_call2_v0 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_c_2 : Ref sig .tc := ⟨.hbm, 37, rfl⟩
abbrev main_call3_v0 : Ref sig .tc := ⟨.hbm, 38, rfl⟩
abbrev main_v19 : Ref sig .tc := ⟨.hbm, 39, rfl⟩
abbrev main_v20 : Ref sig .tc := ⟨.hbm, 40, rfl⟩
abbrev main_v21_0 : Ref sig .tc := ⟨.hbm, 41, rfl⟩
abbrev main_v21_1 : Ref sig .tc := ⟨.hbm, 42, rfl⟩
abbrev main_v21_2 : Ref sig .tc := ⟨.hbm, 43, rfl⟩
abbrev main_v21_3 : Ref sig .tc := ⟨.hbm, 44, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S1x256x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S256x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S256x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S256x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S256x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S256x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S256x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== AdamConvIdeal.lean ====
variable {F : FTy → Type} [FloatOps F] [Named F]
def κ : String → Option EReal := fun
  | "c1" => some ((8388608 / 5463681 : ℝ) : EReal)
  | "c2" => some ((268435456 / 2672307 : ℝ) : EReal)
  | _ => none
-- ==== RefAdamConvIdeal.lean ====
abbrev S4x31x64 : Shape := ⟨3, ![4, 31, 64]⟩
abbrev S4x4x192 : Shape := ⟨3, ![4, 4, 192]⟩
abbrev S1024 : Shape := ⟨1, ![1024]⟩
abbrev S_ : Shape := ⟨0, ![]⟩
abbrev S7936 : Shape := ⟨1, ![7936]⟩
abbrev S3072 : Shape := ⟨1, ![3072]⟩
abbrev S12032 : Shape := ⟨1, ![12032]⟩
abbrev S94x128 : Shape := ⟨2, ![94, 128]⟩
abbrev S256x128 : Shape := ⟨2, ![256, 128]⟩

abbrev nBuf : Space → Nat
  | .hbm => 139
  | .vmem => 0
  | .smem => 0
  | _ => 0

abbrev hbmTy0_0 (i : Nat) : BufTy := match i % 128 with
  | 0 => ⟨S4x31x64, .f32⟩
  | 1 => ⟨S4x4x192, .f32⟩
  | 2 => ⟨S1024, .f32⟩
  | 3 => ⟨S4x31x64, .f32⟩
  | 4 => ⟨S4x4x192, .f32⟩
  | 5 => ⟨S1024, .f32⟩
  | 6 => ⟨S4x31x64, .f32⟩
  | 7 => ⟨S4x4x192, .f32⟩
  | 8 => ⟨S1024, .f32⟩
  | 9 => ⟨S4x31x64, .f32⟩
  | 10 => ⟨S4x4x192, .f32⟩
  | 11 => ⟨S1024, .f32⟩
  | 12 => ⟨S_, .f32⟩
  | 13 => ⟨S4x31x64, .f32⟩
  | 14 => ⟨S4x31x64, .f32⟩
  | 15 => ⟨S_, .f32⟩
  | 16 => ⟨S4x31x64, .f32⟩
  | 17 => ⟨S4x31x64, .f32⟩
  | 18 => ⟨S4x31x64, .f32⟩
  | 19 => ⟨S_, .f32⟩
  | 20 => ⟨S4x31x64, .f32⟩
  | 21 => ⟨S4x31x64, .f32⟩
  | 22 => ⟨S4x31x64, .f32⟩
  | 23 => ⟨S_, .f32⟩
  | 24 => ⟨S4x31x64, .f32⟩
  | 25 => ⟨S4x31x64, .f32⟩
  | 26 => ⟨S4x31x64, .f32⟩
  | 27 => ⟨S_, .f32⟩
  | 28 => ⟨S4x31x64, .f32⟩
  | 29 => ⟨S4x31x64, .f32⟩
  | 30 => ⟨S_, .f32⟩
  | 31 => ⟨S4x31x64, .f32⟩
  | 32 => ⟨S4x31x64, .f32⟩
  | 33 => ⟨S4x31x64, .f32⟩
  | 34 => ⟨S_, .f32⟩
  | 35 => ⟨S4x31x64, .f32⟩
  | 36 => ⟨S4x31x64, .f32⟩
  | 37 => ⟨S4x31x64, .f32⟩
  | 38 => ⟨S_, .f32⟩
  | 39 => ⟨S4x31x64, .f32⟩
  | 40 => ⟨S4x31x64, .f32⟩
  | 41 => ⟨S4x31x64, .f32⟩
  | 42 => ⟨S_, .f32⟩
  | 43 => ⟨S4x31x64, .f32⟩
  | 44 => ⟨S4x31x64, .f32⟩
  | 45 => ⟨S_, .f32⟩
  | 46 => ⟨S4x4x192, .f32⟩
  | 47 => ⟨S4x4x192, .f32⟩
  | 48 => ⟨S_, .f32⟩
  | 49 => ⟨S4x4x192, .f32⟩
  | 50 => ⟨S4x4x192, .f32⟩
  | 51 => ⟨S4x4x192, .f32⟩
  | 52 => ⟨S_, .f32⟩
  | 53 => ⟨S4x4x192, .f32⟩
  | 54 => ⟨S4x4x192, .f32⟩
  | 55 => ⟨S4x4x192, .f32⟩
  | 56 => ⟨S_, .f32⟩
  | 57 => ⟨S4x4x192, .f32⟩
  | 58 => ⟨S4x4x192, .f32⟩
  | 59 => ⟨S4x4x192, .f32⟩
  | 60 => ⟨S_, .f32⟩
  | 61 => ⟨S4x4x192, .f32⟩
  | 62 => ⟨S4x4x192, .f32⟩
  | 63 => ⟨S_, .f32⟩
  | 64 => ⟨S4x4x192, .f32⟩
  | 65 => ⟨S4x4x192, .f32⟩
  | 66 => ⟨S4x4x192, .f32⟩
  | 67 => ⟨S_, .f32⟩
  | 68 => ⟨S4x4x192, .f32⟩
  | 69 => ⟨S4x4x192, .f32⟩
  | 70 => ⟨S4x4x192, .f32⟩
  | 71 => ⟨S_, .f32⟩
  | 72 => ⟨S4x4x192, .f32⟩
  | 73 => ⟨S4x4x192, .f32⟩
  | 74 => ⟨S4x4x192, .f32⟩
  | 75 => ⟨S_, .f32⟩
  | 76 => ⟨S4x4x192, .f32⟩
  | 77 => ⟨S4x4x192, .f32⟩
  | 78 => ⟨S_, .f32⟩
  | 79 => ⟨S1024, .f32⟩
  | 80 => ⟨S1024, .f32⟩
  | 81 => ⟨S_, .f32⟩
  | 82 => ⟨S1024, .f32⟩
  | 83 => ⟨S1024, .f32⟩
  | 84 => ⟨S1024, .f32⟩
  | 85 => ⟨S_, .f32⟩
  | 86 => ⟨S1024, .f32⟩
  | 87 => ⟨S1024, .f32⟩
  | 88 => ⟨S1024, .f32⟩
  | 89 => ⟨S_, .f32⟩
  | 90 => ⟨S1024, .f32⟩
  | 91 => ⟨S1024, .f32⟩
  | 92 => ⟨S1024, .f32⟩
  | 93 => ⟨S_, .f32⟩
  | 94 => ⟨S1024, .f32⟩
  | 95 => ⟨S1024, .f32⟩
  | 96 => ⟨S_, .f32⟩
  | 97 => ⟨S1024, .f32⟩
  | 98 => ⟨S1024, .f32⟩
  | 99 => ⟨S1024, .f32⟩
  | 100 => ⟨S_, .f32⟩
  | 101 => ⟨S1024, .f32⟩
  | 102 => ⟨S1024, .f32⟩
  | 103 => ⟨S1024, .f32⟩
  | 104 => ⟨S_, .f32⟩
  | 105 => ⟨S1024, .f32⟩
  | 106 => ⟨S1024, .f32⟩
  | 107 => ⟨S1024, .f32⟩
  | 108 => ⟨S_, .f32⟩
  | 109 => ⟨S1024, .f32⟩
  | 110 => ⟨S1024, .f32⟩
  | 111 => ⟨S7936, .f32⟩
  | 112 => ⟨S3072, .f32⟩
  | 113 => ⟨S12032, .f32⟩
  | 114 => ⟨S94x128, .f32⟩
  | 115 => ⟨S_, .i32⟩
  | 116 => ⟨S_, .f32⟩
  | 117 => ⟨S256x128, .f32⟩
  | 118 => ⟨S7936, .f32⟩
  | 119 => ⟨S3072, .f32⟩
  | 120 => ⟨S12032, .f32⟩
  | 121 => ⟨S94x128, .f32⟩
  | 122 => ⟨S_, .i32⟩
  | 123 => ⟨S_, .f32⟩
  | 124 => ⟨S256x128, .f32⟩
  | 125 => ⟨S7936, .f32⟩
  | 126 => ⟨S3072, .f32⟩
  | 127 => ⟨S12032, .f32⟩
  | _ => ⟨S4x31x64, .f32⟩

abbrev hbmTy0_1 (i : Nat) : BufTy := match i % 128 with
  | 0 => ⟨S94x128, .f32⟩
  | 1 => ⟨S_, .i32⟩
  | 2 => ⟨S_, .f32⟩
  | 3 => ⟨S256x128, .f32⟩
  | 4 => ⟨S7936, .f32⟩
  | 5 => ⟨S3072, .f32⟩
  | 6 => ⟨S12032, .f32⟩
  | 7 => ⟨S94x128, .f32⟩
  | 8 => ⟨S_, .i32⟩
  | 9 => ⟨S_, .f32⟩
  | 10 => ⟨S256x128, .f32⟩
  | _ => ⟨S4x31x64, .f32⟩

abbrev hbmTy (i : Nat) : BufTy := match i / 128 with
  | 0 => hbmTy0_0 i
  | 1 => hbmTy0_1 i
  | _ => ⟨S4x31x64, .f32⟩

abbrev bufTy : (tb : Table) → Fin (tcTables nBuf tb) → BufTy
  | .hbm, ⟨i, _⟩ => hbmTy i
  | _, _ => ⟨S4x31x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_v1 : Ref sig .tc := ⟨.hbm, 14, rfl⟩
abbrev main_cst_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_cst_1 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_2 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_3 : Ref sig .tc := ⟨.hbm, 27, rfl⟩
abbrev main_v11 : Ref sig .tc := ⟨.hbm, 28, rfl⟩
abbrev main_v12 : Ref sig .tc := ⟨.hbm, 29, rfl⟩
abbrev main_cst_4 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_cst_5 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_cst_6 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_cst_7 : Ref sig .tc := ⟨.hbm, 42, rfl⟩
abbrev main_v22 : Ref sig .tc := ⟨.hbm, 43, rfl⟩
abbrev main_v23 : Ref sig .tc := ⟨.hbm, 44, rfl⟩
abbrev main_cst_8 : Ref sig .tc := ⟨.hbm, 45, rfl⟩
abbrev main_v24 : Ref sig .tc := ⟨.hbm, 46, rfl⟩
abbrev main_v25 : Ref sig .tc := ⟨.hbm, 47, rfl⟩
abbrev main_cst_9 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_cst_10 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_cst_11 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_cst_12 : Ref sig .tc := ⟨.hbm, 60, rfl⟩
abbrev main_v35 : Ref sig .tc := ⟨.hbm, 61, rfl⟩
abbrev main_v36 : Ref sig .tc := ⟨.hbm, 62, rfl⟩
abbrev main_cst_13 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_cst_14 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_cst_15 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_cst_16 : Ref sig .tc := ⟨.hbm, 75, rfl⟩
abbrev main_v46 : Ref sig .tc := ⟨.hbm, 76, rfl⟩
abbrev main_v47 : Ref sig .tc := ⟨.hbm, 77, rfl⟩
abbrev main_cst_17 : Ref sig .tc := ⟨.hbm, 78, rfl⟩
abbrev main_v48 : Ref sig .tc := ⟨.hbm, 79, rfl⟩
abbrev main_v49 : Ref sig .tc := ⟨.hbm, 80, rfl⟩
abbrev main_cst_18 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_cst_19 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_cst_20 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_cst_21 : Ref sig .tc := ⟨.hbm, 93, rfl⟩
abbrev main_v59 : Ref sig .tc := ⟨.hbm, 94, rfl⟩
abbrev main_v60 : Ref sig .tc := ⟨.hbm, 95, rfl⟩
abbrev main_cst_22 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_cst_23 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_cst_24 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_cst_25 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_c : Ref sig .tc := ⟨.hbm, 115, rfl⟩
abbrev main_call0_v0 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_c_26 : Ref sig .tc := ⟨.hbm, 122, rfl⟩
abbrev main_call1_v0 : Ref sig .tc := ⟨.hbm, 123, rfl⟩
abbrev main_v81 : Ref sig .tc := ⟨.hbm, 124, rfl⟩
abbrev main_v82 : Ref sig .tc := ⟨.hbm, 125, rfl⟩
abbrev main_v83 : Ref sig .tc := ⟨.hbm, 126, rfl⟩
abbrev main_v84 : Ref sig .tc := ⟨.hbm, 127, rfl⟩
abbrev main_v85 : Ref sig .tc := ⟨.hbm, 128, rfl⟩
abbrev main_c_27 : Ref sig .tc := ⟨.hbm, 129, rfl⟩
abbrev main_call2_v0 : Ref sig .tc := ⟨.hbm, 130, rfl⟩
abbrev main_v86 : Ref sig .tc := ⟨.hbm, 131, rfl⟩
abbrev main_v87 : Ref sig .tc := ⟨.hbm, 132, rfl⟩
abbrev main_v88 : Ref sig .tc := ⟨.hbm, 133, rfl⟩
abbrev main_v89 : Ref sig .tc := ⟨.hbm, 134, rfl⟩
abbrev main_v90 : Ref sig .tc := ⟨.hbm, 135, rfl⟩
abbrev main_c_28 : Ref sig .tc := ⟨.hbm, 136, rfl⟩
abbrev main_call3_v0 : Ref sig .tc := ⟨.hbm, 137, rfl⟩
abbrev main_v91 : Ref sig .tc := ⟨.hbm, 138, rfl⟩

abbrev nD : Nat := 1
abbrev τ : Topo := Topo.v7x

variable {F : FTy → Type} [FloatOps F]
-- ==== Proof.Gmlp.Spec.lean ====
/-
  The gradient of the gating on ONE head of 64 lanes and ONE chunk of 128 tokens, as plain functions over the extended
  reals, written in the order in which the kernel computes it. Both the kernel and the reference are read down to these.

  A head is given by its rows: `u t p`, `v t p` the two halves of the projection and `d t p` the cotangent at token `t`
  of the chunk and lane `p`; `g p`, `b p` scale and shift of the norm; `w t s` the position weights with the upper triangle
  already zero; `e t p` the position bias.
-/
module

public import Idealize.ShloMosaic.PureOps.Ideal.Laws

@[expose] public section

noncomputable section

namespace Cert.Gmlp

open Idealize.ShloMosaic

/-! ## The literals -/

abbrev half : EReal := Ideal.ofBits .f32 0x3F000000#32
abbrev mhalf : EReal := Ideal.ofBits .f32 0xBF000000#32
abbrev rt2 : EReal := Ideal.ofBits .f32 0x3F3504F3#32
abbrev k64 : EReal := Ideal.ofBits .f32 0x3C800000#32
abbrev eps : EReal := Ideal.ofBits .f32 0x3727C5AC#32
abbrev tsp : EReal := Ideal.ofBits .f32 0x3F906EBB#32

/-! ## One value -/

/-- `gelu x`. -/
def gl (x : EReal) : EReal := half * x * (1 + Ideal.erf (x * rt2))

/-- The gradient of `gelu` at `x` times `d`. -/
def dgl (x d : EReal) : EReal :=
  tsp * (half * x * d) * Ideal.exp (0 - x * rt2 * (x * rt2)) * rt2 + half * (d * (1 + Ideal.erf (x * rt2)))

/-! ## One row of a head: the norm and its gradient -/

/-- The centred row. -/
def cen (a : Fin 64 → EReal) (p : Fin 64) : EReal := a p - (∑ k, a k) * k64

/-- 64 times the variance. -/
def sq (a : Fin 64 → EReal) : EReal := ∑ k, cen a k * cen a k

/-- The variance plus epsilon. -/
def vr (a : Fin 64 → EReal) : EReal := sq a * k64 + eps

/-- Its reciprocal root. -/
def rs (a : Fin 64 → EReal) : EReal := Ideal.rsqrt (vr a)

/-- The derivative of the reciprocal root. -/
def cf (a : Fin 64 → EReal) : EReal := mhalf * Ideal.div (rs a) (vr a)

/-- The normalised row. -/
def nrm (a : Fin 64 → EReal) (p : Fin 64) : EReal := cen a p * rs a

/-- What comes back through the variance at the row, for the cotangent `f` of the normalised row. -/
def vsum (a f : Fin 64 → EReal) : EReal := ∑ k, cen a k * f k * cf a * k64

/-- The gradient of the centred row. -/
def dcen (a f : Fin 64 → EReal) (p : Fin 64) : EReal :=
  f p * rs a + cen a p * vsum a f + vsum a f * cen a p

/-- The gradient of the row. -/
def drow (a f : Fin 64 → EReal) (p : Fin 64) : EReal := dcen a f p + ∑ k, (0 - dcen a f k) * k64

/-! ## One head of one chunk -/

section Head

variable (u v d : Fin 128 → Fin 64 → EReal) (g b : Fin 64 → EReal) (w : Fin 128 → Fin 128 → EReal) (e : Fin 128 → Fin 64 → EReal)

/-- The row of gelu values of `v` at a token. -/
def gv (t : Fin 128) (p : Fin 64) : EReal := gl (v t p)

/-- The norm's output. -/
def vn (t : Fin 128) (p : Fin 64) : EReal := nrm (gv v t) p * g p + b p

/-- The cotangent of the mix. -/
def dmix (t : Fin 128) (p : Fin 64) : EReal := gl (u t p) * d t p

/-- The cotangent of `gelu u`. -/
def dgu (t : Fin 128) (p : Fin 64) : EReal := d t p * ((∑ s, w t s * vn v g b s p) + e t p)

/-- The cotangent of the norm's output. -/
def dvn (s : Fin 128) (p : Fin 64) : EReal := ∑ t, w t s * dmix u d t p

/-- The gradient of `u`. -/
def du (t : Fin 128) (p : Fin 64) : EReal := dgl (u t p) (dgu v d g b w e t p)

/-- The gradient of `v`. -/
def dv (t : Fin 128) (p : Fin 64) : EReal :=
  dgl (v t p) (drow (gv v t) (fun k => dvn u d w t k * g k) p)

/-- The chunk's part of the gradient of the scale. -/
def dg (p : Fin 64) : EReal := ∑ t, nrm (gv v t) p * dvn u d w t p

/-- The chunk's part of the gradient of the shift. -/
def db (p : Fin 64) : EReal := ∑ t, dvn u d w t p

/-- The chunk's part of the gradient of the position weights. -/
def dw (t s : Fin 128) : EReal := if s ≤ t then ∑ p, dmix u d t p * vn v g b s p else 0

end Head

end Cert.Gmlp

end
-- ==== Proof.Gmlp.Pair.lean ====
/-
  What one pair of heads computes, read at an index. The body treats the eight heads two at a time, 128 lanes wide, and
  keeps the two apart by selects on the lane; each value below is the value of ONE head (Spec.lean) at its own lanes.
-/
module

public import proofs.«01_k».proof.Proof.Gmlp.Spec
public import proofs.«01_k».proof.Proof.Gen.KernelIdeal.Skeleton
public import Idealize.ShloMosaic.Lib.Pointwise

@[expose] public section

set_option maxRecDepth 16384

noncomputable section

namespace Cert.Gmlp

open Cert.KernelIdeal Cert.KernelIdeal.Gen
open Idealize.ShloMosaic Idealize.ShloMosaic.TcCoe Idealize.ShloMosaic.Tactic

/-! ## Lanes -/

/-- Lane `p` of head `a` of a pair. -/
def lane (a : Fin 2) (p : Fin 64) : Fin 128 := ⟨64 * a + p, by omega⟩

theorem exists_lane (l : Fin 128) : ∃ a p, l = lane a p :=
  ⟨⟨l / 64, by omega⟩, ⟨l % 64, by omega⟩, Fin.ext (by simp only [lane]; omega)⟩

/-- A sum over the 128 lanes is the two heads' sums. -/
theorem sum_lanes (f : Fin 128 → EReal) : ∑ l, f l = ∑ p, f (lane 0 p) + ∑ p, f (lane 1 p) := by
  rw [Fin.sum_univ_two_halves 64 64 rfl f]
  congr 1 <;> refine Finset.sum_congr rfl fun p _ => congrArg f (Fin.ext ?_) <;> simp [lane]

/-- The mask of the lower head. -/
abbrev lo : IVec S128x128 1 := k0_pay15

theorem lo_zero (t : Fin 128) (p : Fin 64) : lo (ix2 t (lane 0 p)) = 1#1 := by
  have h : ∀ p : Fin 64, Scalar.cmpi .slt (BitVec.ofNat 32 (lane 0 p).val) 64#32 = 1#1 := by decide +kernel
  unfold lo k0_pay15; pointwise; exact h p

theorem lo_one (t : Fin 128) (p : Fin 64) : lo (ix2 t (lane 1 p)) = 0#1 := by
  have h : ∀ p : Fin 64, Scalar.cmpi .slt (BitVec.ofNat 32 (lane 1 p).val) 64#32 = 0#1 := by decide +kernel
  unfold lo k0_pay15; pointwise; exact h p

theorem pay26_eq : k0_pay26 = lo := rfl

theorem sum_lo (t : Fin 128) (f : Fin 128 → EReal) :
    ∑ l, Scalar.select (lo (ix2 t l)) (f l) 0 = ∑ p, f (lane 0 p) := by
  rw [sum_lanes]; simp [lo_zero, lo_one, Scalar.select]

theorem sum_hi (t : Fin 128) (f : Fin 128 → EReal) :
    ∑ l, Scalar.select (lo (ix2 t l)) 0 (f l) = ∑ p, f (lane 1 p) := by
  rw [sum_lanes]; simp [lo_zero, lo_one, Scalar.select]

/-- The lower triangle. -/
theorem tril_apply (t s : Fin 128) : k0_pay16 (ix2 t s) = if s ≤ t then 1#1 else 0#1 := by
  have h : ∀ t s : Fin 128, Scalar.cmpi .sge (BitVec.ofNat 32 t.val) (BitVec.ofNat 32 s.val) = if s ≤ t then 1#1 else 0#1 := by
    decide +kernel
  unfold k0_pay16; pointwise; exact h t s

/-! ## The norm -/

abbrev B128 := Vec Ideal S128x128 .bf16
abbrev V128 := FVec Ideal S128x128 .f32
abbrev R128 := Vec Ideal S1x128 .f32
abbrev W128 := Vec Ideal S1x128x128 .f32

/-- The constant the pairs share. -/
abbrev halfW : Ideal .f32 := Ideal.ofBits .f32 0x3F000000#32

/-- The centred rows of gelu values, and 64 times their variances. -/
abbrev kCen (xv : B128) : V128 := k0_pay27 (k0_pay10 xv) halfW
abbrev kSq (xv : B128) : V128 := k0_pay28 (k0_pay10 xv) halfW

theorem cen_apply (xv : B128) (t : Fin 128) (a : Fin 2) (p : Fin 64) :
    kCen xv (ix2 t (lane a p)) = cen (gv (fun t p => xv (ix2 t (lane a p))) t) p := by
  unfold kCen k0_pay27
  pointwise
  simp only [pay26_eq]
  rw [sum_lo t fun l => k0_pay22 (k0_pay10 xv) halfW (ix2 t l) * k0_pay25 (k0_pay10 xv) (ix2 t l),
    sum_hi t fun l => k0_pay22 (k0_pay10 xv) halfW (ix2 t l) * k0_pay25 (k0_pay10 xv) (ix2 t l)]
  have h : ∀ l, k0_pay22 (k0_pay10 xv) halfW (ix2 t l) * k0_pay25 (k0_pay10 xv) (ix2 t l) = gl (xv (ix2 t l)) := by
    intro l; unfold_payloads; pointwise; rfl
  simp only [h]
  match a with
  | 0 => rw [lo_zero]; rfl
  | 1 => rw [lo_one]; rfl

theorem sq_apply (xv : B128) (t : Fin 128) (a : Fin 2) (p : Fin 64) :
    kSq xv (ix2 t (lane a p)) = sq (gv (fun t p => xv (ix2 t (lane a p))) t) := by
  unfold kSq k0_pay28
  pointwise
  simp only [pay26_eq]
  rw [sum_lo t fun l => kCen xv (ix2 t l) * kCen xv (ix2 t l), sum_hi t fun l => kCen xv (ix2 t l) * kCen xv (ix2 t l)]
  simp only [cen_apply]
  match a with
  | 0 => rw [lo_zero]; rfl
  | 1 => rw [lo_one]; rfl

end Cert.Gmlp

end
-- ==== Proof.Gmlp.Stage.lean ====
/-
  The pair's results read at an index: the gradient of the two halves of the projection, and what the pair adds to the
  gradients of the norm's scale and shift, of the position weights and of the position bias.
-/
module

public import proofs.«01_k».proof.Proof.Gmlp.Pair

@[expose] public section

set_option maxRecDepth 16384

noncomputable section

namespace Cert.Gmlp

open Cert.KernelIdeal Cert.KernelIdeal.Gen
open Idealize.ShloMosaic Idealize.ShloMosaic.TcCoe Idealize.ShloMosaic.Tactic

/-! ## The pair's values, as the body composes them -/

section Defs

variable (xu xv ct : B128) (g b : R128) (wa wb : W128) (bias : Vec Ideal S128x128 .f32)

abbrev kVn : V128 := k0_pay34 (k0_pay11 g) (k0_pay12 b) (kCen xv) (kSq xv) k0_pay29
abbrev kDmix : V128 := k0_pay38 (k0_pay21 xu) ct
abbrev kDvn : V128 := k0_pay45 (k0_pay13 wa) (k0_pay14 wb) lo k0_pay16 (k0_pay21 xu) ct
abbrev kDgu : V128 :=
  k0_pay39 (k0_pay11 g) (k0_pay12 b) (k0_pay13 wa) (k0_pay14 wb) bias lo k0_pay16 (kCen xv) (kSq xv) k0_pay29 ct
def kDu : B128 := k0_pay54 (k0_pay17 xu) (k0_pay19 xu) (k0_pay20 xu) (kDgu xv ct g b wa wb bias)
abbrev kR : V128 := k0_pay31 (kSq xv) k0_pay29
abbrev kCf : V128 := k0_pay32 (kSq xv) k0_pay29
abbrev kDx : V128 := k0_pay49 (k0_pay11 g) lo (kCen xv) (kR xv) (kCf xv) (kDvn xu ct wa wb)
def kDv : B128 :=
  k0_pay55 (k0_pay22 (k0_pay10 xv) halfW) (k0_pay24 (k0_pay10 xv)) (k0_pay25 (k0_pay10 xv)) lo (kDx xu xv ct g wa wb)
    (k0_pay52 (k0_pay11 g) lo (kCen xv) (kR xv) (kCf xv) (kDvn xu ct wa wb))
    (k0_pay53 (k0_pay11 g) lo (kCen xv) (kR xv) (kCf xv) (kDvn xu ct wa wb))
def kDg (old : R128) : R128 := k0_pay56 (k0_pay48 (k0_pay33 (kCen xv) (kSq xv) k0_pay29) (kDvn xu ct wa wb)) old
def kDb (old : R128) : R128 := k0_pay57 (k0_pay47 (kDvn xu ct wa wb)) old
def kDwa (old : W128) : W128 :=
  k0_pay58 (k0_pay46 k0_pay16 (k0_pay44 (k0_pay11 g) (k0_pay12 b) lo (k0_pay21 xu) (kCen xv) (kSq xv) k0_pay29 ct)) old
def kDwb (old : W128) : W128 :=
  k0_pay59 (k0_pay43 (k0_pay11 g) (k0_pay12 b) lo k0_pay16 (k0_pay21 xu) (kCen xv) (kSq xv) k0_pay29 ct) old
def kDe (old : Vec Ideal S128x128 .f32) : Vec Ideal S128x128 .f32 := k0_pay60 (kDmix xu ct) old

end Defs

/-! ## One head's rows of the pair's arrays -/

/-- The rows of head `a`. -/
abbrev row (x : S128x128.Idx → EReal) (a : Fin 2) (t : Fin 128) (p : Fin 64) : EReal := x (ix2 t (lane a p))

/-- The lanes of head `a` of a row vector. -/
abbrev row1 (x : R128) (a : Fin 2) (p : Fin 64) : EReal := x (ix2 0 (lane a p))

/-- The position weights of head `a`, masked. -/
abbrev wts (wa wb : W128) (a : Fin 2) (t s : Fin 128) : EReal :=
  if s ≤ t then (match a with | 0 => wa (ix3 0 t s) | 1 => wb (ix3 0 t s)) else 0

variable (xu xv ct : B128) (g b : R128) (wa wb : W128) (bias : Vec Ideal S128x128 .f32)
variable (t s : Fin 128) (a : Fin 2) (p : Fin 64)

theorem select_ite {α : Type} (c : Prop) [Decidable c] (x y : α) :
    Scalar.select (if c then 1#1 else 0#1) x y = if c then x else y := by
  by_cases h : c <;> simp [h, Scalar.select]

theorem gelu_apply : k0_pay21 xu (ix2 t s) = gl (xu (ix2 t s)) := by
  unfold_payloads; pointwise; rfl

theorem vn_apply : kVn xv g b (ix2 t (lane a p)) = vn (row xv a) (row1 g a) (row1 b a) t p := by
  unfold kVn k0_pay34 k0_pay33 k0_pay31 k0_pay30 k0_pay29 k0_pay11 k0_pay12
  pointwise
  erw [cen_apply, sq_apply]
  rfl

theorem dmix_apply : kDmix xu ct (ix2 t s) = gl (xu (ix2 t s)) * ct (ix2 t s) := by
  unfold kDmix k0_pay38 k0_pay37
  pointwise
  rw [gelu_apply]

theorem select_one {α : Type} (x y : α) : Scalar.select (1#1) x y = x := rfl

theorem select_zero {α : Type} (x y : α) : Scalar.select (0#1) x y = y := rfl

theorem dvn_apply : kDvn xu ct wa wb (ix2 s (lane a p)) = dvn (row xu a) (row ct a) (wts wa wb a) s p := by
  unfold kDvn k0_pay45 k0_pay36 k0_pay35 k0_pay41 k0_pay42 k0_pay40 k0_pay13 k0_pay14
  pointwise
  simp only [dmix_apply, tril_apply, select_ite]
  match a with
  | 0 => simp only [lo_zero, select_one, select_zero, Finset.sum_const_zero, zero_add, dvn, dmix, ite_mul, zero_mul]
  | 1 => simp only [lo_one, select_one, select_zero, Finset.sum_const_zero, add_zero, dvn, dmix, ite_mul, zero_mul]

theorem dgu_apply : kDgu xv ct g b wa wb bias (ix2 t (lane a p))
    = dgu (row xv a) (row ct a) (row1 g a) (row1 b a) (wts wa wb a) (row bias a) t p := by
  unfold kDgu k0_pay39 k0_pay36 k0_pay35 k0_pay37 k0_pay13 k0_pay14
  pointwise
  simp only [vn_apply, tril_apply, select_ite]
  match a with
  | 0 => simp only [lo_zero, select_one, dgu, ite_mul, zero_mul]
  | 1 => simp only [lo_one, select_zero, dgu, ite_mul, zero_mul]

theorem du_apply : kDu xu xv ct g b wa wb bias (ix2 t (lane a p))
    = du (row xu a) (row xv a) (row ct a) (row1 g a) (row1 b a) (wts wa wb a) (row bias a) t p := by
  unfold kDu k0_pay54 k0_pay17 k0_pay20 k0_pay19 k0_pay18 k0_pay9
  pointwise
  rw [dgu_apply]
  rfl

theorem rs_apply : kR xv (ix2 t (lane a p)) = rs (gv (row xv a) t) := by
  unfold kR k0_pay31 k0_pay30 k0_pay29
  pointwise
  erw [sq_apply]
  rfl

theorem cf_apply : kCf xv (ix2 t (lane a p)) = cf (gv (row xv a) t) := by
  unfold kCf k0_pay32 k0_pay31 k0_pay30 k0_pay29
  pointwise
  erw [sq_apply]
  rfl

theorem nrm_apply : k0_pay33 (kCen xv) (kSq xv) k0_pay29 (ix2 t (lane a p)) = nrm (gv (row xv a) t) p := by
  unfold k0_pay33
  pointwise
  rw [show k0_pay31 (kSq xv) k0_pay29 (ix2 t (lane a p)) = _ from rs_apply xv t a p, cen_apply]
  rfl

theorem dx_apply : kDx xu xv ct g wa wb (ix2 t (lane a p))
    = dcen (gv (row xv a) t) (fun k => dvn (row xu a) (row ct a) (wts wa wb a) t k * row1 g a k) p := by
  unfold kDx k0_pay49 k0_pay11
  pointwise
  rw [sum_hi t fun x => kCen xv (ix2 t x) * (kDvn xu ct wa wb (ix2 t x) * g (ix2 0 x)) * kCf xv (ix2 t x) * k64,
    sum_lo t fun x => kCen xv (ix2 t x) * (kDvn xu ct wa wb (ix2 t x) * g (ix2 0 x)) * kCf xv (ix2 t x) * k64]
  simp only [cen_apply, cf_apply, rs_apply, dvn_apply, Finset.univ_unique, Finset.sum_singleton]
  match a with
  | 0 => simp only [lo_zero, select_one, zero_add]; rfl
  | 1 => simp only [lo_one, select_zero, add_zero]; rfl

theorem dv_apply : kDv xu xv ct g wa wb (ix2 t (lane a p))
    = dv (row xu a) (row xv a) (row ct a) (row1 g a) (wts wa wb a) t p := by
  unfold kDv k0_pay55 k0_pay52 k0_pay53 k0_pay50 k0_pay51 k0_pay22 k0_pay24 k0_pay25 k0_pay23 k0_pay10
  pointwise
  rw [sum_hi t fun x => (0 - kDx xu xv ct g wa wb (ix2 t x)) * k64,
    sum_lo t fun x => (0 - kDx xu xv ct g wa wb (ix2 t x)) * k64]
  simp only [dx_apply, Finset.univ_unique, Finset.sum_singleton]
  match a with
  | 0 => simp only [lo_zero, select_one, add_zero]; rfl
  | 1 => simp only [lo_one, select_zero, add_zero]; rfl

theorem dg_apply (old : R128) : kDg xu xv ct wa wb old (ix2 0 (lane a p))
    = old (ix2 0 (lane a p)) + dg (row xu a) (row xv a) (row ct a) (wts wa wb a) p := by
  unfold kDg k0_pay56 k0_pay48
  pointwise
  simp only [nrm_apply, dvn_apply]
  rfl

theorem db_apply (old : R128) : kDb xu ct wa wb old (ix2 0 (lane a p))
    = old (ix2 0 (lane a p)) + db (row xu a) (row ct a) (wts wa wb a) p := by
  unfold kDb k0_pay57 k0_pay47
  pointwise
  simp only [dvn_apply]
  rfl

theorem de_apply (old : Vec Ideal S128x128 .f32) : kDe xu ct old (ix2 t (lane a p))
    = old (ix2 t (lane a p)) + dmix (row xu a) (row ct a) t p := by
  unfold kDe k0_pay60
  pointwise
  rw [dmix_apply]
  rfl

theorem dwa_apply (old : W128) : kDwa xu xv ct g b old (ix3 0 t s)
    = old (ix3 0 t s) + dw (row xu 0) (row xv 0) (row ct 0) (row1 g 0) (row1 b 0) t s := by
  unfold kDwa k0_pay58 k0_pay46 k0_pay44 k0_pay42 k0_pay40
  pointwise
  rw [sum_lo t fun x => kDmix xu ct (ix2 t x) * kVn xv g b (ix2 s x)]
  simp only [dmix_apply, vn_apply, tril_apply, select_ite]
  rfl

theorem dwb_apply (old : W128) : kDwb xu xv ct g b old (ix3 0 t s)
    = old (ix3 0 t s) + dw (row xu 1) (row xv 1) (row ct 1) (row1 g 1) (row1 b 1) t s := by
  unfold kDwb k0_pay59 k0_pay43 k0_pay41 k0_pay40
  pointwise
  rw [sum_hi t fun x => kDmix xu ct (ix2 t x) * kVn xv g b (ix2 s x)]
  simp only [dmix_apply, vn_apply, tril_apply, select_ite]
  rfl

end Cert.Gmlp

end
-- ==== Proof.Gmlp.Meet.lean ====
/-
  The five results as functions of the arguments: what both programs are read down to. The tokens are 32 chunks of 128;
  the columns 1024 to 2048 of the projection hold `u` and `v`, eight heads of 64 lanes each.
-/
module

public import proofs.«01_k».proof.Proof.Gmlp.Spec
public import Idealize.ShloMosaic.Lib.ValueIdxCore

@[expose] public section

noncomputable section

namespace Cert.Gmlp

open Idealize.ShloMosaic Idealize.ShloMosaic.ValueIdx

/-- An array of extended reals of two, one and three axes. -/
abbrev A1 (n : ℕ) := (⟨1, ![n]⟩ : Shape).Idx → EReal
abbrev A2 (n k : ℕ) := (⟨2, ![n, k]⟩ : Shape).Idx → EReal
abbrev A3 (n k l : ℕ) := (⟨3, ![n, k, l]⟩ : Shape).Idx → EReal

/-- Token `t` of chunk `i`. -/
abbrev tkn (i : Fin 32) (t : Fin 128) : Fin 4096 := ⟨128 * i.val + t.val, by omega⟩

/-- The head and the lane of a column. -/
abbrev ch (k : ℕ) : Fin 8 := ⟨k / 64 % 8, by omega⟩
abbrev cl (k : ℕ) : Fin 64 := ⟨k % 64, by omega⟩

/-- The chunk of a token, and the token's place in it. -/
abbrev chunk (k : Fin 4096) : Fin 32 := ⟨k.val / 128, by omega⟩
abbrev place (k : Fin 4096) : Fin 128 := ⟨k.val % 128, by omega⟩

section

variable (a0 a6 : A2 4096 4608) (g b : A1 512) (w : A3 8 128 128) (e : A2 8 128) (y : A2 4096 2048)
variable (i : Fin 32) (h : Fin 8) (t s : Fin 128) (p : Fin 64)

/-! ## One head of one chunk -/

def mu : EReal := a0 (ix2 (tkn i t) ⟨1024 + (64 * h.val + p.val), by omega⟩)
def mv : EReal := a0 (ix2 (tkn i t) ⟨1024 + (512 + (64 * h.val + p.val)), by omega⟩)
def mc : EReal := y (ix2 (tkn i t) ⟨512 + (64 * h.val + p.val), by omega⟩)
def mr : EReal := g (ix1 ⟨64 * h.val + p.val, by omega⟩)
def mw : EReal := if s ≤ t then w (ix3 h t s) else 0
def me : EReal := e (ix2 h t)

/-! ## The gradients there -/

def mdu : EReal := du (mu a0 i h) (mv a0 i h) (mc y i h) (mr g h) (mr b h) (mw w h) (fun t _ => me e h t) t p
def mdv : EReal := dv (mu a0 i h) (mv a0 i h) (mc y i h) (mr g h) (mw w h) t p
def mdg : EReal := dg (mu a0 i h) (mv a0 i h) (mc y i h) (mw w h) p
def mdb : EReal := db (mu a0 i h) (mc y i h) (mw w h) p
def mdw : EReal := dw (mu a0 i h) (mv a0 i h) (mc y i h) (mr g h) (mr b h) t s
def mde : EReal := dmix (mu a0 i h) (mc y i h) t p

end

/-! ## The results -/

section

variable (a0 a6 : A2 4096 4608) (g b : A1 512) (w : A3 8 128 128) (e : A2 8 128) (y : A2 4096 2048)

/-- The projection's gradient: `a6` outside the columns of `u` and `v`. -/
def res0 : A2 4096 4608 := fun z =>
  if (z 1).val < 1024 ∨ 2048 ≤ (z 1).val then a6 z
  else if (z 1).val - 1024 < 512 then
    mdu a0 g b w e y (chunk (z 0)) (ch ((z 1).val - 1024)) (place (z 0)) (cl ((z 1).val - 1024))
  else mdv a0 g w y (chunk (z 0)) (ch ((z 1).val - 1024)) (place (z 0)) (cl ((z 1).val - 1024))

/-- The scale's gradient, in row 0. -/
def res1 : A2 8 512 := fun z => ∑ i, if (z 0).val = 0 then mdg a0 w y i (ch (z 1).val) (cl (z 1).val) else 0

/-- The shift's gradient, in row 0. -/
def res2 : A2 8 512 := fun z => ∑ i, if (z 0).val = 0 then mdb a0 w y i (ch (z 1).val) (cl (z 1).val) else 0

/-- The position weights' gradient. -/
def res3 : A3 8 128 128 := fun z => ∑ i, mdw a0 g b y i (z 0) (z 1) (z 2)

/-- The position bias's gradient. -/
def res4 : A2 128 8 := fun z => ∑ p, ∑ i, mde a0 y i (z 1) (z 0) p

end

end Cert.Gmlp

end
-- ==== Proof.Gmlp.Load.lean ====
/-
  What one grid point loads for a pair of heads, and what it stores for it: the pieces of each output, pair by pair,
  and the loads read at one head.
-/
module

public import proofs.«01_k».proof.Proof.Gmlp.Stage
public import proofs.«01_k».proof.Proof.Gmlp.Meet
public import Idealize.ShloMosaic.Lib.Pipeline.ReadBack

@[expose] public section

set_option maxRecDepth 16384

noncomputable section

namespace Cert.Gmlp

open Cert.KernelIdeal Cert.KernelIdeal.Gen
open Idealize.ShloMosaic Idealize.ShloMosaic.TcCoe Idealize.ShloMosaic.Tactic

/-- Where pair `q`'s columns start. -/
abbrev at2 (o : ℕ) (q : Fin 4) : Fin 2 → ℕ := ![0, o + 128 * q.val]

theorem inb1024 (o : ℕ) (ho : o ≤ 512) (q : Fin 4) : ∀ a, at2 o q a + S128x128.size a ≤ S128x1024.size a := by
  intro a; have := q.isLt; fin_cases a <;> simp [S128x128, S128x1024] <;> omega

theorem inb512 (q : Fin 4) : ∀ a, at2 0 q a + S128x128.size a ≤ S128x512.size a := by
  intro a; have := q.isLt; fin_cases a <;> simp [S128x128, S128x512] <;> omega

theorem inbRow (q : Fin 4) : ∀ a, at2 0 q a + S1x128.size a ≤ S1x512.size a := by
  intro a; have := q.isLt; fin_cases a <;> simp [S1x128, S1x512] <;> omega

theorem inbAcc (q : Fin 4) : ∀ a, at2 0 q a + S1x128.size a ≤ S8x512.size a := by
  intro a; have := q.isLt; fin_cases a <;> simp [S1x128, S8x512] <;> omega

abbrev at3 (k : ℕ) (q : Fin 4) : Fin 3 → ℕ := ![2 * q.val + k, 0, 0]

theorem inbW (k : ℕ) (hk : k ≤ 1) (q : Fin 4) : ∀ a, at3 k q a + S1x128x128.size a ≤ S8x128x128.size a := by
  intro a; have := q.isLt; fin_cases a <;> simp [S1x128x128, S8x128x128] <;> omega

section Loads

variable (x0 : Vec Ideal S128x1024 .bf16) (x1 x2 : Vec Ideal S1x512 .f32) (x3 : Vec Ideal S8x128x128 .f32)
variable (x5 : Vec Ideal S128x512 .bf16) (bs : Vec Ideal S128x512 .f32) (q : Fin 4)

/-- Pair `q`'s columns of the first half, of the second half and of the cotangent; its lanes of the scale and of the
    shift; its two heads' weights; its columns of the bias. -/
abbrev lu : B128 := View.ld x0 (Rect.unit (at2 0 q) S128x128.size (inb1024 0 (by omega) q))
abbrev lv : B128 := View.ld x0 (Rect.unit (at2 512 q) S128x128.size (inb1024 512 (by omega) q))
abbrev lc : B128 := View.ld x5 (Rect.unit (at2 0 q) S128x128.size (inb512 q))
abbrev lr (x : Vec Ideal S1x512 .f32) (q : Fin 4) : R128 := View.ld x (Rect.unit (at2 0 q) S1x128.size (inbRow q))
abbrev lwa : W128 := View.ld x3 (Rect.unit (at3 0 q) S1x128x128.size (inbW 0 (by omega) q))
abbrev lwb : W128 := View.ld x3 (Rect.unit (at3 1 q) S1x128x128.size (inbW 1 (by omega) q))
abbrev lo8 (x : Vec Ideal S8x512 .f32) (q : Fin 4) : R128 := View.ld x (Rect.unit (at2 0 q) S1x128.size (inbAcc q))
abbrev lb : Vec Ideal S128x128 .f32 := View.ld bs (Rect.unit (at2 0 q) S128x128.size (inb512 q))

def pU : View.Piece (Elt Ideal) S128x1024 .bf16 := ⟨Rect.unit (at2 0 q) S128x128.size (inb1024 0 (by omega) q),
  kDu (lu x0 q) (lv x0 q) (lc x5 q) (lr x1 q) (lr x2 q) (lwa x3 q) (lwb x3 q) (lb bs q)⟩
def pV : View.Piece (Elt Ideal) S128x1024 .bf16 := ⟨Rect.unit (at2 512 q) S128x128.size (inb1024 512 (by omega) q),
  kDv (lu x0 q) (lv x0 q) (lc x5 q) (lr x1 q) (lwa x3 q) (lwb x3 q)⟩
def pG (old : Vec Ideal S8x512 .f32) : View.Piece (Elt Ideal) S8x512 .f32 :=
  ⟨Rect.unit (at2 0 q) S1x128.size (inbAcc q), kDg (lu x0 q) (lv x0 q) (lc x5 q) (lwa x3 q) (lwb x3 q) (lo8 old q)⟩
def pB (old : Vec Ideal S8x512 .f32) : View.Piece (Elt Ideal) S8x512 .f32 :=
  ⟨Rect.unit (at2 0 q) S1x128.size (inbAcc q), kDb (lu x0 q) (lc x5 q) (lwa x3 q) (lwb x3 q) (lo8 old q)⟩
def pWa (old : Vec Ideal S8x128x128 .f32) : View.Piece (Elt Ideal) S8x128x128 .f32 :=
  ⟨Rect.unit (at3 0 q) S1x128x128.size (inbW 0 (by omega) q),
    kDwa (lu x0 q) (lv x0 q) (lc x5 q) (lr x1 q) (lr x2 q) (lwa old q)⟩
def pWb (old : Vec Ideal S8x128x128 .f32) : View.Piece (Elt Ideal) S8x128x128 .f32 :=
  ⟨Rect.unit (at3 1 q) S1x128x128.size (inbW 1 (by omega) q),
    kDwb (lu x0 q) (lv x0 q) (lc x5 q) (lr x1 q) (lr x2 q) (lwb old q)⟩
def pE (old : Vec Ideal S128x512 .f32) : View.Piece (Elt Ideal) S128x512 .f32 :=
  ⟨Rect.unit (at2 0 q) S128x128.size (inb512 q), kDe (lu x0 q) (lc x5 q) (lb old q)⟩

end Loads

section Lists

variable (x0 : Vec Ideal S128x1024 .bf16) (x1 x2 : Vec Ideal S1x512 .f32) (x3 : Vec Ideal S8x128x128 .f32)
variable (x5 : Vec Ideal S128x512 .bf16) (bs : Vec Ideal S128x512 .f32)

/-- The stores of a grid point into each output, the last first. -/
def l6 : List (View.Piece (Elt Ideal) S128x1024 .bf16) :=
  [pV x0 x1 x3 x5 3, pU x0 x1 x2 x3 x5 bs 3, pV x0 x1 x3 x5 2, pU x0 x1 x2 x3 x5 bs 2, pV x0 x1 x3 x5 1,
    pU x0 x1 x2 x3 x5 bs 1, pV x0 x1 x3 x5 0, pU x0 x1 x2 x3 x5 bs 0]
def l7 (old : Vec Ideal S8x512 .f32) : List (View.Piece (Elt Ideal) S8x512 .f32) :=
  [pG x0 x3 x5 3 old, pG x0 x3 x5 2 old, pG x0 x3 x5 1 old, pG x0 x3 x5 0 old]
def l8 (old : Vec Ideal S8x512 .f32) : List (View.Piece (Elt Ideal) S8x512 .f32) :=
  [pB x0 x3 x5 3 old, pB x0 x3 x5 2 old, pB x0 x3 x5 1 old, pB x0 x3 x5 0 old]
def l9 (old : Vec Ideal S8x128x128 .f32) : List (View.Piece (Elt Ideal) S8x128x128 .f32) :=
  [pWb x0 x1 x2 x5 3 old, pWa x0 x1 x2 x5 3 old, pWb x0 x1 x2 x5 2 old, pWa x0 x1 x2 x5 2 old,
    pWb x0 x1 x2 x5 1 old, pWa x0 x1 x2 x5 1 old, pWb x0 x1 x2 x5 0 old, pWa x0 x1 x2 x5 0 old]
def lE (old : Vec Ideal S128x512 .f32) : List (View.Piece (Elt Ideal) S128x512 .f32) :=
  [pE x0 x5 3 old, pE x0 x5 2 old, pE x0 x5 1 old, pE x0 x5 0 old]

/-! ## One head of a block -/

abbrev hu (h : Fin 8) (t : Fin 128) (p : Fin 64) : EReal := x0 (ix2 t ⟨64 * h.val + p.val, by omega⟩)
abbrev hv (h : Fin 8) (t : Fin 128) (p : Fin 64) : EReal := x0 (ix2 t ⟨512 + (64 * h.val + p.val), by omega⟩)
abbrev hc (h : Fin 8) (t : Fin 128) (p : Fin 64) : EReal := x5 (ix2 t ⟨64 * h.val + p.val, by omega⟩)
abbrev hb (h : Fin 8) (t : Fin 128) (p : Fin 64) : EReal := bs (ix2 t ⟨64 * h.val + p.val, by omega⟩)
abbrev hr (x : Vec Ideal S1x512 .f32) (h : Fin 8) (p : Fin 64) : EReal := x (ix2 0 ⟨64 * h.val + p.val, by omega⟩)
abbrev hw (h : Fin 8) (t s : Fin 128) : EReal := if s ≤ t then x3 (ix3 h t s) else 0

/-- Head `a` of pair `q`. -/
abbrev hd (q : Fin 4) (a : Fin 2) : Fin 8 := ⟨2 * q.val + a.val, by omega⟩

theorem exists_hd (h : Fin 8) : ∃ q a, h = hd q a :=
  ⟨⟨h.val / 2, by omega⟩, ⟨h.val % 2, by omega⟩, Fin.ext (by simp; omega)⟩

variable (q : Fin 4) (a : Fin 2) (t s : Fin 128) (p : Fin 64)

theorem idx1024 (o : ℕ) (ho : o ≤ 512) (inb) :
    (Rect.unit (s := S128x1024) (at2 o q) S128x128.size inb).idx (ix2 t (lane a p))
      = ix2 t ⟨o + (64 * (hd q a).val + p.val), by simp only; omega⟩ := by
  refine funext fun d => Fin.ext ?_
  match d with
  | 0 => simp [lane]
  | 1 => simp [lane]; omega

theorem idx512 (inb) : (Rect.unit (s := S128x512) (at2 0 q) S128x128.size inb).idx (ix2 t (lane a p))
    = ix2 t ⟨64 * (hd q a).val + p.val, by simp only; omega⟩ := by
  refine funext fun d => Fin.ext ?_
  match d with
  | 0 => simp [lane]
  | 1 => simp [lane]; omega

theorem idxRow (inb) : (Rect.unit (s := S1x512) (at2 0 q) S1x128.size inb).idx (ix2 0 (lane a p))
    = ix2 0 ⟨64 * (hd q a).val + p.val, by simp only; omega⟩ := by
  refine funext fun d => Fin.ext ?_
  match d with
  | 0 => simp [lane]
  | 1 => simp [lane]; omega

theorem idxAcc (inb) : (Rect.unit (s := S8x512) (at2 0 q) S1x128.size inb).idx (ix2 0 (lane a p))
    = ix2 0 ⟨64 * (hd q a).val + p.val, by simp only; omega⟩ := by
  refine funext fun d => Fin.ext ?_
  match d with
  | 0 => simp [lane]
  | 1 => simp [lane]; omega

theorem idxW (inb) : (Rect.unit (s := S8x128x128) (at3 a.val q) S1x128x128.size inb).idx (ix3 0 t s)
    = ix3 (hd q a) t s := by
  refine funext fun d => Fin.ext ?_
  match d with
  | 0 => simp
  | 1 => simp
  | 2 => simp

theorem row_lu : row (lu x0 q) a = hu x0 (hd q a) :=
  funext₂ fun t p => congrArg x0 ((idx1024 q a t p 0 (by omega) _).trans (by simp only [Nat.zero_add]))
theorem row_lv : row (lv x0 q) a = hv x0 (hd q a) := funext₂ fun t p => congrArg x0 (idx1024 q a t p 512 (by omega) _)
theorem row_lc : row (lc x5 q) a = hc x5 (hd q a) := funext₂ fun t p => congrArg x5 (idx512 q a t p _)
theorem row_lb : row (lb bs q) a = hb bs (hd q a) := funext₂ fun t p => congrArg bs (idx512 q a t p _)
theorem row_lr : row1 (lr x1 q) a = hr x1 (hd q a) := funext fun p => congrArg x1 (idxRow q a p _)

theorem wts_lw : wts (lwa x3 q) (lwb x3 q) a = hw x3 (hd q a) := by
  funext t s
  match a with
  | 0 => exact if_congr Iff.rfl (congrArg x3 (idxW q 0 t s (inbW 0 (by omega) q))) rfl
  | 1 => exact if_congr Iff.rfl (congrArg x3 (idxW q 1 t s (inbW 1 (by omega) q))) rfl

end Lists

end Cert.Gmlp

end
-- ==== Proof.Common.Steps.lean ====
/-
  What a run of stores leaves in a buffer, and what a buffer holds that every grid point adds to.
-/
module

public import Idealize.ShloMosaic.Lib.Pointwise
public import Idealize.ShloMosaic.Lib.Pipeline.ValueKit
public import Idealize.ShloMosaic.Lib.Pipeline.ReadBack

@[expose] public section

noncomputable section

namespace Cert

open Idealize.ShloMosaic Idealize.ShloMosaic.TcCoe Idealize.ShloMosaic.Tactic

/-- Stores of blocks of `G`, over contents that are `G` outside them, leave `G`. -/
theorem read_writes_of {sig : RefSig} {κ : Kind} {sp : Space} {s : Shape} {e : EltTy} (v : View sig κ sp s e)
    (f : v.ty.Contents (Elt Ideal)) (G : s.Idx → Elt Ideal e) (L : List (View.Piece (Elt Ideal) s e)) (hL : View.PiecesOf G L)
    (hf : ∀ y, (∀ r ∈ L, y ∉ r.1.set) → v.read (Elt Ideal) f y = G y) :
    v.read (Elt Ideal) (v.writes (Elt Ideal) f L) = G := by
  funext y
  by_cases h : ∃ r ∈ L, y ∈ r.1.set
  · exact v.read_writes_apply_of_pieces f G L hL.mem y h
  · have h' : ∀ r ∈ L, y ∉ r.1.set := fun r hr hy => h ⟨r, hr, hy⟩
    rw [v.read_writes_apply_of_forall_not_mem f y L h', hf y h']

/-- The same of the stores alone, over an earlier store of the whole buffer. -/
theorem canon_of {s : Shape} {e : EltTy} (G Z : s.Idx → Elt Ideal e) (L : List (View.Piece (Elt Ideal) s e))
    (hL : View.PiecesOf G L) (hf : ∀ y, (∀ r ∈ L, y ∉ r.1.set) → Z y = G y) {off : Fin s.rank → ℕ}
    (inb : ∀ a, off a + s.size a ≤ s.size a) (ho : ∀ a, off a = 0) :
    View.canon (L ++ [⟨Rect.unit off s.size inb, Z⟩]) = G := by
  funext y
  by_cases h : ∃ r ∈ L, y ∈ r.1.set
  · exact View.canon_append_of_piecesOf G _ L hL y h
  · have h' : ∀ r ∈ L, y ∉ r.1.set := fun r hr hy => h ⟨r, hr, hy⟩
    rw [← hf y h']
    clear h hL hf
    induction L with
    | nil => exact congrFun (View.canon_cons_unit_lit inb Z [] ho) y
    | cons w L ih =>
      rw [List.cons_append, View.canon_cons_of_not_mem _ _ (h' w List.mem_cons_self)]
      exact ih fun r hr => h' r (List.mem_cons_of_mem _ hr)

theorem canon_eq {s : Shape} {e : EltTy} (G : s.Idx → Elt Ideal e) (L : List (View.Piece (Elt Ideal) s e))
    (hL : View.PiecesOf G L) (hc : ∀ y, ∃ r ∈ L, y ∈ r.1.set) : View.canon L = G :=
  funext fun y => View.canon_apply_of_pieces G L hL.mem y (hc y)

/-- A buffer each of `M` points adds to holds the sum after the last point. -/
theorem sum_of_steps {S : Type} {N M : ℕ} (hM : M = N + 1) (o : (n : ℕ) → n < M → S → EReal) (f : Fin M → S → EReal)
    (h0 : ∀ y, o 0 (by omega) y = f ⟨0, by omega⟩ y) (hs : ∀ n (h : n + 1 < M) y, o (n + 1) h y = o n (by omega) y + f ⟨n + 1, h⟩ y)
    (y : S) : o N (by omega) y = ∑ i, f i y := by
  subst hM
  have h : ∀ n (h : n < N + 1), o n h y = ∑ i : Fin (n + 1), f ⟨i.val, by omega⟩ y := by
    intro n
    induction n with
    | zero => intro h; rw [h0, Fin.sum_univ_one]; rfl
    | succ n ih => intro h; rw [hs n h, ih (by omega)]; exact (Fin.sum_univ_castSucc fun i : Fin (n + 1 + 1) => f ⟨i.val, by omega⟩ y).symm
  exact h N (by omega)

/-- A sum over all rows, taken block of rows by block of rows. -/
theorem sum_blocks {a b : ℕ} (f : Fin (a * b) → EReal) :
    ∑ i, f i = ∑ t : Fin a, ∑ r : Fin b, f (finProdFinEquiv (t, r)) := by
  rw [← finProdFinEquiv.sum_comp, Fintype.sum_prod_type]

end Cert

end
-- ==== Proof.Gmlp.Block.lean ====
/-
  What each output holds after a grid point, at every index: the head's gradients, added to what the accumulators held.
-/
module

public import proofs.«01_k».proof.Proof.Gmlp.Load
public import proofs.«01_k».proof.Proof.Common.Steps

@[expose] public section

set_option maxRecDepth 16384

noncomputable section

namespace Cert.Gmlp

open Cert.KernelIdeal Cert.KernelIdeal.Gen
open Idealize.ShloMosaic Idealize.ShloMosaic.TcCoe Idealize.ShloMosaic.Tactic

variable (x0 : Vec Ideal S128x1024 .bf16) (x1 x2 : Vec Ideal S1x512 .f32) (x3 : Vec Ideal S8x128x128 .f32)
variable (x5 : Vec Ideal S128x512 .bf16) (bs : Vec Ideal S128x512 .f32)
variable (h : Fin 8) (q : Fin 4) (a : Fin 2) (t s : Fin 128) (p : Fin 64)

/-- The head's gradients on a block. -/
abbrev hdu : EReal := du (hu x0 h) (hv x0 h) (hc x5 h) (hr x1 h) (hr x2 h) (hw x3 h) (hb bs h) t p
abbrev hdv : EReal := dv (hu x0 h) (hv x0 h) (hc x5 h) (hr x1 h) (hw x3 h) t p
abbrev hdg : EReal := dg (hu x0 h) (hv x0 h) (hc x5 h) (hw x3 h) p
abbrev hdb : EReal := db (hu x0 h) (hc x5 h) (hw x3 h) p
abbrev hdw : EReal := dw (hu x0 h) (hv x0 h) (hc x5 h) (hr x1 h) (hr x2 h) t s
abbrev hde : EReal := dmix (hu x0 h) (hc x5 h) t p

def G6 : Vec Ideal S128x1024 .bf16 := fun y =>
  if (y 1).val < 512 then hdu x0 x1 x2 x3 x5 bs (ch (y 1).val) (y 0) (cl (y 1).val)
  else hdv x0 x1 x3 x5 (ch (y 1).val) (y 0) (cl (y 1).val)
def G7 (old : Vec Ideal S8x512 .f32) : Vec Ideal S8x512 .f32 := fun y =>
  if (y 0).val = 0 then old y + hdg x0 x3 x5 (ch (y 1).val) (cl (y 1).val) else old y
def G8 (old : Vec Ideal S8x512 .f32) : Vec Ideal S8x512 .f32 := fun y =>
  if (y 0).val = 0 then old y + hdb x0 x3 x5 (ch (y 1).val) (cl (y 1).val) else old y
def G9 (old : Vec Ideal S8x128x128 .f32) : Vec Ideal S8x128x128 .f32 := fun y =>
  old y + hdw x0 x1 x2 x5 (y 0) (y 1) (y 2)
def GE (old : Vec Ideal S128x512 .f32) : Vec Ideal S128x512 .f32 := fun y =>
  old y + hde x0 x5 (ch (y 1).val) (y 0) (cl (y 1).val)

theorem at_col {α : Type} (f : Fin 8 → Fin 64 → α) : f (ch (64 * h.val + p.val)) (cl (64 * h.val + p.val)) = f h p :=
  congrArg₂ f (Fin.ext (by simp only; omega)) (Fin.ext (by simp only; omega))
theorem at_col' {α : Type} (f : Fin 8 → Fin 64 → α) :
    f (ch (512 + (64 * h.val + p.val))) (cl (512 + (64 * h.val + p.val))) = f h p :=
  congrArg₂ f (Fin.ext (by simp only; omega)) (Fin.ext (by simp only; omega))

theorem G6_u (hk) : G6 x0 x1 x2 x3 x5 bs (ix2 t ⟨64 * h.val + p.val, hk⟩) = hdu x0 x1 x2 x3 x5 bs h t p :=
  (if_pos (show 64 * h.val + p.val < 512 by omega)).trans (at_col h p fun h p => hdu x0 x1 x2 x3 x5 bs h t p)
theorem G6_v (hk) : G6 x0 x1 x2 x3 x5 bs (ix2 t ⟨512 + (64 * h.val + p.val), hk⟩) = hdv x0 x1 x3 x5 h t p :=
  (if_neg (show ¬512 + (64 * h.val + p.val) < 512 by omega)).trans (at_col' h p fun h p => hdv x0 x1 x3 x5 h t p)
theorem G7_row (old) (hk) : G7 x0 x3 x5 old (ix2 0 ⟨64 * h.val + p.val, hk⟩)
    = old (ix2 0 ⟨64 * h.val + p.val, hk⟩) + hdg x0 x3 x5 h p :=
  (if_pos rfl).trans (congrArg (_ + ·) (at_col h p fun h p => hdg x0 x3 x5 h p))
theorem G8_row (old) (hk) : G8 x0 x3 x5 old (ix2 0 ⟨64 * h.val + p.val, hk⟩)
    = old (ix2 0 ⟨64 * h.val + p.val, hk⟩) + hdb x0 x3 x5 h p :=
  (if_pos rfl).trans (congrArg (_ + ·) (at_col h p fun h p => hdb x0 x3 x5 h p))
theorem GE_col (old) (hk) : GE x0 x5 old (ix2 t ⟨64 * h.val + p.val, hk⟩)
    = old (ix2 t ⟨64 * h.val + p.val, hk⟩) + hde x0 x5 h t p :=
  congrArg (_ + ·) (at_col h p fun h p => hde x0 x5 h t p)

/-! ## Each store writes its output's value there -/

theorem pU_eq (x) : (pU x0 x1 x2 x3 x5 bs q).2 x = G6 x0 x1 x2 x3 x5 bs ((pU x0 x1 x2 x3 x5 bs q).1.emb x) := by
  obtain ⟨t, l, rfl⟩ : ∃ t l, x = ix2 t l := ⟨x 0, x 1, eq_ix2 x⟩
  obtain ⟨a, p, rfl⟩ := exists_lane l
  rw [show (pU x0 x1 x2 x3 x5 bs q).1.emb (ix2 t (lane a p))
    = ix2 t ⟨64 * (hd q a).val + p.val, by simp only; omega⟩ from
    (idx1024 q a t p 0 (by omega) (inb1024 0 (by omega) q)).trans (by simp only [Nat.zero_add])]
  refine (du_apply _ _ _ _ _ _ _ _ t a p).trans ?_
  rw [row_lu, row_lv, row_lc, row_lb, row_lr, row_lr, wts_lw]
  exact (G6_u ..).symm

theorem pV_eq (x) : (pV x0 x1 x3 x5 q).2 x = G6 x0 x1 x2 x3 x5 bs ((pV x0 x1 x3 x5 q).1.emb x) := by
  obtain ⟨t, l, rfl⟩ : ∃ t l, x = ix2 t l := ⟨x 0, x 1, eq_ix2 x⟩
  obtain ⟨a, p, rfl⟩ := exists_lane l
  rw [show (pV x0 x1 x3 x5 q).1.emb (ix2 t (lane a p)) = _ from idx1024 q a t p 512 (by omega) (inb1024 512 (by omega) q)]
  refine (dv_apply _ _ _ _ _ _ t a p).trans ?_
  rw [row_lu, row_lv, row_lc, row_lr, wts_lw]
  exact (G6_v ..).symm

theorem pG_eq (old) (x) : (pG x0 x3 x5 q old).2 x = G7 x0 x3 x5 old ((pG x0 x3 x5 q old).1.emb x) := by
  obtain ⟨t, l, rfl⟩ : ∃ t l, x = ix2 t l := ⟨x 0, x 1, eq_ix2 x⟩
  obtain ⟨a, p, rfl⟩ := exists_lane l
  obtain rfl : t = 0 := Subsingleton.elim _ _
  rw [show (pG x0 x3 x5 q old).1.emb (ix2 0 (lane a p)) = _ from idxAcc q a p (inbAcc q)]
  refine (dg_apply _ _ _ _ _ a p _).trans ?_
  rw [row_lu, row_lv, row_lc, wts_lw, G7_row]
  exact congrArg (· + _) (congrArg old (idxAcc q a p _))

theorem pB_eq (old) (x) : (pB x0 x3 x5 q old).2 x = G8 x0 x3 x5 old ((pB x0 x3 x5 q old).1.emb x) := by
  obtain ⟨t, l, rfl⟩ : ∃ t l, x = ix2 t l := ⟨x 0, x 1, eq_ix2 x⟩
  obtain ⟨a, p, rfl⟩ := exists_lane l
  obtain rfl : t = 0 := Subsingleton.elim _ _
  rw [show (pB x0 x3 x5 q old).1.emb (ix2 0 (lane a p)) = _ from idxAcc q a p (inbAcc q)]
  refine (db_apply _ _ _ _ a p _).trans ?_
  rw [row_lu, row_lc, wts_lw, G8_row]
  exact congrArg (· + _) (congrArg old (idxAcc q a p _))

theorem pE_eq (old) (x) : (pE x0 x5 q old).2 x = GE x0 x5 old ((pE x0 x5 q old).1.emb x) := by
  obtain ⟨t, l, rfl⟩ : ∃ t l, x = ix2 t l := ⟨x 0, x 1, eq_ix2 x⟩
  obtain ⟨a, p, rfl⟩ := exists_lane l
  rw [show (pE x0 x5 q old).1.emb (ix2 t (lane a p)) = _ from idx512 q a t p (inb512 q)]
  refine (de_apply _ _ t a p _).trans ?_
  rw [row_lu, row_lc, GE_col]
  exact congrArg (· + _) (congrArg old (idx512 q a t p _))

theorem pWa_eq (old) (x) : (pWa x0 x1 x2 x5 q old).2 x = G9 x0 x1 x2 x5 old ((pWa x0 x1 x2 x5 q old).1.emb x) := by
  obtain ⟨k, t, s, rfl⟩ : ∃ k t s, x = ix3 k t s := ⟨x 0, x 1, x 2, eq_ix3 x⟩
  obtain rfl : k = 0 := Subsingleton.elim _ _
  rw [show (pWa x0 x1 x2 x5 q old).1.emb (ix3 0 t s) = _ from idxW q 0 t s (inbW 0 (by omega) q)]
  refine (dwa_apply _ _ _ _ _ t s _).trans ?_
  rw [row_lu, row_lv, row_lc, row_lr, row_lr]
  exact congrArg (· + _) (congrArg old (idxW q 0 t s (inbW 0 (by omega) q)))

theorem pWb_eq (old) (x) : (pWb x0 x1 x2 x5 q old).2 x = G9 x0 x1 x2 x5 old ((pWb x0 x1 x2 x5 q old).1.emb x) := by
  obtain ⟨k, t, s, rfl⟩ : ∃ k t s, x = ix3 k t s := ⟨x 0, x 1, x 2, eq_ix3 x⟩
  obtain rfl : k = 0 := Subsingleton.elim _ _
  rw [show (pWb x0 x1 x2 x5 q old).1.emb (ix3 0 t s) = _ from idxW q 1 t s (inbW 1 (by omega) q)]
  refine (dwb_apply _ _ _ _ _ t s _).trans ?_
  rw [row_lu, row_lv, row_lc, row_lr, row_lr]
  exact congrArg (· + _) (congrArg old (idxW q 1 t s (inbW 1 (by omega) q)))

/-! ## The outputs after a grid point -/

theorem pieces6 : View.PiecesOf (G6 x0 x1 x2 x3 x5 bs) (l6 x0 x1 x2 x3 x5 bs) :=
  ⟨pV_eq _ _ _ _ _ _ _, pU_eq _ _ _ _ _ _ _, pV_eq _ _ _ _ _ _ _, pU_eq _ _ _ _ _ _ _,
    pV_eq _ _ _ _ _ _ _, pU_eq _ _ _ _ _ _ _, pV_eq _ _ _ _ _ _ _, pU_eq _ _ _ _ _ _ _, trivial⟩
theorem pieces7 (old) : View.PiecesOf (G7 x0 x3 x5 old) (l7 x0 x3 x5 old) :=
  ⟨pG_eq _ _ _ _ _, pG_eq _ _ _ _ _, pG_eq _ _ _ _ _, pG_eq _ _ _ _ _, trivial⟩
theorem pieces8 (old) : View.PiecesOf (G8 x0 x3 x5 old) (l8 x0 x3 x5 old) :=
  ⟨pB_eq _ _ _ _ _, pB_eq _ _ _ _ _, pB_eq _ _ _ _ _, pB_eq _ _ _ _ _, trivial⟩
theorem pieces9 (old) : View.PiecesOf (G9 x0 x1 x2 x5 old) (l9 x0 x1 x2 x5 old) :=
  ⟨pWb_eq _ _ _ _ _ _, pWa_eq _ _ _ _ _ _, pWb_eq _ _ _ _ _ _, pWa_eq _ _ _ _ _ _, pWb_eq _ _ _ _ _ _,
    pWa_eq _ _ _ _ _ _, pWb_eq _ _ _ _ _ _, pWa_eq _ _ _ _ _ _, trivial⟩
theorem piecesE (old) : View.PiecesOf (GE x0 x5 old) (lE x0 x5 old) :=
  ⟨pE_eq _ _ _ _, pE_eq _ _ _ _, pE_eq _ _ _ _, pE_eq _ _ _ _, trivial⟩

theorem cover6 : ∀ y, ∃ r ∈ l6 x0 x1 x2 x3 x5 bs, y ∈ r.1.set := View.cover_of_tiled _ ![128, 128] rfl
theorem cover9 (old) : ∀ y, ∃ r ∈ l9 x0 x1 x2 x5 old, y ∈ r.1.set := View.cover_of_tiled _ ![1, 128, 128] rfl
theorem coverE (old) : ∀ y, ∃ r ∈ lE x0 x5 old, y ∈ r.1.set := View.cover_of_tiled _ ![128, 128] rfl

/-- The pair's lanes of row 0 are in its store's rectangle. -/
theorem mem_row (y : S8x512.Idx) (h : (y 0).val = 0) (hq : (y 1).val / 128 = q.val) :
    y ∈ (Rect.unit (s := S8x512) (at2 0 q) S1x128.size (inbAcc q)).set := by
  refine Rect.mem_set_unit.mpr fun d => ?_
  match d with
  | 0 => exact ⟨Nat.zero_le _, by show (y 0).val < 0 + 1; omega⟩
  | 1 => exact ⟨by show 0 + 128 * q.val ≤ (y 1).val; omega, by show (y 1).val < 0 + 128 * q.val + 128; omega⟩

theorem cover_row (P : Fin 4 → View.Piece (Elt Ideal) S8x512 .f32)
    (hP : ∀ q, (P q).1 = Rect.unit (s := S8x512) (at2 0 q) S1x128.size (inbAcc q)) (y : S8x512.Idx) (h : (y 0).val = 0) :
    ∃ r ∈ [P 3, P 2, P 1, P 0], y ∈ r.1.set := by
  have hy : (y 1).val < 512 := (y 1).isLt
  refine ⟨P ⟨(y 1).val / 128, by omega⟩, ?_, ?_⟩
  · have : ∀ q : Fin 4, P q ∈ [P 3, P 2, P 1, P 0] := fun q => by fin_cases q <;> simp
    exact this _
  · rw [hP]; exact mem_row _ y h rfl

theorem off7 (old) (y) (hy : ∀ r ∈ l7 x0 x3 x5 old, y ∉ r.1.set) : old y = G7 x0 x3 x5 old y := by
  refine (if_neg fun h => ?_).symm
  obtain ⟨r, hr, h'⟩ := cover_row (fun q => pG x0 x3 x5 q old) (fun _ => rfl) y h
  exact hy r hr h'
theorem off8 (old) (y) (hy : ∀ r ∈ l8 x0 x3 x5 old, y ∉ r.1.set) : old y = G8 x0 x3 x5 old y := by
  refine (if_neg fun h => ?_).symm
  obtain ⟨r, hr, h'⟩ := cover_row (fun q => pB x0 x3 x5 q old) (fun _ => rfl) y h
  exact hy r hr h'

theorem off9 (old) (y) (hy : ∀ r ∈ l9 x0 x1 x2 x5 old, y ∉ r.1.set) : old y = G9 x0 x1 x2 x5 old y := by
  obtain ⟨r, hr, h⟩ := cover9 x0 x1 x2 x5 old y
  exact absurd h (hy r hr)
theorem offE (old) (y) (hy : ∀ r ∈ lE x0 x5 old, y ∉ r.1.set) : old y = GE x0 x5 old y := by
  obtain ⟨r, hr, h⟩ := coverE x0 x5 old y
  exact absurd h (hy r hr)

/-- The bias laid out over the heads' lanes. -/
def bias0 (x4 : Vec Ideal S8x128 .f32) : Vec Ideal S128x512 .f32 :=
  k0_pay8 (View.ld x4 (Rect.unit ![0, 0] S8x128.size inb_S8x128_S8x128_0_0)) (iota .tc S8x512 32 [0] iota_S8x512_d0_w32)
    k0_pay6 k0_pay7 1#32

end Cert.Gmlp

end
-- ==== Proof.Gmlp.CaseA.lean ====
/-
  What each case of the body leaves, in terms of the heads' gradients: case A.
-/
module

public import proofs.«01_k».proof.Proof.Gmlp.Block
public import proofs.«01_k».proof.Proof.Gen.KernelIdeal.Frame

@[expose] public section

set_option maxRecDepth 16384

noncomputable section

namespace Cert.Gmlp

open Cert.KernelIdeal Cert.KernelIdeal.Gen
open Idealize.ShloMosaic Idealize.ShloMosaic.TcCoe Idealize.ShloMosaic.Tactic Idealize.SL.Sem

variable (c : Dev nD) (i : grid0.Coords)
variable (a1 : Memref sig .tc .vmem S128x1024 .bf16) (h1 : a1.IsWhole)
variable (a2 : Memref sig .tc .vmem S1x512 .f32) (h2 : a2.IsWhole)
variable (a3 : Memref sig .tc .vmem S1x512 .f32) (h3 : a3.IsWhole)
variable (a4 : Memref sig .tc .vmem S8x128x128 .f32) (h4 : a4.IsWhole)
variable (a5 : Memref sig .tc .vmem S8x128 .f32) (h5 : a5.IsWhole)
variable (a6 : Memref sig .tc .vmem S128x512 .bf16) (h6 : a6.IsWhole)
variable (a8 : Memref sig .tc .vmem S128x1024 .bf16) (h8 : a8.IsWhole)
variable (a9 : Memref sig .tc .vmem S8x512 .f32) (h9 : a9.IsWhole)
variable (a10 : Memref sig .tc .vmem S8x512 .f32) (h10 : a10.IsWhole)
variable (a11 : Memref sig .tc .vmem S8x128x128 .f32) (h11 : a11.IsWhole)
variable (a12 : Memref sig .tc .vmem S128x8 .f32) (h12 : a12.IsWhole)
variable (a13 : Memref sig .tc .vmem S128x512 .f32) (h13 : a13.IsWhole)
variable (a14 : Memref sig .tc .vmem S128x512 .f32) (h14 : a14.IsWhole)
variable (x0 : Vec Ideal S128x1024 .bf16) (x1 x2 : Vec Ideal S1x512 .f32) (x3 : Vec Ideal S8x128x128 .f32)
variable (x4 : Vec Ideal S8x128 .f32) (x5 : Vec Ideal S128x512 .bf16)
variable (hc0 : cond0_0 i) (hc1 : ¬cond0_1 i)

theorem caseA_6 :
    out0_A_6 c i a1 h1 a2 h2 a3 h3 a4 h4 a5 h5 a6 h6 a8 h8 a9 h9 a10 h10 a11 h11 a12 h12 a13 h13 a14 h14 hc0 hc1 x0 x1 x2 x3 x4 x5
      = G6 x0 x1 x2 x3 x5 (bias0 x4) := by
  unfold out0_A_6
  rw [View.read_writes_eq_canon _ _ _ (cover0_A_6 c i a1 h1 a2 h2 a3 h3 a4 h4 a5 h5 a6 h6 a8 h8 a9 h9 a10 h10 a11 h11 a12 h12 a13 h13 a14 h14 hc0 hc1 x0 x1 x2 x3 x4 x5)]
  unfold kernelRun0_A
  dsimp only
  sl_unfold_words
  simp (discharger := first | rfl | decide) only [View.readAt_eq_ld, Memref.IsWhole.read_unread, ↓View.readCov_skip, ↓View.readCov_fill]
  exact canon_eq _ _ (pieces6 x0 x1 x2 x3 x5 _) (cover6 _ _ _ _ _ _)

theorem caseA_7 :
    out0_A_7 c i a1 h1 a2 h2 a3 h3 a4 h4 a5 h5 a6 h6 a8 h8 a9 h9 a10 h10 a11 h11 a12 h12 a13 h13 a14 h14 hc0 hc1 x0 x1 x2 x3 x4 x5
      = G7 x0 x3 x5 (k0_pay2 (F := Ideal)) := by
  unfold out0_A_7
  rw [View.read_writes_eq_canon _ _ _ (cover0_A_7 c i a1 h1 a2 h2 a3 h3 a4 h4 a5 h5 a6 h6 a8 h8 a9 h9 a10 h10 a11 h11 a12 h12 a13 h13 a14 h14 hc0 hc1 x0 x1 x2 x3 x4 x5)]
  unfold kernelRun0_A
  dsimp only
  sl_unfold_words
  simp (discharger := first | rfl | decide) only [View.readAt_eq_ld, Memref.IsWhole.read_unread, ↓View.readCov_skip, ↓View.readCov_fill]
  exact canon_of _ _ _ (pieces7 x0 x3 x5 _) (off7 x0 x3 x5 _) _ (fun d => by fin_cases d <;> rfl)

theorem caseA_8 :
    out0_A_8 c i a1 h1 a2 h2 a3 h3 a4 h4 a5 h5 a6 h6 a8 h8 a9 h9 a10 h10 a11 h11 a12 h12 a13 h13 a14 h14 hc0 hc1 x0 x1 x2 x3 x4 x5
      = G8 x0 x3 x5 (k0_pay3 (F := Ideal)) := by
  unfold out0_A_8
  rw [View.read_writes_eq_canon _ _ _ (cover0_A_8 c i a1 h1 a2 h2 a3 h3 a4 h4 a5 h5 a6 h6 a8 h8 a9 h9 a10 h10 a11 h11 a12 h12 a13 h13 a14 h14 hc0 hc1 x0 x1 x2 x3 x4 x5)]
  unfold kernelRun0_A
  dsimp only
  sl_unfold_words
  simp (discharger := first | rfl | decide) only [View.readAt_eq_ld, Memref.IsWhole.read_unread, ↓View.readCov_skip, ↓View.readCov_fill]
  exact canon_of _ _ _ (pieces8 x0 x3 x5 _) (off8 x0 x3 x5 _) _ (fun d => by fin_cases d <;> rfl)

theorem caseA_9 :
    out0_A_9 c i a1 h1 a2 h2 a3 h3 a4 h4 a5 h5 a6 h6 a8 h8 a9 h9 a10 h10 a11 h11 a12 h12 a13 h13 a14 h14 hc0 hc1 x0 x1 x2 x3 x4 x5
      = G9 x0 x1 x2 x5 (k0_pay4 (F := Ideal)) := by
  unfold out0_A_9
  rw [View.read_writes_eq_canon _ _ _ (cover0_A_9 c i a1 h1 a2 h2 a3 h3 a4 h4 a5 h5 a6 h6 a8 h8 a9 h9 a10 h10 a11 h11 a12 h12 a13 h13 a14 h14 hc0 hc1 x0 x1 x2 x3 x4 x5)]
  unfold kernelRun0_A
  dsimp only
  sl_unfold_words
  simp (discharger := first | rfl | decide) only [View.readAt_eq_ld, Memref.IsWhole.read_unread, ↓View.readCov_skip, ↓View.readCov_fill]
  exact canon_of _ _ _ (pieces9 x0 x1 x2 x5 _) (off9 x0 x1 x2 x5 _) _ (fun d => by fin_cases d <;> rfl)

theorem caseA_s1 :
    sout0_A_1 c i a1 h1 a2 h2 a3 h3 a4 h4 a5 h5 a6 h6 a8 h8 a9 h9 a10 h10 a11 h11 a12 h12 a13 h13 a14 h14 hc0 hc1 x0 x1 x2 x3 x4 x5
      = GE x0 x5 (k0_pay5 (F := Ideal)) := by
  unfold sout0_A_1
  rw [View.read_writes_eq_canon _ _ _ (scover0_A_1 c i a1 h1 a2 h2 a3 h3 a4 h4 a5 h5 a6 h6 a8 h8 a9 h9 a10 h10 a11 h11 a12 h12 a13 h13 a14 h14 hc0 hc1 x0 x1 x2 x3 x4 x5)]
  unfold kernelRun0_A
  dsimp only
  sl_unfold_words
  simp (discharger := first | rfl | decide) only [View.readAt_eq_ld, Memref.IsWhole.read_unread, ↓View.readCov_skip, ↓View.readCov_fill]
  exact canon_of _ _ _ (piecesE x0 x5 _) (offE x0 x5 _) _ (fun d => by fin_cases d <;> rfl)

theorem caseA_s0 :
    sout0_A_0 c i a1 h1 a2 h2 a3 h3 a4 h4 a5 h5 a6 h6 a8 h8 a9 h9 a10 h10 a11 h11 a12 h12 a13 h13 a14 h14 hc0 hc1 x0 x1 x2 x3 x4 x5
      = bias0 x4 := by
  unfold sout0_A_0
  rw [View.read_writes_eq_canon _ _ _ (scover0_A_0 c i a1 h1 a2 h2 a3 h3 a4 h4 a5 h5 a6 h6 a8 h8 a9 h9 a10 h10 a11 h11 a12 h12 a13 h13 a14 h14 hc0 hc1 x0 x1 x2 x3 x4 x5)]
  unfold kernelRun0_A
  dsimp only
  sl_unfold_words
  simp (discharger := first | rfl | decide) only [View.readAt_eq_ld, Memref.IsWhole.read_unread, ↓View.readCov_skip, ↓View.readCov_fill]
  exact View.canon_cons_unit_lit _ _ [] (fun d => by fin_cases d <;> rfl)

end Cert.Gmlp

end
-- ==== Proof.Gmlp.CaseB.lean ====
/-
  What each case of the body leaves, in terms of the heads' gradients: case B.
-/
module

public import proofs.«01_k».proof.Proof.Gmlp.Block
public import proofs.«01_k».proof.Proof.Gen.KernelIdeal.Frame

@[expose] public section

set_option maxRecDepth 16384

noncomputable section

namespace Cert.Gmlp

open Cert.KernelIdeal Cert.KernelIdeal.Gen
open Idealize.ShloMosaic Idealize.ShloMosaic.TcCoe Idealize.ShloMosaic.Tactic Idealize.SL.Sem

variable (c : Dev nD) (i : grid0.Coords)
variable (a1 : Memref sig .tc .vmem S128x1024 .bf16) (h1 : a1.IsWhole)
variable (a2 : Memref sig .tc .vmem S1x512 .f32) (h2 : a2.IsWhole)
variable (a3 : Memref sig .tc .vmem S1x512 .f32) (h3 : a3.IsWhole)
variable (a4 : Memref sig .tc .vmem S8x128x128 .f32) (h4 : a4.IsWhole)
variable (a5 : Memref sig .tc .vmem S8x128 .f32) (h5 : a5.IsWhole)
variable (a6 : Memref sig .tc .vmem S128x512 .bf16) (h6 : a6.IsWhole)
variable (a8 : Memref sig .tc .vmem S128x1024 .bf16) (h8 : a8.IsWhole)
variable (a9 : Memref sig .tc .vmem S8x512 .f32) (h9 : a9.IsWhole)
variable (a10 : Memref sig .tc .vmem S8x512 .f32) (h10 : a10.IsWhole)
variable (a11 : Memref sig .tc .vmem S8x128x128 .f32) (h11 : a11.IsWhole)
variable (a12 : Memref sig .tc .vmem S128x8 .f32) (h12 : a12.IsWhole)
variable (a13 : Memref sig .tc .vmem S128x512 .f32) (h13 : a13.IsWhole)
variable (a14 : Memref sig .tc .vmem S128x512 .f32) (h14 : a14.IsWhole)
variable (x0 : Vec Ideal S128x1024 .bf16) (x1 x2 : Vec Ideal S1x512 .f32) (x3 : Vec Ideal S8x128x128 .f32)
variable (x4 : Vec Ideal S8x128 .f32) (x5 : Vec Ideal S128x512 .bf16)
variable (xo7 xo8 : Vec Ideal S8x512 .f32) (xo9 : Vec Ideal S8x128x128 .f32) (xs0 xs1 : Vec Ideal S128x512 .f32)
variable (hc0 : ¬cond0_0 i) (hc1 : ¬cond0_1 i)

theorem caseB_6 :
    out0_B_6 c i a1 h1 a2 h2 a3 h3 a4 h4 a5 h5 a6 h6 a8 h8 a9 h9 a10 h10 a11 h11 a12 h12 a13 h13 a14 h14 hc0 hc1 x0 x1 x2 x3 x4 x5 xo7 xo8 xo9 xs0 xs1
      = G6 x0 x1 x2 x3 x5 xs0 := by
  unfold out0_B_6
  rw [View.read_writes_eq_canon _ _ _ (cover0_B_6 c i a1 h1 a2 h2 a3 h3 a4 h4 a5 h5 a6 h6 a8 h8 a9 h9 a10 h10 a11 h11 a12 h12 a13 h13 a14 h14 hc0 hc1 x0 x1 x2 x3 x4 x5 xo7 xo8 xo9 xs0 xs1)]
  unfold kernelRun0_B
  dsimp only
  sl_unfold_words
  simp only [View.readAt_eq_ld, Memref.IsWhole.read_unread]
  exact canon_eq _ _ (pieces6 x0 x1 x2 x3 x5 _) (cover6 _ _ _ _ _ _)

theorem caseB_7 :
    out0_B_7 c i a1 h1 a2 h2 a3 h3 a4 h4 a5 h5 a6 h6 a8 h8 a9 h9 a10 h10 a11 h11 a12 h12 a13 h13 a14 h14 hc0 hc1 x0 x1 x2 x3 x4 x5 xo7 xo8 xo9 xs0 xs1
      = G7 x0 x3 x5 xo7 := by
  unfold out0_B_7
  unfold kernelRun0_B
  dsimp only
  sl_unfold_words
  simp only [View.readAt_eq_ld, Memref.IsWhole.read_unread]
  exact read_writes_of _ _ _ _ (pieces7 x0 x3 x5 xo7) (h9.read_unread .. ▸ off7 x0 x3 x5 xo7)

theorem caseB_8 :
    out0_B_8 c i a1 h1 a2 h2 a3 h3 a4 h4 a5 h5 a6 h6 a8 h8 a9 h9 a10 h10 a11 h11 a12 h12 a13 h13 a14 h14 hc0 hc1 x0 x1 x2 x3 x4 x5 xo7 xo8 xo9 xs0 xs1
      = G8 x0 x3 x5 xo8 := by
  unfold out0_B_8
  unfold kernelRun0_B
  dsimp only
  sl_unfold_words
  simp only [View.readAt_eq_ld, Memref.IsWhole.read_unread]
  exact read_writes_of _ _ _ _ (pieces8 x0 x3 x5 xo8) (h10.read_unread .. ▸ off8 x0 x3 x5 xo8)

theorem caseB_9 :
    out0_B_9 c i a1 h1 a2 h2 a3 h3 a4 h4 a5 h5 a6 h6 a8 h8 a9 h9 a10 h10 a11 h11 a12 h12 a13 h13 a14 h14 hc0 hc1 x0 x1 x2 x3 x4 x5 xo7 xo8 xo9 xs0 xs1
      = G9 x0 x1 x2 x5 xo9 := by
  unfold out0_B_9
  rw [View.read_writes_eq_canon _ _ _ (cover0_B_9 c i a1 h1 a2 h2 a3 h3 a4 h4 a5 h5 a6 h6 a8 h8 a9 h9 a10 h10 a11 h11 a12 h12 a13 h13 a14 h14 hc0 hc1 x0 x1 x2 x3 x4 x5 xo7 xo8 xo9 xs0 xs1)]
  unfold kernelRun0_B
  dsimp only
  sl_unfold_words
  simp only [View.readAt_eq_ld, Memref.IsWhole.read_unread]
  exact canon_eq _ _ (pieces9 x0 x1 x2 x5 _) (cover9 _ _ _ _ _)

theorem caseB_s1 :
    sout0_B_1 c i a1 h1 a2 h2 a3 h3 a4 h4 a5 h5 a6 h6 a8 h8 a9 h9 a10 h10 a11 h11 a12 h12 a13 h13 a14 h14 hc0 hc1 x0 x1 x2 x3 x4 x5 xo7 xo8 xo9 xs0 xs1
      = GE x0 x5 xs1 := by
  unfold sout0_B_1
  rw [View.read_writes_eq_canon _ _ _ (scover0_B_1 c i a1 h1 a2 h2 a3 h3 a4 h4 a5 h5 a6 h6 a8 h8 a9 h9 a10 h10 a11 h11 a12 h12 a13 h13 a14 h14 hc0 hc1 x0 x1 x2 x3 x4 x5 xo7 xo8 xo9 xs0 xs1)]
  unfold kernelRun0_B
  dsimp only
  sl_unfold_words
  simp only [View.readAt_eq_ld, Memref.IsWhole.read_unread]
  exact canon_eq _ _ (piecesE x0 x5 _) (coverE _ _ _)

end Cert.Gmlp

end
-- ==== Proof.Gmlp.CaseC.lean ====
/-
  What each case of the body leaves, in terms of the heads' gradients: case C.
-/
module

public import proofs.«01_k».proof.Proof.Gmlp.Block
public import proofs.«01_k».proof.Proof.Gen.KernelIdeal.Frame

@[expose] public section

set_option maxRecDepth 16384

noncomputable section

namespace Cert.Gmlp

open Cert.KernelIdeal Cert.KernelIdeal.Gen
open Idealize.ShloMosaic Idealize.ShloMosaic.TcCoe Idealize.ShloMosaic.Tactic Idealize.SL.Sem

variable (c : Dev nD) (i : grid0.Coords)
variable (a1 : Memref sig .tc .vmem S128x1024 .bf16) (h1 : a1.IsWhole)
variable (a2 : Memref sig .tc .vmem S1x512 .f32) (h2 : a2.IsWhole)
variable (a3 : Memref sig .tc .vmem S1x512 .f32) (h3 : a3.IsWhole)
variable (a4 : Memref sig .tc .vmem S8x128x128 .f32) (h4 : a4.IsWhole)
variable (a5 : Memref sig .tc .vmem S8x128 .f32) (h5 : a5.IsWhole)
variable (a6 : Memref sig .tc .vmem S128x512 .bf16) (h6 : a6.IsWhole)
variable (a8 : Memref sig .tc .vmem S128x1024 .bf16) (h8 : a8.IsWhole)
variable (a9 : Memref sig .tc .vmem S8x512 .f32) (h9 : a9.IsWhole)
variable (a10 : Memref sig .tc .vmem S8x512 .f32) (h10 : a10.IsWhole)
variable (a11 : Memref sig .tc .vmem S8x128x128 .f32) (h11 : a11.IsWhole)
variable (a12 : Memref sig .tc .vmem S128x8 .f32) (h12 : a12.IsWhole)
variable (a13 : Memref sig .tc .vmem S128x512 .f32) (h13 : a13.IsWhole)
variable (a14 : Memref sig .tc .vmem S128x512 .f32) (h14 : a14.IsWhole)
variable (x0 : Vec Ideal S128x1024 .bf16) (x1 x2 : Vec Ideal S1x512 .f32) (x3 : Vec Ideal S8x128x128 .f32)
variable (x4 : Vec Ideal S8x128 .f32) (x5 : Vec Ideal S128x512 .bf16)
variable (xo7 xo8 : Vec Ideal S8x512 .f32) (xo9 : Vec Ideal S8x128x128 .f32) (xs0 xs1 : Vec Ideal S128x512 .f32)
variable (hc0 : ¬cond0_0 i) (hc1 : cond0_1 i)

theorem caseC_6 :
    out0_C_6 c i a1 h1 a2 h2 a3 h3 a4 h4 a5 h5 a6 h6 a8 h8 a9 h9 a10 h10 a11 h11 a12 h12 a13 h13 a14 h14 hc0 hc1 x0 x1 x2 x3 x4 x5 xo7 xo8 xo9 xs0 xs1
      = G6 x0 x1 x2 x3 x5 xs0 := by
  unfold out0_C_6
  rw [View.read_writes_eq_canon _ _ _ (cover0_C_6 c i a1 h1 a2 h2 a3 h3 a4 h4 a5 h5 a6 h6 a8 h8 a9 h9 a10 h10 a11 h11 a12 h12 a13 h13 a14 h14 hc0 hc1 x0 x1 x2 x3 x4 x5 xo7 xo8 xo9 xs0 xs1)]
  unfold kernelRun0_C
  dsimp only
  sl_unfold_words
  simp only [View.readAt_eq_ld, Memref.IsWhole.read_unread]
  exact canon_eq _ _ (pieces6 x0 x1 x2 x3 x5 _) (cover6 _ _ _ _ _ _)

theorem caseC_7 :
    out0_C_7 c i a1 h1 a2 h2 a3 h3 a4 h4 a5 h5 a6 h6 a8 h8 a9 h9 a10 h10 a11 h11 a12 h12 a13 h13 a14 h14 hc0 hc1 x0 x1 x2 x3 x4 x5 xo7 xo8 xo9 xs0 xs1
      = G7 x0 x3 x5 xo7 := by
  unfold out0_C_7
  unfold kernelRun0_C
  dsimp only
  sl_unfold_words
  simp only [View.readAt_eq_ld, Memref.IsWhole.read_unread]
  exact read_writes_of _ _ _ _ (pieces7 x0 x3 x5 xo7) (h9.read_unread .. ▸ off7 x0 x3 x5 xo7)

theorem caseC_8 :
    out0_C_8 c i a1 h1 a2 h2 a3 h3 a4 h4 a5 h5 a6 h6 a8 h8 a9 h9 a10 h10 a11 h11 a12 h12 a13 h13 a14 h14 hc0 hc1 x0 x1 x2 x3 x4 x5 xo7 xo8 xo9 xs0 xs1
      = G8 x0 x3 x5 xo8 := by
  unfold out0_C_8
  unfold kernelRun0_C
  dsimp only
  sl_unfold_words
  simp only [View.readAt_eq_ld, Memref.IsWhole.read_unread]
  exact read_writes_of _ _ _ _ (pieces8 x0 x3 x5 xo8) (h10.read_unread .. ▸ off8 x0 x3 x5 xo8)

theorem caseC_9 :
    out0_C_9 c i a1 h1 a2 h2 a3 h3 a4 h4 a5 h5 a6 h6 a8 h8 a9 h9 a10 h10 a11 h11 a12 h12 a13 h13 a14 h14 hc0 hc1 x0 x1 x2 x3 x4 x5 xo7 xo8 xo9 xs0 xs1
      = G9 x0 x1 x2 x5 xo9 := by
  unfold out0_C_9
  rw [View.read_writes_eq_canon _ _ _ (cover0_C_9 c i a1 h1 a2 h2 a3 h3 a4 h4 a5 h5 a6 h6 a8 h8 a9 h9 a10 h10 a11 h11 a12 h12 a13 h13 a14 h14 hc0 hc1 x0 x1 x2 x3 x4 x5 xo7 xo8 xo9 xs0 xs1)]
  unfold kernelRun0_C
  dsimp only
  sl_unfold_words
  simp only [View.readAt_eq_ld, Memref.IsWhole.read_unread]
  exact canon_eq _ _ (pieces9 x0 x1 x2 x5 _) (cover9 _ _ _ _ _)

theorem caseC_s1 :
    sout0_C_1 c i a1 h1 a2 h2 a3 h3 a4 h4 a5 h5 a6 h6 a8 h8 a9 h9 a10 h10 a11 h11 a12 h12 a13 h13 a14 h14 hc0 hc1 x0 x1 x2 x3 x4 x5 xo7 xo8 xo9 xs0 xs1
      = GE x0 x5 xs1 := by
  unfold sout0_C_1
  rw [View.read_writes_eq_canon _ _ _ (scover0_C_1 c i a1 h1 a2 h2 a3 h3 a4 h4 a5 h5 a6 h6 a8 h8 a9 h9 a10 h10 a11 h11 a12 h12 a13 h13 a14 h14 hc0 hc1 x0 x1 x2 x3 x4 x5 xo7 xo8 xo9 xs0 xs1)]
  unfold kernelRun0_C
  dsimp only
  sl_unfold_words
  simp only [View.readAt_eq_ld, Memref.IsWhole.read_unread]
  exact canon_eq _ _ (piecesE x0 x5 _) (coverE _ _ _)

theorem caseC_10 :
    out0_C_10 c i a1 h1 a2 h2 a3 h3 a4 h4 a5 h5 a6 h6 a8 h8 a9 h9 a10 h10 a11 h11 a12 h12 a13 h13 a14 h14 hc0 hc1 x0 x1 x2 x3 x4 x5 xo7 xo8 xo9 xs0 xs1
      = k0_pay1 (GE x0 x5 xs1) := by
  unfold out0_C_10
  rw [View.read_writes_eq_canon _ _ _ (cover0_C_10 c i a1 h1 a2 h2 a3 h3 a4 h4 a5 h5 a6 h6 a8 h8 a9 h9 a10 h10 a11 h11 a12 h12 a13 h13 a14 h14 hc0 hc1 x0 x1 x2 x3 x4 x5 xo7 xo8 xo9 xs0 xs1)]
  unfold kernelRun0_C
  dsimp only
  sl_unfold_words
  simp only [View.readAt_eq_ld, Memref.IsWhole.read_unread, View.readCov_eq_canon']
  rw [View.canon_cons_unit_lit _ _ [] (fun d => by fin_cases d <;> rfl)]
  refine congrArg k0_pay1 (funext fun j => (congrFun (canon_eq _ (lE x0 x5 xs1) (piecesE x0 x5 _) (coverE _ _ _)) _).trans ?_)
  exact congrArg (GE x0 x5 xs1) (funext fun d => Fin.ext (by fin_cases d <;> simp))

end Cert.Gmlp

end
-- ==== Proof.Gmlp.Step.lean ====
/-
  The grid's points in terms of the heads' gradients: the first point starts the accumulators from zero and lays out the
  bias, each further point adds to what the point before left.
-/
module

public import proofs.«01_k».proof.Proof.Gmlp.CaseA
public import proofs.«01_k».proof.Proof.Gmlp.CaseB
public import proofs.«01_k».proof.Proof.Gmlp.CaseC
public import proofs.«01_k».proof.Proof.Gen.KernelIdeal.Value

@[expose] public section

set_option maxRecDepth 16384

noncomputable section

namespace Cert.Gmlp

open Cert.KernelIdeal Cert.KernelIdeal.Gen
open Idealize.ShloMosaic Idealize.ShloMosaic.TcCoe Idealize.ShloMosaic.Tactic Idealize.SL.Sem

variable (m : (ℓ : Loc nD τ sig) → Buf (Elt Ideal) ℓ) (c : Dev nD) (t : Fin cfg0.N)

/-- The blocks point `t` reads. -/
abbrev i0 : Vec Ideal S128x1024 .bf16 := X0_0 m c t
abbrev i1 : Vec Ideal S1x512 .f32 := iblk m c 1 t
abbrev i2 : Vec Ideal S1x512 .f32 := iblk m c 2 t
abbrev i3 : Vec Ideal S8x128x128 .f32 := iblk m c 3 t
abbrev i4 : Vec Ideal S8x128 .f32 := iblk m c 4 t
abbrev i5 : Vec Ideal S128x512 .bf16 := iblk m c 5 t

/-- What point `t` leaves, over what the accumulators held before it. -/
structure Step (o : Vec Ideal S128x1024 .bf16 × Vec Ideal S8x512 .f32 × Vec Ideal S8x512 .f32 × Vec Ideal S8x128x128 .f32
      × Vec Ideal S128x8 .f32 × Vec Ideal S128x512 .f32 × Vec Ideal S128x512 .f32)
    (bs : Vec Ideal S128x512 .f32) (o7 o8 : Vec Ideal S8x512 .f32) (o9 : Vec Ideal S8x128x128 .f32)
    (s1 : Vec Ideal S128x512 .f32) : Prop where
  e6 : o.1 = G6 (i0 m c t) (i1 m c t) (i2 m c t) (i3 m c t) (i5 m c t) bs
  e7 : o.2.1 = G7 (i0 m c t) (i3 m c t) (i5 m c t) o7
  e8 : o.2.2.1 = G8 (i0 m c t) (i3 m c t) (i5 m c t) o8
  e9 : o.2.2.2.1 = G9 (i0 m c t) (i1 m c t) (i2 m c t) (i5 m c t) o9
  es0 : o.2.2.2.2.2.1 = bs
  es1 : o.2.2.2.2.2.2 = GE (i0 m c t) (i5 m c t) s1

/-- The contents after point `t`, and after the point before it. -/
abbrev here := outsAt0 m c t.val t.isLt
abbrev prev := outsAt0 m c (t.val - 1) (Nat.lt_of_le_of_lt (Nat.sub_le _ _) t.isLt)

theorem stepA (h0 : t.val % 32 = 0) (h1 : ¬t.val % 32 = 31) :
    Step m c t (here m c t) (bias0 (i4 m c t)) (k0_pay2 (F := Ideal)) (k0_pay3 (F := Ideal)) (k0_pay4 (F := Ideal))
      (k0_pay5 (F := Ideal)) := by
  unfold here
  rw [outsAt0_A m c t h0 h1]
  constructor <;> dsimp only
  · exact caseA_6 ..
  · exact caseA_7 ..
  · exact caseA_8 ..
  · exact caseA_9 ..
  · exact caseA_s0 ..
  · exact caseA_s1 ..

theorem stepB (h0 : ¬t.val % 32 = 0) (h1 : ¬t.val % 32 = 31) :
    Step m c t (here m c t) (prev m c t).2.2.2.2.2.1 (prev m c t).2.1 (prev m c t).2.2.1 (prev m c t).2.2.2.1
      (prev m c t).2.2.2.2.2.2 := by
  unfold here
  rw [outsAt0_B m c t h0 h1]
  constructor <;> dsimp only
  · exact caseB_6 ..
  · exact caseB_7 ..
  · exact caseB_8 ..
  · exact caseB_9 ..
  · rfl
  · exact caseB_s1 ..

theorem stepC (h0 : ¬t.val % 32 = 0) (h1 : t.val % 32 = 31) :
    Step m c t (here m c t) (prev m c t).2.2.2.2.2.1 (prev m c t).2.1 (prev m c t).2.2.1 (prev m c t).2.2.2.1
      (prev m c t).2.2.2.2.2.2 := by
  unfold here
  rw [outsAt0_C m c t h0 h1]
  constructor <;> dsimp only
  · exact caseC_6 ..
  · exact caseC_7 ..
  · exact caseC_8 ..
  · exact caseC_9 ..
  · rfl
  · exact caseC_s1 ..

/-- The last point writes the bias's gradient out, summed over each head's lanes. -/
theorem last10 (h0 : ¬t.val % 32 = 0) (h1 : t.val % 32 = 31) :
    (here m c t).2.2.2.2.1 = k0_pay1 (F := Ideal) (here m c t).2.2.2.2.2.2 := by
  rw [(stepC m c t h0 h1).es1]
  unfold here
  rw [outsAt0_C m c t h0 h1]
  dsimp only
  exact caseC_10 ..

end Cert.Gmlp

end
-- ==== Proof.Gmlp.Blocks.lean ====
/-
  The blocks the grid's points read, as entries of the arguments: point `t` takes the 128 tokens from `128 t` on.
-/
module

public import proofs.«01_k».proof.Proof.Gmlp.Step

@[expose] public section

set_option maxRecDepth 16384

noncomputable section

namespace Cert.Gmlp

open Cert.KernelIdeal Cert.KernelIdeal.Gen
open Idealize.ShloMosaic Idealize.ShloMosaic.TcCoe Idealize.ShloMosaic.Tactic Idealize.SL.Sem

variable (m : (ℓ : Loc nD τ sig) → Buf (Elt Ideal) ℓ) (c : Dev nD) (t : Fin cfg0.N)

theorem lt32 (t : Fin cfg0.N) : t.val < 32 := lt_of_lt_of_eq t.isLt N_0

/-- Token `r` of chunk `t`. -/
abbrev tok (t : Fin cfg0.N) (r : Fin 128) : Fin 4096 := ⟨128 * t.val + r.val, by have := lt32 t; omega⟩

theorem at0 : ∀ t : Fin cfg0.N, win0_0.index t 0 = t.val ∧ win0_0.index t 1 = 1 :=
  (by decide +kernel : ∀ t : Fin grid0.N, win0_0.index t 0 = t.val ∧ win0_0.index t 1 = 1)
theorem at1 : ∀ t : Fin cfg0.N, win0_1.index t 0 = 0 ∧ win0_1.index t 1 = 0 :=
  (by decide +kernel : ∀ t : Fin grid0.N, win0_1.index t 0 = 0 ∧ win0_1.index t 1 = 0)
theorem at_2 : ∀ t : Fin cfg0.N, win0_2.index t 0 = 0 ∧ win0_2.index t 1 = 0 :=
  (by decide +kernel : ∀ t : Fin grid0.N, win0_2.index t 0 = 0 ∧ win0_2.index t 1 = 0)
theorem at_3 : ∀ t : Fin cfg0.N, win0_3.index t 0 = 0 ∧ win0_3.index t 1 = 0 ∧ win0_3.index t 2 = 0 :=
  (by decide +kernel : ∀ t : Fin grid0.N, win0_3.index t 0 = 0 ∧ win0_3.index t 1 = 0 ∧ win0_3.index t 2 = 0)
theorem at4 : ∀ t : Fin cfg0.N, win0_4.index t 0 = 0 ∧ win0_4.index t 1 = 0 :=
  (by decide +kernel : ∀ t : Fin grid0.N, win0_4.index t 0 = 0 ∧ win0_4.index t 1 = 0)
theorem at5 : ∀ t : Fin cfg0.N, win0_5.index t 0 = t.val ∧ win0_5.index t 1 = 1 :=
  (by decide +kernel : ∀ t : Fin grid0.N, win0_5.index t 0 = t.val ∧ win0_5.index t 1 = 1)

theorem i0_apply (r : Fin 128) (k : Fin 1024) :
    i0 m c t (ix2 r k) = m ((c : Thread nD τ).loc main_arg0) (ix2 (tok t r) ⟨1024 + k.val, by omega⟩) := by
  obtain ⟨e0, e1⟩ := at0 t
  show X0_0 m c t (ix2 r k) = _
  unfold X0_0 Pipeline.Window.fill
  rw [dif_pos (moved0_0 t _)]
  unfold iblk
  rw [View.read_apply]
  show V m c main_arg0 _ = m (c.tc.loc main_arg0) _
  rw [V_main_arg0]
  refine congrArg (m (c.tc.loc main_arg0)) (funext fun a => Fin.ext ?_)
  match a with
  | ⟨0, _⟩ => show win0_0.index t 0 * 128 + 1 * r.val = 128 * t.val + r.val; rw [e0]; omega
  | ⟨1, _⟩ => show win0_0.index t 1 * 1024 + 1 * k.val = 1024 + k.val; rw [e1]; omega

theorem i5_apply (r : Fin 128) (k : Fin 512) :
    i5 m c t (ix2 r k) = m ((c : Thread nD τ).loc main_arg5) (ix2 (tok t r) ⟨512 + k.val, by omega⟩) := by
  obtain ⟨e0, e1⟩ := at5 t
  show iblk m c 5 t (ix2 r k) = _
  unfold iblk
  rw [View.read_apply]
  show V m c main_arg5 _ = m (c.tc.loc main_arg5) _
  rw [V_main_arg5]
  refine congrArg (m (c.tc.loc main_arg5)) (funext fun a => Fin.ext ?_)
  match a with
  | ⟨0, _⟩ => show win0_5.index t 0 * 128 + 1 * r.val = 128 * t.val + r.val; rw [e0]; omega
  | ⟨1, _⟩ => show win0_5.index t 1 * 512 + 1 * k.val = 512 + k.val; rw [e1]; omega

theorem i3_apply (y : S8x128x128.Idx) : i3 m c t y = m ((c : Thread nD τ).loc main_arg3) y := by
  obtain ⟨e0, e1, e2⟩ := at_3 t
  show iblk m c 3 t y = _
  unfold iblk
  rw [View.read_apply]
  show V m c main_arg3 _ = m (c.tc.loc main_arg3) _
  rw [V_main_arg3]
  refine congrArg (m (c.tc.loc main_arg3)) (funext fun a => Fin.ext ?_)
  match a with
  | ⟨0, _⟩ => show win0_3.index t 0 * 8 + 1 * (y 0).val = (y 0).val; rw [e0]; omega
  | ⟨1, _⟩ => show win0_3.index t 1 * 128 + 1 * (y 1).val = (y 1).val; rw [e1]; omega
  | ⟨2, _⟩ => show win0_3.index t 2 * 128 + 1 * (y 2).val = (y 2).val; rw [e2]; omega

theorem i4_apply (y : S8x128.Idx) : i4 m c t y = m ((c : Thread nD τ).loc main_arg4) y := by
  obtain ⟨e0, e1⟩ := at4 t
  show iblk m c 4 t y = _
  unfold iblk
  rw [View.read_apply]
  show V m c main_arg4 _ = m (c.tc.loc main_arg4) _
  rw [V_main_arg4]
  refine congrArg (m (c.tc.loc main_arg4)) (funext fun a => Fin.ext ?_)
  match a with
  | ⟨0, _⟩ => show win0_4.index t 0 * 8 + 1 * (y 0).val = (y 0).val; rw [e0]; omega
  | ⟨1, _⟩ => show win0_4.index t 1 * 128 + 1 * (y 1).val = (y 1).val; rw [e1]; omega

theorem V_v0 : V m c main_v0 = shapeCast S1x512 (m ((c : Thread nD τ).loc main_arg1)) shapeCasts_S512_S1x512 := by
  show StableHlo.after hostOps0 _ main_v0 = _
  after_results_simp
  rfl
theorem V_v1 : V m c main_v1 = shapeCast S1x512 (m ((c : Thread nD τ).loc main_arg2)) shapeCasts_S512_S1x512 := by
  show StableHlo.after hostOps0 _ main_v1 = _
  after_results_simp
  rfl
theorem V_v2 : V m c main_v2_0 = m ((c : Thread nD τ).loc main_arg6) := by
  show StableHlo.after hostOps0 _ main_v2_0 = _
  after_results_simp
  rfl

theorem i1_apply (k : Fin 512) : i1 m c t (ix2 0 k) = m ((c : Thread nD τ).loc main_arg1) (ix1 k) := by
  obtain ⟨e0, e1⟩ := at1 t
  show iblk m c 1 t (ix2 0 k) = _
  unfold iblk
  rw [View.read_apply]
  show V m c main_v0 _ = m (c.tc.loc main_arg1) _
  rw [V_v0]
  rw [show ((cfg0.win 1).blk t).view.emb (ix2 0 k) = ix2 0 k from funext fun a => Fin.ext (by
    match a with
    | ⟨0, _⟩ => show win0_1.index t 0 * 1 + 1 * 0 = 0; rw [e0]
    | ⟨1, _⟩ => show win0_1.index t 1 * 512 + 1 * k.val = k.val; rw [e1]; omega)]
  exact shapeCast_apply _ _ (ix2 0 k) (ix1 k) (by
    rw [Shape.rowMajor_val_two, Shape.rowMajor_val_one]; show k.val = 0 * 512 + k.val; omega)

theorem i2_apply (k : Fin 512) : i2 m c t (ix2 0 k) = m ((c : Thread nD τ).loc main_arg2) (ix1 k) := by
  obtain ⟨e0, e1⟩ := at_2 t
  show iblk m c 2 t (ix2 0 k) = _
  unfold iblk
  rw [View.read_apply]
  show V m c main_v1 _ = m (c.tc.loc main_arg2) _
  rw [V_v1]
  rw [show ((cfg0.win 2).blk t).view.emb (ix2 0 k) = ix2 0 k from funext fun a => Fin.ext (by
    match a with
    | ⟨0, _⟩ => show win0_2.index t 0 * 1 + 1 * 0 = 0; rw [e0]
    | ⟨1, _⟩ => show win0_2.index t 1 * 512 + 1 * k.val = k.val; rw [e1]; omega)]
  exact shapeCast_apply _ _ (ix2 0 k) (ix1 k) (by
    rw [Shape.rowMajor_val_two, Shape.rowMajor_val_one]; show k.val = 0 * 512 + k.val; omega)

end Cert.Gmlp

end
-- ==== Proof.Gmlp.Bias.lean ====
/-
  The position bias: laid out over the lanes at the first point, and its gradient gathered per head at the last.
-/
module

public import proofs.«01_k».proof.Proof.Gmlp.Block

@[expose] public section

set_option maxRecDepth 16384

noncomputable section

namespace Cert.Gmlp

open Cert.KernelIdeal Cert.KernelIdeal.Gen
open Idealize.ShloMosaic Idealize.ShloMosaic.TcCoe Idealize.ShloMosaic.Tactic

/-- Whether lane `k` of the 512 is a lane of head `h`, as the body computes it. -/
def hot (k h : ℕ) : BitVec 32 :=
  BitVec.setWidth 32
    (IntOp.cmpi .eq
      (Scalar.select
        (IntOp.andi
          (IntOp.cmpi .ne
            (IntOp.subi (BitVec.setWidth 32 (IntOp.cmpi .sgt (BitVec.ofNat 32 k) 0#32))
              (BitVec.setWidth 32 (IntOp.cmpi .slt (BitVec.ofNat 32 k) 0#32)))
            (Scalar.subi (Scalar.extui (Scalar.cmpi .sgt 64#32 0#32)) (Scalar.extui (Scalar.cmpi .slt 64#32 0#32))))
          (IntOp.cmpi .ne (IntOp.remsi .vector (BitVec.ofNat 32 k) 64#32) 0#32))
        (IntOp.subi (IntOp.divsi .vector (BitVec.ofNat 32 k) 64#32) 1#32)
        (IntOp.divsi .vector (BitVec.ofNat 32 k) 64#32))
      (BitVec.ofNat 32 h))

theorem hot_eq : ∀ (k : Fin 512) (h : Fin 8), hot k.val h.val = if k.val / 64 = h.val then 1#32 else 0#32 := by
  decide +kernel

theorem hot_val (k : Fin 512) (h : Fin 8) :
    FloatOps.sitofp (F := Ideal) .f32 (hot k.val h.val) = if k.val / 64 = h.val then (1 : EReal) else 0 := by
  rw [hot_eq]
  split
  · show (((1#32).toInt : ℝ) : EReal) = 1
    norm_num
  · show (((0#32).toInt : ℝ) : EReal) = 0
    norm_num

theorem bias0_apply (x4 : Vec Ideal S8x128 .f32) (t : Fin 128) (h : Fin 8) (p : Fin 64) (hk) :
    bias0 x4 (ix2 t ⟨64 * h.val + p.val, hk⟩) = x4 (ix2 h t) := by
  unfold bias0 k0_pay8 k0_pay7 k0_pay6
  pointwise
  refine (Finset.sum_congr rfl fun x _ => congrArg (x4 (ix2 x t) * ·) (hot_val ⟨64 * h.val + p.val, hk⟩ x)).trans ?_
  rw [Finset.sum_eq_single h]
  · rw [if_pos (by simp only; omega), mul_one]
  · intro x _ hx
    rw [if_neg (by simp only; exact fun e => hx (Fin.ext (by omega))), mul_zero]
  · exact fun hx => absurd (Finset.mem_univ _) hx

theorem pay1_apply (s : Vec Ideal S128x512 .f32) (t : Fin 128) (h : Fin 8) :
    k0_pay1 s (ix2 t h) = ∑ p : Fin 64, s (ix2 t ⟨64 * h.val + p.val, by omega⟩) := by
  unfold k0_pay1
  pointwise
  refine (Finset.sum_congr rfl fun x _ => congrArg (s (ix2 t x) * ·) (hot_val x h)).trans ?_
  simp only [mul_ite, mul_one, mul_zero]
  rw [← Finset.sum_filter]
  refine (Finset.sum_bij (fun (p : Fin 64) _ => (⟨64 * h.val + p.val, by omega⟩ : Fin 512)) ?_ ?_ ?_ ?_).symm
  · intro p _
    simp only [Finset.mem_filter, Finset.mem_univ, true_and]; omega
  · intro p _ q _ e
    have := congrArg Fin.val e
    simp only at this
    exact Fin.ext (by omega)
  · intro k hk
    simp only [Finset.mem_filter, Finset.mem_univ, true_and] at hk
    exact ⟨⟨k.val % 64, by omega⟩, Finset.mem_univ _, Fin.ext (by simp only; omega)⟩
  · exact fun _ _ => rfl

end Cert.Gmlp

end
-- ==== Proof.Gmlp.Sums.lean ====
/-
  What the grid leaves behind: the accumulators hold the sums over the points so far, the bias stays as laid out.
-/
module

public import proofs.«01_k».proof.Proof.Gmlp.Blocks
public import proofs.«01_k».proof.Proof.Gmlp.Bias

@[expose] public section

set_option maxRecDepth 16384

noncomputable section

namespace Cert.Gmlp

open Cert.KernelIdeal Cert.KernelIdeal.Gen
open Idealize.ShloMosaic Idealize.ShloMosaic.TcCoe Idealize.ShloMosaic.Tactic Idealize.SL.Sem

/-- What every point of this grid adds to. -/
theorem sum_of_grid {S : Type} (o : (n : ℕ) → n < 32 → S → EReal) (f : Fin 32 → S → EReal) (h0 : ∀ y, o 0 (by omega) y = f 0 y)
    (hs : ∀ n (h : n + 1 < 32) y, o (n + 1) h y = o n (by omega) y + f ⟨n + 1, h⟩ y) (y : S) : o 31 (by omega) y = ∑ i, f i y :=
  sum_of_steps (N := 31) (M := 32) rfl o f h0 hs y

variable (m : (ℓ : Loc nD τ sig) → Buf (Elt Ideal) ℓ) (c : Dev nD)

/-- Point `i` of the grid. -/
abbrev pt (n : ℕ) (h : n < 32) : Fin cfg0.N := ⟨n, lt_of_lt_of_eq h N_0.symm⟩

/-- The contents after point `n`. -/
abbrev at_pt (n : ℕ) (h : n < 32) := outsAt0 m c n (lt_of_lt_of_eq h N_0.symm)

theorem step_zero : Step m c (pt 0 (by omega)) (at_pt m c 0 (by omega)) (bias0 (i4 m c (pt 0 (by omega)))) (k0_pay2 (F := Ideal)) (k0_pay3 (F := Ideal))
    (k0_pay4 (F := Ideal)) (k0_pay5 (F := Ideal)) :=
  stepA m c (pt 0 (by omega)) rfl (by simp)

theorem step_succ (n : ℕ) (h : n + 1 < 32) : Step m c (pt (n + 1) h) (at_pt m c (n + 1) h)
    (at_pt m c n (by omega)).2.2.2.2.2.1 (at_pt m c n (by omega)).2.1 (at_pt m c n (by omega)).2.2.1
    (at_pt m c n (by omega)).2.2.2.1 (at_pt m c n (by omega)).2.2.2.2.2.2 := by
  by_cases h1 : (n + 1) % 32 = 31
  · exact stepC m c (pt (n + 1) h) (by simp only; omega) h1
  · exact stepB m c (pt (n + 1) h) (by simp only; omega) h1

theorem bias_eq (n : ℕ) (h : n < 32) : (at_pt m c n h).2.2.2.2.2.1 = bias0 (i4 m c (pt 0 (by omega))) := by
  induction n with
  | zero => exact (step_zero m c).es0
  | succ n ih => exact (step_succ m c n h).es0.trans (ih (by omega))

theorem pay2_zero (y) : k0_pay2 (F := Ideal) y = (0 : EReal) := by unfold k0_pay2; pointwise
theorem pay3_zero (y) : k0_pay3 (F := Ideal) y = (0 : EReal) := by unfold k0_pay3; pointwise
theorem pay4_zero (y) : k0_pay4 (F := Ideal) y = (0 : EReal) := by unfold k0_pay4; pointwise
theorem pay5_zero (y) : k0_pay5 (F := Ideal) y = (0 : EReal) := by unfold k0_pay5; pointwise

variable (i : Fin 32)

abbrev pti : Fin cfg0.N := pt i.val i.isLt

theorem sum7 (y) : (at_pt m c 31 (by omega)).2.1 y = ∑ i, if (y 0).val = 0 then
    hdg (i0 m c (pti i)) (i3 m c (pti i)) (i5 m c (pti i)) (ch (y 1).val) (cl (y 1).val) else 0 := by
  refine sum_of_grid (fun n h => (at_pt m c n h).2.1) (fun i y => if (y 0).val = 0 then
    hdg (i0 m c (pti i)) (i3 m c (pti i)) (i5 m c (pti i)) (ch (y 1).val) (cl (y 1).val) else 0) ?_ ?_ y
  · intro y
    refine (congrFun (step_zero m c).e7 y).trans ?_
    unfold G7; rw [pay2_zero]; split <;> simp [pti]
  · intro n h y
    refine (congrFun (step_succ m c n h).e7 y).trans ?_
    unfold G7; split <;> simp [pti]

theorem sum8 (y) : (at_pt m c 31 (by omega)).2.2.1 y = ∑ i, if (y 0).val = 0 then
    hdb (i0 m c (pti i)) (i3 m c (pti i)) (i5 m c (pti i)) (ch (y 1).val) (cl (y 1).val) else 0 := by
  refine sum_of_grid (fun n h => (at_pt m c n h).2.2.1) (fun i y => if (y 0).val = 0 then
    hdb (i0 m c (pti i)) (i3 m c (pti i)) (i5 m c (pti i)) (ch (y 1).val) (cl (y 1).val) else 0) ?_ ?_ y
  · intro y
    refine (congrFun (step_zero m c).e8 y).trans ?_
    unfold G8; rw [pay3_zero]; split <;> simp [pti]
  · intro n h y
    refine (congrFun (step_succ m c n h).e8 y).trans ?_
    unfold G8; split <;> simp [pti]

theorem sum9 (y) : (at_pt m c 31 (by omega)).2.2.2.1 y
    = ∑ i, hdw (i0 m c (pti i)) (i1 m c (pti i)) (i2 m c (pti i)) (i5 m c (pti i)) (y 0) (y 1) (y 2) := by
  refine sum_of_grid (fun n h => (at_pt m c n h).2.2.2.1) (fun i y =>
    hdw (i0 m c (pti i)) (i1 m c (pti i)) (i2 m c (pti i)) (i5 m c (pti i)) (y 0) (y 1) (y 2)) ?_ ?_ y
  · intro y
    refine (congrFun (step_zero m c).e9 y).trans ?_
    unfold G9; rw [pay4_zero]; exact zero_add _
  · intro n h y
    exact congrFun (step_succ m c n h).e9 y

theorem sumE (y) : (at_pt m c 31 (by omega)).2.2.2.2.2.2 y
    = ∑ i, hde (i0 m c (pti i)) (i5 m c (pti i)) (ch (y 1).val) (y 0) (cl (y 1).val) := by
  refine sum_of_grid (fun n h => (at_pt m c n h).2.2.2.2.2.2) (fun i y =>
    hde (i0 m c (pti i)) (i5 m c (pti i)) (ch (y 1).val) (y 0) (cl (y 1).val)) ?_ ?_ y
  · intro y
    refine (congrFun (step_zero m c).es1 y).trans ?_
    unfold GE; rw [pay5_zero]; exact zero_add _
  · intro n h y
    exact congrFun (step_succ m c n h).es1 y

/-! ## In the arguments -/

abbrev g0 : A2 4096 4608 := m ((c : Thread nD τ).loc main_arg0)
abbrev g1 : A1 512 := m ((c : Thread nD τ).loc main_arg1)
abbrev g2 : A1 512 := m ((c : Thread nD τ).loc main_arg2)
abbrev g3 : A3 8 128 128 := m ((c : Thread nD τ).loc main_arg3)
abbrev g4 : A2 8 128 := m ((c : Thread nD τ).loc main_arg4)
abbrev g5 : A2 4096 2048 := m ((c : Thread nD τ).loc main_arg5)
abbrev g6 : A2 4096 4608 := m ((c : Thread nD τ).loc main_arg6)

variable (h : Fin 8)

theorem hu_eq : hu (i0 m c (pti i)) h = mu (g0 m c) i h := funext₂ fun _ _ => i0_apply ..
theorem hv_eq : hv (i0 m c (pti i)) h = mv (g0 m c) i h := funext₂ fun _ _ => i0_apply ..
theorem hc_eq : hc (i5 m c (pti i)) h = mc (g5 m c) i h := funext₂ fun _ _ => i5_apply ..
theorem hr1_eq : hr (i1 m c (pti i)) h = mr (g1 m c) h := funext fun _ => i1_apply ..
theorem hr2_eq : hr (i2 m c (pti i)) h = mr (g2 m c) h := funext fun _ => i2_apply ..
theorem hw_eq : hw (i3 m c (pti i)) h = mw (g3 m c) h := by
  funext t s
  unfold mw
  exact if_congr Iff.rfl (i3_apply ..) rfl
theorem hb_eq (n : ℕ) (hn : n < 32) : hb (at_pt m c n hn).2.2.2.2.2.1 h = fun t _ => me (g4 m c) h t := by
  funext t p
  rw [bias_eq]
  exact (bias0_apply ..).trans (i4_apply ..)

/-- What a point stores of the projection's gradient. -/
theorem out6 (z) : (at_pt m c i.val i.isLt).1 z = if (z 1).val < 512 then
      mdu (g0 m c) (g1 m c) (g2 m c) (g3 m c) (g4 m c) (g5 m c) i (ch (z 1).val) (z 0) (cl (z 1).val)
    else mdv (g0 m c) (g1 m c) (g3 m c) (g5 m c) i (ch (z 1).val) (z 0) (cl (z 1).val) := by
  have e : (at_pt m c i.val i.isLt).1 = G6 (i0 m c (pti i)) (i1 m c (pti i)) (i2 m c (pti i)) (i3 m c (pti i)) (i5 m c (pti i))
      (at_pt m c i.val i.isLt).2.2.2.2.2.1 := by
    obtain ⟨n, hn⟩ := i
    cases n with
    | zero => exact (step_zero m c).e6.trans (by rw [(step_zero m c).es0])
    | succ n => exact (step_succ m c n hn).e6.trans (by rw [(step_succ m c n hn).es0])
  rw [e]
  unfold G6 hdu hdv mdu mdv
  rw [hu_eq, hv_eq, hc_eq, hr1_eq, hr2_eq, hw_eq, hb_eq]

theorem out7 : (at_pt m c 31 (by omega)).2.1 = res1 (g0 m c) (g3 m c) (g5 m c) := by
  funext y
  rw [sum7]
  unfold res1 mdg
  simp only [hdg, hu_eq, hv_eq, hc_eq, hw_eq]

theorem out8 : (at_pt m c 31 (by omega)).2.2.1 = res2 (g0 m c) (g3 m c) (g5 m c) := by
  funext y
  rw [sum8]
  unfold res2 mdb
  simp only [hdb, hu_eq, hc_eq, hw_eq]

theorem out9 : (at_pt m c 31 (by omega)).2.2.2.1 = res3 (g0 m c) (g1 m c) (g2 m c) (g5 m c) := by
  funext y
  obtain ⟨h, t, s, rfl⟩ : ∃ h t s, y = ix3 h t s := ⟨y 0, y 1, y 2, eq_ix3 y⟩
  refine (sum9 m c _).trans (Finset.sum_congr rfl fun i _ => ?_)
  show hdw (i0 m c (pti i)) (i1 m c (pti i)) (i2 m c (pti i)) (i5 m c (pti i)) h t s
    = mdw (g0 m c) (g1 m c) (g2 m c) (g5 m c) i h t s
  unfold hdw mdw
  rw [hu_eq, hv_eq, hc_eq, hr1_eq, hr2_eq]

theorem out10 : (at_pt m c 31 (by omega)).2.2.2.2.1 = res4 (g0 m c) (g5 m c) := by
  have e : (at_pt m c 31 (by omega)).2.2.2.2.1 = k0_pay1 (F := Ideal) (at_pt m c 31 (by omega)).2.2.2.2.2.2 :=
    last10 m c (pt 31 (by omega)) (by simp) rfl
  have e' := sumE m c
  generalize (at_pt m c 31 (by omega)).2.2.2.2.2.2 = s at e e'
  rw [e]
  funext y
  obtain ⟨t, h, rfl⟩ : ∃ t h, y = ix2 t h := ⟨y 0, y 1, eq_ix2 y⟩
  refine (pay1_apply s t h).trans (Finset.sum_congr rfl fun p _ => ?_)
  refine (e' _).trans (Finset.sum_congr rfl fun i _ => ?_)
  refine (at_col h p fun h p => hde (i0 m c (pti i)) (i5 m c (pti i)) h t p).trans ?_
  show _ = mde (g0 m c) (g5 m c) i h t p
  unfold hde mde
  rw [hu_eq, hc_eq]

end Cert.Gmlp

end
-- ==== Proof.Gmlp.Arrays.lean ====
/-
  The result arrays after the run, as functions of the arguments.
-/
module

public import proofs.«01_k».proof.Proof.Gmlp.Sums

@[expose] public section

set_option maxRecDepth 16384

noncomputable section

namespace Cert.Gmlp

open Cert.KernelIdeal Cert.KernelIdeal.Gen Cert.KernelIdeal.Value
open Idealize.ShloMosaic Idealize.ShloMosaic.TcCoe Idealize.ShloMosaic.Tactic Idealize.SL.Sem

variable (m : (ℓ : Loc nD τ sig) → Buf (Elt Ideal) ℓ) (ρ : Dev nD → PrngReg) (c : Dev nD)

theorem at6 : ∀ t : Fin cfg0.N, win0_6.index t 0 = t.val ∧ win0_6.index t 1 = 1 :=
  (by decide +kernel : ∀ t : Fin grid0.N, win0_6.index t 0 = t.val ∧ win0_6.index t 1 = 1)
theorem at7 : ∀ t : Fin cfg0.N, win0_7.index t 0 = 0 ∧ win0_7.index t 1 = 0 :=
  (by decide +kernel : ∀ t : Fin grid0.N, win0_7.index t 0 = 0 ∧ win0_7.index t 1 = 0)
theorem at8 : ∀ t : Fin cfg0.N, win0_8.index t 0 = 0 ∧ win0_8.index t 1 = 0 :=
  (by decide +kernel : ∀ t : Fin grid0.N, win0_8.index t 0 = 0 ∧ win0_8.index t 1 = 0)
theorem at9 : ∀ t : Fin cfg0.N, win0_9.index t 0 = 0 ∧ win0_9.index t 1 = 0 ∧ win0_9.index t 2 = 0 :=
  (by decide +kernel : ∀ t : Fin grid0.N, win0_9.index t 0 = 0 ∧ win0_9.index t 1 = 0 ∧ win0_9.index t 2 = 0)
theorem at10 : ∀ t : Fin cfg0.N, win0_10.index t 0 = 0 ∧ win0_10.index t 1 = 0 :=
  (by decide +kernel : ∀ t : Fin grid0.N, win0_10.index t 0 = 0 ∧ win0_10.index t 1 = 0)

/-- The last point. -/
abbrev tl : Fin cfg0.N := pt 31 (by omega)

theorem last_of {t : Fin cfg0.N} (h : t.val % 32 = 31) : t = tl :=
  Fin.ext (by have := lt32 t; simp only; omega)

theorem emb7 (t : Fin cfg0.N) (j : S8x512.Idx) : ((cfg0.win 7).blk t).view.emb j = j := by
  obtain ⟨e0, e1⟩ := at7 t
  funext a; apply Fin.ext
  match a with
  | ⟨0, _⟩ => show win0_7.index t 0 * 8 + 1 * (j 0).val = (j 0).val; omega
  | ⟨1, _⟩ => show win0_7.index t 1 * 512 + 1 * (j 1).val = (j 1).val; omega
theorem emb8 (t : Fin cfg0.N) (j : S8x512.Idx) : ((cfg0.win 8).blk t).view.emb j = j := by
  obtain ⟨e0, e1⟩ := at8 t
  funext a; apply Fin.ext
  match a with
  | ⟨0, _⟩ => show win0_8.index t 0 * 8 + 1 * (j 0).val = (j 0).val; omega
  | ⟨1, _⟩ => show win0_8.index t 1 * 512 + 1 * (j 1).val = (j 1).val; omega
theorem emb9 (t : Fin cfg0.N) (j : S8x128x128.Idx) : ((cfg0.win 9).blk t).view.emb j = j := by
  obtain ⟨e0, e1, e2⟩ := at9 t
  funext a; apply Fin.ext
  match a with
  | ⟨0, _⟩ => show win0_9.index t 0 * 8 + 1 * (j 0).val = (j 0).val; omega
  | ⟨1, _⟩ => show win0_9.index t 1 * 128 + 1 * (j 1).val = (j 1).val; omega
  | ⟨2, _⟩ => show win0_9.index t 2 * 128 + 1 * (j 2).val = (j 2).val; omega
theorem emb10 (t : Fin cfg0.N) (j : S128x8.Idx) : ((cfg0.win 10).blk t).view.emb j = j := by
  obtain ⟨e0, e1⟩ := at10 t
  funext a; apply Fin.ext
  match a with
  | ⟨0, _⟩ => show win0_10.index t 0 * 128 + 1 * (j 0).val = (j 0).val; omega
  | ⟨1, _⟩ => show win0_10.index t 1 * 8 + 1 * (j 1).val = (j 1).val; omega

theorem arr7 : (dats m 0 c).arrAt 7 cfg0.N = res1 (g0 m c) (g3 m c) (g5 m c) := by
  refine (dats m 0 c).arrAt_eq_of_cover 7 (res1 (g0 m c) (g3 m c) (g5 m c)) (fun t hf => ?_) fun i =>
    ⟨tl, (flush0_7 tl).mpr rfl, emb7 tl i ▸ View.emb_mem_set _ _⟩
  obtain rfl := last_of ((flush0_7 t).mp hf)
  rw [flushed7, show (outsAt0 m c tl.val tl.isLt).2.1 = _ from out7 m c]
  funext j
  show res1 (g0 m c) (g3 m c) (g5 m c) j = res1 (g0 m c) (g3 m c) (g5 m c) (((cfg0.win 7).blk tl).view.emb j)
  rw [emb7]

theorem arr8 : (dats m 0 c).arrAt 8 cfg0.N = res2 (g0 m c) (g3 m c) (g5 m c) := by
  refine (dats m 0 c).arrAt_eq_of_cover 8 (res2 (g0 m c) (g3 m c) (g5 m c)) (fun t hf => ?_) fun i =>
    ⟨tl, (flush0_8 tl).mpr rfl, emb8 tl i ▸ View.emb_mem_set _ _⟩
  obtain rfl := last_of ((flush0_8 t).mp hf)
  rw [flushed8, show (outsAt0 m c tl.val tl.isLt).2.2.1 = _ from out8 m c]
  funext j
  show res2 (g0 m c) (g3 m c) (g5 m c) j = res2 (g0 m c) (g3 m c) (g5 m c) (((cfg0.win 8).blk tl).view.emb j)
  rw [emb8]

theorem arr9 : (dats m 0 c).arrAt 9 cfg0.N = res3 (g0 m c) (g1 m c) (g2 m c) (g5 m c) := by
  refine (dats m 0 c).arrAt_eq_of_cover 9 (res3 (g0 m c) (g1 m c) (g2 m c) (g5 m c)) (fun t hf => ?_) fun i =>
    ⟨tl, (flush0_9 tl).mpr rfl, emb9 tl i ▸ View.emb_mem_set _ _⟩
  obtain rfl := last_of ((flush0_9 t).mp hf)
  rw [flushed9, show (outsAt0 m c tl.val tl.isLt).2.2.2.1 = _ from out9 m c]
  funext j
  show res3 (g0 m c) (g1 m c) (g2 m c) (g5 m c) j = res3 (g0 m c) (g1 m c) (g2 m c) (g5 m c) (((cfg0.win 9).blk tl).view.emb j)
  rw [emb9]

theorem arr10 : (dats m 0 c).arrAt 10 cfg0.N = res4 (g0 m c) (g5 m c) := by
  refine (dats m 0 c).arrAt_eq_of_cover 10 (res4 (g0 m c) (g5 m c)) (fun t hf => ?_) fun i =>
    ⟨tl, (flush0_10 tl).mpr rfl, emb10 tl i ▸ View.emb_mem_set _ _⟩
  obtain rfl := last_of ((flush0_10 t).mp hf)
  rw [flushed10, show (outsAt0 m c tl.val tl.isLt).2.2.2.2.1 = _ from out10 m c]
  funext j
  show res4 (g0 m c) (g5 m c) j = res4 (g0 m c) (g5 m c) (((cfg0.win 10).blk tl).view.emb j)
  rw [emb10]

theorem emb6_val (t : Fin cfg0.N) (j : ((cfg0.win 6).xblock (grid0.coords t)).Idx) :
    (((cfg0.win 6).blk t).view.emb j 0).val = 128 * t.val + (j 0).val
      ∧ (((cfg0.win 6).blk t).view.emb j 1).val = 1024 + (j 1).val := by
  obtain ⟨e0, e1⟩ := at6 t
  constructor
  · show win0_6.index t 0 * 128 + 1 * (j 0).val = _; omega
  · show win0_6.index t 1 * 1024 + 1 * (j 1).val = _; omega

abbrev r0 := res0 (g0 m c) (g6 m c) (g1 m c) (g2 m c) (g3 m c) (g4 m c) (g5 m c)

theorem xsize6 : ∀ t : Fin cfg0.N, ∀ a, (cfg0.win 6).xsize (grid0.coords t) a = (cfg0.win 6).size a := by decide +kernel

theorem flushed_eq6 (t : Fin cfg0.N) :
    (dats m 0 c).flushed 6 t = ((cfg0.win 6).blk t).view.read (Elt Ideal) (r0 m c) := by
  obtain ⟨n, hn⟩ := t
  obtain ⟨i, rfl⟩ : ∃ i : Fin 32, n = i.val := ⟨⟨n, lt32 ⟨n, hn⟩⟩, rfl⟩
  rw [flushed6]
  funext j
  have h0 : (j 0).val < 128 := lt_of_lt_of_eq (j 0).isLt (xsize6 (pti i) 0)
  have h1 : (j 1).val < 1024 := lt_of_lt_of_eq (j 1).isLt (xsize6 (pti i) 1)
  obtain ⟨e0, e1⟩ := emb6_val (pti i) j
  refine (show _ = (at_pt m c i.val i.isLt).1 (ix2 ⟨(j 0).val, h0⟩ ⟨(j 1).val, h1⟩) from ?_).trans ?_
  · refine congrArg (at_pt m c i.val i.isLt).1 (funext fun a => ?_)
    match a with
    | ⟨0, _⟩ => rfl
    | ⟨1, _⟩ => rfl
  rw [out6, View.read_apply]
  generalize ((cfg0.win 6).blk (pti i)).view.emb j = z at e0 e1
  rw [show (pti i).val = i.val from rfl] at e0
  have hc : chunk (z 0) = i := Fin.ext (by simp only [chunk, e0]; omega)
  have hp : place (z 0) = ⟨(j 0).val, h0⟩ := Fin.ext (by simp only [place, e0]; omega)
  have hk : (z 1).val - 1024 = (j 1).val := by omega
  show _ = res0 (g0 m c) (g6 m c) (g1 m c) (g2 m c) (g3 m c) (g4 m c) (g5 m c) z
  unfold res0
  refine Eq.trans ?_ (if_neg (by omega)).symm
  rw [hk, hc, hp]
  rfl

theorem arr6 : (dats m 0 c).arrAt 6 cfg0.N = r0 m c := by
  funext z
  refine ((dats m 0 c).arrAt_eq_piecewise 6 (r0 m c) (fun t _ => flushed_eq6 m c t) z).trans ?_
  split
  · rfl
  · rename_i h
    rw [A_eq]
    show V m c main_v2_0 z = res0 (g0 m c) (g6 m c) (g1 m c) (g2 m c) (g3 m c) (g4 m c) (g5 m c) z
    rw [V_v2]
    unfold res0
    rw [if_pos]
    by_contra hz
    refine h ⟨pti (chunk (z 0)), flush0_6 _, ?_⟩
    have hz0 : (z 0).val < 4096 := (z 0).isLt
    show z ∈ ((View.whole main_v2_0).slice (win0_6.rect (pti (chunk (z 0))))).set
    rw [View.set_slice_whole, Rect.mem_set_unit]
    obtain ⟨e0, e1⟩ := at6 (pti (chunk (z 0)))
    intro a
    match a with
    | ⟨0, _⟩ =>
      show win0_6.index (pti (chunk (z 0))) 0 * 128 ≤ (z 0).val ∧ (z 0).val < win0_6.index (pti (chunk (z 0))) 0 * 128 + win0_6.xsize (grid0.coords (pti (chunk (z 0)))) 0
      rw [show win0_6.xsize (grid0.coords (pti (chunk (z 0)))) 0 = 128 from xsize6 _ 0, e0]; simp only [chunk]; omega
    | ⟨1, _⟩ =>
      show win0_6.index (pti (chunk (z 0))) 1 * 1024 ≤ (z 1).val ∧ (z 1).val < win0_6.index (pti (chunk (z 0))) 1 * 1024 + win0_6.xsize (grid0.coords (pti (chunk (z 0)))) 1
      rw [show win0_6.xsize (grid0.coords (pti (chunk (z 0)))) 1 = 1024 from xsize6 _ 1, e1]; omega

/-- The run, read: the five results, the arguments unchanged. -/
theorem run : θ_run defs (onTc (τ := τ) (main (F := Ideal))) ⟨m, fun _ => 0, ρ⟩ fun r => ∀ c : Dev nD,
      r.2.mem ((c : Thread nD τ).loc main_v2_0) = r0 m c
      ∧ r.2.mem ((c : Thread nD τ).loc main_v2_1) = res1 (g0 m c) (g3 m c) (g5 m c)
      ∧ r.2.mem ((c : Thread nD τ).loc main_v2_2) = res2 (g0 m c) (g3 m c) (g5 m c)
      ∧ r.2.mem ((c : Thread nD τ).loc main_v2_3) = res3 (g0 m c) (g1 m c) (g2 m c) (g5 m c)
      ∧ r.2.mem ((c : Thread nD τ).loc main_v2_4) = res4 (g0 m c) (g5 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun _ h c => ⟨(h c).1.trans (arr6 m c), (h c).2.1.trans (arr7 m c), (h c).2.2.1.trans (arr8 m c),
    (h c).2.2.2.1.trans (arr9 m c), (h c).2.2.2.2.1.trans (arr10 m c), (h c).2.2.2.2.2⟩) (run_blocks m ρ)

end Cert.Gmlp

end
-- ==== Proof.Gmlp.RefIdx.lean ====
/-
  The indices of the reference's arrays at a chunk, a head, a token of the chunk and a lane, and how the reference's
  changes of shape move between them.
-/
module

public import proofs.«01_k».proof.Proof.Gmlp.Meet
public import proofs.«01_k».proof.Proof.Gen.ReferenceIdeal.Read

@[expose] public section

set_option maxRecDepth 16384

noncomputable section

namespace Cert.Gmlp

open Cert.ReferenceIdeal Cert.ReferenceIdeal.Gen Cert.ReferenceIdeal.Read
open Idealize.ShloMosaic

variable (i : Fin 32) (h : Fin 8) (t s : Fin 128) (p : Fin 64)

/-- Tokens by columns. -/
def T2 : S4096x512.Idx := fun a => match a with
  | ⟨0, _⟩ => ⟨128 * i.val + t.val, by show _ < 4096; omega⟩
  | ⟨1, _⟩ => ⟨64 * h.val + p.val, by show _ < 512; omega⟩

/-- The tokens in two halves. -/
def T3 : S2x2048x512.Idx := fun a => match a with
  | ⟨0, _⟩ => ⟨i.val / 16, by show _ < 2; omega⟩
  | ⟨1, _⟩ => ⟨128 * (i.val % 16) + t.val, by show _ < 2048; omega⟩
  | ⟨2, _⟩ => ⟨64 * h.val + p.val, by show _ < 512; omega⟩

/-- The columns by heads. -/
def T4 : S2x2048x8x64.Idx := fun a => match a with
  | ⟨0, _⟩ => ⟨i.val / 16, by show _ < 2; omega⟩
  | ⟨1, _⟩ => ⟨128 * (i.val % 16) + t.val, by show _ < 2048; omega⟩
  | ⟨2, _⟩ => ⟨h.val, by show _ < 8; omega⟩
  | ⟨3, _⟩ => ⟨p.val, by show _ < 64; omega⟩

/-- The tokens by chunks. -/
def T5 : S2x16x128x8x64.Idx := fun a => match a with
  | ⟨0, _⟩ => ⟨i.val / 16, by show _ < 2; omega⟩
  | ⟨1, _⟩ => ⟨i.val % 16, by show _ < 16; omega⟩
  | ⟨2, _⟩ => ⟨t.val, by show _ < 128; omega⟩
  | ⟨3, _⟩ => ⟨h.val, by show _ < 8; omega⟩
  | ⟨4, _⟩ => ⟨p.val, by show _ < 64; omega⟩

/-- The heads first, the token last. -/
def H5 : S8x2x16x64x128.Idx := fun a => match a with
  | ⟨0, _⟩ => ⟨h.val, by show _ < 8; omega⟩
  | ⟨1, _⟩ => ⟨i.val / 16, by show _ < 2; omega⟩
  | ⟨2, _⟩ => ⟨i.val % 16, by show _ < 16; omega⟩
  | ⟨3, _⟩ => ⟨p.val, by show _ < 64; omega⟩
  | ⟨4, _⟩ => ⟨t.val, by show _ < 128; omega⟩

/-- The rows of the norm. -/
def U3 : S2x2048x8.Idx := fun a => match a with
  | ⟨0, _⟩ => ⟨i.val / 16, by show _ < 2; omega⟩
  | ⟨1, _⟩ => ⟨128 * (i.val % 16) + t.val, by show _ < 2048; omega⟩
  | ⟨2, _⟩ => ⟨h.val, by show _ < 8; omega⟩

def U4 : S2x2048x8x1.Idx := fun a => match a with
  | ⟨0, _⟩ => ⟨i.val / 16, by show _ < 2; omega⟩
  | ⟨1, _⟩ => ⟨128 * (i.val % 16) + t.val, by show _ < 2048; omega⟩
  | ⟨2, _⟩ => ⟨h.val, by show _ < 8; omega⟩
  | ⟨3, _⟩ => ⟨0, Nat.one_pos⟩

/-- The position weights. -/
def W3 : S8x128x128.Idx := fun a => match a with
  | ⟨0, _⟩ => ⟨h.val, by show _ < 8; omega⟩
  | ⟨1, _⟩ => ⟨t.val, by show _ < 128; omega⟩
  | ⟨2, _⟩ => ⟨s.val, by show _ < 128; omega⟩

/-! ## The changes of shape -/

theorem e2 : idx_main_v2 (T3 i h t p) = T2 i h t p := funext fun a => Fin.ext (match a with
  | ⟨0, _⟩ => by
    show ((i.val / 16 * 2048 + (128 * (i.val % 16) + t.val)) * 512 + (64 * h.val + p.val)) / 512 = 128 * i.val + t.val
    omega
  | ⟨1, _⟩ => by
    show ((i.val / 16 * 2048 + (128 * (i.val % 16) + t.val)) * 512 + (64 * h.val + p.val)) % 512 = 64 * h.val + p.val
    omega)

theorem e143 : idx_main_v143 (T2 i h t p) = T3 i h t p := funext fun a => Fin.ext (match a with
  | ⟨0, _⟩ => by
    show ((128 * i.val + t.val) * 512 + (64 * h.val + p.val)) / 1048576 = i.val / 16
    omega
  | ⟨1, _⟩ => by
    show ((128 * i.val + t.val) * 512 + (64 * h.val + p.val)) / 512 % 2048 = 128 * (i.val % 16) + t.val
    omega
  | ⟨2, _⟩ => by
    show ((128 * i.val + t.val) * 512 + (64 * h.val + p.val)) % 512 = 64 * h.val + p.val
    omega)

theorem e29 : idx_main_v29 (T4 i h t p) = T3 i h t p := funext fun a => Fin.ext (match a with
  | ⟨0, _⟩ => by
    show (((i.val / 16 * 2048 + (128 * (i.val % 16) + t.val)) * 8 + h.val) * 64 + p.val) / 1048576 = i.val / 16
    omega
  | ⟨1, _⟩ => by
    show (((i.val / 16 * 2048 + (128 * (i.val % 16) + t.val)) * 8 + h.val) * 64 + p.val) / 512 % 2048 = 128 * (i.val % 16) + t.val
    omega
  | ⟨2, _⟩ => by
    show (((i.val / 16 * 2048 + (128 * (i.val % 16) + t.val)) * 8 + h.val) * 64 + p.val) % 512 = 64 * h.val + p.val
    omega)

theorem e49 : idx_main_v49 (T3 i h t p) = T4 i h t p := funext fun a => Fin.ext (match a with
  | ⟨0, _⟩ => by
    show ((i.val / 16 * 2048 + (128 * (i.val % 16) + t.val)) * 512 + (64 * h.val + p.val)) / 1048576 = i.val / 16
    omega
  | ⟨1, _⟩ => by
    show ((i.val / 16 * 2048 + (128 * (i.val % 16) + t.val)) * 512 + (64 * h.val + p.val)) / 512 % 2048 = 128 * (i.val % 16) + t.val
    omega
  | ⟨2, _⟩ => by
    show ((i.val / 16 * 2048 + (128 * (i.val % 16) + t.val)) * 512 + (64 * h.val + p.val)) / 64 % 8 = h.val
    omega
  | ⟨3, _⟩ => by
    show ((i.val / 16 * 2048 + (128 * (i.val % 16) + t.val)) * 512 + (64 * h.val + p.val)) % 64 = p.val
    omega)

theorem e56 : idx_main_v56 (T5 i h t p) = T3 i h t p := funext fun a => Fin.ext (match a with
  | ⟨0, _⟩ => by
    show ((((i.val / 16 * 16 + i.val % 16) * 128 + t.val) * 8 + h.val) * 64 + p.val) / 1048576 = i.val / 16
    omega
  | ⟨1, _⟩ => by
    show ((((i.val / 16 * 16 + i.val % 16) * 128 + t.val) * 8 + h.val) * 64 + p.val) / 512 % 2048 = 128 * (i.val % 16) + t.val
    omega
  | ⟨2, _⟩ => by
    show ((((i.val / 16 * 16 + i.val % 16) * 128 + t.val) * 8 + h.val) * 64 + p.val) % 512 = 64 * h.val + p.val
    omega)

theorem e86 : idx_main_v86 (T3 i h t p) = T5 i h t p := funext fun a => Fin.ext (match a with
  | ⟨0, _⟩ => by
    show ((i.val / 16 * 2048 + (128 * (i.val % 16) + t.val)) * 512 + (64 * h.val + p.val)) / 1048576 = i.val / 16
    omega
  | ⟨1, _⟩ => by
    show ((i.val / 16 * 2048 + (128 * (i.val % 16) + t.val)) * 512 + (64 * h.val + p.val)) / 65536 % 16 = i.val % 16
    omega
  | ⟨2, _⟩ => by
    show ((i.val / 16 * 2048 + (128 * (i.val % 16) + t.val)) * 512 + (64 * h.val + p.val)) / 512 % 128 = t.val
    omega
  | ⟨3, _⟩ => by
    show ((i.val / 16 * 2048 + (128 * (i.val % 16) + t.val)) * 512 + (64 * h.val + p.val)) / 64 % 8 = h.val
    omega
  | ⟨4, _⟩ => by
    show ((i.val / 16 * 2048 + (128 * (i.val % 16) + t.val)) * 512 + (64 * h.val + p.val)) % 64 = p.val
    omega)

theorem e30 : idx_main_v30 (U3 i h t) p = T4 i h t p := funext fun a => match a with
  | ⟨0, _⟩ => rfl
  | ⟨1, _⟩ => rfl
  | ⟨2, _⟩ => rfl
  | ⟨3, _⟩ => rfl

theorem e31 : idx_main_v31 (U4 i h t) = U3 i h t := funext fun a => match a with
  | ⟨0, _⟩ => rfl
  | ⟨1, _⟩ => rfl
  | ⟨2, _⟩ => rfl

theorem e34 : idx_main_v34 (T4 i h t p) = U4 i h t := funext fun a => match a with
  | ⟨0, _⟩ => rfl
  | ⟨1, _⟩ => rfl
  | ⟨2, _⟩ => rfl
  | ⟨3, _⟩ => rfl

theorem e106 : idx_main_v106 (T4 i h t p) = U3 i h t := funext fun a => match a with
  | ⟨0, _⟩ => rfl
  | ⟨1, _⟩ => rfl
  | ⟨2, _⟩ => rfl

theorem e105 (k : Fin 1) : idx_main_v105 (U3 i h t) k = U4 i h t := funext fun a => match a with
  | ⟨0, _⟩ => rfl
  | ⟨1, _⟩ => rfl
  | ⟨2, _⟩ => rfl
  | ⟨3, _⟩ => by rw [Subsingleton.elim k 0]; rfl

theorem e99 : idx_main_v99 (U4 i h t) = U3 i h t := funext fun a => Fin.ext (match a with
  | ⟨0, _⟩ => by
    show (((i.val / 16 * 2048 + (128 * (i.val % 16) + t.val)) * 8 + h.val) * 1 + 0) / 16384 = i.val / 16
    omega
  | ⟨1, _⟩ => by
    show (((i.val / 16 * 2048 + (128 * (i.val % 16) + t.val)) * 8 + h.val) * 1 + 0) / 8 % 2048 = 128 * (i.val % 16) + t.val
    omega
  | ⟨2, _⟩ => by
    show (((i.val / 16 * 2048 + (128 * (i.val % 16) + t.val)) * 8 + h.val) * 1 + 0) % 8 = h.val
    omega)

theorem e62 : idx_main_v62 (T5 i h t p) = H5 i h t p := funext fun a => match a with
  | ⟨0, _⟩ => rfl
  | ⟨1, _⟩ => rfl
  | ⟨2, _⟩ => rfl
  | ⟨3, _⟩ => rfl
  | ⟨4, _⟩ => rfl

theorem e81 : idx_main_v81 (H5 i h t p) = T5 i h t p := funext fun a => match a with
  | ⟨0, _⟩ => rfl
  | ⟨1, _⟩ => rfl
  | ⟨2, _⟩ => rfl
  | ⟨3, _⟩ => rfl
  | ⟨4, _⟩ => rfl

theorem el61 : lidx_main_v61 (H5 i h t p) s = T5 i h s p := funext fun a => match a with
  | ⟨0, _⟩ => rfl
  | ⟨1, _⟩ => rfl
  | ⟨2, _⟩ => rfl
  | ⟨3, _⟩ => rfl
  | ⟨4, _⟩ => rfl

theorem er61 : ridx_main_v61 (H5 i h t p) s = W3 h t s := funext fun a => match a with
  | ⟨0, _⟩ => rfl
  | ⟨1, _⟩ => rfl
  | ⟨2, _⟩ => rfl

theorem el83 : lidx_main_v83 (H5 i h t p) s = H5 i h s p := funext fun a => match a with
  | ⟨0, _⟩ => rfl
  | ⟨1, _⟩ => rfl
  | ⟨2, _⟩ => rfl
  | ⟨3, _⟩ => rfl
  | ⟨4, _⟩ => rfl

theorem er83 : ridx_main_v83 (H5 i h t p) s = W3 h s t := funext fun a => match a with
  | ⟨0, _⟩ => rfl
  | ⟨1, _⟩ => rfl
  | ⟨2, _⟩ => rfl

end Cert.Gmlp

end
-- ==== Proof.Gmlp.Laws.lean ====
/-
  Where the reference's arithmetic and the kernel's meet. Over the extended reals the two orders of one formula agree by
  commutativity, except where a factor moves through a sum: through a sum of anything for a positive real factor, and in
  the norm's gradient for the factor `cf`, which needs the cotangent of the normalised row to be real.
-/
module

public import proofs.«01_k».proof.Proof.Gmlp.Spec

@[expose] public section

noncomputable section

namespace Cert.Gmlp

open Idealize.ShloMosaic

/-! ## The literals -/

abbrev c64 : EReal := Ideal.ofBits .f32 0x42800000#32
abbrev ntsp : EReal := Ideal.ofBits .f32 0xBF906EBB#32

theorem c64_eq : c64 = ((64 : ℝ) : EReal) := by
  simp [Ideal.ofBits, Ideal.ieee]; rw [← EReal.coe_mul]; norm_num

theorem k64_eq : k64 = ((1 / 64 : ℝ) : EReal) := by
  simp [Ideal.ofBits, Ideal.ieee]; rw [← EReal.coe_mul]; norm_num

theorem ntsp_eq : ntsp = -tsp := by
  simp [Ideal.ofBits, Ideal.ieee]

theorem half_eq : half = ((1 / 2 : ℝ) : EReal) := by
  simp [Ideal.ofBits, Ideal.ieee]; rw [← EReal.coe_mul]; norm_num

theorem mhalf_eq : mhalf = ((-(1 / 2) : ℝ) : EReal) := by
  simp [Ideal.ofBits, Ideal.ieee]; rw [← EReal.coe_mul]; norm_num

theorem rt2_pos : ∃ r : ℝ, 0 < r ∧ rt2 = (r : EReal) := by
  refine ⟨_, ?_, by simp [Ideal.ofBits, Ideal.ieee]; rfl⟩
  norm_num

theorem eps_pos : ∃ r : ℝ, 0 < r ∧ eps = (r : EReal) := by
  refine ⟨_, ?_, by simp [Ideal.ofBits, Ideal.ieee]; rfl⟩
  norm_num

/-! ## Real values -/

/-- The value is a real number. -/
def IsR (x : EReal) : Prop := ∃ r : ℝ, x = (r : EReal)

theorem IsR.mul {x y : EReal} (hx : IsR x) (hy : IsR y) : IsR (x * y) := by
  obtain ⟨a, rfl⟩ := hx
  obtain ⟨b, rfl⟩ := hy
  exact ⟨a * b, by rw [EReal.coe_mul]⟩

theorem IsR.add {x y : EReal} (hx : IsR x) (hy : IsR y) : IsR (x + y) := by
  obtain ⟨a, rfl⟩ := hx
  obtain ⟨b, rfl⟩ := hy
  exact ⟨a + b, by rw [EReal.coe_add]⟩

theorem IsR.sub {x y : EReal} (hx : IsR x) (hy : IsR y) : IsR (x - y) := by
  obtain ⟨a, rfl⟩ := hx
  obtain ⟨b, rfl⟩ := hy
  exact ⟨a - b, by rw [EReal.coe_sub]⟩

theorem IsR.sum {n : ℕ} {f : Fin n → EReal} (hf : ∀ k, IsR (f k)) : IsR (∑ k, f k) := by
  choose r hr using hf
  refine ⟨∑ k, r k, ?_⟩
  rw [show f = fun k => (r k : EReal) from funext hr]
  exact (map_sum (⟨⟨Real.toEReal, EReal.coe_zero⟩, EReal.coe_add⟩ : ℝ →+ EReal) r Finset.univ).symm

theorem isR_zero : IsR 0 := ⟨0, EReal.coe_zero.symm⟩
theorem isR_half : IsR half := ⟨_, half_eq⟩
theorem isR_mhalf : IsR mhalf := ⟨_, mhalf_eq⟩
theorem isR_k64 : IsR k64 := ⟨_, k64_eq⟩
theorem isR_rt2 : IsR rt2 := let ⟨r, _, h⟩ := rt2_pos; ⟨r, h⟩

theorem isR_erf (x : EReal) : IsR (Ideal.erf x) := by
  induction x with
  | bot => exact ⟨-1, by rw [Ideal.erf_bot, EReal.coe_neg, EReal.coe_one]⟩
  | top => exact ⟨1, by rw [Ideal.erf_top, EReal.coe_one]⟩
  | coe r => exact ⟨_, Ideal.erf_coe r⟩

/-- `gelu` of a real is real. -/
theorem isR_gl {x : EReal} (hx : IsR x) : IsR (gl x) :=
  (isR_half.mul hx).mul (IsR.add ⟨1, EReal.coe_one.symm⟩ (isR_erf _))

/-- `gelu` of anything is real or `⊤`. -/
theorem gl_cases (x : EReal) : IsR (gl x) ∨ gl x = ⊤ := by
  obtain ⟨c, hc, ec⟩ := rt2_pos
  induction x with
  | bot =>
    refine Or.inl ⟨0, ?_⟩
    unfold gl
    rw [ec, half_eq, EReal.bot_mul_coe_of_pos hc, Ideal.erf_bot]
    rw [show (1 : EReal) + -1 = 0 by rw [← EReal.coe_one, ← EReal.coe_neg, ← EReal.coe_add, add_neg_cancel, EReal.coe_zero],
      mul_zero, EReal.coe_zero]
  | top =>
    refine Or.inr ?_
    unfold gl
    rw [ec, half_eq, EReal.top_mul_coe_of_pos hc, Ideal.erf_top, EReal.coe_mul_top_of_pos (by norm_num)]
    rw [show (1 : EReal) + 1 = ((2 : ℝ) : EReal) by rw [← EReal.coe_one, ← EReal.coe_add]; norm_num]
    exact EReal.top_mul_coe_of_pos (by norm_num)
  | coe r => exact Or.inl (isR_gl ⟨r, rfl⟩)

/-! ## `gelu` in the reference's order -/

theorem gl_ref (x : EReal) : half * x * Ideal.erfc (-x * rt2) = gl x := by
  rw [EReal.neg_mul, Ideal.erfc_neg, gl]

theorem dgl_ref (x d : EReal) :
    -(ntsp * (half * x * d) * Ideal.exp (-(-x * rt2 * (-x * rt2))) * rt2) + half * (d * Ideal.erfc (-x * rt2)) = dgl x d := by
  rw [EReal.neg_mul, Ideal.erfc_neg, ntsp_eq, dgl, zero_sub]
  simp only [EReal.neg_mul, mul_neg, neg_neg]

/-! ## Factors and sums -/

/-- A positive real factor goes through any sum. -/
theorem sum_mul_pos {n : ℕ} {c : ℝ} (hc : 0 < c) (f : Fin n → EReal) : (∑ k, f k) * (c : EReal) = ∑ k, f k * (c : EReal) := by
  induction n with
  | zero => rw [Fin.sum_univ_zero, Fin.sum_univ_zero, zero_mul]
  | succ n ih =>
    rw [Fin.sum_univ_succ, Fin.sum_univ_succ, ← ih,
      EReal.right_distrib_of_nonneg_of_ne_top (EReal.coe_nonneg.mpr hc.le) (EReal.coe_ne_top c)]

/-- A real factor goes through a sum of reals. -/
theorem sum_mul_real {n : ℕ} {c : EReal} (hc : IsR c) (f : Fin n → EReal) (hf : ∀ k, IsR (f k)) :
    (∑ k, f k) * c = ∑ k, f k * c := by
  induction n with
  | zero => rw [Fin.sum_univ_zero, Fin.sum_univ_zero, zero_mul]
  | succ n ih =>
    obtain ⟨c, rfl⟩ := hc
    obtain ⟨x, hx⟩ := hf 0
    obtain ⟨y, hy⟩ := IsR.sum fun k : Fin n => hf k.succ
    rw [Fin.sum_univ_succ, Fin.sum_univ_succ, ← ih _ fun k => hf k.succ, hx, hy, ← EReal.coe_add, ← EReal.coe_mul,
      ← EReal.coe_mul, ← EReal.coe_mul, ← EReal.coe_add, add_mul]

/-- Division by 64 is the product with 1/64. -/
theorem div_c64 (x : EReal) : Ideal.div x c64 = x * k64 := by
  rw [c64_eq, k64_eq, Ideal.div_coe (by norm_num)]

theorem sum_div_c64 (f : Fin 64 → EReal) : Ideal.div (∑ k, f k) c64 = ∑ k, f k * k64 := by
  rw [div_c64, k64_eq, sum_mul_pos (by norm_num)]

/-! ## The norm's gradient in the reference's order -/

theorem isR_cen {a : Fin 64 → EReal} (ha : ∀ k, IsR (a k)) (p : Fin 64) : IsR (cen a p) :=
  (ha p).sub ((IsR.sum ha).mul isR_k64)

/-- The factor of a row of reals is real. -/
theorem isR_cf {a : Fin 64 → EReal} (ha : ∀ k, IsR (a k)) : IsR (cf a) := by
  choose x hx using isR_cen ha
  obtain ⟨e, he, ee⟩ := eps_pos
  have hs : sq a = ((∑ k, x k * x k : ℝ) : EReal) := by
    unfold sq
    rw [show (fun k => cen a k * cen a k) = fun k => ((x k * x k : ℝ) : EReal) from funext fun k => by rw [hx, EReal.coe_mul]]
    exact (map_sum (⟨⟨Real.toEReal, EReal.coe_zero⟩, EReal.coe_add⟩ : ℝ →+ EReal) _ Finset.univ).symm
  have hv : vr a = (((∑ k, x k * x k) * (1 / 64) + e : ℝ) : EReal) := by
    rw [vr, hs, k64_eq, ee, EReal.coe_add, EReal.coe_mul]
  have hp : 0 < (∑ k, x k * x k) * (1 / 64) + e :=
    add_pos_of_nonneg_of_pos (mul_nonneg (Finset.sum_nonneg fun k _ => mul_self_nonneg (x k)) (by norm_num)) he
  unfold cf rs
  rw [hv, Ideal.rsqrt_coe, if_neg (not_lt.mpr hp.le), if_neg hp.ne', Ideal.div_coe hp.ne']
  exact isR_mhalf.mul (IsR.mul ⟨_, rfl⟩ ⟨_, rfl⟩)

/-- A sum over `Fin n` of reals and `⊤`s with a `⊤` among them is `⊤`. -/
theorem sum_top {n : ℕ} {a : Fin n → EReal} (ha : ∀ k, a k ≠ ⊥) {j : Fin n} (hj : a j = ⊤) : ∑ k, a k = ⊤ := by
  rw [← Finset.add_sum_erase _ _ (Finset.mem_univ j), hj]
  refine EReal.top_add_of_ne_bot ?_
  refine Finset.sum_induction a (· ≠ ⊥) (fun x y hx hy => ?_) EReal.zero_ne_bot fun k _ => ha k
  rw [Ne, EReal.add_eq_bot_iff]
  exact not_or.mpr ⟨hx, hy⟩

/-- Where the row holds a `⊤`, its factor is 0: the variance is `⊤`. -/
theorem cf_top {a : Fin 64 → EReal} (ha : ∀ k, IsR (a k) ∨ a k = ⊤) {j : Fin 64} (hj : a j = ⊤) : cf a = 0 := by
  have hb : ∀ k, a k ≠ ⊥ := fun k => by
    rcases ha k with ⟨r, h⟩ | h <;> rw [h]
    · exact EReal.coe_ne_bot r
    · exact top_ne_bot
  have hk : (0 : ℝ) < 1 / 64 := by norm_num
  have hc : ∀ k, cen a k = ⊥ := fun k => by
    rw [cen, sum_top hb hj, k64_eq, EReal.top_mul_coe_of_pos hk, sub_eq_add_neg, EReal.neg_top, EReal.add_bot]
  obtain ⟨e, -, ee⟩ := eps_pos
  have hs : sq a = ⊤ := by
    unfold sq
    refine sum_top (j := j) (fun k => ?_) ?_
    · rw [hc, EReal.bot_mul_bot]; exact top_ne_bot
    · rw [hc, EReal.bot_mul_bot]
  have hv : vr a = ⊤ := by rw [vr, hs, k64_eq, EReal.top_mul_coe_of_pos hk, ee, EReal.top_add_coe]
  rw [cf, rs, hv, Ideal.rsqrt_top, Ideal.div, if_neg EReal.top_ne_zero, zero_mul, mul_zero]

/-- What comes back through the variance, the factor taken out of the sum. -/
theorem vsum_ref {a f : Fin 64 → EReal} (ha : ∀ k, IsR (a k) ∨ a k = ⊤) (hf : ∀ k, IsR (f k)) :
    Ideal.div ((∑ k, cen a k * f k) * cf a) c64 = vsum a f := by
  rw [div_c64]
  unfold vsum
  by_cases h : ∃ j, a j = ⊤
  · obtain ⟨j, hj⟩ := h
    simp only [cf_top ha hj, mul_zero, zero_mul, Finset.sum_const_zero]
  · have hr : ∀ k, IsR (a k) := fun k => (ha k).resolve_right fun e => h ⟨k, e⟩
    have hm : ∀ k, IsR (cen a k * f k) := fun k => (isR_cen hr k).mul (hf k)
    rw [sum_mul_real (isR_cf hr) _ hm, sum_mul_real isR_k64 _ fun k => (hm k).mul (isR_cf hr)]

/-- The mean's part of the norm's gradient. -/
theorem drow_ref (a f : Fin 64 → EReal) (p : Fin 64) :
    dcen a f p + Ideal.div (∑ k, -dcen a f k) c64 = drow a f p := by
  rw [sum_div_c64, drow]
  simp only [zero_sub]

/-- The cotangent of the norm's output is real where everything it is made of is. -/
theorem isR_dvn {u d : Fin 128 → Fin 64 → EReal} {w : Fin 128 → Fin 128 → EReal} (hu : ∀ t p, IsR (u t p))
    (hd : ∀ t p, IsR (d t p)) (hw : ∀ t s, IsR (w t s)) (s : Fin 128) (p : Fin 64) : IsR (dvn u d w s p) :=
  IsR.sum fun t => (hw t s).mul ((isR_gl (hu t p)).mul (hd t p))

end Cert.Gmlp

end
-- ==== Proof.Gmlp.Ref.lean ====
/-
  The reference's values at a chunk, a head, a token and a lane, from its arguments to the gradients of `u` and `v`.
-/
module

public import proofs.«01_k».proof.Proof.Gmlp.RefIdx
public import proofs.«01_k».proof.Proof.Gmlp.Laws

@[expose] public section

set_option maxRecDepth 16384

noncomputable section

namespace Cert.Gmlp

open Cert.ReferenceIdeal Cert.ReferenceIdeal.Gen Cert.ReferenceIdeal.Read
open Idealize.ShloMosaic

variable (x0 x6 : A2 4096 4608) (x1 x2 : A1 512) (x3 : A3 8 128 128) (x4 : A2 8 128) (x5 : A2 4096 2048)
variable (i : Fin 32) (h : Fin 8) (t s : Fin 128) (p : Fin 64)

/-! ## The arguments -/

theorem u_at : val_main_v2 (F := Ideal) x0 (T3 i h t p) = mu x0 i h t p := by
  rw [val_main_v2_apply, e2]
  show val_main_v0 (F := Ideal) x0 (T2 i h t p) = _
  rw [val_main_v0_apply]
  exact congrArg x0 (funext fun a => match a with
    | ⟨0, _⟩ => rfl
    | ⟨1, _⟩ => Fin.ext (by show 1024 + (64 * h.val + p.val) = 1024 + (64 * h.val + p.val); rfl))

theorem v_at : val_main_v5 (F := Ideal) x0 (T3 i h t p) = mv x0 i h t p := by
  rw [val_main_v5_apply, show idx_main_v5 (T3 i h t p) = T2 i h t p from e2 i h t p]
  show val_main_v3 (F := Ideal) x0 (T2 i h t p) = _
  rw [val_main_v3_apply]
  exact congrArg x0 (funext fun a => match a with
    | ⟨0, _⟩ => rfl
    | ⟨1, _⟩ => Fin.ext (by show 1536 + (64 * h.val + p.val) = 1024 + (512 + (64 * h.val + p.val)); omega))

theorem c_at : val_main_v8 (F := Ideal) x5 (T3 i h t p) = mc x5 i h t p := by
  rw [val_main_v8_apply, show idx_main_v8 (T3 i h t p) = T2 i h t p from e2 i h t p]
  show val_main_v6 (F := Ideal) x5 (T2 i h t p) = _
  rw [val_main_v6_apply]
  exact congrArg x5 (funext fun a => match a with
    | ⟨0, _⟩ => rfl
    | ⟨1, _⟩ => Fin.ext (by show 512 + (64 * h.val + p.val) = 512 + (64 * h.val + p.val); rfl))

theorem scale_at : val_main_v51 (F := Ideal) x1 (T3 i h t p) = mr x1 h p := by
  rw [val_main_v51_apply, val_main_v50_apply]
  exact congrArg x1 (funext fun a => match a with
    | ⟨0, _⟩ => rfl)

theorem shift_at : val_main_v54 (F := Ideal) x2 (T3 i h t p) = mr x2 h p := by
  rw [val_main_v54_apply, val_main_v53_apply]
  exact congrArg x2 (funext fun a => match a with
    | ⟨0, _⟩ => rfl)

theorem bias_at : val_main_v66 (F := Ideal) x4 (T5 i h t p) = me x4 h t := by
  rw [val_main_v66_apply, val_main_v65_apply, val_main_v64_apply, val_main_v63_apply]
  exact congrArg x4 (funext fun a => match a with
    | ⟨0, _⟩ => rfl
    | ⟨1, _⟩ => rfl)

/-- The triangle's mask at a word: token `t` is at or after token `s`. -/
theorem tri_at : val_main_v60_1 (F := Ideal) (W3 h t s) = if s ≤ t then 1#1 else 0#1 := by
  rw [val_main_v60_1_apply, val_main_v58_apply]
  show Scalar.select (IntOp.cmpi .sge (BitVec.ofNat 32 t.val + 0#32) (BitVec.ofNat 32 s.val)) 1#1 0#1 = _
  have e : ∀ t s : Fin 128, IntOp.cmpi .sge (BitVec.ofNat 32 t.val + 0#32) (BitVec.ofNat 32 s.val)
      = if s ≤ t then 1#1 else 0#1 := by
    decide +kernel
  rw [e]
  split <;> rfl

theorem w_at : val_main_v60_0 (F := Ideal) x3 (W3 h t s) = mw x3 h t s := by
  rw [val_main_v60_0_apply, tri_at, mw]
  split
  · exact congrArg x3 (funext fun a => match a with
      | ⟨0, _⟩ => rfl
      | ⟨1, _⟩ => rfl
      | ⟨2, _⟩ => rfl)
  · exact Ideal.ofBits_zero_f32

/-! ## `gelu` and the norm -/

theorem gelu_u (j : S2x2048x512.Idx) : val_main_v18 (F := Ideal) x0 j = gl (val_main_v2 (F := Ideal) x0 j) :=
  gl_ref (val_main_v2 (F := Ideal) x0 j)

theorem gelu_v (j : S2x2048x512.Idx) : val_main_v28 (F := Ideal) x0 j = gl (val_main_v5 (F := Ideal) x0 j) :=
  gl_ref (val_main_v5 (F := Ideal) x0 j)

theorem gv_at : val_main_v29 (F := Ideal) x0 (T4 i h t p) = gv (mv x0 i h) t p := by
  rw [val_main_v29_apply, e29, gelu_v, v_at, gv]

theorem mean_at : val_main_v33 (F := Ideal) x0 (U4 i h t) = (∑ k, gv (mv x0 i h) t k) * k64 := by
  rw [val_main_v33_apply, val_main_v31_apply, e31, val_main_v30_apply]
  simp only [e30, gv_at]
  show Ideal.div (Ideal.ofBits .f32 0x00000000#32 + _) c64 = _
  rw [Ideal.ofBits_zero_f32, zero_add, div_c64]

theorem cen_at : val_main_v35 (F := Ideal) x0 (T4 i h t p) = cen (gv (mv x0 i h) t) p := by
  rw [val_main_v35_apply, val_main_v34_apply, e34, gv_at, mean_at]
  rfl

theorem vr_at : val_main_v42 (F := Ideal) x0 (U4 i h t) = vr (gv (mv x0 i h) t) := by
  have e38 : val_main_v38 (F := Ideal) x0 (U4 i h t) = sq (gv (mv x0 i h) t) := by
    rw [val_main_v38_apply, show idx_main_v38 (U4 i h t) = U3 i h t from e31 i h t, val_main_v37_apply]
    show Ideal.ofBits .f32 0x00000000#32 + _ = _
    rw [Ideal.ofBits_zero_f32, zero_add]
    refine Finset.sum_congr rfl fun k _ => ?_
    rw [show idx_main_v37 (U3 i h t) k = T4 i h t k from e30 i h t k, val_main_v36_apply, cen_at]
    rfl
  rw [val_main_v42_apply, val_main_v40_apply, e38]
  show Ideal.div _ c64 + eps = _
  rw [div_c64, vr]

theorem rs_at : val_main_v43 (F := Ideal) x0 (U4 i h t) = rs (gv (mv x0 i h) t) := by
  rw [val_main_v43_apply, vr_at]
  rfl

theorem cf_at : val_main_v46 (F := Ideal) x0 (U4 i h t) = cf (gv (mv x0 i h) t) := by
  rw [val_main_v46_apply, val_main_v44_apply, rs_at, vr_at]
  rfl

theorem nrm_at : val_main_v49 (F := Ideal) x0 (T3 i h t p) = nrm (gv (mv x0 i h) t) p := by
  rw [val_main_v49_apply, e49, val_main_v48_apply, cen_at, val_main_v47_apply,
    show idx_main_v47 (T4 i h t p) = U4 i h t from e34 i h t p, rs_at]
  rfl

theorem vn_at : val_main_v56 (F := Ideal) x0 x1 x2 (T5 i h t p) = vn (mv x0 i h) (mr x1 h) (mr x2 h) t p := by
  rw [val_main_v56_apply, e56, val_main_v55_apply, val_main_v52_apply, nrm_at, scale_at, shift_at]
  rfl

/-! ## The mix -/

theorem mix_at : val_main_v67 (F := Ideal) x0 x1 x2 x3 x4 (T5 i h t p)
    = (∑ s, mw x3 h t s * vn (mv x0 i h) (mr x1 h) (mr x2 h) s p) + me x4 h t := by
  rw [val_main_v67_apply, val_main_v62_apply, e62, bias_at, val_main_v61_apply]
  show _ + _ = _ + _
  congr 1
  refine Finset.sum_congr rfl fun s _ => ?_
  rw [el61, er61, vn_at, w_at, mul_comm]

theorem ct_at : val_main_v71 (F := Ideal) x5 (T5 i h t p) = mc x5 i h t p := by
  rw [val_main_v71_apply, show idx_main_v71 (T5 i h t p) = T3 i h t p from e56 i h t p, c_at]

theorem dmix_at : val_main_v72 (F := Ideal) x0 x5 (T5 i h t p) = dmix (mu x0 i h) (mc x5 i h) t p := by
  rw [val_main_v72_apply, ct_at, val_main_v68_apply, show idx_main_v68 (T5 i h t p) = T3 i h t p from e56 i h t p,
    gelu_u, u_at]
  rfl

theorem dmixH_at : val_main_v81 (F := Ideal) x0 x5 (H5 i h t p) = dmix (mu x0 i h) (mc x5 i h) t p := by
  rw [val_main_v81_apply, e81, dmix_at]

theorem dgu_at : val_main_v74 (F := Ideal) x0 x1 x2 x3 x4 x5 (T3 i h t p)
    = dgu (mv x0 i h) (mc x5 i h) (mr x1 h) (mr x2 h) (mw x3 h) (fun t _ => me x4 h t) t p := by
  rw [val_main_v74_apply, show idx_main_v74 (T3 i h t p) = T5 i h t p from e86 i h t p, val_main_v73_apply, ct_at, mix_at]
  rfl

theorem dvn_at : val_main_v86 (F := Ideal) x0 x3 x5 (T3 i h t p) = dvn (mu x0 i h) (mc x5 i h) (mw x3 h) t p := by
  rw [val_main_v86_apply, e86, val_main_v84_apply, show idx_main_v84 (T5 i h t p) = H5 i h t p from e62 i h t p,
    val_main_v83_apply]
  refine Finset.sum_congr rfl fun s _ => ?_
  rw [el83, er83, dmixH_at, w_at, mul_comm]

/-! ## The norm's gradient -/

/-- The cotangent of the normalised row. -/
abbrev fn (t : Fin 128) (p : Fin 64) : EReal := dvn (mu x0 i h) (mc x5 i h) (mw x3 h) t p * mr x1 h p

theorem f_at : val_main_v96 (F := Ideal) x0 x1 x3 x5 (T4 i h t p) = fn x0 x1 x3 x5 i h t p := by
  rw [val_main_v96_apply, show idx_main_v96 (T4 i h t p) = T3 i h t p from e29 i h t p, val_main_v94_apply, dvn_at,
    show val_main_v93 (F := Ideal) x1 (T3 i h t p) = mr x1 h p from scale_at x1 i h t p]
  rfl

variable (hu : ∀ i h t p, IsR (mu x0 i h t p)) (hc : ∀ i h t p, IsR (mc x5 i h t p)) (hw : ∀ h t s, IsR (mw x3 h t s))
  (hg : ∀ h p, IsR (mr x1 h p))

include hu hc hw hg

theorem vsum_at : val_main_v106 (F := Ideal) x0 x1 x3 x5 (T4 i h t p)
    = vsum (gv (mv x0 i h) t) (fn x0 x1 x3 x5 i h t) := by
  have e98 : val_main_v99 (F := Ideal) x0 x1 x3 x5 (U4 i h t)
      = ∑ k, cen (gv (mv x0 i h) t) k * fn x0 x1 x3 x5 i h t k := by
    rw [val_main_v99_apply, e99, val_main_v98_apply]
    show Ideal.ofBits .f32 0x00000000#32 + _ = _
    rw [Ideal.ofBits_zero_f32, zero_add]
    refine Finset.sum_congr rfl fun k _ => ?_
    rw [show idx_main_v98 (U3 i h t) k = T4 i h t k from e30 i h t k, val_main_v97_apply, cen_at, f_at]
    rfl
  rw [val_main_v106_apply, e106, val_main_v105_apply, Fin.sum_univ_one, e105, val_main_v104_apply, val_main_v102_apply, e98,
    cf_at]
  show Ideal.ofBits .f32 0x00000000#32 + Ideal.div _ c64 = _
  rw [Ideal.ofBits_zero_f32, zero_add]
  exact vsum_ref (fun k => gl_cases _) fun k => (isR_dvn (hu i h) (hc i h) (hw h) t k).mul (hg h k)

theorem dcen_at : val_main_v110 (F := Ideal) x0 x1 x3 x5 (T4 i h t p)
    = dcen (gv (mv x0 i h) t) (fn x0 x1 x3 x5 i h t) p := by
  rw [val_main_v110_apply, val_main_v108_apply, val_main_v109_apply, val_main_v107_apply, val_main_v101_apply,
    val_main_v100_apply, show idx_main_v100 (T4 i h t p) = U4 i h t from e34 i h t p, rs_at, cen_at, f_at,
    vsum_at x0 x1 x3 x5 i h t p hu hc hw hg]
  rfl

theorem drow_at : val_main_v119 (F := Ideal) x0 x1 x3 x5 (T3 i h t p)
    = drow (gv (mv x0 i h) t) (fn x0 x1 x3 x5 i h t) p := by
  have e112 : val_main_v113 (F := Ideal) x0 x1 x3 x5 (U4 i h t)
      = ∑ k, -dcen (gv (mv x0 i h) t) (fn x0 x1 x3 x5 i h t) k := by
    rw [val_main_v113_apply, show idx_main_v113 (U4 i h t) = U3 i h t from e99 i h t, val_main_v112_apply]
    show Ideal.ofBits .f32 0x00000000#32 + _ = _
    rw [Ideal.ofBits_zero_f32, zero_add]
    refine Finset.sum_congr rfl fun k _ => ?_
    rw [show idx_main_v112 (U3 i h t) k = T4 i h t k from e30 i h t k, val_main_v111_apply,
      dcen_at x0 x1 x3 x5 i h t k hu hc hw hg]
    rfl
  rw [val_main_v119_apply, show idx_main_v119 (T3 i h t p) = T4 i h t p from e49 i h t p, val_main_v118_apply,
    dcen_at x0 x1 x3 x5 i h t p hu hc hw hg, val_main_v117_apply, show idx_main_v117 (T4 i h t p) = U3 i h t from e106 i h t p,
    val_main_v116_apply, Fin.sum_univ_one, show idx_main_v116 (U3 i h t) 0 = U4 i h t from e105 i h t 0, val_main_v115_apply,
    e112]
  show _ + (Ideal.ofBits .f32 0x00000000#32 + Ideal.div _ c64) = _
  rw [Ideal.ofBits_zero_f32, zero_add, drow_ref]

omit hu hc hw hg in
theorem du_at : val_main_v141 (F := Ideal) x0 x1 x2 x3 x4 x5 (T3 i h t p) = mdu x0 x1 x2 x3 x4 x5 i h t p := by
  have e : val_main_v141 (F := Ideal) x0 x1 x2 x3 x4 x5 (T3 i h t p)
      = dgl (val_main_v2 (F := Ideal) x0 (T3 i h t p)) (val_main_v74 (F := Ideal) x0 x1 x2 x3 x4 x5 (T3 i h t p)) :=
    dgl_ref _ _
  rw [e, u_at, dgu_at]
  rfl

theorem dv_at : val_main_v130 (F := Ideal) x0 x1 x3 x5 (T3 i h t p) = mdv x0 x1 x3 x5 i h t p := by
  have e : val_main_v130 (F := Ideal) x0 x1 x3 x5 (T3 i h t p)
      = dgl (val_main_v5 (F := Ideal) x0 (T3 i h t p)) (val_main_v119 (F := Ideal) x0 x1 x3 x5 (T3 i h t p)) :=
    dgl_ref _ _
  rw [e, v_at, drow_at x0 x1 x3 x5 i h t p hu hc hw hg]
  rfl

end Cert.Gmlp

end
-- ==== Proof.Gmlp.RefSum.lean ====
/-
  The reference's sums over several axes, as sums over chunks and tokens, lanes and chunks, or chunks and lanes.
-/
module

public import proofs.«01_k».proof.Proof.Gmlp.Ref
public import Idealize.ShloMosaic.Lib.Pointwise

@[expose] public section

set_option maxRecDepth 16384

noncomputable section

namespace Cert.Gmlp

open Cert.ReferenceIdeal Cert.ReferenceIdeal.Gen Cert.ReferenceIdeal.Read
open Idealize.ShloMosaic

variable (i : Fin 32) (h : Fin 8) (t s : Fin 128) (p : Fin 64)

/-- A column of the norm. -/
def C1 : S512.Idx := fun a => match a with
  | ⟨0, _⟩ => ⟨64 * h.val + p.val, by show _ < 512; omega⟩

/-- A token and a head. -/
def B2 : S128x8.Idx := fun a => match a with
  | ⟨0, _⟩ => ⟨t.val, by show _ < 128; omega⟩
  | ⟨1, _⟩ => ⟨h.val, by show _ < 8; omega⟩

/-- The sum over the tokens of a column. -/
theorem sum_cols (f : S2x2048x512.Idx → EReal) (z : EReal) :
    Ideal.hostReduceAdd reducesTo_S2x2048x512_S512_d0_1 f z (C1 h p) = z + ∑ k, ∑ t, f (T3 k h t p) := by
  refine congrArg (z + ·) ((Finset.sum_filter_eq_sum_of_fiber _ (fun k : Fin 32 × Fin 128 => T3 k.1 h k.2 p) ?_ ?_ f).trans
    (Fintype.sum_prod_type _))
  · rintro ⟨k, t⟩ ⟨k', t'⟩ e
    have e0 : k.val / 16 = k'.val / 16 := congrArg Fin.val (congrFun e 0)
    have e1 : 128 * (k.val % 16) + t.val = 128 * (k'.val % 16) + t'.val := congrArg Fin.val (congrFun e 1)
    exact Prod.ext (Fin.ext (by show k.val = k'.val; omega)) (Fin.ext (by show t.val = t'.val; omega))
  · intro j
    constructor
    · intro e
      have h0 : (j 0).val < 2 := (j 0).isLt
      have h1 : (j 1).val < 2048 := (j 1).isLt
      have e2 : (j 2).val = 64 * h.val + p.val := congrArg Fin.val (congrFun e 0)
      refine ⟨(⟨16 * (j 0).val + (j 1).val / 128, by omega⟩, ⟨(j 1).val % 128, by omega⟩), funext fun a => Fin.ext ?_⟩
      match a with
      | ⟨0, _⟩ => show (16 * (j 0).val + (j 1).val / 128) / 16 = (j 0).val; omega
      | ⟨1, _⟩ => show 128 * ((16 * (j 0).val + (j 1).val / 128) % 16) + (j 1).val % 128 = (j 1).val; omega
      | ⟨2, _⟩ => show 64 * h.val + p.val = (j 2).val; omega
    · rintro ⟨k, rfl⟩
      exact funext fun a => match a with
        | ⟨0, _⟩ => rfl

/-- The sum over two axes of one. -/
theorem sum_ones (f : S1x1x512.Idx → EReal) (z : EReal) :
    Ideal.hostReduceAdd reducesTo_S1x1x512_S512_d0_1 f z (C1 h p)
      = z + f (fun a => match a with | ⟨0, _⟩ => ⟨0, Nat.one_pos⟩ | ⟨1, _⟩ => ⟨0, Nat.one_pos⟩ | ⟨2, _⟩ => C1 h p 0) := by
  refine congrArg (z + ·) ((Finset.sum_filter_eq_sum_of_fiber _ (fun _ : Unit => (fun a => match a with
    | ⟨0, _⟩ => ⟨0, Nat.one_pos⟩ | ⟨1, _⟩ => ⟨0, Nat.one_pos⟩ | ⟨2, _⟩ => C1 h p 0 : S1x1x512.Idx)) ?_ ?_ f).trans
    (Fintype.sum_unique _))
  · intro _ _ _; rfl
  · intro j
    constructor
    · intro e
      have h0 : (j 0).val < 1 := (j 0).isLt
      have h1 : (j 1).val < 1 := (j 1).isLt
      have e2 : (j 2).val = 64 * h.val + p.val := congrArg Fin.val (congrFun e 0)
      refine ⟨(), funext fun a => Fin.ext ?_⟩
      match a with
      | ⟨0, _⟩ => show 0 = (j 0).val; omega
      | ⟨1, _⟩ => show 0 = (j 1).val; omega
      | ⟨2, _⟩ => show 64 * h.val + p.val = (j 2).val; omega
    · rintro ⟨k, rfl⟩
      exact funext fun a => match a with
        | ⟨0, _⟩ => rfl

/-- The sum over the chunks and the lanes of a token's head. -/
theorem sum_lanes_chunks (f : S2x16x128x8x64.Idx → EReal) (z : EReal) :
    Ideal.hostReduceAdd reducesTo_S2x16x128x8x64_S128x8_d0_1_4 f z (B2 h t) = z + ∑ p, ∑ k, f (T5 k h t p) := by
  refine congrArg (z + ·) ((Finset.sum_filter_eq_sum_of_fiber _ (fun k : Fin 64 × Fin 32 => T5 k.2 h t k.1) ?_ ?_ f).trans
    (Fintype.sum_prod_type _))
  · rintro ⟨p, k⟩ ⟨p', k'⟩ e
    have e0 : k.val / 16 = k'.val / 16 := congrArg Fin.val (congrFun e 0)
    have e1 : k.val % 16 = k'.val % 16 := congrArg Fin.val (congrFun e 1)
    have e4 : p.val = p'.val := congrArg Fin.val (congrFun e 4)
    exact Prod.ext (Fin.ext e4) (Fin.ext (by show k.val = k'.val; omega))
  · intro j
    constructor
    · intro e
      have h0 : (j 0).val < 2 := (j 0).isLt
      have h1 : (j 1).val < 16 := (j 1).isLt
      have e2 : (j 2).val = t.val := congrArg Fin.val (congrFun e 0)
      have e3 : (j 3).val = h.val := congrArg Fin.val (congrFun e 1)
      refine ⟨(⟨(j 4).val, (j 4).isLt⟩, ⟨16 * (j 0).val + (j 1).val, by omega⟩), funext fun a => Fin.ext ?_⟩
      match a with
      | ⟨0, _⟩ => show (16 * (j 0).val + (j 1).val) / 16 = (j 0).val; omega
      | ⟨1, _⟩ => show (16 * (j 0).val + (j 1).val) % 16 = (j 1).val; omega
      | ⟨2, _⟩ => show t.val = (j 2).val; omega
      | ⟨3, _⟩ => show h.val = (j 3).val; omega
      | ⟨4, _⟩ => rfl
    · rintro ⟨k, rfl⟩
      exact funext fun a => match a with
        | ⟨0, _⟩ => rfl
        | ⟨1, _⟩ => rfl

/-- The sum over three axes of one. -/
theorem sum_ones5 (f : S1x1x128x8x1.Idx → EReal) (z : EReal) :
    Ideal.hostReduceAdd reducesTo_S1x1x128x8x1_S128x8_d0_1_4 f z (B2 h t)
      = z + f (fun a => match a with
          | ⟨0, _⟩ => ⟨0, Nat.one_pos⟩ | ⟨1, _⟩ => ⟨0, Nat.one_pos⟩ | ⟨2, _⟩ => t | ⟨3, _⟩ => h | ⟨4, _⟩ => ⟨0, Nat.one_pos⟩) := by
  refine congrArg (z + ·) ((Finset.sum_filter_eq_sum_of_fiber _ (fun _ : Unit => (fun a => match a with
    | ⟨0, _⟩ => ⟨0, Nat.one_pos⟩ | ⟨1, _⟩ => ⟨0, Nat.one_pos⟩ | ⟨2, _⟩ => t | ⟨3, _⟩ => h
    | ⟨4, _⟩ => ⟨0, Nat.one_pos⟩ : S1x1x128x8x1.Idx)) ?_ ?_ f).trans (Fintype.sum_unique _))
  · intro _ _ _; rfl
  · intro j
    constructor
    · intro e
      have h0 : (j 0).val < 1 := (j 0).isLt
      have h1 : (j 1).val < 1 := (j 1).isLt
      have h4 : (j 4).val < 1 := (j 4).isLt
      have e2 : (j 2).val = t.val := congrArg Fin.val (congrFun e 0)
      have e3 : (j 3).val = h.val := congrArg Fin.val (congrFun e 1)
      refine ⟨(), funext fun a => Fin.ext ?_⟩
      match a with
      | ⟨0, _⟩ => show 0 = (j 0).val; omega
      | ⟨1, _⟩ => show 0 = (j 1).val; omega
      | ⟨2, _⟩ => show t.val = (j 2).val; omega
      | ⟨3, _⟩ => show h.val = (j 3).val; omega
      | ⟨4, _⟩ => show 0 = (j 4).val; omega
    · rintro ⟨k, rfl⟩
      exact funext fun a => match a with
        | ⟨0, _⟩ => rfl
        | ⟨1, _⟩ => rfl

/-- The product contracted over the chunks and the lanes. -/
theorem sum_dot (f : S8x2x16x64x128.Idx → EReal) (g : S2x16x128x8x64.Idx → EReal) :
    Host.dotGeneral (F := Ideal) (φ₁ := .f32) (φ₂ := .f32) dot_S8x2x16x64x128_S2x16x128x8x64_S8x128x128_123_014_4_2_0_3 none f g (W3 h t s)
      = ∑ i, ∑ p, f (H5 i h t p) * g (T5 i h s p) := by
  let e : Fin 32 × Fin 64 → dot_S8x2x16x64x128_S2x16x128x8x64_S8x128x128_123_014_4_2_0_3.contr.Idx := fun k a => match a with
    | ⟨0, _⟩ => ⟨k.1.val / 16, by show _ < 2; omega⟩
    | ⟨1, _⟩ => ⟨k.1.val % 16, by show _ < 16; omega⟩
    | ⟨2, _⟩ => ⟨k.2.val, by show _ < 64; omega⟩
  have he : Function.Bijective e := by
    constructor
    · rintro ⟨k, p⟩ ⟨k', p'⟩ hk
      have e0 : k.val / 16 = k'.val / 16 := congrArg Fin.val (congrFun hk ⟨0, by show 0 < 3; omega⟩)
      have e1 : k.val % 16 = k'.val % 16 := congrArg Fin.val (congrFun hk ⟨1, by show 1 < 3; omega⟩)
      have e2 : p.val = p'.val := congrArg Fin.val (congrFun hk ⟨2, by show 2 < 3; omega⟩)
      exact Prod.ext (Fin.ext (by show k.val = k'.val; omega)) (Fin.ext e2)
    · intro j
      have h0 : (j ⟨0, by show 0 < 3; omega⟩).val < 2 := (j _).isLt
      have h1 : (j ⟨1, by show 1 < 3; omega⟩).val < 16 := (j _).isLt
      refine ⟨(⟨16 * (j ⟨0, by show 0 < 3; omega⟩).val + (j ⟨1, by show 1 < 3; omega⟩).val, by omega⟩,
        ⟨(j ⟨2, by show 2 < 3; omega⟩).val, (j ⟨2, by show 2 < 3; omega⟩).isLt⟩), funext fun a => Fin.ext ?_⟩
      match a with
      | ⟨0, _⟩ =>
        show (16 * (j ⟨0, _⟩).val + (j ⟨1, _⟩).val) / 16 = (j ⟨0, _⟩).val
        omega
      | ⟨1, _⟩ =>
        show (16 * (j ⟨0, _⟩).val + (j ⟨1, _⟩).val) % 16 = (j ⟨1, _⟩).val
        omega
      | ⟨2, _⟩ => rfl
  simp only [Host.dotGeneral]
  rw [Ideal.dotGeneral_apply, ← he.sum_comp, Fintype.sum_prod_type]
  refine Finset.sum_congr rfl fun i _ => Finset.sum_congr rfl fun p _ => ?_
  congr 1
  · exact congrArg f (funext fun a => match a with
      | ⟨0, _⟩ => rfl
      | ⟨1, _⟩ => rfl
      | ⟨2, _⟩ => rfl
      | ⟨3, _⟩ => rfl
      | ⟨4, _⟩ => rfl)
  · exact congrArg g (funext fun a => match a with
      | ⟨0, _⟩ => rfl
      | ⟨1, _⟩ => rfl
      | ⟨2, _⟩ => rfl
      | ⟨3, _⟩ => rfl
      | ⟨4, _⟩ => rfl)

end Cert.Gmlp

end
-- ==== Proof.Gmlp.RefOut.lean ====
/-
  The reference's five results, read down to the functions the kernel's are read down to. Only the projection's gradient
  needs its premises, where the norm's gradient takes a factor out of a sum.
-/
module

public import proofs.«01_k».proof.Proof.Gmlp.RefSum

@[expose] public section

set_option maxRecDepth 16384

noncomputable section

namespace Cert.Gmlp

open Cert.ReferenceIdeal Cert.ReferenceIdeal.Gen Cert.ReferenceIdeal.Read
open Idealize.ShloMosaic Idealize.ShloMosaic.TcCoe Idealize.ShloMosaic.Tactic

variable (x0 x6 : A2 4096 4608) (x1 x2 : A1 512) (x3 : A3 8 128 128) (x4 : A2 8 128) (x5 : A2 4096 2048)
variable (i : Fin 32) (h : Fin 8) (t s : Fin 128) (p : Fin 64)

theorem zero_word : Ideal.ofBits .f32 0x00000000#32 = 0 := Ideal.ofBits_zero_f32

/-! ## Scale and shift -/

theorem v87_at : val_main_v87 (F := Ideal) x0 x3 x5 (C1 h p) = ∑ i, mdb x0 x3 x5 i h p := by
  have e := sum_cols h p (val_main_v86 (F := Ideal) x0 x3 x5) (Ideal.ofBits .f32 0x00000000#32)
  rw [zero_word, zero_add] at e
  refine Eq.trans ?_ (e.trans (Finset.sum_congr rfl fun i _ => Finset.sum_congr rfl fun t _ => dvn_at x0 x3 x5 i h t p))
  rw [← zero_word]
  rfl

theorem v91_at : val_main_v91 (F := Ideal) x0 x3 x5 (C1 h p) = ∑ i, mdg x0 x3 x5 i h p := by
  have e := sum_cols h p (val_main_v90 (F := Ideal) x0 x3 x5) (Ideal.ofBits .f32 0x00000000#32)
  rw [zero_word, zero_add] at e
  refine Eq.trans ?_ (e.trans (Finset.sum_congr rfl fun i _ => ?_))
  · rw [← zero_word]
    rfl
  · unfold mdg dg
    refine Finset.sum_congr rfl fun t _ => ?_
    rw [val_main_v90_apply, nrm_at, dvn_at]
    rfl

theorem v89_at : val_main_v89 (F := Ideal) x0 x3 x5 (C1 h p) = ∑ i, mdb x0 x3 x5 i h p := by
  have e := sum_ones h p (val_main_v88 (F := Ideal) x0 x3 x5) (Ideal.ofBits .f32 0x00000000#32)
  rw [zero_word, zero_add, val_main_v88_apply] at e
  rw [← v87_at]
  refine Eq.trans ?_ (e.trans (congrArg (val_main_v87 (F := Ideal) x0 x3 x5) (funext fun a => match a with
    | ⟨0, _⟩ => Fin.ext (by show (0 * 1 + 0) * 512 + (64 * h.val + p.val) = 64 * h.val + p.val; omega))))
  rw [← zero_word]
  rfl

theorem v95_at : val_main_v95 (F := Ideal) x0 x3 x5 (C1 h p) = ∑ i, mdg x0 x3 x5 i h p := by
  have e := sum_ones h p (val_main_v92 (F := Ideal) x0 x3 x5) (Ideal.ofBits .f32 0x00000000#32)
  rw [zero_word, zero_add, val_main_v92_apply] at e
  rw [← v91_at]
  refine Eq.trans ?_ (e.trans (congrArg (val_main_v91 (F := Ideal) x0 x3 x5) (funext fun a => match a with
    | ⟨0, _⟩ => Fin.ext (by show (0 * 1 + 0) * 512 + (64 * h.val + p.val) = 64 * h.val + p.val; omega))))
  rw [← zero_word]
  rfl

/-- A column by its head and lane. -/
theorem col_eq (k : Fin 512) (j : S512.Idx) (hj : (j 0).val = k.val) : j = C1 (ch k.val) (cl k.val) :=
  funext fun a => match a with
    | ⟨0, _⟩ => Fin.ext (by
      have := k.isLt
      show (j 0).val = 64 * (k.val / 64 % 8) + k.val % 64
      omega)

theorem sitofp_zero (w : BitVec 32) (hw : w = 0#32) : FloatOps.sitofp (F := Ideal) .f32 w = (0 : EReal) := by
  subst hw
  show (((0#32).toInt : ℝ) : EReal) = 0
  simp

theorem ref1 : val_main_v150 (F := Ideal) x0 x3 x5 = res1 x0 x3 x5 := by
  funext z
  unfold val_main_v150
  pointwise
  unfold res1
  by_cases hz : (z 0).val = 0
  · rw [dif_pos (by omega)]
    simp only [if_pos hz]
    rw [val_main_v149_apply, ← v95_at]
    exact congrArg _ (col_eq (z 1) _ rfl)
  · rw [dif_neg (by omega)]
    simp only [if_neg hz, Finset.sum_const_zero]
    exact sitofp_zero _ rfl

theorem ref2 : val_main_v152 (F := Ideal) x0 x3 x5 = res2 x0 x3 x5 := by
  funext z
  unfold val_main_v152
  pointwise
  unfold res2
  by_cases hz : (z 0).val = 0
  · rw [dif_pos (by omega)]
    simp only [if_pos hz]
    rw [val_main_v151_apply, ← v89_at]
    exact congrArg _ (col_eq (z 1) _ rfl)
  · rw [dif_neg (by omega)]
    simp only [if_neg hz, Finset.sum_const_zero]
    exact sitofp_zero _ rfl

/-! ## The position weights and their bias -/

theorem v82_at : val_main_v82 (F := Ideal) x0 x1 x2 x5 (W3 h t s)
    = ∑ i, ∑ p, dmix (mu x0 i h) (mc x5 i h) t p * vn (mv x0 i h) (mr x1 h) (mr x2 h) s p := by
  refine (sum_dot h t s (val_main_v81 (F := Ideal) x0 x5) (val_main_v56 (F := Ideal) x0 x1 x2)).trans
    (Finset.sum_congr rfl fun i _ => Finset.sum_congr rfl fun p _ => ?_)
  rw [dmixH_at, vn_at]

theorem v85_at : val_main_v85 (F := Ideal) x0 x1 x2 x5 (W3 h t s) = ∑ i, mdw x0 x1 x2 x5 i h t s := by
  unfold mdw dw
  rw [val_main_v85_apply, tri_at, v82_at]
  by_cases hs : s ≤ t
  · simp only [if_pos hs]
    rfl
  · simp only [if_neg hs, Finset.sum_const_zero]
    exact zero_word

theorem ref3 : val_main_v85 (F := Ideal) x0 x1 x2 x5 = res3 x0 x1 x2 x5 :=
  funext fun z => (congrArg _ (funext fun a => match a with
    | ⟨0, _⟩ => rfl
    | ⟨1, _⟩ => rfl
    | ⟨2, _⟩ => rfl)).trans (v85_at x0 x1 x2 x5 (z 0) (z 1) (z 2))

theorem v75_at : val_main_v75 (F := Ideal) x0 x5 (B2 h t) = ∑ p, ∑ i, mde x0 x5 i h t p := by
  have e := sum_lanes_chunks h t (val_main_v72 (F := Ideal) x0 x5) (Ideal.ofBits .f32 0x00000000#32)
  rw [zero_word, zero_add] at e
  refine Eq.trans ?_ (e.trans (Finset.sum_congr rfl fun p _ => Finset.sum_congr rfl fun i _ => dmix_at x0 x5 i h t p))
  rw [← zero_word]
  rfl

theorem v77_at : val_main_v77 (F := Ideal) x0 x5 (B2 h t) = ∑ p, ∑ i, mde x0 x5 i h t p := by
  have e := sum_ones5 h t (val_main_v76 (F := Ideal) x0 x5) (Ideal.ofBits .f32 0x00000000#32)
  rw [zero_word, zero_add, val_main_v76_apply] at e
  rw [← v75_at]
  refine Eq.trans ?_ (e.trans (congrArg (val_main_v75 (F := Ideal) x0 x5) (funext fun a => match a with
    | ⟨0, _⟩ => Fin.ext (by show ((((0 * 1 + 0) * 128 + t.val) * 8 + h.val) * 1 + 0) / 8 = t.val; omega)
    | ⟨1, _⟩ => Fin.ext (by show ((((0 * 1 + 0) * 128 + t.val) * 8 + h.val) * 1 + 0) % 8 = h.val; omega))))
  rw [← zero_word]
  rfl

theorem ref4 : val_main_v153 (F := Ideal) x0 x5 = res4 x0 x5 := by
  funext z
  rw [val_main_v153_apply, val_main_v80_apply, val_main_v79_apply, Fin.sum_univ_one, val_main_v78_apply]
  show Ideal.ofBits .f32 0x00000000#32 + _ = _
  rw [zero_word, zero_add]
  exact (congrArg _ (funext fun a => match a with
    | ⟨0, _⟩ => rfl
    | ⟨1, _⟩ => rfl)).trans (v77_at x0 x5 (z 1) (z 0))

/-! ## The projection -/

/-- A token and a column by its chunk, place, head and lane. -/
theorem tok_eq (k : Fin 4096) (l : Fin 512) (j : S4096x512.Idx) (h0 : (j 0).val = k.val) (h1 : (j 1).val = l.val) :
    j = T2 (chunk k) (ch l.val) (place k) (cl l.val) :=
  funext fun a => match a with
    | ⟨0, _⟩ => Fin.ext (by
      show (j 0).val = 128 * (k.val / 128) + k.val % 128
      omega)
    | ⟨1, _⟩ => Fin.ext (by
      have := l.isLt
      show (j 1).val = 64 * (l.val / 64 % 8) + l.val % 64
      omega)

theorem v144_at : val_main_v144 (F := Ideal) x0 x1 x2 x3 x4 x5 (T2 i h t p) = mdu x0 x1 x2 x3 x4 x5 i h t p := by
  show val_main_v143 (F := Ideal) x0 x1 x2 x3 x4 x5 (T2 i h t p) = _
  rw [val_main_v143_apply, e143, du_at]

variable (hu : ∀ i h t p, IsR (mu x0 i h t p)) (hc : ∀ i h t p, IsR (mc x5 i h t p)) (hw : ∀ h t s, IsR (mw x3 h t s))
  (hg : ∀ h p, IsR (mr x1 h p))

include hu hc hw hg

theorem v146_at : val_main_v146 (F := Ideal) x0 x1 x3 x5 (T2 i h t p) = mdv x0 x1 x3 x5 i h t p := by
  show val_main_v145 (F := Ideal) x0 x1 x3 x5 (T2 i h t p) = _
  rw [val_main_v145_apply, show idx_main_v145 (T2 i h t p) = T3 i h t p from e143 i h t p,
    dv_at x0 x1 x3 x5 i h t p hu hc hw hg]

theorem ref0 : val_main_v148 (F := Ideal) x0 x1 x2 x3 x4 x5 x6 = res0 x0 x6 x1 x2 x3 x4 x5 := by
  funext z
  have h1 : (z 1).val < 4608 := (z 1).isLt
  unfold val_main_v148
  pointwise
  unfold res0
  by_cases ha : (z 1).val < 1024
  · rw [dif_pos ha]
    refine Eq.trans ?_ (if_pos (Or.inl ha)).symm
    rw [val_main_v142_apply]
    exact congrArg x6 (funext fun a => match a with
      | ⟨0, _⟩ => rfl
      | ⟨1, _⟩ => rfl)
  rw [dif_neg ha]
  by_cases hb : (z 1).val - 1024 < 512
  · rw [dif_pos hb]
    refine Eq.trans ?_ (if_neg (by omega)).symm
    refine Eq.trans ?_ (if_pos hb).symm
    rw [← v144_at]
    exact congrArg _ (tok_eq (z 0) ⟨(z 1).val - 1024, hb⟩ _ rfl rfl)
  rw [dif_neg hb]
  by_cases hd : (z 1).val - 1024 - 512 < 512
  · rw [dif_pos hd]
    refine Eq.trans ?_ (if_neg (by omega)).symm
    refine Eq.trans ?_ (if_neg hb).symm
    have eh : ch ((z 1).val - 1024) = ch ((z 1).val - 1024 - 512) := Fin.ext (by
      show ((z 1).val - 1024) / 64 % 8 = ((z 1).val - 1024 - 512) / 64 % 8
      omega)
    have el : cl ((z 1).val - 1024) = cl ((z 1).val - 1024 - 512) := Fin.ext (by
      show ((z 1).val - 1024) % 64 = ((z 1).val - 1024 - 512) % 64
      omega)
    rw [eh, el, ← v146_at x0 x1 x3 x5 _ _ _ _ hu hc hw hg]
    exact congrArg _ (tok_eq (z 0) ⟨(z 1).val - 1024 - 512, hd⟩ _ rfl rfl)
  · rw [dif_neg hd]
    refine Eq.trans ?_ (if_pos (Or.inr (by omega))).symm
    rw [val_main_v147_apply]
    exact congrArg x6 (funext fun a => match a with
      | ⟨0, _⟩ => rfl
      | ⟨1, _⟩ => Fin.ext (by
        show 2048 + ((z 1).val - 1024 - 512 - 512) = (z 1).val
        omega))

end Cert.Gmlp

end
-- ==== Proof.Gmlp.Pre.lean ====
/-
  The precondition, read: each array it joins holds real numbers only.
-/
module

public import proofs.«01_k».proof.Pre_finite_inputs
public import proofs.«01_k».proof.Proof.Gmlp.Ref

@[expose] public section

set_option maxRecDepth 16384

noncomputable section

namespace Cert.Gmlp

open Cert.Pre_finite_inputs
open Idealize.ShloMosaic

/-- The side conditions of the precondition's operations. -/
instance preFacts : Cert.Pre_finite_inputs.Facts where
  slices_S4096x4608_S4096x512_0_1024 := by decide
  bitsLt_bf16_f32 := by decide
  slices_S4096x2048_S4096x512_0_512 := by decide
  bcast_S_S128x128 := by decide
  bcast_S_S8x128x128 := by decide
  bcast_S128x128_S8x128x128_1_2 := by decide
  shapeCasts_S8x128x128_S256x512 := by decide
  shapeCasts_S512_S1x512 := by decide
  concatenates_S4096x512_S4096x512_S256x512_S1x512_S8449x512_d0 := by decide
  bcast_S_S8449x512 := by decide

/-- The test the precondition makes of a number: below infinity in absolute value. -/
theorem isR_of_lt (x : EReal)
    (hx : FloatOps.cmpf (F := Ideal) (φ := .f32) .olt (FloatOps.hostAbsf (F := Ideal) (φ := .f32) x)
      (Scalar.ofBits (F := Ideal) .f32 0x7F800000#32) = 1#1) : IsR x := by
  have ht : Ideal.ofBits .f32 0x7F800000#32 = ⊤ := by simp [Ideal.ofBits, Ideal.ieee]
  change Ideal.cmp .olt (max x (-x)) (Ideal.ofBits .f32 0x7F800000#32) = 1#1 at hx
  rw [ht] at hx
  induction x using EReal.rec with
  | bot => exact absurd hx (by simp [Ideal.cmp])
  | coe r => exact ⟨r, rfl⟩
  | top => exact absurd hx (by simp [Ideal.cmp])

variable (x0 x6 : A2 4096 4608) (x1 x2 : A1 512) (x3 : A3 8 128 128) (x4 : A2 8 128) (x5 : A2 4096 2048)
variable (hp : Cert.Pre_finite_inputs.fn (F := Ideal) x0 x1 x2 x3 x4 x5 x6 = fun _ => 1#1)

/-- The arrays the precondition joins. -/
abbrev joined : List ((s : Shape) × (s.Idx → EReal)) :=
  [⟨S4096x512, extf (F := Ideal) .f32 (extractStridedSlice S4096x512 ![0, 1024] x0 Facts.slices_S4096x4608_S4096x512_0_1024) Facts.bitsLt_bf16_f32⟩,
   ⟨S4096x512, extf (F := Ideal) .f32 (extractStridedSlice S4096x512 ![0, 512] x5 Facts.slices_S4096x2048_S4096x512_0_512) Facts.bitsLt_bf16_f32⟩,
   ⟨S256x512, shapeCast S256x512 (Cert.ReferenceIdeal.Read.val_main_v60_0 (F := Ideal) x3) Facts.shapeCasts_S8x128x128_S256x512⟩,
   ⟨S1x512, shapeCast S1x512 x1 Facts.shapeCasts_S512_S1x512⟩]

include hp in
/-- Every element of the joined array is a real number. -/
theorem joined_isR (j : S8449x512.Idx) :
    IsR (concatenate S8449x512 0 (joined x0 x1 x3 x5) Facts.concatenates_S4096x512_S4096x512_S256x512_S1x512_S8449x512_d0 j) :=
  isR_of_lt _ (congrFun hp j)

include hp in
/-- Every element of one of the arrays joined is a real number: array `k`, the first `pre` rows being of those before it. -/
theorem piece_isR (k : Fin 4) (rows pre : ℕ) (x : (⟨2, ![rows, 512]⟩ : Shape).Idx → EReal)
    (hk : (joined x0 x1 x3 x5)[k] = ⟨⟨2, ![rows, 512]⟩, x⟩)
    (hpre : ((((joined x0 x1 x3 x5).take k).map (·.1)).map fun s => if h : s.rank = S8449x512.rank then s.size ((0 : Fin 2).cast h.symm) else 0).sum = pre)
    (hle : pre + rows ≤ 8449) (z : (⟨2, ![rows, 512]⟩ : Shape).Idx) : IsR (x z) := by
  have h0 : (z 0).val < rows := (z 0).isLt
  rw [← concatenate_apply_piece (0 : Fin S8449x512.rank) (joined x0 x1 x3 x5)
    Facts.concatenates_S4096x512_S4096x512_S256x512_S1x512_S8449x512_d0
    (fun a => match a with
      | ⟨0, _⟩ => ⟨pre + (z 0).val, by show _ < 8449; omega⟩
      | ⟨1, _⟩ => ⟨(z 1).val, (z 1).isLt⟩) k.val k.isLt _ x hk rfl pre hpre z
    (fun b hb => match b with
      | ⟨0, _⟩ => absurd rfl hb
      | ⟨1, _⟩ => rfl) rfl]
  exact joined_isR x0 x6 x1 x2 x3 x4 x5 hp _

include hp in
theorem pre_u (i : Fin 32) (h : Fin 8) (t : Fin 128) (p : Fin 64) : IsR (mu x0 i h t p) := by
  have e := piece_isR x0 x6 x1 x2 x3 x4 x5 hp 0 4096 0 _ rfl rfl (by omega) (T2 i h t p)
  rw [← u_at, Cert.ReferenceIdeal.Read.val_main_v2_apply, e2]
  exact e

include hp in
theorem pre_c (i : Fin 32) (h : Fin 8) (t : Fin 128) (p : Fin 64) : IsR (mc x5 i h t p) := by
  have e := piece_isR x0 x6 x1 x2 x3 x4 x5 hp 1 4096 4096 _ rfl rfl (by omega) (T2 i h t p)
  rw [← c_at, Cert.ReferenceIdeal.Read.val_main_v8_apply,
    show Cert.ReferenceIdeal.Read.idx_main_v8 (T3 i h t p) = T2 i h t p from e2 i h t p]
  exact e

include hp in
theorem pre_w (h : Fin 8) (t s : Fin 128) : IsR (mw x3 h t s) := by
  have hn : (h.val * 128 + t.val) * 128 + s.val < 131072 := by omega
  have e := piece_isR x0 x6 x1 x2 x3 x4 x5 hp 2 256 8192 _ rfl rfl (by omega) (fun a => match a with
    | ⟨0, _⟩ => ⟨((h.val * 128 + t.val) * 128 + s.val) / 512, by show _ < 256; omega⟩
    | ⟨1, _⟩ => ⟨((h.val * 128 + t.val) * 128 + s.val) % 512, by show _ < 512; omega⟩)
  rw [shapeCast_apply _ _ _ (W3 h t s) (by
    rw [Shape.rowMajor_val_three, Shape.rowMajor_val_two]
    show (h.val * 128 + t.val) * 128 + s.val = ((h.val * 128 + t.val) * 128 + s.val) / 512 * 512 + ((h.val * 128 + t.val) * 128 + s.val) % 512
    omega), w_at] at e
  exact e

include hp in
theorem pre_g (h : Fin 8) (p : Fin 64) : IsR (mr x1 h p) := by
  have e := piece_isR x0 x6 x1 x2 x3 x4 x5 hp 3 1 8448 _ rfl rfl (by omega) (fun a => match a with
    | ⟨0, _⟩ => ⟨0, by show _ < 1; omega⟩
    | ⟨1, _⟩ => ⟨64 * h.val + p.val, by show _ < 512; omega⟩)
  rw [shapeCast_apply _ _ _ (ValueIdx.ix1 ⟨64 * h.val + p.val, by omega⟩) (by
    rw [Shape.rowMajor_val_one, Shape.rowMajor_val_two]
    show 64 * h.val + p.val = 0 * 512 + (64 * h.val + p.val)
    omega)] at e
  exact e

end Cert.Gmlp

end
-- ==== Proof.Mm.Forms.lean ====
/-
  The three forms of a product of matrices over the extended reals, and when two of their elements agree: what a block
  of a product needs of the blocks of its factors.
-/
module

public import Idealize.ShloMosaic.Lib.Pointwise
public import Idealize.ShloMosaic.Lib.Pipeline.ValueKit

@[expose] public section

noncomputable section

namespace Cert.Mm

open Idealize.ShloMosaic Idealize.ShloMosaic.Tactic

/-- An `n` by `m` matrix's indices, and a matrix. -/
abbrev I2 (n m : ℕ) := (⟨2, ![n, m]⟩ : Shape).Idx
abbrev M2 (n m : ℕ) := I2 n m → EReal

theorem idx2 {n m : ℕ} {x y : I2 n m} (h0 : (x 0).val = (y 0).val) (h1 : (x 1).val = (y 1).val) : x = y :=
  funext fun a => Fin.ext <| match a with
    | ⟨0, _⟩ => h0
    | ⟨1, _⟩ => h1

variable {M K N M' N' : ℕ}

/-- `a b`. -/
def nn (a : M2 M K) (b : M2 K N) : M2 M N := fun i => ∑ k : Fin K, a (ix2 (i 0) k) * b (ix2 k (i 1))
/-- `a bᵀ`. -/
def nt (a : M2 M K) (b : M2 N K) : M2 M N := fun i => ∑ k : Fin K, a (ix2 (i 0) k) * b (ix2 (i 1) k)
/-- `aᵀ b`. -/
def tn (a : M2 K M) (b : M2 K N) : M2 M N := fun i => ∑ k : Fin K, a (ix2 k (i 0)) * b (ix2 k (i 1))

/-- A matrix's first `n` rows. -/
def top {n : ℕ} (h : n ≤ M) (a : M2 M K) : M2 n K := fun i => a (ix2 ⟨(i 0).val, (i 0).isLt.trans_le h⟩ (i 1))

theorem nn_eq {a : M2 M K} {b : M2 K N} {a' : M2 M' K} {b' : M2 K N'} {i : I2 M N} {i' : I2 M' N'}
    (ha : ∀ k, a (ix2 (i 0) k) = a' (ix2 (i' 0) k)) (hb : ∀ k, b (ix2 k (i 1)) = b' (ix2 k (i' 1))) : nn a b i = nn a' b' i' :=
  Finset.sum_congr rfl fun k _ => congrArg₂ (· * ·) (ha k) (hb k)
theorem nt_eq {a : M2 M K} {b : M2 N K} {a' : M2 M' K} {b' : M2 N' K} {i : I2 M N} {i' : I2 M' N'}
    (ha : ∀ k, a (ix2 (i 0) k) = a' (ix2 (i' 0) k)) (hb : ∀ k, b (ix2 (i 1) k) = b' (ix2 (i' 1) k)) : nt a b i = nt a' b' i' :=
  Finset.sum_congr rfl fun k _ => congrArg₂ (· * ·) (ha k) (hb k)
theorem tn_eq {a : M2 K M} {b : M2 K N} {a' : M2 K M'} {b' : M2 K N'} {i : I2 M N} {i' : I2 M' N'}
    (ha : ∀ k, a (ix2 k (i 0)) = a' (ix2 k (i' 0))) (hb : ∀ k, b (ix2 k (i 1)) = b' (ix2 k (i' 1))) : tn a b i = tn a' b' i' :=
  Finset.sum_congr rfl fun k _ => congrArg₂ (· * ·) (ha k) (hb k)

/-- An index map that only shifts: a block's, at the row `p` and the column `q`. -/
def At {n m : ℕ} (p q : ℕ) (e : I2 n m → I2 M N) : Prop := ∀ j, (e j 0).val = p + 1 * (j 0).val ∧ (e j 1).val = q + 1 * (j 1).val

variable {n m : ℕ} {p q r s u v : ℕ}

/-- Blocks of the factors that hold all of the inner axis, where the result's block lies, give that block of the product. -/
theorem nn_block {a : M2 M K} {b : M2 K N} {ea : I2 n K → I2 M K} {eb : I2 K m → I2 K N} {eo : I2 n m → I2 M N}
    (ha : At p q ea) (hb : At r s eb) (ho : At u v eo) (hp : p = u) (hq : q = 0) (hr : r = 0) (hs : s = v) (j : I2 n m) :
    nn (fun x => a (ea x)) (fun x => b (eb x)) j = nn a b (eo j) := by
  subst hp hq hr hs
  refine nn_eq (fun k => congrArg a (idx2 ?_ ?_)) fun k => congrArg b (idx2 ?_ ?_)
  · exact (ha _).1.trans (ho j).1.symm
  · exact (ha _).2.trans (by simp)
  · exact (hb _).1.trans (by simp)
  · exact (hb _).2.trans (ho j).2.symm
theorem nt_block {a : M2 M K} {b : M2 N K} {ea : I2 n K → I2 M K} {eb : I2 m K → I2 N K} {eo : I2 n m → I2 M N}
    (ha : At p q ea) (hb : At r s eb) (ho : At u v eo) (hp : p = u) (hq : q = 0) (hr : r = v) (hs : s = 0) (j : I2 n m) :
    nt (fun x => a (ea x)) (fun x => b (eb x)) j = nt a b (eo j) := by
  subst hp hq hr hs
  refine nt_eq (fun k => congrArg a (idx2 ?_ ?_)) fun k => congrArg b (idx2 ?_ ?_)
  · exact (ha _).1.trans (ho j).1.symm
  · exact (ha _).2.trans (by simp)
  · exact (hb _).1.trans (ho j).2.symm
  · exact (hb _).2.trans (by simp)
theorem tn_block {a : M2 K M} {b : M2 K N} {ea : I2 K n → I2 K M} {eb : I2 K m → I2 K N} {eo : I2 n m → I2 M N}
    (ha : At p q ea) (hb : At r s eb) (ho : At u v eo) (hp : p = 0) (hq : q = u) (hr : r = 0) (hs : s = v) (j : I2 n m) :
    tn (fun x => a (ea x)) (fun x => b (eb x)) j = tn a b (eo j) := by
  subst hp hq hr hs
  refine tn_eq (fun k => congrArg a (idx2 ?_ ?_)) fun k => congrArg b (idx2 ?_ ?_)
  · exact (ha _).1.trans (by simp)
  · exact (ha _).2.trans (ho j).1.symm
  · exact (hb _).1.trans (by simp)
  · exact (hb _).2.trans (ho j).2.symm

/-- The block of `n` by `m` whose number is an index's quotients holds the index. -/
theorem near (i : I2 M N) (hn : 0 < n) (hm : 0 < m) {o : Fin 2 → ℕ} (h : o = ![(i 0).val / n, (i 1).val / m]) (a : Fin 2) :
    o a * ![n, m] a ≤ (i a).val ∧ (i a).val < o a * ![n, m] a + ![n, m] a := by
  subst h
  have f0 := Nat.div_mul_le_self (i 0).val n
  have f1 := Nat.div_mul_le_self (i 1).val m
  have g0 := Nat.lt_div_mul_add hn (a := (i 0).val)
  have g1 := Nat.lt_div_mul_add hm (a := (i 1).val)
  exact match a with
    | ⟨0, _⟩ => ⟨f0, g0⟩
    | ⟨1, _⟩ => ⟨f1, g1⟩

end Cert.Mm

end
-- ==== Proof.Mm.Gw2.lean ====
/-
  The gradient of the MLP's second product by its weight: `aᵀ dx`, each grid point 512 rows of it.
-/
module

public import proofs.«01_k».proof.Defs
public import proofs.«01_k».proof.Proof.Gen.Gw2.Frame
public import proofs.«01_k».proof.Proof.Gen.Gw2Ideal.Frame
public import proofs.«01_k».proof.Proof.Gen.Gw2Ideal.Value
public import proofs.«01_k».proof.Proof.Gen.RefGw2Ideal.Run
public import proofs.«01_k».proof.Proof.Gen.RefGw2Ideal.Read
public import proofs.«01_k».proof.Proof.Mm.Forms
public import Idealize.ShloMosaic.Lib.Quiescent

@[expose] public section

set_option maxRecDepth 16384

noncomputable section

namespace Cert.MmGw2

open Cert.Gw2Ideal Cert.Gw2Ideal.Gen Cert.Gw2Ideal.Value Cert.Mm
open Idealize.ShloMosaic Idealize.ShloMosaic.TcCoe Idealize.ShloMosaic.Tactic Idealize.SL.Sem

/-- What the body makes of its blocks. -/
theorem out_eq (a : Vec Ideal S4096x512 .bf16) (b : Vec Ideal S4096x1024 .f32) : out0_2 a b = tn a b := by
  funext j
  unfold out0_2
  rw [View.canon_cons_unit_lit _ _ _ (by decide), View.ld_unit_lit _ _ (by decide), View.ld_unit_lit _ _ (by decide)]
  pointwise [k0_pay1]
  rfl

variable (m : (ℓ : Loc nD τ sig) → Buf (Elt Ideal) ℓ) (ρ : Dev nD → PrngReg) (c : Dev nD)

abbrev res : M2 4096 1024 := tn (m ((c : Thread nD τ).loc main_arg0)) (m ((c : Thread nD τ).loc main_arg1))

theorem at_ : ∀ t : Fin cfg0.N, win0_0.index t = ![0, t.val] ∧ win0_1.index t = ![0, 0] ∧ win0_2.index t = ![t.val, 0] :=
  (by decide +kernel : ∀ t : Fin grid0.N, win0_0.index t = ![0, t.val] ∧ win0_1.index t = ![0, 0] ∧ win0_2.index t = ![t.val, 0])

/-- A point writes its block of the product. -/
theorem flushed_eq (t : Fin cfg0.N) : (dats m 0 c).flushed 2 t = ((cfg0.win 2).blk t).view.read (Elt Ideal) (res m c) := by
  obtain ⟨e0, e1, e2⟩ := at_ t
  rw [flushed2, out_eq]
  funext j
  exact tn_block (ea := ((cfg0.win 0).blk t).view.emb) (eb := ((cfg0.win 1).blk t).view.emb) (eo := ((cfg0.win 2).blk t).view.emb)
    (fun _ => ⟨rfl, rfl⟩) (fun _ => ⟨rfl, rfl⟩) (fun _ => ⟨rfl, rfl⟩) (by simp [e0]) (by simp [e0, e2]) (by simp [e1]) (by simp [e1, e2]) j

theorem arr : (dats m 0 c).arrAt 2 cfg0.N = res m c := by
  refine (dats m 0 c).arrAt_eq_of_cover 2 _ (fun t _ => flushed_eq m c t) fun i => ?_
  have h0 : (i 0).val < 4096 := (i 0).isLt
  have h1 : (i 1).val < 1024 := (i 1).isLt
  obtain ⟨t, ht⟩ : ∃ t : Fin cfg0.N, t.val = (i 0).val / 512 := ⟨⟨_, lt_of_lt_of_eq (by omega) N_0.symm⟩, rfl⟩
  refine ⟨t, flush0_2 _, ?_⟩
  show i ∈ ((View.whole main_v0).slice (win0_2.rect t)).set
  rw [View.set_slice_whole, Rect.mem_set_unit]
  exact near i (n := 512) (m := 1024) (by decide) (by decide) ((at_ t).2.2.trans (by rw [ht, Nat.div_eq_of_lt h1]))

/-- The reference's product. -/
theorem ref (a : M2 4096 4096) (b : M2 4096 1024) : Cert.RefGw2Ideal.Read.val_main_v5 (F := Ideal) a b = tn a b := by
  funext i
  rw [Cert.RefGw2Ideal.Read.val_main_v5_apply, Cert.RefGw2Ideal.Read.val_main_v4_apply]
  show Cert.RefGw2Ideal.Read.val_main_v3 (F := Ideal) a b _ = _
  rw [Cert.RefGw2Ideal.Read.val_main_v3_apply]
  exact Finset.sum_congr rfl fun k _ => (mul_comm _ _).trans (congrArg₂ (· * ·) (congrArg a (idx2 rfl rfl)) (congrArg b (idx2 rfl rfl)))

/-- The reference's frame, and both programs' result. -/
theorem frame_r : Cert.quiescent_RefGw2Ideal := fun m ρ _ => (θ_run Cert.RefGw2Ideal.defs _ _).mono
  (fun r h => ⟨fun c => (h c).2, sem_eq_zero_of_no_sems (by decide) r.2⟩) (Cert.RefGw2Ideal.Value.run (F := Ideal) m ρ)

theorem value : Cert.algebraic_Gw2Ideal_RefGw2Ideal := by
  intro m ρ m' ρ' _ hm
  refine ⟨fun c => res m c, (θ_run defs _ _).mono (fun _ h c => ⟨(h c).1.trans (arr m c), (h c).2⟩) (run_blocks m ρ),
    (θ_run Cert.RefGw2Ideal.defs _ _).mono (fun r h c => ⟨(h c).1.trans ?_, (h c).2⟩) (Cert.RefGw2Ideal.Value.run (F := Ideal) m' ρ')⟩
  obtain ⟨e0, e1⟩ := hm c
  rw [Cert.RefGw2Ideal.Read.val_main_v5_eq]
  exact (congrArg₂ (Cert.RefGw2Ideal.Read.val_main_v5 (F := Ideal)) e0 e1).trans (ref _ _)

end Cert.MmGw2

end
-- ==== Proof.Mm.Df.lean ====
/-
  The gradient behind the squared positive part: `(dx w2ᵀ) · 2 max(f, 0)`, each grid point 2048 by 1024 of it.
-/
module

public import proofs.«01_k».proof.Defs
public import proofs.«01_k».proof.Proof.Gen.Df.Frame
public import proofs.«01_k».proof.Proof.Gen.DfIdeal.Frame
public import proofs.«01_k».proof.Proof.Gen.DfIdeal.Value
public import proofs.«01_k».proof.Proof.Gen.RefDfIdeal.Run
public import proofs.«01_k».proof.Proof.Gen.RefDfIdeal.Read
public import proofs.«01_k».proof.Proof.Mm.Forms
public import Idealize.ShloMosaic.Lib.Quiescent

@[expose] public section

set_option maxRecDepth 16384

noncomputable section

namespace Cert.MmDf

open Cert.DfIdeal Cert.DfIdeal.Gen Cert.DfIdeal.Value Cert.Mm
open Idealize.ShloMosaic Idealize.ShloMosaic.TcCoe Idealize.ShloMosaic.Tactic Idealize.SL.Sem

/-- The float two, and the slope of the squared positive part times a gradient. -/
abbrev two : EReal := Ideal.ofBits .f32 0x40000000#32
def slope (g f : EReal) : EReal := g * two * max f 0

/-- The gradient that the reference's rules give: none where the argument is not positive. -/
theorem slope_eq (g f : EReal) : slope g f = if 0 < f then g * (two * max f 0) else 0 := by
  unfold slope
  by_cases h : 0 < f
  · rw [if_pos h, mul_assoc]
  · rw [if_neg h, max_eq_right (not_lt.mp h), mul_zero]

/-- What a grid point writes; it does not read its fourth block. -/
theorem out_eq (a : Vec Ideal S2048x1024 .f32) (b : Vec Ideal S1024x1024 .bf16) (f : Vec Ideal S2048x1024 .bf16) (d : Vec Ideal S8x128 .f32)
    (j : S2048x1024.Idx) : out0_4 a b f d j = slope (nt a b j) (f j) := by
  unfold out0_4
  rw [View.canon_cons_unit_lit _ _ _ (by decide), View.ld_unit_lit _ _ (by decide), View.ld_unit_lit _ _ (by decide),
    View.ld_unit_lit _ _ (by decide)]
  pointwise [k0_pay1]
  rfl

variable (m : (ℓ : Loc nD τ sig) → Buf (Elt Ideal) ℓ) (ρ : Dev nD → PrngReg) (c : Dev nD)

def res : M2 4096 4096 := fun i => slope
  (nt (m ((c : Thread nD τ).loc main_arg0) : M2 4096 1024) (m ((c : Thread nD τ).loc main_arg1)) i) (m ((c : Thread nD τ).loc main_arg2) i)

theorem at_ : ∀ t : Fin cfg0.N, win0_0.index t = ![t.val / 4, 0] ∧ win0_1.index t = ![t.val % 4, 0]
      ∧ win0_2.index t = ![t.val / 4, t.val % 4] ∧ win0_4.index t = ![t.val / 4, t.val % 4] :=
  (by decide +kernel : ∀ t : Fin grid0.N, win0_0.index t = ![t.val / 4, 0] ∧ win0_1.index t = ![t.val % 4, 0]
      ∧ win0_2.index t = ![t.val / 4, t.val % 4] ∧ win0_4.index t = ![t.val / 4, t.val % 4])

theorem flushed_eq (t : Fin cfg0.N) : (dats m 0 c).flushed 4 t = ((cfg0.win 4).blk t).view.read (Elt Ideal) (res m c) := by
  obtain ⟨e0, e1, e2, e4⟩ := at_ t
  rw [flushed4]
  funext j
  refine (out_eq _ _ _ _ j).trans (congrArg₂ slope ?_ (congrArg (m (c.tc.loc main_arg2)) (idx2 ?_ ?_)))
  · exact nt_block (ea := ((cfg0.win 0).blk t).view.emb) (eb := ((cfg0.win 1).blk t).view.emb) (eo := ((cfg0.win 4).blk t).view.emb)
      (fun _ => ⟨rfl, rfl⟩) (fun _ => ⟨rfl, rfl⟩) (fun _ => ⟨rfl, rfl⟩) (by simp [e0, e4]) (by simp [e0]) (by simp [e1, e4]) (by simp [e1]) j
  · show win0_2.index t 0 * 2048 + 1 * (j 0).val = win0_4.index t 0 * 2048 + 1 * (j 0).val
    rw [e2, e4]
  · show win0_2.index t 1 * 1024 + 1 * (j 1).val = win0_4.index t 1 * 1024 + 1 * (j 1).val
    rw [e2, e4]

/-- The array after the last grid point. -/
theorem arr : (dats m 0 c).arrAt 4 cfg0.N = res m c := by
  refine (dats m 0 c).arrAt_eq_of_cover 4 _ (fun t _ => flushed_eq m c t) fun i => ?_
  have h0 : (i 0).val < 4096 := (i 0).isLt
  have h1 : (i 1).val < 4096 := (i 1).isLt
  obtain ⟨t, ht⟩ : ∃ t : Fin cfg0.N, t.val = (i 0).val / 2048 * 4 + (i 1).val / 1024 := ⟨⟨_, lt_of_lt_of_eq (by omega) N_0.symm⟩, rfl⟩
  refine ⟨t, flush0_4 _, ?_⟩
  show i ∈ ((View.whole main_v0).slice (win0_4.rect t)).set
  rw [View.set_slice_whole, Rect.mem_set_unit]
  exact near i (n := 2048) (m := 1024) (by decide) (by decide) ((at_ t).2.2.2.trans
    (by rw [show t.val / 4 = (i 0).val / 2048 by omega, show t.val % 4 = (i 1).val / 1024 by omega]))

open Cert.RefDfIdeal.Read in
theorem ref (a : M2 4096 1024) (b : M2 4096 1024) (f : M2 4096 4096) (i : I2 4096 4096) :
    val_main_v14 (F := Ideal) a b f i = slope (nt a b i) (f i) := by
  have hz : Ideal.ofBits .f32 0x00000000#32 = 0 := by simp [Ideal.ofBits, Ideal.ieee]
  have hv : val_main_v10 (F := Ideal) a b i = nt a b i := by
    rw [val_main_v10_apply]
    exact Finset.sum_congr rfl fun k _ => congrArg₂ (· * ·) (congrArg a (idx2 rfl rfl)) (congrArg b (idx2 rfl rfl))
  rw [slope_eq, val_main_v14_apply, val_main_v13_apply, val_main_v4_apply, val_main_v3_apply, val_main_v12_apply, val_main_v11_apply, hv,
    val_main_v8_apply, val_main_v7_apply, val_main_v2_apply, val_main_call0_v0_apply]
  show Scalar.select (Ideal.cmp .ogt (f i) (Ideal.ofBits .f32 0x00000000#32)) (nt a b i * (two * max (f i) (Ideal.ofBits .f32 0x00000000#32)))
    (Ideal.ofBits .f32 0x00000000#32) = _
  rw [hz]
  by_cases h : 0 < f i <;> simp [Scalar.select, Ideal.cmp, h]

theorem frame_r : Cert.quiescent_RefDfIdeal := fun m ρ _ => (θ_run Cert.RefDfIdeal.defs _ _).mono
  (fun r h => ⟨fun c => (h c).2, sem_eq_zero_of_no_sems (by decide) r.2⟩) (Cert.RefDfIdeal.Value.run (F := Ideal) m ρ)

theorem value : Cert.algebraic_DfIdeal_RefDfIdeal := by
  intro m ρ m' ρ' _ hm
  refine ⟨fun c => res m c, (θ_run defs _ _).mono (fun _ h c => ⟨(h c).1.trans (arr m c), (h c).2⟩) (run_blocks m ρ),
    (θ_run Cert.RefDfIdeal.defs _ _).mono (fun r h c => ⟨(h c).1.trans ?_, (h c).2⟩) (Cert.RefDfIdeal.Value.run (F := Ideal) m' ρ')⟩
  obtain ⟨e0, e1, e2, -⟩ := hm c
  rw [Cert.RefDfIdeal.Read.val_main_v14_eq]
  exact (congr (congrArg₂ (Cert.RefDfIdeal.Read.val_main_v14 (F := Ideal)) e0 e1) e2).trans (funext (ref _ _ _))

end Cert.MmDf

end
-- ==== Proof.Mm.Gwin.lean ====
/-
  The gradient of the input projection by the first 4608 rows of its weight: `dprojᵀ h`, each grid point 768 rows of it.
-/
module

public import proofs.«01_k».proof.Defs
public import proofs.«01_k».proof.Proof.Gen.Gwin.Frame
public import proofs.«01_k».proof.Proof.Gen.GwinIdeal.Frame
public import proofs.«01_k».proof.Proof.Gen.GwinIdeal.Value
public import proofs.«01_k».proof.Proof.Gen.RefGwinIdeal.Run
public import proofs.«01_k».proof.Proof.Gen.RefGwinIdeal.Read
public import proofs.«01_k».proof.Proof.Mm.Forms
public import Idealize.ShloMosaic.Lib.Quiescent

@[expose] public section

set_option maxRecDepth 16384

noncomputable section

namespace Cert.MmGwin

open Cert.GwinIdeal Cert.GwinIdeal.Gen Cert.GwinIdeal.Value Cert.Mm
open Idealize.ShloMosaic Idealize.ShloMosaic.TcCoe Idealize.ShloMosaic.Tactic Idealize.SL.Sem

/-- What a grid point writes. -/
theorem out_eq (a : Vec Ideal S4096x768 .bf16) (b : Vec Ideal S4096x1024 .bf16) : out0_2 a b = tn a b := by
  funext j
  unfold out0_2
  rw [View.canon_cons_unit_lit _ _ _ (by decide), View.ld_unit_lit _ _ (by decide), View.ld_unit_lit _ _ (by decide)]
  pointwise [k0_pay1]
  rfl

variable (m : (ℓ : Loc nD τ sig) → Buf (Elt Ideal) ℓ) (ρ : Dev nD → PrngReg) (c : Dev nD)

abbrev res : M2 4608 1024 := tn (m ((c : Thread nD τ).loc main_arg0)) (m ((c : Thread nD τ).loc main_arg1))

theorem at_ : ∀ t : Fin cfg0.N, win0_0.index t = ![0, t.val] ∧ win0_1.index t = ![0, 0] ∧ win0_2.index t = ![t.val, 0] :=
  (by decide +kernel : ∀ t : Fin grid0.N, win0_0.index t = ![0, t.val] ∧ win0_1.index t = ![0, 0] ∧ win0_2.index t = ![t.val, 0])

theorem flushed_eq (t : Fin cfg0.N) : (dats m 0 c).flushed 2 t = ((cfg0.win 2).blk t).view.read (Elt Ideal) (res m c) := by
  obtain ⟨e0, e1, e2⟩ := at_ t
  rw [flushed2, out_eq]
  funext j
  exact tn_block (ea := ((cfg0.win 0).blk t).view.emb) (eb := ((cfg0.win 1).blk t).view.emb) (eo := ((cfg0.win 2).blk t).view.emb)
    (fun _ => ⟨rfl, rfl⟩) (fun _ => ⟨rfl, rfl⟩) (fun _ => ⟨rfl, rfl⟩) (by simp [e0]) (by simp [e0, e2]) (by simp [e1]) (by simp [e1, e2]) j

/-- The array after the last grid point. -/
theorem arr : (dats m 0 c).arrAt 2 cfg0.N = res m c := by
  refine (dats m 0 c).arrAt_eq_of_cover 2 _ (fun t _ => flushed_eq m c t) fun i => ?_
  have h0 : (i 0).val < 4608 := (i 0).isLt
  have h1 : (i 1).val < 1024 := (i 1).isLt
  obtain ⟨t, ht⟩ : ∃ t : Fin cfg0.N, t.val = (i 0).val / 768 := ⟨⟨_, lt_of_lt_of_eq (by omega) N_0.symm⟩, rfl⟩
  refine ⟨t, flush0_2 _, ?_⟩
  show i ∈ ((View.whole main_v0).slice (win0_2.rect t)).set
  rw [View.set_slice_whole, Rect.mem_set_unit]
  exact near i (n := 768) (m := 1024) (by decide) (by decide) ((at_ t).2.2.trans (by rw [ht, Nat.div_eq_of_lt h1]))

/-- The reference multiplies the transposed gradient of the projection by its input, and turns the product twice. -/
theorem ref (a : M2 4096 4608) (b : M2 4096 1024) : Cert.RefGwinIdeal.Read.val_main_v7 (F := Ideal) a b = tn a b := by
  funext i
  rw [Cert.RefGwinIdeal.Read.val_main_v7_apply, Cert.RefGwinIdeal.Read.val_main_v6_apply, Cert.RefGwinIdeal.Read.val_main_v5_apply]
  show Cert.RefGwinIdeal.Read.val_main_v4 (F := Ideal) a b _ = _
  rw [Cert.RefGwinIdeal.Read.val_main_v4_apply]
  exact Finset.sum_congr rfl fun k _ => congrArg₂ (· * ·) (congrArg a (idx2 rfl rfl)) (congrArg b (idx2 rfl rfl))

theorem frame_r : Cert.quiescent_RefGwinIdeal := fun m ρ _ => (θ_run Cert.RefGwinIdeal.defs _ _).mono
  (fun r h => ⟨fun c => (h c).2, sem_eq_zero_of_no_sems (by decide) r.2⟩) (Cert.RefGwinIdeal.Value.run (F := Ideal) m ρ)

theorem value : Cert.algebraic_GwinIdeal_RefGwinIdeal := by
  intro m ρ m' ρ' _ hm
  refine ⟨fun c => res m c, (θ_run defs _ _).mono (fun _ h c => ⟨(h c).1.trans (arr m c), (h c).2⟩) (run_blocks m ρ),
    (θ_run Cert.RefGwinIdeal.defs _ _).mono (fun r h c => ⟨(h c).1.trans ?_, (h c).2⟩) (Cert.RefGwinIdeal.Value.run (F := Ideal) m' ρ')⟩
  obtain ⟨e0, e1⟩ := hm c
  rw [Cert.RefGwinIdeal.Read.val_main_v7_eq]
  exact (congrArg₂ (Cert.RefGwinIdeal.Read.val_main_v7 (F := Ideal)) e0 e1).trans (ref _ _)

end Cert.MmGwin

end
-- ==== Proof.Mm.Proj.lean ====
/-
  The input projection `h wtᵀ` onto the first 4608 rows of its weight, each grid point 2048 by 768 of it.
-/
module

public import proofs.«01_k».proof.Defs
public import proofs.«01_k».proof.Proof.Gen.Proj.Frame
public import proofs.«01_k».proof.Proof.Gen.ProjIdeal.Frame
public import proofs.«01_k».proof.Proof.Gen.ProjIdeal.Value
public import proofs.«01_k».proof.Proof.Gen.RefProjIdeal.Run
public import proofs.«01_k».proof.Proof.Gen.RefProjIdeal.Read
public import proofs.«01_k».proof.Proof.Mm.Forms
public import Idealize.ShloMosaic.Lib.Quiescent

@[expose] public section

set_option maxRecDepth 16384

noncomputable section

namespace Cert.MmProj

open Cert.ProjIdeal Cert.ProjIdeal.Gen Cert.ProjIdeal.Value Cert.Mm
open Idealize.ShloMosaic Idealize.ShloMosaic.TcCoe Idealize.ShloMosaic.Tactic Idealize.SL.Sem

/-- What a grid point writes; it does not read its third block. -/
theorem out_eq (c : Dev nD) (i : grid0.Coords) (a3 : Memref sig .tc .vmem S2048x1024 .bf16) (h3 : a3.IsWhole)
    (a4 : Memref sig .tc .vmem S768x1024 .bf16) (h4 : a4.IsWhole) (a5 : Memref sig .tc .vmem S8x128 .f32) (h5 : a5.IsWhole)
    (a6 : Memref sig .tc .vmem S2048x768 .bf16) (h6 : a6.IsWhole) (a : Vec Ideal S2048x1024 .bf16) (b : Vec Ideal S768x1024 .bf16)
    (d : Vec Ideal S8x128 .f32) : out0_A_3 c i a3 h3 a4 h4 a5 h5 a6 h6 a b d = nt a b := by
  unfold out0_A_3
  rw [View.read_writes_eq_canon _ _ _ (cover0_A_3 c i a3 h3 a4 h4 a5 h5 a6 h6 a b d)]
  unfold kernelRun0_A
  dsimp only
  sl_unfold_words
  simp (discharger := first | rfl | decide) only [View.readAt_eq_ld, Memref.IsWhole.read_unread]
  funext j
  rw [View.canon_cons_unit_lit _ _ _ (by decide), View.ld_unit_lit _ _ (by decide), View.ld_unit_lit _ _ (by decide)]
  pointwise [k0_pay1]
  rfl

variable (m : (ℓ : Loc nD τ sig) → Buf (Elt Ideal) ℓ) (ρ : Dev nD → PrngReg) (c : Dev nD)

/-- The weight's rows that the kernel reads. -/
abbrev wt : M2 4608 1024 := top (M := 4624) (by decide) (m ((c : Thread nD τ).loc main_arg1))
abbrev res : M2 4096 4608 := nt (m ((c : Thread nD τ).loc main_arg0)) (wt m c)

theorem at_ : ∀ t : Fin cfg0.N, win0_0.index t = ![t.val / 6, 0] ∧ win0_1.index t = ![t.val % 6, 0] ∧ win0_3.index t = ![t.val / 6, t.val % 6] :=
  (by decide +kernel : ∀ t : Fin grid0.N, win0_0.index t = ![t.val / 6, 0] ∧ win0_1.index t = ![t.val % 6, 0] ∧ win0_3.index t = ![t.val / 6, t.val % 6])

/-- Where a grid point's block of the weight lies. -/
def row (t : Fin cfg0.N) (x : I2 768 1024) : I2 4608 1024 :=
  ix2 ⟨t.val % 6 * 768 + 1 * (x 0).val, by have : (x 0).val < 768 := (x 0).isLt; omega⟩ (x 1)

theorem blk1 (t : Fin cfg0.N) : X0_1 m c t = fun x => wt m c (row t x) := by
  obtain ⟨-, e1, -⟩ := at_ t
  funext x
  unfold X0_1 Pipeline.Window.fill
  rw [dif_pos (moved0_1 t _)]
  unfold iblk
  rw [View.read_apply]
  show V m c main_arg1 _ = m (c.tc.loc main_arg1) _
  rw [V_main_arg1]
  refine congrArg (m (c.tc.loc main_arg1)) (idx2 ?_ ?_)
  · show win0_1.index t 0 * 768 + 1 * (x 0).val = t.val % 6 * 768 + 1 * (x 0).val
    simp [e1]
  · show win0_1.index t 1 * 1024 + 1 * (x 1).val = (x 1).val
    simp [e1]

theorem flushed_eq (t : Fin cfg0.N) : (dats m 0 c).flushed 3 t = ((cfg0.win 3).blk t).view.read (Elt Ideal) (res m c) := by
  obtain ⟨e0, -, e3⟩ := at_ t
  rw [flushed3_A, out_eq, blk1]
  funext j
  exact nt_block (ea := ((cfg0.win 0).blk t).view.emb) (eb := row t) (eo := ((cfg0.win 3).blk t).view.emb)
    (fun _ => ⟨rfl, rfl⟩) (r := t.val % 6 * 768) (s := 0) (fun x => ⟨rfl, show (x 1).val = 0 + 1 * (x 1).val by omega⟩) (fun _ => ⟨rfl, rfl⟩)
    (by simp [e0, e3]) (by simp [e0]) (by simp [e3]) rfl j

/-- The array after the last grid point. -/
theorem arr : (dats m 0 c).arrAt 3 cfg0.N = res m c := by
  refine (dats m 0 c).arrAt_eq_of_cover 3 _ (fun t _ => flushed_eq m c t) fun i => ?_
  have h0 : (i 0).val < 4096 := (i 0).isLt
  have h1 : (i 1).val < 4608 := (i 1).isLt
  obtain ⟨t, ht⟩ : ∃ t : Fin cfg0.N, t.val = (i 0).val / 2048 * 6 + (i 1).val / 768 := ⟨⟨_, lt_of_lt_of_eq (by omega) N_0.symm⟩, rfl⟩
  refine ⟨t, flush0_3 _, ?_⟩
  show i ∈ ((View.whole main_v0).slice (win0_3.rect t)).set
  rw [View.set_slice_whole, Rect.mem_set_unit]
  exact near i (n := 2048) (m := 768) (by decide) (by decide) ((at_ t).2.2.trans
    (by rw [show t.val / 6 = (i 0).val / 2048 by omega, show t.val % 6 = (i 1).val / 768 by omega]))

/-- The reference multiplies by all of the turned weight and cuts the product. -/
theorem ref (a : M2 4096 1024) (b : M2 4624 1024) :
    Cert.RefProjIdeal.Read.val_main_v5 (F := Ideal) a b = nt a (top (by decide) b) := by
  funext i
  rw [Cert.RefProjIdeal.Read.val_main_v5_apply, Cert.RefProjIdeal.Read.val_main_v4_apply]
  show Cert.RefProjIdeal.Read.val_main_v3 (F := Ideal) a b _ = _
  rw [Cert.RefProjIdeal.Read.val_main_v3_apply]
  refine Finset.sum_congr rfl fun k _ => congrArg₂ (· * ·) (congrArg a (idx2 ?_ rfl)) ?_
  · simp [Cert.RefProjIdeal.Read.idx_main_v4, Cert.RefProjIdeal.Read.lidx_main_v3]
  · rw [Cert.RefProjIdeal.Read.val_main_v2_apply]
    exact congrArg b (idx2 (by simp [Cert.RefProjIdeal.Read.idx_main_v4, Cert.RefProjIdeal.Read.idx_main_v2, Cert.RefProjIdeal.Read.ridx_main_v3]) rfl)

theorem frame_r : Cert.quiescent_RefProjIdeal := fun m ρ _ => (θ_run Cert.RefProjIdeal.defs _ _).mono
  (fun r h => ⟨fun c => (h c).2, sem_eq_zero_of_no_sems (by decide) r.2⟩) (Cert.RefProjIdeal.Value.run (F := Ideal) m ρ)

theorem value : Cert.algebraic_ProjIdeal_RefProjIdeal := by
  intro m ρ m' ρ' _ hm
  refine ⟨fun c => res m c, (θ_run defs _ _).mono (fun _ h c => ⟨(h c).1.trans (arr m c), (h c).2⟩) (run_blocks m ρ),
    (θ_run Cert.RefProjIdeal.defs _ _).mono (fun r h c => ⟨(h c).1.trans ?_, (h c).2⟩) (Cert.RefProjIdeal.Value.run (F := Ideal) m' ρ')⟩
  obtain ⟨e0, e1, -⟩ := hm c
  rw [Cert.RefProjIdeal.Read.val_main_v5_eq]
  exact (congrArg₂ (Cert.RefProjIdeal.Read.val_main_v5 (F := Ideal)) e0 e1).trans (ref _ _)

end Cert.MmProj

end
-- ==== Proof.Mm.Gw1.lean ====
/-
  The gradient of the MLP's first product by its weight: `dfᵀ h2`, each grid point 1024 rows of it.
-/
module

public import proofs.«01_k».proof.Defs
public import proofs.«01_k».proof.Proof.Gen.Gw1.Frame
public import proofs.«01_k».proof.Proof.Gen.Gw1Ideal.Frame
public import proofs.«01_k».proof.Proof.Gen.Gw1Ideal.Value
public import proofs.«01_k».proof.Proof.Gen.RefGw1Ideal.Run
public import proofs.«01_k».proof.Proof.Gen.RefGw1Ideal.Read
public import proofs.«01_k».proof.Proof.Mm.Forms
public import Idealize.ShloMosaic.Lib.Quiescent

@[expose] public section

set_option maxRecDepth 16384

noncomputable section

namespace Cert.MmGw1

open Cert.Gw1Ideal Cert.Gw1Ideal.Gen Cert.Gw1Ideal.Value Cert.Mm
open Idealize.ShloMosaic Idealize.ShloMosaic.TcCoe Idealize.ShloMosaic.Tactic Idealize.SL.Sem

/-- What a grid point writes. -/
theorem out_eq (a : Vec Ideal S4096x1024 .bf16) (b : Vec Ideal S4096x1024 .bf16) : out0_2 a b = tn a b := by
  funext j
  unfold out0_2
  rw [View.canon_cons_unit_lit _ _ _ (by decide), View.ld_unit_lit _ _ (by decide), View.ld_unit_lit _ _ (by decide)]
  pointwise [k0_pay1]
  rfl

variable (m : (ℓ : Loc nD τ sig) → Buf (Elt Ideal) ℓ) (ρ : Dev nD → PrngReg) (c : Dev nD)

abbrev res : M2 4096 1024 := tn (m ((c : Thread nD τ).loc main_arg0)) (m ((c : Thread nD τ).loc main_arg1))

theorem at_ : ∀ t : Fin cfg0.N, win0_0.index t = ![0, t.val] ∧ win0_1.index t = ![0, 0] ∧ win0_2.index t = ![t.val, 0] :=
  (by decide +kernel : ∀ t : Fin grid0.N, win0_0.index t = ![0, t.val] ∧ win0_1.index t = ![0, 0] ∧ win0_2.index t = ![t.val, 0])

theorem flushed_eq (t : Fin cfg0.N) : (dats m 0 c).flushed 2 t = ((cfg0.win 2).blk t).view.read (Elt Ideal) (res m c) := by
  obtain ⟨e0, e1, e2⟩ := at_ t
  rw [flushed2, out_eq]
  funext j
  exact tn_block (ea := ((cfg0.win 0).blk t).view.emb) (eb := ((cfg0.win 1).blk t).view.emb) (eo := ((cfg0.win 2).blk t).view.emb)
    (fun _ => ⟨rfl, rfl⟩) (fun _ => ⟨rfl, rfl⟩) (fun _ => ⟨rfl, rfl⟩) (by simp [e0]) (by simp [e0, e2]) (by simp [e1]) (by simp [e1, e2]) j

/-- The array after the last grid point. -/
theorem arr : (dats m 0 c).arrAt 2 cfg0.N = res m c := by
  refine (dats m 0 c).arrAt_eq_of_cover 2 _ (fun t _ => flushed_eq m c t) fun i => ?_
  have h0 : (i 0).val < 4096 := (i 0).isLt
  have h1 : (i 1).val < 1024 := (i 1).isLt
  obtain ⟨t, ht⟩ : ∃ t : Fin cfg0.N, t.val = (i 0).val / 1024 := ⟨⟨_, lt_of_lt_of_eq (by omega) N_0.symm⟩, rfl⟩
  refine ⟨t, flush0_2 _, ?_⟩
  show i ∈ ((View.whole main_v0).slice (win0_2.rect t)).set
  rw [View.set_slice_whole, Rect.mem_set_unit]
  exact near i (n := 1024) (m := 1024) (by decide) (by decide) ((at_ t).2.2.trans (by rw [ht, Nat.div_eq_of_lt h1]))

/-- The reference multiplies the transposed gradient by the input, and turns the product twice. -/
theorem ref (a : M2 4096 4096) (b : M2 4096 1024) : Cert.RefGw1Ideal.Read.val_main_v7 (F := Ideal) a b = tn a b := by
  funext i
  rw [Cert.RefGw1Ideal.Read.val_main_v7_apply, Cert.RefGw1Ideal.Read.val_main_v6_apply, Cert.RefGw1Ideal.Read.val_main_v5_apply]
  show Cert.RefGw1Ideal.Read.val_main_v4 (F := Ideal) a b _ = _
  rw [Cert.RefGw1Ideal.Read.val_main_v4_apply]
  exact Finset.sum_congr rfl fun k _ => congrArg₂ (· * ·) (congrArg a (idx2 rfl rfl)) (congrArg b (idx2 rfl rfl))

theorem frame_r : Cert.quiescent_RefGw1Ideal := fun m ρ _ => (θ_run Cert.RefGw1Ideal.defs _ _).mono
  (fun r h => ⟨fun c => (h c).2, sem_eq_zero_of_no_sems (by decide) r.2⟩) (Cert.RefGw1Ideal.Value.run (F := Ideal) m ρ)

theorem value : Cert.algebraic_Gw1Ideal_RefGw1Ideal := by
  intro m ρ m' ρ' _ hm
  refine ⟨fun c => res m c, (θ_run defs _ _).mono (fun _ h c => ⟨(h c).1.trans (arr m c), (h c).2⟩) (run_blocks m ρ),
    (θ_run Cert.RefGw1Ideal.defs _ _).mono (fun r h c => ⟨(h c).1.trans ?_, (h c).2⟩) (Cert.RefGw1Ideal.Value.run (F := Ideal) m' ρ')⟩
  obtain ⟨e0, e1⟩ := hm c
  rw [Cert.RefGw1Ideal.Read.val_main_v7_eq]
  exact (congrArg₂ (Cert.RefGw1Ideal.Read.val_main_v7 (F := Ideal)) e0 e1).trans (ref _ _)

end Cert.MmGw1

end
-- ==== Proof.Mm.Dh1.lean ====
/-
  The gradient of the input projection by its input: `dproj` times the first 4608 rows of the weight, each grid point 1024
  rows of it.
-/
module

public import proofs.«01_k».proof.Defs
public import proofs.«01_k».proof.Proof.Gen.Dh1.Frame
public import proofs.«01_k».proof.Proof.Gen.Dh1Ideal.Frame
public import proofs.«01_k».proof.Proof.Gen.Dh1Ideal.Value
public import proofs.«01_k».proof.Proof.Gen.RefDh1Ideal.Run
public import proofs.«01_k».proof.Proof.Gen.RefDh1Ideal.Read
public import proofs.«01_k».proof.Proof.Mm.Forms
public import Idealize.ShloMosaic.Lib.Quiescent

@[expose] public section

set_option maxRecDepth 16384

noncomputable section

namespace Cert.MmDh1

open Cert.Dh1Ideal Cert.Dh1Ideal.Gen Cert.Dh1Ideal.Value Cert.Mm
open Idealize.ShloMosaic Idealize.ShloMosaic.TcCoe Idealize.ShloMosaic.Tactic Idealize.SL.Sem

/-- What a grid point writes. -/
theorem out_eq (c : Dev nD) (i : grid0.Coords) (a3 : Memref sig .tc .vmem S1024x4608 .bf16) (h3 : a3.IsWhole)
    (a4 : Memref sig .tc .vmem S4608x1024 .bf16) (h4 : a4.IsWhole) (a5 : Memref sig .tc .vmem S1024x1024 .f32) (h5 : a5.IsWhole)
    (a : Vec Ideal S1024x4608 .bf16) (b : Vec Ideal S4608x1024 .bf16) : out0_A_2 c i a3 h3 a4 h4 a5 h5 a b = nn a b := by
  unfold out0_A_2
  rw [View.read_writes_eq_canon _ _ _ (cover0_A_2 c i a3 h3 a4 h4 a5 h5 a b)]
  unfold kernelRun0_A
  dsimp only
  sl_unfold_words
  simp (discharger := first | rfl | decide) only [View.readAt_eq_ld, Memref.IsWhole.read_unread]
  funext j
  rw [View.canon_cons_unit_lit _ _ _ (by decide), View.ld_unit_lit _ _ (by decide), View.ld_unit_lit _ _ (by decide)]
  pointwise [k0_pay1]
  rfl

variable (m : (ℓ : Loc nD τ sig) → Buf (Elt Ideal) ℓ) (ρ : Dev nD → PrngReg) (c : Dev nD)

/-- The weight's rows that the kernel reads. -/
abbrev wt : M2 4608 1024 := top (M := 4624) (by decide) (m ((c : Thread nD τ).loc main_arg1))
abbrev res : M2 4096 1024 := nn (m ((c : Thread nD τ).loc main_arg0)) (wt m c)

theorem at_ : ∀ t : Fin cfg0.N, win0_0.index t = ![t.val, 0] ∧ win0_1.index t = ![0, 0] ∧ win0_2.index t = ![t.val, 0] :=
  (by decide +kernel : ∀ t : Fin grid0.N, win0_0.index t = ![t.val, 0] ∧ win0_1.index t = ![0, 0] ∧ win0_2.index t = ![t.val, 0])

/-- The block of the weight is those rows. -/
theorem blk1 (t : Fin cfg0.N) : X0_1 m c t = fun x => wt m c x := by
  obtain ⟨-, e1, -⟩ := at_ t
  funext x
  unfold X0_1 Pipeline.Window.fill
  rw [dif_pos (moved0_1 t _)]
  unfold iblk
  rw [View.read_apply]
  show V m c main_arg1 _ = m (c.tc.loc main_arg1) _
  rw [V_main_arg1]
  refine congrArg (m (c.tc.loc main_arg1)) (idx2 ?_ ?_)
  · show win0_1.index t 0 * 4608 + 1 * (x 0).val = (x 0).val
    simp [e1]
  · show win0_1.index t 1 * 1024 + 1 * (x 1).val = (x 1).val
    simp [e1]

theorem flushed_eq (t : Fin cfg0.N) : (dats m 0 c).flushed 2 t = ((cfg0.win 2).blk t).view.read (Elt Ideal) (res m c) := by
  obtain ⟨e0, -, e2⟩ := at_ t
  rw [flushed2_A, out_eq, blk1]
  funext j
  exact nn_block (ea := ((cfg0.win 0).blk t).view.emb) (eb := fun x => x) (eo := ((cfg0.win 2).blk t).view.emb)
    (fun _ => ⟨rfl, rfl⟩) (p := _) (r := 0) (s := 0) (fun _ => ⟨by simp, by simp⟩) (fun _ => ⟨rfl, rfl⟩)
    (by simp [e0, e2]) (by simp [e0]) rfl (by simp [e2]) j

/-- The array after the last grid point. -/
theorem arr : (dats m 0 c).arrAt 2 cfg0.N = res m c := by
  refine (dats m 0 c).arrAt_eq_of_cover 2 _ (fun t _ => flushed_eq m c t) fun i => ?_
  have h0 : (i 0).val < 4096 := (i 0).isLt
  have h1 : (i 1).val < 1024 := (i 1).isLt
  obtain ⟨t, ht⟩ : ∃ t : Fin cfg0.N, t.val = (i 0).val / 1024 := ⟨⟨_, lt_of_lt_of_eq (by omega) N_0.symm⟩, rfl⟩
  refine ⟨t, flush0_2 _, ?_⟩
  show i ∈ ((View.whole main_v0).slice (win0_2.rect t)).set
  rw [View.set_slice_whole, Rect.mem_set_unit]
  exact near i (n := 1024) (m := 1024) (by decide) (by decide) ((at_ t).2.2.trans (by rw [ht, Nat.div_eq_of_lt h1]))

/-- The reference cuts the rows, turns them, and multiplies by the turned matrix. -/
theorem ref (a : M2 4096 4608) (b : M2 4624 1024) :
    Cert.RefDh1Ideal.Read.val_main_v6 (F := Ideal) a b = nn a (top (by decide) b) := by
  funext i
  rw [Cert.RefDh1Ideal.Read.val_main_v6_apply]
  refine Finset.sum_congr rfl fun k _ => congrArg₂ (· * ·) (congrArg a (idx2 rfl rfl)) ?_
  rw [Cert.RefDh1Ideal.Read.val_main_v2_apply, Cert.RefDh1Ideal.Read.val_main_v1_apply]
  exact congrArg b (idx2 (by simp [Cert.RefDh1Ideal.Read.idx_main_v1, Cert.RefDh1Ideal.Read.idx_main_v2, Cert.RefDh1Ideal.Read.ridx_main_v6])
    (by simp [Cert.RefDh1Ideal.Read.idx_main_v1, Cert.RefDh1Ideal.Read.idx_main_v2, Cert.RefDh1Ideal.Read.ridx_main_v6]))

theorem frame_r : Cert.quiescent_RefDh1Ideal := fun m ρ _ => (θ_run Cert.RefDh1Ideal.defs _ _).mono
  (fun r h => ⟨fun c => (h c).2, sem_eq_zero_of_no_sems (by decide) r.2⟩) (Cert.RefDh1Ideal.Value.run (F := Ideal) m ρ)

theorem value : Cert.algebraic_Dh1Ideal_RefDh1Ideal := by
  intro m ρ m' ρ' _ hm
  refine ⟨fun c => res m c, (θ_run defs _ _).mono (fun _ h c => ⟨(h c).1.trans (arr m c), (h c).2⟩) (run_blocks m ρ),
    (θ_run Cert.RefDh1Ideal.defs _ _).mono (fun r h c => ⟨(h c).1.trans ?_, (h c).2⟩) (Cert.RefDh1Ideal.Value.run (F := Ideal) m' ρ')⟩
  obtain ⟨e0, e1⟩ := hm c
  rw [Cert.RefDh1Ideal.Read.val_main_v6_eq]
  exact (congrArg₂ (Cert.RefDh1Ideal.Read.val_main_v6 (F := Ideal)) e0 e1).trans (ref _ _)

end Cert.MmDh1

end
-- ==== Proof.Mm.Dycat.lean ====
/-
  The gradient of the output projection by its input: `dxm woutᵀ`, each grid point 2048 by 1024 of it.
-/
module

public import proofs.«01_k».proof.Defs
public import proofs.«01_k».proof.Proof.Gen.Dycat.Frame
public import proofs.«01_k».proof.Proof.Gen.DycatIdeal.Frame
public import proofs.«01_k».proof.Proof.Gen.DycatIdeal.Value
public import proofs.«01_k».proof.Proof.Gen.RefDycatIdeal.Run
public import proofs.«01_k».proof.Proof.Gen.RefDycatIdeal.Read
public import proofs.«01_k».proof.Proof.Mm.Forms
public import Idealize.ShloMosaic.Lib.Quiescent

@[expose] public section

set_option maxRecDepth 16384

noncomputable section

namespace Cert.MmDycat

open Cert.DycatIdeal Cert.DycatIdeal.Gen Cert.DycatIdeal.Value Cert.Mm
open Idealize.ShloMosaic Idealize.ShloMosaic.TcCoe Idealize.ShloMosaic.Tactic Idealize.SL.Sem

/-- What a grid point writes; it does not read its third block. -/
theorem out_eq (a : Vec Ideal S2048x1024 .f32) (b : Vec Ideal S1024x1024 .bf16) (d : Vec Ideal S8x128 .f32) : out0_3 a b d = nt a b := by
  funext j
  unfold out0_3
  rw [View.canon_cons_unit_lit _ _ _ (by decide), View.ld_unit_lit _ _ (by decide), View.ld_unit_lit _ _ (by decide)]
  pointwise [k0_pay1]
  rfl

variable (m : (ℓ : Loc nD τ sig) → Buf (Elt Ideal) ℓ) (ρ : Dev nD → PrngReg) (c : Dev nD)

abbrev res : M2 4096 2048 := nt (m ((c : Thread nD τ).loc main_arg0)) (m ((c : Thread nD τ).loc main_arg1))

theorem at_ : ∀ t : Fin cfg0.N, win0_0.index t = ![t.val / 2, 0] ∧ win0_1.index t = ![t.val % 2, 0] ∧ win0_3.index t = ![t.val / 2, t.val % 2] :=
  (by decide +kernel : ∀ t : Fin grid0.N, win0_0.index t = ![t.val / 2, 0] ∧ win0_1.index t = ![t.val % 2, 0] ∧ win0_3.index t = ![t.val / 2, t.val % 2])

theorem flushed_eq (t : Fin cfg0.N) : (dats m 0 c).flushed 3 t = ((cfg0.win 3).blk t).view.read (Elt Ideal) (res m c) := by
  obtain ⟨e0, e1, e3⟩ := at_ t
  rw [flushed3, out_eq]
  funext j
  exact nt_block (ea := ((cfg0.win 0).blk t).view.emb) (eb := ((cfg0.win 1).blk t).view.emb) (eo := ((cfg0.win 3).blk t).view.emb)
    (fun _ => ⟨rfl, rfl⟩) (fun _ => ⟨rfl, rfl⟩) (fun _ => ⟨rfl, rfl⟩) (by simp [e0, e3]) (by simp [e0]) (by simp [e1, e3]) (by simp [e1]) j

/-- The array after the last grid point. -/
theorem arr : (dats m 0 c).arrAt 3 cfg0.N = res m c := by
  refine (dats m 0 c).arrAt_eq_of_cover 3 _ (fun t _ => flushed_eq m c t) fun i => ?_
  have h0 : (i 0).val < 4096 := (i 0).isLt
  have h1 : (i 1).val < 2048 := (i 1).isLt
  obtain ⟨t, ht⟩ : ∃ t : Fin cfg0.N, t.val = (i 0).val / 2048 * 2 + (i 1).val / 1024 := ⟨⟨_, lt_of_lt_of_eq (by omega) N_0.symm⟩, rfl⟩
  refine ⟨t, flush0_3 _, ?_⟩
  show i ∈ ((View.whole main_v0).slice (win0_3.rect t)).set
  rw [View.set_slice_whole, Rect.mem_set_unit]
  exact near i (n := 2048) (m := 1024) (by decide) (by decide) ((at_ t).2.2.trans
    (by rw [show t.val / 2 = (i 0).val / 2048 by omega, show t.val % 2 = (i 1).val / 1024 by omega]))

theorem ref (a : M2 4096 1024) (b : M2 2048 1024) : Cert.RefDycatIdeal.Read.val_main_v4 (F := Ideal) a b = nt a b := by
  funext i
  rw [Cert.RefDycatIdeal.Read.val_main_v4_apply]
  show Cert.RefDycatIdeal.Read.val_main_v3 (F := Ideal) a b _ = _
  rw [Cert.RefDycatIdeal.Read.val_main_v3_apply]
  exact Finset.sum_congr rfl fun k _ => congrArg₂ (· * ·) (congrArg a (idx2 rfl rfl)) (congrArg b (idx2 rfl rfl))

theorem frame_r : Cert.quiescent_RefDycatIdeal := fun m ρ _ => (θ_run Cert.RefDycatIdeal.defs _ _).mono
  (fun r h => ⟨fun c => (h c).2, sem_eq_zero_of_no_sems (by decide) r.2⟩) (Cert.RefDycatIdeal.Value.run (F := Ideal) m ρ)

theorem value : Cert.algebraic_DycatIdeal_RefDycatIdeal := by
  intro m ρ m' ρ' _ hm
  refine ⟨fun c => res m c, (θ_run defs _ _).mono (fun _ h c => ⟨(h c).1.trans (arr m c), (h c).2⟩) (run_blocks m ρ),
    (θ_run Cert.RefDycatIdeal.defs _ _).mono (fun r h c => ⟨(h c).1.trans ?_, (h c).2⟩) (Cert.RefDycatIdeal.Value.run (F := Ideal) m' ρ')⟩
  obtain ⟨e0, e1, -⟩ := hm c
  rw [Cert.RefDycatIdeal.Read.val_main_v4_eq]
  exact (congrArg₂ (Cert.RefDycatIdeal.Read.val_main_v4 (F := Ideal)) e0 e1).trans (ref _ _)

end Cert.MmDycat

end
-- ==== Proof.Mm.Gwout.lean ====
/-
  The gradient of the output projection by its weight: `ycatᵀ dxm`, each grid point 512 rows of it.
-/
module

public import proofs.«01_k».proof.Defs
public import proofs.«01_k».proof.Proof.Gen.Gwout.Frame
public import proofs.«01_k».proof.Proof.Gen.GwoutIdeal.Frame
public import proofs.«01_k».proof.Proof.Gen.GwoutIdeal.Value
public import proofs.«01_k».proof.Proof.Gen.RefGwoutIdeal.Run
public import proofs.«01_k».proof.Proof.Gen.RefGwoutIdeal.Read
public import proofs.«01_k».proof.Proof.Mm.Forms
public import Idealize.ShloMosaic.Lib.Quiescent

@[expose] public section

set_option maxRecDepth 16384

noncomputable section

namespace Cert.MmGwout

open Cert.GwoutIdeal Cert.GwoutIdeal.Gen Cert.GwoutIdeal.Value Cert.Mm
open Idealize.ShloMosaic Idealize.ShloMosaic.TcCoe Idealize.ShloMosaic.Tactic Idealize.SL.Sem

/-- What a grid point writes. -/
theorem out_eq (a : Vec Ideal S4096x512 .bf16) (b : Vec Ideal S4096x1024 .f32) : out0_2 a b = tn a b := by
  funext j
  unfold out0_2
  rw [View.canon_cons_unit_lit _ _ _ (by decide), View.ld_unit_lit _ _ (by decide), View.ld_unit_lit _ _ (by decide)]
  pointwise [k0_pay1]
  rfl

variable (m : (ℓ : Loc nD τ sig) → Buf (Elt Ideal) ℓ) (ρ : Dev nD → PrngReg) (c : Dev nD)

abbrev res : M2 2048 1024 := tn (m ((c : Thread nD τ).loc main_arg0)) (m ((c : Thread nD τ).loc main_arg1))

theorem at_ : ∀ t : Fin cfg0.N, win0_0.index t = ![0, t.val] ∧ win0_1.index t = ![0, 0] ∧ win0_2.index t = ![t.val, 0] :=
  (by decide +kernel : ∀ t : Fin grid0.N, win0_0.index t = ![0, t.val] ∧ win0_1.index t = ![0, 0] ∧ win0_2.index t = ![t.val, 0])

theorem flushed_eq (t : Fin cfg0.N) : (dats m 0 c).flushed 2 t = ((cfg0.win 2).blk t).view.read (Elt Ideal) (res m c) := by
  obtain ⟨e0, e1, e2⟩ := at_ t
  rw [flushed2, out_eq]
  funext j
  exact tn_block (ea := ((cfg0.win 0).blk t).view.emb) (eb := ((cfg0.win 1).blk t).view.emb) (eo := ((cfg0.win 2).blk t).view.emb)
    (fun _ => ⟨rfl, rfl⟩) (fun _ => ⟨rfl, rfl⟩) (fun _ => ⟨rfl, rfl⟩) (by simp [e0]) (by simp [e0, e2]) (by simp [e1]) (by simp [e1, e2]) j

/-- The array after the last grid point. -/
theorem arr : (dats m 0 c).arrAt 2 cfg0.N = res m c := by
  refine (dats m 0 c).arrAt_eq_of_cover 2 _ (fun t _ => flushed_eq m c t) fun i => ?_
  have h0 : (i 0).val < 2048 := (i 0).isLt
  have h1 : (i 1).val < 1024 := (i 1).isLt
  obtain ⟨t, ht⟩ : ∃ t : Fin cfg0.N, t.val = (i 0).val / 512 := ⟨⟨_, lt_of_lt_of_eq (by omega) N_0.symm⟩, rfl⟩
  refine ⟨t, flush0_2 _, ?_⟩
  show i ∈ ((View.whole main_v0).slice (win0_2.rect t)).set
  rw [View.set_slice_whole, Rect.mem_set_unit]
  exact near i (n := 512) (m := 1024) (by decide) (by decide) ((at_ t).2.2.trans (by rw [ht, Nat.div_eq_of_lt h1]))

/-- The reference's factors stand the other way round. -/
theorem ref (a : M2 4096 2048) (b : M2 4096 1024) : Cert.RefGwoutIdeal.Read.val_main_v5 (F := Ideal) a b = tn a b := by
  funext i
  rw [Cert.RefGwoutIdeal.Read.val_main_v5_apply, Cert.RefGwoutIdeal.Read.val_main_v4_apply]
  show Cert.RefGwoutIdeal.Read.val_main_v3 (F := Ideal) a b _ = _
  rw [Cert.RefGwoutIdeal.Read.val_main_v3_apply]
  exact Finset.sum_congr rfl fun k _ =>
    (mul_comm _ _).trans (congrArg₂ (· * ·) (congrArg a (idx2 rfl rfl)) (congrArg b (idx2 rfl rfl)))

theorem frame_r : Cert.quiescent_RefGwoutIdeal := fun m ρ _ => (θ_run Cert.RefGwoutIdeal.defs _ _).mono
  (fun r h => ⟨fun c => (h c).2, sem_eq_zero_of_no_sems (by decide) r.2⟩) (Cert.RefGwoutIdeal.Value.run (F := Ideal) m ρ)

theorem value : Cert.algebraic_GwoutIdeal_RefGwoutIdeal := by
  intro m ρ m' ρ' _ hm
  refine ⟨fun c => res m c, (θ_run defs _ _).mono (fun _ h c => ⟨(h c).1.trans (arr m c), (h c).2⟩) (run_blocks m ρ),
    (θ_run Cert.RefGwoutIdeal.defs _ _).mono (fun r h c => ⟨(h c).1.trans ?_, (h c).2⟩) (Cert.RefGwoutIdeal.Value.run (F := Ideal) m' ρ')⟩
  obtain ⟨e0, e1⟩ := hm c
  rw [Cert.RefGwoutIdeal.Read.val_main_v5_eq]
  exact (congrArg₂ (Cert.RefGwoutIdeal.Read.val_main_v5 (F := Ideal)) e0 e1).trans (ref _ _)

end Cert.MmGwout

end
-- ==== Proof.Mm.Ff1.lean ====
/-
  The MLP's first product `f = h2 w1` and the square of its positive part, each grid point 2048 by 1024 of both.
-/
module

public import proofs.«01_k».proof.Defs
public import proofs.«01_k».proof.Proof.Gen.Ff1.Frame
public import proofs.«01_k».proof.Proof.Gen.Ff1Ideal.Frame
public import proofs.«01_k».proof.Proof.Gen.Ff1Ideal.Value
public import proofs.«01_k».proof.Proof.Gen.RefFf1Ideal.Run
public import proofs.«01_k».proof.Proof.Gen.RefFf1Ideal.Read
public import proofs.«01_k».proof.Proof.Mm.Forms
public import Idealize.ShloMosaic.Lib.Quiescent

@[expose] public section

set_option maxRecDepth 16384

noncomputable section

namespace Cert.MmFf1

open Cert.Ff1Ideal Cert.Ff1Ideal.Gen Cert.Ff1Ideal.Value Cert.Mm
open Idealize.ShloMosaic Idealize.ShloMosaic.TcCoe Idealize.ShloMosaic.Tactic Idealize.SL.Sem

/-- The square of the positive part. -/
def sq (x : EReal) : EReal := max x 0 * max x 0

theorem acc_eq (a : Vec Ideal S2048x1024 .bf16) (b : Vec Ideal S1024x1024 .bf16) (j : S2048x1024.Idx) : k0_pay1 a b j = nt a b j := by
  pointwise [k0_pay1]
  rfl

/-- What a grid point writes. -/
theorem out_eq (a : Vec Ideal S2048x1024 .bf16) (b : Vec Ideal S1024x1024 .bf16) : out0_2 a b = nt a b := by
  funext j
  unfold out0_2
  rw [View.canon_cons_unit_lit _ _ _ (by decide), View.ld_unit_lit _ _ (by decide), View.ld_unit_lit _ _ (by decide)]
  pointwise [k0_pay2]
  exact acc_eq a b j
theorem out_sq (a : Vec Ideal S2048x1024 .bf16) (b : Vec Ideal S1024x1024 .bf16) (j : S2048x1024.Idx) : out0_3 a b j = sq (nt a b j) := by
  unfold out0_3
  rw [View.canon_cons_unit_lit _ _ _ (by decide), View.ld_unit_lit _ _ (by decide), View.ld_unit_lit _ _ (by decide)]
  pointwise [k0_pay3]
  exact congrArg sq (acc_eq a b j)

variable (m : (ℓ : Loc nD τ sig) → Buf (Elt Ideal) ℓ) (ρ : Dev nD → PrngReg) (c : Dev nD)

abbrev res : M2 4096 4096 := nt (m ((c : Thread nD τ).loc main_arg0)) (m ((c : Thread nD τ).loc main_arg1))
def resSq : M2 4096 4096 := fun i => sq (res m c i)

theorem at_ : ∀ t : Fin cfg0.N, win0_0.index t = ![t.val / 4, 0] ∧ win0_1.index t = ![t.val % 4, 0]
      ∧ win0_2.index t = ![t.val / 4, t.val % 4] ∧ win0_3.index t = ![t.val / 4, t.val % 4] :=
  (by decide +kernel : ∀ t : Fin grid0.N, win0_0.index t = ![t.val / 4, 0] ∧ win0_1.index t = ![t.val % 4, 0]
      ∧ win0_2.index t = ![t.val / 4, t.val % 4] ∧ win0_3.index t = ![t.val / 4, t.val % 4])

theorem flushed_eq (t : Fin cfg0.N) : (dats m 0 c).flushed 2 t = ((cfg0.win 2).blk t).view.read (Elt Ideal) (res m c) := by
  obtain ⟨e0, e1, e2, -⟩ := at_ t
  rw [flushed2, out_eq]
  funext j
  exact nt_block (ea := ((cfg0.win 0).blk t).view.emb) (eb := ((cfg0.win 1).blk t).view.emb) (eo := ((cfg0.win 2).blk t).view.emb)
    (fun _ => ⟨rfl, rfl⟩) (fun _ => ⟨rfl, rfl⟩) (fun _ => ⟨rfl, rfl⟩) (by simp [e0, e2]) (by simp [e0]) (by simp [e1, e2]) (by simp [e1]) j
theorem flushed_sq (t : Fin cfg0.N) : (dats m 0 c).flushed 3 t = ((cfg0.win 3).blk t).view.read (Elt Ideal) (resSq m c) := by
  obtain ⟨e0, e1, -, e3⟩ := at_ t
  rw [flushed3]
  funext j
  refine (out_sq _ _ j).trans (congrArg sq ?_)
  exact nt_block (ea := ((cfg0.win 0).blk t).view.emb) (eb := ((cfg0.win 1).blk t).view.emb) (eo := ((cfg0.win 3).blk t).view.emb)
    (fun _ => ⟨rfl, rfl⟩) (fun _ => ⟨rfl, rfl⟩) (fun _ => ⟨rfl, rfl⟩) (by simp [e0, e3]) (by simp [e0]) (by simp [e1, e3]) (by simp [e1]) j

/-- The grid point that writes an element, of either result. -/
theorem point (i : I2 4096 4096) : ∃ t : Fin cfg0.N, ![t.val / 4, t.val % 4] = ![(i 0).val / 2048, (i 1).val / 1024] := by
  have h0 : (i 0).val < 4096 := (i 0).isLt
  have h1 : (i 1).val < 4096 := (i 1).isLt
  obtain ⟨t, ht⟩ : ∃ t : Fin cfg0.N, t.val = (i 0).val / 2048 * 4 + (i 1).val / 1024 := ⟨⟨_, lt_of_lt_of_eq (by omega) N_0.symm⟩, rfl⟩
  exact ⟨t, by rw [show t.val / 4 = (i 0).val / 2048 by omega, show t.val % 4 = (i 1).val / 1024 by omega]⟩

/-- The arrays after the last grid point. -/
theorem arr : (dats m 0 c).arrAt 2 cfg0.N = res m c := by
  refine (dats m 0 c).arrAt_eq_of_cover 2 _ (fun t _ => flushed_eq m c t) fun i => ?_
  obtain ⟨t, ht⟩ := point i
  refine ⟨t, flush0_2 _, ?_⟩
  show i ∈ ((View.whole main_v0_0).slice (win0_2.rect t)).set
  rw [View.set_slice_whole, Rect.mem_set_unit]
  exact near i (n := 2048) (m := 1024) (by decide) (by decide) ((at_ t).2.2.1.trans ht)
theorem arrSq : (dats m 0 c).arrAt 3 cfg0.N = resSq m c := by
  refine (dats m 0 c).arrAt_eq_of_cover 3 _ (fun t _ => flushed_sq m c t) fun i => ?_
  obtain ⟨t, ht⟩ := point i
  refine ⟨t, flush0_3 _, ?_⟩
  show i ∈ ((View.whole main_v0_1).slice (win0_3.rect t)).set
  rw [View.set_slice_whole, Rect.mem_set_unit]
  exact near i (n := 2048) (m := 1024) (by decide) (by decide) ((at_ t).2.2.2.trans ht)

theorem ref_acc (a : M2 4096 1024) (b : M2 4096 1024) (i : I2 4096 4096) :
    Cert.RefFf1Ideal.Read.val_main_v3 (F := Ideal) a b i = nt a b i := by
  rw [Cert.RefFf1Ideal.Read.val_main_v3_apply]
  refine Finset.sum_congr rfl fun k _ => congrArg₂ (· * ·) (congrArg a (idx2 rfl rfl)) ?_
  rw [Cert.RefFf1Ideal.Read.val_main_v2_apply]
  exact congrArg b (idx2 rfl rfl)
theorem ref (a : M2 4096 1024) (b : M2 4096 1024) : Cert.RefFf1Ideal.Read.val_main_v4 (F := Ideal) a b = nt a b := funext (ref_acc a b)
theorem ref_sq (a : M2 4096 1024) (b : M2 4096 1024) : Cert.RefFf1Ideal.Read.val_main_v7 (F := Ideal) a b = fun i => sq (nt a b i) := by
  funext i
  rw [Cert.RefFf1Ideal.Read.val_main_v7_apply, Cert.RefFf1Ideal.Read.val_main_v6_apply, Cert.RefFf1Ideal.Read.val_main_v5_apply,
    Cert.RefFf1Ideal.Read.val_main_call0_v0_apply, Cert.RefFf1Ideal.Read.val_main_call0_cst_apply, ref_acc]
  show max (nt a b i) (Ideal.ofBits .f32 0x00000000#32) * max (nt a b i) (Ideal.ofBits .f32 0x00000000#32) = sq (nt a b i)
  simp [Ideal.ofBits, Ideal.ieee, sq]

theorem frame_r : Cert.quiescent_RefFf1Ideal := fun m ρ _ => (θ_run Cert.RefFf1Ideal.defs _ _).mono
  (fun r h => ⟨fun c => (h c).2.2, sem_eq_zero_of_no_sems (by decide) r.2⟩) (Cert.RefFf1Ideal.Value.run (F := Ideal) m ρ)

theorem value : Cert.algebraic_Ff1Ideal_RefFf1Ideal := by
  intro m ρ m' ρ' _ hm
  refine ⟨fun c => res m c, fun c => resSq m c,
    (θ_run defs _ _).mono (fun _ h c => ⟨(h c).1.trans (arr m c), (h c).2.1.trans (arrSq m c), (h c).2.2⟩) (run_blocks m ρ),
    (θ_run Cert.RefFf1Ideal.defs _ _).mono (fun r h c => ⟨(h c).1.trans ?_, (h c).2.1.trans ?_, (h c).2.2⟩)
      (Cert.RefFf1Ideal.Value.run (F := Ideal) m' ρ')⟩
  all_goals obtain ⟨e0, e1⟩ := hm c
  · rw [Cert.RefFf1Ideal.Read.val_main_v4_eq]
    exact (congrArg₂ (Cert.RefFf1Ideal.Read.val_main_v4 (F := Ideal)) e0 e1).trans (ref _ _)
  · rw [Cert.RefFf1Ideal.Read.val_main_v7_eq]
    exact (congrArg₂ (Cert.RefFf1Ideal.Read.val_main_v7 (F := Ideal)) e0 e1).trans (ref_sq _ _)

end Cert.MmFf1

end
-- ==== Proof.Mm.Ff2l.lean ====
/-
  The MLP's second product in the last layer, added to the residual: `a w2 + xm`, each grid point 512 rows of it.
-/
module

public import proofs.«01_k».proof.Defs
public import proofs.«01_k».proof.Proof.Gen.Ff2l.Frame
public import proofs.«01_k».proof.Proof.Gen.Ff2lIdeal.Frame
public import proofs.«01_k».proof.Proof.Gen.Ff2lIdeal.Value
public import proofs.«01_k».proof.Proof.Gen.RefFf2lIdeal.Run
public import proofs.«01_k».proof.Proof.Gen.RefFf2lIdeal.Read
public import proofs.«01_k».proof.Proof.Mm.Forms
public import Idealize.ShloMosaic.Lib.Quiescent

@[expose] public section

set_option maxRecDepth 16384

noncomputable section

namespace Cert.MmFf2l

open Cert.Ff2lIdeal Cert.Ff2lIdeal.Gen Cert.Ff2lIdeal.Value Cert.Mm
open Idealize.ShloMosaic Idealize.ShloMosaic.TcCoe Idealize.ShloMosaic.Tactic Idealize.SL.Sem

/-- What a grid point writes. -/
theorem out_eq (a : Vec Ideal S512x4096 .bf16) (b : Vec Ideal S4096x1024 .bf16) (x : Vec Ideal S512x1024 .f32) (j : S512x1024.Idx) :
    out0_3 a b x j = (nn a b j + x j : EReal) := by
  unfold out0_3
  rw [View.canon_cons_unit_lit _ _ _ (by decide), View.ld_unit_lit _ _ (by decide), View.ld_unit_lit _ _ (by decide),
    View.ld_unit_lit _ _ (by decide)]
  pointwise [k0_pay1]
  rfl

variable (m : (ℓ : Loc nD τ sig) → Buf (Elt Ideal) ℓ) (ρ : Dev nD → PrngReg) (c : Dev nD)

def res : M2 4096 1024 := fun i =>
  (nn (m ((c : Thread nD τ).loc main_arg0) : M2 4096 4096) (m ((c : Thread nD τ).loc main_arg1)) i + m ((c : Thread nD τ).loc main_arg2) i : EReal)

theorem at_ : ∀ t : Fin cfg0.N,
    win0_0.index t = ![t.val, 0] ∧ win0_1.index t = ![0, 0] ∧ win0_2.index t = ![t.val, 0] ∧ win0_3.index t = ![t.val, 0] :=
  (by decide +kernel : ∀ t : Fin grid0.N,
    win0_0.index t = ![t.val, 0] ∧ win0_1.index t = ![0, 0] ∧ win0_2.index t = ![t.val, 0] ∧ win0_3.index t = ![t.val, 0])

theorem flushed_eq (t : Fin cfg0.N) : (dats m 0 c).flushed 3 t = ((cfg0.win 3).blk t).view.read (Elt Ideal) (res m c) := by
  obtain ⟨e0, e1, e2, e3⟩ := at_ t
  rw [flushed3]
  funext j
  refine (out_eq _ _ _ j).trans (congrArg₂ (· + ·) ?_ (congrArg (m (c.tc.loc main_arg2)) (idx2 ?_ ?_)))
  · exact nn_block (ea := ((cfg0.win 0).blk t).view.emb) (eb := ((cfg0.win 1).blk t).view.emb) (eo := ((cfg0.win 3).blk t).view.emb)
      (fun _ => ⟨rfl, rfl⟩) (fun _ => ⟨rfl, rfl⟩) (fun _ => ⟨rfl, rfl⟩) (by simp [e0, e3]) (by simp [e0]) (by simp [e1]) (by simp [e1, e3]) j
  · show win0_2.index t 0 * 512 + 1 * (j 0).val = win0_3.index t 0 * 512 + 1 * (j 0).val
    rw [e2, e3]
  · show win0_2.index t 1 * 1024 + 1 * (j 1).val = win0_3.index t 1 * 1024 + 1 * (j 1).val
    rw [e2, e3]

/-- The array after the last grid point. -/
theorem arr : (dats m 0 c).arrAt 3 cfg0.N = res m c := by
  refine (dats m 0 c).arrAt_eq_of_cover 3 _ (fun t _ => flushed_eq m c t) fun i => ?_
  have h0 : (i 0).val < 4096 := (i 0).isLt
  have h1 : (i 1).val < 1024 := (i 1).isLt
  obtain ⟨t, ht⟩ : ∃ t : Fin cfg0.N, t.val = (i 0).val / 512 := ⟨⟨_, lt_of_lt_of_eq (by omega) N_0.symm⟩, rfl⟩
  refine ⟨t, flush0_3 _, ?_⟩
  show i ∈ ((View.whole main_v0).slice (win0_3.rect t)).set
  rw [View.set_slice_whole, Rect.mem_set_unit]
  exact near i (n := 512) (m := 1024) (by decide) (by decide) ((at_ t).2.2.2.trans (by rw [ht, Nat.div_eq_of_lt h1]))

/-- The reference adds the product to the residual. -/
theorem ref (a : M2 4096 4096) (b : M2 4096 1024) (x : M2 4096 1024) (i : I2 4096 1024) :
    Cert.RefFf2lIdeal.Read.val_main_v3 (F := Ideal) a b x i = nn a b i + x i := by
  rw [Cert.RefFf2lIdeal.Read.val_main_v3_apply]
  refine (add_comm _ _).trans (congrArg₂ (· + ·) ?_ rfl)
  rw [Cert.RefFf2lIdeal.Read.val_main_v2_apply]
  exact Finset.sum_congr rfl fun k _ => congrArg₂ (· * ·) (congrArg a (idx2 rfl rfl)) (congrArg b (idx2 rfl rfl))

theorem frame_r : Cert.quiescent_RefFf2lIdeal := fun m ρ _ => (θ_run Cert.RefFf2lIdeal.defs _ _).mono
  (fun r h => ⟨fun c => (h c).2, sem_eq_zero_of_no_sems (by decide) r.2⟩) (Cert.RefFf2lIdeal.Value.run (F := Ideal) m ρ)

theorem value : Cert.algebraic_Ff2lIdeal_RefFf2lIdeal := by
  intro m ρ m' ρ' _ hm
  refine ⟨fun c => res m c, (θ_run defs _ _).mono (fun _ h c => ⟨(h c).1.trans (arr m c), (h c).2⟩) (run_blocks m ρ),
    (θ_run Cert.RefFf2lIdeal.defs _ _).mono (fun r h c => ⟨(h c).1.trans ?_, (h c).2⟩) (Cert.RefFf2lIdeal.Value.run (F := Ideal) m' ρ')⟩
  obtain ⟨e0, e1, e2⟩ := hm c
  rw [Cert.RefFf2lIdeal.Read.val_main_v3_eq]
  exact (congr (congrArg₂ (Cert.RefFf2lIdeal.Read.val_main_v3 (F := Ideal)) e0 e1) e2).trans (funext (ref _ _ _))

end Cert.MmFf2l

end
-- ==== Proof.Mm.Norm.lean ====
/-
  The root mean square norm of a matrix's rows, and of a product plus a residual: what a block of it needs of the blocks it is made of.
-/
module

public import proofs.«01_k».proof.Proof.Mm.Forms

@[expose] public section

noncomputable section

namespace Cert.Mm

open Idealize.ShloMosaic Idealize.ShloMosaic.Tactic

variable {M K N n m : ℕ} {p q r s u v : ℕ}

/-- A row's mean of squares over its 1024 elements, plus the small constant. -/
def msq (X : M2 M N) (i : Fin M) : EReal :=
  Ideal.div (∑ k : Fin N, X (ix2 i k) * X (ix2 i k)) (Ideal.ofBits .f32 1149239296#32) + Ideal.ofBits .f32 925353388#32

/-- The rows divided by the root of that mean, times the gain. -/
def rms (X : M2 M N) (g : Fin N → EReal) : M2 M N := fun i => X i * Ideal.rsqrt (msq X (i 0)) * g (i 1)

/-- A vector laid out as one row. -/
theorem row_cast {g : (⟨1, ![N]⟩ : Shape).Idx → EReal} (h : (⟨1, ![N]⟩ : Shape).ShapeCasts ⟨2, ![1, N]⟩) (k : Fin N) :
    shapeCast ⟨2, ![1, N]⟩ g h (ix2 0 k) = g (ix1 k) :=
  shapeCast_apply _ _ (ix2 0 k) (ix1 k) (by
    rw [Shape.rowMajor_val_two, Shape.rowMajor_val_one]; show k.val = 0 * N + k.val; omega)

theorem zero_bits : Ideal.ofBits .f32 0x00000000#32 = 0 := by simp [Ideal.ofBits, Ideal.ieee]

/-- The norm as a sum that starts at zero and reads its row by any indices of that row. -/
theorem rms_form {X : M2 M N} {g : Fin N → EReal} {i : I2 M N} {e : Fin N → I2 M N} {y : EReal}
    (h0 : ∀ k, (e k 0).val = (i 0).val) (h1 : ∀ k, (e k 1).val = k.val) (hy : y = g (i 1)) :
    X i * Ideal.rsqrt (Ideal.div (Ideal.ofBits .f32 0x00000000#32 + ∑ k : Fin N, X (e k) * X (e k)) (Ideal.ofBits .f32 1149239296#32)
      + Ideal.ofBits .f32 925353388#32) * y = rms X g i := by
  have h : ∀ k, e k = ix2 (i 0) k := fun k => idx2 (h0 k) (h1 k)
  simp only [h, hy, zero_bits, zero_add]
  rfl

/-- A product plus a residual. -/
def plus (a : M2 M K) (b : M2 K N) (x : M2 M N) : M2 M N := fun i => nn a b i + x i

/-- A whole row of a block is a row of the matrix. -/
theorem row_block {X : M2 M N} {e : I2 n N → I2 M N} (he : At u v e) (hv : v = 0) (j : I2 n N) (k : Fin N) :
    X (e (ix2 (j 0) k)) = X (ix2 (e j 0) k) := by
  subst hv
  exact congrArg X (idx2 ((he _).1.trans (he j).1.symm) ((he _).2.trans (by simp)))

theorem msq_block {X : M2 M N} {Y : M2 n N} {e : I2 n N → I2 M N} (he : At u v e) (hv : v = 0) (hX : ∀ j, Y j = X (e j)) (j : I2 n N) :
    msq Y (j 0) = msq X (e j 0) := by
  unfold msq
  refine congrArg₂ (· + ·) (congrArg₂ Ideal.div (Finset.sum_congr rfl fun k _ => ?_) rfl) rfl
  exact congrArg₂ (· * ·) ((hX _).trans (row_block he hv j k)) ((hX _).trans (row_block he hv j k))

theorem rms_block {X : M2 M N} {Y : M2 n N} {g g' : Fin N → EReal} {e : I2 n N → I2 M N} (he : At u v e) (hv : v = 0)
    (hX : ∀ j, Y j = X (e j)) (hg : ∀ k, g k = g' k) (j : I2 n N) : rms Y g j = rms X g' (e j) := by
  have h : j 1 = e j 1 := Fin.ext (by rw [(he j).2, hv]; simp)
  exact congrArg₂ (· * ·) (congrArg₂ (· * ·) (hX j) (congrArg Ideal.rsqrt (msq_block he hv hX j))) ((hg _).trans (congrArg g' h))

theorem plus_block {a : M2 M K} {b : M2 K N} {x : M2 M N} {ea : I2 n K → I2 M K} {eb : I2 K m → I2 K N} {ex eo : I2 n m → I2 M N}
    (ha : At p q ea) (hb : At r s eb) (ho : At u v eo) (hx : ex = eo) (hp : p = u) (hq : q = 0) (hr : r = 0) (hs : s = v) (j : I2 n m) :
    plus (fun y => a (ea y)) (fun y => b (eb y)) (fun y => x (ex y)) j = plus a b x (eo j) := by
  subst hx
  exact congrArg₂ (· + ·) (nn_block ha hb ho hp hq hr hs j) rfl

end Cert.Mm

end
-- ==== Proof.Mm.Out.lean ====
/-
  The output projection with the residual and the norm after it: `r = ycat woutᵀ + x` and the norm of `r`, each grid point 1024 rows of both.
-/
module

public import proofs.«01_k».proof.Defs
public import proofs.«01_k».proof.Proof.Gen.Out.Frame
public import proofs.«01_k».proof.Proof.Gen.OutIdeal.Frame
public import proofs.«01_k».proof.Proof.Gen.OutIdeal.Value
public import proofs.«01_k».proof.Proof.Gen.RefOutIdeal.Run
public import proofs.«01_k».proof.Proof.Gen.RefOutIdeal.Read
public import proofs.«01_k».proof.Proof.Mm.Norm
public import Idealize.ShloMosaic.Lib.Quiescent

@[expose] public section

set_option maxRecDepth 16384

noncomputable section

namespace Cert.MmOut

open Cert.OutIdeal Cert.OutIdeal.Gen Cert.OutIdeal.Value Cert.Mm
open Idealize.ShloMosaic Idealize.ShloMosaic.TcCoe Idealize.ShloMosaic.Tactic Idealize.SL.Sem

theorem acc_eq (a : Vec Ideal S1024x2048 .bf16) (b : Vec Ideal S2048x1024 .bf16) (x : Vec Ideal S1024x1024 .f32) (j : S1024x1024.Idx) :
    k0_pay1 a b x j = plus a b x j := by
  pointwise [k0_pay1]
  rfl

/-- What a grid point writes. -/
theorem out_eq (a : Vec Ideal S1024x2048 .bf16) (b : Vec Ideal S2048x1024 .bf16) (x : Vec Ideal S1024x1024 .f32) (g : Vec Ideal S1x1024 .f32) :
    out0_4 a b x g = plus a b x := by
  funext j
  unfold out0_4
  rw [View.canon_cons_unit_lit _ _ _ (by decide), View.ld_unit_lit _ _ (by decide), View.ld_unit_lit _ _ (by decide),
    View.ld_unit_lit _ _ (by decide)]
  exact acc_eq a b x j
theorem out_norm (a : Vec Ideal S1024x2048 .bf16) (b : Vec Ideal S2048x1024 .bf16) (x : Vec Ideal S1024x1024 .f32) (g : Vec Ideal S1x1024 .f32) :
    out0_5 a b x g = rms (plus a b x) fun k => g (ix2 0 k) := by
  funext j
  unfold out0_5
  rw [View.canon_cons_unit_lit _ _ _ (by decide), View.ld_unit_lit _ _ (by decide), View.ld_unit_lit _ _ (by decide),
    View.ld_unit_lit _ _ (by decide), View.ld_unit_lit _ _ (by decide)]
  pointwise [k0_pay2]
  simp only [acc_eq]
  rfl

variable (m : (ℓ : Loc nD τ sig) → Buf (Elt Ideal) ℓ) (ρ : Dev nD → PrngReg) (c : Dev nD)

abbrev res : M2 4096 1024 := plus (m ((c : Thread nD τ).loc main_arg0) : M2 4096 2048) (m ((c : Thread nD τ).loc main_arg1)) (m ((c : Thread nD τ).loc main_arg2))
abbrev resNorm : M2 4096 1024 := rms (res m c) fun k => m ((c : Thread nD τ).loc main_arg3) (ix1 k)

theorem at_ : ∀ t : Fin cfg0.N, win0_0.index t = ![t.val, 0] ∧ win0_1.index t = ![0, 0] ∧ win0_2.index t = ![t.val, 0]
      ∧ win0_3.index t = ![0, 0] ∧ win0_4.index t = ![t.val, 0] ∧ win0_5.index t = ![t.val, 0] :=
  (by decide +kernel : ∀ t : Fin grid0.N, win0_0.index t = ![t.val, 0] ∧ win0_1.index t = ![0, 0] ∧ win0_2.index t = ![t.val, 0]
      ∧ win0_3.index t = ![0, 0] ∧ win0_4.index t = ![t.val, 0] ∧ win0_5.index t = ![t.val, 0])

/-- The blocks' products plus residuals are the matrix's, at either result's block. -/
theorem acc_at {eo : I2 1024 1024 → I2 4096 1024} (t : Fin cfg0.N) (ho : ∀ j, eo j = ((cfg0.win 2).blk t).view.emb j) (j : I2 1024 1024) :
    plus (iblk m c 0 t) (iblk m c 1 t) (iblk m c 2 t) j = res m c (eo j) := by
  obtain ⟨e0, e1, e2, -⟩ := at_ t
  rw [ho]
  exact plus_block (ea := ((cfg0.win 0).blk t).view.emb) (eb := ((cfg0.win 1).blk t).view.emb) (eo := ((cfg0.win 2).blk t).view.emb)
    (fun _ => ⟨rfl, rfl⟩) (fun _ => ⟨rfl, rfl⟩) (fun _ => ⟨rfl, rfl⟩) rfl (by simp [e0, e2]) (by simp [e0]) (by simp [e1]) (by simp [e1, e2]) j

theorem gain_at (t : Fin cfg0.N) (k : Fin 1024) : iblk m c 3 t (ix2 0 k) = m ((c : Thread nD τ).loc main_arg3) (ix1 k) := by
  have e3 := (at_ t).2.2.2.1
  unfold iblk
  rw [View.read_apply]
  show StableHlo.after hostOps0 _ main_v0 _ = _
  after_results_simp
  refine Eq.trans ?_ (row_cast shapeCasts_S1024_S1x1024 k)
  refine congrArg _ (idx2 ?_ ?_)
  · show win0_3.index t 0 * 1 + 1 * 0 = 0
    rw [e3]; rfl
  · show win0_3.index t 1 * 1024 + 1 * k.val = k.val
    rw [e3]; simp

theorem flushed_eq (t : Fin cfg0.N) : (dats m 0 c).flushed 4 t = ((cfg0.win 4).blk t).view.read (Elt Ideal) (res m c) := by
  obtain ⟨-, -, e2, -, e4, -⟩ := at_ t
  rw [flushed4, out_eq]
  funext j
  refine acc_at m c t (fun j => idx2 ?_ ?_) j
  · show win0_4.index t 0 * 1024 + 1 * (j 0).val = win0_2.index t 0 * 1024 + 1 * (j 0).val
    rw [e2, e4]
  · show win0_4.index t 1 * 1024 + 1 * (j 1).val = win0_2.index t 1 * 1024 + 1 * (j 1).val
    rw [e2, e4]
theorem flushed_norm (t : Fin cfg0.N) : (dats m 0 c).flushed 5 t = ((cfg0.win 5).blk t).view.read (Elt Ideal) (resNorm m c) := by
  obtain ⟨-, -, e2, -, -, e5⟩ := at_ t
  rw [flushed5, out_norm]
  funext j
  refine rms_block (e := ((cfg0.win 5).blk t).view.emb) (fun _ => ⟨rfl, rfl⟩) (by simp [e5]) (acc_at m c t fun j => idx2 ?_ ?_) (gain_at m c t) j
  · show win0_5.index t 0 * 1024 + 1 * (j 0).val = win0_2.index t 0 * 1024 + 1 * (j 0).val
    rw [e2, e5]
  · show win0_5.index t 1 * 1024 + 1 * (j 1).val = win0_2.index t 1 * 1024 + 1 * (j 1).val
    rw [e2, e5]

/-- The grid point that writes an element, of either result. -/
theorem point (i : I2 4096 1024) : ∃ t : Fin cfg0.N, ![t.val, 0] = ![(i 0).val / 1024, (i 1).val / 1024] := by
  have h0 : (i 0).val < 4096 := (i 0).isLt
  have h1 : (i 1).val < 1024 := (i 1).isLt
  exact ⟨⟨(i 0).val / 1024, lt_of_lt_of_eq (by omega) N_0.symm⟩, by rw [Nat.div_eq_of_lt h1]⟩

/-- The arrays after the last grid point. -/
theorem arr : (dats m 0 c).arrAt 4 cfg0.N = res m c := by
  refine (dats m 0 c).arrAt_eq_of_cover 4 _ (fun t _ => flushed_eq m c t) fun i => ?_
  obtain ⟨t, ht⟩ := point i
  refine ⟨t, flush0_4 _, ?_⟩
  show i ∈ ((View.whole main_v1_0).slice (win0_4.rect t)).set
  rw [View.set_slice_whole, Rect.mem_set_unit]
  exact near i (n := 1024) (m := 1024) (by decide) (by decide) ((at_ t).2.2.2.2.1.trans ht)
theorem arrNorm : (dats m 0 c).arrAt 5 cfg0.N = resNorm m c := by
  refine (dats m 0 c).arrAt_eq_of_cover 5 _ (fun t _ => flushed_norm m c t) fun i => ?_
  obtain ⟨t, ht⟩ := point i
  refine ⟨t, flush0_5 _, ?_⟩
  show i ∈ ((View.whole main_v1_1).slice (win0_5.rect t)).set
  rw [View.set_slice_whole, Rect.mem_set_unit]
  exact near i (n := 1024) (m := 1024) (by decide) (by decide) ((at_ t).2.2.2.2.2.trans ht)

open Cert.RefOutIdeal.Read in
/-- The reference adds the product to the residual. -/
theorem ref (a : M2 4096 2048) (b : M2 2048 1024) (x : M2 4096 1024) : val_main_v3 (F := Ideal) a b x = plus a b x := by
  funext i
  rw [val_main_v3_apply]
  refine (add_comm _ _).trans (congrArg₂ (· + ·) ?_ rfl)
  rw [val_main_v2_apply]
  exact Finset.sum_congr rfl fun k _ => congrArg₂ (· * ·) (congrArg a (idx2 rfl rfl)) (congrArg b (idx2 rfl rfl))

open Cert.RefOutIdeal.Read in
theorem ref_norm (a : M2 4096 2048) (b : M2 2048 1024) (x : M2 4096 1024) (g : (⟨1, ![1024]⟩ : Shape).Idx → EReal) :
    val_main_v17 (F := Ideal) a b x g = rms (plus a b x) fun k => g (ix1 k) := by
  funext i
  rw [val_main_v17_apply, val_main_v16_apply, val_main_v13_apply, val_main_v15_apply, val_main_v14_apply, val_main_v12_apply, val_main_v11_apply,
    val_main_v10_apply, val_main_v9_apply, val_main_v8_apply, val_main_v7_apply, val_main_v6_apply, val_main_v5_apply]
  simp only [val_main_v4_apply, val_main_cst_apply, val_main_cst_0_apply, val_main_cst_1_apply, ref]
  exact rms_form (e := fun k => idx_main_v5 (idx_main_v6 (idx_main_v12 i)) k) (fun _ => rfl) (fun _ => rfl)
    (congrArg g (funext fun a => Fin.ext (match a with | ⟨0, _⟩ => rfl)))

theorem frame_r : Cert.quiescent_RefOutIdeal := fun m ρ _ => (θ_run Cert.RefOutIdeal.defs _ _).mono
  (fun r h => ⟨fun c => (h c).2.2, sem_eq_zero_of_no_sems (by decide) r.2⟩) (Cert.RefOutIdeal.Value.run (F := Ideal) m ρ)

theorem value : Cert.algebraic_OutIdeal_RefOutIdeal := by
  intro m ρ m' ρ' _ hm
  refine ⟨fun c => res m c, fun c => resNorm m c,
    (θ_run defs _ _).mono (fun _ h c => ⟨(h c).1.trans (arr m c), (h c).2.1.trans (arrNorm m c), (h c).2.2⟩) (run_blocks m ρ),
    (θ_run Cert.RefOutIdeal.defs _ _).mono (fun r h c => ⟨(h c).1.trans ?_, (h c).2.1.trans ?_, (h c).2.2⟩)
      (Cert.RefOutIdeal.Value.run (F := Ideal) m' ρ')⟩
  all_goals obtain ⟨e0, e1, e2, e3⟩ := hm c
  · rw [Cert.RefOutIdeal.Read.val_main_v3_eq]
    exact (congr (congrArg₂ (Cert.RefOutIdeal.Read.val_main_v3 (F := Ideal)) e0 e1) e2).trans (ref _ _ _)
  · rw [Cert.RefOutIdeal.Read.val_main_v17_eq]
    exact (congr (congr (congrArg₂ (Cert.RefOutIdeal.Read.val_main_v17 (F := Ideal)) e0 e1) e2) e3).trans (ref_norm _ _ _ _)

end Cert.MmOut

end
-- ==== Proof.Mm.Ff2.lean ====
/-
  The MLP's second product with the residual and the next layer's norm: `y = f1sq w2ᵀ + r` and the norm of `y`, each grid point 512 rows of
  both, and a small array of zeros that every grid point writes.
-/
module

public import proofs.«01_k».proof.Defs
public import proofs.«01_k».proof.Proof.Gen.Ff2.Frame
public import proofs.«01_k».proof.Proof.Gen.Ff2Ideal.Frame
public import proofs.«01_k».proof.Proof.Gen.Ff2Ideal.Value
public import proofs.«01_k».proof.Proof.Gen.RefFf2Ideal.Run
public import proofs.«01_k».proof.Proof.Gen.RefFf2Ideal.Read
public import proofs.«01_k».proof.Proof.Mm.Norm
public import Idealize.ShloMosaic.Lib.Quiescent

@[expose] public section

set_option maxRecDepth 16384

noncomputable section

namespace Cert.MmFf2

open Cert.Ff2Ideal Cert.Ff2Ideal.Gen Cert.Ff2Ideal.Value Cert.Mm
open Idealize.ShloMosaic Idealize.ShloMosaic.TcCoe Idealize.ShloMosaic.Tactic Idealize.SL.Sem

section
variable (a : Vec Ideal S512x4096 .bf16) (b : Vec Ideal S4096x1024 .bf16) (x : Vec Ideal S512x1024 .f32) (g : Vec Ideal S1x1024 .f32)

theorem acc_eq (j : S512x1024.Idx) : k0_pay2 a b x j = plus a b x j := by
  pointwise [k0_pay2]
  rfl

/-- What a grid point writes. -/
theorem out_eq : out0_4 a b x g = plus a b x := by
  funext j
  unfold out0_4
  rw [View.canon_cons_unit_lit _ _ _ (by decide), View.ld_unit_lit _ _ (by decide), View.ld_unit_lit _ _ (by decide),
    View.ld_unit_lit _ _ (by decide)]
  exact acc_eq a b x j
theorem out_norm : out0_5 a b x g = rms (plus a b x) fun k => g (ix2 0 k) := by
  funext j
  unfold out0_5
  rw [View.canon_cons_unit_lit _ _ _ (by decide), View.ld_unit_lit _ _ (by decide), View.ld_unit_lit _ _ (by decide),
    View.ld_unit_lit _ _ (by decide), View.ld_unit_lit _ _ (by decide)]
  pointwise [k0_pay3]
  simp only [acc_eq]
  rfl
theorem out_zero : out0_6 a b x g = fun _ => Ideal.ofBits .f32 0x00000000#32 := by
  funext j
  unfold out0_6
  rw [View.canon_cons_unit_lit _ _ _ (by decide)]
  rfl
end

variable (m : (ℓ : Loc nD τ sig) → Buf (Elt Ideal) ℓ) (ρ : Dev nD → PrngReg) (c : Dev nD)

abbrev res : M2 4096 1024 := plus (m ((c : Thread nD τ).loc main_arg0) : M2 4096 4096) (m ((c : Thread nD τ).loc main_arg1)) (m ((c : Thread nD τ).loc main_arg2))
abbrev resNorm : M2 4096 1024 := rms (res m c) fun k => m ((c : Thread nD τ).loc main_arg3) (ix1 k)
abbrev resZero : M2 8 128 := fun _ => Ideal.ofBits .f32 0x00000000#32

theorem at_ : ∀ t : Fin cfg0.N, win0_0.index t = ![t.val, 0] ∧ win0_1.index t = ![0, 0] ∧ win0_2.index t = ![t.val, 0]
      ∧ win0_3.index t = ![0, 0] ∧ win0_4.index t = ![t.val, 0] ∧ win0_5.index t = ![t.val, 0] ∧ win0_6.index t = ![0, 0] :=
  (by decide +kernel : ∀ t : Fin grid0.N, win0_0.index t = ![t.val, 0] ∧ win0_1.index t = ![0, 0] ∧ win0_2.index t = ![t.val, 0]
      ∧ win0_3.index t = ![0, 0] ∧ win0_4.index t = ![t.val, 0] ∧ win0_5.index t = ![t.val, 0] ∧ win0_6.index t = ![0, 0])

/-- The blocks' products plus residuals are the matrix's, at either result's block. -/
theorem acc_at {eo : I2 512 1024 → I2 4096 1024} (t : Fin cfg0.N) (ho : ∀ j, eo j = ((cfg0.win 2).blk t).view.emb j) (j : I2 512 1024) :
    plus (iblk m c 0 t) (iblk m c 1 t) (iblk m c 2 t) j = res m c (eo j) := by
  obtain ⟨e0, e1, e2, -⟩ := at_ t
  rw [ho]
  exact plus_block (ea := ((cfg0.win 0).blk t).view.emb) (eb := ((cfg0.win 1).blk t).view.emb) (eo := ((cfg0.win 2).blk t).view.emb)
    (fun _ => ⟨rfl, rfl⟩) (fun _ => ⟨rfl, rfl⟩) (fun _ => ⟨rfl, rfl⟩) rfl (by simp [e0, e2]) (by simp [e0]) (by simp [e1]) (by simp [e1, e2]) j

theorem gain_at (t : Fin cfg0.N) (k : Fin 1024) : iblk m c 3 t (ix2 0 k) = m ((c : Thread nD τ).loc main_arg3) (ix1 k) := by
  have e3 := (at_ t).2.2.2.1
  unfold iblk
  rw [View.read_apply]
  show StableHlo.after hostOps0 _ main_v0 _ = _
  after_results_simp
  refine Eq.trans ?_ (row_cast shapeCasts_S1024_S1x1024 k)
  refine congrArg _ (idx2 ?_ ?_)
  · show win0_3.index t 0 * 1 + 1 * 0 = 0
    rw [e3]; rfl
  · show win0_3.index t 1 * 1024 + 1 * k.val = k.val
    rw [e3]; simp

theorem flushed_eq (t : Fin cfg0.N) : (dats m 0 c).flushed 4 t = ((cfg0.win 4).blk t).view.read (Elt Ideal) (res m c) := by
  obtain ⟨-, -, e2, -, e4, -⟩ := at_ t
  rw [flushed4, out_eq]
  funext j
  refine acc_at m c t (fun j => idx2 ?_ ?_) j
  · show win0_4.index t 0 * 512 + 1 * (j 0).val = win0_2.index t 0 * 512 + 1 * (j 0).val
    rw [e2, e4]
  · show win0_4.index t 1 * 1024 + 1 * (j 1).val = win0_2.index t 1 * 1024 + 1 * (j 1).val
    rw [e2, e4]
theorem flushed_norm (t : Fin cfg0.N) : (dats m 0 c).flushed 5 t = ((cfg0.win 5).blk t).view.read (Elt Ideal) (resNorm m c) := by
  obtain ⟨-, -, e2, -, -, e5, -⟩ := at_ t
  rw [flushed5, out_norm]
  funext j
  refine rms_block (e := ((cfg0.win 5).blk t).view.emb) (fun _ => ⟨rfl, rfl⟩) (by simp [e5]) (acc_at m c t fun j => idx2 ?_ ?_) (gain_at m c t) j
  · show win0_5.index t 0 * 512 + 1 * (j 0).val = win0_2.index t 0 * 512 + 1 * (j 0).val
    rw [e2, e5]
  · show win0_5.index t 1 * 1024 + 1 * (j 1).val = win0_2.index t 1 * 1024 + 1 * (j 1).val
    rw [e2, e5]
theorem flushed_zero (t : Fin cfg0.N) : (dats m 0 c).flushed 6 t = ((cfg0.win 6).blk t).view.read (Elt Ideal) resZero := by
  rw [flushed6, out_zero]
  rfl

/-- The grid point that writes an element, of either of the first two results. -/
theorem point (i : I2 4096 1024) : ∃ t : Fin cfg0.N, ![t.val, 0] = ![(i 0).val / 512, (i 1).val / 1024] := by
  have h0 : (i 0).val < 4096 := (i 0).isLt
  have h1 : (i 1).val < 1024 := (i 1).isLt
  exact ⟨⟨(i 0).val / 512, lt_of_lt_of_eq (by omega) N_0.symm⟩, by rw [Nat.div_eq_of_lt h1]⟩

/-- The arrays after the last grid point. -/
theorem arr : (dats m 0 c).arrAt 4 cfg0.N = res m c := by
  refine (dats m 0 c).arrAt_eq_of_cover 4 _ (fun t _ => flushed_eq m c t) fun i => ?_
  obtain ⟨t, ht⟩ := point i
  refine ⟨t, flush0_4 _, ?_⟩
  show i ∈ ((View.whole main_v1_0).slice (win0_4.rect t)).set
  rw [View.set_slice_whole, Rect.mem_set_unit]
  exact near i (n := 512) (m := 1024) (by decide) (by decide) ((at_ t).2.2.2.2.1.trans ht)
theorem arrNorm : (dats m 0 c).arrAt 5 cfg0.N = resNorm m c := by
  refine (dats m 0 c).arrAt_eq_of_cover 5 _ (fun t _ => flushed_norm m c t) fun i => ?_
  obtain ⟨t, ht⟩ := point i
  refine ⟨t, flush0_5 _, ?_⟩
  show i ∈ ((View.whole main_v1_1).slice (win0_5.rect t)).set
  rw [View.set_slice_whole, Rect.mem_set_unit]
  exact near i (n := 512) (m := 1024) (by decide) (by decide) ((at_ t).2.2.2.2.2.1.trans ht)
/-- The last grid point leaves the zeros. -/
theorem arrZero : (dats m 0 c).arrAt 6 cfg0.N = resZero := by
  refine (dats m 0 c).arrAt_eq_of_cover 6 _ (fun t _ => flushed_zero m c t) fun i => ?_
  have h0 : (i 0).val < 8 := (i 0).isLt
  have h1 : (i 1).val < 128 := (i 1).isLt
  obtain ⟨t, ht⟩ : ∃ t : Fin cfg0.N, t.val = 7 := ⟨⟨7, lt_of_lt_of_eq (by decide) N_0.symm⟩, rfl⟩
  refine ⟨t, (flush0_6 _).mpr (by rw [ht]), ?_⟩
  show i ∈ ((View.whole main_v1_2).slice (win0_6.rect t)).set
  rw [View.set_slice_whole, Rect.mem_set_unit]
  exact near i (n := 8) (m := 128) (by decide) (by decide) ((at_ _).2.2.2.2.2.2.trans (by rw [Nat.div_eq_of_lt h0, Nat.div_eq_of_lt h1]))

section
open Cert.RefFf2Ideal.Read
variable (a : M2 4096 4096) (b : M2 4096 1024) (x : M2 4096 1024) (g : (⟨1, ![1024]⟩ : Shape).Idx → EReal)

/-- The reference adds the product to the residual. -/
theorem ref : val_main_v3 (F := Ideal) a b x = plus a b x := by
  funext i
  rw [val_main_v3_apply]
  refine (add_comm _ _).trans (congrArg₂ (· + ·) ?_ rfl)
  rw [val_main_v2_apply]
  exact Finset.sum_congr rfl fun k _ => congrArg₂ (· * ·) (congrArg a (idx2 rfl rfl)) (congrArg b (idx2 rfl rfl))
theorem ref_norm : val_main_v17 (F := Ideal) a b x g = rms (plus a b x) fun k => g (ix1 k) := by
  funext i
  rw [val_main_v17_apply, val_main_v16_apply, val_main_v13_apply, val_main_v15_apply, val_main_v14_apply, val_main_v12_apply, val_main_v11_apply,
    val_main_v10_apply, val_main_v9_apply, val_main_v8_apply, val_main_v7_apply, val_main_v6_apply, val_main_v5_apply]
  simp only [val_main_v4_apply, val_main_cst_apply, val_main_cst_0_apply, val_main_cst_1_apply, ref]
  exact rms_form (e := fun k => idx_main_v5 (idx_main_v6 (idx_main_v12 i)) k) (fun _ => rfl) (fun _ => rfl)
    (congrArg g (funext fun a => Fin.ext (match a with | ⟨0, _⟩ => rfl)))
theorem ref_zero : val_main_v18 (F := Ideal) = resZero := by
  funext i
  rw [val_main_v18_apply, val_main_cst_2_apply]
  rfl
end

theorem frame_r : Cert.quiescent_RefFf2Ideal := fun m ρ _ => (θ_run Cert.RefFf2Ideal.defs _ _).mono
  (fun r h => ⟨fun c => (h c).2.2.2, sem_eq_zero_of_no_sems (by decide) r.2⟩) (Cert.RefFf2Ideal.Value.run (F := Ideal) m ρ)

theorem value : Cert.algebraic_Ff2Ideal_RefFf2Ideal := by
  intro m ρ m' ρ' _ hm
  refine ⟨fun c => res m c, fun c => resNorm m c, fun _ => resZero,
    (θ_run defs _ _).mono (fun _ h c => ⟨(h c).1.trans (arr m c), (h c).2.1.trans (arrNorm m c), (h c).2.2.1.trans (arrZero m c), (h c).2.2.2⟩)
      (run_blocks m ρ),
    (θ_run Cert.RefFf2Ideal.defs _ _).mono (fun r h c => ⟨(h c).1.trans ?_, (h c).2.1.trans ?_, (h c).2.2.1.trans ?_, (h c).2.2.2⟩)
      (Cert.RefFf2Ideal.Value.run (F := Ideal) m' ρ')⟩
  all_goals obtain ⟨e0, e1, e2, e3⟩ := hm c
  · rw [Cert.RefFf2Ideal.Read.val_main_v3_eq]
    exact (congr (congrArg₂ (Cert.RefFf2Ideal.Read.val_main_v3 (F := Ideal)) e0 e1) e2).trans (ref _ _ _)
  · rw [Cert.RefFf2Ideal.Read.val_main_v17_eq]
    exact (congr (congr (congrArg₂ (Cert.RefFf2Ideal.Read.val_main_v17 (F := Ideal)) e0 e1) e2) e3).trans (ref_norm _ _ _ _)
  · rw [Cert.RefFf2Ideal.Read.val_main_v18_eq]
    exact ref_zero

end Cert.MmFf2

end
-- ==== Proof.Mm.NormBwd.lean ====
/-
  The gradients of the root mean square norm: by the matrix, whose rows each stand alone, and by the gain, a sum over all rows.
-/
module

public import proofs.«01_k».proof.Proof.Mm.Norm
public import proofs.«01_k».proof.Proof.Common.Steps

@[expose] public section

noncomputable section

namespace Cert.Mm

open Idealize.ShloMosaic Idealize.ShloMosaic.Tactic

variable {M N n : ℕ} {u v : ℕ}

/-- A row's share of the gradient through its mean of squares. -/
def slope (A X : M2 M N) (g : Fin N → EReal) (i : Fin M) : EReal :=
  Ideal.div ((∑ k : Fin N, X (ix2 i k) * (A (ix2 i k) * g k)) * (Ideal.ofBits .f32 3204448256#32 * Ideal.div (Ideal.rsqrt (msq X i)) (msq X i)))
    (Ideal.ofBits .f32 1149239296#32)

/-- The gradient by the matrix, added to the residual's. -/
def rmsBwd (A X D : M2 M N) (g : Fin N → EReal) : M2 M N := fun i =>
  D i + ((A i * g (i 1) * Ideal.rsqrt (msq X (i 0)) + X i * slope A X g (i 0)) + slope A X g (i 0) * X i)

/-- A row's term of the gradient by the gain. -/
def gainTerm (A X : M2 M N) (k : Fin N) (i : Fin M) : EReal := X (ix2 i k) * Ideal.rsqrt (msq X i) * A (ix2 i k)

variable {A X D : M2 M N} {A' X' D' : M2 n N} {g g' : Fin N → EReal} {e : I2 n N → I2 M N}

theorem slope_block (he : At u v e) (hv : v = 0) (hA : ∀ j, A' j = A (e j)) (hX : ∀ j, X' j = X (e j)) (hg : ∀ k, g' k = g k) (j : I2 n N) :
    slope A' X' g' (j 0) = slope A X g (e j 0) := by
  have hm := msq_block he hv hX j
  refine congrArg₂ Ideal.div (congrArg₂ (· * ·) (Finset.sum_congr rfl fun k _ => ?_) (congrArg₂ (· * ·) rfl
    (congrArg₂ Ideal.div (congrArg Ideal.rsqrt hm) hm))) rfl
  exact congrArg₂ (· * ·) ((hX _).trans (row_block he hv j k)) (congrArg₂ (· * ·) ((hA _).trans (row_block he hv j k)) (hg k))

theorem rmsBwd_block (he : At u v e) (hv : v = 0) (hA : ∀ j, A' j = A (e j)) (hX : ∀ j, X' j = X (e j)) (hD : ∀ j, D' j = D (e j))
    (hg : ∀ k, g' k = g k) (j : I2 n N) : rmsBwd A' X' D' g' j = rmsBwd A X D g (e j) := by
  have h : j 1 = e j 1 := Fin.ext (by rw [(he j).2, hv]; simp)
  have hs := slope_block he hv hA hX hg j
  exact congrArg₂ (· + ·) (hD j) (congrArg₂ (· + ·) (congrArg₂ (· + ·) (congrArg₂ (· * ·) (congrArg₂ (· * ·) (hA j) ((hg _).trans (congrArg g h)))
    (congrArg Ideal.rsqrt (msq_block he hv hX j))) (congrArg₂ (· * ·) (hX j) hs)) (congrArg₂ (· * ·) hs (hX j)))

theorem gainTerm_block (he : At u v e) (hv : v = 0) (hA : ∀ j, A' j = A (e j)) (hX : ∀ j, X' j = X (e j)) (k : Fin N) (j : I2 n N) :
    gainTerm A' X' k (j 0) = gainTerm A X k (e j 0) :=
  congrArg₂ (· * ·) (congrArg₂ (· * ·) ((hX _).trans (row_block he hv j k)) (congrArg Ideal.rsqrt (msq_block he hv hX j)))
    ((hA _).trans (row_block he hv j k))

end Cert.Mm

end
-- ==== Proof.Mm.RowSum.lean ====
/-
  An array of eight rows that starts from zero and to whose row 0 every grid point adds: the gradient of a norm's gain.
-/
module

public import proofs.«01_k».proof.Proof.Mm.NormBwd

@[expose] public section

noncomputable section

namespace Cert.Mm

open Idealize.ShloMosaic Idealize.ShloMosaic.Tactic

variable {N : ℕ}

/-- A row set in row 0 of zeros, and a row added to row 0 of an array. -/
def inRow0 (f : Fin N → EReal) : M2 8 N := fun y => if (y 0).val = 0 then f (y 1) else 0
def addRow (f : Fin N → EReal) (old : M2 8 N) : M2 8 N := fun y => if (y 0).val = 0 then old y + f (y 1) else old y

theorem addRow_eq (f : Fin N → EReal) (old : M2 8 N) (y : I2 8 N) : addRow f old y = old y + inRow0 f y := by
  unfold addRow inRow0
  split
  · rfl
  · exact (add_zero _).symm

/-- Row 0 of the eight. -/
abbrev row0 (h : ∀ d, (![0, 0] : Fin 2 → ℕ) d + (![1, N] : Fin 2 → ℕ) d ≤ (⟨2, ![8, N]⟩ : Shape).size d) : Rect ⟨2, ![8, N]⟩ :=
  Rect.unit (s := ⟨2, ![8, N]⟩) ![0, 0] ![1, N] h

variable {h : ∀ d, (![0, 0] : Fin 2 → ℕ) d + (![1, N] : Fin 2 → ℕ) d ≤ (⟨2, ![8, N]⟩ : Shape).size d}

theorem row0_emb (k : Fin N) : (row0 h).emb (ix2 0 k) = (ix2 0 k : I2 8 N) := idx2 rfl (by show 0 + 1 * k.val = k.val; omega)

/-- A store into row 0 alone. -/
theorem row_piece {p : I2 1 N → EReal} {f : Fin N → EReal} {old : M2 8 N} (hp : ∀ k, p (ix2 0 k) = old (ix2 0 k) + f k) :
    View.PiecesOf (Val := Elt Ideal) (e := .f32) (addRow f old) [⟨row0 h, p⟩] := by
  refine ⟨fun j => ?_, trivial⟩
  obtain ⟨z, k, rfl⟩ : ∃ z k, j = ix2 z k := ⟨j 0, j 1, eq_ix2 j⟩
  obtain rfl : z = 0 := Subsingleton.elim _ _
  show p (ix2 0 k) = addRow f old ((row0 h).emb (ix2 0 k))
  rw [row0_emb, hp]
  exact (if_pos rfl).symm

theorem row_off {p : I2 1 N → EReal} {f : Fin N → EReal} {old : M2 8 N} (y : I2 8 N)
    (hy : ∀ r ∈ ([⟨row0 h, p⟩] : List (View.Piece (Elt Ideal) ⟨2, ![8, N]⟩ .f32)), y ∉ r.1.set) : old y = addRow f old y := by
  refine (if_neg fun h0 => hy _ List.mem_cons_self ?_).symm
  show y ∈ (row0 h).set
  refine Rect.mem_set_unit.mpr fun d => ?_
  match d with
  | 0 => exact ⟨Nat.zero_le _, by show (y 0).val < 0 + 1; omega⟩
  | 1 => exact ⟨Nat.zero_le _, by show (y 1).val < 0 + N; have : (y 1).val < N := (y 1).isLt; omega⟩

/-- The array after the last point holds the points' rows' sum. -/
theorem rows_added {L M : ℕ} (hM : M = L + 1) (o : (n : ℕ) → n < M → M2 8 N) (f : Fin M → Fin N → EReal) {z : M2 8 N} (hz : ∀ y, z y = 0)
    (h0 : o 0 (by omega) = addRow (f ⟨0, by omega⟩) z) (hs : ∀ n (h : n + 1 < M), o (n + 1) h = addRow (f ⟨n + 1, h⟩) (o n (by omega))) :
    o L (by omega) = inRow0 fun k => ∑ i, f i k := by
  funext y
  rw [sum_of_steps hM o (fun i => inRow0 (f i)) (fun y => by rw [h0, addRow_eq, hz, zero_add]) (fun n h y => by rw [hs n h, addRow_eq]) y]
  unfold inRow0
  split
  · rfl
  · exact Finset.sum_const_zero

/-- The blocks' terms of the gain's gradient are the matrix's. -/
theorem gainTerm_blocks {a b : ℕ} {A X : M2 (a * b) N} {A' X' : Fin a → M2 b N} {e : Fin a → I2 b N → I2 (a * b) N}
    (he : ∀ t, At (t.val * b) 0 (e t)) (hA : ∀ t j, A' t j = A (e t j)) (hX : ∀ t j, X' t j = X (e t j)) (k : Fin N) :
    ∑ t, ∑ i, gainTerm (A' t) (X' t) k i = ∑ i, gainTerm A X k i := by
  refine Eq.trans ?_ (sum_blocks (a := a) (b := b) _).symm
  refine Finset.sum_congr rfl fun t _ => Finset.sum_congr rfl fun r _ => ?_
  refine (gainTerm_block (he t) rfl (hA t) (hX t) k (ix2 r k)).trans (congrArg _ (Fin.ext ((he t _).1.trans ?_)))
  show t.val * b + 1 * r.val = r.val + b * t.val
  rw [mul_comm, one_mul, add_comm]

end Cert.Mm

end
-- ==== Proof.Mm.Dh2.lean ====
/-
  The gradient of the MLP's first product and of the norm before it: each grid point takes 512 rows of `A = df w1ᵀ` through the norm's
  gradient, adds the residual's, and adds its rows' terms of the gain's gradient to row 0 of an array that starts from zero.
-/
module

public import proofs.«01_k».proof.Defs
public import proofs.«01_k».proof.Proof.Gen.Dh2.Frame
public import proofs.«01_k».proof.Proof.Gen.Dh2Ideal.Frame
public import proofs.«01_k».proof.Proof.Gen.Dh2Ideal.Value
public import proofs.«01_k».proof.Proof.Gen.RefDh2Ideal.Run
public import proofs.«01_k».proof.Proof.Gen.RefDh2Ideal.Read
public import proofs.«01_k».proof.Proof.Mm.RowSum
public import Idealize.ShloMosaic.Lib.Quiescent
public import Idealize.ShloMosaic.Lib.KernelVsHost

@[expose] public section

set_option maxRecDepth 16384

noncomputable section

namespace Cert.MmDh2

open Cert.Dh2Ideal Cert.Dh2Ideal.Gen Cert.Dh2Ideal.Value Cert.Mm
open Idealize.ShloMosaic Idealize.ShloMosaic.TcCoe Idealize.ShloMosaic.Tactic Idealize.SL.Sem

section
variable (a : Vec Ideal S512x4096 .bf16) (b : Vec Ideal S4096x1024 .bf16) (x d : Vec Ideal S512x1024 .f32) (g : Vec Ideal S1x1024 .f32)

/-- The gain as a function of the column. -/
abbrev row : Fin 1024 → EReal := fun k => g (ix2 0 k)

theorem acc_eq : k0_pay4 a b = nn a b := by
  funext j
  pointwise [k0_pay4]
  rfl

theorem msq_eq (j : S512x1.Idx) : k0_pay5 x j = msq x (j 0) := by
  pointwise [k0_pay5]
  rfl

theorem inv_eq (j : S512x1.Idx) : k0_pay6 x j = Ideal.rsqrt (msq x (j 0)) := by
  pointwise [k0_pay6]
  exact congrArg Ideal.rsqrt (msq_eq x j)

theorem gain_eq (j : S512x1024.Idx) : k0_pay8 a b g j = (nn a b j * row g (j 1) : EReal) := by
  pointwise [k0_pay8]
  rw [acc_eq]

theorem slope_eq (j : S512x1024.Idx) : k0_pay9 a b x g j = slope (nn a b) x (row g) (j 0) := by
  pointwise [k0_pay9]
  simp only [msq_eq, inv_eq, gain_eq]
  exact Fintype.sum_unique _

theorem bwd_eq (j : S512x1024.Idx) :
    k0_pay1 x d (k0_pay9 a b x g) (k0_pay10 a b x g) j = rmsBwd (nn a b) x d (row g) j := by
  pointwise [k0_pay1, k0_pay10]
  simp only [slope_eq, gain_eq, inv_eq]
  rfl

theorem terms_eq (k : Fin 1024) : k0_pay7 a b x (ix2 0 k) = ∑ i, gainTerm (nn a b) x k i := by
  pointwise [k0_pay7]
  simp only [acc_eq, inv_eq]
  rfl

/-- The row that a grid point adds, and its store. -/
abbrev terms : Fin 1024 → EReal := fun k => ∑ i, gainTerm (nn a b) x k i

theorem store_eq (old : Vec Ideal S8x1024 .f32) (k : Fin 1024) :
    k0_pay3 (k0_pay7 a b x) (View.ld old (row0 inb_S8x1024_S1x1024_0_0)) (ix2 0 k) = (old (ix2 0 k) + terms a b x k : EReal) := by
  pointwise [k0_pay3]
  rw [terms_eq]
end

section
variable (c : Dev nD) (i : grid0.Coords)
variable (a3 : Memref sig .tc .vmem S512x4096 .bf16) (h3 : a3.IsWhole) (a4 : Memref sig .tc .vmem S4096x1024 .bf16) (h4 : a4.IsWhole)
variable (a5 : Memref sig .tc .vmem S512x1024 .f32) (h5 : a5.IsWhole) (a6 : Memref sig .tc .vmem S512x1024 .f32) (h6 : a6.IsWhole)
variable (a7 : Memref sig .tc .vmem S1x1024 .f32) (h7 : a7.IsWhole) (a8 : Memref sig .tc .vmem S8x128 .f32) (h8 : a8.IsWhole)
variable (a9 : Memref sig .tc .vmem S512x1024 .f32) (h9 : a9.IsWhole) (a10 : Memref sig .tc .vmem S8x1024 .f32) (h10 : a10.IsWhole)
variable (a : Vec Ideal S512x4096 .bf16) (b : Vec Ideal S4096x1024 .bf16) (x d : Vec Ideal S512x1024 .f32) (g : Vec Ideal S1x1024 .f32)
variable (k : Vec Ideal S8x128 .f32) (old : Vec Ideal S8x1024 .f32)

/-- What the first grid point leaves, and what each further one does. -/
theorem first_bwd (hc : cond0_0 i) :
    out0_A_6 c i a3 h3 a4 h4 a5 h5 a6 h6 a7 h7 a8 h8 a9 h9 a10 h10 hc a b x d g k = rmsBwd (nn a b) x d (row g) := by
  unfold out0_A_6
  rw [View.read_writes_eq_canon _ _ _ (cover0_A_6 c i a3 h3 a4 h4 a5 h5 a6 h6 a7 h7 a8 h8 a9 h9 a10 h10 hc a b x d g k)]
  unfold kernelRun0_A
  dsimp only
  sl_unfold_words
  simp (discharger := first | rfl | decide) only [View.readAt_eq_ld, Memref.IsWhole.read_unread]
  funext j
  rw [View.canon_cons_unit_lit _ _ _ (by decide), View.ld_unit_lit _ _ (by decide), View.ld_unit_lit _ _ (by decide),
    View.ld_unit_lit _ _ (by decide), View.ld_unit_lit _ _ (by decide), View.ld_unit_lit _ _ (by decide)]
  exact bwd_eq a b x d g j
theorem next_bwd (hc : ¬cond0_0 i) :
    out0_B_6 c i a3 h3 a4 h4 a5 h5 a6 h6 a7 h7 a8 h8 a9 h9 a10 h10 hc a b x d g k old = rmsBwd (nn a b) x d (row g) := by
  unfold out0_B_6
  rw [View.read_writes_eq_canon _ _ _ (cover0_B_6 c i a3 h3 a4 h4 a5 h5 a6 h6 a7 h7 a8 h8 a9 h9 a10 h10 hc a b x d g k old)]
  unfold kernelRun0_B
  dsimp only
  sl_unfold_words
  simp (discharger := first | rfl | decide) only [View.readAt_eq_ld, Memref.IsWhole.read_unread]
  funext j
  rw [View.canon_cons_unit_lit _ _ _ (by decide), View.ld_unit_lit _ _ (by decide), View.ld_unit_lit _ _ (by decide),
    View.ld_unit_lit _ _ (by decide), View.ld_unit_lit _ _ (by decide), View.ld_unit_lit _ _ (by decide)]
  exact bwd_eq a b x d g j

theorem first_gain (hc : cond0_0 i) :
    out0_A_7 c i a3 h3 a4 h4 a5 h5 a6 h6 a7 h7 a8 h8 a9 h9 a10 h10 hc a b x d g k = addRow (terms a b x) (k0_pay2 (F := Ideal)) := by
  unfold out0_A_7
  rw [View.read_writes_eq_canon _ _ _ (cover0_A_7 c i a3 h3 a4 h4 a5 h5 a6 h6 a7 h7 a8 h8 a9 h9 a10 h10 hc a b x d g k)]
  unfold kernelRun0_A
  dsimp only
  sl_unfold_words
  simp (discharger := first | rfl | decide) only [View.readAt_eq_ld, Memref.IsWhole.read_unread, ↓View.readCov_skip, ↓View.readCov_fill]
  rw [View.ld_unit_lit _ a (by decide), View.ld_unit_lit _ b (by decide), View.ld_unit_lit _ x (by decide)]
  exact canon_of _ _ _ (row_piece (store_eq a b x _)) row_off _ (fun d => by fin_cases d <;> rfl)
theorem next_gain (hc : ¬cond0_0 i) :
    out0_B_7 c i a3 h3 a4 h4 a5 h5 a6 h6 a7 h7 a8 h8 a9 h9 a10 h10 hc a b x d g k old = addRow (terms a b x) old := by
  unfold out0_B_7
  unfold kernelRun0_B
  dsimp only
  sl_unfold_words
  simp only [View.readAt_eq_ld, Memref.IsWhole.read_unread]
  rw [View.ld_unit_lit _ a (by decide), View.ld_unit_lit _ b (by decide), View.ld_unit_lit _ x (by decide)]
  exact read_writes_of _ _ _ _ (row_piece (store_eq a b x old)) (h10.read_unread .. ▸ row_off)
end

variable (m : (ℓ : Loc nD τ sig) → Buf (Elt Ideal) ℓ) (c : Dev nD)

/-- The product, and what the kernel returns: the gradient by the norm's input, and the gain's in row 0 of eight. -/
def prod : M2 4096 1024 := nn (m ((c : Thread nD τ).loc main_arg0)) (m ((c : Thread nD τ).loc main_arg1))
def res : M2 4096 1024 := rmsBwd (prod m c) (m ((c : Thread nD τ).loc main_arg2)) (m ((c : Thread nD τ).loc main_arg3))
  fun k => m ((c : Thread nD τ).loc main_arg4) (ix1 k)
def resGain : M2 8 1024 := inRow0 fun k => ∑ i, gainTerm (prod m c) (m ((c : Thread nD τ).loc main_arg2)) k i

theorem at_ : ∀ t : Fin cfg0.N, win0_0.index t = ![t.val, 0] ∧ win0_1.index t = ![0, 0] ∧ win0_2.index t = ![t.val, 0]
      ∧ win0_3.index t = ![t.val, 0] ∧ win0_4.index t = ![0, 0] ∧ win0_6.index t = ![t.val, 0] ∧ win0_7.index t = ![0, 0] :=
  (by decide +kernel : ∀ t : Fin grid0.N, win0_0.index t = ![t.val, 0] ∧ win0_1.index t = ![0, 0] ∧ win0_2.index t = ![t.val, 0]
      ∧ win0_3.index t = ![t.val, 0] ∧ win0_4.index t = ![0, 0] ∧ win0_6.index t = ![t.val, 0] ∧ win0_7.index t = ![0, 0])

/-- Where the result's block lies. -/
abbrev out (t : Fin cfg0.N) : I2 512 1024 → I2 4096 1024 := ((cfg0.win 6).blk t).view.emb
theorem out_at (t : Fin cfg0.N) : At (t.val * 512) 0 (out t) := fun j => by
  have e6 := (at_ t).2.2.2.2.2.1
  constructor
  · show win0_6.index t 0 * 512 + 1 * (j 0).val = _
    rw [e6]; rfl
  · show win0_6.index t 1 * 1024 + 1 * (j 1).val = _
    rw [e6]; rfl

theorem prod_at (t : Fin cfg0.N) (j : I2 512 1024) : nn (iblk m c 0 t) (iblk m c 1 t) j = prod m c (out t j) := by
  obtain ⟨e0, e1, -⟩ := at_ t
  exact nn_block (ea := ((cfg0.win 0).blk t).view.emb) (eb := ((cfg0.win 1).blk t).view.emb) (eo := out t)
    (fun _ => ⟨rfl, rfl⟩) (fun _ => ⟨rfl, rfl⟩) (out_at t) (by simp [e0]) (by simp [e0]) (by simp [e1]) (by simp [e1]) j
theorem norm_at (t : Fin cfg0.N) (j : I2 512 1024) : iblk m c 2 t j = m ((c : Thread nD τ).loc main_arg2) (out t j) := by
  obtain ⟨-, -, e2, -, -, e6, -⟩ := at_ t
  refine congrArg (m ((c : Thread nD τ).loc main_arg2)) (idx2 ?_ ?_)
  · show win0_2.index t 0 * 512 + 1 * (j 0).val = win0_6.index t 0 * 512 + 1 * (j 0).val
    rw [e2, e6]
  · show win0_2.index t 1 * 1024 + 1 * (j 1).val = win0_6.index t 1 * 1024 + 1 * (j 1).val
    rw [e2, e6]
theorem resid_at (t : Fin cfg0.N) (j : I2 512 1024) : iblk m c 3 t j = m ((c : Thread nD τ).loc main_arg3) (out t j) := by
  obtain ⟨-, -, -, e3, -, e6, -⟩ := at_ t
  refine congrArg (m ((c : Thread nD τ).loc main_arg3)) (idx2 ?_ ?_)
  · show win0_3.index t 0 * 512 + 1 * (j 0).val = win0_6.index t 0 * 512 + 1 * (j 0).val
    rw [e3, e6]
  · show win0_3.index t 1 * 1024 + 1 * (j 1).val = win0_6.index t 1 * 1024 + 1 * (j 1).val
    rw [e3, e6]
theorem gain_at (t : Fin cfg0.N) (k : Fin 1024) : row (iblk m c 4 t) k = m ((c : Thread nD τ).loc main_arg4) (ix1 k) := by
  have e4 := (at_ t).2.2.2.2.1
  unfold row iblk
  rw [View.read_apply]
  show StableHlo.after hostOps0 _ main_v0 _ = _
  after_results_simp
  refine Eq.trans ?_ (row_cast shapeCasts_S1024_S1x1024 k)
  refine congrArg _ (idx2 ?_ ?_)
  · show win0_4.index t 0 * 1 + 1 * 0 = 0
    rw [e4]; rfl
  · show win0_4.index t 1 * 1024 + 1 * k.val = k.val
    rw [e4]; simp

/-- What every grid point leaves in the gradient's block. -/
theorem bwd_at (t : Fin cfg0.N) :
    (outsAt0 m c t.val t.isLt).1 = rmsBwd (nn (iblk m c 0 t) (iblk m c 1 t)) (iblk m c 2 t) (iblk m c 3 t) (row (iblk m c 4 t)) := by
  by_cases h0 : t.val % 8 = 0
  · rw [outsAt0_A m c t h0]; dsimp only; exact first_bwd ..
  · rw [outsAt0_B m c t h0]; dsimp only; exact next_bwd ..

theorem flushed_bwd (t : Fin cfg0.N) : (dats m 0 c).flushed 6 t = ((cfg0.win 6).blk t).view.read (Elt Ideal) (res m c) := by
  rw [flushed6, bwd_at]
  funext j
  exact rmsBwd_block (out_at t) rfl (prod_at m c t) (norm_at m c t) (resid_at m c t) (gain_at m c t) j

theorem arr : (dats m 0 c).arrAt 6 cfg0.N = res m c := by
  refine (dats m 0 c).arrAt_eq_of_cover 6 _ (fun t _ => flushed_bwd m c t) fun i => ?_
  have h0 : (i 0).val < 4096 := (i 0).isLt
  have h1 : (i 1).val < 1024 := (i 1).isLt
  obtain ⟨t, ht⟩ : ∃ t : Fin cfg0.N, t.val = (i 0).val / 512 := ⟨⟨_, lt_of_lt_of_eq (by omega) N_0.symm⟩, rfl⟩
  refine ⟨t, flush0_6 _, ?_⟩
  show i ∈ ((View.whole main_v1_0).slice (win0_6.rect t)).set
  rw [View.set_slice_whole, Rect.mem_set_unit]
  exact near i (n := 512) (m := 1024) (by decide) (by decide) ((at_ t).2.2.2.2.2.1.trans (by rw [ht, Nat.div_eq_of_lt h1]))

/-- What each point adds to the gain's gradient, and what is there after the last. -/
abbrev pt (n : ℕ) (h : n < 8) : Fin cfg0.N := ⟨n, lt_of_lt_of_eq h N_0.symm⟩
abbrev adds (t : Fin cfg0.N) : Fin 1024 → EReal := terms (iblk m c 0 t) (iblk m c 1 t) (iblk m c 2 t)

theorem gain_first (t : Fin cfg0.N) (h0 : t.val % 8 = 0) : (outsAt0 m c t.val t.isLt).2 = addRow (adds m c t) (k0_pay2 (F := Ideal)) := by
  rw [outsAt0_A m c t h0]; dsimp only; exact first_gain ..
theorem gain_next (t : Fin cfg0.N) (h0 : ¬t.val % 8 = 0) :
    (outsAt0 m c t.val t.isLt).2 = addRow (adds m c t) (outsAt0 m c (t.val - 1) (Nat.lt_of_le_of_lt (Nat.sub_le _ _) t.isLt)).2 := by
  rw [outsAt0_B m c t h0]; dsimp only; exact next_gain ..

theorem gain_last : (outsAt0 m c 7 (pt 7 (by omega)).isLt).2 = resGain m c := by
  refine (rows_added (L := 7) (M := 8) rfl (fun n h => (outsAt0 m c n (pt n h).isLt).2) (fun i => adds m c (pt i.val i.isLt))
    (z := k0_pay2 (F := Ideal)) (fun y => by unfold k0_pay2; pointwise) (gain_first m c (pt 0 (by omega)) rfl)
    fun n h => gain_next m c (pt (n + 1) h) (by show ¬(n + 1) % 8 = 0; omega)).trans (congrArg inRow0 (funext fun k => ?_))
  exact gainTerm_blocks (a := 8) (b := 512) (e := fun t => out (pt t.val t.isLt)) (fun t => out_at (pt t.val t.isLt))
    (fun t => prod_at m c (pt t.val t.isLt)) (fun t => norm_at m c (pt t.val t.isLt)) k

theorem whole7 (t : Fin cfg0.N) (j : S8x1024.Idx) : ((cfg0.win 7).blk t).view.emb j = j := by
  have e7 := (at_ t).2.2.2.2.2.2
  refine idx2 ?_ ?_
  · show win0_7.index t 0 * 8 + 1 * (j 0).val = (j 0).val
    rw [e7]; simp
  · show win0_7.index t 1 * 1024 + 1 * (j 1).val = (j 1).val
    rw [e7]; simp

/-- The last point. -/
abbrev tl : Fin cfg0.N := pt 7 (by omega)
theorem last_of {t : Fin cfg0.N} (h : t.val % 8 = 7) : t = tl :=
  Fin.ext (by have : t.val < 8 := lt_of_lt_of_eq t.isLt N_0; simp only; omega)

theorem arrGain : (dats m 0 c).arrAt 7 cfg0.N = resGain m c := by
  refine (dats m 0 c).arrAt_eq_of_cover 7 (resGain m c) (fun t hf => ?_) fun i =>
    ⟨tl, (flush0_7 tl).mpr rfl, whole7 tl i ▸ View.emb_mem_set _ _⟩
  obtain rfl := last_of ((flush0_7 t).mp hf)
  rw [flushed7, show (outsAt0 m c tl.val tl.isLt).2 = _ from gain_last m c]
  funext j
  show resGain m c j = resGain m c (((cfg0.win 7).blk tl).view.emb j)
  rw [whole7]

open Cert.RefDh2Ideal.Read in
/-- The reference's product, its norm's mean of squares, and its slope. -/
theorem ref_prod (a : M2 4096 4096) (b : M2 4096 1024) : val_main_v20 (F := Ideal) a b = nn a b := by
  funext i
  rw [val_main_v20_apply]
  refine Finset.sum_congr rfl fun k _ => congrArg₂ (· * ·) (congrArg a (idx2 rfl rfl)) ?_
  rw [val_main_v1_apply]
  exact congrArg b (idx2 rfl rfl)

open Cert.RefDh2Ideal.Read in
theorem ref_msq (x : M2 4096 1024) (i : I2 4096 1) : val_main_v8 (F := Ideal) x i = msq x (i 0) := by
  rw [val_main_v8_apply, val_main_v6_apply, val_main_v7_apply, val_main_v5_apply, val_main_v4_apply, val_main_v3_apply]
  simp only [val_main_v2_apply, val_main_cst_apply, val_main_cst_0_apply, val_main_cst_1_apply]
  refine congrArg₂ (· + ·) (congrArg₂ Ideal.div ((congrArg (· + _) zero_bits).trans ((zero_add _).trans ?_)) rfl) rfl
  exact Finset.sum_congr rfl fun k _ => by
    have e : idx_main_v3 (idx_main_v4 i) k = ix2 (i 0) k := idx2 rfl rfl
    rw [e]; rfl

open Cert.RefDh2Ideal.Read in
theorem ref_slope (a : M2 4096 4096) (b : M2 4096 1024) (x : M2 4096 1024) (g : (⟨1, ![1024]⟩ : Shape).Idx → EReal) (i : I2 4096 1024) :
    val_main_v36 (F := Ideal) a b x g i = slope (nn a b) x (fun k => g (ix1 k)) (i 0) := by
  rw [val_main_v36_apply, val_main_v35_apply]
  refine (congrArg₂ (· + ·) zero_bits (Fintype.sum_unique _)).trans ((zero_add _).trans ?_)
  rw [val_main_v34_apply, val_main_v33_apply, val_main_v32_apply, val_main_v29_apply, val_main_v28_apply, val_main_v12_apply, val_main_v11_apply,
    val_main_v10_apply, val_main_v9_apply, ref_msq]
  simp only [val_main_cst_2_apply, val_main_cst_5_apply, val_main_cst_6_apply]
  refine congrArg₂ Ideal.div (congrArg₂ (· * ·) ((congrArg (· + _) zero_bits).trans ((zero_add _).trans ?_)) rfl) rfl
  refine Finset.sum_congr rfl fun k _ => ?_
  rw [val_main_v27_apply, val_main_v25_apply, ref_prod, val_main_v24_apply, val_main_v15_apply]
  have e : idx_main_v28 (idx_main_v29 (idx_main_v35 (idx_main_v36 i) default)) k = ix2 (i 0) k :=
    idx2 (by show (i 0).val * 1 + 0 = (i 0).val; omega) rfl
  refine congrArg₂ (· * ·) (congrArg x e) (congrArg₂ (· * ·) (congrArg (nn a b) e) (congrArg g ?_))
  exact funext fun a => Fin.ext (match a with | ⟨0, _⟩ => rfl)

open Cert.RefDh2Ideal.Read in
theorem ref (a : M2 4096 4096) (b : M2 4096 1024) (x d : M2 4096 1024) (g : (⟨1, ![1024]⟩ : Shape).Idx → EReal) :
    val_main_v41 (F := Ideal) a b x d g = rmsBwd (nn a b) x d fun k => g (ix1 k) := by
  funext i
  rw [val_main_v41_apply, val_main_v40_apply, val_main_v38_apply, val_main_v39_apply, val_main_v37_apply, val_main_v31_apply, val_main_v30_apply,
    val_main_v9_apply, val_main_v25_apply, val_main_v24_apply, val_main_v15_apply, ref_msq, ref_slope, ref_prod]
  refine congrArg (d i + ·) (congrArg (· + _) (congrArg (· + _) (congrArg (· * _) (congrArg (nn a b i * ·) (congrArg g ?_)))))
  exact funext fun a => Fin.ext (match a with | ⟨0, _⟩ => rfl)

open Cert.RefDh2Ideal.Read in
/-- Its sum of the gain's terms over the rows, and that sum set in row 0 of zeros. -/
theorem ref_terms (a : M2 4096 4096) (b : M2 4096 1024) (x : M2 4096 1024) (k : Fin 1024) :
    val_main_v42 (F := Ideal) a b x (ix2 0 k) = ∑ i, gainTerm (nn a b) x k i := by
  rw [val_main_v42_apply, val_main_v26_apply]
  refine (congrArg₂ (· + ·) zero_bits (Fintype.sum_unique _)).trans ((zero_add _).trans ?_)
  rw [val_main_v23_apply, val_main_v22_apply]
  refine (congrArg (· + _) zero_bits).trans ((zero_add _).trans ?_)
  refine Finset.sum_congr rfl fun r _ => ?_
  rw [val_main_v21_apply, val_main_v14_apply, val_main_v13_apply, val_main_v9_apply, ref_msq, ref_prod]
  have e : idx_main_v22 (idx_main_v23 (idx_main_v26 (idx_main_v42 (ix2 0 k)) default)) r = ix2 r k :=
    idx2 rfl (by show 0 * 1024 + k.val = k.val; omega)
  exact congrArg₂ (· * ·) (congrArg₂ (· * ·) (congrArg x e) rfl) (congrArg (nn a b) e)

open Cert.RefDh2Ideal.Read in
theorem ref_gain (a : M2 4096 4096) (b : M2 4096 1024) (x : M2 4096 1024) :
    val_main_v43 (F := Ideal) a b x = inRow0 fun k => ∑ i, gainTerm (nn a b) x k i := by
  funext y
  unfold val_main_v43 inRow0
  split
  · next h =>
    refine (pad_apply_of_inside _ _ _ _ _ _ _ y (ix2 0 (y 1)) fun a => match a with
      | ⟨0, _⟩ => h
      | ⟨1, _⟩ => by show (y 1).val = 0 + (y 1).val * 1; omega).trans ?_
    exact ref_terms a b x (y 1)
  · next h =>
    refine (pad_apply_of_not_inside _ _ _ _ _ _ _ y 0 fun hin => h ?_).trans ?_
    · have : ((y 0).val - 0) / 1 < 1 := hin.2.2
      omega
    · rw [val_main_call0_v0_apply]
      show ((((0#32 : BitVec 32).toInt : ℝ)) : EReal) = 0
      simp

theorem frame_r : Cert.quiescent_RefDh2Ideal := fun m ρ _ => (θ_run Cert.RefDh2Ideal.defs _ _).mono
  (fun r h => ⟨fun c => (h c).2.2, sem_eq_zero_of_no_sems (by decide) r.2⟩) (Cert.RefDh2Ideal.Value.run (F := Ideal) m ρ)

theorem value : Cert.algebraic_Dh2Ideal_RefDh2Ideal := by
  intro m ρ m' ρ' _ hm
  refine ⟨fun c => res m c, fun c => resGain m c,
    (θ_run defs _ _).mono (fun _ h c => ⟨(h c).1.trans (arr m c), (h c).2.1.trans (arrGain m c), (h c).2.2⟩) (run_blocks m ρ),
    (θ_run Cert.RefDh2Ideal.defs _ _).mono (fun r h c => ⟨(h c).1.trans ?_, (h c).2.1.trans ?_, (h c).2.2⟩)
      (Cert.RefDh2Ideal.Value.run (F := Ideal) m' ρ')⟩
  all_goals obtain ⟨e0, e1, e2, e3, e4, -⟩ := hm c
  · rw [Cert.RefDh2Ideal.Read.val_main_v41_eq]
    exact (congr (congr (congr (congrArg₂ (Cert.RefDh2Ideal.Read.val_main_v41 (F := Ideal)) e0 e1) e2) e3) e4).trans (ref _ _ _ _ _)
  · refine (Cert.RefDh2Ideal.Read.val_main_v43_eq (F := Ideal) _ _ _).trans ?_
    exact (congr (congrArg₂ (Cert.RefDh2Ideal.Read.val_main_v43 (F := Ideal)) e0 e1) e2).trans (ref_gain _ _ _)

end Cert.MmDh2

end
-- ==== Proof.Mm.Padded.lean ====
/-
  A weight's last sixteen rows, and the zero rows set below them that make 128 of them.
-/
module

public import proofs.«01_k».proof.Proof.Mm.Forms
public import Idealize.ShloMosaic.Lib.KernelVsHost

@[expose] public section

noncomputable section

namespace Cert.Mm

open Idealize.ShloMosaic Idealize.ShloMosaic.Tactic

variable {M N n : ℕ}

/-- The rows from 4608 on, and rows followed by zero rows. -/
def tail (w : M2 4624 N) : M2 16 N := fun y => w (ix2 ⟨4608 + (y 0).val, by have : (y 0).val < 16 := (y 0).isLt; omega⟩ (y 1))
def padded (r : M2 16 N) : M2 128 N := fun y => if h : (y 0).val < 16 then r (ix2 ⟨(y 0).val, h⟩ (y 1)) else 0

/-- The host's cut and zero rows. -/
theorem host_padded (w : M2 4624 N) {hw hp hz} :
    (pad (⟨2, ![128, N]⟩ : Shape) ![0, 0] ![112, 0] ![0, 0] (extractStridedSlice (⟨2, ![16, N]⟩ : Shape) ![4608, 0] w hw)
      (sitofp (F := Ideal) .bf16 (constantI (⟨0, ![]⟩ : Shape) 32 0#32)) hp hz : M2 128 N) = padded (tail w) := by
  funext y
  unfold padded
  split
  · next h =>
    refine (pad_apply_of_inside _ _ _ _ _ _ _ y (ix2 ⟨(y 0).val, h⟩ (y 1)) fun a => match a with
      | ⟨0, _⟩ => by show (y 0).val = 0 + (y 0).val * 1; omega
      | ⟨1, _⟩ => by show (y 1).val = 0 + (y 1).val * 1; omega).trans ?_
    exact congrArg w (idx2 rfl (Nat.zero_add _))
  · next h =>
    refine (pad_apply_of_not_inside _ _ _ _ _ _ _ y 0 fun hin => h ?_).trans ?_
    · have : ((y 0).val - 0) / 1 < 16 := hin.2.2
      omega
    · show ((((0#32 : BitVec 32).toInt : ℝ)) : EReal) = 0
      simp

/-- The columns of a factor that meet the zero rows count nothing. -/
def left (a : M2 M 128) : M2 M 16 := fun y => a (ix2 (y 0) ⟨(y 1).val, by have : (y 1).val < 16 := (y 1).isLt; omega⟩)

theorem nn_padded (a : M2 M 128) (r : M2 16 N) : nn a (padded r) = nn (left a) r := by
  funext i
  refine (Fin.sum_univ_add (a := 16) (b := 112) fun k => a (ix2 (i 0) k) * padded r (ix2 k (i 1))).trans ?_
  refine (congrArg₂ (· + ·) (Finset.sum_congr rfl fun k _ => ?_) (Finset.sum_eq_zero fun k _ => ?_)).trans (add_zero _)
  · exact congrArg₂ (· * ·) rfl (dif_pos k.isLt)
  · refine (congrArg₂ (· * ·) rfl (dif_neg ?_)).trans (mul_zero _)
    show ¬16 + k.val < 16
    omega

/-- A product with the padded rows turned has zero columns there. -/
theorem nt_padded (a : M2 M N) (r : M2 16 N) (i : I2 M 128) :
    nt a (padded r) i = if h : (i 1).val < 16 then nt a r (ix2 (i 0) ⟨(i 1).val, h⟩) else 0 := by
  split
  · next h => exact Finset.sum_congr rfl fun k _ => congrArg₂ (· * ·) rfl (dif_pos h)
  · next h => exact Finset.sum_eq_zero fun k _ => (congrArg₂ (· * ·) rfl (dif_neg h)).trans (mul_zero _)

end Cert.Mm

end
-- ==== Proof.Mm.Pdt.lean ====
/-
  The step sizes' projection `h wtᵀ` onto the last sixteen rows of its weight, with zero rows below them to 128 rows: each grid point 2048
  rows of it.
-/
module

public import proofs.«01_k».proof.Defs
public import proofs.«01_k».proof.Proof.Gen.Pdt.Frame
public import proofs.«01_k».proof.Proof.Gen.PdtIdeal.Frame
public import proofs.«01_k».proof.Proof.Gen.PdtIdeal.Value
public import proofs.«01_k».proof.Proof.Gen.RefPdtIdeal.Run
public import proofs.«01_k».proof.Proof.Gen.RefPdtIdeal.Read
public import proofs.«01_k».proof.Proof.Mm.Padded
public import Idealize.ShloMosaic.Lib.Quiescent

@[expose] public section

set_option maxRecDepth 16384

noncomputable section

namespace Cert.MmPdt

open Cert.PdtIdeal Cert.PdtIdeal.Gen Cert.PdtIdeal.Value Cert.Mm
open Idealize.ShloMosaic Idealize.ShloMosaic.TcCoe Idealize.ShloMosaic.Tactic Idealize.SL.Sem

/-- What a grid point writes. -/
theorem out_eq (a : Vec Ideal S2048x1024 .bf16) (b : Vec Ideal S128x1024 .bf16) : out0_2 a b = nt a b := by
  funext j
  unfold out0_2
  rw [View.canon_cons_unit_lit _ _ _ (by decide), View.ld_unit_lit _ _ (by decide), View.ld_unit_lit _ _ (by decide)]
  pointwise [k0_pay1]
  rfl

variable (m : (ℓ : Loc nD τ sig) → Buf (Elt Ideal) ℓ) (ρ : Dev nD → PrngReg) (c : Dev nD)

/-- The weight's rows that the kernel reads. -/
abbrev wt : M2 128 1024 := padded (tail (m ((c : Thread nD τ).loc main_arg1)))
abbrev res : M2 4096 128 := nt (m ((c : Thread nD τ).loc main_arg0)) (wt m c)

theorem at_ : ∀ t : Fin cfg0.N, win0_0.index t = ![t.val, 0] ∧ win0_1.index t = ![0, 0] ∧ win0_2.index t = ![t.val, 0] :=
  (by decide +kernel : ∀ t : Fin grid0.N, win0_0.index t = ![t.val, 0] ∧ win0_1.index t = ![0, 0] ∧ win0_2.index t = ![t.val, 0])

theorem rows_eq (t : Fin cfg0.N) : iblk m c 1 t = fun x => wt m c (((cfg0.win 1).blk t).view.emb x) := by
  funext x
  unfold iblk
  rw [View.read_apply]
  show StableHlo.after (List.flatten [hostOps0, hostOps0_1]) _ main_v1 _ = _
  after_results_simp
  exact congrFun (host_padded (m (c.tc.loc main_arg1)) (hw := slices_S4624x1024_S16x1024_4608_0) (hp := pads_S16x1024_S128x1024_01120_000) (hz := h_S_)) _

theorem flushed_eq (t : Fin cfg0.N) : (dats m 0 c).flushed 2 t = ((cfg0.win 2).blk t).view.read (Elt Ideal) (res m c) := by
  obtain ⟨e0, e1, e2⟩ := at_ t
  rw [flushed2, out_eq, rows_eq]
  funext j
  exact nt_block (ea := ((cfg0.win 0).blk t).view.emb) (eb := ((cfg0.win 1).blk t).view.emb) (eo := ((cfg0.win 2).blk t).view.emb)
    (fun _ => ⟨rfl, rfl⟩) (fun _ => ⟨rfl, rfl⟩) (fun _ => ⟨rfl, rfl⟩) (by simp [e0, e2]) (by simp [e0, e1]) (by simp [e1, e2]) (by simp [e1]) j

/-- The array after the last grid point. -/
theorem arr : (dats m 0 c).arrAt 2 cfg0.N = res m c := by
  refine (dats m 0 c).arrAt_eq_of_cover 2 _ (fun t _ => flushed_eq m c t) fun i => ?_
  have h0 : (i 0).val < 4096 := (i 0).isLt
  have h1 : (i 1).val < 128 := (i 1).isLt
  obtain ⟨t, ht⟩ : ∃ t : Fin cfg0.N, t.val = (i 0).val / 2048 := ⟨⟨_, lt_of_lt_of_eq (by omega) N_0.symm⟩, rfl⟩
  refine ⟨t, flush0_2 _, ?_⟩
  show i ∈ ((View.whole main_v2).slice (win0_2.rect t)).set
  rw [View.set_slice_whole, Rect.mem_set_unit]
  exact near i (n := 2048) (m := 128) (by decide) (by decide) ((at_ t).2.2.trans (by rw [ht, Nat.div_eq_of_lt h1]))

open Cert.RefPdtIdeal.Read in
/-- The reference's product, beside which it sets zero columns. -/
theorem ref_prod (a : M2 4096 1024) (b : M2 4624 1024) : val_main_v4 (F := Ideal) a b = nt a (tail b) := by
  funext i
  rw [val_main_v4_apply]
  refine Finset.sum_congr rfl fun k _ => congrArg₂ (· * ·) (congrArg a (idx2 rfl rfl)) ?_
  rw [val_main_v3_apply, val_main_v2_apply, val_main_v1_apply]
  exact congrArg b (idx2 rfl rfl)

open Cert.RefPdtIdeal.Read in
theorem ref (a : M2 4096 1024) (b : M2 4624 1024) : val_main_v5 (F := Ideal) a b = nt a (padded (tail b)) := by
  funext y
  rw [nt_padded, ← ref_prod]
  unfold val_main_v5
  split
  · next h =>
    exact pad_apply_of_inside _ _ _ _ _ _ _ y (ix2 (y 0) ⟨(y 1).val, h⟩) fun d => match d with
      | ⟨0, _⟩ => by show (y 0).val = 0 + (y 0).val * 1; omega
      | ⟨1, _⟩ => by show (y 1).val = 0 + (y 1).val * 1; omega
  · next h =>
    refine (pad_apply_of_not_inside _ _ _ _ _ _ _ y 1 fun hin => h ?_).trans ?_
    · have : ((y 1).val - 0) / 1 < 16 := hin.2.2
      omega
    · rw [val_main_call0_v0_apply]
      show ((((0#32 : BitVec 32).toInt : ℝ)) : EReal) = 0
      simp

theorem frame_r : Cert.quiescent_RefPdtIdeal := fun m ρ _ => (θ_run Cert.RefPdtIdeal.defs _ _).mono
  (fun r h => ⟨fun c => (h c).2, sem_eq_zero_of_no_sems (by decide) r.2⟩) (Cert.RefPdtIdeal.Value.run (F := Ideal) m ρ)

theorem value : Cert.algebraic_PdtIdeal_RefPdtIdeal := by
  intro m ρ m' ρ' _ hm
  refine ⟨fun c => res m c, (θ_run defs _ _).mono (fun _ h c => ⟨(h c).1.trans (arr m c), (h c).2⟩) (run_blocks m ρ),
    (θ_run Cert.RefPdtIdeal.defs _ _).mono (fun r h c => ⟨(h c).1.trans ?_, (h c).2⟩) (Cert.RefPdtIdeal.Value.run (F := Ideal) m' ρ')⟩
  obtain ⟨e0, e1⟩ := hm c
  refine (Cert.RefPdtIdeal.Read.val_main_v5_eq (F := Ideal) _ _).trans ?_
  exact (congrArg₂ (Cert.RefPdtIdeal.Read.val_main_v5 (F := Ideal)) e0 e1).trans (ref _ _)

end Cert.MmPdt

end
-- ==== Proof.Mm.Gwdt.lean ====
/-
  The gradient of the step sizes' projection by its weight, as 128 rows: `ddtᵀ h` in one grid point.
-/
module

public import proofs.«01_k».proof.Defs
public import proofs.«01_k».proof.Proof.Gen.Gwdt.Frame
public import proofs.«01_k».proof.Proof.Gen.GwdtIdeal.Frame
public import proofs.«01_k».proof.Proof.Gen.GwdtIdeal.Value
public import proofs.«01_k».proof.Proof.Gen.RefGwdtIdeal.Run
public import proofs.«01_k».proof.Proof.Gen.RefGwdtIdeal.Read
public import proofs.«01_k».proof.Proof.Mm.Forms
public import Idealize.ShloMosaic.Lib.Quiescent

@[expose] public section

set_option maxRecDepth 16384

noncomputable section

namespace Cert.MmGwdt

open Cert.GwdtIdeal Cert.GwdtIdeal.Gen Cert.GwdtIdeal.Value Cert.Mm
open Idealize.ShloMosaic Idealize.ShloMosaic.TcCoe Idealize.ShloMosaic.Tactic Idealize.SL.Sem

/-- What a grid point writes. -/
theorem out_eq (a : Vec Ideal S4096x128 .bf16) (b : Vec Ideal S4096x1024 .bf16) : out0_2 a b = tn a b := by
  funext j
  unfold out0_2
  rw [View.canon_cons_unit_lit _ _ _ (by decide), View.ld_unit_lit _ _ (by decide), View.ld_unit_lit _ _ (by decide)]
  pointwise [k0_pay1]
  rfl

variable (m : (ℓ : Loc nD τ sig) → Buf (Elt Ideal) ℓ) (ρ : Dev nD → PrngReg) (c : Dev nD)

abbrev res : M2 128 1024 := tn (m ((c : Thread nD τ).loc main_arg0)) (m ((c : Thread nD τ).loc main_arg1))

theorem at_ : ∀ t : Fin cfg0.N, win0_0.index t = ![0, t.val] ∧ win0_1.index t = ![0, 0] ∧ win0_2.index t = ![t.val, 0] :=
  (by decide +kernel : ∀ t : Fin grid0.N, win0_0.index t = ![0, t.val] ∧ win0_1.index t = ![0, 0] ∧ win0_2.index t = ![t.val, 0])

theorem flushed_eq (t : Fin cfg0.N) : (dats m 0 c).flushed 2 t = ((cfg0.win 2).blk t).view.read (Elt Ideal) (res m c) := by
  obtain ⟨e0, e1, e2⟩ := at_ t
  rw [flushed2, out_eq]
  funext j
  exact tn_block (ea := ((cfg0.win 0).blk t).view.emb) (eb := ((cfg0.win 1).blk t).view.emb) (eo := ((cfg0.win 2).blk t).view.emb)
    (fun _ => ⟨rfl, rfl⟩) (fun _ => ⟨rfl, rfl⟩) (fun _ => ⟨rfl, rfl⟩) (by simp [e0]) (by simp [e0, e2]) (by simp [e1]) (by simp [e1, e2]) j

/-- The array after the last grid point. -/
theorem arr : (dats m 0 c).arrAt 2 cfg0.N = res m c := by
  refine (dats m 0 c).arrAt_eq_of_cover 2 _ (fun t _ => flushed_eq m c t) fun i => ?_
  have h0 : (i 0).val < 128 := (i 0).isLt
  have h1 : (i 1).val < 1024 := (i 1).isLt
  obtain ⟨t, ht⟩ : ∃ t : Fin cfg0.N, t.val = (i 0).val / 128 := ⟨⟨_, lt_of_lt_of_eq (by omega) N_0.symm⟩, rfl⟩
  refine ⟨t, flush0_2 _, ?_⟩
  show i ∈ ((View.whole main_v0).slice (win0_2.rect t)).set
  rw [View.set_slice_whole, Rect.mem_set_unit]
  exact near i (n := 128) (m := 1024) (by decide) (by decide) ((at_ t).2.2.trans (by rw [ht, Nat.div_eq_of_lt h1]))

/-- The reference turns the product twice. -/
theorem ref (a : M2 4096 128) (b : M2 4096 1024) : Cert.RefGwdtIdeal.Read.val_main_v7 (F := Ideal) a b = tn a b := by
  funext i
  rw [Cert.RefGwdtIdeal.Read.val_main_v7_apply, Cert.RefGwdtIdeal.Read.val_main_v6_apply, Cert.RefGwdtIdeal.Read.val_main_v5_apply]
  show Cert.RefGwdtIdeal.Read.val_main_v4 (F := Ideal) a b _ = _
  rw [Cert.RefGwdtIdeal.Read.val_main_v4_apply]
  exact Finset.sum_congr rfl fun k _ => congrArg₂ (· * ·) (congrArg a (idx2 rfl rfl)) (congrArg b (idx2 rfl rfl))

theorem frame_r : Cert.quiescent_RefGwdtIdeal := fun m ρ _ => (θ_run Cert.RefGwdtIdeal.defs _ _).mono
  (fun r h => ⟨fun c => (h c).2, sem_eq_zero_of_no_sems (by decide) r.2⟩) (Cert.RefGwdtIdeal.Value.run (F := Ideal) m ρ)

theorem value : Cert.algebraic_GwdtIdeal_RefGwdtIdeal := by
  intro m ρ m' ρ' _ hm
  refine ⟨fun c => res m c, (θ_run defs _ _).mono (fun _ h c => ⟨(h c).1.trans (arr m c), (h c).2⟩) (run_blocks m ρ),
    (θ_run Cert.RefGwdtIdeal.defs _ _).mono (fun r h c => ⟨(h c).1.trans ?_, (h c).2⟩) (Cert.RefGwdtIdeal.Value.run (F := Ideal) m' ρ')⟩
  obtain ⟨e0, e1⟩ := hm c
  rw [Cert.RefGwdtIdeal.Read.val_main_v7_eq]
  exact (congrArg₂ (Cert.RefGwdtIdeal.Read.val_main_v7 (F := Ideal)) e0 e1).trans (ref _ _)

end Cert.MmGwdt

end
-- ==== Proof.Mm.Dh1dt.lean ====
/-
  The gradient of the step sizes' projection and of the norm before it: each grid point takes 1024 rows of `A = ddt wt + dh`, where `dh` is
  the other columns' share, through the norm's gradient, adds the residual's, and adds its rows' terms of the gain's gradient to row 0
  of an array that starts from zero.
-/
module

public import proofs.«01_k».proof.Defs
public import proofs.«01_k».proof.Proof.Gen.Dh1dt.Frame
public import proofs.«01_k».proof.Proof.Gen.Dh1dtIdeal.Frame
public import proofs.«01_k».proof.Proof.Gen.Dh1dtIdeal.Value
public import proofs.«01_k».proof.Proof.Gen.RefDh1dtIdeal.Run
public import proofs.«01_k».proof.Proof.Gen.RefDh1dtIdeal.Read
public import proofs.«01_k».proof.Proof.Mm.RowSum
public import proofs.«01_k».proof.Proof.Mm.Padded
public import Idealize.ShloMosaic.Lib.Quiescent
public import Idealize.ShloMosaic.Lib.KernelVsHost

@[expose] public section

set_option maxRecDepth 16384

noncomputable section

namespace Cert.MmDh1dt

open Cert.Dh1dtIdeal Cert.Dh1dtIdeal.Gen Cert.Dh1dtIdeal.Value Cert.Mm
open Idealize.ShloMosaic Idealize.ShloMosaic.TcCoe Idealize.ShloMosaic.Tactic Idealize.SL.Sem

section
variable (a : Vec Ideal S1024x128 .bf16) (b : Vec Ideal S128x1024 .bf16) (e x d : Vec Ideal S1024x1024 .f32) (g : Vec Ideal S1x1024 .f32)

/-- The gain as a function of the column. -/
abbrev row : Fin 1024 → EReal := fun k => g (ix2 0 k)

theorem acc_eq : k0_pay4 a b e = plus a b e := by
  funext j
  pointwise [k0_pay4]
  rfl

theorem msq_eq (j : S1024x1.Idx) : k0_pay5 x j = msq x (j 0) := by
  pointwise [k0_pay5]
  rfl

theorem inv_eq (j : S1024x1.Idx) : k0_pay6 x j = Ideal.rsqrt (msq x (j 0)) := by
  pointwise [k0_pay6]
  exact congrArg Ideal.rsqrt (msq_eq x j)

theorem gain_eq (j : S1024x1024.Idx) : k0_pay8 a b e g j = (plus a b e j * row g (j 1) : EReal) := by
  pointwise [k0_pay8]
  rw [acc_eq]

theorem slope_eq (j : S1024x1.Idx) : k0_pay10 a b e x g j = slope (plus a b e) x (row g) (j 0) := by
  pointwise [k0_pay10]
  simp only [msq_eq, inv_eq, gain_eq]
  rfl

theorem bwd_eq (j : S1024x1024.Idx) :
    k0_pay1 x d (k0_pay9 a b e x g) (k0_pay10 a b e x g) j = rmsBwd (plus a b e) x d (row g) j := by
  pointwise [k0_pay1, k0_pay9]
  simp only [slope_eq, gain_eq, inv_eq, Fintype.sum_unique]
  rfl

theorem terms_eq (k : Fin 1024) : k0_pay7 a b e x (ix2 0 k) = ∑ i, gainTerm (plus a b e) x k i := by
  pointwise [k0_pay7]
  simp only [acc_eq, inv_eq]
  rfl

/-- The row that a grid point adds, and its store. -/
abbrev terms : Fin 1024 → EReal := fun k => ∑ i, gainTerm (plus a b e) x k i

theorem store_eq (old : Vec Ideal S8x1024 .f32) (k : Fin 1024) :
    k0_pay3 (k0_pay7 a b e x) (View.ld old (row0 inb_S8x1024_S1x1024_0_0)) (ix2 0 k) = (old (ix2 0 k) + terms a b e x k : EReal) := by
  pointwise [k0_pay3]
  rw [terms_eq]
end

section
variable (c : Dev nD) (i : grid0.Coords)
variable (a3 : Memref sig .tc .vmem S1024x128 .bf16) (h3 : a3.IsWhole) (a4 : Memref sig .tc .vmem S128x1024 .bf16) (h4 : a4.IsWhole)
variable (a5 : Memref sig .tc .vmem S1024x1024 .f32) (h5 : a5.IsWhole) (a6 : Memref sig .tc .vmem S1024x1024 .f32) (h6 : a6.IsWhole)
variable (a7 : Memref sig .tc .vmem S1024x1024 .f32) (h7 : a7.IsWhole) (a8 : Memref sig .tc .vmem S1x1024 .f32) (h8 : a8.IsWhole)
variable (a9 : Memref sig .tc .vmem S8x128 .f32) (h9 : a9.IsWhole) (a10 : Memref sig .tc .vmem S1024x1024 .f32) (h10 : a10.IsWhole)
variable (a11 : Memref sig .tc .vmem S8x1024 .f32) (h11 : a11.IsWhole)
variable (a : Vec Ideal S1024x128 .bf16) (b : Vec Ideal S128x1024 .bf16) (e x d : Vec Ideal S1024x1024 .f32) (g : Vec Ideal S1x1024 .f32)
variable (k : Vec Ideal S8x128 .f32) (old : Vec Ideal S8x1024 .f32)

/-- What the first grid point leaves, and what each further one does. -/
theorem first_bwd (hc : cond0_0 i) :
    out0_A_7 c i a3 h3 a4 h4 a5 h5 a6 h6 a7 h7 a8 h8 a9 h9 a10 h10 a11 h11 hc a b e x d g k = rmsBwd (plus a b e) x d (row g) := by
  unfold out0_A_7
  rw [View.read_writes_eq_canon _ _ _ (cover0_A_7 c i a3 h3 a4 h4 a5 h5 a6 h6 a7 h7 a8 h8 a9 h9 a10 h10 a11 h11 hc a b e x d g k)]
  unfold kernelRun0_A
  dsimp only
  sl_unfold_words
  simp (discharger := first | rfl | decide) only [View.readAt_eq_ld, Memref.IsWhole.read_unread]
  funext j
  rw [View.canon_cons_unit_lit _ _ _ (by decide), View.ld_unit_lit _ _ (by decide), View.ld_unit_lit _ _ (by decide),
    View.ld_unit_lit _ _ (by decide), View.ld_unit_lit _ _ (by decide), View.ld_unit_lit _ _ (by decide), View.ld_unit_lit _ _ (by decide)]
  exact bwd_eq a b e x d g j
theorem next_bwd (hc : ¬cond0_0 i) :
    out0_B_7 c i a3 h3 a4 h4 a5 h5 a6 h6 a7 h7 a8 h8 a9 h9 a10 h10 a11 h11 hc a b e x d g k old = rmsBwd (plus a b e) x d (row g) := by
  unfold out0_B_7
  rw [View.read_writes_eq_canon _ _ _ (cover0_B_7 c i a3 h3 a4 h4 a5 h5 a6 h6 a7 h7 a8 h8 a9 h9 a10 h10 a11 h11 hc a b e x d g k old)]
  unfold kernelRun0_B
  dsimp only
  sl_unfold_words
  simp (discharger := first | rfl | decide) only [View.readAt_eq_ld, Memref.IsWhole.read_unread]
  funext j
  rw [View.canon_cons_unit_lit _ _ _ (by decide), View.ld_unit_lit _ _ (by decide), View.ld_unit_lit _ _ (by decide),
    View.ld_unit_lit _ _ (by decide), View.ld_unit_lit _ _ (by decide), View.ld_unit_lit _ _ (by decide), View.ld_unit_lit _ _ (by decide)]
  exact bwd_eq a b e x d g j

theorem first_gain (hc : cond0_0 i) :
    out0_A_8 c i a3 h3 a4 h4 a5 h5 a6 h6 a7 h7 a8 h8 a9 h9 a10 h10 a11 h11 hc a b e x d g k = addRow (terms a b e x) (k0_pay2 (F := Ideal)) := by
  unfold out0_A_8
  rw [View.read_writes_eq_canon _ _ _ (cover0_A_8 c i a3 h3 a4 h4 a5 h5 a6 h6 a7 h7 a8 h8 a9 h9 a10 h10 a11 h11 hc a b e x d g k)]
  unfold kernelRun0_A
  dsimp only
  sl_unfold_words
  simp (discharger := first | rfl | decide) only [View.readAt_eq_ld, Memref.IsWhole.read_unread, ↓View.readCov_skip, ↓View.readCov_fill]
  rw [View.ld_unit_lit _ a (by decide), View.ld_unit_lit _ b (by decide), View.ld_unit_lit _ e (by decide), View.ld_unit_lit _ x (by decide)]
  exact canon_of _ _ _ (row_piece (store_eq a b e x _)) row_off _ (fun d => by fin_cases d <;> rfl)
theorem next_gain (hc : ¬cond0_0 i) :
    out0_B_8 c i a3 h3 a4 h4 a5 h5 a6 h6 a7 h7 a8 h8 a9 h9 a10 h10 a11 h11 hc a b e x d g k old = addRow (terms a b e x) old := by
  unfold out0_B_8
  unfold kernelRun0_B
  dsimp only
  sl_unfold_words
  simp only [View.readAt_eq_ld, Memref.IsWhole.read_unread]
  rw [View.ld_unit_lit _ a (by decide), View.ld_unit_lit _ b (by decide), View.ld_unit_lit _ e (by decide), View.ld_unit_lit _ x (by decide)]
  exact read_writes_of _ _ _ _ (row_piece (store_eq a b e x old)) (h11.read_unread .. ▸ row_off)
end

variable (m : (ℓ : Loc nD τ sig) → Buf (Elt Ideal) ℓ) (c : Dev nD)

/-- The weight's rows, the product added to the other share, and what the kernel returns: the gradient by the norm's input, and the
gain's in row 0 of eight. -/
abbrev wt : M2 128 1024 := padded (tail (m ((c : Thread nD τ).loc main_arg1)))
def prod : M2 4096 1024 := plus (m ((c : Thread nD τ).loc main_arg0)) (wt m c) (m ((c : Thread nD τ).loc main_arg2))
def res : M2 4096 1024 := rmsBwd (prod m c) (m ((c : Thread nD τ).loc main_arg3)) (m ((c : Thread nD τ).loc main_arg4))
  fun k => m ((c : Thread nD τ).loc main_arg5) (ix1 k)
def resGain : M2 8 1024 := inRow0 fun k => ∑ i, gainTerm (prod m c) (m ((c : Thread nD τ).loc main_arg3)) k i

theorem at_ : ∀ t : Fin cfg0.N, win0_0.index t = ![t.val, 0] ∧ win0_1.index t = ![0, 0] ∧ win0_2.index t = ![t.val, 0]
      ∧ win0_3.index t = ![t.val, 0] ∧ win0_4.index t = ![t.val, 0] ∧ win0_5.index t = ![0, 0] ∧ win0_7.index t = ![t.val, 0]
      ∧ win0_8.index t = ![0, 0] :=
  (by decide +kernel : ∀ t : Fin grid0.N, win0_0.index t = ![t.val, 0] ∧ win0_1.index t = ![0, 0] ∧ win0_2.index t = ![t.val, 0]
      ∧ win0_3.index t = ![t.val, 0] ∧ win0_4.index t = ![t.val, 0] ∧ win0_5.index t = ![0, 0] ∧ win0_7.index t = ![t.val, 0]
      ∧ win0_8.index t = ![0, 0])

/-- Where the result's block lies; the three matrices' blocks lie there too. -/
abbrev out (t : Fin cfg0.N) : I2 1024 1024 → I2 4096 1024 := ((cfg0.win 7).blk t).view.emb
theorem out_at (t : Fin cfg0.N) : At (t.val * 1024) 0 (out t) := fun j => by
  have e7 := (at_ t).2.2.2.2.2.2.1
  constructor
  · show win0_7.index t 0 * 1024 + 1 * (j 0).val = _
    rw [e7]; rfl
  · show win0_7.index t 1 * 1024 + 1 * (j 1).val = _
    rw [e7]; rfl
theorem out_eq {t : Fin cfg0.N} {e : I2 1024 1024 → I2 4096 1024} {i : Fin 2 → ℕ} (he : At (i 0 * 1024) (i 1 * 1024) e)
    (hi : i = ![t.val, 0]) : e = out t := by
  subst hi
  exact funext fun j => idx2 ((he j).1.trans (out_at t j).1.symm) ((he j).2.trans (by rw [(out_at t j).2]; rfl))

theorem other_at (t : Fin cfg0.N) : ((cfg0.win 2).blk t).view.emb = out t :=
  out_eq (i := win0_2.index t) (fun _ => ⟨rfl, rfl⟩) (at_ t).2.2.1
theorem norm_at (t : Fin cfg0.N) (j : I2 1024 1024) : iblk m c 3 t j = m ((c : Thread nD τ).loc main_arg3) (out t j) :=
  congrArg (m ((c : Thread nD τ).loc main_arg3)) (congrFun (out_eq (i := win0_3.index t) (fun _ => ⟨rfl, rfl⟩) (at_ t).2.2.2.1) j)
theorem resid_at (t : Fin cfg0.N) (j : I2 1024 1024) : iblk m c 4 t j = m ((c : Thread nD τ).loc main_arg4) (out t j) :=
  congrArg (m ((c : Thread nD τ).loc main_arg4)) (congrFun (out_eq (i := win0_4.index t) (fun _ => ⟨rfl, rfl⟩) (at_ t).2.2.2.2.1) j)

theorem rows_eq (t : Fin cfg0.N) : iblk m c 1 t = fun x => wt m c (((cfg0.win 1).blk t).view.emb x) := by
  funext x
  unfold iblk
  rw [View.read_apply]
  show StableHlo.after (List.flatten [hostOps0, hostOps0_1, hostOps0_2]) _ main_v1 _ = _
  after_results_simp
  exact congrFun (host_padded (m (c.tc.loc main_arg1)) (hw := slices_S4624x1024_S16x1024_4608_0) (hp := pads_S16x1024_S128x1024_01120_000)
    (hz := h_S_)) _

theorem prod_at (t : Fin cfg0.N) (j : I2 1024 1024) : plus (iblk m c 0 t) (iblk m c 1 t) (iblk m c 2 t) j = prod m c (out t j) := by
  obtain ⟨e0, e1, -⟩ := at_ t
  rw [rows_eq]
  exact plus_block (ea := ((cfg0.win 0).blk t).view.emb) (eb := ((cfg0.win 1).blk t).view.emb) (eo := out t)
    (fun _ => ⟨rfl, rfl⟩) (fun _ => ⟨rfl, rfl⟩) (out_at t) (other_at t) (by simp [e0]) (by simp [e0]) (by simp [e1]) (by simp [e1]) j
theorem gain_at (t : Fin cfg0.N) (k : Fin 1024) : row (iblk m c 5 t) k = m ((c : Thread nD τ).loc main_arg5) (ix1 k) := by
  have e5 := (at_ t).2.2.2.2.2.1
  unfold row iblk
  rw [View.read_apply]
  show StableHlo.after (List.flatten [hostOps0, hostOps0_1, hostOps0_2]) _ main_v2 _ = _
  after_results_simp
  refine Eq.trans ?_ (row_cast shapeCasts_S1024_S1x1024 k)
  refine congrArg _ (idx2 ?_ ?_)
  · show win0_5.index t 0 * 1 + 1 * 0 = 0
    rw [e5]; rfl
  · show win0_5.index t 1 * 1024 + 1 * k.val = k.val
    rw [e5]; simp

/-- What every grid point leaves in the gradient's block. -/
theorem bwd_at (t : Fin cfg0.N) :
    (outsAt0 m c t.val t.isLt).1 =
      rmsBwd (plus (iblk m c 0 t) (iblk m c 1 t) (iblk m c 2 t)) (iblk m c 3 t) (iblk m c 4 t) (row (iblk m c 5 t)) := by
  by_cases h0 : t.val % 4 = 0
  · rw [outsAt0_A m c t h0]; dsimp only; exact first_bwd ..
  · rw [outsAt0_B m c t h0]; dsimp only; exact next_bwd ..

theorem flushed_bwd (t : Fin cfg0.N) : (dats m 0 c).flushed 7 t = ((cfg0.win 7).blk t).view.read (Elt Ideal) (res m c) := by
  rw [flushed7, bwd_at]
  funext j
  exact rmsBwd_block (out_at t) rfl (prod_at m c t) (norm_at m c t) (resid_at m c t) (gain_at m c t) j

theorem arr : (dats m 0 c).arrAt 7 cfg0.N = res m c := by
  refine (dats m 0 c).arrAt_eq_of_cover 7 _ (fun t _ => flushed_bwd m c t) fun i => ?_
  have h0 : (i 0).val < 4096 := (i 0).isLt
  have h1 : (i 1).val < 1024 := (i 1).isLt
  obtain ⟨t, ht⟩ : ∃ t : Fin cfg0.N, t.val = (i 0).val / 1024 := ⟨⟨_, lt_of_lt_of_eq (by omega) N_0.symm⟩, rfl⟩
  refine ⟨t, flush0_7 _, ?_⟩
  show i ∈ ((View.whole main_v3_0).slice (win0_7.rect t)).set
  rw [View.set_slice_whole, Rect.mem_set_unit]
  exact near i (n := 1024) (m := 1024) (by decide) (by decide) ((at_ t).2.2.2.2.2.2.1.trans (by rw [ht, Nat.div_eq_of_lt h1]))

/-- What each point adds to the gain's gradient, and what is there after the last. -/
abbrev pt (n : ℕ) (h : n < 4) : Fin cfg0.N := ⟨n, lt_of_lt_of_eq h N_0.symm⟩
abbrev adds (t : Fin cfg0.N) : Fin 1024 → EReal := terms (iblk m c 0 t) (iblk m c 1 t) (iblk m c 2 t) (iblk m c 3 t)

theorem gain_first (t : Fin cfg0.N) (h0 : t.val % 4 = 0) : (outsAt0 m c t.val t.isLt).2 = addRow (adds m c t) (k0_pay2 (F := Ideal)) := by
  rw [outsAt0_A m c t h0]; dsimp only; exact first_gain ..
theorem gain_next (t : Fin cfg0.N) (h0 : ¬t.val % 4 = 0) :
    (outsAt0 m c t.val t.isLt).2 = addRow (adds m c t) (outsAt0 m c (t.val - 1) (Nat.lt_of_le_of_lt (Nat.sub_le _ _) t.isLt)).2 := by
  rw [outsAt0_B m c t h0]; dsimp only; exact next_gain ..

theorem gain_last : (outsAt0 m c 3 (pt 3 (by omega)).isLt).2 = resGain m c := by
  refine (rows_added (L := 3) (M := 4) rfl (fun n h => (outsAt0 m c n (pt n h).isLt).2) (fun i => adds m c (pt i.val i.isLt))
    (z := k0_pay2 (F := Ideal)) (fun y => by unfold k0_pay2; pointwise) (gain_first m c (pt 0 (by omega)) rfl)
    fun n h => gain_next m c (pt (n + 1) h) (by show ¬(n + 1) % 4 = 0; omega)).trans (congrArg inRow0 (funext fun k => ?_))
  exact gainTerm_blocks (a := 4) (b := 1024) (e := fun t => out (pt t.val t.isLt)) (fun t => out_at (pt t.val t.isLt))
    (fun t => prod_at m c (pt t.val t.isLt)) (fun t => norm_at m c (pt t.val t.isLt)) k

theorem whole8 (t : Fin cfg0.N) (j : S8x1024.Idx) : ((cfg0.win 8).blk t).view.emb j = j := by
  have e8 := (at_ t).2.2.2.2.2.2.2
  refine idx2 ?_ ?_
  · show win0_8.index t 0 * 8 + 1 * (j 0).val = (j 0).val
    rw [e8]; simp
  · show win0_8.index t 1 * 1024 + 1 * (j 1).val = (j 1).val
    rw [e8]; simp

/-- The last point. -/
abbrev tl : Fin cfg0.N := pt 3 (by omega)
theorem last_of {t : Fin cfg0.N} (h : t.val % 4 = 3) : t = tl :=
  Fin.ext (by have : t.val < 4 := lt_of_lt_of_eq t.isLt N_0; simp only; omega)

theorem arrGain : (dats m 0 c).arrAt 8 cfg0.N = resGain m c := by
  refine (dats m 0 c).arrAt_eq_of_cover 8 (resGain m c) (fun t hf => ?_) fun i =>
    ⟨tl, (flush0_8 tl).mpr rfl, whole8 tl i ▸ View.emb_mem_set _ _⟩
  obtain rfl := last_of ((flush0_8 t).mp hf)
  rw [flushed8, show (outsAt0 m c tl.val tl.isLt).2 = _ from gain_last m c]
  funext j
  show resGain m c j = resGain m c (((cfg0.win 8).blk tl).view.emb j)
  rw [whole8]

open Cert.RefDh1dtIdeal.Read in
/-- The reference's product of sixteen columns, its norm's mean of squares, and its slope. -/
theorem ref_prod (a : M2 4096 128) (b : M2 4624 1024) (e : M2 4096 1024) : val_main_v23 (F := Ideal) a b e = plus a (padded (tail b)) e := by
  funext i
  rw [val_main_v23_apply, val_main_v22_apply]
  refine (add_comm _ _).trans (congrArg (· + e i) ?_)
  rw [nn_padded]
  refine Finset.sum_congr rfl fun k _ => congrArg₂ (· * ·) ?_ ?_
  · rw [val_main_v21_apply, val_main_v20_apply]
    exact congrArg a (idx2 rfl rfl)
  · rw [val_main_v2_apply, val_main_v1_apply, val_main_v0_apply]
    exact congrArg b (idx2 rfl rfl)

open Cert.RefDh1dtIdeal.Read in
theorem ref_msq (x : M2 4096 1024) (i : I2 4096 1) : val_main_v9 (F := Ideal) x i = msq x (i 0) := by
  rw [val_main_v9_apply, val_main_v7_apply, val_main_v8_apply, val_main_v6_apply, val_main_v5_apply, val_main_v4_apply]
  simp only [val_main_v3_apply, val_main_cst_apply, val_main_cst_0_apply, val_main_cst_1_apply]
  refine congrArg₂ (· + ·) (congrArg₂ Ideal.div ((congrArg (· + _) zero_bits).trans ((zero_add _).trans ?_)) rfl) rfl
  exact Finset.sum_congr rfl fun k _ => by
    have e : idx_main_v4 (idx_main_v5 i) k = ix2 (i 0) k := idx2 rfl rfl
    rw [e]; rfl

variable (a : M2 4096 128) (b : M2 4624 1024) (e x d : M2 4096 1024) (g : (⟨1, ![1024]⟩ : Shape).Idx → EReal)

open Cert.RefDh1dtIdeal.Read in
theorem ref_slope (i : I2 4096 1024) :
    val_main_v39 (F := Ideal) a b e x g i = slope (plus a (padded (tail b)) e) x (fun k => g (ix1 k)) (i 0) := by
  rw [val_main_v39_apply, val_main_v38_apply]
  refine (congrArg₂ (· + ·) zero_bits (Fintype.sum_unique _)).trans ((zero_add _).trans ?_)
  rw [val_main_v37_apply, val_main_v36_apply, val_main_v35_apply, val_main_v32_apply, val_main_v31_apply, val_main_v13_apply, val_main_v12_apply,
    val_main_v11_apply, val_main_v10_apply, ref_msq]
  simp only [val_main_cst_2_apply, val_main_cst_5_apply, val_main_cst_6_apply]
  refine congrArg₂ Ideal.div (congrArg₂ (· * ·) ((congrArg (· + _) zero_bits).trans ((zero_add _).trans ?_)) rfl) rfl
  refine Finset.sum_congr rfl fun k _ => ?_
  rw [val_main_v30_apply, val_main_v28_apply, ref_prod, val_main_v27_apply, val_main_v16_apply]
  have h : idx_main_v31 (idx_main_v32 (idx_main_v38 (idx_main_v39 i) default)) k = ix2 (i 0) k :=
    idx2 (by show (i 0).val * 1 + 0 = (i 0).val; omega) rfl
  refine congrArg₂ (· * ·) (congrArg x h) (congrArg₂ (· * ·) (congrArg (plus a (padded (tail b)) e) h) (congrArg g ?_))
  exact funext fun a => Fin.ext (match a with | ⟨0, _⟩ => rfl)

open Cert.RefDh1dtIdeal.Read in
theorem ref : val_main_v44 (F := Ideal) a b e x d g = rmsBwd (plus a (padded (tail b)) e) x d fun k => g (ix1 k) := by
  funext i
  rw [val_main_v44_apply, val_main_v43_apply, val_main_v41_apply, val_main_v42_apply, val_main_v40_apply, val_main_v34_apply, val_main_v33_apply,
    val_main_v10_apply, val_main_v28_apply, val_main_v27_apply, val_main_v16_apply, ref_msq, ref_slope, ref_prod]
  refine congrArg (d i + ·) (congrArg (· + _) (congrArg (· + _) (congrArg (· * _) (congrArg (plus a (padded (tail b)) e i * ·) (congrArg g ?_)))))
  exact funext fun a => Fin.ext (match a with | ⟨0, _⟩ => rfl)

open Cert.RefDh1dtIdeal.Read in
/-- Its sum of the gain's terms over the rows, and that sum set in row 0 of zeros. -/
theorem ref_terms (k : Fin 1024) :
    val_main_v45 (F := Ideal) a b e x (ix2 0 k) = ∑ i, gainTerm (plus a (padded (tail b)) e) x k i := by
  rw [val_main_v45_apply, val_main_v29_apply]
  refine (congrArg₂ (· + ·) zero_bits (Fintype.sum_unique _)).trans ((zero_add _).trans ?_)
  rw [val_main_v26_apply, val_main_v25_apply]
  refine (congrArg (· + _) zero_bits).trans ((zero_add _).trans ?_)
  refine Finset.sum_congr rfl fun r _ => ?_
  rw [val_main_v24_apply, val_main_v15_apply, val_main_v14_apply, val_main_v10_apply, ref_msq, ref_prod]
  have h : idx_main_v25 (idx_main_v26 (idx_main_v29 (idx_main_v45 (ix2 0 k)) default)) r = ix2 r k :=
    idx2 rfl (by show 0 * 1024 + k.val = k.val; omega)
  exact congrArg₂ (· * ·) (congrArg₂ (· * ·) (congrArg x h) rfl) (congrArg (plus a (padded (tail b)) e) h)

open Cert.RefDh1dtIdeal.Read in
theorem ref_gain : val_main_v46 (F := Ideal) a b e x = inRow0 fun k => ∑ i, gainTerm (plus a (padded (tail b)) e) x k i := by
  funext y
  unfold val_main_v46 inRow0
  split
  · next h =>
    refine (pad_apply_of_inside _ _ _ _ _ _ _ y (ix2 0 (y 1)) fun a => match a with
      | ⟨0, _⟩ => h
      | ⟨1, _⟩ => by show (y 1).val = 0 + (y 1).val * 1; omega).trans ?_
    exact ref_terms a b e x (y 1)
  · next h =>
    refine (pad_apply_of_not_inside _ _ _ _ _ _ _ y 0 fun hin => h ?_).trans ?_
    · have : ((y 0).val - 0) / 1 < 1 := hin.2.2
      omega
    · rw [val_main_call0_v0_apply]
      show ((((0#32 : BitVec 32).toInt : ℝ)) : EReal) = 0
      simp

theorem frame_r : Cert.quiescent_RefDh1dtIdeal := fun m ρ _ => (θ_run Cert.RefDh1dtIdeal.defs _ _).mono
  (fun r h => ⟨fun c => (h c).2.2, sem_eq_zero_of_no_sems (by decide) r.2⟩) (Cert.RefDh1dtIdeal.Value.run (F := Ideal) m ρ)

theorem value : Cert.algebraic_Dh1dtIdeal_RefDh1dtIdeal := by
  intro m ρ m' ρ' _ hm
  refine ⟨fun c => res m c, fun c => resGain m c,
    (θ_run defs _ _).mono (fun _ h c => ⟨(h c).1.trans (arr m c), (h c).2.1.trans (arrGain m c), (h c).2.2⟩) (run_blocks m ρ),
    (θ_run Cert.RefDh1dtIdeal.defs _ _).mono (fun r h c => ⟨(h c).1.trans ?_, (h c).2.1.trans ?_, (h c).2.2⟩)
      (Cert.RefDh1dtIdeal.Value.run (F := Ideal) m' ρ')⟩
  all_goals obtain ⟨e0, e1, e2, e3, e4, e5, -⟩ := hm c
  · rw [Cert.RefDh1dtIdeal.Read.val_main_v44_eq]
    exact (congr (congr (congr (congr (congrArg₂ (Cert.RefDh1dtIdeal.Read.val_main_v44 (F := Ideal)) e0 e1) e2) e3) e4) e5).trans (ref _ _ _ _ _ _)
  · refine (Cert.RefDh1dtIdeal.Read.val_main_v46_eq (F := Ideal) _ _ _ _).trans ?_
    exact (congr (congr (congrArg₂ (Cert.RefDh1dtIdeal.Read.val_main_v46 (F := Ideal)) e0 e1) e2) e3).trans (ref_gain _ _ _ _)

end Cert.MmDh1dt

end
-- ==== Proof.Adam.Pack.lean ====
/-
  AdamW of arrays that are packed together.

  A packing lays a family of arrays out in one array, and does so whatever the entries are: it commutes with every function of an entry
  (`Packing`). AdamW is such a function, of an entry's gradient, weight and two moments, and gives zero where the four are zero, as they
  are in the rows added at the end. So AdamW of the packed arrays is the packing of AdamW of each (`Packing.combine`).

  The kernel multiplies the two moments by the reciprocals of the factors that the reference divides them by (`delta_eq`).
-/
module

public import proofs.«01_k».proof.Proof.Mm.Norm
public import Idealize.ShloMosaic.Lib.KernelVsHost

@[expose] public section

noncomputable section

namespace Cert.Adam

open Idealize.ShloMosaic

/-! ## Layouts that commute with a function of the entries -/

section
variable {α β : Type}

/-- The position that `locate` finds, counted from the start. -/
theorem locate_start : ∀ (ns : List ℕ) (k : ℕ) (h : k < ns.sum), (ns.take (locate ns k h).1.val).sum + (locate ns k h).2.val = k
  | [], _, h => absurd h (by simp)
  | n :: ns, k, h => by
    by_cases hc : k < n
    · have e : locate (n :: ns) k h = ⟨⟨0, Nat.zero_lt_succ _⟩, ⟨k, hc⟩⟩ := by rw [locate, dif_pos hc]
      rw [e]
      simp
    · have hs : k - n < ns.sum := by rw [List.sum_cons] at h; omega
      have e : locate (n :: ns) k h = ⟨(locate ns (k - n) hs).1.succ, (locate ns (k - n) hs).2⟩ := by rw [locate, dif_neg hc]
      have ih := locate_start ns (k - n) hs
      rw [e]
      show ((n :: ns).take ((locate ns (k - n) hs).1.val + 1)).sum + (locate ns (k - n) hs).2.val = k
      rw [List.take_succ_cons, List.sum_cons]
      omega

/-- A piece with a function applied to its entries. -/
abbrev mapPiece (f : α → β) (p : (s : Shape) × (s.Idx → α)) : (s : Shape) × (s.Idx → β) := ⟨p.1, fun i => f (p.2 i)⟩

theorem concatenate_map (f : α → β) {t : Shape} (a : Fin t.rank) (xs : List ((s : Shape) × (s.Idx → α)))
    (h : Shape.Concatenates (xs.map (·.1)) t a) (h' : Shape.Concatenates ((xs.map (mapPiece f)).map (·.1)) t a) (j : t.Idx) :
    concatenate t a (xs.map (mapPiece f)) h' j = f (concatenate t a xs h j) := by
  have hs : (j a).val < ((xs.map (·.1)).map fun s => if h : s.rank = t.rank then s.size (a.cast h.symm) else 0).sum := by
    rw [h.2.2]; exact (j a).isLt
  have hl := locate_start _ _ hs
  have hk : (locate _ _ hs).1.val < xs.length := by simpa using (locate _ _ hs).1.isLt
  have hr : xs[(locate _ _ hs).1.val].1.rank = t.rank := (h.2.1 _ (List.mem_map.2 ⟨_, List.getElem_mem hk, rfl⟩)).1
  refine concatenate_apply_piece a _ h' j (locate _ _ hs).1.val (by simpa using hk) xs[(locate _ _ hs).1.val].1
    (fun i => f (xs[(locate _ _ hs).1.val].2 i)) (by simp) hr
    (((xs.map (·.1)).map fun s => if h : s.rank = t.rank then s.size (a.cast h.symm) else 0).take (locate _ _ hs).1.val).sum
    (by simp [List.map_take, Function.comp_def]) _ (fun b hb => ?_) ?_
  · simp only [dif_neg hb]; rfl
  · split
    · exact hl
    · next hb => exact absurd (Fin.ext rfl) hb

theorem pad_map (f : α → β) {s t u : Shape} {lo hi int : Fin s.rank → ℕ} {x : s.Idx → α} {x' : s.Idx → β} (hx : ∀ i, x' i = f (x i))
    (v : u.Idx → α) (hp : s.Pads lo hi int t) (hu : 0 < u.numel) (y : t.Idx) :
    pad t lo hi int x' (fun i => f (v i)) hp hu y = f (pad t lo hi int x v hp hu y) := by
  obtain rfl : x' = fun i => f (x i) := funext hx
  unfold pad
  split <;> rfl
end

/-- The entry that fills up. -/
theorem fill : sitofp (F := Ideal) .f32 (constantI (⟨0, ![]⟩ : Shape) 32 0#32) = fun _ => (0 : EReal) := by
  funext i
  show ((((0#32 : BitVec 32).toInt : ℝ)) : EReal) = 0
  simp

/-- A way to lay a family of arrays out in one array, filling up with a given entry. -/
structure Packing {N : ℕ} (sh : Fin N → Shape) (t : Shape) where
  /-- The array that holds the family. -/
  pack : ∀ {α : Type}, α → (∀ n, (sh n).Idx → α) → t.Idx → α
  /-- A function of the entries may be applied before or after. -/
  map : ∀ {α β : Type} (f : α → β) (z : α) (x : ∀ n, (sh n).Idx → α) (y : t.Idx), pack (f z) (fun n i => f (x n i)) y = f (pack z x y)

/-- An entry's gradient, weight and two moments. -/
structure Entry where
  g : EReal
  w : EReal
  m : EReal
  v : EReal

section
variable {N : ℕ} {sh : Fin N → Shape} {t : Shape} (P : Packing sh t)

theorem Packing.combine (φ : Entry → EReal) (hφ : φ ⟨0, 0, 0, 0⟩ = 0) (g w m v : ∀ n, (sh n).Idx → EReal) (y : t.Idx) :
    P.pack 0 (fun n i => φ ⟨g n i, w n i, m n i, v n i⟩) y = φ ⟨P.pack 0 g y, P.pack 0 w y, P.pack 0 m y, P.pack 0 v y⟩ := by
  have e : φ ⟨P.pack 0 g y, P.pack 0 w y, P.pack 0 m y, P.pack 0 v y⟩
      = φ (P.pack ⟨0, 0, 0, 0⟩ (fun n i => ⟨g n i, w n i, m n i, v n i⟩) y) :=
    congrArg φ (by
      have hf := fun f : Entry → EReal => P.map f ⟨0, 0, 0, 0⟩ (fun n i => ⟨g n i, w n i, m n i, v n i⟩) y
      rw [show P.pack 0 g y = _ from hf Entry.g, show P.pack 0 w y = _ from hf Entry.w, show P.pack 0 m y = _ from hf Entry.m,
        show P.pack 0 v y = _ from hf Entry.v])
  rw [e, ← P.map φ, hφ]
end

/-! ## AdamW of an entry -/

/-- The new first moment. -/
def newM (p : Entry) : EReal := Ideal.ofBits .f32 0x3F666666#32 * p.m + Ideal.ofBits .f32 0x3DCCCCCD#32 * p.g
/-- The new second moment. -/
def newV (p : Entry) : EReal := Ideal.ofBits .f32 0x3F7FBE77#32 * p.v + Ideal.ofBits .f32 0x3A83126F#32 * (p.g * p.g)
/-- The weight's change, from the two corrected moments. -/
def change (a r w : EReal) : EReal :=
  Ideal.ofBits .f32 0xBA83126F#32 * (Ideal.div a (Ideal.sqrt r + Ideal.ofBits .f32 0x322BCC77#32) + Ideal.ofBits .f32 0x3C23D70A#32 * w)
/-- The weight's change: each moment is divided by its factor first. -/
def delta (p : Entry) : EReal :=
  change (Ideal.div (newM p) (Ideal.ofBits .f32 0x3F26BD02#32)) (Ideal.div (newV p) (Ideal.ofBits .f32 0x3C231ACC#32)) p.w

theorem first_factor : Ideal.ofBits .f32 0x3F26BD02#32 = ((5463681 / 8388608 : ℝ) : EReal) := by
  simp [Ideal.ofBits, Ideal.ieee, -EReal.coe_mul]; norm_num
theorem second_factor : Ideal.ofBits .f32 0x3C231ACC#32 = ((2672307 / 268435456 : ℝ) : EReal) := by
  simp [Ideal.ofBits, Ideal.ieee, -EReal.coe_mul]; norm_num
theorem eps_ne : Ideal.ofBits .f32 0x322BCC77#32 ≠ 0 := by
  have h : Ideal.ofBits .f32 0x322BCC77#32 = ((11258999 / 1125899906842624 : ℝ) : EReal) := by
    simp [Ideal.ofBits, Ideal.ieee, -EReal.coe_mul]; norm_num
  rw [h]
  exact_mod_cast (by norm_num : (11258999 / 1125899906842624 : ℝ) ≠ 0)

/-- Division by the factors is multiplication by their reciprocals. -/
theorem delta_eq (p : Entry) :
    change (newM p * ((8388608 / 5463681 : ℝ) : EReal)) (newV p * ((268435456 / 2672307 : ℝ) : EReal)) p.w = delta p := by
  unfold delta
  rw [first_factor, second_factor, Ideal.div_coe (by norm_num), Ideal.div_coe (by norm_num)]
  norm_num

theorem div_zero_of {y : EReal} (h : y ≠ 0) : Ideal.div 0 y = 0 := by
  unfold Ideal.div
  rw [if_neg h, zero_mul]
theorem newM_zero : newM ⟨0, 0, 0, 0⟩ = 0 := by simp [newM]
theorem newV_zero : newV ⟨0, 0, 0, 0⟩ = 0 := by simp [newV]
theorem sqrt_zero : Ideal.sqrt 0 = 0 := by
  show (if (0 : ℝ) < 0 then (⊥ : EReal) else ((Real.sqrt 0 : ℝ) : EReal)) = 0
  simp
theorem delta_zero : delta ⟨0, 0, 0, 0⟩ = 0 := by
  rw [← delta_eq, newM_zero, newV_zero]
  simp only [zero_mul, change, sqrt_zero, zero_add, div_zero_of eps_ne, mul_zero, add_zero]

/-! ## The reference's operations, for an array of any shape -/

section
variable {s : Shape} (h : Shape.BroadcastsInDim (⟨0, ![]⟩ : Shape) s ![]) (g w m v : FVec Ideal s .f32)

/-- A number at every entry. -/
abbrev splat (b : BitVec 32) : FVec Ideal s .f32 := broadcastInDim s ![] h (constant (⟨0, ![]⟩ : Shape) .f32 b)

abbrev hostM : FVec Ideal s .f32 := addf (mulf (splat h 0x3F666666#32) m) (mulf (splat h 0x3DCCCCCD#32) g)
abbrev hostV : FVec Ideal s .f32 := addf (mulf (splat h 0x3F7FBE77#32) v) (mulf (splat h 0x3A83126F#32) (mulf g g))
abbrev hostDelta : FVec Ideal s .f32 :=
  mulf (splat h 0xBA83126F#32) (addf (Host.divf (Host.divf (hostM h g m) (splat h 0x3F26BD02#32))
    (addf (Host.sqrt (Host.divf (hostV h g v) (splat h 0x3C231ACC#32))) (splat h 0x322BCC77#32))) (mulf (splat h 0x3C23D70A#32) w))

theorem hostM_eq : hostM h g m = fun i => newM ⟨g i, w i, m i, v i⟩ := rfl
theorem hostV_eq : hostV h g v = fun i => newV ⟨g i, w i, m i, v i⟩ := rfl
theorem hostDelta_eq : hostDelta h g w m v = fun i => delta ⟨g i, w i, m i, v i⟩ := rfl
end

end Cert.Adam

end
-- ==== Proof.Adam.Conv.lean ====
/-
  AdamW of the three weights whose gradients every device sums over the others: the two convolutions' and the last norm's gain.
-/
module

public import proofs.«01_k».proof.Defs
public import proofs.«01_k».proof.Proof.Gen.AdamConv.Frame
public import proofs.«01_k».proof.Proof.Gen.AdamConvIdeal.Frame
public import proofs.«01_k».proof.Proof.Gen.AdamConvIdeal.Value
public import proofs.«01_k».proof.Proof.Gen.RefAdamConvIdeal.Run
public import proofs.«01_k».proof.Proof.Gen.RefAdamConvIdeal.Read
public import proofs.«01_k».proof.Proof.Adam.Pack
public import Idealize.ShloMosaic.Lib.Quiescent
public import Idealize.ShloMosaic.Lib.KernelVsHost

@[expose] public section

set_option maxRecDepth 16384

noncomputable section

namespace Cert.AdamThree

open Cert.AdamConvIdeal Cert.AdamConvIdeal.Gen Cert.AdamConvIdeal.Value Cert.Mm Cert.Adam
open Idealize.ShloMosaic Idealize.ShloMosaic.TcCoe Idealize.ShloMosaic.Tactic Idealize.SL.Sem

/-! ## One block -/

section
variable (g : Vec Ideal S1x256x128 .f32) (w m v : Vec Ideal S256x128 .f32) (j : S256x128.Idx)

/-- The entry at one place of the four blocks. -/
abbrev at1 : Entry := ⟨g (ix3 0 (j 0) (j 1)), w j, m j, v j⟩

theorem grad_eq : k0_pay2 g j = g (ix3 0 (j 0) (j 1)) := by
  pointwise [k0_pay2]

theorem newM_eq : k0_pay3 g m j = newM (at1 g w m v j) := by
  pointwise [k0_pay3]
  rw [grad_eq]
  rfl

theorem newV_eq : k0_pay4 g v j = newV (at1 g w m v j) := by
  pointwise [k0_pay4]
  rw [grad_eq]
  rfl

theorem change_eq : k0_pay1 (k0_pay5 g m v) (k0_pay6 w) j = delta (at1 g w m v j) := by
  pointwise [k0_pay1, k0_pay5, k0_pay6]
  rw [newM_eq g w m v j, newV_eq g w m v j, ← delta_eq]
  rfl

theorem out4_eq : out0_4 g w m v j = g (ix3 0 (j 0) (j 1)) := by
  unfold out0_4
  rw [View.canon_cons_unit_lit _ _ _ (by decide), View.ld_unit_lit _ _ (by decide)]
  exact grad_eq ..
theorem out5_eq : out0_5 g w m v j = delta (at1 g w m v j) := by
  unfold out0_5
  rw [View.canon_cons_unit_lit _ _ _ (by decide), View.ld_unit_lit _ g (by decide), View.ld_unit_lit _ w (by decide),
    View.ld_unit_lit _ m (by decide), View.ld_unit_lit _ v (by decide)]
  exact change_eq ..
theorem out6_eq : out0_6 g w m v j = newM (at1 g w m v j) := by
  unfold out0_6
  rw [View.canon_cons_unit_lit _ _ _ (by decide), View.ld_unit_lit _ g (by decide), View.ld_unit_lit _ m (by decide)]
  exact newM_eq ..
theorem out7_eq : out0_7 g w m v j = newV (at1 g w m v j) := by
  unfold out0_7
  rw [View.canon_cons_unit_lit _ _ _ (by decide), View.ld_unit_lit _ g (by decide), View.ld_unit_lit _ v (by decide)]
  exact newV_eq ..
end

/-! ## The layout -/

/-- The three weights' shapes. -/
abbrev sh : Fin 3 → Shape := ![S4x31x64, S4x4x192, S1024]

section
variable {α : Type}

def fam (x0 : S4x31x64.Idx → α) (x1 : S4x4x192.Idx → α) (x2 : S1024.Idx → α) : ∀ n, (sh n).Idx → α
  | 0 => x0
  | 1 => x1
  | 2 => x2

/-- One after another, in rows of 128, filled up to 256 rows. -/
def lay (v : S_.Idx → α) (x : ∀ n, (sh n).Idx → α) : S256x128.Idx → α :=
  pad S256x128 ![0, 0] ![162, 0] ![0, 0] (shapeCast S94x128 (concatenate S12032 0
    [⟨S7936, shapeCast S7936 (x 0) shapeCasts_S4x31x64_S7936⟩, ⟨S3072, shapeCast S3072 (x 1) shapeCasts_S4x4x192_S3072⟩, ⟨S1024, x 2⟩]
    concatenates_S7936_S3072_S1024_S12032_d0) shapeCasts_S12032_S94x128) v pads_S94x128_S256x128_01620_000 h_S_
end

def packing : Packing sh S256x128 where
  pack z x := lay (fun _ => z) x
  map f z x y := pad_map f (fun _ => concatenate_map f 0 [⟨S7936, shapeCast S7936 (x 0) shapeCasts_S4x31x64_S7936⟩,
    ⟨S3072, shapeCast S3072 (x 1) shapeCasts_S4x4x192_S3072⟩, ⟨S1024, x 2⟩] concatenates_S7936_S3072_S1024_S12032_d0
    concatenates_S7936_S3072_S1024_S12032_d0 _) (fun _ => z) _ _ y

theorem lay_fill (x : ∀ n, (sh n).Idx → EReal) : lay (sitofp (F := Ideal) .f32 (constantI S_ 32 0#32)) x = packing.pack 0 x :=
  congrArg (fun v => lay v x) fill

/-! ## The kernel's arrays -/

variable (m : (ℓ : Loc nD τ sig) → Buf (Elt Ideal) ℓ) (c : Dev nD)

abbrev gs : ∀ n, (sh n).Idx → EReal :=
  fam (m ((c : Thread nD τ).loc main_arg0)) (m ((c : Thread nD τ).loc main_arg1)) (m ((c : Thread nD τ).loc main_arg2))
abbrev ws : ∀ n, (sh n).Idx → EReal :=
  fam (m ((c : Thread nD τ).loc main_arg3)) (m ((c : Thread nD τ).loc main_arg4)) (m ((c : Thread nD τ).loc main_arg5))
abbrev ms : ∀ n, (sh n).Idx → EReal :=
  fam (m ((c : Thread nD τ).loc main_arg6)) (m ((c : Thread nD τ).loc main_arg7)) (m ((c : Thread nD τ).loc main_arg8))
abbrev vs : ∀ n, (sh n).Idx → EReal :=
  fam (m ((c : Thread nD τ).loc main_arg9)) (m ((c : Thread nD τ).loc main_arg10)) (m ((c : Thread nD τ).loc main_arg11))

/-- The four arrays that the kernel reads are the four families, packed. -/
theorem slabs : V m c main_v20 = broadcastInDim S1x256x128 ![1, 2] bcast_S256x128_S1x256x128_1_2 (packing.pack 0 (gs m c))
    ∧ V m c main_v9 = packing.pack 0 (ws m c) ∧ V m c main_v14 = packing.pack 0 (ms m c) ∧ V m c main_v19 = packing.pack 0 (vs m c) := by
  simp only [← lay_fill]
  refine ⟨?_, ?_, ?_, ?_⟩ <;>
  · show StableHlo.after (List.flatten [hostOps0, hostOps0_1, hostOps0_2, hostOps0_3, hostOps0_4, hostOps0_5, hostOps0_6, hostOps0_7, hostOps0_8])
      _ _ = _
    simp only [List.flatten_cons, List.flatten_nil, List.append_nil, List.cons_append, List.nil_append, hostOps0, hostOps0_1, hostOps0_2,
      hostOps0_3, hostOps0_4, hostOps0_5, hostOps0_6, hostOps0_7, hostOps0_8, StableHlo.TRef.binary, StableHlo.TRef.unary,
      StableHlo.TRef.toBuf, StableHlo.TRef.ofBuf, cast_eq]
    after_results_simp <;> (try dsimp only [Matrix.cons_val]) <;> (try after_results_simp)
    rfl

/-- The packed arrays' entry at a place. -/
abbrev entry (y : S256x128.Idx) : Entry :=
  ⟨packing.pack 0 (gs m c) y, packing.pack 0 (ws m c) y, packing.pack 0 (ms m c) y, packing.pack 0 (vs m c) y⟩

theorem at_ : ∀ t : Fin cfg0.N, win0_0.index t = ![0, t.val, 0] ∧ win0_1.index t = ![t.val, 0] ∧ win0_2.index t = ![t.val, 0]
      ∧ win0_3.index t = ![t.val, 0] ∧ win0_4.index t = ![t.val, 0] ∧ win0_5.index t = ![t.val, 0] ∧ win0_6.index t = ![t.val, 0]
      ∧ win0_7.index t = ![t.val, 0] :=
  (by decide +kernel : ∀ t : Fin grid0.N, win0_0.index t = ![0, t.val, 0] ∧ win0_1.index t = ![t.val, 0] ∧ win0_2.index t = ![t.val, 0]
      ∧ win0_3.index t = ![t.val, 0] ∧ win0_4.index t = ![t.val, 0] ∧ win0_5.index t = ![t.val, 0] ∧ win0_6.index t = ![t.val, 0]
      ∧ win0_7.index t = ![t.val, 0])

/-- Where a block of the results lies; the weights' and the moments' lie there too. -/
abbrev out (t : Fin cfg0.N) : I2 256 128 → I2 256 128 := ((cfg0.win 4).blk t).view.emb
theorem out_at (t : Fin cfg0.N) : At (t.val * 256) 0 (out t) := fun j => by
  have e := (at_ t).2.2.2.2.1
  constructor
  · show win0_4.index t 0 * 256 + 1 * (j 0).val = _
    rw [e]; rfl
  · show win0_4.index t 1 * 128 + 1 * (j 1).val = _
    rw [e]; rfl
theorem out_eq {t : Fin cfg0.N} {e : I2 256 128 → I2 256 128} {i : Fin 2 → ℕ} (he : At (i 0 * 256) (i 1 * 128) e) (hi : i = ![t.val, 0])
    (j : I2 256 128) : e j = out t j := by
  subst hi
  exact idx2 ((he j).1.trans (out_at t j).1.symm) ((he j).2.trans (by rw [(out_at t j).2]; rfl))

/-- A block read from an array that is known. -/
theorem read0 (t : Fin cfg0.N) (x) {A} (h : V m c main_v20 = A) : iblk m c 0 t x = A (((cfg0.win 0).blk t).view.emb x) := by
  subst h; rfl
theorem read1 (t : Fin cfg0.N) (x) {A} (h : V m c main_v9 = A) : iblk m c 1 t x = A (((cfg0.win 1).blk t).view.emb x) := by
  subst h; rfl
theorem read2 (t : Fin cfg0.N) (x) {A} (h : V m c main_v14 = A) : iblk m c 2 t x = A (((cfg0.win 2).blk t).view.emb x) := by
  subst h; rfl
theorem read3 (t : Fin cfg0.N) (x) {A} (h : V m c main_v19 = A) : iblk m c 3 t x = A (((cfg0.win 3).blk t).view.emb x) := by
  subst h; rfl

theorem entry_at (t : Fin cfg0.N) (j : S256x128.Idx) :
    at1 (iblk m c 0 t) (iblk m c 1 t) (iblk m c 2 t) (iblk m c 3 t) j = entry m c (out t j) := by
  obtain ⟨e0, e1, e2, e3, -⟩ := at_ t
  obtain ⟨hg, hw, hm, hv⟩ := slabs m c
  have g : iblk m c 0 t (ix3 0 (j 0) (j 1)) = packing.pack 0 (gs m c) (out t j) := by
    refine (read0 m c t _ hg).trans (congrArg (packing.pack 0 (gs m c)) (idx2 (((out_at t j).1.trans ?_).symm) (((out_at t j).2.trans ?_).symm)))
    · show t.val * 256 + 1 * (j 0).val = win0_0.index t 1 * 256 + 1 * (j 0).val
      rw [e0]; rfl
    · show 0 + 1 * (j 1).val = win0_0.index t 2 * 128 + 1 * (j 1).val
      rw [e0]; rfl
  have w : iblk m c 1 t j = packing.pack 0 (ws m c) (out t j) :=
    (read1 m c t _ hw).trans (congrArg (packing.pack 0 (ws m c)) (out_eq (i := win0_1.index t) (fun _ => ⟨rfl, rfl⟩) e1 j))
  have m' : iblk m c 2 t j = packing.pack 0 (ms m c) (out t j) :=
    (read2 m c t _ hm).trans (congrArg (packing.pack 0 (ms m c)) (out_eq (i := win0_2.index t) (fun _ => ⟨rfl, rfl⟩) e2 j))
  have v : iblk m c 3 t j = packing.pack 0 (vs m c) (out t j) :=
    (read3 m c t _ hv).trans (congrArg (packing.pack 0 (vs m c)) (out_eq (i := win0_3.index t) (fun _ => ⟨rfl, rfl⟩) e3 j))
  show Entry.mk _ _ _ _ = _
  rw [g, w, m', v]

theorem point (i : I2 256 128) : ∃ t : Fin cfg0.N, ![t.val, 0] = ![(i 0).val / 256, (i 1).val / 128] := by
  have h0 : (i 0).val < 256 := (i 0).isLt
  have h1 : (i 1).val < 128 := (i 1).isLt
  refine ⟨⟨(i 0).val / 256, lt_of_lt_of_eq (by omega) N_0.symm⟩, ?_⟩
  rw [Nat.div_eq_of_lt h1]

theorem arr4 : (dats m 0 c).arrAt 4 cfg0.N = fun y => (entry m c y).g := by
  refine (dats m 0 c).arrAt_eq_of_cover 4 _ (fun t _ => ?_) fun i => ?_
  · rw [flushed4]
    funext j
    exact (out4_eq ..).trans (congrArg Entry.g (entry_at m c t j))
  · obtain ⟨t, ht⟩ := point i
    refine ⟨t, flush0_4 _, ?_⟩
    show i ∈ ((View.whole main_v21_0).slice (win0_4.rect t)).set
    rw [View.set_slice_whole, Rect.mem_set_unit]
    exact near i (n := 256) (m := 128) (by decide) (by decide) ((at_ t).2.2.2.2.1.trans ht)

theorem arr5 : (dats m 0 c).arrAt 5 cfg0.N = fun y => delta (entry m c y) := by
  refine (dats m 0 c).arrAt_eq_of_cover 5 _ (fun t _ => ?_) fun i => ?_
  · rw [flushed5]
    funext j
    exact (out5_eq ..).trans (congrArg delta ((entry_at m c t j).trans
      (congrArg (entry m c) (out_eq (i := win0_5.index t) (fun _ => ⟨rfl, rfl⟩) (at_ t).2.2.2.2.2.1 j).symm)))
  · obtain ⟨t, ht⟩ := point i
    refine ⟨t, flush0_5 _, ?_⟩
    show i ∈ ((View.whole main_v21_1).slice (win0_5.rect t)).set
    rw [View.set_slice_whole, Rect.mem_set_unit]
    exact near i (n := 256) (m := 128) (by decide) (by decide) ((at_ t).2.2.2.2.2.1.trans ht)

theorem arr6 : (dats m 0 c).arrAt 6 cfg0.N = fun y => newM (entry m c y) := by
  refine (dats m 0 c).arrAt_eq_of_cover 6 _ (fun t _ => ?_) fun i => ?_
  · rw [flushed6]
    funext j
    exact (out6_eq ..).trans (congrArg newM ((entry_at m c t j).trans
      (congrArg (entry m c) (out_eq (i := win0_6.index t) (fun _ => ⟨rfl, rfl⟩) (at_ t).2.2.2.2.2.2.1 j).symm)))
  · obtain ⟨t, ht⟩ := point i
    refine ⟨t, flush0_6 _, ?_⟩
    show i ∈ ((View.whole main_v21_2).slice (win0_6.rect t)).set
    rw [View.set_slice_whole, Rect.mem_set_unit]
    exact near i (n := 256) (m := 128) (by decide) (by decide) ((at_ t).2.2.2.2.2.2.1.trans ht)

theorem arr7 : (dats m 0 c).arrAt 7 cfg0.N = fun y => newV (entry m c y) := by
  refine (dats m 0 c).arrAt_eq_of_cover 7 _ (fun t _ => ?_) fun i => ?_
  · rw [flushed7]
    funext j
    exact (out7_eq ..).trans (congrArg newV ((entry_at m c t j).trans
      (congrArg (entry m c) (out_eq (i := win0_7.index t) (fun _ => ⟨rfl, rfl⟩) (at_ t).2.2.2.2.2.2.2 j).symm)))
  · obtain ⟨t, ht⟩ := point i
    refine ⟨t, flush0_7 _, ?_⟩
    show i ∈ ((View.whole main_v21_3).slice (win0_7.rect t)).set
    rw [View.set_slice_whole, Rect.mem_set_unit]
    exact near i (n := 256) (m := 128) (by decide) (by decide) ((at_ t).2.2.2.2.2.2.2.trans ht)

/-! ## The reference -/

theorem lay_map (φ : Entry → EReal) (hφ : φ ⟨0, 0, 0, 0⟩ = 0) (g w m v : ∀ n, (sh n).Idx → EReal) :
    lay (sitofp (F := Ideal) .f32 (constantI S_ 32 0#32)) (fun n i => φ ⟨g n i, w n i, m n i, v n i⟩)
      = fun y => φ ⟨packing.pack 0 g y, packing.pack 0 w y, packing.pack 0 m y, packing.pack 0 v y⟩ :=
  (lay_fill _).trans (funext (packing.combine φ hφ g w m v))

/-- A number has one entry, whatever the shape that it is spread over. -/
theorem bc : ∀ n, Shape.BroadcastsInDim (⟨0, ![]⟩ : Shape) (sh n) ![]
  | 0 => Cert.RefAdamConvIdeal.Gen.bcast_S_S4x31x64
  | 1 => Cert.RefAdamConvIdeal.Gen.bcast_S_S4x4x192
  | 2 => Cert.RefAdamConvIdeal.Gen.bcast_S_S1024

section
variable (g w m v : ∀ n, (sh n).Idx → EReal)

theorem ref_delta : lay (sitofp (F := Ideal) .f32 (constantI S_ 32 0#32)) (fun n => hostDelta (bc n) (g n) (w n) (m n) (v n))
    = fun y => delta ⟨packing.pack 0 g y, packing.pack 0 w y, packing.pack 0 m y, packing.pack 0 v y⟩ :=
  lay_map delta delta_zero g w m v
theorem ref_newM : lay (sitofp (F := Ideal) .f32 (constantI S_ 32 0#32)) (fun n => hostM (bc n) (g n) (m n))
    = fun y => newM ⟨packing.pack 0 g y, packing.pack 0 w y, packing.pack 0 m y, packing.pack 0 v y⟩ :=
  lay_map newM newM_zero g w m v
theorem ref_newV : lay (sitofp (F := Ideal) .f32 (constantI S_ 32 0#32)) (fun n => hostV (bc n) (g n) (v n))
    = fun y => newV ⟨packing.pack 0 g y, packing.pack 0 w y, packing.pack 0 m y, packing.pack 0 v y⟩ :=
  lay_map newV newV_zero g w m v
end

theorem preserves : Cert.preserves_AdamConv_AdamConvIdeal :=
  ⟨IdealRules.named_const.statement _ _ _ _ _ rfl, IdealRules.named_const.statement _ _ _ _ _ rfl⟩

theorem frame_r : Cert.quiescent_RefAdamConvIdeal := fun m ρ _ => (θ_run Cert.RefAdamConvIdeal.defs _ _).mono
  (fun r h => ⟨fun c => (h c).2.2.2.2, sem_eq_zero_of_no_sems (by decide) r.2⟩) (Cert.RefAdamConvIdeal.Value.run (F := Ideal) m ρ)

theorem value : Cert.algebraic_AdamConvIdeal_RefAdamConvIdeal := by
  intro m ρ m' ρ' _ hm
  refine ⟨fun c y => (entry m c y).g, fun c y => delta (entry m c y), fun c y => newM (entry m c y), fun c y => newV (entry m c y),
    (θ_run defs _ _).mono (fun _ h c => ⟨(h c).1.trans (arr4 m c), (h c).2.1.trans (arr5 m c), (h c).2.2.1.trans (arr6 m c),
      (h c).2.2.2.1.trans (arr7 m c), (h c).2.2.2.2⟩) (run_blocks m ρ),
    (θ_run Cert.RefAdamConvIdeal.defs _ _).mono (fun r h c => ⟨(h c).1.trans ?_, (h c).2.1.trans ?_, (h c).2.2.1.trans ?_,
      (h c).2.2.2.1.trans ?_, (h c).2.2.2.2⟩) (Cert.RefAdamConvIdeal.Value.run (F := Ideal) m' ρ')⟩
  all_goals
    obtain ⟨e0, e1, e2, e3, e4, e5, e6, e7, e8, e9, e10, e11⟩ := hm c
    have hg : fam _ _ _ = gs m c := congr (congrArg₂ fam e0 e1) e2
    have hw : fam _ _ _ = ws m c := congr (congrArg₂ fam e3 e4) e5
    have hm : fam _ _ _ = ms m c := congr (congrArg₂ fam e6 e7) e8
    have hv : fam _ _ _ = vs m c := congr (congrArg₂ fam e9 e10) e11
    clear e0 e1 e2 e3 e4 e5 e6 e7 e8 e9 e10 e11
  · exact (lay_fill (fam _ _ _)).trans (congrArg (packing.pack 0) hg)
  · exact (ref_delta (fam _ _ _) (fam _ _ _) (fam _ _ _) (fam _ _ _)).trans (by rw [hg, hw, hm, hv]; rfl)
  · exact (ref_newM (fam _ _ _) (ws m c) (fam _ _ _) (vs m c)).trans (by rw [hg, hm]; rfl)
  · exact (ref_newV (fam _ _ _) (ws m c) (ms m c) (fam _ _ _)).trans (by rw [hg, hv]; rfl)

end Cert.AdamThree

end
-- ==== Proof.Adam.Small.lean ====
/-
  AdamW of the fourteen small weights of the four layers. A block of the kernel is the one of `Conv`, where its entries are worked out.
-/
module

public import proofs.«01_k».proof.Defs
public import proofs.«01_k».proof.Proof.Gen.AdamSmall.Frame
public import proofs.«01_k».proof.Proof.Gen.AdamSmallIdeal.Frame
public import proofs.«01_k».proof.Proof.Gen.AdamSmallIdeal.Value
public import proofs.«01_k».proof.Proof.Gen.RefAdamSmallIdeal.Run
public import proofs.«01_k».proof.Proof.Gen.RefAdamSmallIdeal.Read
public import proofs.«01_k».proof.Proof.Adam.Conv
public import Idealize.ShloMosaic.Lib.Quiescent
public import Idealize.ShloMosaic.Lib.KernelVsHost

@[expose] public section

set_option maxRecDepth 16384

noncomputable section

namespace Cert.AdamSmallWeights

open Cert.AdamSmallIdeal Cert.AdamSmallIdeal.Gen Cert.AdamSmallIdeal.Value Cert.Mm Cert.Adam
open Idealize.ShloMosaic Idealize.ShloMosaic.TcCoe Idealize.ShloMosaic.Tactic Idealize.SL.Sem

/-! ## One block -/

section
variable (g : Vec Ideal S1x256x128 .f32) (w m v : Vec Ideal S256x128 .f32) (j : S256x128.Idx)

/-- The entry at one place of the four blocks. -/
abbrev at1 : Entry := ⟨g (ix3 0 (j 0) (j 1)), w j, m j, v j⟩

theorem out4_eq : out0_4 g w m v j = g (ix3 0 (j 0) (j 1)) := Cert.AdamThree.out4_eq g w m v j
theorem out5_eq : out0_5 g w m v j = delta (at1 g w m v j) := Cert.AdamThree.out5_eq g w m v j
theorem out6_eq : out0_6 g w m v j = newM (at1 g w m v j) := Cert.AdamThree.out6_eq g w m v j
theorem out7_eq : out0_7 g w m v j = newV (at1 g w m v j) := Cert.AdamThree.out7_eq g w m v j
end

/-! ## The layout -/

/-- The fourteen weights' shapes. -/
abbrev sh : Fin 14 → Shape :=
  ![S4x1024, S4x512, S4x512, S4x512, S4x512, S4x512, S4x8x128x128, S4x8x128, S4x1536, S4x16, S4x16, S4x16, S4x1024, S4x1024]

section
variable {α : Type}

def fam (x0 : S4x1024.Idx → α) (x1 : S4x512.Idx → α) (x2 : S4x512.Idx → α) (x3 : S4x512.Idx → α) (x4 : S4x512.Idx → α) (x5 : S4x512.Idx → α) (x6 :
    S4x8x128x128.Idx → α) (x7 : S4x8x128.Idx → α) (x8 : S4x1536.Idx → α) (x9 : S4x16.Idx → α) (x10 : S4x16.Idx → α) (x11 : S4x16.Idx → α) (x12 :
    S4x1024.Idx → α) (x13 : S4x1024.Idx → α) : ∀ n, (sh n).Idx → α
  | 0 => x0
  | 1 => x1
  | 2 => x2
  | 3 => x3
  | 4 => x4
  | 5 => x5
  | 6 => x6
  | 7 => x7
  | 8 => x8
  | 9 => x9
  | 10 => x10
  | 11 => x11
  | 12 => x12
  | 13 => x13

/-- Sixteen columns, filled up to 128. -/
abbrev wide (v : S_.Idx → α) (x : S4x16.Idx → α) : S4x128.Idx → α :=
  pad S4x128 ![0, 0] ![0, 112] ![0, 0] x v pads_S4x16_S4x128_000_01120 h_S_

/-- The arrays as four rows each, of which three are given. -/
abbrev rows (x : ∀ n, (sh n).Idx → α) (a b c : S4x128.Idx → α) : List ((s : Shape) × (s.Idx → α)) :=
  [⟨S4x1024, x 0⟩, ⟨S4x512, x 1⟩, ⟨S4x512, x 2⟩, ⟨S4x512, x 3⟩, ⟨S4x512, x 4⟩, ⟨S4x512, x 5⟩, ⟨S4x131072, shapeCast S4x131072 (x 6)
    shapeCasts_S4x8x128x128_S4x131072⟩, ⟨S4x1024, shapeCast S4x1024 (x 7) shapeCasts_S4x8x128_S4x1024⟩, ⟨S4x1536, x 8⟩, ⟨S4x128, a⟩, ⟨S4x128, b⟩,
    ⟨S4x128, c⟩, ⟨S4x1024, x 12⟩, ⟨S4x1024, x 13⟩]

abbrev pieces (v : S_.Idx → α) (x : ∀ n, (sh n).Idx → α) : List ((s : Shape) × (s.Idx → α)) :=
  rows x (wide v (x 9)) (wide v (x 10)) (wide v (x 11))

abbrev cat (v : S_.Idx → α) (x : ∀ n, (sh n).Idx → α) : S4x139648.Idx → α :=
  concatenate S4x139648 1 (pieces v x)
    concatenates_S4x1024_S4x512_S4x512_S4x512_S4x512_S4x512_S4x131072_S4x1024_S4x1536_S4x128_S4x128_S4x128_S4x1024_S4x1024_S4x139648_d1

/-- Side by side, in rows of 128, filled up to 4608 rows. -/
def lay (v : S_.Idx → α) (x : ∀ n, (sh n).Idx → α) : S4608x128.Idx → α :=
  pad S4608x128 ![0, 0] ![244, 0] ![0, 0] (shapeCast S4364x128 (cat v x) shapeCasts_S4x139648_S4364x128) v pads_S4364x128_S4608x128_02440_000 h_S_

variable {β : Type} (f : α → β) (z : α) (x : ∀ n, (sh n).Idx → α)

theorem wide_map (x : S4x16.Idx → α) : wide (fun _ => f z) (fun i => f (x i)) = fun j => f (wide (fun _ => z) x j) :=
  funext (pad_map f (fun _ => rfl) (fun _ => z) _ _)

theorem pieces_map : pieces (fun _ => f z) (fun n i => f (x n i)) = (pieces (fun _ => z) x).map (mapPiece f) :=
  congr (congrArg₂ (rows fun n i => f (x n i)) (wide_map f z (x 9)) (wide_map f z (x 10))) (wide_map f z (x 11))

theorem cat_map (j : S4x139648.Idx) : cat (fun _ => f z) (fun n i => f (x n i)) j = f (cat (fun _ => z) x j) := by
  refine Eq.trans ?_ (concatenate_map f 1 (pieces (fun _ => z) x)
    concatenates_S4x1024_S4x512_S4x512_S4x512_S4x512_S4x512_S4x131072_S4x1024_S4x1536_S4x128_S4x128_S4x128_S4x1024_S4x1024_S4x139648_d1
    concatenates_S4x1024_S4x512_S4x512_S4x512_S4x512_S4x512_S4x131072_S4x1024_S4x1536_S4x128_S4x128_S4x128_S4x1024_S4x1024_S4x139648_d1 j)
  unfold cat
  congr 1
  exact pieces_map f z x
end

def packing : Packing sh S4608x128 where
  pack z x := lay (fun _ => z) x
  map f z x y := pad_map f (fun _ => cat_map f z x _) (fun _ => z) _ _ y

theorem lay_fill (x : ∀ n, (sh n).Idx → EReal) : lay (sitofp (F := Ideal) .f32 (constantI S_ 32 0#32)) x = packing.pack 0 x :=
  congrArg (fun v => lay v x) fill

/-! ## The kernel's arrays -/

variable (m : (ℓ : Loc nD τ sig) → Buf (Elt Ideal) ℓ) (c : Dev nD)

abbrev gs : ∀ n, (sh n).Idx → EReal :=
  fam (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10)) (m ((c : Thread nD τ).loc main_arg11))
    (m ((c : Thread nD τ).loc main_arg12)) (m ((c : Thread nD τ).loc main_arg13))
abbrev ws : ∀ n, (sh n).Idx → EReal :=
  fam (m ((c : Thread nD τ).loc main_arg14)) (m ((c : Thread nD τ).loc main_arg15)) (m ((c : Thread nD τ).loc main_arg16))
    (m ((c : Thread nD τ).loc main_arg17)) (m ((c : Thread nD τ).loc main_arg18)) (m ((c : Thread nD τ).loc main_arg19))
    (m ((c : Thread nD τ).loc main_arg20)) (m ((c : Thread nD τ).loc main_arg21)) (m ((c : Thread nD τ).loc main_arg22))
    (m ((c : Thread nD τ).loc main_arg23)) (m ((c : Thread nD τ).loc main_arg24)) (m ((c : Thread nD τ).loc main_arg25))
    (m ((c : Thread nD τ).loc main_arg26)) (m ((c : Thread nD τ).loc main_arg27))
abbrev ms : ∀ n, (sh n).Idx → EReal :=
  fam (m ((c : Thread nD τ).loc main_arg28)) (m ((c : Thread nD τ).loc main_arg29)) (m ((c : Thread nD τ).loc main_arg30))
    (m ((c : Thread nD τ).loc main_arg31)) (m ((c : Thread nD τ).loc main_arg32)) (m ((c : Thread nD τ).loc main_arg33))
    (m ((c : Thread nD τ).loc main_arg34)) (m ((c : Thread nD τ).loc main_arg35)) (m ((c : Thread nD τ).loc main_arg36))
    (m ((c : Thread nD τ).loc main_arg37)) (m ((c : Thread nD τ).loc main_arg38)) (m ((c : Thread nD τ).loc main_arg39))
    (m ((c : Thread nD τ).loc main_arg40)) (m ((c : Thread nD τ).loc main_arg41))
abbrev vs : ∀ n, (sh n).Idx → EReal :=
  fam (m ((c : Thread nD τ).loc main_arg42)) (m ((c : Thread nD τ).loc main_arg43)) (m ((c : Thread nD τ).loc main_arg44))
    (m ((c : Thread nD τ).loc main_arg45)) (m ((c : Thread nD τ).loc main_arg46)) (m ((c : Thread nD τ).loc main_arg47))
    (m ((c : Thread nD τ).loc main_arg48)) (m ((c : Thread nD τ).loc main_arg49)) (m ((c : Thread nD τ).loc main_arg50))
    (m ((c : Thread nD τ).loc main_arg51)) (m ((c : Thread nD τ).loc main_arg52)) (m ((c : Thread nD τ).loc main_arg53))
    (m ((c : Thread nD τ).loc main_arg54)) (m ((c : Thread nD τ).loc main_arg55))

set_option maxHeartbeats 4000000 in
/-- The four arrays that the kernel reads are the four families, packed. -/
theorem slabs : V m c main_v32 = broadcastInDim S1x4608x128 ![1, 2] bcast_S4608x128_S1x4608x128_1_2 (packing.pack 0 (gs m c))
    ∧ V m c main_v15 = packing.pack 0 (ws m c) ∧ V m c main_v23 = packing.pack 0 (ms m c) ∧ V m c main_v31 = packing.pack 0 (vs m c) := by
  simp only [← lay_fill]
  refine ⟨?_, ?_, ?_, ?_⟩ <;>
  · show StableHlo.after (List.flatten [hostOps0, hostOps0_1, hostOps0_2, hostOps0_3, hostOps0_4, hostOps0_5, hostOps0_6, hostOps0_7, hostOps0_8,
      hostOps0_9, hostOps0_10, hostOps0_11, hostOps0_12, hostOps0_13, hostOps0_14, hostOps0_15, hostOps0_16, hostOps0_17, hostOps0_18, hostOps0_19,
      hostOps0_20, hostOps0_21, hostOps0_22, hostOps0_23, hostOps0_24, hostOps0_25, hostOps0_26, hostOps0_27, hostOps0_28, hostOps0_29, hostOps0_30,
      hostOps0_31, hostOps0_32]) _ _ = _
    simp only [List.flatten_cons, List.flatten_nil, List.append_nil, List.cons_append, List.nil_append, hostOps0, hostOps0_1, hostOps0_2, hostOps0_3,
      hostOps0_4, hostOps0_5, hostOps0_6, hostOps0_7, hostOps0_8, hostOps0_9, hostOps0_10, hostOps0_11, hostOps0_12, hostOps0_13, hostOps0_14,
      hostOps0_15, hostOps0_16, hostOps0_17, hostOps0_18, hostOps0_19, hostOps0_20, hostOps0_21, hostOps0_22, hostOps0_23, hostOps0_24, hostOps0_25,
      hostOps0_26, hostOps0_27, hostOps0_28, hostOps0_29, hostOps0_30, hostOps0_31, hostOps0_32, StableHlo.TRef.binary, StableHlo.TRef.unary,
      StableHlo.TRef.toBuf, StableHlo.TRef.ofBuf, cast_eq]
    after_results_simp <;> (try dsimp only [Matrix.cons_val]) <;> (try after_results_simp)
    rfl

/-- The packed arrays' entry at a place. -/
abbrev entry (y : S4608x128.Idx) : Entry :=
  ⟨packing.pack 0 (gs m c) y, packing.pack 0 (ws m c) y, packing.pack 0 (ms m c) y, packing.pack 0 (vs m c) y⟩

theorem at_ : ∀ t : Fin cfg0.N, win0_0.index t = ![0, t.val, 0] ∧ win0_1.index t = ![t.val, 0] ∧ win0_2.index t = ![t.val, 0]
      ∧ win0_3.index t = ![t.val, 0] ∧ win0_4.index t = ![t.val, 0] ∧ win0_5.index t = ![t.val, 0] ∧ win0_6.index t = ![t.val, 0]
      ∧ win0_7.index t = ![t.val, 0] :=
  (by decide +kernel : ∀ t : Fin grid0.N, win0_0.index t = ![0, t.val, 0] ∧ win0_1.index t = ![t.val, 0] ∧ win0_2.index t = ![t.val, 0]
      ∧ win0_3.index t = ![t.val, 0] ∧ win0_4.index t = ![t.val, 0] ∧ win0_5.index t = ![t.val, 0] ∧ win0_6.index t = ![t.val, 0]
      ∧ win0_7.index t = ![t.val, 0])

/-- Where a block of the results lies; the weights' and the moments' lie there too. -/
abbrev out (t : Fin cfg0.N) : I2 256 128 → I2 4608 128 := ((cfg0.win 4).blk t).view.emb
theorem out_at (t : Fin cfg0.N) : At (t.val * 256) 0 (out t) := fun j => by
  have e := (at_ t).2.2.2.2.1
  constructor
  · show win0_4.index t 0 * 256 + 1 * (j 0).val = _
    rw [e]; rfl
  · show win0_4.index t 1 * 128 + 1 * (j 1).val = _
    rw [e]; rfl
theorem out_eq {t : Fin cfg0.N} {e : I2 256 128 → I2 4608 128} {i : Fin 2 → ℕ} (he : At (i 0 * 256) (i 1 * 128) e) (hi : i = ![t.val, 0])
    (j : I2 256 128) : e j = out t j := by
  subst hi
  exact idx2 ((he j).1.trans (out_at t j).1.symm) ((he j).2.trans (by rw [(out_at t j).2]; rfl))

/-- A block read from an array that is known. -/
theorem read0 (t : Fin cfg0.N) (x) {A} (h : V m c main_v32 = A) : iblk m c 0 t x = A (((cfg0.win 0).blk t).view.emb x) := by
  subst h; rfl
theorem read1 (t : Fin cfg0.N) (x) {A} (h : V m c main_v15 = A) : iblk m c 1 t x = A (((cfg0.win 1).blk t).view.emb x) := by
  subst h; rfl
theorem read2 (t : Fin cfg0.N) (x) {A} (h : V m c main_v23 = A) : iblk m c 2 t x = A (((cfg0.win 2).blk t).view.emb x) := by
  subst h; rfl
theorem read3 (t : Fin cfg0.N) (x) {A} (h : V m c main_v31 = A) : iblk m c 3 t x = A (((cfg0.win 3).blk t).view.emb x) := by
  subst h; rfl

theorem entry_at (t : Fin cfg0.N) (j : S256x128.Idx) :
    at1 (iblk m c 0 t) (iblk m c 1 t) (iblk m c 2 t) (iblk m c 3 t) j = entry m c (out t j) := by
  obtain ⟨e0, e1, e2, e3, -⟩ := at_ t
  obtain ⟨hg, hw, hm, hv⟩ := slabs m c
  have g : iblk m c 0 t (ix3 0 (j 0) (j 1)) = packing.pack 0 (gs m c) (out t j) := by
    refine (read0 m c t _ hg).trans (congrArg (packing.pack 0 (gs m c)) (idx2 (((out_at t j).1.trans ?_).symm) (((out_at t j).2.trans ?_).symm)))
    · show t.val * 256 + 1 * (j 0).val = win0_0.index t 1 * 256 + 1 * (j 0).val
      rw [e0]; rfl
    · show 0 + 1 * (j 1).val = win0_0.index t 2 * 128 + 1 * (j 1).val
      rw [e0]; rfl
  have w : iblk m c 1 t j = packing.pack 0 (ws m c) (out t j) :=
    (read1 m c t _ hw).trans (congrArg (packing.pack 0 (ws m c)) (out_eq (i := win0_1.index t) (fun _ => ⟨rfl, rfl⟩) e1 j))
  have m' : iblk m c 2 t j = packing.pack 0 (ms m c) (out t j) :=
    (read2 m c t _ hm).trans (congrArg (packing.pack 0 (ms m c)) (out_eq (i := win0_2.index t) (fun _ => ⟨rfl, rfl⟩) e2 j))
  have v : iblk m c 3 t j = packing.pack 0 (vs m c) (out t j) :=
    (read3 m c t _ hv).trans (congrArg (packing.pack 0 (vs m c)) (out_eq (i := win0_3.index t) (fun _ => ⟨rfl, rfl⟩) e3 j))
  show Entry.mk _ _ _ _ = _
  rw [g, w, m', v]

theorem point (i : I2 4608 128) : ∃ t : Fin cfg0.N, ![t.val, 0] = ![(i 0).val / 256, (i 1).val / 128] := by
  have h0 : (i 0).val < 4608 := (i 0).isLt
  have h1 : (i 1).val < 128 := (i 1).isLt
  refine ⟨⟨(i 0).val / 256, lt_of_lt_of_eq (by omega) N_0.symm⟩, ?_⟩
  rw [Nat.div_eq_of_lt h1]

theorem arr4 : (dats m 0 c).arrAt 4 cfg0.N = fun y => (entry m c y).g := by
  refine (dats m 0 c).arrAt_eq_of_cover 4 _ (fun t _ => ?_) fun i => ?_
  · rw [flushed4]
    funext j
    exact (out4_eq ..).trans (congrArg Entry.g (entry_at m c t j))
  · obtain ⟨t, ht⟩ := point i
    refine ⟨t, flush0_4 _, ?_⟩
    show i ∈ ((View.whole main_v33_0).slice (win0_4.rect t)).set
    rw [View.set_slice_whole, Rect.mem_set_unit]
    exact near i (n := 256) (m := 128) (by decide) (by decide) ((at_ t).2.2.2.2.1.trans ht)

theorem arr5 : (dats m 0 c).arrAt 5 cfg0.N = fun y => delta (entry m c y) := by
  refine (dats m 0 c).arrAt_eq_of_cover 5 _ (fun t _ => ?_) fun i => ?_
  · rw [flushed5]
    funext j
    exact (out5_eq ..).trans (congrArg delta ((entry_at m c t j).trans
      (congrArg (entry m c) (out_eq (i := win0_5.index t) (fun _ => ⟨rfl, rfl⟩) (at_ t).2.2.2.2.2.1 j).symm)))
  · obtain ⟨t, ht⟩ := point i
    refine ⟨t, flush0_5 _, ?_⟩
    show i ∈ ((View.whole main_v33_1).slice (win0_5.rect t)).set
    rw [View.set_slice_whole, Rect.mem_set_unit]
    exact near i (n := 256) (m := 128) (by decide) (by decide) ((at_ t).2.2.2.2.2.1.trans ht)

theorem arr6 : (dats m 0 c).arrAt 6 cfg0.N = fun y => newM (entry m c y) := by
  refine (dats m 0 c).arrAt_eq_of_cover 6 _ (fun t _ => ?_) fun i => ?_
  · rw [flushed6]
    funext j
    exact (out6_eq ..).trans (congrArg newM ((entry_at m c t j).trans
      (congrArg (entry m c) (out_eq (i := win0_6.index t) (fun _ => ⟨rfl, rfl⟩) (at_ t).2.2.2.2.2.2.1 j).symm)))
  · obtain ⟨t, ht⟩ := point i
    refine ⟨t, flush0_6 _, ?_⟩
    show i ∈ ((View.whole main_v33_2).slice (win0_6.rect t)).set
    rw [View.set_slice_whole, Rect.mem_set_unit]
    exact near i (n := 256) (m := 128) (by decide) (by decide) ((at_ t).2.2.2.2.2.2.1.trans ht)

theorem arr7 : (dats m 0 c).arrAt 7 cfg0.N = fun y => newV (entry m c y) := by
  refine (dats m 0 c).arrAt_eq_of_cover 7 _ (fun t _ => ?_) fun i => ?_
  · rw [flushed7]
    funext j
    exact (out7_eq ..).trans (congrArg newV ((entry_at m c t j).trans
      (congrArg (entry m c) (out_eq (i := win0_7.index t) (fun _ => ⟨rfl, rfl⟩) (at_ t).2.2.2.2.2.2.2 j).symm)))
  · obtain ⟨t, ht⟩ := point i
    refine ⟨t, flush0_7 _, ?_⟩
    show i ∈ ((View.whole main_v33_3).slice (win0_7.rect t)).set
    rw [View.set_slice_whole, Rect.mem_set_unit]
    exact near i (n := 256) (m := 128) (by decide) (by decide) ((at_ t).2.2.2.2.2.2.2.trans ht)

/-! ## The reference -/

theorem lay_map (φ : Entry → EReal) (hφ : φ ⟨0, 0, 0, 0⟩ = 0) (g w m v : ∀ n, (sh n).Idx → EReal) :
    lay (sitofp (F := Ideal) .f32 (constantI S_ 32 0#32)) (fun n i => φ ⟨g n i, w n i, m n i, v n i⟩)
      = fun y => φ ⟨packing.pack 0 g y, packing.pack 0 w y, packing.pack 0 m y, packing.pack 0 v y⟩ :=
  (lay_fill _).trans (funext (packing.combine φ hφ g w m v))

/-- A number has one entry, whatever the shape that it is spread over. -/
theorem bc : ∀ n, Shape.BroadcastsInDim (⟨0, ![]⟩ : Shape) (sh n) ![]
  | 0 => Cert.RefAdamSmallIdeal.Gen.bcast_S_S4x1024
  | 1 => Cert.RefAdamSmallIdeal.Gen.bcast_S_S4x512
  | 2 => Cert.RefAdamSmallIdeal.Gen.bcast_S_S4x512
  | 3 => Cert.RefAdamSmallIdeal.Gen.bcast_S_S4x512
  | 4 => Cert.RefAdamSmallIdeal.Gen.bcast_S_S4x512
  | 5 => Cert.RefAdamSmallIdeal.Gen.bcast_S_S4x512
  | 6 => Cert.RefAdamSmallIdeal.Gen.bcast_S_S4x8x128x128
  | 7 => Cert.RefAdamSmallIdeal.Gen.bcast_S_S4x8x128
  | 8 => Cert.RefAdamSmallIdeal.Gen.bcast_S_S4x1536
  | 9 => Cert.RefAdamSmallIdeal.Gen.bcast_S_S4x16
  | 10 => Cert.RefAdamSmallIdeal.Gen.bcast_S_S4x16
  | 11 => Cert.RefAdamSmallIdeal.Gen.bcast_S_S4x16
  | 12 => Cert.RefAdamSmallIdeal.Gen.bcast_S_S4x1024
  | 13 => Cert.RefAdamSmallIdeal.Gen.bcast_S_S4x1024

section
variable (g w m v : ∀ n, (sh n).Idx → EReal)

theorem ref_delta : lay (sitofp (F := Ideal) .f32 (constantI S_ 32 0#32)) (fun n => hostDelta (bc n) (g n) (w n) (m n) (v n))
    = fun y => delta ⟨packing.pack 0 g y, packing.pack 0 w y, packing.pack 0 m y, packing.pack 0 v y⟩ :=
  lay_map delta delta_zero g w m v
theorem ref_newM : lay (sitofp (F := Ideal) .f32 (constantI S_ 32 0#32)) (fun n => hostM (bc n) (g n) (m n))
    = fun y => newM ⟨packing.pack 0 g y, packing.pack 0 w y, packing.pack 0 m y, packing.pack 0 v y⟩ :=
  lay_map newM newM_zero g w m v
theorem ref_newV : lay (sitofp (F := Ideal) .f32 (constantI S_ 32 0#32)) (fun n => hostV (bc n) (g n) (v n))
    = fun y => newV ⟨packing.pack 0 g y, packing.pack 0 w y, packing.pack 0 m y, packing.pack 0 v y⟩ :=
  lay_map newV newV_zero g w m v
end

theorem preserves : Cert.preserves_AdamSmall_AdamSmallIdeal :=
  ⟨IdealRules.named_const.statement _ _ _ _ _ rfl, IdealRules.named_const.statement _ _ _ _ _ rfl⟩

theorem frame_r : Cert.quiescent_RefAdamSmallIdeal := fun m ρ _ => (θ_run Cert.RefAdamSmallIdeal.defs _ _).mono
  (fun r h => ⟨fun c => (h c).2.2.2.2, sem_eq_zero_of_no_sems (by decide) r.2⟩) (Cert.RefAdamSmallIdeal.Value.run (F := Ideal) m ρ)

set_option maxHeartbeats 4000000 in
theorem value : Cert.algebraic_AdamSmallIdeal_RefAdamSmallIdeal := by
  intro m ρ m' ρ' _ hm
  refine ⟨fun c y => (entry m c y).g, fun c y => delta (entry m c y), fun c y => newM (entry m c y), fun c y => newV (entry m c y),
    (θ_run defs _ _).mono (fun _ h c => ⟨(h c).1.trans (arr4 m c), (h c).2.1.trans (arr5 m c), (h c).2.2.1.trans (arr6 m c),
      (h c).2.2.2.1.trans (arr7 m c), (h c).2.2.2.2⟩) (run_blocks m ρ),
    (θ_run Cert.RefAdamSmallIdeal.defs _ _).mono (fun r h c => ⟨(h c).1.trans ?_, (h c).2.1.trans ?_, (h c).2.2.1.trans ?_,
      (h c).2.2.2.1.trans ?_, (h c).2.2.2.2⟩) (Cert.RefAdamSmallIdeal.Value.run (F := Ideal) m' ρ')⟩
  all_goals
    obtain ⟨e0, e1, e2, e3, e4, e5, e6, e7, e8, e9, e10, e11, e12, e13, e14, e15, e16, e17, e18, e19, e20, e21, e22, e23, e24, e25, e26, e27, e28,
      e29, e30, e31, e32, e33, e34, e35, e36, e37, e38, e39, e40, e41, e42, e43, e44, e45, e46, e47, e48, e49, e50, e51, e52, e53, e54, e55⟩ := hm c
    have hg : fam _ _ _ _ _ _ _ _ _ _ _ _ _ _ = gs m c := congr (congr (congr (congr (congr (congr (congr (congr (congr (congr (congr (congr
      (congrArg₂ fam e0 e1) e2) e3) e4) e5) e6) e7) e8) e9) e10) e11) e12) e13
    have hw : fam _ _ _ _ _ _ _ _ _ _ _ _ _ _ = ws m c := congr (congr (congr (congr (congr (congr (congr (congr (congr (congr (congr (congr
      (congrArg₂ fam e14 e15) e16) e17) e18) e19) e20) e21) e22) e23) e24) e25) e26) e27
    have hm : fam _ _ _ _ _ _ _ _ _ _ _ _ _ _ = ms m c := congr (congr (congr (congr (congr (congr (congr (congr (congr (congr (congr (congr
      (congrArg₂ fam e28 e29) e30) e31) e32) e33) e34) e35) e36) e37) e38) e39) e40) e41
    have hv : fam _ _ _ _ _ _ _ _ _ _ _ _ _ _ = vs m c := congr (congr (congr (congr (congr (congr (congr (congr (congr (congr (congr (congr
      (congrArg₂ fam e42 e43) e44) e45) e46) e47) e48) e49) e50) e51) e52) e53) e54) e55
    clear e0 e1 e2 e3 e4 e5 e6 e7 e8 e9 e10 e11 e12 e13 e14 e15 e16 e17 e18 e19 e20 e21 e22 e23 e24 e25 e26 e27 e28 e29 e30 e31 e32 e33 e34 e35 e36
      e37 e38 e39 e40 e41 e42 e43 e44 e45 e46 e47 e48 e49 e50 e51 e52 e53 e54 e55
  · exact (lay_fill (fam _ _ _ _ _ _ _ _ _ _ _ _ _ _)).trans (congrArg (packing.pack 0) hg)
  · exact (ref_delta (fam _ _ _ _ _ _ _ _ _ _ _ _ _ _) (fam _ _ _ _ _ _ _ _ _ _ _ _ _ _) (fam _ _ _ _ _ _ _ _ _ _ _ _ _ _) (fam _ _ _ _ _ _ _ _ _ _ _
      _ _ _)).trans (by rw [hg, hw, hm, hv]; rfl)
  · exact (ref_newM (fam _ _ _ _ _ _ _ _ _ _ _ _ _ _) (ws m c) (fam _ _ _ _ _ _ _ _ _ _ _ _ _ _) (vs m c)).trans (by rw [hg, hm]; rfl)
  · exact (ref_newV (fam _ _ _ _ _ _ _ _ _ _ _ _ _ _) (ws m c) (ms m c) (fam _ _ _ _ _ _ _ _ _ _ _ _ _ _)).trans (by rw [hg, hv]; rfl)

end Cert.AdamSmallWeights

end
-- ==== Proof.lean ====
/-
  The proof of the certificate's claims: each program's frame, that the idealization preserves the kernel, that the gating's
  five results are the reference's on inputs whose `u`, cotangent, masked weight and norm's gain are finite, and that the
  products' and AdamW's results are their references' on all inputs.
-/
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.Gen.ReferenceIdeal.Read
public import proofs.«01_k».proof.Proof.Gmlp.Arrays
public import proofs.«01_k».proof.Proof.Gmlp.RefOut
public import proofs.«01_k».proof.Proof.Gmlp.Pre
public import proofs.«01_k».proof.Proof.Mm.Gw2
public import proofs.«01_k».proof.Proof.Mm.Df
public import proofs.«01_k».proof.Proof.Mm.Gwin
public import proofs.«01_k».proof.Proof.Mm.Proj
public import proofs.«01_k».proof.Proof.Mm.Gw1
public import proofs.«01_k».proof.Proof.Mm.Dh1
public import proofs.«01_k».proof.Proof.Mm.Dycat
public import proofs.«01_k».proof.Proof.Mm.Gwout
public import proofs.«01_k».proof.Proof.Mm.Ff1
public import proofs.«01_k».proof.Proof.Mm.Ff2l
public import proofs.«01_k».proof.Proof.Mm.Out
public import proofs.«01_k».proof.Proof.Mm.Ff2
public import proofs.«01_k».proof.Proof.Mm.Dh2
public import proofs.«01_k».proof.Proof.Mm.Pdt
public import proofs.«01_k».proof.Proof.Mm.Gwdt
public import proofs.«01_k».proof.Proof.Mm.Dh1dt
public import proofs.«01_k».proof.Proof.Adam.Small
public import proofs.«01_k».proof.Proof.Adam.Conv
public import Idealize.ShloMosaic.Lib.Quiescent

@[expose] public section

set_option maxRecDepth 16384

noncomputable section

namespace Cert.Proof

open Idealize.ShloMosaic Idealize.SL.Sem

/-- The reference runs, leaves its arguments as they were and has no semaphore. -/
theorem frame_r : Cert.quiescent_ReferenceIdeal := fun m ρ _ =>
  (θ_run Cert.ReferenceIdeal.defs _ _).mono
    (fun r h => ⟨fun c => (h c).2.2.2.2.2, sem_eq_zero_of_no_sems (by decide) r.2⟩)
    (Cert.ReferenceIdeal.Value.run (F := Ideal) m ρ)

/-- Both programs' results are the arrays `res0` … `res4` of the kernel's arguments. -/
theorem value : Cert.algebraic_KernelIdeal_ReferenceIdeal_pre_finite_inputs := by
  intro m ρ m' ρ' hp hm
  refine ⟨fun c => _, fun c => _, fun c => _, fun c => _, fun c => _, Cert.Gmlp.run m ρ, ?_⟩
  refine (θ_run Cert.ReferenceIdeal.defs _ _).mono (fun r h c => ?_) (Cert.ReferenceIdeal.Value.run (F := Ideal) m' ρ')
  obtain ⟨h0, h1, h2, h3, h4, hf⟩ := h c
  obtain ⟨e0, e1, e2, e3, e4, e5, e6⟩ := hm c
  replace e0 : StableHlo.launchContents m' c (Proc.devRef .tc Cert.ReferenceIdeal.main_arg0) = _ := e0
  replace e1 : StableHlo.launchContents m' c (Proc.devRef .tc Cert.ReferenceIdeal.main_arg1) = _ := e1
  replace e2 : StableHlo.launchContents m' c (Proc.devRef .tc Cert.ReferenceIdeal.main_arg2) = _ := e2
  replace e3 : StableHlo.launchContents m' c (Proc.devRef .tc Cert.ReferenceIdeal.main_arg3) = _ := e3
  replace e4 : StableHlo.launchContents m' c (Proc.devRef .tc Cert.ReferenceIdeal.main_arg4) = _ := e4
  replace e5 : StableHlo.launchContents m' c (Proc.devRef .tc Cert.ReferenceIdeal.main_arg5) = _ := e5
  replace e6 : StableHlo.launchContents m' c (Proc.devRef .tc Cert.ReferenceIdeal.main_arg6) = _ := e6
  refine ⟨?_, ?_, ?_, ?_, ?_, hf⟩
  · rw [h0, Cert.ReferenceIdeal.Read.val_main_v148_eq]
    rw [e0, e1, e2, e3, e4, e5, e6]
    exact Cert.Gmlp.ref0 _ _ _ _ _ _ _ (Cert.Gmlp.pre_u _ _ _ _ _ _ _ (hp c)) (Cert.Gmlp.pre_c _ _ _ _ _ _ _ (hp c))
      (Cert.Gmlp.pre_w _ _ _ _ _ _ _ (hp c)) (Cert.Gmlp.pre_g _ _ _ _ _ _ _ (hp c))
  · rw [h1, Cert.ReferenceIdeal.Read.val_main_v150_eq]
    rw [e0, e3, e5]
    exact Cert.Gmlp.ref1 _ _ _
  · rw [h2, Cert.ReferenceIdeal.Read.val_main_v152_eq]
    rw [e0, e3, e5]
    exact Cert.Gmlp.ref2 _ _ _
  · rw [h3, Cert.ReferenceIdeal.Read.val_main_v85_eq]
    rw [e0, e1, e2, e5]
    exact Cert.Gmlp.ref3 _ _ _ _
  · rw [h4, Cert.ReferenceIdeal.Read.val_main_v153_eq]
    rw [e0, e5]
    exact Cert.Gmlp.ref4 _ _

theorem claim : Cert.Claim :=
  ⟨Cert.Kernel.Gen.facts, Cert.KernelIdeal.Gen.facts, Cert.ReferenceIdeal.Gen.facts,
    Cert.Gw2.Gen.facts, Cert.Gw2Ideal.Gen.facts, Cert.RefGw2Ideal.Gen.facts,
    Cert.Df.Gen.facts, Cert.DfIdeal.Gen.facts, Cert.RefDfIdeal.Gen.facts,
    Cert.Gwin.Gen.facts, Cert.GwinIdeal.Gen.facts, Cert.RefGwinIdeal.Gen.facts,
    Cert.Proj.Gen.facts, Cert.ProjIdeal.Gen.facts, Cert.RefProjIdeal.Gen.facts,
    Cert.Gw1.Gen.facts, Cert.Gw1Ideal.Gen.facts, Cert.RefGw1Ideal.Gen.facts,
    Cert.Dh1.Gen.facts, Cert.Dh1Ideal.Gen.facts, Cert.RefDh1Ideal.Gen.facts,
    Cert.Dycat.Gen.facts, Cert.DycatIdeal.Gen.facts, Cert.RefDycatIdeal.Gen.facts,
    Cert.Gwout.Gen.facts, Cert.GwoutIdeal.Gen.facts, Cert.RefGwoutIdeal.Gen.facts,
    Cert.Ff1.Gen.facts, Cert.Ff1Ideal.Gen.facts, Cert.RefFf1Ideal.Gen.facts,
    Cert.Ff2l.Gen.facts, Cert.Ff2lIdeal.Gen.facts, Cert.RefFf2lIdeal.Gen.facts,
    Cert.Out.Gen.facts, Cert.OutIdeal.Gen.facts, Cert.RefOutIdeal.Gen.facts,
    Cert.Ff2.Gen.facts, Cert.Ff2Ideal.Gen.facts, Cert.RefFf2Ideal.Gen.facts,
    Cert.Dh2.Gen.facts, Cert.Dh2Ideal.Gen.facts, Cert.RefDh2Ideal.Gen.facts,
    Cert.Pdt.Gen.facts, Cert.PdtIdeal.Gen.facts, Cert.RefPdtIdeal.Gen.facts,
    Cert.Gwdt.Gen.facts, Cert.GwdtIdeal.Gen.facts, Cert.RefGwdtIdeal.Gen.facts,
    Cert.Dh1dt.Gen.facts, Cert.Dh1dtIdeal.Gen.facts, Cert.RefDh1dtIdeal.Gen.facts,
    Cert.AdamSmall.Gen.facts, Cert.AdamSmallIdeal.Gen.facts, Cert.RefAdamSmallIdeal.Gen.facts,
    Cert.AdamConv.Gen.facts, Cert.AdamConvIdeal.Gen.facts, Cert.RefAdamConvIdeal.Gen.facts,
    Cert.Gmlp.preFacts,
    fun m ρ _ => Cert.Kernel.Gen.frame m ρ, fun m ρ _ => Cert.KernelIdeal.Gen.frame m ρ,
    fun m ρ _ => Cert.KernelIdeal.Gen.frame m ρ, frame_r, fun m ρ _ => frame_r m ρ trivial,
    fun m ρ _ => Cert.Gw2.Gen.frame m ρ, fun m ρ _ => Cert.Gw2Ideal.Gen.frame m ρ, Cert.MmGw2.frame_r,
    fun m ρ _ => Cert.Df.Gen.frame m ρ, fun m ρ _ => Cert.DfIdeal.Gen.frame m ρ, Cert.MmDf.frame_r,
    fun m ρ _ => Cert.Gwin.Gen.frame m ρ, fun m ρ _ => Cert.GwinIdeal.Gen.frame m ρ, Cert.MmGwin.frame_r,
    fun m ρ _ => Cert.Proj.Gen.frame m ρ, fun m ρ _ => Cert.ProjIdeal.Gen.frame m ρ, Cert.MmProj.frame_r,
    fun m ρ _ => Cert.Gw1.Gen.frame m ρ, fun m ρ _ => Cert.Gw1Ideal.Gen.frame m ρ, Cert.MmGw1.frame_r,
    fun m ρ _ => Cert.Dh1.Gen.frame m ρ, fun m ρ _ => Cert.Dh1Ideal.Gen.frame m ρ, Cert.MmDh1.frame_r,
    fun m ρ _ => Cert.Dycat.Gen.frame m ρ, fun m ρ _ => Cert.DycatIdeal.Gen.frame m ρ, Cert.MmDycat.frame_r,
    fun m ρ _ => Cert.Gwout.Gen.frame m ρ, fun m ρ _ => Cert.GwoutIdeal.Gen.frame m ρ, Cert.MmGwout.frame_r,
    fun m ρ _ => Cert.Ff1.Gen.frame m ρ, fun m ρ _ => Cert.Ff1Ideal.Gen.frame m ρ, Cert.MmFf1.frame_r,
    fun m ρ _ => Cert.Ff2l.Gen.frame m ρ, fun m ρ _ => Cert.Ff2lIdeal.Gen.frame m ρ, Cert.MmFf2l.frame_r,
    fun m ρ _ => Cert.Out.Gen.frame m ρ, fun m ρ _ => Cert.OutIdeal.Gen.frame m ρ, Cert.MmOut.frame_r,
    fun m ρ _ => Cert.Ff2.Gen.frame m ρ, fun m ρ _ => Cert.Ff2Ideal.Gen.frame m ρ, Cert.MmFf2.frame_r,
    fun m ρ _ => Cert.Dh2.Gen.frame m ρ, fun m ρ _ => Cert.Dh2Ideal.Gen.frame m ρ, Cert.MmDh2.frame_r,
    fun m ρ _ => Cert.Pdt.Gen.frame m ρ, fun m ρ _ => Cert.PdtIdeal.Gen.frame m ρ, Cert.MmPdt.frame_r,
    fun m ρ _ => Cert.Gwdt.Gen.frame m ρ, fun m ρ _ => Cert.GwdtIdeal.Gen.frame m ρ, Cert.MmGwdt.frame_r,
    fun m ρ _ => Cert.Dh1dt.Gen.frame m ρ, fun m ρ _ => Cert.Dh1dtIdeal.Gen.frame m ρ, Cert.MmDh1dt.frame_r,
    fun m ρ _ => Cert.AdamSmall.Gen.frame m ρ, fun m ρ _ => Cert.AdamSmallIdeal.Gen.frame m ρ, Cert.AdamSmallWeights.frame_r,
    fun m ρ _ => Cert.AdamConv.Gen.frame m ρ, fun m ρ _ => Cert.AdamConvIdeal.Gen.frame m ρ, Cert.AdamThree.frame_r,
    trivial, value,
    trivial, Cert.MmGw2.value,
    trivial, Cert.MmDf.value,
    trivial, Cert.MmGwin.value,
    trivial, Cert.MmProj.value,
    trivial, Cert.MmGw1.value,
    trivial, Cert.MmDh1.value,
    trivial, Cert.MmDycat.value,
    trivial, Cert.MmGwout.value,
    trivial, Cert.MmFf1.value,
    trivial, Cert.MmFf2l.value,
    trivial, Cert.MmOut.value,
    trivial, Cert.MmFf2.value,
    trivial, Cert.MmDh2.value,
    trivial, Cert.MmPdt.value,
    trivial, Cert.MmGwdt.value,
    trivial, Cert.MmDh1dt.value,
    Cert.AdamSmallWeights.preserves, Cert.AdamSmallWeights.value,
    Cert.AdamThree.preserves, Cert.AdamThree.value⟩

end Cert.Proof

end
